-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Values (m : (ℓ : Loc Cert.Values.nD Cert.Values.τ Cert.Values.sig) → Buf (Elt Bits) ℓ) : Prop :=
  True

def Pre_ValuesIdeal (m : (ℓ : Loc Cert.ValuesIdeal.nD Cert.ValuesIdeal.τ Cert.ValuesIdeal.sig) → Buf (Elt Ideal) ℓ) : Prop :=
  True

def Pre_PlainValuesIdeal (m : (ℓ : Loc Cert.PlainValuesIdeal.nD Cert.PlainValuesIdeal.τ Cert.PlainValuesIdeal.sig) → Buf (Elt Ideal) ℓ) : Prop :=
  True

def Pre_Keys (m : (ℓ : Loc Cert.Keys.nD Cert.Keys.τ Cert.Keys.sig) → Buf (Elt Bits) ℓ) : Prop :=
  True

def Pre_KeysIdeal (m : (ℓ : Loc Cert.KeysIdeal.nD Cert.KeysIdeal.τ Cert.KeysIdeal.sig) → Buf (Elt Ideal) ℓ) : Prop :=
  True

def Pre_PlainKeysIdeal (m : (ℓ : Loc Cert.PlainKeysIdeal.nD Cert.PlainKeysIdeal.τ Cert.PlainKeysIdeal.sig) → Buf (Elt Ideal) ℓ) : Prop :=
  True

def Pre_QueriesA (m : (ℓ : Loc Cert.QueriesA.nD Cert.QueriesA.τ Cert.QueriesA.sig) → Buf (Elt Bits) ℓ) : Prop :=
  True

def Pre_QueriesAIdeal (m : (ℓ : Loc Cert.QueriesAIdeal.nD Cert.QueriesAIdeal.τ Cert.QueriesAIdeal.sig) → Buf (Elt Ideal) ℓ) : Prop :=
  True

def Pre_PlainQueriesAIdeal (m : (ℓ : Loc Cert.PlainQueriesAIdeal.nD Cert.PlainQueriesAIdeal.τ Cert.PlainQueriesAIdeal.sig) → Buf (Elt Ideal) ℓ) : Prop :=
  True

def Pre_OutsA (m : (ℓ : Loc Cert.OutsA.nD Cert.OutsA.τ Cert.OutsA.sig) → Buf (Elt Bits) ℓ) : Prop :=
  True

def Pre_OutsAIdeal (m : (ℓ : Loc Cert.OutsAIdeal.nD Cert.OutsAIdeal.τ Cert.OutsAIdeal.sig) → Buf (Elt Ideal) ℓ) : Prop :=
  True

def Pre_PlainOutsAIdeal (m : (ℓ : Loc Cert.PlainOutsAIdeal.nD Cert.PlainOutsAIdeal.τ Cert.PlainOutsAIdeal.sig) → Buf (Elt Ideal) ℓ) : Prop :=
  True

def Pre_GatesA (m : (ℓ : Loc Cert.GatesA.nD Cert.GatesA.τ Cert.GatesA.sig) → Buf (Elt Bits) ℓ) : Prop :=
  True

def Pre_GatesAIdeal (m : (ℓ : Loc Cert.GatesAIdeal.nD Cert.GatesAIdeal.τ Cert.GatesAIdeal.sig) → Buf (Elt Ideal) ℓ) : Prop :=
  True

def Pre_PlainGatesAIdeal (m : (ℓ : Loc Cert.PlainGatesAIdeal.nD Cert.PlainGatesAIdeal.τ Cert.PlainGatesAIdeal.sig) → Buf (Elt Ideal) ℓ) : Prop :=
  True

def Pre_StreamsA (m : (ℓ : Loc Cert.StreamsA.nD Cert.StreamsA.τ Cert.StreamsA.sig) → Buf (Elt Bits) ℓ) : Prop :=
  True

def Pre_StreamsAIdeal (m : (ℓ : Loc Cert.StreamsAIdeal.nD Cert.StreamsAIdeal.τ Cert.StreamsAIdeal.sig) → Buf (Elt Ideal) ℓ) : Prop :=
  True

def Pre_PlainStreamsAIdeal (m : (ℓ : Loc Cert.PlainStreamsAIdeal.nD Cert.PlainStreamsAIdeal.τ Cert.PlainStreamsAIdeal.sig) → Buf (Elt Ideal) ℓ) : Prop :=
  True

def Pre_MixesA (m : (ℓ : Loc Cert.MixesA.nD Cert.MixesA.τ Cert.MixesA.sig) → Buf (Elt Bits) ℓ) : Prop :=
  True

def Pre_MixesAIdeal (m : (ℓ : Loc Cert.MixesAIdeal.nD Cert.MixesAIdeal.τ Cert.MixesAIdeal.sig) → Buf (Elt Ideal) ℓ) : Prop :=
  True

def Pre_PlainMixesAIdeal (m : (ℓ : Loc Cert.PlainMixesAIdeal.nD Cert.PlainMixesAIdeal.τ Cert.PlainMixesAIdeal.sig) → Buf (Elt Ideal) ℓ) : Prop :=
  True

def Pre_QueriesB (m : (ℓ : Loc Cert.QueriesB.nD Cert.QueriesB.τ Cert.QueriesB.sig) → Buf (Elt Bits) ℓ) : Prop :=
  True

def Pre_QueriesBIdeal (m : (ℓ : Loc Cert.QueriesBIdeal.nD Cert.QueriesBIdeal.τ Cert.QueriesBIdeal.sig) → Buf (Elt Ideal) ℓ) : Prop :=
  True

def Pre_PlainQueriesBIdeal (m : (ℓ : Loc Cert.PlainQueriesBIdeal.nD Cert.PlainQueriesBIdeal.τ Cert.PlainQueriesBIdeal.sig) → Buf (Elt Ideal) ℓ) : Prop :=
  True

def Pre_OutsB (m : (ℓ : Loc Cert.OutsB.nD Cert.OutsB.τ Cert.OutsB.sig) → Buf (Elt Bits) ℓ) : Prop :=
  True

def Pre_OutsBIdeal (m : (ℓ : Loc Cert.OutsBIdeal.nD Cert.OutsBIdeal.τ Cert.OutsBIdeal.sig) → Buf (Elt Ideal) ℓ) : Prop :=
  True

def Pre_PlainOutsBIdeal (m : (ℓ : Loc Cert.PlainOutsBIdeal.nD Cert.PlainOutsBIdeal.τ Cert.PlainOutsBIdeal.sig) → Buf (Elt Ideal) ℓ) : Prop :=
  True

def Pre_GatesB (m : (ℓ : Loc Cert.GatesB.nD Cert.GatesB.τ Cert.GatesB.sig) → Buf (Elt Bits) ℓ) : Prop :=
  True

def Pre_GatesBIdeal (m : (ℓ : Loc Cert.GatesBIdeal.nD Cert.GatesBIdeal.τ Cert.GatesBIdeal.sig) → Buf (Elt Ideal) ℓ) : Prop :=
  True

def Pre_PlainGatesBIdeal (m : (ℓ : Loc Cert.PlainGatesBIdeal.nD Cert.PlainGatesBIdeal.τ Cert.PlainGatesBIdeal.sig) → Buf (Elt Ideal) ℓ) : Prop :=
  True

def Pre_StreamsB (m : (ℓ : Loc Cert.StreamsB.nD Cert.StreamsB.τ Cert.StreamsB.sig) → Buf (Elt Bits) ℓ) : Prop :=
  True

def Pre_StreamsBIdeal (m : (ℓ : Loc Cert.StreamsBIdeal.nD Cert.StreamsBIdeal.τ Cert.StreamsBIdeal.sig) → Buf (Elt Ideal) ℓ) : Prop :=
  True

def Pre_PlainStreamsBIdeal (m : (ℓ : Loc Cert.PlainStreamsBIdeal.nD Cert.PlainStreamsBIdeal.τ Cert.PlainStreamsBIdeal.sig) → Buf (Elt Ideal) ℓ) : Prop :=
  True

def Pre_MixesB (m : (ℓ : Loc Cert.MixesB.nD Cert.MixesB.τ Cert.MixesB.sig) → Buf (Elt Bits) ℓ) : Prop :=
  True

def Pre_MixesBIdeal (m : (ℓ : Loc Cert.MixesBIdeal.nD Cert.MixesBIdeal.τ Cert.MixesBIdeal.sig) → Buf (Elt Ideal) ℓ) : Prop :=
  True

def Pre_PlainMixesBIdeal (m : (ℓ : Loc Cert.PlainMixesBIdeal.nD Cert.PlainMixesBIdeal.τ Cert.PlainMixesBIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Values [hValues : Cert.Values.Facts] : Prop :=
  ∀ (m : (ℓ : Loc Cert.Values.nD Cert.Values.τ Cert.Values.sig) → Buf (Elt Bits) ℓ) (g : Dev Cert.Values.nD → PrngReg), Pre_Values m →
    θ_run (Cert.Values.defs (F := Bits)) (onTc (τ := Cert.Values.τ) (Cert.Values.main (F := Bits))) ⟨m, fun _ => 0, g⟩ (fun r => (∀ c : Dev Cert.Values.nD,
      r.2.mem ((c.tc : Thread Cert.Values.nD Cert.Values.τ).loc Cert.Values.main_arg0) = m ((c.tc : Thread Cert.Values.nD Cert.Values.τ).loc Cert.Values.main_arg0)
      ∧ r.2.mem ((c.tc : Thread Cert.Values.nD Cert.Values.τ).loc Cert.Values.main_arg1) = m ((c.tc : Thread Cert.Values.nD Cert.Values.τ).loc Cert.Values.main_arg1)
      ∧ r.2.mem ((c.tc : Thread Cert.Values.nD Cert.Values.τ).loc Cert.Values.main_arg2) = m ((c.tc : Thread Cert.Values.nD Cert.Values.τ).loc Cert.Values.main_arg2))
      ∧ r.2.sem = fun _ => 0)

def quiescent_ValuesIdeal [hValuesIdeal : Cert.ValuesIdeal.Facts] : Prop :=
  ∀ (m : (ℓ : Loc Cert.ValuesIdeal.nD Cert.ValuesIdeal.τ Cert.ValuesIdeal.sig) → Buf (Elt Ideal) ℓ) (g : Dev Cert.ValuesIdeal.nD → PrngReg), Pre_ValuesIdeal m →
    θ_run (Cert.ValuesIdeal.defs (F := Ideal)) (onTc (τ := Cert.ValuesIdeal.τ) (Cert.ValuesIdeal.main (F := Ideal))) ⟨m, fun _ => 0, g⟩ (fun r => (∀ c : Dev Cert.ValuesIdeal.nD,
      r.2.mem ((c.tc : Thread Cert.ValuesIdeal.nD Cert.ValuesIdeal.τ).loc Cert.ValuesIdeal.main_arg0) = m ((c.tc : Thread Cert.ValuesIdeal.nD Cert.ValuesIdeal.τ).loc Cert.ValuesIdeal.main_arg0)
      ∧ r.2.mem ((c.tc : Thread Cert.ValuesIdeal.nD Cert.ValuesIdeal.τ).loc Cert.ValuesIdeal.main_arg1) = m ((c.tc : Thread Cert.ValuesIdeal.nD Cert.ValuesIdeal.τ).loc Cert.ValuesIdeal.main_arg1)
      ∧ r.2.mem ((c.tc : Thread Cert.ValuesIdeal.nD Cert.ValuesIdeal.τ).loc Cert.ValuesIdeal.main_arg2) = m ((c.tc : Thread Cert.ValuesIdeal.nD Cert.ValuesIdeal.τ).loc Cert.ValuesIdeal.main_arg2))
      ∧ r.2.sem = fun _ => 0)

def quiescent_PlainValuesIdeal [hPlainValuesIdeal : Cert.PlainValuesIdeal.Facts] : Prop :=
  ∀ (m : (ℓ : Loc Cert.PlainValuesIdeal.nD Cert.PlainValuesIdeal.τ Cert.PlainValuesIdeal.sig) → Buf (Elt Ideal) ℓ) (g : Dev Cert.PlainValuesIdeal.nD → PrngReg), Pre_PlainValuesIdeal m →
    θ_run (Cert.PlainValuesIdeal.defs (F := Ideal)) (onTc (τ := Cert.PlainValuesIdeal.τ) (Cert.PlainValuesIdeal.main (F := Ideal))) ⟨m, fun _ => 0, g⟩ (fun r => (∀ c : Dev Cert.PlainValuesIdeal.nD,
      r.2.mem ((c.tc : Thread Cert.PlainValuesIdeal.nD Cert.PlainValuesIdeal.τ).loc Cert.PlainValuesIdeal.main_arg0) = m ((c.tc : Thread Cert.PlainValuesIdeal.nD Cert.PlainValuesIdeal.τ).loc Cert.PlainValuesIdeal.main_arg0)
      ∧ r.2.mem ((c.tc : Thread Cert.PlainValuesIdeal.nD Cert.PlainValuesIdeal.τ).loc Cert.PlainValuesIdeal.main_arg1) = m ((c.tc : Thread Cert.PlainValuesIdeal.nD Cert.PlainValuesIdeal.τ).loc Cert.PlainValuesIdeal.main_arg1)
      ∧ r.2.mem ((c.tc : Thread Cert.PlainValuesIdeal.nD Cert.PlainValuesIdeal.τ).loc Cert.PlainValuesIdeal.main_arg2) = m ((c.tc : Thread Cert.PlainValuesIdeal.nD Cert.PlainValuesIdeal.τ).loc Cert.PlainValuesIdeal.main_arg2))
      ∧ r.2.sem = fun _ => 0)

def quiescent_Keys [hKeys : Cert.Keys.Facts] : Prop :=
  ∀ (m : (ℓ : Loc Cert.Keys.nD Cert.Keys.τ Cert.Keys.sig) → Buf (Elt Bits) ℓ) (g : Dev Cert.Keys.nD → PrngReg), Pre_Keys m →
    θ_run (Cert.Keys.defs (F := Bits)) (onTc (τ := Cert.Keys.τ) (Cert.Keys.main (F := Bits))) ⟨m, fun _ => 0, g⟩ (fun r => (∀ c : Dev Cert.Keys.nD,
      r.2.mem ((c.tc : Thread Cert.Keys.nD Cert.Keys.τ).loc Cert.Keys.main_arg0) = m ((c.tc : Thread Cert.Keys.nD Cert.Keys.τ).loc Cert.Keys.main_arg0)
      ∧ r.2.mem ((c.tc : Thread Cert.Keys.nD Cert.Keys.τ).loc Cert.Keys.main_arg1) = m ((c.tc : Thread Cert.Keys.nD Cert.Keys.τ).loc Cert.Keys.main_arg1)
      ∧ r.2.mem ((c.tc : Thread Cert.Keys.nD Cert.Keys.τ).loc Cert.Keys.main_arg2) = m ((c.tc : Thread Cert.Keys.nD Cert.Keys.τ).loc Cert.Keys.main_arg2))
      ∧ r.2.sem = fun _ => 0)

def quiescent_KeysIdeal [hKeysIdeal : Cert.KeysIdeal.Facts] : Prop :=
  ∀ (m : (ℓ : Loc Cert.KeysIdeal.nD Cert.KeysIdeal.τ Cert.KeysIdeal.sig) → Buf (Elt Ideal) ℓ) (g : Dev Cert.KeysIdeal.nD → PrngReg), Pre_KeysIdeal m →
    θ_run (Cert.KeysIdeal.defs (F := Ideal)) (onTc (τ := Cert.KeysIdeal.τ) (Cert.KeysIdeal.main (F := Ideal))) ⟨m, fun _ => 0, g⟩ (fun r => (∀ c : Dev Cert.KeysIdeal.nD,
      r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
      ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1)
      ∧ r.2.mem ((c.tc : Thread Cert.KeysIdeal.nD Cert.KeysIdeal.τ).loc Cert.KeysIdeal.main_arg2) = m ((c.tc : Thread Cert.KeysIdeal.nD Cert.KeysIdeal.τ).loc Cert.KeysIdeal.main_arg2))
      ∧ r.2.sem = fun _ => 0)

def quiescent_PlainKeysIdeal [hPlainKeysIdeal : Cert.PlainKeysIdeal.Facts] : Prop :=
  ∀ (m : (ℓ : Loc Cert.PlainKeysIdeal.nD Cert.PlainKeysIdeal.τ Cert.PlainKeysIdeal.sig) → Buf (Elt Ideal) ℓ) (g : Dev Cert.PlainKeysIdeal.nD → PrngReg), Pre_PlainKeysIdeal m →
    θ_run (Cert.PlainKeysIdeal.defs (F := Ideal)) (onTc (τ := Cert.PlainKeysIdeal.τ) (Cert.PlainKeysIdeal.main (F := Ideal))) ⟨m, fun _ => 0, g⟩ (fun r => (∀ c : Dev Cert.PlainKeysIdeal.nD,
      r.2.mem ((c.tc : Thread Cert.PlainKeysIdeal.nD Cert.PlainKeysIdeal.τ).loc Cert.PlainKeysIdeal.main_arg0) = m ((c.tc : Thread Cert.PlainKeysIdeal.nD Cert.PlainKeysIdeal.τ).loc Cert.PlainKeysIdeal.main_arg0)
      ∧ r.2.mem ((c.tc : Thread Cert.PlainKeysIdeal.nD Cert.PlainKeysIdeal.τ).loc Cert.PlainKeysIdeal.main_arg1) = m ((c.tc : Thread Cert.PlainKeysIdeal.nD Cert.PlainKeysIdeal.τ).loc Cert.PlainKeysIdeal.main_arg1)
      ∧ r.2.mem ((c.tc : Thread Cert.PlainKeysIdeal.nD Cert.PlainKeysIdeal.τ).loc Cert.PlainKeysIdeal.main_arg2) = m ((c.tc : Thread Cert.PlainKeysIdeal.nD Cert.PlainKeysIdeal.τ).loc Cert.PlainKeysIdeal.main_arg2))
      ∧ r.2.sem = fun _ => 0)

def quiescent_QueriesA [hQueriesA : Cert.QueriesA.Facts] : Prop :=
  ∀ (m : (ℓ : Loc Cert.QueriesA.nD Cert.QueriesA.τ Cert.QueriesA.sig) → Buf (Elt Bits) ℓ) (g : Dev Cert.QueriesA.nD → PrngReg), Pre_QueriesA m →
    θ_run (Cert.QueriesA.defs (F := Bits)) (onTc (τ := Cert.QueriesA.τ) (Cert.QueriesA.main (F := Bits))) ⟨m, fun _ => 0, g⟩ (fun r => (∀ c : Dev Cert.QueriesA.nD,
      r.2.mem ((c.tc : Thread Cert.QueriesA.nD Cert.QueriesA.τ).loc Cert.QueriesA.main_arg0) = m ((c.tc : Thread Cert.QueriesA.nD Cert.QueriesA.τ).loc Cert.QueriesA.main_arg0)
      ∧ r.2.mem ((c.tc : Thread Cert.QueriesA.nD Cert.QueriesA.τ).loc Cert.QueriesA.main_arg1) = m ((c.tc : Thread Cert.QueriesA.nD Cert.QueriesA.τ).loc Cert.QueriesA.main_arg1)
      ∧ r.2.mem ((c.tc : Thread Cert.QueriesA.nD Cert.QueriesA.τ).loc Cert.QueriesA.main_arg2) = m ((c.tc : Thread Cert.QueriesA.nD Cert.QueriesA.τ).loc Cert.QueriesA.main_arg2))
      ∧ r.2.sem = fun _ => 0)

def quiescent_QueriesAIdeal [hQueriesAIdeal : Cert.QueriesAIdeal.Facts] : Prop :=
  ∀ (m : (ℓ : Loc Cert.QueriesAIdeal.nD Cert.QueriesAIdeal.τ Cert.QueriesAIdeal.sig) → Buf (Elt Ideal) ℓ) (g : Dev Cert.QueriesAIdeal.nD → PrngReg), Pre_QueriesAIdeal m →
    θ_run (Cert.QueriesAIdeal.defs (F := Ideal)) (onTc (τ := Cert.QueriesAIdeal.τ) (Cert.QueriesAIdeal.main (F := Ideal))) ⟨m, fun _ => 0, g⟩ (fun r => (∀ c : Dev Cert.QueriesAIdeal.nD,
      r.2.mem ((c.tc : Thread Cert.QueriesAIdeal.nD Cert.QueriesAIdeal.τ).loc Cert.QueriesAIdeal.main_arg0) = m ((c.tc : Thread Cert.QueriesAIdeal.nD Cert.QueriesAIdeal.τ).loc Cert.QueriesAIdeal.main_arg0)
      ∧ r.2.mem ((c.tc : Thread Cert.QueriesAIdeal.nD Cert.QueriesAIdeal.τ).loc Cert.QueriesAIdeal.main_arg1) = m ((c.tc : Thread Cert.QueriesAIdeal.nD Cert.QueriesAIdeal.τ).loc Cert.QueriesAIdeal.main_arg1)
      ∧ r.2.mem ((c.tc : Thread Cert.QueriesAIdeal.nD Cert.QueriesAIdeal.τ).loc Cert.QueriesAIdeal.main_arg2) = m ((c.tc : Thread Cert.QueriesAIdeal.nD Cert.QueriesAIdeal.τ).loc Cert.QueriesAIdeal.main_arg2))
      ∧ r.2.sem = fun _ => 0)

def quiescent_PlainQueriesAIdeal [hPlainQueriesAIdeal : Cert.PlainQueriesAIdeal.Facts] : Prop :=
  ∀ (m : (ℓ : Loc Cert.PlainQueriesAIdeal.nD Cert.PlainQueriesAIdeal.τ Cert.PlainQueriesAIdeal.sig) → Buf (Elt Ideal) ℓ) (g : Dev Cert.PlainQueriesAIdeal.nD → PrngReg), Pre_PlainQueriesAIdeal m →
    θ_run (Cert.PlainQueriesAIdeal.defs (F := Ideal)) (onTc (τ := Cert.PlainQueriesAIdeal.τ) (Cert.PlainQueriesAIdeal.main (F := Ideal))) ⟨m, fun _ => 0, g⟩ (fun r => (∀ c : Dev Cert.PlainQueriesAIdeal.nD,
      r.2.mem ((c.tc : Thread Cert.PlainQueriesAIdeal.nD Cert.PlainQueriesAIdeal.τ).loc Cert.PlainQueriesAIdeal.main_arg0) = m ((c.tc : Thread Cert.PlainQueriesAIdeal.nD Cert.PlainQueriesAIdeal.τ).loc Cert.PlainQueriesAIdeal.main_arg0)
      ∧ r.2.mem ((c.tc : Thread Cert.PlainQueriesAIdeal.nD Cert.PlainQueriesAIdeal.τ).loc Cert.PlainQueriesAIdeal.main_arg1) = m ((c.tc : Thread Cert.PlainQueriesAIdeal.nD Cert.PlainQueriesAIdeal.τ).loc Cert.PlainQueriesAIdeal.main_arg1)
      ∧ r.2.mem ((c.tc : Thread Cert.PlainQueriesAIdeal.nD Cert.PlainQueriesAIdeal.τ).loc Cert.PlainQueriesAIdeal.main_arg2) = m ((c.tc : Thread Cert.PlainQueriesAIdeal.nD Cert.PlainQueriesAIdeal.τ).loc Cert.PlainQueriesAIdeal.main_arg2))
      ∧ r.2.sem = fun _ => 0)

def quiescent_OutsA [hOutsA : Cert.OutsA.Facts] : Prop :=
  ∀ (m : (ℓ : Loc Cert.OutsA.nD Cert.OutsA.τ Cert.OutsA.sig) → Buf (Elt Bits) ℓ) (g : Dev Cert.OutsA.nD → PrngReg), Pre_OutsA m →
    θ_run (Cert.OutsA.defs (F := Bits)) (onTc (τ := Cert.OutsA.τ) (Cert.OutsA.main (F := Bits))) ⟨m, fun _ => 0, g⟩ (fun r => (∀ c : Dev Cert.OutsA.nD,
      r.2.mem ((c.tc : Thread Cert.OutsA.nD Cert.OutsA.τ).loc Cert.OutsA.main_arg0) = m ((c.tc : Thread Cert.OutsA.nD Cert.OutsA.τ).loc Cert.OutsA.main_arg0)
      ∧ r.2.mem ((c.tc : Thread Cert.OutsA.nD Cert.OutsA.τ).loc Cert.OutsA.main_arg1) = m ((c.tc : Thread Cert.OutsA.nD Cert.OutsA.τ).loc Cert.OutsA.main_arg1)
      ∧ r.2.mem ((c.tc : Thread Cert.OutsA.nD Cert.OutsA.τ).loc Cert.OutsA.main_arg2) = m ((c.tc : Thread Cert.OutsA.nD Cert.OutsA.τ).loc Cert.OutsA.main_arg2))
      ∧ r.2.sem = fun _ => 0)

def quiescent_OutsAIdeal [hOutsAIdeal : Cert.OutsAIdeal.Facts] : Prop :=
  ∀ (m : (ℓ : Loc Cert.OutsAIdeal.nD Cert.OutsAIdeal.τ Cert.OutsAIdeal.sig) → Buf (Elt Ideal) ℓ) (g : Dev Cert.OutsAIdeal.nD → PrngReg), Pre_OutsAIdeal m →
    θ_run (Cert.OutsAIdeal.defs (F := Ideal)) (onTc (τ := Cert.OutsAIdeal.τ) (Cert.OutsAIdeal.main (F := Ideal))) ⟨m, fun _ => 0, g⟩ (fun r => (∀ c : Dev Cert.OutsAIdeal.nD,
      r.2.mem ((c.tc : Thread Cert.OutsAIdeal.nD Cert.OutsAIdeal.τ).loc Cert.OutsAIdeal.main_arg0) = m ((c.tc : Thread Cert.OutsAIdeal.nD Cert.OutsAIdeal.τ).loc Cert.OutsAIdeal.main_arg0)
      ∧ r.2.mem ((c.tc : Thread Cert.OutsAIdeal.nD Cert.OutsAIdeal.τ).loc Cert.OutsAIdeal.main_arg1) = m ((c.tc : Thread Cert.OutsAIdeal.nD Cert.OutsAIdeal.τ).loc Cert.OutsAIdeal.main_arg1)
      ∧ r.2.mem ((c.tc : Thread Cert.OutsAIdeal.nD Cert.OutsAIdeal.τ).loc Cert.OutsAIdeal.main_arg2) = m ((c.tc : Thread Cert.OutsAIdeal.nD Cert.OutsAIdeal.τ).loc Cert.OutsAIdeal.main_arg2))
      ∧ r.2.sem = fun _ => 0)

def quiescent_PlainOutsAIdeal [hPlainOutsAIdeal : Cert.PlainOutsAIdeal.Facts] : Prop :=
  ∀ (m : (ℓ : Loc Cert.PlainOutsAIdeal.nD Cert.PlainOutsAIdeal.τ Cert.PlainOutsAIdeal.sig) → Buf (Elt Ideal) ℓ) (g : Dev Cert.PlainOutsAIdeal.nD → PrngReg), Pre_PlainOutsAIdeal m →
    θ_run (Cert.PlainOutsAIdeal.defs (F := Ideal)) (onTc (τ := Cert.PlainOutsAIdeal.τ) (Cert.PlainOutsAIdeal.main (F := Ideal))) ⟨m, fun _ => 0, g⟩ (fun r => (∀ c : Dev Cert.PlainOutsAIdeal.nD,
      r.2.mem ((c.tc : Thread Cert.PlainOutsAIdeal.nD Cert.PlainOutsAIdeal.τ).loc Cert.PlainOutsAIdeal.main_arg0) = m ((c.tc : Thread Cert.PlainOutsAIdeal.nD Cert.PlainOutsAIdeal.τ).loc Cert.PlainOutsAIdeal.main_arg0)
      ∧ r.2.mem ((c.tc : Thread Cert.PlainOutsAIdeal.nD Cert.PlainOutsAIdeal.τ).loc Cert.PlainOutsAIdeal.main_arg1) = m ((c.tc : Thread Cert.PlainOutsAIdeal.nD Cert.PlainOutsAIdeal.τ).loc Cert.PlainOutsAIdeal.main_arg1)
      ∧ r.2.mem ((c.tc : Thread Cert.PlainOutsAIdeal.nD Cert.PlainOutsAIdeal.τ).loc Cert.PlainOutsAIdeal.main_arg2) = m ((c.tc : Thread Cert.PlainOutsAIdeal.nD Cert.PlainOutsAIdeal.τ).loc Cert.PlainOutsAIdeal.main_arg2))
      ∧ r.2.sem = fun _ => 0)

def quiescent_GatesA [hGatesA : Cert.GatesA.Facts] : Prop :=
  ∀ (m : (ℓ : Loc Cert.GatesA.nD Cert.GatesA.τ Cert.GatesA.sig) → Buf (Elt Bits) ℓ) (g : Dev Cert.GatesA.nD → PrngReg), Pre_GatesA m →
    θ_run (Cert.GatesA.defs (F := Bits)) (onTc (τ := Cert.GatesA.τ) (Cert.GatesA.main (F := Bits))) ⟨m, fun _ => 0, g⟩ (fun r => (∀ c : Dev Cert.GatesA.nD,
      r.2.mem ((c.tc : Thread Cert.GatesA.nD Cert.GatesA.τ).loc Cert.GatesA.main_arg0) = m ((c.tc : Thread Cert.GatesA.nD Cert.GatesA.τ).loc Cert.GatesA.main_arg0)
      ∧ r.2.mem ((c.tc : Thread Cert.GatesA.nD Cert.GatesA.τ).loc Cert.GatesA.main_arg1) = m ((c.tc : Thread Cert.GatesA.nD Cert.GatesA.τ).loc Cert.GatesA.main_arg1)
      ∧ r.2.mem ((c.tc : Thread Cert.GatesA.nD Cert.GatesA.τ).loc Cert.GatesA.main_arg2) = m ((c.tc : Thread Cert.GatesA.nD Cert.GatesA.τ).loc Cert.GatesA.main_arg2))
      ∧ r.2.sem = fun _ => 0)

def quiescent_GatesAIdeal [hGatesAIdeal : Cert.GatesAIdeal.Facts] : Prop :=
  ∀ (m : (ℓ : Loc Cert.GatesAIdeal.nD Cert.GatesAIdeal.τ Cert.GatesAIdeal.sig) → Buf (Elt Ideal) ℓ) (g : Dev Cert.GatesAIdeal.nD → PrngReg), Pre_GatesAIdeal m →
    θ_run (Cert.GatesAIdeal.defs (F := Ideal)) (onTc (τ := Cert.GatesAIdeal.τ) (Cert.GatesAIdeal.main (F := Ideal))) ⟨m, fun _ => 0, g⟩ (fun r => (∀ c : Dev Cert.GatesAIdeal.nD,
      r.2.mem ((c.tc : Thread Cert.GatesAIdeal.nD Cert.GatesAIdeal.τ).loc Cert.GatesAIdeal.main_arg0) = m ((c.tc : Thread Cert.GatesAIdeal.nD Cert.GatesAIdeal.τ).loc Cert.GatesAIdeal.main_arg0)
      ∧ r.2.mem ((c.tc : Thread Cert.GatesAIdeal.nD Cert.GatesAIdeal.τ).loc Cert.GatesAIdeal.main_arg1) = m ((c.tc : Thread Cert.GatesAIdeal.nD Cert.GatesAIdeal.τ).loc Cert.GatesAIdeal.main_arg1)
      ∧ r.2.mem ((c.tc : Thread Cert.GatesAIdeal.nD Cert.GatesAIdeal.τ).loc Cert.GatesAIdeal.main_arg2) = m ((c.tc : Thread Cert.GatesAIdeal.nD Cert.GatesAIdeal.τ).loc Cert.GatesAIdeal.main_arg2))
      ∧ r.2.sem = fun _ => 0)

def quiescent_PlainGatesAIdeal [hPlainGatesAIdeal : Cert.PlainGatesAIdeal.Facts] : Prop :=
  ∀ (m : (ℓ : Loc Cert.PlainGatesAIdeal.nD Cert.PlainGatesAIdeal.τ Cert.PlainGatesAIdeal.sig) → Buf (Elt Ideal) ℓ) (g : Dev Cert.PlainGatesAIdeal.nD → PrngReg), Pre_PlainGatesAIdeal m →
    θ_run (Cert.PlainGatesAIdeal.defs (F := Ideal)) (onTc (τ := Cert.PlainGatesAIdeal.τ) (Cert.PlainGatesAIdeal.main (F := Ideal))) ⟨m, fun _ => 0, g⟩ (fun r => (∀ c : Dev Cert.PlainGatesAIdeal.nD,
      r.2.mem ((c.tc : Thread Cert.PlainGatesAIdeal.nD Cert.PlainGatesAIdeal.τ).loc Cert.PlainGatesAIdeal.main_arg0) = m ((c.tc : Thread Cert.PlainGatesAIdeal.nD Cert.PlainGatesAIdeal.τ).loc Cert.PlainGatesAIdeal.main_arg0)
      ∧ r.2.mem ((c.tc : Thread Cert.PlainGatesAIdeal.nD Cert.PlainGatesAIdeal.τ).loc Cert.PlainGatesAIdeal.main_arg1) = m ((c.tc : Thread Cert.PlainGatesAIdeal.nD Cert.PlainGatesAIdeal.τ).loc Cert.PlainGatesAIdeal.main_arg1)
      ∧ r.2.mem ((c.tc : Thread Cert.PlainGatesAIdeal.nD Cert.PlainGatesAIdeal.τ).loc Cert.PlainGatesAIdeal.main_arg2) = m ((c.tc : Thread Cert.PlainGatesAIdeal.nD Cert.PlainGatesAIdeal.τ).loc Cert.PlainGatesAIdeal.main_arg2))
      ∧ r.2.sem = fun _ => 0)

def quiescent_StreamsA [hStreamsA : Cert.StreamsA.Facts] : Prop :=
  ∀ (m : (ℓ : Loc Cert.StreamsA.nD Cert.StreamsA.τ Cert.StreamsA.sig) → Buf (Elt Bits) ℓ) (g : Dev Cert.StreamsA.nD → PrngReg), Pre_StreamsA m →
    θ_run (Cert.StreamsA.defs (F := Bits)) (onTc (τ := Cert.StreamsA.τ) (Cert.StreamsA.main (F := Bits))) ⟨m, fun _ => 0, g⟩ (fun r => (∀ c : Dev Cert.StreamsA.nD,
      r.2.mem ((c.tc : Thread Cert.StreamsA.nD Cert.StreamsA.τ).loc Cert.StreamsA.main_arg0) = m ((c.tc : Thread Cert.StreamsA.nD Cert.StreamsA.τ).loc Cert.StreamsA.main_arg0)
      ∧ r.2.mem ((c.tc : Thread Cert.StreamsA.nD Cert.StreamsA.τ).loc Cert.StreamsA.main_arg1) = m ((c.tc : Thread Cert.StreamsA.nD Cert.StreamsA.τ).loc Cert.StreamsA.main_arg1)
      ∧ r.2.mem ((c.tc : Thread Cert.StreamsA.nD Cert.StreamsA.τ).loc Cert.StreamsA.main_arg2) = m ((c.tc : Thread Cert.StreamsA.nD Cert.StreamsA.τ).loc Cert.StreamsA.main_arg2))
      ∧ r.2.sem = fun _ => 0)

def quiescent_StreamsAIdeal [hStreamsAIdeal : Cert.StreamsAIdeal.Facts] : Prop :=
  ∀ (m : (ℓ : Loc Cert.StreamsAIdeal.nD Cert.StreamsAIdeal.τ Cert.StreamsAIdeal.sig) → Buf (Elt Ideal) ℓ) (g : Dev Cert.StreamsAIdeal.nD → PrngReg), Pre_StreamsAIdeal m →
    θ_run (Cert.StreamsAIdeal.defs (F := Ideal)) (onTc (τ := Cert.StreamsAIdeal.τ) (Cert.StreamsAIdeal.main (F := Ideal))) ⟨m, fun _ => 0, g⟩ (fun r => (∀ c : Dev Cert.StreamsAIdeal.nD,
      r.2.mem ((c.tc : Thread Cert.StreamsAIdeal.nD Cert.StreamsAIdeal.τ).loc Cert.StreamsAIdeal.main_arg0) = m ((c.tc : Thread Cert.StreamsAIdeal.nD Cert.StreamsAIdeal.τ).loc Cert.StreamsAIdeal.main_arg0)
      ∧ r.2.mem ((c.tc : Thread Cert.StreamsAIdeal.nD Cert.StreamsAIdeal.τ).loc Cert.StreamsAIdeal.main_arg1) = m ((c.tc : Thread Cert.StreamsAIdeal.nD Cert.StreamsAIdeal.τ).loc Cert.StreamsAIdeal.main_arg1)
      ∧ r.2.mem ((c.tc : Thread Cert.StreamsAIdeal.nD Cert.StreamsAIdeal.τ).loc Cert.StreamsAIdeal.main_arg2) = m ((c.tc : Thread Cert.StreamsAIdeal.nD Cert.StreamsAIdeal.τ).loc Cert.StreamsAIdeal.main_arg2))
      ∧ r.2.sem = fun _ => 0)

def quiescent_PlainStreamsAIdeal [hPlainStreamsAIdeal : Cert.PlainStreamsAIdeal.Facts] : Prop :=
  ∀ (m : (ℓ : Loc Cert.PlainStreamsAIdeal.nD Cert.PlainStreamsAIdeal.τ Cert.PlainStreamsAIdeal.sig) → Buf (Elt Ideal) ℓ) (g : Dev Cert.PlainStreamsAIdeal.nD → PrngReg), Pre_PlainStreamsAIdeal m →
    θ_run (Cert.PlainStreamsAIdeal.defs (F := Ideal)) (onTc (τ := Cert.PlainStreamsAIdeal.τ) (Cert.PlainStreamsAIdeal.main (F := Ideal))) ⟨m, fun _ => 0, g⟩ (fun r => (∀ c : Dev Cert.PlainStreamsAIdeal.nD,
      r.2.mem ((c.tc : Thread Cert.PlainStreamsAIdeal.nD Cert.PlainStreamsAIdeal.τ).loc Cert.PlainStreamsAIdeal.main_arg0) = m ((c.tc : Thread Cert.PlainStreamsAIdeal.nD Cert.PlainStreamsAIdeal.τ).loc Cert.PlainStreamsAIdeal.main_arg0)
      ∧ r.2.mem ((c.tc : Thread Cert.PlainStreamsAIdeal.nD Cert.PlainStreamsAIdeal.τ).loc Cert.PlainStreamsAIdeal.main_arg1) = m ((c.tc : Thread Cert.PlainStreamsAIdeal.nD Cert.PlainStreamsAIdeal.τ).loc Cert.PlainStreamsAIdeal.main_arg1)
      ∧ r.2.mem ((c.tc : Thread Cert.PlainStreamsAIdeal.nD Cert.PlainStreamsAIdeal.τ).loc Cert.PlainStreamsAIdeal.main_arg2) = m ((c.tc : Thread Cert.PlainStreamsAIdeal.nD Cert.PlainStreamsAIdeal.τ).loc Cert.PlainStreamsAIdeal.main_arg2))
      ∧ r.2.sem = fun _ => 0)

def quiescent_MixesA [hMixesA : Cert.MixesA.Facts] : Prop :=
  ∀ (m : (ℓ : Loc Cert.MixesA.nD Cert.MixesA.τ Cert.MixesA.sig) → Buf (Elt Bits) ℓ) (g : Dev Cert.MixesA.nD → PrngReg), Pre_MixesA m →
    θ_run (Cert.MixesA.defs (F := Bits)) (onTc (τ := Cert.MixesA.τ) (Cert.MixesA.main (F := Bits))) ⟨m, fun _ => 0, g⟩ (fun r => (∀ c : Dev Cert.MixesA.nD,
      r.2.mem ((c.tc : Thread Cert.MixesA.nD Cert.MixesA.τ).loc Cert.MixesA.main_arg0) = m ((c.tc : Thread Cert.MixesA.nD Cert.MixesA.τ).loc Cert.MixesA.main_arg0)
      ∧ r.2.mem ((c.tc : Thread Cert.MixesA.nD Cert.MixesA.τ).loc Cert.MixesA.main_arg1) = m ((c.tc : Thread Cert.MixesA.nD Cert.MixesA.τ).loc Cert.MixesA.main_arg1)
      ∧ r.2.mem ((c.tc : Thread Cert.MixesA.nD Cert.MixesA.τ).loc Cert.MixesA.main_arg2) = m ((c.tc : Thread Cert.MixesA.nD Cert.MixesA.τ).loc Cert.MixesA.main_arg2))
      ∧ r.2.sem = fun _ => 0)

def quiescent_MixesAIdeal [hMixesAIdeal : Cert.MixesAIdeal.Facts] : Prop :=
  ∀ (m : (ℓ : Loc Cert.MixesAIdeal.nD Cert.MixesAIdeal.τ Cert.MixesAIdeal.sig) → Buf (Elt Ideal) ℓ) (g : Dev Cert.MixesAIdeal.nD → PrngReg), Pre_MixesAIdeal m →
    θ_run (Cert.MixesAIdeal.defs (F := Ideal)) (onTc (τ := Cert.MixesAIdeal.τ) (Cert.MixesAIdeal.main (F := Ideal))) ⟨m, fun _ => 0, g⟩ (fun r => (∀ c : Dev Cert.MixesAIdeal.nD,
      r.2.mem ((c.tc : Thread Cert.MixesAIdeal.nD Cert.MixesAIdeal.τ).loc Cert.MixesAIdeal.main_arg0) = m ((c.tc : Thread Cert.MixesAIdeal.nD Cert.MixesAIdeal.τ).loc Cert.MixesAIdeal.main_arg0)
      ∧ r.2.mem ((c.tc : Thread Cert.MixesAIdeal.nD Cert.MixesAIdeal.τ).loc Cert.MixesAIdeal.main_arg1) = m ((c.tc : Thread Cert.MixesAIdeal.nD Cert.MixesAIdeal.τ).loc Cert.MixesAIdeal.main_arg1)
      ∧ r.2.mem ((c.tc : Thread Cert.MixesAIdeal.nD Cert.MixesAIdeal.τ).loc Cert.MixesAIdeal.main_arg2) = m ((c.tc : Thread Cert.MixesAIdeal.nD Cert.MixesAIdeal.τ).loc Cert.MixesAIdeal.main_arg2))
      ∧ r.2.sem = fun _ => 0)

def quiescent_PlainMixesAIdeal [hPlainMixesAIdeal : Cert.PlainMixesAIdeal.Facts] : Prop :=
  ∀ (m : (ℓ : Loc Cert.PlainMixesAIdeal.nD Cert.PlainMixesAIdeal.τ Cert.PlainMixesAIdeal.sig) → Buf (Elt Ideal) ℓ) (g : Dev Cert.PlainMixesAIdeal.nD → PrngReg), Pre_PlainMixesAIdeal m →
    θ_run (Cert.PlainMixesAIdeal.defs (F := Ideal)) (onTc (τ := Cert.PlainMixesAIdeal.τ) (Cert.PlainMixesAIdeal.main (F := Ideal))) ⟨m, fun _ => 0, g⟩ (fun r => (∀ c : Dev Cert.PlainMixesAIdeal.nD,
      r.2.mem ((c.tc : Thread Cert.PlainMixesAIdeal.nD Cert.PlainMixesAIdeal.τ).loc Cert.PlainMixesAIdeal.main_arg0) = m ((c.tc : Thread Cert.PlainMixesAIdeal.nD Cert.PlainMixesAIdeal.τ).loc Cert.PlainMixesAIdeal.main_arg0)
      ∧ r.2.mem ((c.tc : Thread Cert.PlainMixesAIdeal.nD Cert.PlainMixesAIdeal.τ).loc Cert.PlainMixesAIdeal.main_arg1) = m ((c.tc : Thread Cert.PlainMixesAIdeal.nD Cert.PlainMixesAIdeal.τ).loc Cert.PlainMixesAIdeal.main_arg1)
      ∧ r.2.mem ((c.tc : Thread Cert.PlainMixesAIdeal.nD Cert.PlainMixesAIdeal.τ).loc Cert.PlainMixesAIdeal.main_arg2) = m ((c.tc : Thread Cert.PlainMixesAIdeal.nD Cert.PlainMixesAIdeal.τ).loc Cert.PlainMixesAIdeal.main_arg2))
      ∧ r.2.sem = fun _ => 0)

def quiescent_QueriesB [hQueriesB : Cert.QueriesB.Facts] : Prop :=
  ∀ (m : (ℓ : Loc Cert.QueriesB.nD Cert.QueriesB.τ Cert.QueriesB.sig) → Buf (Elt Bits) ℓ) (g : Dev Cert.QueriesB.nD → PrngReg), Pre_QueriesB m →
    θ_run (Cert.QueriesB.defs (F := Bits)) (onTc (τ := Cert.QueriesB.τ) (Cert.QueriesB.main (F := Bits))) ⟨m, fun _ => 0, g⟩ (fun r => (∀ c : Dev Cert.QueriesB.nD,
      r.2.mem ((c.tc : Thread Cert.QueriesB.nD Cert.QueriesB.τ).loc Cert.QueriesB.main_arg0) = m ((c.tc : Thread Cert.QueriesB.nD Cert.QueriesB.τ).loc Cert.QueriesB.main_arg0)
      ∧ r.2.mem ((c.tc : Thread Cert.QueriesB.nD Cert.QueriesB.τ).loc Cert.QueriesB.main_arg1) = m ((c.tc : Thread Cert.QueriesB.nD Cert.QueriesB.τ).loc Cert.QueriesB.main_arg1)
      ∧ r.2.mem ((c.tc : Thread Cert.QueriesB.nD Cert.QueriesB.τ).loc Cert.QueriesB.main_arg2) = m ((c.tc : Thread Cert.QueriesB.nD Cert.QueriesB.τ).loc Cert.QueriesB.main_arg2))
      ∧ r.2.sem = fun _ => 0)

def quiescent_QueriesBIdeal [hQueriesBIdeal : Cert.QueriesBIdeal.Facts] : Prop :=
  ∀ (m : (ℓ : Loc Cert.QueriesBIdeal.nD Cert.QueriesBIdeal.τ Cert.QueriesBIdeal.sig) → Buf (Elt Ideal) ℓ) (g : Dev Cert.QueriesBIdeal.nD → PrngReg), Pre_QueriesBIdeal m →
    θ_run (Cert.QueriesBIdeal.defs (F := Ideal)) (onTc (τ := Cert.QueriesBIdeal.τ) (Cert.QueriesBIdeal.main (F := Ideal))) ⟨m, fun _ => 0, g⟩ (fun r => (∀ c : Dev Cert.QueriesBIdeal.nD,
      r.2.mem ((c.tc : Thread Cert.QueriesBIdeal.nD Cert.QueriesBIdeal.τ).loc Cert.QueriesBIdeal.main_arg0) = m ((c.tc : Thread Cert.QueriesBIdeal.nD Cert.QueriesBIdeal.τ).loc Cert.QueriesBIdeal.main_arg0)
      ∧ r.2.mem ((c.tc : Thread Cert.QueriesBIdeal.nD Cert.QueriesBIdeal.τ).loc Cert.QueriesBIdeal.main_arg1) = m ((c.tc : Thread Cert.QueriesBIdeal.nD Cert.QueriesBIdeal.τ).loc Cert.QueriesBIdeal.main_arg1)
      ∧ r.2.mem ((c.tc : Thread Cert.QueriesBIdeal.nD Cert.QueriesBIdeal.τ).loc Cert.QueriesBIdeal.main_arg2) = m ((c.tc : Thread Cert.QueriesBIdeal.nD Cert.QueriesBIdeal.τ).loc Cert.QueriesBIdeal.main_arg2))
      ∧ r.2.sem = fun _ => 0)

def quiescent_PlainQueriesBIdeal [hPlainQueriesBIdeal : Cert.PlainQueriesBIdeal.Facts] : Prop :=
  ∀ (m : (ℓ : Loc Cert.PlainQueriesBIdeal.nD Cert.PlainQueriesBIdeal.τ Cert.PlainQueriesBIdeal.sig) → Buf (Elt Ideal) ℓ) (g : Dev Cert.PlainQueriesBIdeal.nD → PrngReg), Pre_PlainQueriesBIdeal m →
    θ_run (Cert.PlainQueriesBIdeal.defs (F := Ideal)) (onTc (τ := Cert.PlainQueriesBIdeal.τ) (Cert.PlainQueriesBIdeal.main (F := Ideal))) ⟨m, fun _ => 0, g⟩ (fun r => (∀ c : Dev Cert.PlainQueriesBIdeal.nD,
      r.2.mem ((c.tc : Thread Cert.PlainQueriesBIdeal.nD Cert.PlainQueriesBIdeal.τ).loc Cert.PlainQueriesBIdeal.main_arg0) = m ((c.tc : Thread Cert.PlainQueriesBIdeal.nD Cert.PlainQueriesBIdeal.τ).loc Cert.PlainQueriesBIdeal.main_arg0)
      ∧ r.2.mem ((c.tc : Thread Cert.PlainQueriesBIdeal.nD Cert.PlainQueriesBIdeal.τ).loc Cert.PlainQueriesBIdeal.main_arg1) = m ((c.tc : Thread Cert.PlainQueriesBIdeal.nD Cert.PlainQueriesBIdeal.τ).loc Cert.PlainQueriesBIdeal.main_arg1)
      ∧ r.2.mem ((c.tc : Thread Cert.PlainQueriesBIdeal.nD Cert.PlainQueriesBIdeal.τ).loc Cert.PlainQueriesBIdeal.main_arg2) = m ((c.tc : Thread Cert.PlainQueriesBIdeal.nD Cert.PlainQueriesBIdeal.τ).loc Cert.PlainQueriesBIdeal.main_arg2))
      ∧ r.2.sem = fun _ => 0)

def quiescent_OutsB [hOutsB : Cert.OutsB.Facts] : Prop :=
  ∀ (m : (ℓ : Loc Cert.OutsB.nD Cert.OutsB.τ Cert.OutsB.sig) → Buf (Elt Bits) ℓ) (g : Dev Cert.OutsB.nD → PrngReg), Pre_OutsB m →
    θ_run (Cert.OutsB.defs (F := Bits)) (onTc (τ := Cert.OutsB.τ) (Cert.OutsB.main (F := Bits))) ⟨m, fun _ => 0, g⟩ (fun r => (∀ c : Dev Cert.OutsB.nD,
      r.2.mem ((c.tc : Thread Cert.OutsB.nD Cert.OutsB.τ).loc Cert.OutsB.main_arg0) = m ((c.tc : Thread Cert.OutsB.nD Cert.OutsB.τ).loc Cert.OutsB.main_arg0)
      ∧ r.2.mem ((c.tc : Thread Cert.OutsB.nD Cert.OutsB.τ).loc Cert.OutsB.main_arg1) = m ((c.tc : Thread Cert.OutsB.nD Cert.OutsB.τ).loc Cert.OutsB.main_arg1)
      ∧ r.2.mem ((c.tc : Thread Cert.OutsB.nD Cert.OutsB.τ).loc Cert.OutsB.main_arg2) = m ((c.tc : Thread Cert.OutsB.nD Cert.OutsB.τ).loc Cert.OutsB.main_arg2))
      ∧ r.2.sem = fun _ => 0)

def quiescent_OutsBIdeal [hOutsBIdeal : Cert.OutsBIdeal.Facts] : Prop :=
  ∀ (m : (ℓ : Loc Cert.OutsBIdeal.nD Cert.OutsBIdeal.τ Cert.OutsBIdeal.sig) → Buf (Elt Ideal) ℓ) (g : Dev Cert.OutsBIdeal.nD → PrngReg), Pre_OutsBIdeal m →
    θ_run (Cert.OutsBIdeal.defs (F := Ideal)) (onTc (τ := Cert.OutsBIdeal.τ) (Cert.OutsBIdeal.main (F := Ideal))) ⟨m, fun _ => 0, g⟩ (fun r => (∀ c : Dev Cert.OutsBIdeal.nD,
      r.2.mem ((c.tc : Thread Cert.OutsBIdeal.nD Cert.OutsBIdeal.τ).loc Cert.OutsBIdeal.main_arg0) = m ((c.tc : Thread Cert.OutsBIdeal.nD Cert.OutsBIdeal.τ).loc Cert.OutsBIdeal.main_arg0)
      ∧ r.2.mem ((c.tc : Thread Cert.OutsBIdeal.nD Cert.OutsBIdeal.τ).loc Cert.OutsBIdeal.main_arg1) = m ((c.tc : Thread Cert.OutsBIdeal.nD Cert.OutsBIdeal.τ).loc Cert.OutsBIdeal.main_arg1)
      ∧ r.2.mem ((c.tc : Thread Cert.OutsBIdeal.nD Cert.OutsBIdeal.τ).loc Cert.OutsBIdeal.main_arg2) = m ((c.tc : Thread Cert.OutsBIdeal.nD Cert.OutsBIdeal.τ).loc Cert.OutsBIdeal.main_arg2))
      ∧ r.2.sem = fun _ => 0)

def quiescent_PlainOutsBIdeal [hPlainOutsBIdeal : Cert.PlainOutsBIdeal.Facts] : Prop :=
  ∀ (m : (ℓ : Loc Cert.PlainOutsBIdeal.nD Cert.PlainOutsBIdeal.τ Cert.PlainOutsBIdeal.sig) → Buf (Elt Ideal) ℓ) (g : Dev Cert.PlainOutsBIdeal.nD → PrngReg), Pre_PlainOutsBIdeal m →
    θ_run (Cert.PlainOutsBIdeal.defs (F := Ideal)) (onTc (τ := Cert.PlainOutsBIdeal.τ) (Cert.PlainOutsBIdeal.main (F := Ideal))) ⟨m, fun _ => 0, g⟩ (fun r => (∀ c : Dev Cert.PlainOutsBIdeal.nD,
      r.2.mem ((c.tc : Thread Cert.PlainOutsBIdeal.nD Cert.PlainOutsBIdeal.τ).loc Cert.PlainOutsBIdeal.main_arg0) = m ((c.tc : Thread Cert.PlainOutsBIdeal.nD Cert.PlainOutsBIdeal.τ).loc Cert.PlainOutsBIdeal.main_arg0)
      ∧ r.2.mem ((c.tc : Thread Cert.PlainOutsBIdeal.nD Cert.PlainOutsBIdeal.τ).loc Cert.PlainOutsBIdeal.main_arg1) = m ((c.tc : Thread Cert.PlainOutsBIdeal.nD Cert.PlainOutsBIdeal.τ).loc Cert.PlainOutsBIdeal.main_arg1)
      ∧ r.2.mem ((c.tc : Thread Cert.PlainOutsBIdeal.nD Cert.PlainOutsBIdeal.τ).loc Cert.PlainOutsBIdeal.main_arg2) = m ((c.tc : Thread Cert.PlainOutsBIdeal.nD Cert.PlainOutsBIdeal.τ).loc Cert.PlainOutsBIdeal.main_arg2))
      ∧ r.2.sem = fun _ => 0)

def quiescent_GatesB [hGatesB : Cert.GatesB.Facts] : Prop :=
  ∀ (m : (ℓ : Loc Cert.GatesB.nD Cert.GatesB.τ Cert.GatesB.sig) → Buf (Elt Bits) ℓ) (g : Dev Cert.GatesB.nD → PrngReg), Pre_GatesB m →
    θ_run (Cert.GatesB.defs (F := Bits)) (onTc (τ := Cert.GatesB.τ) (Cert.GatesB.main (F := Bits))) ⟨m, fun _ => 0, g⟩ (fun r => (∀ c : Dev Cert.GatesB.nD,
      r.2.mem ((c.tc : Thread Cert.GatesB.nD Cert.GatesB.τ).loc Cert.GatesB.main_arg0) = m ((c.tc : Thread Cert.GatesB.nD Cert.GatesB.τ).loc Cert.GatesB.main_arg0)
      ∧ r.2.mem ((c.tc : Thread Cert.GatesB.nD Cert.GatesB.τ).loc Cert.GatesB.main_arg1) = m ((c.tc : Thread Cert.GatesB.nD Cert.GatesB.τ).loc Cert.GatesB.main_arg1)
      ∧ r.2.mem ((c.tc : Thread Cert.GatesB.nD Cert.GatesB.τ).loc Cert.GatesB.main_arg2) = m ((c.tc : Thread Cert.GatesB.nD Cert.GatesB.τ).loc Cert.GatesB.main_arg2))
      ∧ r.2.sem = fun _ => 0)

def quiescent_GatesBIdeal [hGatesBIdeal : Cert.GatesBIdeal.Facts] : Prop :=
  ∀ (m : (ℓ : Loc Cert.GatesBIdeal.nD Cert.GatesBIdeal.τ Cert.GatesBIdeal.sig) → Buf (Elt Ideal) ℓ) (g : Dev Cert.GatesBIdeal.nD → PrngReg), Pre_GatesBIdeal m →
    θ_run (Cert.GatesBIdeal.defs (F := Ideal)) (onTc (τ := Cert.GatesBIdeal.τ) (Cert.GatesBIdeal.main (F := Ideal))) ⟨m, fun _ => 0, g⟩ (fun r => (∀ c : Dev Cert.GatesBIdeal.nD,
      r.2.mem ((c.tc : Thread Cert.GatesBIdeal.nD Cert.GatesBIdeal.τ).loc Cert.GatesBIdeal.main_arg0) = m ((c.tc : Thread Cert.GatesBIdeal.nD Cert.GatesBIdeal.τ).loc Cert.GatesBIdeal.main_arg0)
      ∧ r.2.mem ((c.tc : Thread Cert.GatesBIdeal.nD Cert.GatesBIdeal.τ).loc Cert.GatesBIdeal.main_arg1) = m ((c.tc : Thread Cert.GatesBIdeal.nD Cert.GatesBIdeal.τ).loc Cert.GatesBIdeal.main_arg1)
      ∧ r.2.mem ((c.tc : Thread Cert.GatesBIdeal.nD Cert.GatesBIdeal.τ).loc Cert.GatesBIdeal.main_arg2) = m ((c.tc : Thread Cert.GatesBIdeal.nD Cert.GatesBIdeal.τ).loc Cert.GatesBIdeal.main_arg2))
      ∧ r.2.sem = fun _ => 0)

def quiescent_PlainGatesBIdeal [hPlainGatesBIdeal : Cert.PlainGatesBIdeal.Facts] : Prop :=
  ∀ (m : (ℓ : Loc Cert.PlainGatesBIdeal.nD Cert.PlainGatesBIdeal.τ Cert.PlainGatesBIdeal.sig) → Buf (Elt Ideal) ℓ) (g : Dev Cert.PlainGatesBIdeal.nD → PrngReg), Pre_PlainGatesBIdeal m →
    θ_run (Cert.PlainGatesBIdeal.defs (F := Ideal)) (onTc (τ := Cert.PlainGatesBIdeal.τ) (Cert.PlainGatesBIdeal.main (F := Ideal))) ⟨m, fun _ => 0, g⟩ (fun r => (∀ c : Dev Cert.PlainGatesBIdeal.nD,
      r.2.mem ((c.tc : Thread Cert.PlainGatesBIdeal.nD Cert.PlainGatesBIdeal.τ).loc Cert.PlainGatesBIdeal.main_arg0) = m ((c.tc : Thread Cert.PlainGatesBIdeal.nD Cert.PlainGatesBIdeal.τ).loc Cert.PlainGatesBIdeal.main_arg0)
      ∧ r.2.mem ((c.tc : Thread Cert.PlainGatesBIdeal.nD Cert.PlainGatesBIdeal.τ).loc Cert.PlainGatesBIdeal.main_arg1) = m ((c.tc : Thread Cert.PlainGatesBIdeal.nD Cert.PlainGatesBIdeal.τ).loc Cert.PlainGatesBIdeal.main_arg1)
      ∧ r.2.mem ((c.tc : Thread Cert.PlainGatesBIdeal.nD Cert.PlainGatesBIdeal.τ).loc Cert.PlainGatesBIdeal.main_arg2) = m ((c.tc : Thread Cert.PlainGatesBIdeal.nD Cert.PlainGatesBIdeal.τ).loc Cert.PlainGatesBIdeal.main_arg2))
      ∧ r.2.sem = fun _ => 0)

def quiescent_StreamsB [hStreamsB : Cert.StreamsB.Facts] : Prop :=
  ∀ (m : (ℓ : Loc Cert.StreamsB.nD Cert.StreamsB.τ Cert.StreamsB.sig) → Buf (Elt Bits) ℓ) (g : Dev Cert.StreamsB.nD → PrngReg), Pre_StreamsB m →
    θ_run (Cert.StreamsB.defs (F := Bits)) (onTc (τ := Cert.StreamsB.τ) (Cert.StreamsB.main (F := Bits))) ⟨m, fun _ => 0, g⟩ (fun r => (∀ c : Dev Cert.StreamsB.nD,
      r.2.mem ((c.tc : Thread Cert.StreamsB.nD Cert.StreamsB.τ).loc Cert.StreamsB.main_arg0) = m ((c.tc : Thread Cert.StreamsB.nD Cert.StreamsB.τ).loc Cert.StreamsB.main_arg0)
      ∧ r.2.mem ((c.tc : Thread Cert.StreamsB.nD Cert.StreamsB.τ).loc Cert.StreamsB.main_arg1) = m ((c.tc : Thread Cert.StreamsB.nD Cert.StreamsB.τ).loc Cert.StreamsB.main_arg1)
      ∧ r.2.mem ((c.tc : Thread Cert.StreamsB.nD Cert.StreamsB.τ).loc Cert.StreamsB.main_arg2) = m ((c.tc : Thread Cert.StreamsB.nD Cert.StreamsB.τ).loc Cert.StreamsB.main_arg2))
      ∧ r.2.sem = fun _ => 0)

def quiescent_StreamsBIdeal [hStreamsBIdeal : Cert.StreamsBIdeal.Facts] : Prop :=
  ∀ (m : (ℓ : Loc Cert.StreamsBIdeal.nD Cert.StreamsBIdeal.τ Cert.StreamsBIdeal.sig) → Buf (Elt Ideal) ℓ) (g : Dev Cert.StreamsBIdeal.nD → PrngReg), Pre_StreamsBIdeal m →
    θ_run (Cert.StreamsBIdeal.defs (F := Ideal)) (onTc (τ := Cert.StreamsBIdeal.τ) (Cert.StreamsBIdeal.main (F := Ideal))) ⟨m, fun _ => 0, g⟩ (fun r => (∀ c : Dev Cert.StreamsBIdeal.nD,
      r.2.mem ((c.tc : Thread Cert.StreamsBIdeal.nD Cert.StreamsBIdeal.τ).loc Cert.StreamsBIdeal.main_arg0) = m ((c.tc : Thread Cert.StreamsBIdeal.nD Cert.StreamsBIdeal.τ).loc Cert.StreamsBIdeal.main_arg0)
      ∧ r.2.mem ((c.tc : Thread Cert.StreamsBIdeal.nD Cert.StreamsBIdeal.τ).loc Cert.StreamsBIdeal.main_arg1) = m ((c.tc : Thread Cert.StreamsBIdeal.nD Cert.StreamsBIdeal.τ).loc Cert.StreamsBIdeal.main_arg1)
      ∧ r.2.mem ((c.tc : Thread Cert.StreamsBIdeal.nD Cert.StreamsBIdeal.τ).loc Cert.StreamsBIdeal.main_arg2) = m ((c.tc : Thread Cert.StreamsBIdeal.nD Cert.StreamsBIdeal.τ).loc Cert.StreamsBIdeal.main_arg2))
      ∧ r.2.sem = fun _ => 0)

def quiescent_PlainStreamsBIdeal [hPlainStreamsBIdeal : Cert.PlainStreamsBIdeal.Facts] : Prop :=
  ∀ (m : (ℓ : Loc Cert.PlainStreamsBIdeal.nD Cert.PlainStreamsBIdeal.τ Cert.PlainStreamsBIdeal.sig) → Buf (Elt Ideal) ℓ) (g : Dev Cert.PlainStreamsBIdeal.nD → PrngReg), Pre_PlainStreamsBIdeal m →
    θ_run (Cert.PlainStreamsBIdeal.defs (F := Ideal)) (onTc (τ := Cert.PlainStreamsBIdeal.τ) (Cert.PlainStreamsBIdeal.main (F := Ideal))) ⟨m, fun _ => 0, g⟩ (fun r => (∀ c : Dev Cert.PlainStreamsBIdeal.nD,
      r.2.mem ((c.tc : Thread Cert.PlainStreamsBIdeal.nD Cert.PlainStreamsBIdeal.τ).loc Cert.PlainStreamsBIdeal.main_arg0) = m ((c.tc : Thread Cert.PlainStreamsBIdeal.nD Cert.PlainStreamsBIdeal.τ).loc Cert.PlainStreamsBIdeal.main_arg0)
      ∧ r.2.mem ((c.tc : Thread Cert.PlainStreamsBIdeal.nD Cert.PlainStreamsBIdeal.τ).loc Cert.PlainStreamsBIdeal.main_arg1) = m ((c.tc : Thread Cert.PlainStreamsBIdeal.nD Cert.PlainStreamsBIdeal.τ).loc Cert.PlainStreamsBIdeal.main_arg1)
      ∧ r.2.mem ((c.tc : Thread Cert.PlainStreamsBIdeal.nD Cert.PlainStreamsBIdeal.τ).loc Cert.PlainStreamsBIdeal.main_arg2) = m ((c.tc : Thread Cert.PlainStreamsBIdeal.nD Cert.PlainStreamsBIdeal.τ).loc Cert.PlainStreamsBIdeal.main_arg2))
      ∧ r.2.sem = fun _ => 0)

def quiescent_MixesB [hMixesB : Cert.MixesB.Facts] : Prop :=
  ∀ (m : (ℓ : Loc Cert.MixesB.nD Cert.MixesB.τ Cert.MixesB.sig) → Buf (Elt Bits) ℓ) (g : Dev Cert.MixesB.nD → PrngReg), Pre_MixesB m →
    θ_run (Cert.MixesB.defs (F := Bits)) (onTc (τ := Cert.MixesB.τ) (Cert.MixesB.main (F := Bits))) ⟨m, fun _ => 0, g⟩ (fun r => (∀ c : Dev Cert.MixesB.nD,
      r.2.mem ((c.tc : Thread Cert.MixesB.nD Cert.MixesB.τ).loc Cert.MixesB.main_arg0) = m ((c.tc : Thread Cert.MixesB.nD Cert.MixesB.τ).loc Cert.MixesB.main_arg0)
      ∧ r.2.mem ((c.tc : Thread Cert.MixesB.nD Cert.MixesB.τ).loc Cert.MixesB.main_arg1) = m ((c.tc : Thread Cert.MixesB.nD Cert.MixesB.τ).loc Cert.MixesB.main_arg1)
      ∧ r.2.mem ((c.tc : Thread Cert.MixesB.nD Cert.MixesB.τ).loc Cert.MixesB.main_arg2) = m ((c.tc : Thread Cert.MixesB.nD Cert.MixesB.τ).loc Cert.MixesB.main_arg2))
      ∧ r.2.sem = fun _ => 0)

def quiescent_MixesBIdeal [hMixesBIdeal : Cert.MixesBIdeal.Facts] : Prop :=
  ∀ (m : (ℓ : Loc Cert.MixesBIdeal.nD Cert.MixesBIdeal.τ Cert.MixesBIdeal.sig) → Buf (Elt Ideal) ℓ) (g : Dev Cert.MixesBIdeal.nD → PrngReg), Pre_MixesBIdeal m →
    θ_run (Cert.MixesBIdeal.defs (F := Ideal)) (onTc (τ := Cert.MixesBIdeal.τ) (Cert.MixesBIdeal.main (F := Ideal))) ⟨m, fun _ => 0, g⟩ (fun r => (∀ c : Dev Cert.MixesBIdeal.nD,
      r.2.mem ((c.tc : Thread Cert.MixesBIdeal.nD Cert.MixesBIdeal.τ).loc Cert.MixesBIdeal.main_arg0) = m ((c.tc : Thread Cert.MixesBIdeal.nD Cert.MixesBIdeal.τ).loc Cert.MixesBIdeal.main_arg0)
      ∧ r.2.mem ((c.tc : Thread Cert.MixesBIdeal.nD Cert.MixesBIdeal.τ).loc Cert.MixesBIdeal.main_arg1) = m ((c.tc : Thread Cert.MixesBIdeal.nD Cert.MixesBIdeal.τ).loc Cert.MixesBIdeal.main_arg1)
      ∧ r.2.mem ((c.tc : Thread Cert.MixesBIdeal.nD Cert.MixesBIdeal.τ).loc Cert.MixesBIdeal.main_arg2) = m ((c.tc : Thread Cert.MixesBIdeal.nD Cert.MixesBIdeal.τ).loc Cert.MixesBIdeal.main_arg2))
      ∧ r.2.sem = fun _ => 0)

def quiescent_PlainMixesBIdeal [hPlainMixesBIdeal : Cert.PlainMixesBIdeal.Facts] : Prop :=
  ∀ (m : (ℓ : Loc Cert.PlainMixesBIdeal.nD Cert.PlainMixesBIdeal.τ Cert.PlainMixesBIdeal.sig) → Buf (Elt Ideal) ℓ) (g : Dev Cert.PlainMixesBIdeal.nD → PrngReg), Pre_PlainMixesBIdeal m →
    θ_run (Cert.PlainMixesBIdeal.defs (F := Ideal)) (onTc (τ := Cert.PlainMixesBIdeal.τ) (Cert.PlainMixesBIdeal.main (F := Ideal))) ⟨m, fun _ => 0, g⟩ (fun r => (∀ c : Dev Cert.PlainMixesBIdeal.nD,
      r.2.mem ((c.tc : Thread Cert.PlainMixesBIdeal.nD Cert.PlainMixesBIdeal.τ).loc Cert.PlainMixesBIdeal.main_arg0) = m ((c.tc : Thread Cert.PlainMixesBIdeal.nD Cert.PlainMixesBIdeal.τ).loc Cert.PlainMixesBIdeal.main_arg0)
      ∧ r.2.mem ((c.tc : Thread Cert.PlainMixesBIdeal.nD Cert.PlainMixesBIdeal.τ).loc Cert.PlainMixesBIdeal.main_arg1) = m ((c.tc : Thread Cert.PlainMixesBIdeal.nD Cert.PlainMixesBIdeal.τ).loc Cert.PlainMixesBIdeal.main_arg1)
      ∧ r.2.mem ((c.tc : Thread Cert.PlainMixesBIdeal.nD Cert.PlainMixesBIdeal.τ).loc Cert.PlainMixesBIdeal.main_arg2) = m ((c.tc : Thread Cert.PlainMixesBIdeal.nD Cert.PlainMixesBIdeal.τ).loc Cert.PlainMixesBIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Values_ValuesIdeal : Prop :=
  True

def algebraic_ValuesIdeal_PlainValuesIdeal [hValuesIdeal : Cert.ValuesIdeal.Facts] [hPlainValuesIdeal : Cert.PlainValuesIdeal.Facts] : Prop :=
  ∀ (m : (ℓ : Loc Cert.ValuesIdeal.nD Cert.ValuesIdeal.τ Cert.ValuesIdeal.sig) → Buf (Elt Ideal) ℓ) (g : Dev Cert.ValuesIdeal.nD → PrngReg)
    (m' : (ℓ : Loc Cert.PlainValuesIdeal.nD Cert.PlainValuesIdeal.τ Cert.PlainValuesIdeal.sig) → Buf (Elt Ideal) ℓ) (g' : Dev Cert.PlainValuesIdeal.nD → PrngReg), Pre_ValuesIdeal m →
    (∀ c : Dev Cert.ValuesIdeal.nD,
      m' ((c.tc : Thread Cert.PlainValuesIdeal.nD Cert.PlainValuesIdeal.τ).loc Cert.PlainValuesIdeal.main_arg0) = m ((c.tc : Thread Cert.ValuesIdeal.nD Cert.ValuesIdeal.τ).loc Cert.ValuesIdeal.main_arg0)
      ∧ m' ((c.tc : Thread Cert.PlainValuesIdeal.nD Cert.PlainValuesIdeal.τ).loc Cert.PlainValuesIdeal.main_arg1) = m ((c.tc : Thread Cert.ValuesIdeal.nD Cert.ValuesIdeal.τ).loc Cert.ValuesIdeal.main_arg1)
      ∧ m' ((c.tc : Thread Cert.PlainValuesIdeal.nD Cert.PlainValuesIdeal.τ).loc Cert.PlainValuesIdeal.main_arg2) = m ((c.tc : Thread Cert.ValuesIdeal.nD Cert.ValuesIdeal.τ).loc Cert.ValuesIdeal.main_arg2)) →
    ∃ (v0 : (c : Dev Cert.ValuesIdeal.nD) → Buf (Elt Ideal) ((c.tc : Thread Cert.ValuesIdeal.nD Cert.ValuesIdeal.τ).loc Cert.ValuesIdeal.main_v7)),
      θ_run (Cert.ValuesIdeal.defs (F := Ideal)) (onTc (τ := Cert.ValuesIdeal.τ) (Cert.ValuesIdeal.main (F := Ideal))) ⟨m, fun _ => 0, g⟩ (fun r => ∀ c : Dev Cert.ValuesIdeal.nD,
          r.2.mem ((c.tc : Thread Cert.ValuesIdeal.nD Cert.ValuesIdeal.τ).loc Cert.ValuesIdeal.main_v7) = v0 c
          ∧ r.2.mem ((c.tc : Thread Cert.ValuesIdeal.nD Cert.ValuesIdeal.τ).loc Cert.ValuesIdeal.main_arg0) = m ((c.tc : Thread Cert.ValuesIdeal.nD Cert.ValuesIdeal.τ).loc Cert.ValuesIdeal.main_arg0)
          ∧ r.2.mem ((c.tc : Thread Cert.ValuesIdeal.nD Cert.ValuesIdeal.τ).loc Cert.ValuesIdeal.main_arg1) = m ((c.tc : Thread Cert.ValuesIdeal.nD Cert.ValuesIdeal.τ).loc Cert.ValuesIdeal.main_arg1)
          ∧ r.2.mem ((c.tc : Thread Cert.ValuesIdeal.nD Cert.ValuesIdeal.τ).loc Cert.ValuesIdeal.main_arg2) = m ((c.tc : Thread Cert.ValuesIdeal.nD Cert.ValuesIdeal.τ).loc Cert.ValuesIdeal.main_arg2))
      ∧ θ_run (Cert.PlainValuesIdeal.defs (F := Ideal)) (onTc (τ := Cert.PlainValuesIdeal.τ) (Cert.PlainValuesIdeal.main (F := Ideal))) ⟨m', fun _ => 0, g'⟩ (fun r => ∀ c : Dev Cert.PlainValuesIdeal.nD,
          r.2.mem ((c.tc : Thread Cert.PlainValuesIdeal.nD Cert.PlainValuesIdeal.τ).loc Cert.PlainValuesIdeal.main_v7) = v0 c
          ∧ r.2.mem ((c.tc : Thread Cert.PlainValuesIdeal.nD Cert.PlainValuesIdeal.τ).loc Cert.PlainValuesIdeal.main_arg0) = m' ((c.tc : Thread Cert.PlainValuesIdeal.nD Cert.PlainValuesIdeal.τ).loc Cert.PlainValuesIdeal.main_arg0)
          ∧ r.2.mem ((c.tc : Thread Cert.PlainValuesIdeal.nD Cert.PlainValuesIdeal.τ).loc Cert.PlainValuesIdeal.main_arg1) = m' ((c.tc : Thread Cert.PlainValuesIdeal.nD Cert.PlainValuesIdeal.τ).loc Cert.PlainValuesIdeal.main_arg1)
          ∧ r.2.mem ((c.tc : Thread Cert.PlainValuesIdeal.nD Cert.PlainValuesIdeal.τ).loc Cert.PlainValuesIdeal.main_arg2) = m' ((c.tc : Thread Cert.PlainValuesIdeal.nD Cert.PlainValuesIdeal.τ).loc Cert.PlainValuesIdeal.main_arg2))

def preserves_Keys_KeysIdeal : Prop :=
  True

def algebraic_KeysIdeal_PlainKeysIdeal [hKeysIdeal : Cert.KeysIdeal.Facts] [hPlainKeysIdeal : Cert.PlainKeysIdeal.Facts] : Prop :=
  ∀ (m : (ℓ : Loc Cert.KeysIdeal.nD Cert.KeysIdeal.τ Cert.KeysIdeal.sig) → Buf (Elt Ideal) ℓ) (g : Dev Cert.KeysIdeal.nD → PrngReg)
    (m' : (ℓ : Loc Cert.PlainKeysIdeal.nD Cert.PlainKeysIdeal.τ Cert.PlainKeysIdeal.sig) → Buf (Elt Ideal) ℓ) (g' : Dev Cert.PlainKeysIdeal.nD → PrngReg), Pre_KeysIdeal m →
    (∀ c : Dev Cert.KeysIdeal.nD,
      m' ((c.tc : Thread Cert.PlainKeysIdeal.nD Cert.PlainKeysIdeal.τ).loc Cert.PlainKeysIdeal.main_arg0) = m ((c.tc : Thread Cert.KeysIdeal.nD Cert.KeysIdeal.τ).loc Cert.KeysIdeal.main_arg0)
      ∧ m' ((c.tc : Thread Cert.PlainKeysIdeal.nD Cert.PlainKeysIdeal.τ).loc Cert.PlainKeysIdeal.main_arg1) = m ((c.tc : Thread Cert.KeysIdeal.nD Cert.KeysIdeal.τ).loc Cert.KeysIdeal.main_arg1)
      ∧ m' ((c.tc : Thread Cert.PlainKeysIdeal.nD Cert.PlainKeysIdeal.τ).loc Cert.PlainKeysIdeal.main_arg2) = m ((c.tc : Thread Cert.KeysIdeal.nD Cert.KeysIdeal.τ).loc Cert.KeysIdeal.main_arg2)) →
    ∃ (v0 : (c : Dev Cert.KeysIdeal.nD) → Buf (Elt Ideal) ((c.tc : Thread Cert.KeysIdeal.nD Cert.KeysIdeal.τ).loc Cert.KeysIdeal.main_v41)),
      θ_run (Cert.KeysIdeal.defs (F := Ideal)) (onTc (τ := Cert.KeysIdeal.τ) (Cert.KeysIdeal.main (F := Ideal))) ⟨m, fun _ => 0, g⟩ (fun r => ∀ c : Dev Cert.KeysIdeal.nD,
          r.2.mem ((c.tc : Thread Cert.KeysIdeal.nD Cert.KeysIdeal.τ).loc Cert.KeysIdeal.main_v41) = v0 c
          ∧ r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
          ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1)
          ∧ r.2.mem ((c.tc : Thread Cert.KeysIdeal.nD Cert.KeysIdeal.τ).loc Cert.KeysIdeal.main_arg2) = m ((c.tc : Thread Cert.KeysIdeal.nD Cert.KeysIdeal.τ).loc Cert.KeysIdeal.main_arg2))
      ∧ θ_run (Cert.PlainKeysIdeal.defs (F := Ideal)) (onTc (τ := Cert.PlainKeysIdeal.τ) (Cert.PlainKeysIdeal.main (F := Ideal))) ⟨m', fun _ => 0, g'⟩ (fun r => ∀ c : Dev Cert.PlainKeysIdeal.nD,
          r.2.mem ((c.tc : Thread Cert.PlainKeysIdeal.nD Cert.PlainKeysIdeal.τ).loc Cert.PlainKeysIdeal.main_v73) = v0 c
          ∧ r.2.mem ((c.tc : Thread Cert.PlainKeysIdeal.nD Cert.PlainKeysIdeal.τ).loc Cert.PlainKeysIdeal.main_arg0) = m' ((c.tc : Thread Cert.PlainKeysIdeal.nD Cert.PlainKeysIdeal.τ).loc Cert.PlainKeysIdeal.main_arg0)
          ∧ r.2.mem ((c.tc : Thread Cert.PlainKeysIdeal.nD Cert.PlainKeysIdeal.τ).loc Cert.PlainKeysIdeal.main_arg1) = m' ((c.tc : Thread Cert.PlainKeysIdeal.nD Cert.PlainKeysIdeal.τ).loc Cert.PlainKeysIdeal.main_arg1)
          ∧ r.2.mem ((c.tc : Thread Cert.PlainKeysIdeal.nD Cert.PlainKeysIdeal.τ).loc Cert.PlainKeysIdeal.main_arg2) = m' ((c.tc : Thread Cert.PlainKeysIdeal.nD Cert.PlainKeysIdeal.τ).loc Cert.PlainKeysIdeal.main_arg2))

def preserves_QueriesA_QueriesAIdeal : Prop :=
  True

def algebraic_QueriesAIdeal_PlainQueriesAIdeal [hQueriesAIdeal : Cert.QueriesAIdeal.Facts] [hPlainQueriesAIdeal : Cert.PlainQueriesAIdeal.Facts] : Prop :=
  ∀ (m : (ℓ : Loc Cert.QueriesAIdeal.nD Cert.QueriesAIdeal.τ Cert.QueriesAIdeal.sig) → Buf (Elt Ideal) ℓ) (g : Dev Cert.QueriesAIdeal.nD → PrngReg)
    (m' : (ℓ : Loc Cert.PlainQueriesAIdeal.nD Cert.PlainQueriesAIdeal.τ Cert.PlainQueriesAIdeal.sig) → Buf (Elt Ideal) ℓ) (g' : Dev Cert.PlainQueriesAIdeal.nD → PrngReg), Pre_QueriesAIdeal m →
    (∀ c : Dev Cert.QueriesAIdeal.nD,
      m' ((c.tc : Thread Cert.PlainQueriesAIdeal.nD Cert.PlainQueriesAIdeal.τ).loc Cert.PlainQueriesAIdeal.main_arg0) = m ((c.tc : Thread Cert.QueriesAIdeal.nD Cert.QueriesAIdeal.τ).loc Cert.QueriesAIdeal.main_arg0)
      ∧ m' ((c.tc : Thread Cert.PlainQueriesAIdeal.nD Cert.PlainQueriesAIdeal.τ).loc Cert.PlainQueriesAIdeal.main_arg1) = m ((c.tc : Thread Cert.QueriesAIdeal.nD Cert.QueriesAIdeal.τ).loc Cert.QueriesAIdeal.main_arg1)
      ∧ m' ((c.tc : Thread Cert.PlainQueriesAIdeal.nD Cert.PlainQueriesAIdeal.τ).loc Cert.PlainQueriesAIdeal.main_arg2) = m ((c.tc : Thread Cert.QueriesAIdeal.nD Cert.QueriesAIdeal.τ).loc Cert.QueriesAIdeal.main_arg2)) →
    ∃ (v0 : (c : Dev Cert.QueriesAIdeal.nD) → Buf (Elt Ideal) ((c.tc : Thread Cert.QueriesAIdeal.nD Cert.QueriesAIdeal.τ).loc Cert.QueriesAIdeal.main_v41)),
      θ_run (Cert.QueriesAIdeal.defs (F := Ideal)) (onTc (τ := Cert.QueriesAIdeal.τ) (Cert.QueriesAIdeal.main (F := Ideal))) ⟨m, fun _ => 0, g⟩ (fun r => ∀ c : Dev Cert.QueriesAIdeal.nD,
          r.2.mem ((c.tc : Thread Cert.QueriesAIdeal.nD Cert.QueriesAIdeal.τ).loc Cert.QueriesAIdeal.main_v41) = v0 c
          ∧ r.2.mem ((c.tc : Thread Cert.QueriesAIdeal.nD Cert.QueriesAIdeal.τ).loc Cert.QueriesAIdeal.main_arg0) = m ((c.tc : Thread Cert.QueriesAIdeal.nD Cert.QueriesAIdeal.τ).loc Cert.QueriesAIdeal.main_arg0)
          ∧ r.2.mem ((c.tc : Thread Cert.QueriesAIdeal.nD Cert.QueriesAIdeal.τ).loc Cert.QueriesAIdeal.main_arg1) = m ((c.tc : Thread Cert.QueriesAIdeal.nD Cert.QueriesAIdeal.τ).loc Cert.QueriesAIdeal.main_arg1)
          ∧ r.2.mem ((c.tc : Thread Cert.QueriesAIdeal.nD Cert.QueriesAIdeal.τ).loc Cert.QueriesAIdeal.main_arg2) = m ((c.tc : Thread Cert.QueriesAIdeal.nD Cert.QueriesAIdeal.τ).loc Cert.QueriesAIdeal.main_arg2))
      ∧ θ_run (Cert.PlainQueriesAIdeal.defs (F := Ideal)) (onTc (τ := Cert.PlainQueriesAIdeal.τ) (Cert.PlainQueriesAIdeal.main (F := Ideal))) ⟨m', fun _ => 0, g'⟩ (fun r => ∀ c : Dev Cert.PlainQueriesAIdeal.nD,
          r.2.mem ((c.tc : Thread Cert.PlainQueriesAIdeal.nD Cert.PlainQueriesAIdeal.τ).loc Cert.PlainQueriesAIdeal.main_v81) = v0 c
          ∧ r.2.mem ((c.tc : Thread Cert.PlainQueriesAIdeal.nD Cert.PlainQueriesAIdeal.τ).loc Cert.PlainQueriesAIdeal.main_arg0) = m' ((c.tc : Thread Cert.PlainQueriesAIdeal.nD Cert.PlainQueriesAIdeal.τ).loc Cert.PlainQueriesAIdeal.main_arg0)
          ∧ r.2.mem ((c.tc : Thread Cert.PlainQueriesAIdeal.nD Cert.PlainQueriesAIdeal.τ).loc Cert.PlainQueriesAIdeal.main_arg1) = m' ((c.tc : Thread Cert.PlainQueriesAIdeal.nD Cert.PlainQueriesAIdeal.τ).loc Cert.PlainQueriesAIdeal.main_arg1)
          ∧ r.2.mem ((c.tc : Thread Cert.PlainQueriesAIdeal.nD Cert.PlainQueriesAIdeal.τ).loc Cert.PlainQueriesAIdeal.main_arg2) = m' ((c.tc : Thread Cert.PlainQueriesAIdeal.nD Cert.PlainQueriesAIdeal.τ).loc Cert.PlainQueriesAIdeal.main_arg2))

def preserves_OutsA_OutsAIdeal : Prop :=
  True

def algebraic_OutsAIdeal_PlainOutsAIdeal [hOutsAIdeal : Cert.OutsAIdeal.Facts] [hPlainOutsAIdeal : Cert.PlainOutsAIdeal.Facts] : Prop :=
  ∀ (m : (ℓ : Loc Cert.OutsAIdeal.nD Cert.OutsAIdeal.τ Cert.OutsAIdeal.sig) → Buf (Elt Ideal) ℓ) (g : Dev Cert.OutsAIdeal.nD → PrngReg)
    (m' : (ℓ : Loc Cert.PlainOutsAIdeal.nD Cert.PlainOutsAIdeal.τ Cert.PlainOutsAIdeal.sig) → Buf (Elt Ideal) ℓ) (g' : Dev Cert.PlainOutsAIdeal.nD → PrngReg), Pre_OutsAIdeal m →
    (∀ c : Dev Cert.OutsAIdeal.nD,
      m' ((c.tc : Thread Cert.PlainOutsAIdeal.nD Cert.PlainOutsAIdeal.τ).loc Cert.PlainOutsAIdeal.main_arg0) = m ((c.tc : Thread Cert.OutsAIdeal.nD Cert.OutsAIdeal.τ).loc Cert.OutsAIdeal.main_arg0)
      ∧ m' ((c.tc : Thread Cert.PlainOutsAIdeal.nD Cert.PlainOutsAIdeal.τ).loc Cert.PlainOutsAIdeal.main_arg1) = m ((c.tc : Thread Cert.OutsAIdeal.nD Cert.OutsAIdeal.τ).loc Cert.OutsAIdeal.main_arg1)
      ∧ m' ((c.tc : Thread Cert.PlainOutsAIdeal.nD Cert.PlainOutsAIdeal.τ).loc Cert.PlainOutsAIdeal.main_arg2) = m ((c.tc : Thread Cert.OutsAIdeal.nD Cert.OutsAIdeal.τ).loc Cert.OutsAIdeal.main_arg2)) →
    ∃ (v0 : (c : Dev Cert.OutsAIdeal.nD) → Buf (Elt Ideal) ((c.tc : Thread Cert.OutsAIdeal.nD Cert.OutsAIdeal.τ).loc Cert.OutsAIdeal.main_v7)),
      θ_run (Cert.OutsAIdeal.defs (F := Ideal)) (onTc (τ := Cert.OutsAIdeal.τ) (Cert.OutsAIdeal.main (F := Ideal))) ⟨m, fun _ => 0, g⟩ (fun r => ∀ c : Dev Cert.OutsAIdeal.nD,
          r.2.mem ((c.tc : Thread Cert.OutsAIdeal.nD Cert.OutsAIdeal.τ).loc Cert.OutsAIdeal.main_v7) = v0 c
          ∧ r.2.mem ((c.tc : Thread Cert.OutsAIdeal.nD Cert.OutsAIdeal.τ).loc Cert.OutsAIdeal.main_arg0) = m ((c.tc : Thread Cert.OutsAIdeal.nD Cert.OutsAIdeal.τ).loc Cert.OutsAIdeal.main_arg0)
          ∧ r.2.mem ((c.tc : Thread Cert.OutsAIdeal.nD Cert.OutsAIdeal.τ).loc Cert.OutsAIdeal.main_arg1) = m ((c.tc : Thread Cert.OutsAIdeal.nD Cert.OutsAIdeal.τ).loc Cert.OutsAIdeal.main_arg1)
          ∧ r.2.mem ((c.tc : Thread Cert.OutsAIdeal.nD Cert.OutsAIdeal.τ).loc Cert.OutsAIdeal.main_arg2) = m ((c.tc : Thread Cert.OutsAIdeal.nD Cert.OutsAIdeal.τ).loc Cert.OutsAIdeal.main_arg2))
      ∧ θ_run (Cert.PlainOutsAIdeal.defs (F := Ideal)) (onTc (τ := Cert.PlainOutsAIdeal.τ) (Cert.PlainOutsAIdeal.main (F := Ideal))) ⟨m', fun _ => 0, g'⟩ (fun r => ∀ c : Dev Cert.PlainOutsAIdeal.nD,
          r.2.mem ((c.tc : Thread Cert.PlainOutsAIdeal.nD Cert.PlainOutsAIdeal.τ).loc Cert.PlainOutsAIdeal.main_v11) = v0 c
          ∧ r.2.mem ((c.tc : Thread Cert.PlainOutsAIdeal.nD Cert.PlainOutsAIdeal.τ).loc Cert.PlainOutsAIdeal.main_arg0) = m' ((c.tc : Thread Cert.PlainOutsAIdeal.nD Cert.PlainOutsAIdeal.τ).loc Cert.PlainOutsAIdeal.main_arg0)
          ∧ r.2.mem ((c.tc : Thread Cert.PlainOutsAIdeal.nD Cert.PlainOutsAIdeal.τ).loc Cert.PlainOutsAIdeal.main_arg1) = m' ((c.tc : Thread Cert.PlainOutsAIdeal.nD Cert.PlainOutsAIdeal.τ).loc Cert.PlainOutsAIdeal.main_arg1)
          ∧ r.2.mem ((c.tc : Thread Cert.PlainOutsAIdeal.nD Cert.PlainOutsAIdeal.τ).loc Cert.PlainOutsAIdeal.main_arg2) = m' ((c.tc : Thread Cert.PlainOutsAIdeal.nD Cert.PlainOutsAIdeal.τ).loc Cert.PlainOutsAIdeal.main_arg2))

def preserves_GatesA_GatesAIdeal : Prop :=
  True

def algebraic_GatesAIdeal_PlainGatesAIdeal [hGatesAIdeal : Cert.GatesAIdeal.Facts] [hPlainGatesAIdeal : Cert.PlainGatesAIdeal.Facts] : Prop :=
  ∀ (m : (ℓ : Loc Cert.GatesAIdeal.nD Cert.GatesAIdeal.τ Cert.GatesAIdeal.sig) → Buf (Elt Ideal) ℓ) (g : Dev Cert.GatesAIdeal.nD → PrngReg)
    (m' : (ℓ : Loc Cert.PlainGatesAIdeal.nD Cert.PlainGatesAIdeal.τ Cert.PlainGatesAIdeal.sig) → Buf (Elt Ideal) ℓ) (g' : Dev Cert.PlainGatesAIdeal.nD → PrngReg), Pre_GatesAIdeal m →
    (∀ c : Dev Cert.GatesAIdeal.nD,
      m' ((c.tc : Thread Cert.PlainGatesAIdeal.nD Cert.PlainGatesAIdeal.τ).loc Cert.PlainGatesAIdeal.main_arg0) = m ((c.tc : Thread Cert.GatesAIdeal.nD Cert.GatesAIdeal.τ).loc Cert.GatesAIdeal.main_arg0)
      ∧ m' ((c.tc : Thread Cert.PlainGatesAIdeal.nD Cert.PlainGatesAIdeal.τ).loc Cert.PlainGatesAIdeal.main_arg1) = m ((c.tc : Thread Cert.GatesAIdeal.nD Cert.GatesAIdeal.τ).loc Cert.GatesAIdeal.main_arg1)
      ∧ m' ((c.tc : Thread Cert.PlainGatesAIdeal.nD Cert.PlainGatesAIdeal.τ).loc Cert.PlainGatesAIdeal.main_arg2) = m ((c.tc : Thread Cert.GatesAIdeal.nD Cert.GatesAIdeal.τ).loc Cert.GatesAIdeal.main_arg2)) →
    ∃ (v0 : (c : Dev Cert.GatesAIdeal.nD) → Buf (Elt Ideal) ((c.tc : Thread Cert.GatesAIdeal.nD Cert.GatesAIdeal.τ).loc Cert.GatesAIdeal.main_v7)),
      θ_run (Cert.GatesAIdeal.defs (F := Ideal)) (onTc (τ := Cert.GatesAIdeal.τ) (Cert.GatesAIdeal.main (F := Ideal))) ⟨m, fun _ => 0, g⟩ (fun r => ∀ c : Dev Cert.GatesAIdeal.nD,
          r.2.mem ((c.tc : Thread Cert.GatesAIdeal.nD Cert.GatesAIdeal.τ).loc Cert.GatesAIdeal.main_v7) = v0 c
          ∧ r.2.mem ((c.tc : Thread Cert.GatesAIdeal.nD Cert.GatesAIdeal.τ).loc Cert.GatesAIdeal.main_arg0) = m ((c.tc : Thread Cert.GatesAIdeal.nD Cert.GatesAIdeal.τ).loc Cert.GatesAIdeal.main_arg0)
          ∧ r.2.mem ((c.tc : Thread Cert.GatesAIdeal.nD Cert.GatesAIdeal.τ).loc Cert.GatesAIdeal.main_arg1) = m ((c.tc : Thread Cert.GatesAIdeal.nD Cert.GatesAIdeal.τ).loc Cert.GatesAIdeal.main_arg1)
          ∧ r.2.mem ((c.tc : Thread Cert.GatesAIdeal.nD Cert.GatesAIdeal.τ).loc Cert.GatesAIdeal.main_arg2) = m ((c.tc : Thread Cert.GatesAIdeal.nD Cert.GatesAIdeal.τ).loc Cert.GatesAIdeal.main_arg2))
      ∧ θ_run (Cert.PlainGatesAIdeal.defs (F := Ideal)) (onTc (τ := Cert.PlainGatesAIdeal.τ) (Cert.PlainGatesAIdeal.main (F := Ideal))) ⟨m', fun _ => 0, g'⟩ (fun r => ∀ c : Dev Cert.PlainGatesAIdeal.nD,
          r.2.mem ((c.tc : Thread Cert.PlainGatesAIdeal.nD Cert.PlainGatesAIdeal.τ).loc Cert.PlainGatesAIdeal.main_v13) = v0 c
          ∧ r.2.mem ((c.tc : Thread Cert.PlainGatesAIdeal.nD Cert.PlainGatesAIdeal.τ).loc Cert.PlainGatesAIdeal.main_arg0) = m' ((c.tc : Thread Cert.PlainGatesAIdeal.nD Cert.PlainGatesAIdeal.τ).loc Cert.PlainGatesAIdeal.main_arg0)
          ∧ r.2.mem ((c.tc : Thread Cert.PlainGatesAIdeal.nD Cert.PlainGatesAIdeal.τ).loc Cert.PlainGatesAIdeal.main_arg1) = m' ((c.tc : Thread Cert.PlainGatesAIdeal.nD Cert.PlainGatesAIdeal.τ).loc Cert.PlainGatesAIdeal.main_arg1)
          ∧ r.2.mem ((c.tc : Thread Cert.PlainGatesAIdeal.nD Cert.PlainGatesAIdeal.τ).loc Cert.PlainGatesAIdeal.main_arg2) = m' ((c.tc : Thread Cert.PlainGatesAIdeal.nD Cert.PlainGatesAIdeal.τ).loc Cert.PlainGatesAIdeal.main_arg2))

def preserves_StreamsA_StreamsAIdeal : Prop :=
  True

def algebraic_StreamsAIdeal_PlainStreamsAIdeal [hStreamsAIdeal : Cert.StreamsAIdeal.Facts] [hPlainStreamsAIdeal : Cert.PlainStreamsAIdeal.Facts] : Prop :=
  ∀ (m : (ℓ : Loc Cert.StreamsAIdeal.nD Cert.StreamsAIdeal.τ Cert.StreamsAIdeal.sig) → Buf (Elt Ideal) ℓ) (g : Dev Cert.StreamsAIdeal.nD → PrngReg)
    (m' : (ℓ : Loc Cert.PlainStreamsAIdeal.nD Cert.PlainStreamsAIdeal.τ Cert.PlainStreamsAIdeal.sig) → Buf (Elt Ideal) ℓ) (g' : Dev Cert.PlainStreamsAIdeal.nD → PrngReg), Pre_StreamsAIdeal m →
    (∀ c : Dev Cert.StreamsAIdeal.nD,
      m' ((c.tc : Thread Cert.PlainStreamsAIdeal.nD Cert.PlainStreamsAIdeal.τ).loc Cert.PlainStreamsAIdeal.main_arg0) = m ((c.tc : Thread Cert.StreamsAIdeal.nD Cert.StreamsAIdeal.τ).loc Cert.StreamsAIdeal.main_arg0)
      ∧ m' ((c.tc : Thread Cert.PlainStreamsAIdeal.nD Cert.PlainStreamsAIdeal.τ).loc Cert.PlainStreamsAIdeal.main_arg1) = m ((c.tc : Thread Cert.StreamsAIdeal.nD Cert.StreamsAIdeal.τ).loc Cert.StreamsAIdeal.main_arg1)
      ∧ m' ((c.tc : Thread Cert.PlainStreamsAIdeal.nD Cert.PlainStreamsAIdeal.τ).loc Cert.PlainStreamsAIdeal.main_arg2) = m ((c.tc : Thread Cert.StreamsAIdeal.nD Cert.StreamsAIdeal.τ).loc Cert.StreamsAIdeal.main_arg2)) →
    ∃ (v0 : (c : Dev Cert.StreamsAIdeal.nD) → Buf (Elt Ideal) ((c.tc : Thread Cert.StreamsAIdeal.nD Cert.StreamsAIdeal.τ).loc Cert.StreamsAIdeal.main_v7)),
      θ_run (Cert.StreamsAIdeal.defs (F := Ideal)) (onTc (τ := Cert.StreamsAIdeal.τ) (Cert.StreamsAIdeal.main (F := Ideal))) ⟨m, fun _ => 0, g⟩ (fun r => ∀ c : Dev Cert.StreamsAIdeal.nD,
          r.2.mem ((c.tc : Thread Cert.StreamsAIdeal.nD Cert.StreamsAIdeal.τ).loc Cert.StreamsAIdeal.main_v7) = v0 c
          ∧ r.2.mem ((c.tc : Thread Cert.StreamsAIdeal.nD Cert.StreamsAIdeal.τ).loc Cert.StreamsAIdeal.main_arg0) = m ((c.tc : Thread Cert.StreamsAIdeal.nD Cert.StreamsAIdeal.τ).loc Cert.StreamsAIdeal.main_arg0)
          ∧ r.2.mem ((c.tc : Thread Cert.StreamsAIdeal.nD Cert.StreamsAIdeal.τ).loc Cert.StreamsAIdeal.main_arg1) = m ((c.tc : Thread Cert.StreamsAIdeal.nD Cert.StreamsAIdeal.τ).loc Cert.StreamsAIdeal.main_arg1)
          ∧ r.2.mem ((c.tc : Thread Cert.StreamsAIdeal.nD Cert.StreamsAIdeal.τ).loc Cert.StreamsAIdeal.main_arg2) = m ((c.tc : Thread Cert.StreamsAIdeal.nD Cert.StreamsAIdeal.τ).loc Cert.StreamsAIdeal.main_arg2))
      ∧ θ_run (Cert.PlainStreamsAIdeal.defs (F := Ideal)) (onTc (τ := Cert.PlainStreamsAIdeal.τ) (Cert.PlainStreamsAIdeal.main (F := Ideal))) ⟨m', fun _ => 0, g'⟩ (fun r => ∀ c : Dev Cert.PlainStreamsAIdeal.nD,
          r.2.mem ((c.tc : Thread Cert.PlainStreamsAIdeal.nD Cert.PlainStreamsAIdeal.τ).loc Cert.PlainStreamsAIdeal.main_v13) = v0 c
          ∧ r.2.mem ((c.tc : Thread Cert.PlainStreamsAIdeal.nD Cert.PlainStreamsAIdeal.τ).loc Cert.PlainStreamsAIdeal.main_arg0) = m' ((c.tc : Thread Cert.PlainStreamsAIdeal.nD Cert.PlainStreamsAIdeal.τ).loc Cert.PlainStreamsAIdeal.main_arg0)
          ∧ r.2.mem ((c.tc : Thread Cert.PlainStreamsAIdeal.nD Cert.PlainStreamsAIdeal.τ).loc Cert.PlainStreamsAIdeal.main_arg1) = m' ((c.tc : Thread Cert.PlainStreamsAIdeal.nD Cert.PlainStreamsAIdeal.τ).loc Cert.PlainStreamsAIdeal.main_arg1)
          ∧ r.2.mem ((c.tc : Thread Cert.PlainStreamsAIdeal.nD Cert.PlainStreamsAIdeal.τ).loc Cert.PlainStreamsAIdeal.main_arg2) = m' ((c.tc : Thread Cert.PlainStreamsAIdeal.nD Cert.PlainStreamsAIdeal.τ).loc Cert.PlainStreamsAIdeal.main_arg2))

def preserves_MixesA_MixesAIdeal : Prop :=
  True

def algebraic_MixesAIdeal_PlainMixesAIdeal [hMixesAIdeal : Cert.MixesAIdeal.Facts] [hPlainMixesAIdeal : Cert.PlainMixesAIdeal.Facts] : Prop :=
  ∀ (m : (ℓ : Loc Cert.MixesAIdeal.nD Cert.MixesAIdeal.τ Cert.MixesAIdeal.sig) → Buf (Elt Ideal) ℓ) (g : Dev Cert.MixesAIdeal.nD → PrngReg)
    (m' : (ℓ : Loc Cert.PlainMixesAIdeal.nD Cert.PlainMixesAIdeal.τ Cert.PlainMixesAIdeal.sig) → Buf (Elt Ideal) ℓ) (g' : Dev Cert.PlainMixesAIdeal.nD → PrngReg), Pre_MixesAIdeal m →
    (∀ c : Dev Cert.MixesAIdeal.nD,
      m' ((c.tc : Thread Cert.PlainMixesAIdeal.nD Cert.PlainMixesAIdeal.τ).loc Cert.PlainMixesAIdeal.main_arg0) = m ((c.tc : Thread Cert.MixesAIdeal.nD Cert.MixesAIdeal.τ).loc Cert.MixesAIdeal.main_arg0)
      ∧ m' ((c.tc : Thread Cert.PlainMixesAIdeal.nD Cert.PlainMixesAIdeal.τ).loc Cert.PlainMixesAIdeal.main_arg1) = m ((c.tc : Thread Cert.MixesAIdeal.nD Cert.MixesAIdeal.τ).loc Cert.MixesAIdeal.main_arg1)
      ∧ m' ((c.tc : Thread Cert.PlainMixesAIdeal.nD Cert.PlainMixesAIdeal.τ).loc Cert.PlainMixesAIdeal.main_arg2) = m ((c.tc : Thread Cert.MixesAIdeal.nD Cert.MixesAIdeal.τ).loc Cert.MixesAIdeal.main_arg2)) →
    ∃ (v0 : (c : Dev Cert.MixesAIdeal.nD) → Buf (Elt Ideal) ((c.tc : Thread Cert.MixesAIdeal.nD Cert.MixesAIdeal.τ).loc Cert.MixesAIdeal.main_v7)),
      θ_run (Cert.MixesAIdeal.defs (F := Ideal)) (onTc (τ := Cert.MixesAIdeal.τ) (Cert.MixesAIdeal.main (F := Ideal))) ⟨m, fun _ => 0, g⟩ (fun r => ∀ c : Dev Cert.MixesAIdeal.nD,
          r.2.mem ((c.tc : Thread Cert.MixesAIdeal.nD Cert.MixesAIdeal.τ).loc Cert.MixesAIdeal.main_v7) = v0 c
          ∧ r.2.mem ((c.tc : Thread Cert.MixesAIdeal.nD Cert.MixesAIdeal.τ).loc Cert.MixesAIdeal.main_arg0) = m ((c.tc : Thread Cert.MixesAIdeal.nD Cert.MixesAIdeal.τ).loc Cert.MixesAIdeal.main_arg0)
          ∧ r.2.mem ((c.tc : Thread Cert.MixesAIdeal.nD Cert.MixesAIdeal.τ).loc Cert.MixesAIdeal.main_arg1) = m ((c.tc : Thread Cert.MixesAIdeal.nD Cert.MixesAIdeal.τ).loc Cert.MixesAIdeal.main_arg1)
          ∧ r.2.mem ((c.tc : Thread Cert.MixesAIdeal.nD Cert.MixesAIdeal.τ).loc Cert.MixesAIdeal.main_arg2) = m ((c.tc : Thread Cert.MixesAIdeal.nD Cert.MixesAIdeal.τ).loc Cert.MixesAIdeal.main_arg2))
      ∧ θ_run (Cert.PlainMixesAIdeal.defs (F := Ideal)) (onTc (τ := Cert.PlainMixesAIdeal.τ) (Cert.PlainMixesAIdeal.main (F := Ideal))) ⟨m', fun _ => 0, g'⟩ (fun r => ∀ c : Dev Cert.PlainMixesAIdeal.nD,
          r.2.mem ((c.tc : Thread Cert.PlainMixesAIdeal.nD Cert.PlainMixesAIdeal.τ).loc Cert.PlainMixesAIdeal.main_v11) = v0 c
          ∧ r.2.mem ((c.tc : Thread Cert.PlainMixesAIdeal.nD Cert.PlainMixesAIdeal.τ).loc Cert.PlainMixesAIdeal.main_arg0) = m' ((c.tc : Thread Cert.PlainMixesAIdeal.nD Cert.PlainMixesAIdeal.τ).loc Cert.PlainMixesAIdeal.main_arg0)
          ∧ r.2.mem ((c.tc : Thread Cert.PlainMixesAIdeal.nD Cert.PlainMixesAIdeal.τ).loc Cert.PlainMixesAIdeal.main_arg1) = m' ((c.tc : Thread Cert.PlainMixesAIdeal.nD Cert.PlainMixesAIdeal.τ).loc Cert.PlainMixesAIdeal.main_arg1)
          ∧ r.2.mem ((c.tc : Thread Cert.PlainMixesAIdeal.nD Cert.PlainMixesAIdeal.τ).loc Cert.PlainMixesAIdeal.main_arg2) = m' ((c.tc : Thread Cert.PlainMixesAIdeal.nD Cert.PlainMixesAIdeal.τ).loc Cert.PlainMixesAIdeal.main_arg2))

def preserves_QueriesB_QueriesBIdeal : Prop :=
  True

def algebraic_QueriesBIdeal_PlainQueriesBIdeal [hQueriesBIdeal : Cert.QueriesBIdeal.Facts] [hPlainQueriesBIdeal : Cert.PlainQueriesBIdeal.Facts] : Prop :=
  ∀ (m : (ℓ : Loc Cert.QueriesBIdeal.nD Cert.QueriesBIdeal.τ Cert.QueriesBIdeal.sig) → Buf (Elt Ideal) ℓ) (g : Dev Cert.QueriesBIdeal.nD → PrngReg)
    (m' : (ℓ : Loc Cert.PlainQueriesBIdeal.nD Cert.PlainQueriesBIdeal.τ Cert.PlainQueriesBIdeal.sig) → Buf (Elt Ideal) ℓ) (g' : Dev Cert.PlainQueriesBIdeal.nD → PrngReg), Pre_QueriesBIdeal m →
    (∀ c : Dev Cert.QueriesBIdeal.nD,
      m' ((c.tc : Thread Cert.PlainQueriesBIdeal.nD Cert.PlainQueriesBIdeal.τ).loc Cert.PlainQueriesBIdeal.main_arg0) = m ((c.tc : Thread Cert.QueriesBIdeal.nD Cert.QueriesBIdeal.τ).loc Cert.QueriesBIdeal.main_arg0)
      ∧ m' ((c.tc : Thread Cert.PlainQueriesBIdeal.nD Cert.PlainQueriesBIdeal.τ).loc Cert.PlainQueriesBIdeal.main_arg1) = m ((c.tc : Thread Cert.QueriesBIdeal.nD Cert.QueriesBIdeal.τ).loc Cert.QueriesBIdeal.main_arg1)
      ∧ m' ((c.tc : Thread Cert.PlainQueriesBIdeal.nD Cert.PlainQueriesBIdeal.τ).loc Cert.PlainQueriesBIdeal.main_arg2) = m ((c.tc : Thread Cert.QueriesBIdeal.nD Cert.QueriesBIdeal.τ).loc Cert.QueriesBIdeal.main_arg2)) →
    ∃ (v0 : (c : Dev Cert.QueriesBIdeal.nD) → Buf (Elt Ideal) ((c.tc : Thread Cert.QueriesBIdeal.nD Cert.QueriesBIdeal.τ).loc Cert.QueriesBIdeal.main_v41)),
      θ_run (Cert.QueriesBIdeal.defs (F := Ideal)) (onTc (τ := Cert.QueriesBIdeal.τ) (Cert.QueriesBIdeal.main (F := Ideal))) ⟨m, fun _ => 0, g⟩ (fun r => ∀ c : Dev Cert.QueriesBIdeal.nD,
          r.2.mem ((c.tc : Thread Cert.QueriesBIdeal.nD Cert.QueriesBIdeal.τ).loc Cert.QueriesBIdeal.main_v41) = v0 c
          ∧ r.2.mem ((c.tc : Thread Cert.QueriesBIdeal.nD Cert.QueriesBIdeal.τ).loc Cert.QueriesBIdeal.main_arg0) = m ((c.tc : Thread Cert.QueriesBIdeal.nD Cert.QueriesBIdeal.τ).loc Cert.QueriesBIdeal.main_arg0)
          ∧ r.2.mem ((c.tc : Thread Cert.QueriesBIdeal.nD Cert.QueriesBIdeal.τ).loc Cert.QueriesBIdeal.main_arg1) = m ((c.tc : Thread Cert.QueriesBIdeal.nD Cert.QueriesBIdeal.τ).loc Cert.QueriesBIdeal.main_arg1)
          ∧ r.2.mem ((c.tc : Thread Cert.QueriesBIdeal.nD Cert.QueriesBIdeal.τ).loc Cert.QueriesBIdeal.main_arg2) = m ((c.tc : Thread Cert.QueriesBIdeal.nD Cert.QueriesBIdeal.τ).loc Cert.QueriesBIdeal.main_arg2))
      ∧ θ_run (Cert.PlainQueriesBIdeal.defs (F := Ideal)) (onTc (τ := Cert.PlainQueriesBIdeal.τ) (Cert.PlainQueriesBIdeal.main (F := Ideal))) ⟨m', fun _ => 0, g'⟩ (fun r => ∀ c : Dev Cert.PlainQueriesBIdeal.nD,
          r.2.mem ((c.tc : Thread Cert.PlainQueriesBIdeal.nD Cert.PlainQueriesBIdeal.τ).loc Cert.PlainQueriesBIdeal.main_v81) = v0 c
          ∧ r.2.mem ((c.tc : Thread Cert.PlainQueriesBIdeal.nD Cert.PlainQueriesBIdeal.τ).loc Cert.PlainQueriesBIdeal.main_arg0) = m' ((c.tc : Thread Cert.PlainQueriesBIdeal.nD Cert.PlainQueriesBIdeal.τ).loc Cert.PlainQueriesBIdeal.main_arg0)
          ∧ r.2.mem ((c.tc : Thread Cert.PlainQueriesBIdeal.nD Cert.PlainQueriesBIdeal.τ).loc Cert.PlainQueriesBIdeal.main_arg1) = m' ((c.tc : Thread Cert.PlainQueriesBIdeal.nD Cert.PlainQueriesBIdeal.τ).loc Cert.PlainQueriesBIdeal.main_arg1)
          ∧ r.2.mem ((c.tc : Thread Cert.PlainQueriesBIdeal.nD Cert.PlainQueriesBIdeal.τ).loc Cert.PlainQueriesBIdeal.main_arg2) = m' ((c.tc : Thread Cert.PlainQueriesBIdeal.nD Cert.PlainQueriesBIdeal.τ).loc Cert.PlainQueriesBIdeal.main_arg2))

def preserves_OutsB_OutsBIdeal : Prop :=
  True

def algebraic_OutsBIdeal_PlainOutsBIdeal [hOutsBIdeal : Cert.OutsBIdeal.Facts] [hPlainOutsBIdeal : Cert.PlainOutsBIdeal.Facts] : Prop :=
  ∀ (m : (ℓ : Loc Cert.OutsBIdeal.nD Cert.OutsBIdeal.τ Cert.OutsBIdeal.sig) → Buf (Elt Ideal) ℓ) (g : Dev Cert.OutsBIdeal.nD → PrngReg)
    (m' : (ℓ : Loc Cert.PlainOutsBIdeal.nD Cert.PlainOutsBIdeal.τ Cert.PlainOutsBIdeal.sig) → Buf (Elt Ideal) ℓ) (g' : Dev Cert.PlainOutsBIdeal.nD → PrngReg), Pre_OutsBIdeal m →
    (∀ c : Dev Cert.OutsBIdeal.nD,
      m' ((c.tc : Thread Cert.PlainOutsBIdeal.nD Cert.PlainOutsBIdeal.τ).loc Cert.PlainOutsBIdeal.main_arg0) = m ((c.tc : Thread Cert.OutsBIdeal.nD Cert.OutsBIdeal.τ).loc Cert.OutsBIdeal.main_arg0)
      ∧ m' ((c.tc : Thread Cert.PlainOutsBIdeal.nD Cert.PlainOutsBIdeal.τ).loc Cert.PlainOutsBIdeal.main_arg1) = m ((c.tc : Thread Cert.OutsBIdeal.nD Cert.OutsBIdeal.τ).loc Cert.OutsBIdeal.main_arg1)
      ∧ m' ((c.tc : Thread Cert.PlainOutsBIdeal.nD Cert.PlainOutsBIdeal.τ).loc Cert.PlainOutsBIdeal.main_arg2) = m ((c.tc : Thread Cert.OutsBIdeal.nD Cert.OutsBIdeal.τ).loc Cert.OutsBIdeal.main_arg2)) →
    ∃ (v0 : (c : Dev Cert.OutsBIdeal.nD) → Buf (Elt Ideal) ((c.tc : Thread Cert.OutsBIdeal.nD Cert.OutsBIdeal.τ).loc Cert.OutsBIdeal.main_v7)),
      θ_run (Cert.OutsBIdeal.defs (F := Ideal)) (onTc (τ := Cert.OutsBIdeal.τ) (Cert.OutsBIdeal.main (F := Ideal))) ⟨m, fun _ => 0, g⟩ (fun r => ∀ c : Dev Cert.OutsBIdeal.nD,
          r.2.mem ((c.tc : Thread Cert.OutsBIdeal.nD Cert.OutsBIdeal.τ).loc Cert.OutsBIdeal.main_v7) = v0 c
          ∧ r.2.mem ((c.tc : Thread Cert.OutsBIdeal.nD Cert.OutsBIdeal.τ).loc Cert.OutsBIdeal.main_arg0) = m ((c.tc : Thread Cert.OutsBIdeal.nD Cert.OutsBIdeal.τ).loc Cert.OutsBIdeal.main_arg0)
          ∧ r.2.mem ((c.tc : Thread Cert.OutsBIdeal.nD Cert.OutsBIdeal.τ).loc Cert.OutsBIdeal.main_arg1) = m ((c.tc : Thread Cert.OutsBIdeal.nD Cert.OutsBIdeal.τ).loc Cert.OutsBIdeal.main_arg1)
          ∧ r.2.mem ((c.tc : Thread Cert.OutsBIdeal.nD Cert.OutsBIdeal.τ).loc Cert.OutsBIdeal.main_arg2) = m ((c.tc : Thread Cert.OutsBIdeal.nD Cert.OutsBIdeal.τ).loc Cert.OutsBIdeal.main_arg2))
      ∧ θ_run (Cert.PlainOutsBIdeal.defs (F := Ideal)) (onTc (τ := Cert.PlainOutsBIdeal.τ) (Cert.PlainOutsBIdeal.main (F := Ideal))) ⟨m', fun _ => 0, g'⟩ (fun r => ∀ c : Dev Cert.PlainOutsBIdeal.nD,
          r.2.mem ((c.tc : Thread Cert.PlainOutsBIdeal.nD Cert.PlainOutsBIdeal.τ).loc Cert.PlainOutsBIdeal.main_v11) = v0 c
          ∧ r.2.mem ((c.tc : Thread Cert.PlainOutsBIdeal.nD Cert.PlainOutsBIdeal.τ).loc Cert.PlainOutsBIdeal.main_arg0) = m' ((c.tc : Thread Cert.PlainOutsBIdeal.nD Cert.PlainOutsBIdeal.τ).loc Cert.PlainOutsBIdeal.main_arg0)
          ∧ r.2.mem ((c.tc : Thread Cert.PlainOutsBIdeal.nD Cert.PlainOutsBIdeal.τ).loc Cert.PlainOutsBIdeal.main_arg1) = m' ((c.tc : Thread Cert.PlainOutsBIdeal.nD Cert.PlainOutsBIdeal.τ).loc Cert.PlainOutsBIdeal.main_arg1)
          ∧ r.2.mem ((c.tc : Thread Cert.PlainOutsBIdeal.nD Cert.PlainOutsBIdeal.τ).loc Cert.PlainOutsBIdeal.main_arg2) = m' ((c.tc : Thread Cert.PlainOutsBIdeal.nD Cert.PlainOutsBIdeal.τ).loc Cert.PlainOutsBIdeal.main_arg2))

def preserves_GatesB_GatesBIdeal : Prop :=
  True

def algebraic_GatesBIdeal_PlainGatesBIdeal [hGatesBIdeal : Cert.GatesBIdeal.Facts] [hPlainGatesBIdeal : Cert.PlainGatesBIdeal.Facts] : Prop :=
  ∀ (m : (ℓ : Loc Cert.GatesBIdeal.nD Cert.GatesBIdeal.τ Cert.GatesBIdeal.sig) → Buf (Elt Ideal) ℓ) (g : Dev Cert.GatesBIdeal.nD → PrngReg)
    (m' : (ℓ : Loc Cert.PlainGatesBIdeal.nD Cert.PlainGatesBIdeal.τ Cert.PlainGatesBIdeal.sig) → Buf (Elt Ideal) ℓ) (g' : Dev Cert.PlainGatesBIdeal.nD → PrngReg), Pre_GatesBIdeal m →
    (∀ c : Dev Cert.GatesBIdeal.nD,
      m' ((c.tc : Thread Cert.PlainGatesBIdeal.nD Cert.PlainGatesBIdeal.τ).loc Cert.PlainGatesBIdeal.main_arg0) = m ((c.tc : Thread Cert.GatesBIdeal.nD Cert.GatesBIdeal.τ).loc Cert.GatesBIdeal.main_arg0)
      ∧ m' ((c.tc : Thread Cert.PlainGatesBIdeal.nD Cert.PlainGatesBIdeal.τ).loc Cert.PlainGatesBIdeal.main_arg1) = m ((c.tc : Thread Cert.GatesBIdeal.nD Cert.GatesBIdeal.τ).loc Cert.GatesBIdeal.main_arg1)
      ∧ m' ((c.tc : Thread Cert.PlainGatesBIdeal.nD Cert.PlainGatesBIdeal.τ).loc Cert.PlainGatesBIdeal.main_arg2) = m ((c.tc : Thread Cert.GatesBIdeal.nD Cert.GatesBIdeal.τ).loc Cert.GatesBIdeal.main_arg2)) →
    ∃ (v0 : (c : Dev Cert.GatesBIdeal.nD) → Buf (Elt Ideal) ((c.tc : Thread Cert.GatesBIdeal.nD Cert.GatesBIdeal.τ).loc Cert.GatesBIdeal.main_v7)),
      θ_run (Cert.GatesBIdeal.defs (F := Ideal)) (onTc (τ := Cert.GatesBIdeal.τ) (Cert.GatesBIdeal.main (F := Ideal))) ⟨m, fun _ => 0, g⟩ (fun r => ∀ c : Dev Cert.GatesBIdeal.nD,
          r.2.mem ((c.tc : Thread Cert.GatesBIdeal.nD Cert.GatesBIdeal.τ).loc Cert.GatesBIdeal.main_v7) = v0 c
          ∧ r.2.mem ((c.tc : Thread Cert.GatesBIdeal.nD Cert.GatesBIdeal.τ).loc Cert.GatesBIdeal.main_arg0) = m ((c.tc : Thread Cert.GatesBIdeal.nD Cert.GatesBIdeal.τ).loc Cert.GatesBIdeal.main_arg0)
          ∧ r.2.mem ((c.tc : Thread Cert.GatesBIdeal.nD Cert.GatesBIdeal.τ).loc Cert.GatesBIdeal.main_arg1) = m ((c.tc : Thread Cert.GatesBIdeal.nD Cert.GatesBIdeal.τ).loc Cert.GatesBIdeal.main_arg1)
          ∧ r.2.mem ((c.tc : Thread Cert.GatesBIdeal.nD Cert.GatesBIdeal.τ).loc Cert.GatesBIdeal.main_arg2) = m ((c.tc : Thread Cert.GatesBIdeal.nD Cert.GatesBIdeal.τ).loc Cert.GatesBIdeal.main_arg2))
      ∧ θ_run (Cert.PlainGatesBIdeal.defs (F := Ideal)) (onTc (τ := Cert.PlainGatesBIdeal.τ) (Cert.PlainGatesBIdeal.main (F := Ideal))) ⟨m', fun _ => 0, g'⟩ (fun r => ∀ c : Dev Cert.PlainGatesBIdeal.nD,
          r.2.mem ((c.tc : Thread Cert.PlainGatesBIdeal.nD Cert.PlainGatesBIdeal.τ).loc Cert.PlainGatesBIdeal.main_v13) = v0 c
          ∧ r.2.mem ((c.tc : Thread Cert.PlainGatesBIdeal.nD Cert.PlainGatesBIdeal.τ).loc Cert.PlainGatesBIdeal.main_arg0) = m' ((c.tc : Thread Cert.PlainGatesBIdeal.nD Cert.PlainGatesBIdeal.τ).loc Cert.PlainGatesBIdeal.main_arg0)
          ∧ r.2.mem ((c.tc : Thread Cert.PlainGatesBIdeal.nD Cert.PlainGatesBIdeal.τ).loc Cert.PlainGatesBIdeal.main_arg1) = m' ((c.tc : Thread Cert.PlainGatesBIdeal.nD Cert.PlainGatesBIdeal.τ).loc Cert.PlainGatesBIdeal.main_arg1)
          ∧ r.2.mem ((c.tc : Thread Cert.PlainGatesBIdeal.nD Cert.PlainGatesBIdeal.τ).loc Cert.PlainGatesBIdeal.main_arg2) = m' ((c.tc : Thread Cert.PlainGatesBIdeal.nD Cert.PlainGatesBIdeal.τ).loc Cert.PlainGatesBIdeal.main_arg2))

def preserves_StreamsB_StreamsBIdeal : Prop :=
  True

def algebraic_StreamsBIdeal_PlainStreamsBIdeal [hStreamsBIdeal : Cert.StreamsBIdeal.Facts] [hPlainStreamsBIdeal : Cert.PlainStreamsBIdeal.Facts] : Prop :=
  ∀ (m : (ℓ : Loc Cert.StreamsBIdeal.nD Cert.StreamsBIdeal.τ Cert.StreamsBIdeal.sig) → Buf (Elt Ideal) ℓ) (g : Dev Cert.StreamsBIdeal.nD → PrngReg)
    (m' : (ℓ : Loc Cert.PlainStreamsBIdeal.nD Cert.PlainStreamsBIdeal.τ Cert.PlainStreamsBIdeal.sig) → Buf (Elt Ideal) ℓ) (g' : Dev Cert.PlainStreamsBIdeal.nD → PrngReg), Pre_StreamsBIdeal m →
    (∀ c : Dev Cert.StreamsBIdeal.nD,
      m' ((c.tc : Thread Cert.PlainStreamsBIdeal.nD Cert.PlainStreamsBIdeal.τ).loc Cert.PlainStreamsBIdeal.main_arg0) = m ((c.tc : Thread Cert.StreamsBIdeal.nD Cert.StreamsBIdeal.τ).loc Cert.StreamsBIdeal.main_arg0)
      ∧ m' ((c.tc : Thread Cert.PlainStreamsBIdeal.nD Cert.PlainStreamsBIdeal.τ).loc Cert.PlainStreamsBIdeal.main_arg1) = m ((c.tc : Thread Cert.StreamsBIdeal.nD Cert.StreamsBIdeal.τ).loc Cert.StreamsBIdeal.main_arg1)
      ∧ m' ((c.tc : Thread Cert.PlainStreamsBIdeal.nD Cert.PlainStreamsBIdeal.τ).loc Cert.PlainStreamsBIdeal.main_arg2) = m ((c.tc : Thread Cert.StreamsBIdeal.nD Cert.StreamsBIdeal.τ).loc Cert.StreamsBIdeal.main_arg2)) →
    ∃ (v0 : (c : Dev Cert.StreamsBIdeal.nD) → Buf (Elt Ideal) ((c.tc : Thread Cert.StreamsBIdeal.nD Cert.StreamsBIdeal.τ).loc Cert.StreamsBIdeal.main_v7)),
      θ_run (Cert.StreamsBIdeal.defs (F := Ideal)) (onTc (τ := Cert.StreamsBIdeal.τ) (Cert.StreamsBIdeal.main (F := Ideal))) ⟨m, fun _ => 0, g⟩ (fun r => ∀ c : Dev Cert.StreamsBIdeal.nD,
          r.2.mem ((c.tc : Thread Cert.StreamsBIdeal.nD Cert.StreamsBIdeal.τ).loc Cert.StreamsBIdeal.main_v7) = v0 c
          ∧ r.2.mem ((c.tc : Thread Cert.StreamsBIdeal.nD Cert.StreamsBIdeal.τ).loc Cert.StreamsBIdeal.main_arg0) = m ((c.tc : Thread Cert.StreamsBIdeal.nD Cert.StreamsBIdeal.τ).loc Cert.StreamsBIdeal.main_arg0)
          ∧ r.2.mem ((c.tc : Thread Cert.StreamsBIdeal.nD Cert.StreamsBIdeal.τ).loc Cert.StreamsBIdeal.main_arg1) = m ((c.tc : Thread Cert.StreamsBIdeal.nD Cert.StreamsBIdeal.τ).loc Cert.StreamsBIdeal.main_arg1)
          ∧ r.2.mem ((c.tc : Thread Cert.StreamsBIdeal.nD Cert.StreamsBIdeal.τ).loc Cert.StreamsBIdeal.main_arg2) = m ((c.tc : Thread Cert.StreamsBIdeal.nD Cert.StreamsBIdeal.τ).loc Cert.StreamsBIdeal.main_arg2))
      ∧ θ_run (Cert.PlainStreamsBIdeal.defs (F := Ideal)) (onTc (τ := Cert.PlainStreamsBIdeal.τ) (Cert.PlainStreamsBIdeal.main (F := Ideal))) ⟨m', fun _ => 0, g'⟩ (fun r => ∀ c : Dev Cert.PlainStreamsBIdeal.nD,
          r.2.mem ((c.tc : Thread Cert.PlainStreamsBIdeal.nD Cert.PlainStreamsBIdeal.τ).loc Cert.PlainStreamsBIdeal.main_v13) = v0 c
          ∧ r.2.mem ((c.tc : Thread Cert.PlainStreamsBIdeal.nD Cert.PlainStreamsBIdeal.τ).loc Cert.PlainStreamsBIdeal.main_arg0) = m' ((c.tc : Thread Cert.PlainStreamsBIdeal.nD Cert.PlainStreamsBIdeal.τ).loc Cert.PlainStreamsBIdeal.main_arg0)
          ∧ r.2.mem ((c.tc : Thread Cert.PlainStreamsBIdeal.nD Cert.PlainStreamsBIdeal.τ).loc Cert.PlainStreamsBIdeal.main_arg1) = m' ((c.tc : Thread Cert.PlainStreamsBIdeal.nD Cert.PlainStreamsBIdeal.τ).loc Cert.PlainStreamsBIdeal.main_arg1)
          ∧ r.2.mem ((c.tc : Thread Cert.PlainStreamsBIdeal.nD Cert.PlainStreamsBIdeal.τ).loc Cert.PlainStreamsBIdeal.main_arg2) = m' ((c.tc : Thread Cert.PlainStreamsBIdeal.nD Cert.PlainStreamsBIdeal.τ).loc Cert.PlainStreamsBIdeal.main_arg2))

def preserves_MixesB_MixesBIdeal : Prop :=
  True

def algebraic_MixesBIdeal_PlainMixesBIdeal [hMixesBIdeal : Cert.MixesBIdeal.Facts] [hPlainMixesBIdeal : Cert.PlainMixesBIdeal.Facts] : Prop :=
  ∀ (m : (ℓ : Loc Cert.MixesBIdeal.nD Cert.MixesBIdeal.τ Cert.MixesBIdeal.sig) → Buf (Elt Ideal) ℓ) (g : Dev Cert.MixesBIdeal.nD → PrngReg)
    (m' : (ℓ : Loc Cert.PlainMixesBIdeal.nD Cert.PlainMixesBIdeal.τ Cert.PlainMixesBIdeal.sig) → Buf (Elt Ideal) ℓ) (g' : Dev Cert.PlainMixesBIdeal.nD → PrngReg), Pre_MixesBIdeal m →
    (∀ c : Dev Cert.MixesBIdeal.nD,
      m' ((c.tc : Thread Cert.PlainMixesBIdeal.nD Cert.PlainMixesBIdeal.τ).loc Cert.PlainMixesBIdeal.main_arg0) = m ((c.tc : Thread Cert.MixesBIdeal.nD Cert.MixesBIdeal.τ).loc Cert.MixesBIdeal.main_arg0)
      ∧ m' ((c.tc : Thread Cert.PlainMixesBIdeal.nD Cert.PlainMixesBIdeal.τ).loc Cert.PlainMixesBIdeal.main_arg1) = m ((c.tc : Thread Cert.MixesBIdeal.nD Cert.MixesBIdeal.τ).loc Cert.MixesBIdeal.main_arg1)
      ∧ m' ((c.tc : Thread Cert.PlainMixesBIdeal.nD Cert.PlainMixesBIdeal.τ).loc Cert.PlainMixesBIdeal.main_arg2) = m ((c.tc : Thread Cert.MixesBIdeal.nD Cert.MixesBIdeal.τ).loc Cert.MixesBIdeal.main_arg2)) →
    ∃ (v0 : (c : Dev Cert.MixesBIdeal.nD) → Buf (Elt Ideal) ((c.tc : Thread Cert.MixesBIdeal.nD Cert.MixesBIdeal.τ).loc Cert.MixesBIdeal.main_v7)),
      θ_run (Cert.MixesBIdeal.defs (F := Ideal)) (onTc (τ := Cert.MixesBIdeal.τ) (Cert.MixesBIdeal.main (F := Ideal))) ⟨m, fun _ => 0, g⟩ (fun r => ∀ c : Dev Cert.MixesBIdeal.nD,
          r.2.mem ((c.tc : Thread Cert.MixesBIdeal.nD Cert.MixesBIdeal.τ).loc Cert.MixesBIdeal.main_v7) = v0 c
          ∧ r.2.mem ((c.tc : Thread Cert.MixesBIdeal.nD Cert.MixesBIdeal.τ).loc Cert.MixesBIdeal.main_arg0) = m ((c.tc : Thread Cert.MixesBIdeal.nD Cert.MixesBIdeal.τ).loc Cert.MixesBIdeal.main_arg0)
          ∧ r.2.mem ((c.tc : Thread Cert.MixesBIdeal.nD Cert.MixesBIdeal.τ).loc Cert.MixesBIdeal.main_arg1) = m ((c.tc : Thread Cert.MixesBIdeal.nD Cert.MixesBIdeal.τ).loc Cert.MixesBIdeal.main_arg1)
          ∧ r.2.mem ((c.tc : Thread Cert.MixesBIdeal.nD Cert.MixesBIdeal.τ).loc Cert.MixesBIdeal.main_arg2) = m ((c.tc : Thread Cert.MixesBIdeal.nD Cert.MixesBIdeal.τ).loc Cert.MixesBIdeal.main_arg2))
      ∧ θ_run (Cert.PlainMixesBIdeal.defs (F := Ideal)) (onTc (τ := Cert.PlainMixesBIdeal.τ) (Cert.PlainMixesBIdeal.main (F := Ideal))) ⟨m', fun _ => 0, g'⟩ (fun r => ∀ c : Dev Cert.PlainMixesBIdeal.nD,
          r.2.mem ((c.tc : Thread Cert.PlainMixesBIdeal.nD Cert.PlainMixesBIdeal.τ).loc Cert.PlainMixesBIdeal.main_v11) = v0 c
          ∧ r.2.mem ((c.tc : Thread Cert.PlainMixesBIdeal.nD Cert.PlainMixesBIdeal.τ).loc Cert.PlainMixesBIdeal.main_arg0) = m' ((c.tc : Thread Cert.PlainMixesBIdeal.nD Cert.PlainMixesBIdeal.τ).loc Cert.PlainMixesBIdeal.main_arg0)
          ∧ r.2.mem ((c.tc : Thread Cert.PlainMixesBIdeal.nD Cert.PlainMixesBIdeal.τ).loc Cert.PlainMixesBIdeal.main_arg1) = m' ((c.tc : Thread Cert.PlainMixesBIdeal.nD Cert.PlainMixesBIdeal.τ).loc Cert.PlainMixesBIdeal.main_arg1)
          ∧ r.2.mem ((c.tc : Thread Cert.PlainMixesBIdeal.nD Cert.PlainMixesBIdeal.τ).loc Cert.PlainMixesBIdeal.main_arg2) = m' ((c.tc : Thread Cert.PlainMixesBIdeal.nD Cert.PlainMixesBIdeal.τ).loc Cert.PlainMixesBIdeal.main_arg2))

def Claim : Prop :=
  ∃ (hKernel : Cert.Kernel.Facts) (hKernelIdeal : Cert.KernelIdeal.Facts) (hReferenceIdeal : Cert.ReferenceIdeal.Facts) (hValues : Cert.Values.Facts) (hValuesIdeal : Cert.ValuesIdeal.Facts) (hPlainValuesIdeal : Cert.PlainValuesIdeal.Facts) (hKeys : Cert.Keys.Facts) (hKeysIdeal : Cert.KeysIdeal.Facts) (hPlainKeysIdeal : Cert.PlainKeysIdeal.Facts) (hQueriesA : Cert.QueriesA.Facts) (hQueriesAIdeal : Cert.QueriesAIdeal.Facts) (hPlainQueriesAIdeal : Cert.PlainQueriesAIdeal.Facts) (hOutsA : Cert.OutsA.Facts) (hOutsAIdeal : Cert.OutsAIdeal.Facts) (hPlainOutsAIdeal : Cert.PlainOutsAIdeal.Facts) (hGatesA : Cert.GatesA.Facts) (hGatesAIdeal : Cert.GatesAIdeal.Facts) (hPlainGatesAIdeal : Cert.PlainGatesAIdeal.Facts) (hStreamsA : Cert.StreamsA.Facts) (hStreamsAIdeal : Cert.StreamsAIdeal.Facts) (hPlainStreamsAIdeal : Cert.PlainStreamsAIdeal.Facts) (hMixesA : Cert.MixesA.Facts) (hMixesAIdeal : Cert.MixesAIdeal.Facts) (hPlainMixesAIdeal : Cert.PlainMixesAIdeal.Facts) (hQueriesB : Cert.QueriesB.Facts) (hQueriesBIdeal : Cert.QueriesBIdeal.Facts) (hPlainQueriesBIdeal : Cert.PlainQueriesBIdeal.Facts) (hOutsB : Cert.OutsB.Facts) (hOutsBIdeal : Cert.OutsBIdeal.Facts) (hPlainOutsBIdeal : Cert.PlainOutsBIdeal.Facts) (hGatesB : Cert.GatesB.Facts) (hGatesBIdeal : Cert.GatesBIdeal.Facts) (hPlainGatesBIdeal : Cert.PlainGatesBIdeal.Facts) (hStreamsB : Cert.StreamsB.Facts) (hStreamsBIdeal : Cert.StreamsBIdeal.Facts) (hPlainStreamsBIdeal : Cert.PlainStreamsBIdeal.Facts) (hMixesB : Cert.MixesB.Facts) (hMixesBIdeal : Cert.MixesBIdeal.Facts) (hPlainMixesBIdeal : Cert.PlainMixesBIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Values (hValues := hValues)
    ∧ quiescent_ValuesIdeal (hValuesIdeal := hValuesIdeal)
    ∧ quiescent_PlainValuesIdeal (hPlainValuesIdeal := hPlainValuesIdeal)
    ∧ quiescent_Keys (hKeys := hKeys)
    ∧ quiescent_KeysIdeal (hKeysIdeal := hKeysIdeal)
    ∧ quiescent_PlainKeysIdeal (hPlainKeysIdeal := hPlainKeysIdeal)
    ∧ quiescent_QueriesA (hQueriesA := hQueriesA)
    ∧ quiescent_QueriesAIdeal (hQueriesAIdeal := hQueriesAIdeal)
    ∧ quiescent_PlainQueriesAIdeal (hPlainQueriesAIdeal := hPlainQueriesAIdeal)
    ∧ quiescent_OutsA (hOutsA := hOutsA)
    ∧ quiescent_OutsAIdeal (hOutsAIdeal := hOutsAIdeal)
    ∧ quiescent_PlainOutsAIdeal (hPlainOutsAIdeal := hPlainOutsAIdeal)
    ∧ quiescent_GatesA (hGatesA := hGatesA)
    ∧ quiescent_GatesAIdeal (hGatesAIdeal := hGatesAIdeal)
    ∧ quiescent_PlainGatesAIdeal (hPlainGatesAIdeal := hPlainGatesAIdeal)
    ∧ quiescent_StreamsA (hStreamsA := hStreamsA)
    ∧ quiescent_StreamsAIdeal (hStreamsAIdeal := hStreamsAIdeal)
    ∧ quiescent_PlainStreamsAIdeal (hPlainStreamsAIdeal := hPlainStreamsAIdeal)
    ∧ quiescent_MixesA (hMixesA := hMixesA)
    ∧ quiescent_MixesAIdeal (hMixesAIdeal := hMixesAIdeal)
    ∧ quiescent_PlainMixesAIdeal (hPlainMixesAIdeal := hPlainMixesAIdeal)
    ∧ quiescent_QueriesB (hQueriesB := hQueriesB)
    ∧ quiescent_QueriesBIdeal (hQueriesBIdeal := hQueriesBIdeal)
    ∧ quiescent_PlainQueriesBIdeal (hPlainQueriesBIdeal := hPlainQueriesBIdeal)
    ∧ quiescent_OutsB (hOutsB := hOutsB)
    ∧ quiescent_OutsBIdeal (hOutsBIdeal := hOutsBIdeal)
    ∧ quiescent_PlainOutsBIdeal (hPlainOutsBIdeal := hPlainOutsBIdeal)
    ∧ quiescent_GatesB (hGatesB := hGatesB)
    ∧ quiescent_GatesBIdeal (hGatesBIdeal := hGatesBIdeal)
    ∧ quiescent_PlainGatesBIdeal (hPlainGatesBIdeal := hPlainGatesBIdeal)
    ∧ quiescent_StreamsB (hStreamsB := hStreamsB)
    ∧ quiescent_StreamsBIdeal (hStreamsBIdeal := hStreamsBIdeal)
    ∧ quiescent_PlainStreamsBIdeal (hPlainStreamsBIdeal := hPlainStreamsBIdeal)
    ∧ quiescent_MixesB (hMixesB := hMixesB)
    ∧ quiescent_MixesBIdeal (hMixesBIdeal := hMixesBIdeal)
    ∧ quiescent_PlainMixesBIdeal (hPlainMixesBIdeal := hPlainMixesBIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Values_ValuesIdeal
    ∧ algebraic_ValuesIdeal_PlainValuesIdeal (hValuesIdeal := hValuesIdeal) (hPlainValuesIdeal := hPlainValuesIdeal)
    ∧ preserves_Keys_KeysIdeal
    ∧ algebraic_KeysIdeal_PlainKeysIdeal (hKeysIdeal := hKeysIdeal) (hPlainKeysIdeal := hPlainKeysIdeal)
    ∧ preserves_QueriesA_QueriesAIdeal
    ∧ algebraic_QueriesAIdeal_PlainQueriesAIdeal (hQueriesAIdeal := hQueriesAIdeal) (hPlainQueriesAIdeal := hPlainQueriesAIdeal)
    ∧ preserves_OutsA_OutsAIdeal
    ∧ algebraic_OutsAIdeal_PlainOutsAIdeal (hOutsAIdeal := hOutsAIdeal) (hPlainOutsAIdeal := hPlainOutsAIdeal)
    ∧ preserves_GatesA_GatesAIdeal
    ∧ algebraic_GatesAIdeal_PlainGatesAIdeal (hGatesAIdeal := hGatesAIdeal) (hPlainGatesAIdeal := hPlainGatesAIdeal)
    ∧ preserves_StreamsA_StreamsAIdeal
    ∧ algebraic_StreamsAIdeal_PlainStreamsAIdeal (hStreamsAIdeal := hStreamsAIdeal) (hPlainStreamsAIdeal := hPlainStreamsAIdeal)
    ∧ preserves_MixesA_MixesAIdeal
    ∧ algebraic_MixesAIdeal_PlainMixesAIdeal (hMixesAIdeal := hMixesAIdeal) (hPlainMixesAIdeal := hPlainMixesAIdeal)
    ∧ preserves_QueriesB_QueriesBIdeal
    ∧ algebraic_QueriesBIdeal_PlainQueriesBIdeal (hQueriesBIdeal := hQueriesBIdeal) (hPlainQueriesBIdeal := hPlainQueriesBIdeal)
    ∧ preserves_OutsB_OutsBIdeal
    ∧ algebraic_OutsBIdeal_PlainOutsBIdeal (hOutsBIdeal := hOutsBIdeal) (hPlainOutsBIdeal := hPlainOutsBIdeal)
    ∧ preserves_GatesB_GatesBIdeal
    ∧ algebraic_GatesBIdeal_PlainGatesBIdeal (hGatesBIdeal := hGatesBIdeal) (hPlainGatesBIdeal := hPlainGatesBIdeal)
    ∧ preserves_StreamsB_StreamsBIdeal
    ∧ algebraic_StreamsBIdeal_PlainStreamsBIdeal (hStreamsBIdeal := hStreamsBIdeal) (hPlainStreamsBIdeal := hPlainStreamsBIdeal)
    ∧ preserves_MixesB_MixesBIdeal
    ∧ algebraic_MixesBIdeal_PlainMixesBIdeal (hMixesBIdeal := hMixesBIdeal) (hPlainMixesBIdeal := hPlainMixesBIdeal)
-- ==== Pre_finite.lean ====
abbrev S4x2064x16x128 : Shape := ⟨4, ![4, 2064, 16, 128]⟩
abbrev S4x2064x8x256 : Shape := ⟨4, ![4, 2064, 8, 256]⟩
abbrev S2x4x128 : Shape := ⟨3, ![2, 4, 128]⟩
abbrev S2x256 : Shape := ⟨2, ![2, 256]⟩
abbrev S_ : Shape := ⟨0, ![]⟩

class Facts : Prop where
  bcast_S_S4x2064x16x128 : S_.BroadcastsInDim S4x2064x16x128 (![] : Fin 0 → Fin S4x2064x16x128.rank)
  bcast_S_S4x2064x8x256 : S_.BroadcastsInDim S4x2064x8x256 (![] : Fin 0 → Fin S4x2064x8x256.rank)
  bcast_S_S2x4x128 : S_.BroadcastsInDim S2x4x128 (![] : Fin 0 → Fin S2x4x128.rank)

variable [Facts]

def fn {F : FTy → Type} [FloatOps F] (main_arg0 : FVec F S4x2064x16x128 .f32) (main_arg1 : FVec F S4x2064x16x128 .f32) (main_arg2 : FVec F S4x2064x8x256 .f32) (main_arg3 : FVec F S2x4x128 .f32) (main_arg4 : FVec F S2x256 .f32) : IVec S4x2064x16x128 1 × IVec S4x2064x16x128 1 × IVec S4x2064x8x256 1 × IVec S2x4x128 1 :=
  let main_v0 : FVec F S4x2064x16x128 .f32 := Host.absf main_arg0
  let main_cst : FVec F S_ .f32 := constant S_ .f32 0x7F800000#32
  let main_v1 : FVec F S4x2064x16x128 .f32 := broadcastInDim S4x2064x16x128 ![] bcast_S_S4x2064x16x128 main_cst
  let main_v2 : IVec S4x2064x16x128 1 := cmpf .olt main_v0 main_v1
  let main_v3 : FVec F S4x2064x16x128 .f32 := Host.absf main_arg1
  let main_cst_0 : FVec F S_ .f32 := constant S_ .f32 0x7F800000#32
  let main_v4 : FVec F S4x2064x16x128 .f32 := broadcastInDim S4x2064x16x128 ![] bcast_S_S4x2064x16x128 main_cst_0
  let main_v5 : IVec S4x2064x16x128 1 := cmpf .olt main_v3 main_v4
  let main_v6 : FVec F S4x2064x8x256 .f32 := Host.absf main_arg2
  let main_cst_1 : FVec F S_ .f32 := constant S_ .f32 0x7F800000#32
  let main_v7 : FVec F S4x2064x8x256 .f32 := broadcastInDim S4x2064x8x256 ![] bcast_S_S4x2064x8x256 main_cst_1
  let main_v8 : IVec S4x2064x8x256 1 := cmpf .olt main_v6 main_v7
  let main_v9 : FVec F S2x4x128 .f32 := Host.absf main_arg3
  let main_cst_2 : FVec F S_ .f32 := constant S_ .f32 0x7F800000#32
  let main_v10 : FVec F S2x4x128 .f32 := broadcastInDim S2x4x128 ![] bcast_S_S2x4x128 main_cst_2
  let main_v11 : IVec S2x4x128 1 := cmpf .olt main_v9 main_v10
  (main_v2, main_v5, main_v8, main_v11)
-- ==== Kernel.lean ====
abbrev S4x2064x16x128 : Shape := ⟨4, ![4, 2064, 16, 128]⟩
abbrev S4x2064x8x256 : Shape := ⟨4, ![4, 2064, 8, 256]⟩
abbrev S2x4x128 : Shape := ⟨3, ![2, 4, 128]⟩
abbrev S2x256 : Shape := ⟨2, ![2, 256]⟩
abbrev S4x2064x2048 : Shape := ⟨3, ![4, 2064, 2048]⟩
abbrev S4x2048x2048 : Shape := ⟨3, ![4, 2048, 2048]⟩
abbrev S8192x2048 : Shape := ⟨2, ![8192, 2048]⟩
abbrev S4x16x2048 : Shape := ⟨3, ![4, 16, 2048]⟩
abbrev S64x2048 : Shape := ⟨2, ![64, 2048]⟩
abbrev S_ : Shape := ⟨0, ![]⟩
abbrev S8320x2048 : Shape := ⟨2, ![8320, 2048]⟩
abbrev S2x1x256 : Shape := ⟨3, ![2, 1, 256]⟩
abbrev S512x256 : Shape := ⟨2, ![512, 256]⟩
abbrev S2048x256 : Shape := ⟨2, ![2048, 256]⟩
abbrev S16x256 : Shape := ⟨2, ![16, 256]⟩
abbrev S1x4x128 : Shape := ⟨3, ![1, 4, 128]⟩
abbrev S1x1x256 : Shape := ⟨3, ![1, 1, 256]⟩
abbrev S2x512x128 : Shape := ⟨3, ![2, 512, 128]⟩
abbrev S2x512x256 : Shape := ⟨3, ![2, 512, 256]⟩
abbrev S128x256 : Shape := ⟨2, ![128, 256]⟩
abbrev S512x128 : Shape := ⟨2, ![512, 128]⟩
abbrev S512x512 : Shape := ⟨2, ![512, 512]⟩
abbrev S128x128 : Shape := ⟨2, ![128, 128]⟩
abbrev S1x512x128 : Shape := ⟨3, ![1, 512, 128]⟩
abbrev S512 : Shape := ⟨1, ![512]⟩
abbrev S512x1 : Shape := ⟨2, ![512, 1]⟩
abbrev S1x512x256 : Shape := ⟨3, ![1, 512, 256]⟩
abbrev S4x128 : Shape := ⟨2, ![4, 128]⟩
abbrev S1x128 : Shape := ⟨2, ![1, 128]⟩
abbrev S1 : Shape := ⟨1, ![1]⟩
abbrev S1x1 : Shape := ⟨2, ![1, 1]⟩
abbrev S1x256 : Shape := ⟨2, ![1, 256]⟩

abbrev nBuf : Space → Nat
  | .hbm => 31
  | .vmem => 21
  | .smem => 0
  | _ => 0

abbrev bufTy : (tb : Table) → Fin (tcTables nBuf tb) → BufTy
  | .hbm, ⟨0, _⟩ => ⟨S4x2064x16x128, .f32⟩
  | .hbm, ⟨1, _⟩ => ⟨S4x2064x16x128, .f32⟩
  | .hbm, ⟨2, _⟩ => ⟨S4x2064x8x256, .f32⟩
  | .hbm, ⟨3, _⟩ => ⟨S2x4x128, .f32⟩
  | .hbm, ⟨4, _⟩ => ⟨S2x256, .f32⟩
  | .hbm, ⟨5, _⟩ => ⟨S4x2064x2048, .f32⟩
  | .hbm, ⟨6, _⟩ => ⟨S4x2048x2048, .f32⟩
  | .hbm, ⟨7, _⟩ => ⟨S8192x2048, .f32⟩
  | .hbm, ⟨8, _⟩ => ⟨S4x16x2048, .f32⟩
  | .hbm, ⟨9, _⟩ => ⟨S64x2048, .f32⟩
  | .hbm, ⟨10, _⟩ => ⟨S_, .f32⟩
  | .hbm, ⟨11, _⟩ => ⟨S64x2048, .f32⟩
  | .hbm, ⟨12, _⟩ => ⟨S8320x2048, .f32⟩
  | .hbm, ⟨13, _⟩ => ⟨S4x2064x2048, .f32⟩
  | .hbm, ⟨14, _⟩ => ⟨S4x2048x2048, .f32⟩
  | .hbm, ⟨15, _⟩ => ⟨S8192x2048, .f32⟩
  | .hbm, ⟨16, _⟩ => ⟨S4x16x2048, .f32⟩
  | .hbm, ⟨17, _⟩ => ⟨S64x2048, .f32⟩
  | .hbm, ⟨18, _⟩ => ⟨S_, .f32⟩
  | .hbm, ⟨19, _⟩ => ⟨S64x2048, .f32⟩
  | .hbm, ⟨20, _⟩ => ⟨S8320x2048, .f32⟩
  | .hbm, ⟨21, _⟩ => ⟨S4x2064x2048, .f32⟩
  | .hbm, ⟨22, _⟩ => ⟨S4x2048x2048, .f32⟩
  | .hbm, ⟨23, _⟩ => ⟨S8192x2048, .f32⟩
  | .hbm, ⟨24, _⟩ => ⟨S4x16x2048, .f32⟩
  | .hbm, ⟨25, _⟩ => ⟨S64x2048, .f32⟩
  | .hbm, ⟨26, _⟩ => ⟨S_, .f32⟩
  | .hbm, ⟨27, _⟩ => ⟨S64x2048, .f32⟩
  | .hbm, ⟨28, _⟩ => ⟨S8320x2048, .f32⟩
  | .hbm, ⟨29, _⟩ => ⟨S2x1x256, .f32⟩
  | .hbm, ⟨30, _⟩ => ⟨S8192x2048, .bf16⟩
  | .local _ .vmem, ⟨0, _⟩ => ⟨S512x256, .f32⟩
  | .local _ .vmem, ⟨1, _⟩ => ⟨S512x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S16x256, .f32⟩
  | .local _ .vmem, ⟨7, _⟩ => ⟨S16x256, .f32⟩
  | .local _ .vmem, ⟨8, _⟩ => ⟨S16x256, .f32⟩
  | .local _ .vmem, ⟨9, _⟩ => ⟨S16x256, .f32⟩
  | .local _ .vmem, ⟨10, _⟩ => ⟨S1x4x128, .f32⟩
  | .local _ .vmem, ⟨11, _⟩ => ⟨S1x1x256, .f32⟩
  | .local _ .vmem, ⟨12, _⟩ => ⟨S512x256, .bf16⟩
  | .local _ .vmem, ⟨13, _⟩ => ⟨S512x256, .bf16⟩
  | .local _ .vmem, ⟨14, _⟩ => ⟨S2x512x128, .f32⟩
  | .local _ .vmem, ⟨15, _⟩ => ⟨S2x512x128, .f32⟩
  | .local _ .vmem, ⟨16, _⟩ => ⟨S2x512x256, .f32⟩
  | .local _ .vmem, ⟨17, _⟩ => ⟨S2048x256, .bf16⟩
  | .local _ .vmem, ⟨18, _⟩ => ⟨S2048x256, .bf16⟩
  | .local _ .vmem, ⟨19, _⟩ => ⟨S128x256, .bf16⟩
  | .local _ .vmem, ⟨20, _⟩ => ⟨S128x256, .bf16⟩
  | _, _ => ⟨S4x2064x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 8, 4], ![false, false, false]⟩

def k0_mult1 (i : grid0.Coords) : BitVec 32 :=
  let arg2 : BitVec 32 := BitVec.ofNat 32 (i 2).val
  let c512_i32 : BitVec 32 := 512#32
  let v24 : BitVec 32 := Scalar.muli arg2 c512_i32
  v24
def k0_off1 (i : grid0.Coords) : Fin 2 → Nat :=
  let arg2 : BitVec 32 := BitVec.ofNat 32 (i 2).val
  let c512_i32 : BitVec 32 := 512#32
  let v24 : BitVec 32 := Scalar.muli arg2 c512_i32
  let v25 : BitVec 32 := v24
  let v26 : Index := Scalar.indexCast v25
  let c0_14 : Index := 0#32
  ![v26.toNat, 0]
@[reducible] def k0_t1_loop (i : grid0.Coords) : Scf.Loop 32 :=
  let c0_i32_117 : BitVec 32 := 0#32
  let arg2 : BitVec 32 := BitVec.ofNat 32 (i 2).val
  let c0_i32_111 : BitVec 32 := 0#32
  let v186 : BitVec 1 := Scalar.cmpi .sgt arg2 c0_i32_111
  let v187 : BitVec 32 := Scalar.extui v186
  let c0_i32_112 : BitVec 32 := 0#32
  let v188 : BitVec 1 := Scalar.cmpi .slt arg2 c0_i32_112
  let v189 : BitVec 32 := Scalar.extui v188
  let v190 : BitVec 32 := Scalar.subi v187 v189
  let c2_i32 : BitVec 32 := 2#32
  let c0_i32_113 : BitVec 32 := 0#32
  let v191 : BitVec 1 := Scalar.cmpi .sgt c2_i32 c0_i32_113
  let v192 : BitVec 32 := Scalar.extui v191
  let c0_i32_114 : BitVec 32 := 0#32
  let v193 : BitVec 1 := Scalar.cmpi .slt c2_i32 c0_i32_114
  let v194 : BitVec 32 := Scalar.extui v193
  let v195 : BitVec 32 := Scalar.subi v192 v194
  let v196 : BitVec 1 := Scalar.cmpi .ne v190 v195
  let v197 : BitVec 32 := Scalar.remsi arg2 c2_i32
  let c0_i32_115 : BitVec 32 := 0#32
  let v198 : BitVec 1 := Scalar.cmpi .ne v197 c0_i32_115
  let v199 : BitVec 1 := Scalar.andi v196 v198
  let v185 : BitVec 32 := Scalar.divsi arg2 c2_i32
  let c1_i32 : BitVec 32 := 1#32
  let v200 : BitVec 32 := Scalar.subi v185 c1_i32
  let v201 : BitVec 32 := Scalar.select v199 v200 v185
  let v202 : BitVec 32 := Scalar.subi v201 c0_i32_117
  let c1_i32_118 : BitVec 32 := 1#32
  let v204 : BitVec 32 := Scalar.divsi v202 c1_i32_118
  let v205 : BitVec 32 := Scalar.muli v204 c1_i32_118
  let v206 : BitVec 32 := Scalar.addi c0_i32_117 v205
  let c1_i32_119 : BitVec 32 := 1#32
  ⟨c0_i32_117, v206, c1_i32_119⟩
def k0_mult2 (i : grid0.Coords) (k0_t1 : Fin (k0_t1_loop i).trips) : BitVec 32 :=
  let c2_i32_156 : BitVec 32 := 2#32
  let c0_i32_117 : BitVec 32 := 0#32
  let c1_i32_119 : BitVec 32 := 1#32
  let arg18 : BitVec 32 := Scf.iv c0_i32_117 c1_i32_119 k0_t1
  let v270 : BitVec 32 := Scalar.muli c2_i32_156 arg18
  let c512_i32_157 : BitVec 32 := 512#32
  let v271 : BitVec 32 := Scalar.muli v270 c512_i32_157
  v271
def k0_off2 (i : grid0.Coords) (k0_t1 : Fin (k0_t1_loop i).trips) : Fin 2 → Nat :=
  let c2_i32_156 : BitVec 32 := 2#32
  let c0_i32_117 : BitVec 32 := 0#32
  let c1_i32_119 : BitVec 32 := 1#32
  let arg18 : BitVec 32 := Scf.iv c0_i32_117 c1_i32_119 k0_t1
  let v270 : BitVec 32 := Scalar.muli c2_i32_156 arg18
  let c512_i32_157 : BitVec 32 := 512#32
  let v271 : BitVec 32 := Scalar.muli v270 c512_i32_157
  let v272 : BitVec 32 := v271
  let v273 : Index := Scalar.indexCast v272
  let c0_158 : Index := 0#32
  ![v273.toNat, 0]
def k0_mult3 (i : grid0.Coords) (k0_t1 : Fin (k0_t1_loop i).trips) : BitVec 32 :=
  let c2_i32_160 : BitVec 32 := 2#32
  let c0_i32_117 : BitVec 32 := 0#32
  let c1_i32_119 : BitVec 32 := 1#32
  let arg18 : BitVec 32 := Scf.iv c0_i32_117 c1_i32_119 k0_t1
  let v277 : BitVec 32 := Scalar.muli c2_i32_160 arg18
  let c1_i32_161 : BitVec 32 := 1#32
  let v278 : BitVec 32 := Scalar.addi v277 c1_i32_161
  let c512_i32_162 : BitVec 32 := 512#32
  let v279 : BitVec 32 := Scalar.muli v278 c512_i32_162
  v279
def k0_off3 (i : grid0.Coords) (k0_t1 : Fin (k0_t1_loop i).trips) : Fin 2 → Nat :=
  let c2_i32_160 : BitVec 32 := 2#32
  let c0_i32_117 : BitVec 32 := 0#32
  let c1_i32_119 : BitVec 32 := 1#32
  let arg18 : BitVec 32 := Scf.iv c0_i32_117 c1_i32_119 k0_t1
  let v277 : BitVec 32 := Scalar.muli c2_i32_160 arg18
  let c1_i32_161 : BitVec 32 := 1#32
  let v278 : BitVec 32 := Scalar.addi v277 c1_i32_161
  let c512_i32_162 : BitVec 32 := 512#32
  let v279 : BitVec 32 := Scalar.muli v278 c512_i32_162
  let v280 : BitVec 32 := v279
  let v281 : Index := Scalar.indexCast v280
  let c0_163 : Index := 0#32
  ![v281.toNat, 0]
@[reducible] def k0_t2_loop (i : grid0.Coords) : Scf.Loop 32 :=
  let c0_i32_117 : BitVec 32 := 0#32
  let arg2 : BitVec 32 := BitVec.ofNat 32 (i 2).val
  let c0_i32_111 : BitVec 32 := 0#32
  let v186 : BitVec 1 := Scalar.cmpi .sgt arg2 c0_i32_111
  let v187 : BitVec 32 := Scalar.extui v186
  let c0_i32_112 : BitVec 32 := 0#32
  let v188 : BitVec 1 := Scalar.cmpi .slt arg2 c0_i32_112
  let v189 : BitVec 32 := Scalar.extui v188
  let v190 : BitVec 32 := Scalar.subi v187 v189
  let c2_i32 : BitVec 32 := 2#32
  let c0_i32_113 : BitVec 32 := 0#32
  let v191 : BitVec 1 := Scalar.cmpi .sgt c2_i32 c0_i32_113
  let v192 : BitVec 32 := Scalar.extui v191
  let c0_i32_114 : BitVec 32 := 0#32
  let v193 : BitVec 1 := Scalar.cmpi .slt c2_i32 c0_i32_114
  let v194 : BitVec 32 := Scalar.extui v193
  let v195 : BitVec 32 := Scalar.subi v192 v194
  let v196 : BitVec 1 := Scalar.cmpi .ne v190 v195
  let v197 : BitVec 32 := Scalar.remsi arg2 c2_i32
  let c0_i32_115 : BitVec 32 := 0#32
  let v198 : BitVec 1 := Scalar.cmpi .ne v197 c0_i32_115
  let v199 : BitVec 1 := Scalar.andi v196 v198
  let v185 : BitVec 32 := Scalar.divsi arg2 c2_i32
  let c1_i32 : BitVec 32 := 1#32
  let v200 : BitVec 32 := Scalar.subi v185 c1_i32
  let v201 : BitVec 32 := Scalar.select v199 v200 v185
  let v202 : BitVec 32 := Scalar.subi v201 c0_i32_117
  let c1_i32_118 : BitVec 32 := 1#32
  let v204 : BitVec 32 := Scalar.divsi v202 c1_i32_118
  let v205 : BitVec 32 := Scalar.muli v204 c1_i32_118
  let v206 : BitVec 32 := Scalar.addi c0_i32_117 v205
  let v203 : BitVec 32 := Scalar.addi c0_i32_117 v202
  let c1_i32_120 : BitVec 32 := 1#32
  ⟨v206, v203, c1_i32_120⟩
def k0_mult4 (i : grid0.Coords) (k0_t2 : Fin (k0_t2_loop i).trips) : BitVec 32 :=
  let c2_i32_156 : BitVec 32 := 2#32
  let c0_i32_117 : BitVec 32 := 0#32
  let arg2 : BitVec 32 := BitVec.ofNat 32 (i 2).val
  let c0_i32_111 : BitVec 32 := 0#32
  let v186 : BitVec 1 := Scalar.cmpi .sgt arg2 c0_i32_111
  let v187 : BitVec 32 := Scalar.extui v186
  let c0_i32_112 : BitVec 32 := 0#32
  let v188 : BitVec 1 := Scalar.cmpi .slt arg2 c0_i32_112
  let v189 : BitVec 32 := Scalar.extui v188
  let v190 : BitVec 32 := Scalar.subi v187 v189
  let c2_i32 : BitVec 32 := 2#32
  let c0_i32_113 : BitVec 32 := 0#32
  let v191 : BitVec 1 := Scalar.cmpi .sgt c2_i32 c0_i32_113
  let v192 : BitVec 32 := Scalar.extui v191
  let c0_i32_114 : BitVec 32 := 0#32
  let v193 : BitVec 1 := Scalar.cmpi .slt c2_i32 c0_i32_114
  let v194 : BitVec 32 := Scalar.extui v193
  let v195 : BitVec 32 := Scalar.subi v192 v194
  let v196 : BitVec 1 := Scalar.cmpi .ne v190 v195
  let v197 : BitVec 32 := Scalar.remsi arg2 c2_i32
  let c0_i32_115 : BitVec 32 := 0#32
  let v198 : BitVec 1 := Scalar.cmpi .ne v197 c0_i32_115
  let v199 : BitVec 1 := Scalar.andi v196 v198
  let v185 : BitVec 32 := Scalar.divsi arg2 c2_i32
  let c1_i32 : BitVec 32 := 1#32
  let v200 : BitVec 32 := Scalar.subi v185 c1_i32
  let v201 : BitVec 32 := Scalar.select v199 v200 v185
  let v202 : BitVec 32 := Scalar.subi v201 c0_i32_117
  let c1_i32_118 : BitVec 32 := 1#32
  let v204 : BitVec 32 := Scalar.divsi v202 c1_i32_118
  let v205 : BitVec 32 := Scalar.muli v204 c1_i32_118
  let v206 : BitVec 32 := Scalar.addi c0_i32_117 v205
  let c1_i32_120 : BitVec 32 := 1#32
  let arg18 : BitVec 32 := Scf.iv v206 c1_i32_120 k0_t2
  let v270 : BitVec 32 := Scalar.muli c2_i32_156 arg18
  let c512_i32_157 : BitVec 32 := 512#32
  let v271 : BitVec 32 := Scalar.muli v270 c512_i32_157
  v271
def k0_off4 (i : grid0.Coords) (k0_t2 : Fin (k0_t2_loop i).trips) : Fin 2 → Nat :=
  let c2_i32_156 : BitVec 32 := 2#32
  let c0_i32_117 : BitVec 32 := 0#32
  let arg2 : BitVec 32 := BitVec.ofNat 32 (i 2).val
  let c0_i32_111 : BitVec 32 := 0#32
  let v186 : BitVec 1 := Scalar.cmpi .sgt arg2 c0_i32_111
  let v187 : BitVec 32 := Scalar.extui v186
  let c0_i32_112 : BitVec 32 := 0#32
  let v188 : BitVec 1 := Scalar.cmpi .slt arg2 c0_i32_112
  let v189 : BitVec 32 := Scalar.extui v188
  let v190 : BitVec 32 := Scalar.subi v187 v189
  let c2_i32 : BitVec 32 := 2#32
  let c0_i32_113 : BitVec 32 := 0#32
  let v191 : BitVec 1 := Scalar.cmpi .sgt c2_i32 c0_i32_113
  let v192 : BitVec 32 := Scalar.extui v191
  let c0_i32_114 : BitVec 32 := 0#32
  let v193 : BitVec 1 := Scalar.cmpi .slt c2_i32 c0_i32_114
  let v194 : BitVec 32 := Scalar.extui v193
  let v195 : BitVec 32 := Scalar.subi v192 v194
  let v196 : BitVec 1 := Scalar.cmpi .ne v190 v195
  let v197 : BitVec 32 := Scalar.remsi arg2 c2_i32
  let c0_i32_115 : BitVec 32 := 0#32
  let v198 : BitVec 1 := Scalar.cmpi .ne v197 c0_i32_115
  let v199 : BitVec 1 := Scalar.andi v196 v198
  let v185 : BitVec 32 := Scalar.divsi arg2 c2_i32
  let c1_i32 : BitVec 32 := 1#32
  let v200 : BitVec 32 := Scalar.subi v185 c1_i32
  let v201 : BitVec 32 := Scalar.select v199 v200 v185
  let v202 : BitVec 32 := Scalar.subi v201 c0_i32_117
  let c1_i32_118 : BitVec 32 := 1#32
  let v204 : BitVec 32 := Scalar.divsi v202 c1_i32_118
  let v205 : BitVec 32 := Scalar.muli v204 c1_i32_118
  let v206 : BitVec 32 := Scalar.addi c0_i32_117 v205
  let c1_i32_120 : BitVec 32 := 1#32
  let arg18 : BitVec 32 := Scf.iv v206 c1_i32_120 k0_t2
  let v270 : BitVec 32 := Scalar.muli c2_i32_156 arg18
  let c512_i32_157 : BitVec 32 := 512#32
  let v271 : BitVec 32 := Scalar.muli v270 c512_i32_157
  let v272 : BitVec 32 := v271
  let v273 : Index := Scalar.indexCast v272
  let c0_158 : Index := 0#32
  ![v273.toNat, 0]
def k0_mult5 (i : grid0.Coords) (k0_t2 : Fin (k0_t2_loop i).trips) : BitVec 32 :=
  let c2_i32_160 : BitVec 32 := 2#32
  let c0_i32_117 : BitVec 32 := 0#32
  let arg2 : BitVec 32 := BitVec.ofNat 32 (i 2).val
  let c0_i32_111 : BitVec 32 := 0#32
  let v186 : BitVec 1 := Scalar.cmpi .sgt arg2 c0_i32_111
  let v187 : BitVec 32 := Scalar.extui v186
  let c0_i32_112 : BitVec 32 := 0#32
  let v188 : BitVec 1 := Scalar.cmpi .slt arg2 c0_i32_112
  let v189 : BitVec 32 := Scalar.extui v188
  let v190 : BitVec 32 := Scalar.subi v187 v189
  let c2_i32 : BitVec 32 := 2#32
  let c0_i32_113 : BitVec 32 := 0#32
  let v191 : BitVec 1 := Scalar.cmpi .sgt c2_i32 c0_i32_113
  let v192 : BitVec 32 := Scalar.extui v191
  let c0_i32_114 : BitVec 32 := 0#32
  let v193 : BitVec 1 := Scalar.cmpi .slt c2_i32 c0_i32_114
  let v194 : BitVec 32 := Scalar.extui v193
  let v195 : BitVec 32 := Scalar.subi v192 v194
  let v196 : BitVec 1 := Scalar.cmpi .ne v190 v195
  let v197 : BitVec 32 := Scalar.remsi arg2 c2_i32
  let c0_i32_115 : BitVec 32 := 0#32
  let v198 : BitVec 1 := Scalar.cmpi .ne v197 c0_i32_115
  let v199 : BitVec 1 := Scalar.andi v196 v198
  let v185 : BitVec 32 := Scalar.divsi arg2 c2_i32
  let c1_i32 : BitVec 32 := 1#32
  let v200 : BitVec 32 := Scalar.subi v185 c1_i32
  let v201 : BitVec 32 := Scalar.select v199 v200 v185
  let v202 : BitVec 32 := Scalar.subi v201 c0_i32_117
  let c1_i32_118 : BitVec 32 := 1#32
  let v204 : BitVec 32 := Scalar.divsi v202 c1_i32_118
  let v205 : BitVec 32 := Scalar.muli v204 c1_i32_118
  let v206 : BitVec 32 := Scalar.addi c0_i32_117 v205
  let c1_i32_120 : BitVec 32 := 1#32
  let arg18 : BitVec 32 := Scf.iv v206 c1_i32_120 k0_t2
  let v277 : BitVec 32 := Scalar.muli c2_i32_160 arg18
  let c1_i32_161 : BitVec 32 := 1#32
  let v278 : BitVec 32 := Scalar.addi v277 c1_i32_161
  let c512_i32_162 : BitVec 32 := 512#32
  let v279 : BitVec 32 := Scalar.muli v278 c512_i32_162
  v279
def k0_off5 (i : grid0.Coords) (k0_t2 : Fin (k0_t2_loop i).trips) : Fin 2 → Nat :=
  let c2_i32_160 : BitVec 32 := 2#32
  let c0_i32_117 : BitVec 32 := 0#32
  let arg2 : BitVec 32 := BitVec.ofNat 32 (i 2).val
  let c0_i32_111 : BitVec 32 := 0#32
  let v186 : BitVec 1 := Scalar.cmpi .sgt arg2 c0_i32_111
  let v187 : BitVec 32 := Scalar.extui v186
  let c0_i32_112 : BitVec 32 := 0#32
  let v188 : BitVec 1 := Scalar.cmpi .slt arg2 c0_i32_112
  let v189 : BitVec 32 := Scalar.extui v188
  let v190 : BitVec 32 := Scalar.subi v187 v189
  let c2_i32 : BitVec 32 := 2#32
  let c0_i32_113 : BitVec 32 := 0#32
  let v191 : BitVec 1 := Scalar.cmpi .sgt c2_i32 c0_i32_113
  let v192 : BitVec 32 := Scalar.extui v191
  let c0_i32_114 : BitVec 32 := 0#32
  let v193 : BitVec 1 := Scalar.cmpi .slt c2_i32 c0_i32_114
  let v194 : BitVec 32 := Scalar.extui v193
  let v195 : BitVec 32 := Scalar.subi v192 v194
  let v196 : BitVec 1 := Scalar.cmpi .ne v190 v195
  let v197 : BitVec 32 := Scalar.remsi arg2 c2_i32
  let c0_i32_115 : BitVec 32 := 0#32
  let v198 : BitVec 1 := Scalar.cmpi .ne v197 c0_i32_115
  let v199 : BitVec 1 := Scalar.andi v196 v198
  let v185 : BitVec 32 := Scalar.divsi arg2 c2_i32
  let c1_i32 : BitVec 32 := 1#32
  let v200 : BitVec 32 := Scalar.subi v185 c1_i32
  let v201 : BitVec 32 := Scalar.select v199 v200 v185
  let v202 : BitVec 32 := Scalar.subi v201 c0_i32_117
  let c1_i32_118 : BitVec 32 := 1#32
  let v204 : BitVec 32 := Scalar.divsi v202 c1_i32_118
  let v205 : BitVec 32 := Scalar.muli v204 c1_i32_118
  let v206 : BitVec 32 := Scalar.addi c0_i32_117 v205
  let c1_i32_120 : BitVec 32 := 1#32
  let arg18 : BitVec 32 := Scf.iv v206 c1_i32_120 k0_t2
  let v277 : BitVec 32 := Scalar.muli c2_i32_160 arg18
  let c1_i32_161 : BitVec 32 := 1#32
  let v278 : BitVec 32 := Scalar.addi v277 c1_i32_161
  let c512_i32_162 : BitVec 32 := 512#32
  let v279 : BitVec 32 := Scalar.muli v278 c512_i32_162
  let v280 : BitVec 32 := v279
  let v281 : Index := Scalar.indexCast v280
  let c0_163 : Index := 0#32
  ![v281.toNat, 0]
def k0_cond2 (i : grid0.Coords) : BitVec 1 :=
  let arg2 : BitVec 32 := BitVec.ofNat 32 (i 2).val
  let c2_i32_121 : BitVec 32 := 2#32
  let c0_i32_122 : BitVec 32 := 0#32
  let v207 : BitVec 1 := Scalar.cmpi .eq c2_i32_121 c0_i32_122
  let c1_i32_123 : BitVec 32 := 1#32
  let v208 : BitVec 32 := Scalar.select v207 c1_i32_123 c2_i32_121
  let v209 : BitVec 32 := Scalar.remsi arg2 v208
  let c0_i32_125 : BitVec 32 := 0#32
  let v211 : BitVec 1 := Scalar.cmpi .slt v209 c0_i32_125
  let c0_i32_126 : BitVec 32 := 0#32
  let v212 : BitVec 1 := Scalar.cmpi .slt v208 c0_i32_126
  let v213 : BitVec 1 := Scalar.xori v211 v212
  let c0_i32_124 : BitVec 32 := 0#32
  let v210 : BitVec 1 := Scalar.cmpi .ne v209 c0_i32_124
  let v214 : BitVec 1 := Scalar.andi v213 v210
  let v215 : BitVec 32 := Scalar.addi v209 v208
  let v216 : BitVec 32 := Scalar.select v214 v215 v209
  let c1_i32_127 : BitVec 32 := 1#32
  let v217 : BitVec 1 := Scalar.cmpi .eq v216 c1_i32_127
  let v218 : BitVec 32 := Scalar.extui v217
  let c0_i32_128 : BitVec 32 := 0#32
  let v219 : BitVec 1 := Scalar.cmpi .ne v218 c0_i32_128
  v219

def k0_mult6 (i : grid0.Coords) : BitVec 32 :=
  let arg2 : BitVec 32 := BitVec.ofNat 32 (i 2).val
  let c1_i32_156 : BitVec 32 := 1#32
  let v270 : BitVec 32 := Scalar.subi arg2 c1_i32_156
  let c512_i32_157 : BitVec 32 := 512#32
  let v271 : BitVec 32 := Scalar.muli v270 c512_i32_157
  v271
def k0_off6 (i : grid0.Coords) : Fin 2 → Nat :=
  let arg2 : BitVec 32 := BitVec.ofNat 32 (i 2).val
  let c1_i32_156 : BitVec 32 := 1#32
  let v270 : BitVec 32 := Scalar.subi arg2 c1_i32_156
  let c512_i32_157 : BitVec 32 := 512#32
  let v271 : BitVec 32 := Scalar.muli v270 c512_i32_157
  let v272 : BitVec 32 := v271
  let v273 : Index := Scalar.indexCast v272
  let c0_158 : Index := 0#32
  ![v273.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c512_i32 : BitVec 32 := 512#32
  let v0 : BitVec 32 := Scalar.addi c512_i32 arg0
  let c0_i32 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c512_i32 : BitVec 32 := 512#32
  let v0 : BitVec 32 := Scalar.addi c512_i32 arg0
  let c0_i32 : BitVec 32 := 0#32
  ![v0.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S4x2064x16x128 : Shape := ⟨4, ![4, 2064, 16, 128]⟩
abbrev S4x2064x8x256 : Shape := ⟨4, ![4, 2064, 8, 256]⟩
abbrev S2x4x128 : Shape := ⟨3, ![2, 4, 128]⟩
abbrev S2x256 : Shape := ⟨2, ![2, 256]⟩
abbrev S4x2048x16x128 : Shape := ⟨4, ![4, 2048, 16, 128]⟩
abbrev S4x16x2048x2064 : Shape := ⟨4, ![4, 16, 2048, 2064]⟩
abbrev S2048 : Shape := ⟨1, ![2048]⟩
abbrev S_ : Shape := ⟨0, ![]⟩
abbrev S2064 : Shape := ⟨1, ![2064]⟩
abbrev S1x1x1x2064 : Shape := ⟨4, ![1, 1, 1, 2064]⟩
abbrev S1x1x2048x1 : Shape := ⟨4, ![1, 1, 2048, 1]⟩
abbrev S1x1x2048x2064 : Shape := ⟨4, ![1, 1, 2048, 2064]⟩
abbrev S4x16x2048 : Shape := ⟨3, ![4, 16, 2048]⟩
abbrev S4x16x2048x1 : Shape := ⟨4, ![4, 16, 2048, 1]⟩
abbrev S4x8x2x2048x2064 : Shape := ⟨5, ![4, 8, 2, 2048, 2064]⟩
abbrev S1x4x128 : Shape := ⟨3, ![1, 4, 128]⟩
abbrev S4x128 : Shape := ⟨2, ![4, 128]⟩
abbrev S1x128 : Shape := ⟨2, ![1, 128]⟩
abbrev S128 : Shape := ⟨1, ![128]⟩
abbrev S4x8x1x2048x2064 : Shape := ⟨5, ![4, 8, 1, 2048, 2064]⟩
abbrev S4x8x2048x2064 : Shape := ⟨4, ![4, 8, 2048, 2064]⟩
abbrev S4x8x256x2048 : Shape := ⟨4, ![4, 8, 256, 2048]⟩
abbrev S4x2048x8x256 : Shape := ⟨4, ![4, 2048, 8, 256]⟩
abbrev S4x2048x8 : Shape := ⟨3, ![4, 2048, 8]⟩
abbrev S4x2048x8x1 : Shape := ⟨4, ![4, 2048, 8, 1]⟩
abbrev S1x256 : Shape := ⟨2, ![1, 256]⟩
abbrev S256 : Shape := ⟨1, ![256]⟩
abbrev S1x1x1x256 : Shape := ⟨4, ![1, 1, 1, 256]⟩
abbrev S8192x2048 : Shape := ⟨2, ![8192, 2048]⟩

abbrev nBuf : Space → Nat
  | .hbm => 90
  | .vmem => 0
  | .smem => 0
  | _ => 0

abbrev bufTy : (tb : Table) → Fin (tcTables nBuf tb) → BufTy
  | .hbm, ⟨0, _⟩ => ⟨S4x2064x16x128, .f32⟩
  | .hbm, ⟨1, _⟩ => ⟨S4x2064x16x128, .f32⟩
  | .hbm, ⟨2, _⟩ => ⟨S4x2064x8x256, .f32⟩
  | .hbm, ⟨3, _⟩ => ⟨S2x4x128, .f32⟩
  | .hbm, ⟨4, _⟩ => ⟨S2x256, .f32⟩
  | .hbm, ⟨5, _⟩ => ⟨S4x2048x16x128, .f32⟩
  | .hbm, ⟨6, _⟩ => ⟨S4x16x2048x2064, .f32⟩
  | .hbm, ⟨7, _⟩ => ⟨S2048, .i32⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S2064, .i32⟩
  | .hbm, ⟨12, _⟩ => ⟨S1x1x1x2064, .i32⟩
  | .hbm, ⟨13, _⟩ => ⟨S1x1x2048x1, .i32⟩
  | .hbm, ⟨14, _⟩ => ⟨S1x1x2048x2064, .i32⟩
  | .hbm, ⟨15, _⟩ => ⟨S1x1x2048x2064, .i32⟩
  | .hbm, ⟨16, _⟩ => ⟨S1x1x2048x2064, .i1⟩
  | .hbm, ⟨17, _⟩ => ⟨S_, .f32⟩
  | .hbm, ⟨18, _⟩ => ⟨S_, .f32⟩
  | .hbm, ⟨19, _⟩ => ⟨S4x16x2048x2064, .i1⟩
  | .hbm, ⟨20, _⟩ => ⟨S4x16x2048x2064, .f32⟩
  | .hbm, ⟨21, _⟩ => ⟨S4x16x2048x2064, .f32⟩
  | .hbm, ⟨22, _⟩ => ⟨S_, .f32⟩
  | .hbm, ⟨23, _⟩ => ⟨S4x16x2048, .f32⟩
  | .hbm, ⟨24, _⟩ => ⟨S_, .f32⟩
  | .hbm, ⟨25, _⟩ => ⟨S4x16x2048, .f32⟩
  | .hbm, ⟨26, _⟩ => ⟨S4x16x2048, .f32⟩
  | .hbm, ⟨27, _⟩ => ⟨S4x16x2048x1, .f32⟩
  | .hbm, ⟨28, _⟩ => ⟨S4x16x2048x2064, .f32⟩
  | .hbm, ⟨29, _⟩ => ⟨S4x16x2048x2064, .f32⟩
  | .hbm, ⟨30, _⟩ => ⟨S4x16x2048x2064, .f32⟩
  | .hbm, ⟨31, _⟩ => ⟨S_, .f32⟩
  | .hbm, ⟨32, _⟩ => ⟨S4x16x2048, .f32⟩
  | .hbm, ⟨33, _⟩ => ⟨S4x16x2048x1, .f32⟩
  | .hbm, ⟨34, _⟩ => ⟨S4x16x2048x2064, .f32⟩
  | .hbm, ⟨35, _⟩ => ⟨S4x16x2048x2064, .f32⟩
  | .hbm, ⟨36, _⟩ => ⟨S4x8x2x2048x2064, .f32⟩
  | .hbm, ⟨37, _⟩ => ⟨S1x4x128, .f32⟩
  | .hbm, ⟨38, _⟩ => ⟨S4x128, .f32⟩
  | .hbm, ⟨39, _⟩ => ⟨S1x128, .f32⟩
  | .hbm, ⟨40, _⟩ => ⟨S128, .f32⟩
  | .hbm, ⟨41, _⟩ => ⟨S1x128, .f32⟩
  | .hbm, ⟨42, _⟩ => ⟨S128, .f32⟩
  | .hbm, ⟨43, _⟩ => ⟨S128, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S1x128, .f32⟩
  | .hbm, ⟨48, _⟩ => ⟨S128, .f32⟩
  | .hbm, ⟨49, _⟩ => ⟨S1x128, .f32⟩
  | .hbm, ⟨50, _⟩ => ⟨S128, .f32⟩
  | .hbm, ⟨51, _⟩ => ⟨S128, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S4x8x1x2048x2064, .f32⟩
  | .hbm, ⟨59, _⟩ => ⟨S4x8x2048x2064, .f32⟩
  | .hbm, ⟨60, _⟩ => ⟨S4x8x1x2048x2064, .f32⟩
  | .hbm, ⟨61, _⟩ => ⟨S4x8x2048x2064, .f32⟩
  | .hbm, ⟨62, _⟩ => ⟨S4x8x2048x2064, .f32⟩
  | .hbm, ⟨63, _⟩ => ⟨S4x8x2048x2064, .f32⟩
  | .hbm, ⟨64, _⟩ => ⟨S4x8x2048x2064, .f32⟩
  | .hbm, ⟨65, _⟩ => ⟨S4x8x256x2048, .f32⟩
  | .hbm, ⟨66, _⟩ => ⟨S4x2048x8x256, .f32⟩
  | .hbm, ⟨67, _⟩ => ⟨S4x2048x8x256, .f32⟩
  | .hbm, ⟨68, _⟩ => ⟨S_, .f32⟩
  | .hbm, ⟨69, _⟩ => ⟨S4x2048x8, .f32⟩
  | .hbm, ⟨70, _⟩ => ⟨S4x2048x8x1, .f32⟩
  | .hbm, ⟨71, _⟩ => ⟨S_, .f32⟩
  | .hbm, ⟨72, _⟩ => ⟨S4x2048x8x1, .f32⟩
  | .hbm, ⟨73, _⟩ => ⟨S4x2048x8x1, .f32⟩
  | .hbm, ⟨74, _⟩ => ⟨S_, .f32⟩
  | .hbm, ⟨75, _⟩ => ⟨S4x2048x8x1, .f32⟩
  | .hbm, ⟨76, _⟩ => ⟨S4x2048x8x1, .f32⟩
  | .hbm, ⟨77, _⟩ => ⟨S4x2048x8x1, .f32⟩
  | .hbm, ⟨78, _⟩ => ⟨S4x2048x8x256, .f32⟩
  | .hbm, ⟨79, _⟩ => ⟨S4x2048x8x256, .f32⟩
  | .hbm, ⟨80, _⟩ => ⟨S1x256, .f32⟩
  | .hbm, ⟨81, _⟩ => ⟨S256, .f32⟩
  | .hbm, ⟨82, _⟩ => ⟨S1x1x1x256, .f32⟩
  | .hbm, ⟨83, _⟩ => ⟨S4x2048x8x256, .f32⟩
  | .hbm, ⟨84, _⟩ => ⟨S4x2048x8x256, .f32⟩
  | .hbm, ⟨85, _⟩ => ⟨S_, .f32⟩
  | .hbm, ⟨86, _⟩ => ⟨S4x2048x8x256, .f32⟩
  | .hbm, ⟨87, _⟩ => ⟨S4x2048x8x256, .f32⟩
  | .hbm, ⟨88, _⟩ => ⟨S8192x2048, .f32⟩
  | .hbm, ⟨89, _⟩ => ⟨S8192x2048, .bf16⟩
  | _, _ => ⟨S4x2064x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_4 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_6 : Ref sig .tc := ⟨.hbm, 68, rfl⟩
abbrev main_v52 : Ref sig .tc := ⟨.hbm, 69, rfl⟩
abbrev main_v53 : Ref sig .tc := ⟨.hbm, 70, rfl⟩
abbrev main_cst_7 : Ref sig .tc := ⟨.hbm, 71, rfl⟩
abbrev main_v54 : Ref sig .tc := ⟨.hbm, 72, rfl⟩
abbrev main_v55 : Ref sig .tc := ⟨.hbm, 73, rfl⟩
abbrev main_cst_8 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_9 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩

abbrev nD : Nat := 1
abbrev τ : Topo := Topo.v7x

variable {F : FTy → Type} [FloatOps F]
-- ==== Values.lean ====
abbrev S4x2064x2048 : Shape := ⟨3, ![4, 2064, 2048]⟩
abbrev S8x8x2048 : Shape := ⟨3, ![8, 8, 2048]⟩
abbrev S2048x2048 : Shape := ⟨2, ![2048, 2048]⟩
abbrev S4x2048x2048 : Shape := ⟨3, ![4, 2048, 2048]⟩
abbrev S8192x2048 : Shape := ⟨2, ![8192, 2048]⟩
abbrev S4x16x2048 : Shape := ⟨3, ![4, 16, 2048]⟩
abbrev S64x2048 : Shape := ⟨2, ![64, 2048]⟩
abbrev S8320x2048 : Shape := ⟨2, ![8320, 2048]⟩
abbrev S1040x2048 : Shape := ⟨2, ![1040, 2048]⟩
abbrev S2048x1024 : Shape := ⟨2, ![2048, 1024]⟩
abbrev S1040x1024 : Shape := ⟨2, ![1040, 1024]⟩

abbrev nBuf : Space → Nat
  | .hbm => 11
  | .vmem => 7
  | .smem => 0
  | _ => 0

abbrev bufTy : (tb : Table) → Fin (tcTables nBuf tb) → BufTy
  | .hbm, ⟨0, _⟩ => ⟨S4x2064x2048, .f32⟩
  | .hbm, ⟨1, _⟩ => ⟨S8x8x2048, .f32⟩
  | .hbm, ⟨2, _⟩ => ⟨S2048x2048, .f32⟩
  | .hbm, ⟨3, _⟩ => ⟨S4x2048x2048, .f32⟩
  | .hbm, ⟨4, _⟩ => ⟨S8192x2048, .f32⟩
  | .hbm, ⟨5, _⟩ => ⟨S4x16x2048, .f32⟩
  | .hbm, ⟨6, _⟩ => ⟨S64x2048, .f32⟩
  | .hbm, ⟨7, _⟩ => ⟨S64x2048, .f32⟩
  | .hbm, ⟨8, _⟩ => ⟨S8320x2048, .f32⟩
  | .hbm, ⟨9, _⟩ => ⟨S8320x2048, .bf16⟩
  | .hbm, ⟨10, _⟩ => ⟨S8320x2048, .f32⟩
  | .local _ .vmem, ⟨0, _⟩ => ⟨S1040x2048, .bf16⟩
  | .local _ .vmem, ⟨1, _⟩ => ⟨S1040x2048, .bf16⟩
  | .local _ .vmem, ⟨2, _⟩ => ⟨S2048x1024, .f32⟩
  | .local _ .vmem, ⟨3, _⟩ => ⟨S2048x1024, .f32⟩
  | .local _ .vmem, ⟨4, _⟩ => ⟨S1040x1024, .f32⟩
  | .local _ .vmem, ⟨5, _⟩ => ⟨S1040x1024, .f32⟩
  | .local _ .vmem, ⟨6, _⟩ => ⟨S2048x1024, .bf16⟩
  | _, _ => ⟨S4x2064x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PlainValuesIdeal.lean ====
abbrev S4x2064x2048 : Shape := ⟨3, ![4, 2064, 2048]⟩
abbrev S8x8x2048 : Shape := ⟨3, ![8, 8, 2048]⟩
abbrev S2048x2048 : Shape := ⟨2, ![2048, 2048]⟩
abbrev S4x2048x2048 : Shape := ⟨3, ![4, 2048, 2048]⟩
abbrev S8192x2048 : Shape := ⟨2, ![8192, 2048]⟩
abbrev S4x16x2048 : Shape := ⟨3, ![4, 16, 2048]⟩
abbrev S64x2048 : Shape := ⟨2, ![64, 2048]⟩
abbrev S8320x2048 : Shape := ⟨2, ![8320, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4x2064x2048, .f32⟩
  | .hbm, ⟨1, _⟩ => ⟨S8x8x2048, .f32⟩
  | .hbm, ⟨2, _⟩ => ⟨S2048x2048, .f32⟩
  | .hbm, ⟨3, _⟩ => ⟨S4x2064x2048, .f32⟩
  | .hbm, ⟨4, _⟩ => ⟨S8x8x2048, .f32⟩
  | .hbm, ⟨5, _⟩ => ⟨S4x2048x2048, .f32⟩
  | .hbm, ⟨6, _⟩ => ⟨S8192x2048, .f32⟩
  | .hbm, ⟨7, _⟩ => ⟨S4x16x2048, .f32⟩
  | .hbm, ⟨8, _⟩ => ⟨S64x2048, .f32⟩
  | .hbm, ⟨9, _⟩ => ⟨S64x2048, .f32⟩
  | .hbm, ⟨10, _⟩ => ⟨S8320x2048, .f32⟩
  | _, _ => ⟨S4x2064x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Keys.lean ====
abbrev S4x2064x2048 : Shape := ⟨3, ![4, 2064, 2048]⟩
abbrev S8x8x2048 : Shape := ⟨3, ![8, 8, 2048]⟩
abbrev S2048x2048 : Shape := ⟨2, ![2048, 2048]⟩
abbrev S4x2048x2048 : Shape := ⟨3, ![4, 2048, 2048]⟩
abbrev S8192x2048 : Shape := ⟨2, ![8192, 2048]⟩
abbrev S4x16x2048 : Shape := ⟨3, ![4, 16, 2048]⟩
abbrev S64x2048 : Shape := ⟨2, ![64, 2048]⟩
abbrev S8320x2048 : Shape := ⟨2, ![8320, 2048]⟩
abbrev S2048 : Shape := ⟨1, ![2048]⟩
abbrev S_ : Shape := ⟨0, ![]⟩
abbrev S1x2048 : Shape := ⟨2, ![1, 2048]⟩
abbrev S4x2048 : Shape := ⟨2, ![4, 2048]⟩
abbrev S8192 : Shape := ⟨1, ![8192]⟩
abbrev S16 : Shape := ⟨1, ![16]⟩
abbrev S1x16 : Shape := ⟨2, ![1, 16]⟩
abbrev S4x16 : Shape := ⟨2, ![4, 16]⟩
abbrev S64 : Shape := ⟨1, ![64]⟩
abbrev S8 : Shape := ⟨1, ![8]⟩
abbrev S1x8 : Shape := ⟨2, ![1, 8]⟩
abbrev S8x8 : Shape := ⟨2, ![8, 8]⟩
abbrev S8320 : Shape := ⟨1, ![8320]⟩
abbrev S8320x1 : Shape := ⟨2, ![8320, 1]⟩
abbrev S1x64 : Shape := ⟨2, ![1, 64]⟩
abbrev S8320x64 : Shape := ⟨2, ![8320, 64]⟩
abbrev S8320x128 : Shape := ⟨2, ![8320, 128]⟩
abbrev S1040x2048 : Shape := ⟨2, ![1040, 2048]⟩
abbrev S2048x1024 : Shape := ⟨2, ![2048, 1024]⟩
abbrev S1040x128 : Shape := ⟨2, ![1040, 128]⟩
abbrev S1040x1024 : Shape := ⟨2, ![1040, 1024]⟩

abbrev nBuf : Space → Nat
  | .hbm => 49
  | .vmem => 11
  | .smem => 0
  | _ => 0

abbrev bufTy : (tb : Table) → Fin (tcTables nBuf tb) → BufTy
  | .hbm, ⟨0, _⟩ => ⟨S4x2064x2048, .f32⟩
  | .hbm, ⟨1, _⟩ => ⟨S8x8x2048, .f32⟩
  | .hbm, ⟨2, _⟩ => ⟨S2048x2048, .f32⟩
  | .hbm, ⟨3, _⟩ => ⟨S4x2048x2048, .f32⟩
  | .hbm, ⟨4, _⟩ => ⟨S8192x2048, .f32⟩
  | .hbm, ⟨5, _⟩ => ⟨S4x16x2048, .f32⟩
  | .hbm, ⟨6, _⟩ => ⟨S64x2048, .f32⟩
  | .hbm, ⟨7, _⟩ => ⟨S64x2048, .f32⟩
  | .hbm, ⟨8, _⟩ => ⟨S8320x2048, .f32⟩
  | .hbm, ⟨9, _⟩ => ⟨S8320x2048, .bf16⟩
  | .hbm, ⟨10, _⟩ => ⟨S2048, .i32⟩
  | .hbm, ⟨11, _⟩ => ⟨S_, .i32⟩
  | .hbm, ⟨12, _⟩ => ⟨S2048, .i32⟩
  | .hbm, ⟨13, _⟩ => ⟨S2048, .i32⟩
  | .hbm, ⟨14, _⟩ => ⟨S1x2048, .i32⟩
  | .hbm, ⟨15, _⟩ => ⟨S4x2048, .i32⟩
  | .hbm, ⟨16, _⟩ => ⟨S8192, .i32⟩
  | .hbm, ⟨17, _⟩ => ⟨S16, .i32⟩
  | .hbm, ⟨18, _⟩ => ⟨S1x16, .i32⟩
  | .hbm, ⟨19, _⟩ => ⟨S4x16, .i32⟩
  | .hbm, ⟨20, _⟩ => ⟨S64, .i32⟩
  | .hbm, ⟨21, _⟩ => ⟨S8, .i32⟩
  | .hbm, ⟨22, _⟩ => ⟨S_, .i32⟩
  | .hbm, ⟨23, _⟩ => ⟨S8, .i32⟩
  | .hbm, ⟨24, _⟩ => ⟨S8, .i32⟩
  | .hbm, ⟨25, _⟩ => ⟨S1x8, .i32⟩
  | .hbm, ⟨26, _⟩ => ⟨S8x8, .i32⟩
  | .hbm, ⟨27, _⟩ => ⟨S64, .i32⟩
  | .hbm, ⟨28, _⟩ => ⟨S8320, .i32⟩
  | .hbm, ⟨29, _⟩ => ⟨S64, .f32⟩
  | .hbm, ⟨30, _⟩ => ⟨S64, .f32⟩
  | .hbm, ⟨31, _⟩ => ⟨S_, .f32⟩
  | .hbm, ⟨32, _⟩ => ⟨S64, .f32⟩
  | .hbm, ⟨33, _⟩ => ⟨S64, .f32⟩
  | .hbm, ⟨34, _⟩ => ⟨S_, .f32⟩
  | .hbm, ⟨35, _⟩ => ⟨S64, .f32⟩
  | .hbm, ⟨36, _⟩ => ⟨S64, .f32⟩
  | .hbm, ⟨37, _⟩ => ⟨S8320, .f32⟩
  | .hbm, ⟨38, _⟩ => ⟨S8320x1, .f32⟩
  | .hbm, ⟨39, _⟩ => ⟨S1x64, .f32⟩
  | .hbm, ⟨40, _⟩ => ⟨S8320x64, .f32⟩
  | .hbm, ⟨41, _⟩ => ⟨S8320x64, .f32⟩
  | .hbm, ⟨42, _⟩ => ⟨S8320x64, .f32⟩
  | .hbm, ⟨43, _⟩ => ⟨S8320x64, .f32⟩
  | .hbm, ⟨44, _⟩ => ⟨S8320x64, .f32⟩
  | .hbm, ⟨45, _⟩ => ⟨S8320x128, .f32⟩
  | .hbm, ⟨46, _⟩ => ⟨S8320x64, .f32⟩
  | .hbm, ⟨47, _⟩ => ⟨S8320x128, .f32⟩
  | .hbm, ⟨48, _⟩ => ⟨S8320x2048, .f32⟩
  | .local _ .vmem, ⟨0, _⟩ => ⟨S1040x2048, .bf16⟩
  | .local _ .vmem, ⟨1, _⟩ => ⟨S1040x2048, .bf16⟩
  | .local _ .vmem, ⟨2, _⟩ => ⟨S2048x1024, .f32⟩
  | .local _ .vmem, ⟨3, _⟩ => ⟨S2048x1024, .f32⟩
  | .local _ .vmem, ⟨4, _⟩ => ⟨S1040x128, .f32⟩
  | .local _ .vmem, ⟨5, _⟩ => ⟨S1040x128, .f32⟩
  | .local _ .vmem, ⟨6, _⟩ => ⟨S1040x128, .f32⟩
  | .local _ .vmem, ⟨7, _⟩ => ⟨S1040x128, .f32⟩
  | .local _ .vmem, ⟨8, _⟩ => ⟨S1040x1024, .f32⟩
  | .local _ .vmem, ⟨9, _⟩ => ⟨S1040x1024, .f32⟩
  | .local _ .vmem, ⟨10, _⟩ => ⟨S2048x1024, .bf16⟩
  | _, _ => ⟨S4x2064x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst : Ref sig .tc := ⟨.hbm, 31, rfl⟩
abbrev main_v26 : Ref sig .tc := ⟨.hbm, 32, rfl⟩
abbrev main_v27 : Ref sig .tc := ⟨.hbm, 33, rfl⟩
abbrev main_cst_1 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1040x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1040x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1040x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== PlainKeysIdeal.lean ====
abbrev S4x2064x2048 : Shape := ⟨3, ![4, 2064, 2048]⟩
abbrev S8x8x2048 : Shape := ⟨3, ![8, 8, 2048]⟩
abbrev S2048x2048 : Shape := ⟨2, ![2048, 2048]⟩
abbrev S2064 : Shape := ⟨1, ![2064]⟩
abbrev S4x2064x16x128 : Shape := ⟨4, ![4, 2064, 16, 128]⟩
abbrev S64 : Shape := ⟨1, ![64]⟩
abbrev S_ : Shape := ⟨0, ![]⟩
abbrev S2064x1 : Shape := ⟨2, ![2064, 1]⟩
abbrev S1x64 : Shape := ⟨2, ![1, 64]⟩
abbrev S2064x64 : Shape := ⟨2, ![2064, 64]⟩
abbrev S1x2064x1x64 : Shape := ⟨4, ![1, 2064, 1, 64]⟩
abbrev S4x2064x16x64 : Shape := ⟨4, ![4, 2064, 16, 64]⟩
abbrev S8 : Shape := ⟨1, ![8]⟩
abbrev S8x8x16x128 : Shape := ⟨4, ![8, 8, 16, 128]⟩
abbrev S8x1 : Shape := ⟨2, ![8, 1]⟩
abbrev S8x64 : Shape := ⟨2, ![8, 64]⟩
abbrev S1x8x1x64 : Shape := ⟨4, ![1, 8, 1, 64]⟩
abbrev S8x8x16x64 : Shape := ⟨4, ![8, 8, 16, 64]⟩
abbrev S4x2048x2048 : Shape := ⟨3, ![4, 2048, 2048]⟩
abbrev S8192x2048 : Shape := ⟨2, ![8192, 2048]⟩
abbrev S4x16x2048 : Shape := ⟨3, ![4, 16, 2048]⟩
abbrev S64x2048 : Shape := ⟨2, ![64, 2048]⟩
abbrev S8320x2048 : Shape := ⟨2, ![8320, 2048]⟩

abbrev nBuf : Space → Nat
  | .hbm => 82
  | .vmem => 0
  | .smem => 0
  | _ => 0

abbrev bufTy : (tb : Table) → Fin (tcTables nBuf tb) → BufTy
  | .hbm, ⟨0, _⟩ => ⟨S4x2064x2048, .f32⟩
  | .hbm, ⟨1, _⟩ => ⟨S8x8x2048, .f32⟩
  | .hbm, ⟨2, _⟩ => ⟨S2048x2048, .f32⟩
  | .hbm, ⟨3, _⟩ => ⟨S2064, .i32⟩
  | .hbm, ⟨4, _⟩ => ⟨S4x2064x2048, .f32⟩
  | .hbm, ⟨5, _⟩ => ⟨S4x2064x16x128, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S2064, .f32⟩
  | .hbm, ⟨15, _⟩ => ⟨S2064x1, .f32⟩
  | .hbm, ⟨16, _⟩ => ⟨S1x64, .f32⟩
  | .hbm, ⟨17, _⟩ => ⟨S2064x64, .f32⟩
  | .hbm, ⟨18, _⟩ => ⟨S2064x64, .f32⟩
  | .hbm, ⟨19, _⟩ => ⟨S2064x64, .f32⟩
  | .hbm, ⟨20, _⟩ => ⟨S2064x64, .f32⟩
  | .hbm, ⟨21, _⟩ => ⟨S1x2064x1x64, .f32⟩
  | .hbm, ⟨22, _⟩ => ⟨S2064x64, .f32⟩
  | .hbm, ⟨23, _⟩ => ⟨S1x2064x1x64, .f32⟩
  | .hbm, ⟨24, _⟩ => ⟨S4x2064x16x64, .f32⟩
  | .hbm, ⟨25, _⟩ => ⟨S4x2064x16x64, .f32⟩
  | .hbm, ⟨26, _⟩ => ⟨S4x2064x16x64, .f32⟩
  | .hbm, ⟨27, _⟩ => ⟨S4x2064x16x64, .f32⟩
  | .hbm, ⟨28, _⟩ => ⟨S4x2064x16x64, .f32⟩
  | .hbm, ⟨29, _⟩ => ⟨S4x2064x16x64, .f32⟩
  | .hbm, ⟨30, _⟩ => ⟨S4x2064x16x64, .f32⟩
  | .hbm, ⟨31, _⟩ => ⟨S4x2064x16x64, .f32⟩
  | .hbm, ⟨32, _⟩ => ⟨S4x2064x16x64, .f32⟩
  | .hbm, ⟨33, _⟩ => ⟨S4x2064x16x64, .f32⟩
  | .hbm, ⟨34, _⟩ => ⟨S4x2064x16x64, .f32⟩
  | .hbm, ⟨35, _⟩ => ⟨S4x2064x16x64, .f32⟩
  | .hbm, ⟨36, _⟩ => ⟨S4x2064x16x128, .f32⟩
  | .hbm, ⟨37, _⟩ => ⟨S4x2064x2048, .f32⟩
  | .hbm, ⟨38, _⟩ => ⟨S8, .i32⟩
  | .hbm, ⟨39, _⟩ => ⟨S_, .i32⟩
  | .hbm, ⟨40, _⟩ => ⟨S8, .i32⟩
  | .hbm, ⟨41, _⟩ => ⟨S8, .i32⟩
  | .hbm, ⟨42, _⟩ => ⟨S8x8x2048, .f32⟩
  | .hbm, ⟨43, _⟩ => ⟨S8x8x16x128, .f32⟩
  | .hbm, ⟨44, _⟩ => ⟨S64, .f32⟩
  | .hbm, ⟨45, _⟩ => ⟨S64, .f32⟩
  | .hbm, ⟨46, _⟩ => ⟨S_, .f32⟩
  | .hbm, ⟨47, _⟩ => ⟨S64, .f32⟩
  | .hbm, ⟨48, _⟩ => ⟨S64, .f32⟩
  | .hbm, ⟨49, _⟩ => ⟨S_, .f32⟩
  | .hbm, ⟨50, _⟩ => ⟨S64, .f32⟩
  | .hbm, ⟨51, _⟩ => ⟨S64, .f32⟩
  | .hbm, ⟨52, _⟩ => ⟨S8, .f32⟩
  | .hbm, ⟨53, _⟩ => ⟨S8x1, .f32⟩
  | .hbm, ⟨54, _⟩ => ⟨S1x64, .f32⟩
  | .hbm, ⟨55, _⟩ => ⟨S8x64, .f32⟩
  | .hbm, ⟨56, _⟩ => ⟨S8x64, .f32⟩
  | .hbm, ⟨57, _⟩ => ⟨S8x64, .f32⟩
  | .hbm, ⟨58, _⟩ => ⟨S8x64, .f32⟩
  | .hbm, ⟨59, _⟩ => ⟨S1x8x1x64, .f32⟩
  | .hbm, ⟨60, _⟩ => ⟨S8x64, .f32⟩
  | .hbm, ⟨61, _⟩ => ⟨S1x8x1x64, .f32⟩
  | .hbm, ⟨62, _⟩ => ⟨S8x8x16x64, .f32⟩
  | .hbm, ⟨63, _⟩ => ⟨S8x8x16x64, .f32⟩
  | .hbm, ⟨64, _⟩ => ⟨S8x8x16x64, .f32⟩
  | .hbm, ⟨65, _⟩ => ⟨S8x8x16x64, .f32⟩
  | .hbm, ⟨66, _⟩ => ⟨S8x8x16x64, .f32⟩
  | .hbm, ⟨67, _⟩ => ⟨S8x8x16x64, .f32⟩
  | .hbm, ⟨68, _⟩ => ⟨S8x8x16x64, .f32⟩
  | .hbm, ⟨69, _⟩ => ⟨S8x8x16x64, .f32⟩
  | .hbm, ⟨70, _⟩ => ⟨S8x8x16x64, .f32⟩
  | .hbm, ⟨71, _⟩ => ⟨S8x8x16x64, .f32⟩
  | .hbm, ⟨72, _⟩ => ⟨S8x8x16x64, .f32⟩
  | .hbm, ⟨73, _⟩ => ⟨S8x8x16x64, .f32⟩
  | .hbm, ⟨74, _⟩ => ⟨S8x8x16x128, .f32⟩
  | .hbm, ⟨75, _⟩ => ⟨S8x8x2048, .f32⟩
  | .hbm, ⟨76, _⟩ => ⟨S4x2048x2048, .f32⟩
  | .hbm, ⟨77, _⟩ => ⟨S8192x2048, .f32⟩
  | .hbm, ⟨78, _⟩ => ⟨S4x16x2048, .f32⟩
  | .hbm, ⟨79, _⟩ => ⟨S64x2048, .f32⟩
  | .hbm, ⟨80, _⟩ => ⟨S64x2048, .f32⟩
  | .hbm, ⟨81, _⟩ => ⟨S8320x2048, .f32⟩
  | _, _ => ⟨S4x2064x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_c : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_cst_1 : Ref sig .tc := ⟨.hbm, 46, rfl⟩
abbrev main_v40 : Ref sig .tc := ⟨.hbm, 47, rfl⟩
abbrev main_v41 : Ref sig .tc := ⟨.hbm, 48, rfl⟩
abbrev main_cst_2 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩

abbrev nD : Nat := 1
abbrev τ : Topo := Topo.v7x

variable {F : FTy → Type} [FloatOps F]
-- ==== QueriesA.lean ====
abbrev S4x2064x2048 : Shape := ⟨3, ![4, 2064, 2048]⟩
abbrev S8x8x2048 : Shape := ⟨3, ![8, 8, 2048]⟩
abbrev S2x2048x2048 : Shape := ⟨3, ![2, 2048, 2048]⟩
abbrev S4x2048x2048 : Shape := ⟨3, ![4, 2048, 2048]⟩
abbrev S8192x2048 : Shape := ⟨2, ![8192, 2048]⟩
abbrev S4x16x2048 : Shape := ⟨3, ![4, 16, 2048]⟩
abbrev S64x2048 : Shape := ⟨2, ![64, 2048]⟩
abbrev S8320x2048 : Shape := ⟨2, ![8320, 2048]⟩
abbrev S2048 : Shape := ⟨1, ![2048]⟩
abbrev S_ : Shape := ⟨0, ![]⟩
abbrev S1x2048 : Shape := ⟨2, ![1, 2048]⟩
abbrev S4x2048 : Shape := ⟨2, ![4, 2048]⟩
abbrev S8192 : Shape := ⟨1, ![8192]⟩
abbrev S16 : Shape := ⟨1, ![16]⟩
abbrev S1x16 : Shape := ⟨2, ![1, 16]⟩
abbrev S4x16 : Shape := ⟨2, ![4, 16]⟩
abbrev S64 : Shape := ⟨1, ![64]⟩
abbrev S8 : Shape := ⟨1, ![8]⟩
abbrev S1x8 : Shape := ⟨2, ![1, 8]⟩
abbrev S8x8 : Shape := ⟨2, ![8, 8]⟩
abbrev S8320 : Shape := ⟨1, ![8320]⟩
abbrev S8320x1 : Shape := ⟨2, ![8320, 1]⟩
abbrev S1x64 : Shape := ⟨2, ![1, 64]⟩
abbrev S8320x64 : Shape := ⟨2, ![8320, 64]⟩
abbrev S8320x128 : Shape := ⟨2, ![8320, 128]⟩
abbrev S1040x2048 : Shape := ⟨2, ![1040, 2048]⟩
abbrev S1x2048x1024 : Shape := ⟨3, ![1, 2048, 1024]⟩
abbrev S1040x128 : Shape := ⟨2, ![1040, 128]⟩
abbrev S1040x1024 : Shape := ⟨2, ![1040, 1024]⟩
abbrev S2048x1024 : Shape := ⟨2, ![2048, 1024]⟩

abbrev nBuf : Space → Nat
  | .hbm => 49
  | .vmem => 11
  | .smem => 0
  | _ => 0

abbrev bufTy : (tb : Table) → Fin (tcTables nBuf tb) → BufTy
  | .hbm, ⟨0, _⟩ => ⟨S4x2064x2048, .f32⟩
  | .hbm, ⟨1, _⟩ => ⟨S8x8x2048, .f32⟩
  | .hbm, ⟨2, _⟩ => ⟨S2x2048x2048, .f32⟩
  | .hbm, ⟨3, _⟩ => ⟨S4x2048x2048, .f32⟩
  | .hbm, ⟨4, _⟩ => ⟨S8192x2048, .f32⟩
  | .hbm, ⟨5, _⟩ => ⟨S4x16x2048, .f32⟩
  | .hbm, ⟨6, _⟩ => ⟨S64x2048, .f32⟩
  | .hbm, ⟨7, _⟩ => ⟨S64x2048, .f32⟩
  | .hbm, ⟨8, _⟩ => ⟨S8320x2048, .f32⟩
  | .hbm, ⟨9, _⟩ => ⟨S8320x2048, .bf16⟩
  | .hbm, ⟨10, _⟩ => ⟨S2048, .i32⟩
  | .hbm, ⟨11, _⟩ => ⟨S_, .i32⟩
  | .hbm, ⟨12, _⟩ => ⟨S2048, .i32⟩
  | .hbm, ⟨13, _⟩ => ⟨S2048, .i32⟩
  | .hbm, ⟨14, _⟩ => ⟨S1x2048, .i32⟩
  | .hbm, ⟨15, _⟩ => ⟨S4x2048, .i32⟩
  | .hbm, ⟨16, _⟩ => ⟨S8192, .i32⟩
  | .hbm, ⟨17, _⟩ => ⟨S16, .i32⟩
  | .hbm, ⟨18, _⟩ => ⟨S1x16, .i32⟩
  | .hbm, ⟨19, _⟩ => ⟨S4x16, .i32⟩
  | .hbm, ⟨20, _⟩ => ⟨S64, .i32⟩
  | .hbm, ⟨21, _⟩ => ⟨S8, .i32⟩
  | .hbm, ⟨22, _⟩ => ⟨S_, .i32⟩
  | .hbm, ⟨23, _⟩ => ⟨S8, .i32⟩
  | .hbm, ⟨24, _⟩ => ⟨S8, .i32⟩
  | .hbm, ⟨25, _⟩ => ⟨S1x8, .i32⟩
  | .hbm, ⟨26, _⟩ => ⟨S8x8, .i32⟩
  | .hbm, ⟨27, _⟩ => ⟨S64, .i32⟩
  | .hbm, ⟨28, _⟩ => ⟨S8320, .i32⟩
  | .hbm, ⟨29, _⟩ => ⟨S64, .f32⟩
  | .hbm, ⟨30, _⟩ => ⟨S64, .f32⟩
  | .hbm, ⟨31, _⟩ => ⟨S_, .f32⟩
  | .hbm, ⟨32, _⟩ => ⟨S64, .f32⟩
  | .hbm, ⟨33, _⟩ => ⟨S64, .f32⟩
  | .hbm, ⟨34, _⟩ => ⟨S_, .f32⟩
  | .hbm, ⟨35, _⟩ => ⟨S64, .f32⟩
  | .hbm, ⟨36, _⟩ => ⟨S64, .f32⟩
  | .hbm, ⟨37, _⟩ => ⟨S8320, .f32⟩
  | .hbm, ⟨38, _⟩ => ⟨S8320x1, .f32⟩
  | .hbm, ⟨39, _⟩ => ⟨S1x64, .f32⟩
  | .hbm, ⟨40, _⟩ => ⟨S8320x64, .f32⟩
  | .hbm, ⟨41, _⟩ => ⟨S8320x64, .f32⟩
  | .hbm, ⟨42, _⟩ => ⟨S8320x64, .f32⟩
  | .hbm, ⟨43, _⟩ => ⟨S8320x64, .f32⟩
  | .hbm, ⟨44, _⟩ => ⟨S8320x64, .f32⟩
  | .hbm, ⟨45, _⟩ => ⟨S8320x128, .f32⟩
  | .hbm, ⟨46, _⟩ => ⟨S8320x64, .f32⟩
  | .hbm, ⟨47, _⟩ => ⟨S8320x128, .f32⟩
  | .hbm, ⟨48, _⟩ => ⟨S8320x2048, .f32⟩
  | .local _ .vmem, ⟨0, _⟩ => ⟨S1040x2048, .bf16⟩
  | .local _ .vmem, ⟨1, _⟩ => ⟨S1040x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1040x128, .f32⟩
  | .local _ .vmem, ⟨5, _⟩ => ⟨S1040x128, .f32⟩
  | .local _ .vmem, ⟨6, _⟩ => ⟨S1040x128, .f32⟩
  | .local _ .vmem, ⟨7, _⟩ => ⟨S1040x128, .f32⟩
  | .local _ .vmem, ⟨8, _⟩ => ⟨S1040x1024, .f32⟩
  | .local _ .vmem, ⟨9, _⟩ => ⟨S1040x1024, .f32⟩
  | .local _ .vmem, ⟨10, _⟩ => ⟨S2048x1024, .bf16⟩
  | _, _ => ⟨S4x2064x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst : Ref sig .tc := ⟨.hbm, 31, rfl⟩
abbrev main_v26 : Ref sig .tc := ⟨.hbm, 32, rfl⟩
abbrev main_v27 : Ref sig .tc := ⟨.hbm, 33, rfl⟩
abbrev main_cst_1 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1040x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1040x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1040x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== PlainQueriesAIdeal.lean ====
abbrev S4x2064x2048 : Shape := ⟨3, ![4, 2064, 2048]⟩
abbrev S8x8x2048 : Shape := ⟨3, ![8, 8, 2048]⟩
abbrev S2x2048x2048 : Shape := ⟨3, ![2, 2048, 2048]⟩
abbrev S1x2048x2048 : Shape := ⟨3, ![1, 2048, 2048]⟩
abbrev S2048x2048 : Shape := ⟨2, ![2048, 2048]⟩
abbrev S2064 : Shape := ⟨1, ![2064]⟩
abbrev S4x2064x16x128 : Shape := ⟨4, ![4, 2064, 16, 128]⟩
abbrev S64 : Shape := ⟨1, ![64]⟩
abbrev S_ : Shape := ⟨0, ![]⟩
abbrev S2064x1 : Shape := ⟨2, ![2064, 1]⟩
abbrev S1x64 : Shape := ⟨2, ![1, 64]⟩
abbrev S2064x64 : Shape := ⟨2, ![2064, 64]⟩
abbrev S1x2064x1x64 : Shape := ⟨4, ![1, 2064, 1, 64]⟩
abbrev S4x2064x16x64 : Shape := ⟨4, ![4, 2064, 16, 64]⟩
abbrev S8 : Shape := ⟨1, ![8]⟩
abbrev S8x8x16x128 : Shape := ⟨4, ![8, 8, 16, 128]⟩
abbrev S8x1 : Shape := ⟨2, ![8, 1]⟩
abbrev S8x64 : Shape := ⟨2, ![8, 64]⟩
abbrev S1x8x1x64 : Shape := ⟨4, ![1, 8, 1, 64]⟩
abbrev S8x8x16x64 : Shape := ⟨4, ![8, 8, 16, 64]⟩
abbrev S4x2048x2048 : Shape := ⟨3, ![4, 2048, 2048]⟩
abbrev S8192x2048 : Shape := ⟨2, ![8192, 2048]⟩
abbrev S4x16x2048 : Shape := ⟨3, ![4, 16, 2048]⟩
abbrev S64x2048 : Shape := ⟨2, ![64, 2048]⟩
abbrev S8320x2048 : Shape := ⟨2, ![8320, 2048]⟩

abbrev nBuf : Space → Nat
  | .hbm => 92
  | .vmem => 0
  | .smem => 0
  | _ => 0

abbrev bufTy : (tb : Table) → Fin (tcTables nBuf tb) → BufTy
  | .hbm, ⟨0, _⟩ => ⟨S4x2064x2048, .f32⟩
  | .hbm, ⟨1, _⟩ => ⟨S8x8x2048, .f32⟩
  | .hbm, ⟨2, _⟩ => ⟨S2x2048x2048, .f32⟩
  | .hbm, ⟨3, _⟩ => ⟨S1x2048x2048, .f32⟩
  | .hbm, ⟨4, _⟩ => ⟨S2048x2048, .f32⟩
  | .hbm, ⟨5, _⟩ => ⟨S2064, .i32⟩
  | .hbm, ⟨6, _⟩ => ⟨S4x2064x2048, .f32⟩
  | .hbm, ⟨7, _⟩ => ⟨S4x2064x16x128, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S2064, .f32⟩
  | .hbm, ⟨17, _⟩ => ⟨S2064x1, .f32⟩
  | .hbm, ⟨18, _⟩ => ⟨S1x64, .f32⟩
  | .hbm, ⟨19, _⟩ => ⟨S2064x64, .f32⟩
  | .hbm, ⟨20, _⟩ => ⟨S2064x64, .f32⟩
  | .hbm, ⟨21, _⟩ => ⟨S2064x64, .f32⟩
  | .hbm, ⟨22, _⟩ => ⟨S2064x64, .f32⟩
  | .hbm, ⟨23, _⟩ => ⟨S1x2064x1x64, .f32⟩
  | .hbm, ⟨24, _⟩ => ⟨S2064x64, .f32⟩
  | .hbm, ⟨25, _⟩ => ⟨S1x2064x1x64, .f32⟩
  | .hbm, ⟨26, _⟩ => ⟨S4x2064x16x64, .f32⟩
  | .hbm, ⟨27, _⟩ => ⟨S4x2064x16x64, .f32⟩
  | .hbm, ⟨28, _⟩ => ⟨S4x2064x16x64, .f32⟩
  | .hbm, ⟨29, _⟩ => ⟨S4x2064x16x64, .f32⟩
  | .hbm, ⟨30, _⟩ => ⟨S4x2064x16x64, .f32⟩
  | .hbm, ⟨31, _⟩ => ⟨S4x2064x16x64, .f32⟩
  | .hbm, ⟨32, _⟩ => ⟨S4x2064x16x64, .f32⟩
  | .hbm, ⟨33, _⟩ => ⟨S4x2064x16x64, .f32⟩
  | .hbm, ⟨34, _⟩ => ⟨S4x2064x16x64, .f32⟩
  | .hbm, ⟨35, _⟩ => ⟨S4x2064x16x64, .f32⟩
  | .hbm, ⟨36, _⟩ => ⟨S4x2064x16x64, .f32⟩
  | .hbm, ⟨37, _⟩ => ⟨S4x2064x16x64, .f32⟩
  | .hbm, ⟨38, _⟩ => ⟨S4x2064x16x128, .f32⟩
  | .hbm, ⟨39, _⟩ => ⟨S_, .f32⟩
  | .hbm, ⟨40, _⟩ => ⟨S4x2064x16x128, .f32⟩
  | .hbm, ⟨41, _⟩ => ⟨S4x2064x16x128, .f32⟩
  | .hbm, ⟨42, _⟩ => ⟨S4x2064x2048, .f32⟩
  | .hbm, ⟨43, _⟩ => ⟨S1x2048x2048, .f32⟩
  | .hbm, ⟨44, _⟩ => ⟨S2048x2048, .f32⟩
  | .hbm, ⟨45, _⟩ => ⟨S8, .i32⟩
  | .hbm, ⟨46, _⟩ => ⟨S_, .i32⟩
  | .hbm, ⟨47, _⟩ => ⟨S8, .i32⟩
  | .hbm, ⟨48, _⟩ => ⟨S8, .i32⟩
  | .hbm, ⟨49, _⟩ => ⟨S8x8x2048, .f32⟩
  | .hbm, ⟨50, _⟩ => ⟨S8x8x16x128, .f32⟩
  | .hbm, ⟨51, _⟩ => ⟨S64, .f32⟩
  | .hbm, ⟨52, _⟩ => ⟨S64, .f32⟩
  | .hbm, ⟨53, _⟩ => ⟨S_, .f32⟩
  | .hbm, ⟨54, _⟩ => ⟨S64, .f32⟩
  | .hbm, ⟨55, _⟩ => ⟨S64, .f32⟩
  | .hbm, ⟨56, _⟩ => ⟨S_, .f32⟩
  | .hbm, ⟨57, _⟩ => ⟨S64, .f32⟩
  | .hbm, ⟨58, _⟩ => ⟨S64, .f32⟩
  | .hbm, ⟨59, _⟩ => ⟨S8, .f32⟩
  | .hbm, ⟨60, _⟩ => ⟨S8x1, .f32⟩
  | .hbm, ⟨61, _⟩ => ⟨S1x64, .f32⟩
  | .hbm, ⟨62, _⟩ => ⟨S8x64, .f32⟩
  | .hbm, ⟨63, _⟩ => ⟨S8x64, .f32⟩
  | .hbm, ⟨64, _⟩ => ⟨S8x64, .f32⟩
  | .hbm, ⟨65, _⟩ => ⟨S8x64, .f32⟩
  | .hbm, ⟨66, _⟩ => ⟨S1x8x1x64, .f32⟩
  | .hbm, ⟨67, _⟩ => ⟨S8x64, .f32⟩
  | .hbm, ⟨68, _⟩ => ⟨S1x8x1x64, .f32⟩
  | .hbm, ⟨69, _⟩ => ⟨S8x8x16x64, .f32⟩
  | .hbm, ⟨70, _⟩ => ⟨S8x8x16x64, .f32⟩
  | .hbm, ⟨71, _⟩ => ⟨S8x8x16x64, .f32⟩
  | .hbm, ⟨72, _⟩ => ⟨S8x8x16x64, .f32⟩
  | .hbm, ⟨73, _⟩ => ⟨S8x8x16x64, .f32⟩
  | .hbm, ⟨74, _⟩ => ⟨S8x8x16x64, .f32⟩
  | .hbm, ⟨75, _⟩ => ⟨S8x8x16x64, .f32⟩
  | .hbm, ⟨76, _⟩ => ⟨S8x8x16x64, .f32⟩
  | .hbm, ⟨77, _⟩ => ⟨S8x8x16x64, .f32⟩
  | .hbm, ⟨78, _⟩ => ⟨S8x8x16x64, .f32⟩
  | .hbm, ⟨79, _⟩ => ⟨S8x8x16x64, .f32⟩
  | .hbm, ⟨80, _⟩ => ⟨S8x8x16x64, .f32⟩
  | .hbm, ⟨81, _⟩ => ⟨S8x8x16x128, .f32⟩
  | .hbm, ⟨82, _⟩ => ⟨S_, .f32⟩
  | .hbm, ⟨83, _⟩ => ⟨S8x8x16x128, .f32⟩
  | .hbm, ⟨84, _⟩ => ⟨S8x8x16x128, .f32⟩
  | .hbm, ⟨85, _⟩ => ⟨S8x8x2048, .f32⟩
  | .hbm, ⟨86, _⟩ => ⟨S4x2048x2048, .f32⟩
  | .hbm, ⟨87, _⟩ => ⟨S8192x2048, .f32⟩
  | .hbm, ⟨88, _⟩ => ⟨S4x16x2048, .f32⟩
  | .hbm, ⟨89, _⟩ => ⟨S64x2048, .f32⟩
  | .hbm, ⟨90, _⟩ => ⟨S64x2048, .f32⟩
  | .hbm, ⟨91, _⟩ => ⟨S8320x2048, .f32⟩
  | _, _ => ⟨S4x2064x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_cst_1 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_c : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_cst_2 : Ref sig .tc := ⟨.hbm, 53, rfl⟩
abbrev main_v46 : Ref sig .tc := ⟨.hbm, 54, rfl⟩
abbrev main_v47 : Ref sig .tc := ⟨.hbm, 55, rfl⟩
abbrev main_cst_3 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_cst_4 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩

abbrev nD : Nat := 1
abbrev τ : Topo := Topo.v7x

variable {F : FTy → Type} [FloatOps F]
-- ==== OutsA.lean ====
abbrev S4x2064x2048 : Shape := ⟨3, ![4, 2064, 2048]⟩
abbrev S8x8x2048 : Shape := ⟨3, ![8, 8, 2048]⟩
abbrev S2x2048x2048 : Shape := ⟨3, ![2, 2048, 2048]⟩
abbrev S4x2048x2048 : Shape := ⟨3, ![4, 2048, 2048]⟩
abbrev S8192x2048 : Shape := ⟨2, ![8192, 2048]⟩
abbrev S4x16x2048 : Shape := ⟨3, ![4, 16, 2048]⟩
abbrev S64x2048 : Shape := ⟨2, ![64, 2048]⟩
abbrev S8320x2048 : Shape := ⟨2, ![8320, 2048]⟩
abbrev S1040x2048 : Shape := ⟨2, ![1040, 2048]⟩
abbrev S1x2048x1024 : Shape := ⟨3, ![1, 2048, 1024]⟩
abbrev S1040x1024 : Shape := ⟨2, ![1040, 1024]⟩
abbrev S2048x1024 : Shape := ⟨2, ![2048, 1024]⟩

abbrev nBuf : Space → Nat
  | .hbm => 11
  | .vmem => 7
  | .smem => 0
  | _ => 0

abbrev bufTy : (tb : Table) → Fin (tcTables nBuf tb) → BufTy
  | .hbm, ⟨0, _⟩ => ⟨S4x2064x2048, .f32⟩
  | .hbm, ⟨1, _⟩ => ⟨S8x8x2048, .f32⟩
  | .hbm, ⟨2, _⟩ => ⟨S2x2048x2048, .f32⟩
  | .hbm, ⟨3, _⟩ => ⟨S4x2048x2048, .f32⟩
  | .hbm, ⟨4, _⟩ => ⟨S8192x2048, .f32⟩
  | .hbm, ⟨5, _⟩ => ⟨S4x16x2048, .f32⟩
  | .hbm, ⟨6, _⟩ => ⟨S64x2048, .f32⟩
  | .hbm, ⟨7, _⟩ => ⟨S64x2048, .f32⟩
  | .hbm, ⟨8, _⟩ => ⟨S8320x2048, .f32⟩
  | .hbm, ⟨9, _⟩ => ⟨S8320x2048, .bf16⟩
  | .hbm, ⟨10, _⟩ => ⟨S8320x2048, .f32⟩
  | .local _ .vmem, ⟨0, _⟩ => ⟨S1040x2048, .bf16⟩
  | .local _ .vmem, ⟨1, _⟩ => ⟨S1040x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1040x1024, .f32⟩
  | .local _ .vmem, ⟨5, _⟩ => ⟨S1040x1024, .f32⟩
  | .local _ .vmem, ⟨6, _⟩ => ⟨S2048x1024, .bf16⟩
  | _, _ => ⟨S4x2064x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PlainOutsAIdeal.lean ====
abbrev S4x2064x2048 : Shape := ⟨3, ![4, 2064, 2048]⟩
abbrev S8x8x2048 : Shape := ⟨3, ![8, 8, 2048]⟩
abbrev S2x2048x2048 : Shape := ⟨3, ![2, 2048, 2048]⟩
abbrev S1x2048x2048 : Shape := ⟨3, ![1, 2048, 2048]⟩
abbrev S2048x2048 : Shape := ⟨2, ![2048, 2048]⟩
abbrev S4x2048x2048 : Shape := ⟨3, ![4, 2048, 2048]⟩
abbrev S8192x2048 : Shape := ⟨2, ![8192, 2048]⟩
abbrev S4x16x2048 : Shape := ⟨3, ![4, 16, 2048]⟩
abbrev S64x2048 : Shape := ⟨2, ![64, 2048]⟩
abbrev S8320x2048 : Shape := ⟨2, ![8320, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4x2064x2048, .f32⟩
  | .hbm, ⟨1, _⟩ => ⟨S8x8x2048, .f32⟩
  | .hbm, ⟨2, _⟩ => ⟨S2x2048x2048, .f32⟩
  | .hbm, ⟨3, _⟩ => ⟨S1x2048x2048, .f32⟩
  | .hbm, ⟨4, _⟩ => ⟨S2048x2048, .f32⟩
  | .hbm, ⟨5, _⟩ => ⟨S4x2064x2048, .f32⟩
  | .hbm, ⟨6, _⟩ => ⟨S1x2048x2048, .f32⟩
  | .hbm, ⟨7, _⟩ => ⟨S2048x2048, .f32⟩
  | .hbm, ⟨8, _⟩ => ⟨S8x8x2048, .f32⟩
  | .hbm, ⟨9, _⟩ => ⟨S4x2048x2048, .f32⟩
  | .hbm, ⟨10, _⟩ => ⟨S8192x2048, .f32⟩
  | .hbm, ⟨11, _⟩ => ⟨S4x16x2048, .f32⟩
  | .hbm, ⟨12, _⟩ => ⟨S64x2048, .f32⟩
  | .hbm, ⟨13, _⟩ => ⟨S64x2048, .f32⟩
  | .hbm, ⟨14, _⟩ => ⟨S8320x2048, .f32⟩
  | _, _ => ⟨S4x2064x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== GatesA.lean ====
abbrev S4x2064x2048 : Shape := ⟨3, ![4, 2064, 2048]⟩
abbrev S8x8x2048 : Shape := ⟨3, ![8, 8, 2048]⟩
abbrev S2x2048x10304 : Shape := ⟨3, ![2, 2048, 10304]⟩
abbrev S4x2048x2048 : Shape := ⟨3, ![4, 2048, 2048]⟩
abbrev S8192x2048 : Shape := ⟨2, ![8192, 2048]⟩
abbrev S4x16x2048 : Shape := ⟨3, ![4, 16, 2048]⟩
abbrev S64x2048 : Shape := ⟨2, ![64, 2048]⟩
abbrev S8320x2048 : Shape := ⟨2, ![8320, 2048]⟩
abbrev S8320x4096 : Shape := ⟨2, ![8320, 4096]⟩
abbrev S1040x2048 : Shape := ⟨2, ![1040, 2048]⟩
abbrev S1x2048x1024 : Shape := ⟨3, ![1, 2048, 1024]⟩
abbrev S1040x1024 : Shape := ⟨2, ![1040, 1024]⟩
abbrev S2048x1024 : Shape := ⟨2, ![2048, 1024]⟩

abbrev nBuf : Space → Nat
  | .hbm => 11
  | .vmem => 7
  | .smem => 0
  | _ => 0

abbrev bufTy : (tb : Table) → Fin (tcTables nBuf tb) → BufTy
  | .hbm, ⟨0, _⟩ => ⟨S4x2064x2048, .f32⟩
  | .hbm, ⟨1, _⟩ => ⟨S8x8x2048, .f32⟩
  | .hbm, ⟨2, _⟩ => ⟨S2x2048x10304, .f32⟩
  | .hbm, ⟨3, _⟩ => ⟨S4x2048x2048, .f32⟩
  | .hbm, ⟨4, _⟩ => ⟨S8192x2048, .f32⟩
  | .hbm, ⟨5, _⟩ => ⟨S4x16x2048, .f32⟩
  | .hbm, ⟨6, _⟩ => ⟨S64x2048, .f32⟩
  | .hbm, ⟨7, _⟩ => ⟨S64x2048, .f32⟩
  | .hbm, ⟨8, _⟩ => ⟨S8320x2048, .f32⟩
  | .hbm, ⟨9, _⟩ => ⟨S8320x2048, .bf16⟩
  | .hbm, ⟨10, _⟩ => ⟨S8320x4096, .f32⟩
  | .local _ .vmem, ⟨0, _⟩ => ⟨S1040x2048, .bf16⟩
  | .local _ .vmem, ⟨1, _⟩ => ⟨S1040x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1040x1024, .f32⟩
  | .local _ .vmem, ⟨5, _⟩ => ⟨S1040x1024, .f32⟩
  | .local _ .vmem, ⟨6, _⟩ => ⟨S2048x1024, .bf16⟩
  | _, _ => ⟨S4x2064x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PlainGatesAIdeal.lean ====
abbrev S4x2064x2048 : Shape := ⟨3, ![4, 2064, 2048]⟩
abbrev S8x8x2048 : Shape := ⟨3, ![8, 8, 2048]⟩
abbrev S2x2048x10304 : Shape := ⟨3, ![2, 2048, 10304]⟩
abbrev S1x2048x10304 : Shape := ⟨3, ![1, 2048, 10304]⟩
abbrev S2048x10304 : Shape := ⟨2, ![2048, 10304]⟩
abbrev S4x2064x10304 : Shape := ⟨3, ![4, 2064, 10304]⟩
abbrev S4x2064x4096 : Shape := ⟨3, ![4, 2064, 4096]⟩
abbrev S8x8x10304 : Shape := ⟨3, ![8, 8, 10304]⟩
abbrev S8x8x4096 : Shape := ⟨3, ![8, 8, 4096]⟩
abbrev S4x2048x4096 : Shape := ⟨3, ![4, 2048, 4096]⟩
abbrev S8192x4096 : Shape := ⟨2, ![8192, 4096]⟩
abbrev S4x16x4096 : Shape := ⟨3, ![4, 16, 4096]⟩
abbrev S64x4096 : Shape := ⟨2, ![64, 4096]⟩
abbrev S8320x4096 : Shape := ⟨2, ![8320, 4096]⟩

abbrev nBuf : Space → Nat
  | .hbm => 17
  | .vmem => 0
  | .smem => 0
  | _ => 0

abbrev bufTy : (tb : Table) → Fin (tcTables nBuf tb) → BufTy
  | .hbm, ⟨0, _⟩ => ⟨S4x2064x2048, .f32⟩
  | .hbm, ⟨1, _⟩ => ⟨S8x8x2048, .f32⟩
  | .hbm, ⟨2, _⟩ => ⟨S2x2048x10304, .f32⟩
  | .hbm, ⟨3, _⟩ => ⟨S1x2048x10304, .f32⟩
  | .hbm, ⟨4, _⟩ => ⟨S2048x10304, .f32⟩
  | .hbm, ⟨5, _⟩ => ⟨S4x2064x10304, .f32⟩
  | .hbm, ⟨6, _⟩ => ⟨S4x2064x4096, .f32⟩
  | .hbm, ⟨7, _⟩ => ⟨S1x2048x10304, .f32⟩
  | .hbm, ⟨8, _⟩ => ⟨S2048x10304, .f32⟩
  | .hbm, ⟨9, _⟩ => ⟨S8x8x10304, .f32⟩
  | .hbm, ⟨10, _⟩ => ⟨S8x8x4096, .f32⟩
  | .hbm, ⟨11, _⟩ => ⟨S4x2048x4096, .f32⟩
  | .hbm, ⟨12, _⟩ => ⟨S8192x4096, .f32⟩
  | .hbm, ⟨13, _⟩ => ⟨S4x16x4096, .f32⟩
  | .hbm, ⟨14, _⟩ => ⟨S64x4096, .f32⟩
  | .hbm, ⟨15, _⟩ => ⟨S64x4096, .f32⟩
  | .hbm, ⟨16, _⟩ => ⟨S8320x4096, .f32⟩
  | _, _ => ⟨S4x2064x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== StreamsA.lean ====
abbrev S4x2064x2048 : Shape := ⟨3, ![4, 2064, 2048]⟩
abbrev S8x8x2048 : Shape := ⟨3, ![8, 8, 2048]⟩
abbrev S2x2048x10304 : Shape := ⟨3, ![2, 2048, 10304]⟩
abbrev S4x2048x2048 : Shape := ⟨3, ![4, 2048, 2048]⟩
abbrev S8192x2048 : Shape := ⟨2, ![8192, 2048]⟩
abbrev S4x16x2048 : Shape := ⟨3, ![4, 16, 2048]⟩
abbrev S64x2048 : Shape := ⟨2, ![64, 2048]⟩
abbrev S8320x2048 : Shape := ⟨2, ![8320, 2048]⟩
abbrev S8320x6144 : Shape := ⟨2, ![8320, 6144]⟩
abbrev S1040x2048 : Shape := ⟨2, ![1040, 2048]⟩
abbrev S1x2048x1024 : Shape := ⟨3, ![1, 2048, 1024]⟩
abbrev S1040x1024 : Shape := ⟨2, ![1040, 1024]⟩
abbrev S2048x1024 : Shape := ⟨2, ![2048, 1024]⟩

abbrev nBuf : Space → Nat
  | .hbm => 11
  | .vmem => 7
  | .smem => 0
  | _ => 0

abbrev bufTy : (tb : Table) → Fin (tcTables nBuf tb) → BufTy
  | .hbm, ⟨0, _⟩ => ⟨S4x2064x2048, .f32⟩
  | .hbm, ⟨1, _⟩ => ⟨S8x8x2048, .f32⟩
  | .hbm, ⟨2, _⟩ => ⟨S2x2048x10304, .f32⟩
  | .hbm, ⟨3, _⟩ => ⟨S4x2048x2048, .f32⟩
  | .hbm, ⟨4, _⟩ => ⟨S8192x2048, .f32⟩
  | .hbm, ⟨5, _⟩ => ⟨S4x16x2048, .f32⟩
  | .hbm, ⟨6, _⟩ => ⟨S64x2048, .f32⟩
  | .hbm, ⟨7, _⟩ => ⟨S64x2048, .f32⟩
  | .hbm, ⟨8, _⟩ => ⟨S8320x2048, .f32⟩
  | .hbm, ⟨9, _⟩ => ⟨S8320x2048, .bf16⟩
  | .hbm, ⟨10, _⟩ => ⟨S8320x6144, .f32⟩
  | .local _ .vmem, ⟨0, _⟩ => ⟨S1040x2048, .bf16⟩
  | .local _ .vmem, ⟨1, _⟩ => ⟨S1040x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1040x1024, .f32⟩
  | .local _ .vmem, ⟨5, _⟩ => ⟨S1040x1024, .f32⟩
  | .local _ .vmem, ⟨6, _⟩ => ⟨S2048x1024, .bf16⟩
  | _, _ => ⟨S4x2064x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PlainStreamsAIdeal.lean ====
abbrev S4x2064x2048 : Shape := ⟨3, ![4, 2064, 2048]⟩
abbrev S8x8x2048 : Shape := ⟨3, ![8, 8, 2048]⟩
abbrev S2x2048x10304 : Shape := ⟨3, ![2, 2048, 10304]⟩
abbrev S1x2048x10304 : Shape := ⟨3, ![1, 2048, 10304]⟩
abbrev S2048x10304 : Shape := ⟨2, ![2048, 10304]⟩
abbrev S4x2064x10304 : Shape := ⟨3, ![4, 2064, 10304]⟩
abbrev S4x2064x6144 : Shape := ⟨3, ![4, 2064, 6144]⟩
abbrev S8x8x10304 : Shape := ⟨3, ![8, 8, 10304]⟩
abbrev S8x8x6144 : Shape := ⟨3, ![8, 8, 6144]⟩
abbrev S4x2048x6144 : Shape := ⟨3, ![4, 2048, 6144]⟩
abbrev S8192x6144 : Shape := ⟨2, ![8192, 6144]⟩
abbrev S4x16x6144 : Shape := ⟨3, ![4, 16, 6144]⟩
abbrev S64x6144 : Shape := ⟨2, ![64, 6144]⟩
abbrev S8320x6144 : Shape := ⟨2, ![8320, 6144]⟩

abbrev nBuf : Space → Nat
  | .hbm => 17
  | .vmem => 0
  | .smem => 0
  | _ => 0

abbrev bufTy : (tb : Table) → Fin (tcTables nBuf tb) → BufTy
  | .hbm, ⟨0, _⟩ => ⟨S4x2064x2048, .f32⟩
  | .hbm, ⟨1, _⟩ => ⟨S8x8x2048, .f32⟩
  | .hbm, ⟨2, _⟩ => ⟨S2x2048x10304, .f32⟩
  | .hbm, ⟨3, _⟩ => ⟨S1x2048x10304, .f32⟩
  | .hbm, ⟨4, _⟩ => ⟨S2048x10304, .f32⟩
  | .hbm, ⟨5, _⟩ => ⟨S4x2064x10304, .f32⟩
  | .hbm, ⟨6, _⟩ => ⟨S4x2064x6144, .f32⟩
  | .hbm, ⟨7, _⟩ => ⟨S1x2048x10304, .f32⟩
  | .hbm, ⟨8, _⟩ => ⟨S2048x10304, .f32⟩
  | .hbm, ⟨9, _⟩ => ⟨S8x8x10304, .f32⟩
  | .hbm, ⟨10, _⟩ => ⟨S8x8x6144, .f32⟩
  | .hbm, ⟨11, _⟩ => ⟨S4x2048x6144, .f32⟩
  | .hbm, ⟨12, _⟩ => ⟨S8192x6144, .f32⟩
  | .hbm, ⟨13, _⟩ => ⟨S4x16x6144, .f32⟩
  | .hbm, ⟨14, _⟩ => ⟨S64x6144, .f32⟩
  | .hbm, ⟨15, _⟩ => ⟨S64x6144, .f32⟩
  | .hbm, ⟨16, _⟩ => ⟨S8320x6144, .f32⟩
  | _, _ => ⟨S4x2064x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== MixesA.lean ====
abbrev S4x2064x4096 : Shape := ⟨3, ![4, 2064, 4096]⟩
abbrev S8x8x4096 : Shape := ⟨3, ![8, 8, 4096]⟩
abbrev S2x4096x2048 : Shape := ⟨3, ![2, 4096, 2048]⟩
abbrev S4x2048x4096 : Shape := ⟨3, ![4, 2048, 4096]⟩
abbrev S8192x4096 : Shape := ⟨2, ![8192, 4096]⟩
abbrev S4x16x4096 : Shape := ⟨3, ![4, 16, 4096]⟩
abbrev S64x4096 : Shape := ⟨2, ![64, 4096]⟩
abbrev S8320x4096 : Shape := ⟨2, ![8320, 4096]⟩
abbrev S8320x2048 : Shape := ⟨2, ![8320, 2048]⟩
abbrev S1040x4096 : Shape := ⟨2, ![1040, 4096]⟩
abbrev S1x4096x512 : Shape := ⟨3, ![1, 4096, 512]⟩
abbrev S1040x512 : Shape := ⟨2, ![1040, 512]⟩
abbrev S4096x512 : Shape := ⟨2, ![4096, 512]⟩

abbrev nBuf : Space → Nat
  | .hbm => 11
  | .vmem => 7
  | .smem => 0
  | _ => 0

abbrev bufTy : (tb : Table) → Fin (tcTables nBuf tb) → BufTy
  | .hbm, ⟨0, _⟩ => ⟨S4x2064x4096, .f32⟩
  | .hbm, ⟨1, _⟩ => ⟨S8x8x4096, .f32⟩
  | .hbm, ⟨2, _⟩ => ⟨S2x4096x2048, .f32⟩
  | .hbm, ⟨3, _⟩ => ⟨S4x2048x4096, .f32⟩
  | .hbm, ⟨4, _⟩ => ⟨S8192x4096, .f32⟩
  | .hbm, ⟨5, _⟩ => ⟨S4x16x4096, .f32⟩
  | .hbm, ⟨6, _⟩ => ⟨S64x4096, .f32⟩
  | .hbm, ⟨7, _⟩ => ⟨S64x4096, .f32⟩
  | .hbm, ⟨8, _⟩ => ⟨S8320x4096, .f32⟩
  | .hbm, ⟨9, _⟩ => ⟨S8320x4096, .bf16⟩
  | .hbm, ⟨10, _⟩ => ⟨S8320x2048, .f32⟩
  | .local _ .vmem, ⟨0, _⟩ => ⟨S1040x4096, .bf16⟩
  | .local _ .vmem, ⟨1, _⟩ => ⟨S1040x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1040x512, .f32⟩
  | .local _ .vmem, ⟨5, _⟩ => ⟨S1040x512, .f32⟩
  | .local _ .vmem, ⟨6, _⟩ => ⟨S4096x512, .bf16⟩
  | _, _ => ⟨S4x2064x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1040x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1040x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PlainMixesAIdeal.lean ====
abbrev S4x2064x4096 : Shape := ⟨3, ![4, 2064, 4096]⟩
abbrev S8x8x4096 : Shape := ⟨3, ![8, 8, 4096]⟩
abbrev S2x4096x2048 : Shape := ⟨3, ![2, 4096, 2048]⟩
abbrev S1x4096x2048 : Shape := ⟨3, ![1, 4096, 2048]⟩
abbrev S4096x2048 : Shape := ⟨2, ![4096, 2048]⟩
abbrev S4x2064x2048 : Shape := ⟨3, ![4, 2064, 2048]⟩
abbrev S8x8x2048 : Shape := ⟨3, ![8, 8, 2048]⟩
abbrev S4x2048x2048 : Shape := ⟨3, ![4, 2048, 2048]⟩
abbrev S8192x2048 : Shape := ⟨2, ![8192, 2048]⟩
abbrev S4x16x2048 : Shape := ⟨3, ![4, 16, 2048]⟩
abbrev S64x2048 : Shape := ⟨2, ![64, 2048]⟩
abbrev S8320x2048 : Shape := ⟨2, ![8320, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4x2064x4096, .f32⟩
  | .hbm, ⟨1, _⟩ => ⟨S8x8x4096, .f32⟩
  | .hbm, ⟨2, _⟩ => ⟨S2x4096x2048, .f32⟩
  | .hbm, ⟨3, _⟩ => ⟨S1x4096x2048, .f32⟩
  | .hbm, ⟨4, _⟩ => ⟨S4096x2048, .f32⟩
  | .hbm, ⟨5, _⟩ => ⟨S4x2064x2048, .f32⟩
  | .hbm, ⟨6, _⟩ => ⟨S1x4096x2048, .f32⟩
  | .hbm, ⟨7, _⟩ => ⟨S4096x2048, .f32⟩
  | .hbm, ⟨8, _⟩ => ⟨S8x8x2048, .f32⟩
  | .hbm, ⟨9, _⟩ => ⟨S4x2048x2048, .f32⟩
  | .hbm, ⟨10, _⟩ => ⟨S8192x2048, .f32⟩
  | .hbm, ⟨11, _⟩ => ⟨S4x16x2048, .f32⟩
  | .hbm, ⟨12, _⟩ => ⟨S64x2048, .f32⟩
  | .hbm, ⟨13, _⟩ => ⟨S64x2048, .f32⟩
  | .hbm, ⟨14, _⟩ => ⟨S8320x2048, .f32⟩
  | _, _ => ⟨S4x2064x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== QueriesB.lean ====
abbrev S4x2064x2048 : Shape := ⟨3, ![4, 2064, 2048]⟩
abbrev S8x8x2048 : Shape := ⟨3, ![8, 8, 2048]⟩
abbrev S2x2048x2048 : Shape := ⟨3, ![2, 2048, 2048]⟩
abbrev S4x2048x2048 : Shape := ⟨3, ![4, 2048, 2048]⟩
abbrev S8192x2048 : Shape := ⟨2, ![8192, 2048]⟩
abbrev S4x16x2048 : Shape := ⟨3, ![4, 16, 2048]⟩
abbrev S64x2048 : Shape := ⟨2, ![64, 2048]⟩
abbrev S8320x2048 : Shape := ⟨2, ![8320, 2048]⟩
abbrev S2048 : Shape := ⟨1, ![2048]⟩
abbrev S_ : Shape := ⟨0, ![]⟩
abbrev S1x2048 : Shape := ⟨2, ![1, 2048]⟩
abbrev S4x2048 : Shape := ⟨2, ![4, 2048]⟩
abbrev S8192 : Shape := ⟨1, ![8192]⟩
abbrev S16 : Shape := ⟨1, ![16]⟩
abbrev S1x16 : Shape := ⟨2, ![1, 16]⟩
abbrev S4x16 : Shape := ⟨2, ![4, 16]⟩
abbrev S64 : Shape := ⟨1, ![64]⟩
abbrev S8 : Shape := ⟨1, ![8]⟩
abbrev S1x8 : Shape := ⟨2, ![1, 8]⟩
abbrev S8x8 : Shape := ⟨2, ![8, 8]⟩
abbrev S8320 : Shape := ⟨1, ![8320]⟩
abbrev S8320x1 : Shape := ⟨2, ![8320, 1]⟩
abbrev S1x64 : Shape := ⟨2, ![1, 64]⟩
abbrev S8320x64 : Shape := ⟨2, ![8320, 64]⟩
abbrev S8320x128 : Shape := ⟨2, ![8320, 128]⟩
abbrev S1040x2048 : Shape := ⟨2, ![1040, 2048]⟩
abbrev S1x2048x1024 : Shape := ⟨3, ![1, 2048, 1024]⟩
abbrev S1040x128 : Shape := ⟨2, ![1040, 128]⟩
abbrev S1040x1024 : Shape := ⟨2, ![1040, 1024]⟩
abbrev S2048x1024 : Shape := ⟨2, ![2048, 1024]⟩

abbrev nBuf : Space → Nat
  | .hbm => 49
  | .vmem => 11
  | .smem => 0
  | _ => 0

abbrev bufTy : (tb : Table) → Fin (tcTables nBuf tb) → BufTy
  | .hbm, ⟨0, _⟩ => ⟨S4x2064x2048, .f32⟩
  | .hbm, ⟨1, _⟩ => ⟨S8x8x2048, .f32⟩
  | .hbm, ⟨2, _⟩ => ⟨S2x2048x2048, .f32⟩
  | .hbm, ⟨3, _⟩ => ⟨S4x2048x2048, .f32⟩
  | .hbm, ⟨4, _⟩ => ⟨S8192x2048, .f32⟩
  | .hbm, ⟨5, _⟩ => ⟨S4x16x2048, .f32⟩
  | .hbm, ⟨6, _⟩ => ⟨S64x2048, .f32⟩
  | .hbm, ⟨7, _⟩ => ⟨S64x2048, .f32⟩
  | .hbm, ⟨8, _⟩ => ⟨S8320x2048, .f32⟩
  | .hbm, ⟨9, _⟩ => ⟨S8320x2048, .bf16⟩
  | .hbm, ⟨10, _⟩ => ⟨S2048, .i32⟩
  | .hbm, ⟨11, _⟩ => ⟨S_, .i32⟩
  | .hbm, ⟨12, _⟩ => ⟨S2048, .i32⟩
  | .hbm, ⟨13, _⟩ => ⟨S2048, .i32⟩
  | .hbm, ⟨14, _⟩ => ⟨S1x2048, .i32⟩
  | .hbm, ⟨15, _⟩ => ⟨S4x2048, .i32⟩
  | .hbm, ⟨16, _⟩ => ⟨S8192, .i32⟩
  | .hbm, ⟨17, _⟩ => ⟨S16, .i32⟩
  | .hbm, ⟨18, _⟩ => ⟨S1x16, .i32⟩
  | .hbm, ⟨19, _⟩ => ⟨S4x16, .i32⟩
  | .hbm, ⟨20, _⟩ => ⟨S64, .i32⟩
  | .hbm, ⟨21, _⟩ => ⟨S8, .i32⟩
  | .hbm, ⟨22, _⟩ => ⟨S_, .i32⟩
  | .hbm, ⟨23, _⟩ => ⟨S8, .i32⟩
  | .hbm, ⟨24, _⟩ => ⟨S8, .i32⟩
  | .hbm, ⟨25, _⟩ => ⟨S1x8, .i32⟩
  | .hbm, ⟨26, _⟩ => ⟨S8x8, .i32⟩
  | .hbm, ⟨27, _⟩ => ⟨S64, .i32⟩
  | .hbm, ⟨28, _⟩ => ⟨S8320, .i32⟩
  | .hbm, ⟨29, _⟩ => ⟨S64, .f32⟩
  | .hbm, ⟨30, _⟩ => ⟨S64, .f32⟩
  | .hbm, ⟨31, _⟩ => ⟨S_, .f32⟩
  | .hbm, ⟨32, _⟩ => ⟨S64, .f32⟩
  | .hbm, ⟨33, _⟩ => ⟨S64, .f32⟩
  | .hbm, ⟨34, _⟩ => ⟨S_, .f32⟩
  | .hbm, ⟨35, _⟩ => ⟨S64, .f32⟩
  | .hbm, ⟨36, _⟩ => ⟨S64, .f32⟩
  | .hbm, ⟨37, _⟩ => ⟨S8320, .f32⟩
  | .hbm, ⟨38, _⟩ => ⟨S8320x1, .f32⟩
  | .hbm, ⟨39, _⟩ => ⟨S1x64, .f32⟩
  | .hbm, ⟨40, _⟩ => ⟨S8320x64, .f32⟩
  | .hbm, ⟨41, _⟩ => ⟨S8320x64, .f32⟩
  | .hbm, ⟨42, _⟩ => ⟨S8320x64, .f32⟩
  | .hbm, ⟨43, _⟩ => ⟨S8320x64, .f32⟩
  | .hbm, ⟨44, _⟩ => ⟨S8320x64, .f32⟩
  | .hbm, ⟨45, _⟩ => ⟨S8320x128, .f32⟩
  | .hbm, ⟨46, _⟩ => ⟨S8320x64, .f32⟩
  | .hbm, ⟨47, _⟩ => ⟨S8320x128, .f32⟩
  | .hbm, ⟨48, _⟩ => ⟨S8320x2048, .f32⟩
  | .local _ .vmem, ⟨0, _⟩ => ⟨S1040x2048, .bf16⟩
  | .local _ .vmem, ⟨1, _⟩ => ⟨S1040x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1040x128, .f32⟩
  | .local _ .vmem, ⟨5, _⟩ => ⟨S1040x128, .f32⟩
  | .local _ .vmem, ⟨6, _⟩ => ⟨S1040x128, .f32⟩
  | .local _ .vmem, ⟨7, _⟩ => ⟨S1040x128, .f32⟩
  | .local _ .vmem, ⟨8, _⟩ => ⟨S1040x1024, .f32⟩
  | .local _ .vmem, ⟨9, _⟩ => ⟨S1040x1024, .f32⟩
  | .local _ .vmem, ⟨10, _⟩ => ⟨S2048x1024, .bf16⟩
  | _, _ => ⟨S4x2064x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst : Ref sig .tc := ⟨.hbm, 31, rfl⟩
abbrev main_v26 : Ref sig .tc := ⟨.hbm, 32, rfl⟩
abbrev main_v27 : Ref sig .tc := ⟨.hbm, 33, rfl⟩
abbrev main_cst_1 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1040x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1040x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1040x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== PlainQueriesBIdeal.lean ====
abbrev S4x2064x2048 : Shape := ⟨3, ![4, 2064, 2048]⟩
abbrev S8x8x2048 : Shape := ⟨3, ![8, 8, 2048]⟩
abbrev S2x2048x2048 : Shape := ⟨3, ![2, 2048, 2048]⟩
abbrev S1x2048x2048 : Shape := ⟨3, ![1, 2048, 2048]⟩
abbrev S2048x2048 : Shape := ⟨2, ![2048, 2048]⟩
abbrev S2064 : Shape := ⟨1, ![2064]⟩
abbrev S4x2064x16x128 : Shape := ⟨4, ![4, 2064, 16, 128]⟩
abbrev S64 : Shape := ⟨1, ![64]⟩
abbrev S_ : Shape := ⟨0, ![]⟩
abbrev S2064x1 : Shape := ⟨2, ![2064, 1]⟩
abbrev S1x64 : Shape := ⟨2, ![1, 64]⟩
abbrev S2064x64 : Shape := ⟨2, ![2064, 64]⟩
abbrev S1x2064x1x64 : Shape := ⟨4, ![1, 2064, 1, 64]⟩
abbrev S4x2064x16x64 : Shape := ⟨4, ![4, 2064, 16, 64]⟩
abbrev S8 : Shape := ⟨1, ![8]⟩
abbrev S8x8x16x128 : Shape := ⟨4, ![8, 8, 16, 128]⟩
abbrev S8x1 : Shape := ⟨2, ![8, 1]⟩
abbrev S8x64 : Shape := ⟨2, ![8, 64]⟩
abbrev S1x8x1x64 : Shape := ⟨4, ![1, 8, 1, 64]⟩
abbrev S8x8x16x64 : Shape := ⟨4, ![8, 8, 16, 64]⟩
abbrev S4x2048x2048 : Shape := ⟨3, ![4, 2048, 2048]⟩
abbrev S8192x2048 : Shape := ⟨2, ![8192, 2048]⟩
abbrev S4x16x2048 : Shape := ⟨3, ![4, 16, 2048]⟩
abbrev S64x2048 : Shape := ⟨2, ![64, 2048]⟩
abbrev S8320x2048 : Shape := ⟨2, ![8320, 2048]⟩

abbrev nBuf : Space → Nat
  | .hbm => 92
  | .vmem => 0
  | .smem => 0
  | _ => 0

abbrev bufTy : (tb : Table) → Fin (tcTables nBuf tb) → BufTy
  | .hbm, ⟨0, _⟩ => ⟨S4x2064x2048, .f32⟩
  | .hbm, ⟨1, _⟩ => ⟨S8x8x2048, .f32⟩
  | .hbm, ⟨2, _⟩ => ⟨S2x2048x2048, .f32⟩
  | .hbm, ⟨3, _⟩ => ⟨S1x2048x2048, .f32⟩
  | .hbm, ⟨4, _⟩ => ⟨S2048x2048, .f32⟩
  | .hbm, ⟨5, _⟩ => ⟨S2064, .i32⟩
  | .hbm, ⟨6, _⟩ => ⟨S4x2064x2048, .f32⟩
  | .hbm, ⟨7, _⟩ => ⟨S4x2064x16x128, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S2064, .f32⟩
  | .hbm, ⟨17, _⟩ => ⟨S2064x1, .f32⟩
  | .hbm, ⟨18, _⟩ => ⟨S1x64, .f32⟩
  | .hbm, ⟨19, _⟩ => ⟨S2064x64, .f32⟩
  | .hbm, ⟨20, _⟩ => ⟨S2064x64, .f32⟩
  | .hbm, ⟨21, _⟩ => ⟨S2064x64, .f32⟩
  | .hbm, ⟨22, _⟩ => ⟨S2064x64, .f32⟩
  | .hbm, ⟨23, _⟩ => ⟨S1x2064x1x64, .f32⟩
  | .hbm, ⟨24, _⟩ => ⟨S2064x64, .f32⟩
  | .hbm, ⟨25, _⟩ => ⟨S1x2064x1x64, .f32⟩
  | .hbm, ⟨26, _⟩ => ⟨S4x2064x16x64, .f32⟩
  | .hbm, ⟨27, _⟩ => ⟨S4x2064x16x64, .f32⟩
  | .hbm, ⟨28, _⟩ => ⟨S4x2064x16x64, .f32⟩
  | .hbm, ⟨29, _⟩ => ⟨S4x2064x16x64, .f32⟩
  | .hbm, ⟨30, _⟩ => ⟨S4x2064x16x64, .f32⟩
  | .hbm, ⟨31, _⟩ => ⟨S4x2064x16x64, .f32⟩
  | .hbm, ⟨32, _⟩ => ⟨S4x2064x16x64, .f32⟩
  | .hbm, ⟨33, _⟩ => ⟨S4x2064x16x64, .f32⟩
  | .hbm, ⟨34, _⟩ => ⟨S4x2064x16x64, .f32⟩
  | .hbm, ⟨35, _⟩ => ⟨S4x2064x16x64, .f32⟩
  | .hbm, ⟨36, _⟩ => ⟨S4x2064x16x64, .f32⟩
  | .hbm, ⟨37, _⟩ => ⟨S4x2064x16x64, .f32⟩
  | .hbm, ⟨38, _⟩ => ⟨S4x2064x16x128, .f32⟩
  | .hbm, ⟨39, _⟩ => ⟨S_, .f32⟩
  | .hbm, ⟨40, _⟩ => ⟨S4x2064x16x128, .f32⟩
  | .hbm, ⟨41, _⟩ => ⟨S4x2064x16x128, .f32⟩
  | .hbm, ⟨42, _⟩ => ⟨S4x2064x2048, .f32⟩
  | .hbm, ⟨43, _⟩ => ⟨S1x2048x2048, .f32⟩
  | .hbm, ⟨44, _⟩ => ⟨S2048x2048, .f32⟩
  | .hbm, ⟨45, _⟩ => ⟨S8, .i32⟩
  | .hbm, ⟨46, _⟩ => ⟨S_, .i32⟩
  | .hbm, ⟨47, _⟩ => ⟨S8, .i32⟩
  | .hbm, ⟨48, _⟩ => ⟨S8, .i32⟩
  | .hbm, ⟨49, _⟩ => ⟨S8x8x2048, .f32⟩
  | .hbm, ⟨50, _⟩ => ⟨S8x8x16x128, .f32⟩
  | .hbm, ⟨51, _⟩ => ⟨S64, .f32⟩
  | .hbm, ⟨52, _⟩ => ⟨S64, .f32⟩
  | .hbm, ⟨53, _⟩ => ⟨S_, .f32⟩
  | .hbm, ⟨54, _⟩ => ⟨S64, .f32⟩
  | .hbm, ⟨55, _⟩ => ⟨S64, .f32⟩
  | .hbm, ⟨56, _⟩ => ⟨S_, .f32⟩
  | .hbm, ⟨57, _⟩ => ⟨S64, .f32⟩
  | .hbm, ⟨58, _⟩ => ⟨S64, .f32⟩
  | .hbm, ⟨59, _⟩ => ⟨S8, .f32⟩
  | .hbm, ⟨60, _⟩ => ⟨S8x1, .f32⟩
  | .hbm, ⟨61, _⟩ => ⟨S1x64, .f32⟩
  | .hbm, ⟨62, _⟩ => ⟨S8x64, .f32⟩
  | .hbm, ⟨63, _⟩ => ⟨S8x64, .f32⟩
  | .hbm, ⟨64, _⟩ => ⟨S8x64, .f32⟩
  | .hbm, ⟨65, _⟩ => ⟨S8x64, .f32⟩
  | .hbm, ⟨66, _⟩ => ⟨S1x8x1x64, .f32⟩
  | .hbm, ⟨67, _⟩ => ⟨S8x64, .f32⟩
  | .hbm, ⟨68, _⟩ => ⟨S1x8x1x64, .f32⟩
  | .hbm, ⟨69, _⟩ => ⟨S8x8x16x64, .f32⟩
  | .hbm, ⟨70, _⟩ => ⟨S8x8x16x64, .f32⟩
  | .hbm, ⟨71, _⟩ => ⟨S8x8x16x64, .f32⟩
  | .hbm, ⟨72, _⟩ => ⟨S8x8x16x64, .f32⟩
  | .hbm, ⟨73, _⟩ => ⟨S8x8x16x64, .f32⟩
  | .hbm, ⟨74, _⟩ => ⟨S8x8x16x64, .f32⟩
  | .hbm, ⟨75, _⟩ => ⟨S8x8x16x64, .f32⟩
  | .hbm, ⟨76, _⟩ => ⟨S8x8x16x64, .f32⟩
  | .hbm, ⟨77, _⟩ => ⟨S8x8x16x64, .f32⟩
  | .hbm, ⟨78, _⟩ => ⟨S8x8x16x64, .f32⟩
  | .hbm, ⟨79, _⟩ => ⟨S8x8x16x64, .f32⟩
  | .hbm, ⟨80, _⟩ => ⟨S8x8x16x64, .f32⟩
  | .hbm, ⟨81, _⟩ => ⟨S8x8x16x128, .f32⟩
  | .hbm, ⟨82, _⟩ => ⟨S_, .f32⟩
  | .hbm, ⟨83, _⟩ => ⟨S8x8x16x128, .f32⟩
  | .hbm, ⟨84, _⟩ => ⟨S8x8x16x128, .f32⟩
  | .hbm, ⟨85, _⟩ => ⟨S8x8x2048, .f32⟩
  | .hbm, ⟨86, _⟩ => ⟨S4x2048x2048, .f32⟩
  | .hbm, ⟨87, _⟩ => ⟨S8192x2048, .f32⟩
  | .hbm, ⟨88, _⟩ => ⟨S4x16x2048, .f32⟩
  | .hbm, ⟨89, _⟩ => ⟨S64x2048, .f32⟩
  | .hbm, ⟨90, _⟩ => ⟨S64x2048, .f32⟩
  | .hbm, ⟨91, _⟩ => ⟨S8320x2048, .f32⟩
  | _, _ => ⟨S4x2064x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_cst_1 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_c : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_cst_2 : Ref sig .tc := ⟨.hbm, 53, rfl⟩
abbrev main_v46 : Ref sig .tc := ⟨.hbm, 54, rfl⟩
abbrev main_v47 : Ref sig .tc := ⟨.hbm, 55, rfl⟩
abbrev main_cst_3 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_cst_4 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩

abbrev nD : Nat := 1
abbrev τ : Topo := Topo.v7x

variable {F : FTy → Type} [FloatOps F]
-- ==== OutsB.lean ====
abbrev S4x2064x2048 : Shape := ⟨3, ![4, 2064, 2048]⟩
abbrev S8x8x2048 : Shape := ⟨3, ![8, 8, 2048]⟩
abbrev S2x2048x2048 : Shape := ⟨3, ![2, 2048, 2048]⟩
abbrev S4x2048x2048 : Shape := ⟨3, ![4, 2048, 2048]⟩
abbrev S8192x2048 : Shape := ⟨2, ![8192, 2048]⟩
abbrev S4x16x2048 : Shape := ⟨3, ![4, 16, 2048]⟩
abbrev S64x2048 : Shape := ⟨2, ![64, 2048]⟩
abbrev S8320x2048 : Shape := ⟨2, ![8320, 2048]⟩
abbrev S1040x2048 : Shape := ⟨2, ![1040, 2048]⟩
abbrev S1x2048x1024 : Shape := ⟨3, ![1, 2048, 1024]⟩
abbrev S1040x1024 : Shape := ⟨2, ![1040, 1024]⟩
abbrev S2048x1024 : Shape := ⟨2, ![2048, 1024]⟩

abbrev nBuf : Space → Nat
  | .hbm => 11
  | .vmem => 7
  | .smem => 0
  | _ => 0

abbrev bufTy : (tb : Table) → Fin (tcTables nBuf tb) → BufTy
  | .hbm, ⟨0, _⟩ => ⟨S4x2064x2048, .f32⟩
  | .hbm, ⟨1, _⟩ => ⟨S8x8x2048, .f32⟩
  | .hbm, ⟨2, _⟩ => ⟨S2x2048x2048, .f32⟩
  | .hbm, ⟨3, _⟩ => ⟨S4x2048x2048, .f32⟩
  | .hbm, ⟨4, _⟩ => ⟨S8192x2048, .f32⟩
  | .hbm, ⟨5, _⟩ => ⟨S4x16x2048, .f32⟩
  | .hbm, ⟨6, _⟩ => ⟨S64x2048, .f32⟩
  | .hbm, ⟨7, _⟩ => ⟨S64x2048, .f32⟩
  | .hbm, ⟨8, _⟩ => ⟨S8320x2048, .f32⟩
  | .hbm, ⟨9, _⟩ => ⟨S8320x2048, .bf16⟩
  | .hbm, ⟨10, _⟩ => ⟨S8320x2048, .f32⟩
  | .local _ .vmem, ⟨0, _⟩ => ⟨S1040x2048, .bf16⟩
  | .local _ .vmem, ⟨1, _⟩ => ⟨S1040x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1040x1024, .f32⟩
  | .local _ .vmem, ⟨5, _⟩ => ⟨S1040x1024, .f32⟩
  | .local _ .vmem, ⟨6, _⟩ => ⟨S2048x1024, .bf16⟩
  | _, _ => ⟨S4x2064x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PlainOutsBIdeal.lean ====
abbrev S4x2064x2048 : Shape := ⟨3, ![4, 2064, 2048]⟩
abbrev S8x8x2048 : Shape := ⟨3, ![8, 8, 2048]⟩
abbrev S2x2048x2048 : Shape := ⟨3, ![2, 2048, 2048]⟩
abbrev S1x2048x2048 : Shape := ⟨3, ![1, 2048, 2048]⟩
abbrev S2048x2048 : Shape := ⟨2, ![2048, 2048]⟩
abbrev S4x2048x2048 : Shape := ⟨3, ![4, 2048, 2048]⟩
abbrev S8192x2048 : Shape := ⟨2, ![8192, 2048]⟩
abbrev S4x16x2048 : Shape := ⟨3, ![4, 16, 2048]⟩
abbrev S64x2048 : Shape := ⟨2, ![64, 2048]⟩
abbrev S8320x2048 : Shape := ⟨2, ![8320, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4x2064x2048, .f32⟩
  | .hbm, ⟨1, _⟩ => ⟨S8x8x2048, .f32⟩
  | .hbm, ⟨2, _⟩ => ⟨S2x2048x2048, .f32⟩
  | .hbm, ⟨3, _⟩ => ⟨S1x2048x2048, .f32⟩
  | .hbm, ⟨4, _⟩ => ⟨S2048x2048, .f32⟩
  | .hbm, ⟨5, _⟩ => ⟨S4x2064x2048, .f32⟩
  | .hbm, ⟨6, _⟩ => ⟨S1x2048x2048, .f32⟩
  | .hbm, ⟨7, _⟩ => ⟨S2048x2048, .f32⟩
  | .hbm, ⟨8, _⟩ => ⟨S8x8x2048, .f32⟩
  | .hbm, ⟨9, _⟩ => ⟨S4x2048x2048, .f32⟩
  | .hbm, ⟨10, _⟩ => ⟨S8192x2048, .f32⟩
  | .hbm, ⟨11, _⟩ => ⟨S4x16x2048, .f32⟩
  | .hbm, ⟨12, _⟩ => ⟨S64x2048, .f32⟩
  | .hbm, ⟨13, _⟩ => ⟨S64x2048, .f32⟩
  | .hbm, ⟨14, _⟩ => ⟨S8320x2048, .f32⟩
  | _, _ => ⟨S4x2064x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== GatesB.lean ====
abbrev S4x2064x2048 : Shape := ⟨3, ![4, 2064, 2048]⟩
abbrev S8x8x2048 : Shape := ⟨3, ![8, 8, 2048]⟩
abbrev S2x2048x10304 : Shape := ⟨3, ![2, 2048, 10304]⟩
abbrev S4x2048x2048 : Shape := ⟨3, ![4, 2048, 2048]⟩
abbrev S8192x2048 : Shape := ⟨2, ![8192, 2048]⟩
abbrev S4x16x2048 : Shape := ⟨3, ![4, 16, 2048]⟩
abbrev S64x2048 : Shape := ⟨2, ![64, 2048]⟩
abbrev S8320x2048 : Shape := ⟨2, ![8320, 2048]⟩
abbrev S8320x4096 : Shape := ⟨2, ![8320, 4096]⟩
abbrev S1040x2048 : Shape := ⟨2, ![1040, 2048]⟩
abbrev S1x2048x1024 : Shape := ⟨3, ![1, 2048, 1024]⟩
abbrev S1040x1024 : Shape := ⟨2, ![1040, 1024]⟩
abbrev S2048x1024 : Shape := ⟨2, ![2048, 1024]⟩

abbrev nBuf : Space → Nat
  | .hbm => 11
  | .vmem => 7
  | .smem => 0
  | _ => 0

abbrev bufTy : (tb : Table) → Fin (tcTables nBuf tb) → BufTy
  | .hbm, ⟨0, _⟩ => ⟨S4x2064x2048, .f32⟩
  | .hbm, ⟨1, _⟩ => ⟨S8x8x2048, .f32⟩
  | .hbm, ⟨2, _⟩ => ⟨S2x2048x10304, .f32⟩
  | .hbm, ⟨3, _⟩ => ⟨S4x2048x2048, .f32⟩
  | .hbm, ⟨4, _⟩ => ⟨S8192x2048, .f32⟩
  | .hbm, ⟨5, _⟩ => ⟨S4x16x2048, .f32⟩
  | .hbm, ⟨6, _⟩ => ⟨S64x2048, .f32⟩
  | .hbm, ⟨7, _⟩ => ⟨S64x2048, .f32⟩
  | .hbm, ⟨8, _⟩ => ⟨S8320x2048, .f32⟩
  | .hbm, ⟨9, _⟩ => ⟨S8320x2048, .bf16⟩
  | .hbm, ⟨10, _⟩ => ⟨S8320x4096, .f32⟩
  | .local _ .vmem, ⟨0, _⟩ => ⟨S1040x2048, .bf16⟩
  | .local _ .vmem, ⟨1, _⟩ => ⟨S1040x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1040x1024, .f32⟩
  | .local _ .vmem, ⟨5, _⟩ => ⟨S1040x1024, .f32⟩
  | .local _ .vmem, ⟨6, _⟩ => ⟨S2048x1024, .bf16⟩
  | _, _ => ⟨S4x2064x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PlainGatesBIdeal.lean ====
abbrev S4x2064x2048 : Shape := ⟨3, ![4, 2064, 2048]⟩
abbrev S8x8x2048 : Shape := ⟨3, ![8, 8, 2048]⟩
abbrev S2x2048x10304 : Shape := ⟨3, ![2, 2048, 10304]⟩
abbrev S1x2048x10304 : Shape := ⟨3, ![1, 2048, 10304]⟩
abbrev S2048x10304 : Shape := ⟨2, ![2048, 10304]⟩
abbrev S4x2064x10304 : Shape := ⟨3, ![4, 2064, 10304]⟩
abbrev S4x2064x4096 : Shape := ⟨3, ![4, 2064, 4096]⟩
abbrev S8x8x10304 : Shape := ⟨3, ![8, 8, 10304]⟩
abbrev S8x8x4096 : Shape := ⟨3, ![8, 8, 4096]⟩
abbrev S4x2048x4096 : Shape := ⟨3, ![4, 2048, 4096]⟩
abbrev S8192x4096 : Shape := ⟨2, ![8192, 4096]⟩
abbrev S4x16x4096 : Shape := ⟨3, ![4, 16, 4096]⟩
abbrev S64x4096 : Shape := ⟨2, ![64, 4096]⟩
abbrev S8320x4096 : Shape := ⟨2, ![8320, 4096]⟩

abbrev nBuf : Space → Nat
  | .hbm => 17
  | .vmem => 0
  | .smem => 0
  | _ => 0

abbrev bufTy : (tb : Table) → Fin (tcTables nBuf tb) → BufTy
  | .hbm, ⟨0, _⟩ => ⟨S4x2064x2048, .f32⟩
  | .hbm, ⟨1, _⟩ => ⟨S8x8x2048, .f32⟩
  | .hbm, ⟨2, _⟩ => ⟨S2x2048x10304, .f32⟩
  | .hbm, ⟨3, _⟩ => ⟨S1x2048x10304, .f32⟩
  | .hbm, ⟨4, _⟩ => ⟨S2048x10304, .f32⟩
  | .hbm, ⟨5, _⟩ => ⟨S4x2064x10304, .f32⟩
  | .hbm, ⟨6, _⟩ => ⟨S4x2064x4096, .f32⟩
  | .hbm, ⟨7, _⟩ => ⟨S1x2048x10304, .f32⟩
  | .hbm, ⟨8, _⟩ => ⟨S2048x10304, .f32⟩
  | .hbm, ⟨9, _⟩ => ⟨S8x8x10304, .f32⟩
  | .hbm, ⟨10, _⟩ => ⟨S8x8x4096, .f32⟩
  | .hbm, ⟨11, _⟩ => ⟨S4x2048x4096, .f32⟩
  | .hbm, ⟨12, _⟩ => ⟨S8192x4096, .f32⟩
  | .hbm, ⟨13, _⟩ => ⟨S4x16x4096, .f32⟩
  | .hbm, ⟨14, _⟩ => ⟨S64x4096, .f32⟩
  | .hbm, ⟨15, _⟩ => ⟨S64x4096, .f32⟩
  | .hbm, ⟨16, _⟩ => ⟨S8320x4096, .f32⟩
  | _, _ => ⟨S4x2064x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== StreamsB.lean ====
abbrev S4x2064x2048 : Shape := ⟨3, ![4, 2064, 2048]⟩
abbrev S8x8x2048 : Shape := ⟨3, ![8, 8, 2048]⟩
abbrev S2x2048x10304 : Shape := ⟨3, ![2, 2048, 10304]⟩
abbrev S4x2048x2048 : Shape := ⟨3, ![4, 2048, 2048]⟩
abbrev S8192x2048 : Shape := ⟨2, ![8192, 2048]⟩
abbrev S4x16x2048 : Shape := ⟨3, ![4, 16, 2048]⟩
abbrev S64x2048 : Shape := ⟨2, ![64, 2048]⟩
abbrev S8320x2048 : Shape := ⟨2, ![8320, 2048]⟩
abbrev S8320x6144 : Shape := ⟨2, ![8320, 6144]⟩
abbrev S1040x2048 : Shape := ⟨2, ![1040, 2048]⟩
abbrev S1x2048x1024 : Shape := ⟨3, ![1, 2048, 1024]⟩
abbrev S1040x1024 : Shape := ⟨2, ![1040, 1024]⟩
abbrev S2048x1024 : Shape := ⟨2, ![2048, 1024]⟩

abbrev nBuf : Space → Nat
  | .hbm => 11
  | .vmem => 7
  | .smem => 0
  | _ => 0

abbrev bufTy : (tb : Table) → Fin (tcTables nBuf tb) → BufTy
  | .hbm, ⟨0, _⟩ => ⟨S4x2064x2048, .f32⟩
  | .hbm, ⟨1, _⟩ => ⟨S8x8x2048, .f32⟩
  | .hbm, ⟨2, _⟩ => ⟨S2x2048x10304, .f32⟩
  | .hbm, ⟨3, _⟩ => ⟨S4x2048x2048, .f32⟩
  | .hbm, ⟨4, _⟩ => ⟨S8192x2048, .f32⟩
  | .hbm, ⟨5, _⟩ => ⟨S4x16x2048, .f32⟩
  | .hbm, ⟨6, _⟩ => ⟨S64x2048, .f32⟩
  | .hbm, ⟨7, _⟩ => ⟨S64x2048, .f32⟩
  | .hbm, ⟨8, _⟩ => ⟨S8320x2048, .f32⟩
  | .hbm, ⟨9, _⟩ => ⟨S8320x2048, .bf16⟩
  | .hbm, ⟨10, _⟩ => ⟨S8320x6144, .f32⟩
  | .local _ .vmem, ⟨0, _⟩ => ⟨S1040x2048, .bf16⟩
  | .local _ .vmem, ⟨1, _⟩ => ⟨S1040x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1040x1024, .f32⟩
  | .local _ .vmem, ⟨5, _⟩ => ⟨S1040x1024, .f32⟩
  | .local _ .vmem, ⟨6, _⟩ => ⟨S2048x1024, .bf16⟩
  | _, _ => ⟨S4x2064x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c1_i32 : BitVec 32 := 1#32
  let c0_i32 : BitVec 32 := 0#32
  let c0_i32_0 : BitVec 32 := 0#32
  ![c1_i32.toNat, c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PlainStreamsBIdeal.lean ====
abbrev S4x2064x2048 : Shape := ⟨3, ![4, 2064, 2048]⟩
abbrev S8x8x2048 : Shape := ⟨3, ![8, 8, 2048]⟩
abbrev S2x2048x10304 : Shape := ⟨3, ![2, 2048, 10304]⟩
abbrev S1x2048x10304 : Shape := ⟨3, ![1, 2048, 10304]⟩
abbrev S2048x10304 : Shape := ⟨2, ![2048, 10304]⟩
abbrev S4x2064x10304 : Shape := ⟨3, ![4, 2064, 10304]⟩
abbrev S4x2064x6144 : Shape := ⟨3, ![4, 2064, 6144]⟩
abbrev S8x8x10304 : Shape := ⟨3, ![8, 8, 10304]⟩
abbrev S8x8x6144 : Shape := ⟨3, ![8, 8, 6144]⟩
abbrev S4x2048x6144 : Shape := ⟨3, ![4, 2048, 6144]⟩
abbrev S8192x6144 : Shape := ⟨2, ![8192, 6144]⟩
abbrev S4x16x6144 : Shape := ⟨3, ![4, 16, 6144]⟩
abbrev S64x6144 : Shape := ⟨2, ![64, 6144]⟩
abbrev S8320x6144 : Shape := ⟨2, ![8320, 6144]⟩

abbrev nBuf : Space → Nat
  | .hbm => 17
  | .vmem => 0
  | .smem => 0
  | _ => 0

abbrev bufTy : (tb : Table) → Fin (tcTables nBuf tb) → BufTy
  | .hbm, ⟨0, _⟩ => ⟨S4x2064x2048, .f32⟩
  | .hbm, ⟨1, _⟩ => ⟨S8x8x2048, .f32⟩
  | .hbm, ⟨2, _⟩ => ⟨S2x2048x10304, .f32⟩
  | .hbm, ⟨3, _⟩ => ⟨S1x2048x10304, .f32⟩
  | .hbm, ⟨4, _⟩ => ⟨S2048x10304, .f32⟩
  | .hbm, ⟨5, _⟩ => ⟨S4x2064x10304, .f32⟩
  | .hbm, ⟨6, _⟩ => ⟨S4x2064x6144, .f32⟩
  | .hbm, ⟨7, _⟩ => ⟨S1x2048x10304, .f32⟩
  | .hbm, ⟨8, _⟩ => ⟨S2048x10304, .f32⟩
  | .hbm, ⟨9, _⟩ => ⟨S8x8x10304, .f32⟩
  | .hbm, ⟨10, _⟩ => ⟨S8x8x6144, .f32⟩
  | .hbm, ⟨11, _⟩ => ⟨S4x2048x6144, .f32⟩
  | .hbm, ⟨12, _⟩ => ⟨S8192x6144, .f32⟩
  | .hbm, ⟨13, _⟩ => ⟨S4x16x6144, .f32⟩
  | .hbm, ⟨14, _⟩ => ⟨S64x6144, .f32⟩
  | .hbm, ⟨15, _⟩ => ⟨S64x6144, .f32⟩
  | .hbm, ⟨16, _⟩ => ⟨S8320x6144, .f32⟩
  | _, _ => ⟨S4x2064x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== MixesB.lean ====
abbrev S4x2064x4096 : Shape := ⟨3, ![4, 2064, 4096]⟩
abbrev S8x8x4096 : Shape := ⟨3, ![8, 8, 4096]⟩
abbrev S2x4096x2048 : Shape := ⟨3, ![2, 4096, 2048]⟩
abbrev S4x2048x4096 : Shape := ⟨3, ![4, 2048, 4096]⟩
abbrev S8192x4096 : Shape := ⟨2, ![8192, 4096]⟩
abbrev S4x16x4096 : Shape := ⟨3, ![4, 16, 4096]⟩
abbrev S64x4096 : Shape := ⟨2, ![64, 4096]⟩
abbrev S8320x4096 : Shape := ⟨2, ![8320, 4096]⟩
abbrev S8320x2048 : Shape := ⟨2, ![8320, 2048]⟩
abbrev S1040x4096 : Shape := ⟨2, ![1040, 4096]⟩
abbrev S1x4096x512 : Shape := ⟨3, ![1, 4096, 512]⟩
abbrev S1040x512 : Shape := ⟨2, ![1040, 512]⟩
abbrev S4096x512 : Shape := ⟨2, ![4096, 512]⟩

abbrev nBuf : Space → Nat
  | .hbm => 11
  | .vmem => 7
  | .smem => 0
  | _ => 0

abbrev bufTy : (tb : Table) → Fin (tcTables nBuf tb) → BufTy
  | .hbm, ⟨0, _⟩ => ⟨S4x2064x4096, .f32⟩
  | .hbm, ⟨1, _⟩ => ⟨S8x8x4096, .f32⟩
  | .hbm, ⟨2, _⟩ => ⟨S2x4096x2048, .f32⟩
  | .hbm, ⟨3, _⟩ => ⟨S4x2048x4096, .f32⟩
  | .hbm, ⟨4, _⟩ => ⟨S8192x4096, .f32⟩
  | .hbm, ⟨5, _⟩ => ⟨S4x16x4096, .f32⟩
  | .hbm, ⟨6, _⟩ => ⟨S64x4096, .f32⟩
  | .hbm, ⟨7, _⟩ => ⟨S64x4096, .f32⟩
  | .hbm, ⟨8, _⟩ => ⟨S8320x4096, .f32⟩
  | .hbm, ⟨9, _⟩ => ⟨S8320x4096, .bf16⟩
  | .hbm, ⟨10, _⟩ => ⟨S8320x2048, .f32⟩
  | .local _ .vmem, ⟨0, _⟩ => ⟨S1040x4096, .bf16⟩
  | .local _ .vmem, ⟨1, _⟩ => ⟨S1040x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1040x512, .f32⟩
  | .local _ .vmem, ⟨5, _⟩ => ⟨S1040x512, .f32⟩
  | .local _ .vmem, ⟨6, _⟩ => ⟨S4096x512, .bf16⟩
  | _, _ => ⟨S4x2064x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1040x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1040x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PlainMixesBIdeal.lean ====
abbrev S4x2064x4096 : Shape := ⟨3, ![4, 2064, 4096]⟩
abbrev S8x8x4096 : Shape := ⟨3, ![8, 8, 4096]⟩
abbrev S2x4096x2048 : Shape := ⟨3, ![2, 4096, 2048]⟩
abbrev S1x4096x2048 : Shape := ⟨3, ![1, 4096, 2048]⟩
abbrev S4096x2048 : Shape := ⟨2, ![4096, 2048]⟩
abbrev S4x2064x2048 : Shape := ⟨3, ![4, 2064, 2048]⟩
abbrev S8x8x2048 : Shape := ⟨3, ![8, 8, 2048]⟩
abbrev S4x2048x2048 : Shape := ⟨3, ![4, 2048, 2048]⟩
abbrev S8192x2048 : Shape := ⟨2, ![8192, 2048]⟩
abbrev S4x16x2048 : Shape := ⟨3, ![4, 16, 2048]⟩
abbrev S64x2048 : Shape := ⟨2, ![64, 2048]⟩
abbrev S8320x2048 : Shape := ⟨2, ![8320, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4x2064x4096, .f32⟩
  | .hbm, ⟨1, _⟩ => ⟨S8x8x4096, .f32⟩
  | .hbm, ⟨2, _⟩ => ⟨S2x4096x2048, .f32⟩
  | .hbm, ⟨3, _⟩ => ⟨S1x4096x2048, .f32⟩
  | .hbm, ⟨4, _⟩ => ⟨S4096x2048, .f32⟩
  | .hbm, ⟨5, _⟩ => ⟨S4x2064x2048, .f32⟩
  | .hbm, ⟨6, _⟩ => ⟨S1x4096x2048, .f32⟩
  | .hbm, ⟨7, _⟩ => ⟨S4096x2048, .f32⟩
  | .hbm, ⟨8, _⟩ => ⟨S8x8x2048, .f32⟩
  | .hbm, ⟨9, _⟩ => ⟨S4x2048x2048, .f32⟩
  | .hbm, ⟨10, _⟩ => ⟨S8192x2048, .f32⟩
  | .hbm, ⟨11, _⟩ => ⟨S4x16x2048, .f32⟩
  | .hbm, ⟨12, _⟩ => ⟨S64x2048, .f32⟩
  | .hbm, ⟨13, _⟩ => ⟨S64x2048, .f32⟩
  | .hbm, ⟨14, _⟩ => ⟨S8320x2048, .f32⟩
  | _, _ => ⟨S4x2064x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Proof.Blocks.lean ====
module

public import proofs.«01_k».proof.Proof.Gen.KernelIdeal.Frame
public import Idealize.ShloMosaic.Lib.Pipeline.Value
public import Idealize.ShloMosaic.Lib.Pointwise

/-! The operands that the host code prepares, and the blocks that a grid point reads of them, as entries of the arguments. -/

@[expose] public section

set_option maxRecDepth 16384

noncomputable section

namespace Cert.Flash

open Idealize.ShloMosaic Idealize.ShloMosaic.TcCoe Idealize.ShloMosaic.Tactic
open Idealize.ShloMosaic.Pointwise
open Cert.KernelIdeal Cert.KernelIdeal.Gen

variable {F : FTy → Type} [FloatOps F]
variable (m : (ℓ : Loc nD τ sig) → Buf (Elt F) ℓ)

/-- The rows of a two-dimensional operand: the prompt's rows of each sequence, the prefixes of each, and zeros. -/
def rows (X : Vec F S4x2064x2048 .f32) : Vec F S8320x2048 .f32 :=
  concatenate S8320x2048 0 [⟨S8192x2048, shapeCast S8192x2048 (extractStridedSlice S4x2048x2048 ![0, 16, 0] X slices_S4x2064x2048_S4x2048x2048_0_16_0) shapeCasts_S4x2048x2048_S8192x2048⟩,
    ⟨S64x2048, shapeCast S64x2048 (extractStridedSlice S4x16x2048 ![0, 0, 0] X slices_S4x2064x2048_S4x16x2048_0_0_0) shapeCasts_S4x16x2048_S64x2048⟩,
    ⟨S64x2048, broadcastInDim S64x2048 ![] bcast_S_S64x2048 (constant S_ .f32 0x00000000#32)⟩] concatenates_S8192x2048_S64x2048_S64x2048_S8320x2048_d0

theorem V6 (c : Dev nD) : V m c main_v6 = rows (shapeCast S4x2064x2048 (m ((c : Thread nD τ).loc main_arg0)) shapeCasts_S4x2064x16x128_S4x2064x2048) := by
  show StableHlo.after hostOps0 _ _ = _
  rw [hostOps0]
  after_results_simp
  rfl
theorem V13 (c : Dev nD) : V m c main_v13 = rows (shapeCast S4x2064x2048 (m ((c : Thread nD τ).loc main_arg1)) shapeCasts_S4x2064x16x128_S4x2064x2048) := by
  show StableHlo.after hostOps0 _ _ = _
  rw [hostOps0]
  after_results_simp
  rfl
theorem V20 (c : Dev nD) : V m c main_v20 = rows (shapeCast S4x2064x2048 (m ((c : Thread nD τ).loc main_arg2)) shapeCasts_S4x2064x8x256_S4x2064x2048) := by
  show StableHlo.after hostOps0 _ _ = _
  rw [hostOps0]
  after_results_simp
  rfl
theorem V21 (c : Dev nD) : V m c main_v21 = shapeCast S2x1x256 (m ((c : Thread nD τ).loc main_arg4)) shapeCasts_S2x256_S2x1x256 := by
  show StableHlo.after hostOps0 _ _ = _
  rw [hostOps0]
  after_results_simp
  rfl

theorem rows_prompt (X : Vec F S4x2064x2048 .f32) (b : Fin 4) (s : Fin 2048) (k : Fin 2048) (r : Fin 8320)
    (hr : r.val = 2048 * b.val + s.val) : rows X (ix2 r k) = X (ix3 b ⟨16 + s.val, by omega⟩ k) := by
  have hb := b.isLt
  have hs := s.isLt
  unfold rows
  refine (concatenate_apply_piece (t := S8320x2048) 0 _ _ _ 0 (by show 0 < 3; decide) S8192x2048 _ rfl rfl 0 rfl (ix2 ⟨r.val, by omega⟩ k) ?_ ?_).trans ?_
  · intro a ha
    match a with
    | ⟨0, _⟩ => exact absurd rfl ha
    | ⟨1, _⟩ => rfl
  · show 0 + r.val = r.val
    omega
  · rw [Pointwise.shapeCast_apply]
    refine (congrArg _ (Shape.reshapeEquiv_eq_of_vals _ _ (ix3 b s k) (b.val * 4194304 + s.val * 2048 + k.val) (r.val * 2048 + k.val) ?_ ?_ (by omega))).trans ?_
    · exact rowMajor_val3 (ix3 b s k) 4194304 2048 rfl rfl
    · exact rowMajor_val2 _ 2048 rfl
    · refine congrArg X (funext fun a => Fin.ext ?_)
      match a with
      | ⟨0, _⟩ => show 0 + b.val = b.val; omega
      | ⟨1, _⟩ => rfl
      | ⟨2, _⟩ => show 0 + k.val = k.val; omega
theorem rows_prefix (X : Vec F S4x2064x2048 .f32) (b : Fin 4) (s : Fin 16) (k : Fin 2048) (r : Fin 8320)
    (hr : r.val = 8192 + 16 * b.val + s.val) : rows X (ix2 r k) = X (ix3 b ⟨s.val, by omega⟩ k) := by
  have hb := b.isLt
  have hs := s.isLt
  unfold rows
  refine (concatenate_apply_piece (t := S8320x2048) 0 _ _ _ 1 (by show 1 < 3; decide) S64x2048 _ rfl rfl 8192 rfl (ix2 ⟨r.val - 8192, by omega⟩ k) ?_ ?_).trans ?_
  · intro a ha
    match a with
    | ⟨0, _⟩ => exact absurd rfl ha
    | ⟨1, _⟩ => rfl
  · show 8192 + (r.val - 8192) = r.val
    omega
  · rw [Pointwise.shapeCast_apply]
    refine (congrArg _ (Shape.reshapeEquiv_eq_of_vals _ _ (ix3 b s k) (b.val * 32768 + s.val * 2048 + k.val) ((r.val - 8192) * 2048 + k.val) ?_ ?_ (by omega))).trans ?_
    · exact rowMajor_val3 (ix3 b s k) 32768 2048 rfl rfl
    · exact rowMajor_val2 _ 2048 rfl
    · refine congrArg X (funext fun a => Fin.ext ?_)
      match a with
      | ⟨0, _⟩ => show 0 + b.val = b.val; omega
      | ⟨1, _⟩ => show 0 + s.val = s.val; omega
      | ⟨2, _⟩ => show 0 + k.val = k.val; omega

/-- The flattened heads of a row. -/
theorem heads128 (A : Vec F S4x2064x16x128 .f32) (b : Fin 4) (s : Fin 2064) (h : Fin 16) (e : Fin 128) (k : Fin 2048)
    (hk : k.val = 128 * h.val + e.val) :
    shapeCast S4x2064x2048 A shapeCasts_S4x2064x16x128_S4x2064x2048 (ix3 b s k) = A (ix4 b s h e) := by
  rw [Pointwise.shapeCast_apply]
  refine congrArg _ (Shape.reshapeEquiv_eq_of_vals _ _ (ix4 b s h e) (b.val * 4227072 + s.val * 2048 + h.val * 128 + e.val)
    (b.val * 4227072 + s.val * 2048 + k.val) ?_ ?_ (by omega))
  · exact rowMajor_val4 (ix4 b s h e) 4227072 2048 128 rfl rfl rfl
  · exact rowMajor_val3 (ix3 b s k) 4227072 2048 rfl rfl
theorem heads256 (A : Vec F S4x2064x8x256 .f32) (b : Fin 4) (s : Fin 2064) (h : Fin 8) (e : Fin 256) (k : Fin 2048)
    (hk : k.val = 256 * h.val + e.val) :
    shapeCast S4x2064x2048 A shapeCasts_S4x2064x8x256_S4x2064x2048 (ix3 b s k) = A (ix4 b s h e) := by
  rw [Pointwise.shapeCast_apply]
  refine congrArg _ (Shape.reshapeEquiv_eq_of_vals _ _ (ix4 b s h e) (b.val * 4227072 + s.val * 2048 + h.val * 256 + e.val)
    (b.val * 4227072 + s.val * 2048 + k.val) ?_ ?_ (by omega))
  · exact rowMajor_val4 (ix4 b s h e) 4227072 2048 256 rfl rfl rfl
  · exact rowMajor_val3 (ix3 b s k) 4227072 2048 rfl rfl

/-! The blocks. -/

theorem index0 : ∀ t : Fin cfg0.N, cc0_transform_0 (grid0.coords t) = ![4 * (t.val / 32) + t.val % 4, t.val / 4 % 8] :=
  (by decide +kernel : ∀ t : Fin grid0.N, cc0_transform_0 (grid0.coords t) = ![4 * (t.val / 32) + t.val % 4, t.val / 4 % 8])
theorem index1 : ∀ t : Fin cfg0.N, cc0_transform_1 (grid0.coords t) = ![t.val / 32, t.val / 4 % 8] :=
  (by decide +kernel : ∀ t : Fin grid0.N, cc0_transform_1 (grid0.coords t) = ![t.val / 32, t.val / 4 % 8])
theorem index2 : ∀ t : Fin cfg0.N, cc0_transform_2 (grid0.coords t) = ![t.val / 32, t.val / 4 % 8] :=
  (by decide +kernel : ∀ t : Fin grid0.N, cc0_transform_2 (grid0.coords t) = ![t.val / 32, t.val / 4 % 8])
theorem index3 : ∀ t : Fin cfg0.N, cc0_transform_3 (grid0.coords t) = ![512 + t.val / 32, t.val / 4 % 8] :=
  (by decide +kernel : ∀ t : Fin grid0.N, cc0_transform_3 (grid0.coords t) = ![512 + t.val / 32, t.val / 4 % 8])
theorem index4 : ∀ t : Fin cfg0.N, cc0_transform_4 (grid0.coords t) = ![512 + t.val / 32, t.val / 4 % 8] :=
  (by decide +kernel : ∀ t : Fin grid0.N, cc0_transform_4 (grid0.coords t) = ![512 + t.val / 32, t.val / 4 % 8])
theorem index7 : ∀ t : Fin cfg0.N, cc0_transform_7 (grid0.coords t) = ![4 * (t.val / 32) + t.val % 4, t.val / 4 % 8] :=
  (by decide +kernel : ∀ t : Fin grid0.N, cc0_transform_7 (grid0.coords t) = ![4 * (t.val / 32) + t.val % 4, t.val / 4 % 8])

theorem block0 (c : Dev nD) (t : Fin cfg0.N) (j : S512x256.Idx) (r : Fin 8320) (k : Fin 2048)
    (hr : r.val = (4 * (t.val / 32) + t.val % 4) * 512 + (j 0).val) (hk : k.val = t.val / 4 % 8 * 256 + (j 1).val) :
    X0_0 m c t j = V m c main_v6 (ix2 r k) := by
  unfold X0_0 Pipeline.Window.fill
  rw [dif_pos (moved0_0 t j)]
  show V m c main_v6 _ = _
  refine congrArg _ (funext fun a => Fin.ext ?_)
  match a with
  | ⟨0, _⟩ =>
    show cc0_transform_0 (grid0.coords t) 0 * 512 + 1 * (j 0).val = r.val
    rw [index0 t, hr, Nat.one_mul]
    rfl
  | ⟨1, _⟩ =>
    show cc0_transform_0 (grid0.coords t) 1 * 256 + 1 * (j 1).val = k.val
    rw [index0 t, hk, Nat.one_mul]
    rfl
theorem block1 (c : Dev nD) (t : Fin cfg0.N) (j : S2048x256.Idx) (r : Fin 8320) (k : Fin 2048)
    (hr : r.val = t.val / 32 * 2048 + (j 0).val) (hk : k.val = t.val / 4 % 8 * 256 + (j 1).val) :
    X0_1 m c t j = V m c main_v13 (ix2 r k) := by
  unfold X0_1 Pipeline.Window.fill
  rw [dif_pos (moved0_1 t j)]
  show V m c main_v13 _ = _
  refine congrArg _ (funext fun a => Fin.ext ?_)
  match a with
  | ⟨0, _⟩ =>
    show cc0_transform_1 (grid0.coords t) 0 * 2048 + 1 * (j 0).val = r.val
    rw [index1 t, hr, Nat.one_mul]
    rfl
  | ⟨1, _⟩ =>
    show cc0_transform_1 (grid0.coords t) 1 * 256 + 1 * (j 1).val = k.val
    rw [index1 t, hk, Nat.one_mul]
    rfl
theorem block2 (c : Dev nD) (t : Fin cfg0.N) (j : S2048x256.Idx) (r : Fin 8320) (k : Fin 2048)
    (hr : r.val = t.val / 32 * 2048 + (j 0).val) (hk : k.val = t.val / 4 % 8 * 256 + (j 1).val) :
    X0_2 m c t j = V m c main_v20 (ix2 r k) := by
  unfold X0_2 Pipeline.Window.fill
  rw [dif_pos (moved0_2 t j)]
  show V m c main_v20 _ = _
  refine congrArg _ (funext fun a => Fin.ext ?_)
  match a with
  | ⟨0, _⟩ =>
    show cc0_transform_2 (grid0.coords t) 0 * 2048 + 1 * (j 0).val = r.val
    rw [index2 t, hr, Nat.one_mul]
    rfl
  | ⟨1, _⟩ =>
    show cc0_transform_2 (grid0.coords t) 1 * 256 + 1 * (j 1).val = k.val
    rw [index2 t, hk, Nat.one_mul]
    rfl
theorem block3 (c : Dev nD) (t : Fin cfg0.N) (j : S16x256.Idx) (r : Fin 8320) (k : Fin 2048)
    (hr : r.val = (512 + t.val / 32) * 16 + (j 0).val) (hk : k.val = t.val / 4 % 8 * 256 + (j 1).val) :
    iblk m c 3 t j = V m c main_v13 (ix2 r k) := by
  show V m c main_v13 _ = _
  refine congrArg _ (funext fun a => Fin.ext ?_)
  match a with
  | ⟨0, _⟩ =>
    show cc0_transform_3 (grid0.coords t) 0 * 16 + 1 * (j 0).val = r.val
    rw [index3 t, hr, Nat.one_mul]
    rfl
  | ⟨1, _⟩ =>
    show cc0_transform_3 (grid0.coords t) 1 * 256 + 1 * (j 1).val = k.val
    rw [index3 t, hk, Nat.one_mul]
    rfl
theorem block4 (c : Dev nD) (t : Fin cfg0.N) (j : S16x256.Idx) (r : Fin 8320) (k : Fin 2048)
    (hr : r.val = (512 + t.val / 32) * 16 + (j 0).val) (hk : k.val = t.val / 4 % 8 * 256 + (j 1).val) :
    iblk m c 4 t j = V m c main_v20 (ix2 r k) := by
  show V m c main_v20 _ = _
  refine congrArg _ (funext fun a => Fin.ext ?_)
  match a with
  | ⟨0, _⟩ =>
    show cc0_transform_4 (grid0.coords t) 0 * 16 + 1 * (j 0).val = r.val
    rw [index4 t, hr, Nat.one_mul]
    rfl
  | ⟨1, _⟩ =>
    show cc0_transform_4 (grid0.coords t) 1 * 256 + 1 * (j 1).val = k.val
    rw [index4 t, hk, Nat.one_mul]
    rfl
theorem block5 (c : Dev nD) (t : Fin cfg0.N) (a : Fin 1) (b : Fin 4) (e : Fin 128) :
    iblk m c 5 t (ix3 a b e) = m ((c : Thread nD τ).loc main_arg3) (ix3 ⟨0, by decide⟩ b e) := by
  show V m c main_arg3 _ = _
  rw [V_main_arg3]
  refine congrArg _ (funext fun x => Fin.ext ?_)
  match x with
  | ⟨0, _⟩ => show 0 * 1 + 1 * a.val = 0; omega
  | ⟨1, _⟩ => show 0 * 4 + 1 * b.val = b.val; omega
  | ⟨2, _⟩ => show 0 * 128 + 1 * e.val = e.val; omega
theorem block6 (c : Dev nD) (t : Fin cfg0.N) (a b : Fin 1) (e : Fin 256) :
    iblk m c 6 t (ix3 a b e) = m ((c : Thread nD τ).loc main_arg4) (ix2 ⟨0, by decide⟩ e) := by
  have h : iblk m c 6 t (ix3 a b e) = V m c main_v21 (ix3 ⟨0, by decide⟩ ⟨0, by decide⟩ e) := by
    show V m c main_v21 _ = _
    refine congrArg _ (funext fun x => Fin.ext ?_)
    match x with
    | ⟨0, _⟩ => show 0 * 1 + 1 * a.val = 0; omega
    | ⟨1, _⟩ => show 0 * 1 + 1 * b.val = 0; omega
    | ⟨2, _⟩ => show 0 * 256 + 1 * e.val = e.val; omega
  rw [h, V21, Pointwise.shapeCast_apply]
  refine congrArg _ (Shape.reshapeEquiv_eq_of_vals _ _ (ix2 ⟨0, by decide⟩ e) (0 * 256 + e.val) (0 * 256 + 0 * 256 + e.val) ?_ ?_ (by omega))
  · exact rowMajor_val2 (ix2 (⟨0, by decide⟩ : Fin 2) e) 256 rfl
  · exact rowMajor_val3 (ix3 (⟨0, by decide⟩ : Fin 2) (⟨0, by decide⟩ : Fin 1) e) 256 256 rfl rfl

/-! The same, down to the arguments. -/

theorem query_at (c : Dev nD) (t : Fin cfg0.N) (j : S512x256.Idx) (b : Fin 4) (s : Fin 2064) (h : Fin 16) (e : Fin 128)
    (hb : b.val = t.val / 32) (hs : s.val = 16 + (512 * (t.val % 4) + (j 0).val)) (hh : 128 * h.val + e.val = t.val / 4 % 8 * 256 + (j 1).val) :
    X0_0 m c t j = m ((c : Thread nD τ).loc main_arg0) (ix4 b s h e) := by
  have ht : t.val < 128 := Nat.lt_of_lt_of_eq t.isLt N_0
  have h0 : (j 0).val < 512 := (j 0).isLt
  have h1 : (j 1).val < 256 := (j 1).isLt
  rw [block0 m c t j ⟨(4 * (t.val / 32) + t.val % 4) * 512 + (j 0).val, by omega⟩ ⟨t.val / 4 % 8 * 256 + (j 1).val, by omega⟩ rfl rfl, V6,
    rows_prompt _ b ⟨512 * (t.val % 4) + (j 0).val, by omega⟩ _ _ (by show _ = 2048 * b.val + (512 * (t.val % 4) + (j 0).val); simp only [hb]; omega)]
  refine (heads128 _ b _ h e _ (by simp only [hh])).trans ?_
  refine congrArg (fun z => m ((c : Thread nD τ).loc main_arg0) (ix4 b z h e)) (Fin.ext ?_)
  exact hs.symm
theorem key_at (c : Dev nD) (t : Fin cfg0.N) (j : S2048x256.Idx) (b : Fin 4) (s : Fin 2064) (h : Fin 16) (e : Fin 128)
    (hb : b.val = t.val / 32) (hs : s.val = 16 + (j 0).val) (hh : 128 * h.val + e.val = t.val / 4 % 8 * 256 + (j 1).val) :
    X0_1 m c t j = m ((c : Thread nD τ).loc main_arg1) (ix4 b s h e) := by
  have ht : t.val < 128 := Nat.lt_of_lt_of_eq t.isLt N_0
  have h0 : (j 0).val < 2048 := (j 0).isLt
  have h1 : (j 1).val < 256 := (j 1).isLt
  rw [block1 m c t j ⟨t.val / 32 * 2048 + (j 0).val, by omega⟩ ⟨t.val / 4 % 8 * 256 + (j 1).val, by omega⟩ rfl rfl, V13,
    rows_prompt _ b ⟨(j 0).val, by omega⟩ _ _ (by show _ = 2048 * b.val + (j 0).val; simp only [hb]; omega)]
  refine (heads128 _ b _ h e _ (by simp only [hh])).trans ?_
  refine congrArg (fun z => m ((c : Thread nD τ).loc main_arg1) (ix4 b z h e)) (Fin.ext ?_)
  exact hs.symm
theorem value_at (c : Dev nD) (t : Fin cfg0.N) (j : S2048x256.Idx) (b : Fin 4) (s : Fin 2064) (h : Fin 8) (e : Fin 256)
    (hb : b.val = t.val / 32) (hs : s.val = 16 + (j 0).val) (hh : h.val = t.val / 4 % 8) (he : e.val = (j 1).val) :
    X0_2 m c t j = m ((c : Thread nD τ).loc main_arg2) (ix4 b s h e) := by
  have ht : t.val < 128 := Nat.lt_of_lt_of_eq t.isLt N_0
  have h0 : (j 0).val < 2048 := (j 0).isLt
  have h1 : (j 1).val < 256 := (j 1).isLt
  rw [block2 m c t j ⟨t.val / 32 * 2048 + (j 0).val, by omega⟩ ⟨t.val / 4 % 8 * 256 + (j 1).val, by omega⟩ rfl rfl, V20,
    rows_prompt _ b ⟨(j 0).val, by omega⟩ _ _ (by show _ = 2048 * b.val + (j 0).val; simp only [hb]; omega)]
  refine (heads256 _ b _ h e _ (by simp only [hh, he]; omega)).trans ?_
  refine congrArg (fun z => m ((c : Thread nD τ).loc main_arg2) (ix4 b z h e)) (Fin.ext ?_)
  exact hs.symm
theorem prefixKey_at (c : Dev nD) (t : Fin cfg0.N) (j : S16x256.Idx) (b : Fin 4) (s : Fin 2064) (h : Fin 16) (e : Fin 128)
    (hb : b.val = t.val / 32) (hs : s.val = (j 0).val) (hh : 128 * h.val + e.val = t.val / 4 % 8 * 256 + (j 1).val) :
    iblk m c 3 t j = m ((c : Thread nD τ).loc main_arg1) (ix4 b s h e) := by
  have ht : t.val < 128 := Nat.lt_of_lt_of_eq t.isLt N_0
  have h0 : (j 0).val < 16 := (j 0).isLt
  have h1 : (j 1).val < 256 := (j 1).isLt
  rw [block3 m c t j ⟨(512 + t.val / 32) * 16 + (j 0).val, by omega⟩ ⟨t.val / 4 % 8 * 256 + (j 1).val, by omega⟩ rfl rfl, V13,
    rows_prefix _ b ⟨(j 0).val, h0⟩ _ _ (by show _ = 8192 + 16 * b.val + (j 0).val; simp only [hb]; omega)]
  refine (heads128 _ b _ h e _ (by simp only [hh])).trans ?_
  refine congrArg (fun z => m ((c : Thread nD τ).loc main_arg1) (ix4 b z h e)) (Fin.ext ?_)
  exact hs.symm
theorem prefixValue_at (c : Dev nD) (t : Fin cfg0.N) (j : S16x256.Idx) (b : Fin 4) (s : Fin 2064) (h : Fin 8) (e : Fin 256)
    (hb : b.val = t.val / 32) (hs : s.val = (j 0).val) (hh : h.val = t.val / 4 % 8) (he : e.val = (j 1).val) :
    iblk m c 4 t j = m ((c : Thread nD τ).loc main_arg2) (ix4 b s h e) := by
  have ht : t.val < 128 := Nat.lt_of_lt_of_eq t.isLt N_0
  have h0 : (j 0).val < 16 := (j 0).isLt
  have h1 : (j 1).val < 256 := (j 1).isLt
  rw [block4 m c t j ⟨(512 + t.val / 32) * 16 + (j 0).val, by omega⟩ ⟨t.val / 4 % 8 * 256 + (j 1).val, by omega⟩ rfl rfl, V20,
    rows_prefix _ b ⟨(j 0).val, h0⟩ _ _ (by show _ = 8192 + 16 * b.val + (j 0).val; simp only [hb]; omega)]
  refine (heads256 _ b _ h e _ (by simp only [hh, he]; omega)).trans ?_
  refine congrArg (fun z => m ((c : Thread nD τ).loc main_arg2) (ix4 b z h e)) (Fin.ext ?_)
  exact hs.symm

end Cert.Flash
-- ==== Proof.Slabs.lean ====
module

public import proofs.«01_k».proof.Proof.Gen.KernelIdeal.Frame
public import Idealize.ShloMosaic.Lib.Pipeline.ReadBack
public import Idealize.ShloMosaic.Lib.Pipeline.ValueKit
public import Idealize.ShloMosaic.Lib.Pointwise

/-! The running state of one softmax head (its row maximum, its row mass and its weighted sum of values),
the step that takes one block of keys into it, and the state one grid point arrives at: the learned
prefix keys first, then the block on the diagonal, then every block before it. -/

@[expose] public section

set_option maxRecDepth 16384

noncomputable section

namespace Cert.Flash

open Idealize.ShloMosaic Idealize.ShloMosaic.TcCoe Idealize.ShloMosaic.Tactic
open Idealize.ShloMosaic.Pointwise
open Cert.KernelIdeal Cert.KernelIdeal.Gen

variable {F : FTy → Type} [FloatOps F]

/-- One head's running maximum, mass and weighted sum. -/
structure Slab (F : FTy → Type) where
  m : Vec F S1x512x128 .f32
  l : Vec F S1x512x128 .f32
  acc : Vec F S1x512x256 .f32

/-- Before any key. -/
def start : Slab F where
  m := fun _ => Scalar.ofBits .f32 0xFF800000#32
  l := fun _ => Scalar.ofBits .f32 0x00000000#32
  acc := fun _ => Scalar.ofBits .f32 0x00000000#32

/-- One block of 512 keys with scores `S` and values `v`. -/
def wide (S : FVec F S512x512 .f32) (v : Vec F S512x256 .bf16) (st : Slab F) : Slab F where
  m := k0_pay29 (k0_pay22 S st.m)
  l := k0_pay27 (k0_pay25 S st.m st.l) (k0_pay26 S st.m)
  acc := k0_pay28 v (k0_pay23 S st.m) (k0_pay24 S st.m) st.acc

/-- The padded block of 128 prefix keys, of which the columns in `live` count. -/
def narrow (S : FVec F S512x128 .f32) (live : IVec S512x128 1) (v : Vec F S128x256 .bf16) (st : Slab F) : Slab F where
  m := k0_pay123 (k0_pay116 S live st.m)
  l := k0_pay119 S live st.m st.l
  acc := k0_pay122 v (k0_pay118 S live st.m) (k0_pay120 S live st.m) (k0_pay121 st.acc)

/-- The first and the second head's queries of a block of 512 rows. -/
def queryA (q : Vec F S512x256 .f32) : FVec F S512x128 .bf16 :=
  k0_pay98 (View.ld q (Rect.unit (s := S512x256) ![0, 0] S512x128.size inb_S512x256_S512x128_0_0))
def queryB (q : Vec F S512x256 .f32) : FVec F S512x128 .bf16 :=
  k0_pay99 (View.ld q (Rect.unit (s := S512x256) ![0, 128] S512x128.size inb_S512x256_S512x128_0_128))

/-- Scores of a block of 512 keys. -/
def scoreA (q : Vec F S512x256 .f32) (k : Vec F S512x256 .bf16) : FVec F S512x512 .f32 := k0_pay101 (queryA q) k
def scoreB (q : Vec F S512x256 .f32) (k : Vec F S512x256 .bf16) : FVec F S512x512 .f32 := k0_pay102 (queryB q) k

/-- Scores of the padded prefix keys. -/
def prefixA (q : Vec F S512x256 .f32) (kp : Vec F S128x256 .bf16) : FVec F S512x128 .f32 :=
  matmul dot_S512x128_S128x128_S512x128_1_1_0_0_n_n none (queryA q)
    (extractStridedSlice S128x128 ![0, 0] kp slices_S128x256_o0_0_S128x128) (constant S512x128 .f32 0x00000000#32)
def prefixB (q : Vec F S512x256 .f32) (kp : Vec F S128x256 .bf16) : FVec F S512x128 .f32 := k0_pay100 (queryB q) kp

/-- The prefix columns that count, and the columns of the diagonal block that a row may see. -/
def prefixLive : IVec S512x128 1 := k0_pay103 (iota Kind.tc S512x128 32 [1] iota_S512x128_d1_w32)
def causal : IVec S512x512 1 :=
  k0_pay124 (iota Kind.tc S512x512 32 [0] iota_S512x512_d0_w32) (iota Kind.tc S512x512 32 [1] iota_S512x512_d1_w32)

/-- Block `n` of 512 rows of the keys or the values. -/
def blk (n : ℕ) (X : Vec F S2048x256 .bf16) : Vec F S512x256 .bf16 :=
  fun j => X (ix2 (Fin.ofNat 2048 (512 * n + (j 0).val)) (j 1))

/-- The state after the prefix and the diagonal block `n`, and then after the first `k` blocks. -/
def pastA (q : Vec F S512x256 .f32) (kp vp : Vec F S128x256 .bf16) (kb vb : Vec F S2048x256 .bf16) (n : ℕ) : ℕ → Slab F
  | 0 => wide (k0_pay134 (scoreA q (blk n kb)) causal) (blk n vb) (narrow (prefixA q kp) prefixLive vp start)
  | k + 1 => wide (scoreA q (blk k kb)) (blk k vb) (pastA q kp vp kb vb n k)
def pastB (q : Vec F S512x256 .f32) (kp vp : Vec F S128x256 .bf16) (kb vb : Vec F S2048x256 .bf16) (n : ℕ) : ℕ → Slab F
  | 0 => wide (k0_pay134 (scoreB q (blk n kb)) causal) (blk n vb) (narrow (prefixB q kp) prefixLive vp start)
  | k + 1 => wide (scoreB q (blk k kb)) (blk k vb) (pastB q kp vp kb vb n k)

/-- The difference of the two heads, normalised. -/
def finish (lam : Vec F S1x4x128 .f32) (w : Vec F S1x1x256 .f32) (a b : Slab F) : FVec F S512x256 .bf16 :=
  k0_pay1 (k0_pay151 lam) (k0_pay152 a.acc a.l) (k0_pay153 b.acc) b.l w

/-- The output block of grid point `n` of a head's four. -/
def outBlock (q : Vec F S512x256 .f32) (kp vp : Vec F S128x256 .bf16) (kb vb : Vec F S2048x256 .bf16)
    (lam : Vec F S1x4x128 .f32) (w : Vec F S1x1x256 .f32) (n : ℕ) : FVec F S512x256 .bf16 :=
  finish lam w (pastA q kp vp kb vb n n) (pastB q kp vp kb vb n n)

/-! Reading the two slabs of a scratch back. -/

section Reads
variable {sig : RefSig} {κ : Kind} {sp : Space} {Val : EltTy → Type} {e : EltTy} [∀ e, Nonempty (Val e)]

theorem skipLane (v : View sig κ sp S2x512x128 e) (inb inb') (w) (L : List (View.Piece Val S2x512x128 e)) :
    v.readCov (⟨Rect.unit (s := S2x512x128) ![1, 0, 0] S1x512x128.size inb, w⟩ :: L) (Rect.unit (s := S2x512x128) ![0, 0, 0] S1x512x128.size inb').toLoadRect
      = v.readCov L (Rect.unit (s := S2x512x128) ![0, 0, 0] S1x512x128.size inb').toLoadRect :=
  View.readCov_skip v _ w L _ rfl
theorem skipLane' (v : View sig κ sp S2x512x128 e) (inb inb') (w) (L : List (View.Piece Val S2x512x128 e)) :
    v.readCov (⟨Rect.unit (s := S2x512x128) ![0, 0, 0] S1x512x128.size inb, w⟩ :: L) (Rect.unit (s := S2x512x128) ![1, 0, 0] S1x512x128.size inb').toLoadRect
      = v.readCov L (Rect.unit (s := S2x512x128) ![1, 0, 0] S1x512x128.size inb').toLoadRect :=
  View.readCov_skip v _ w L _ rfl
theorem skipSum (v : View sig κ sp S2x512x256 e) (inb inb') (w) (L : List (View.Piece Val S2x512x256 e)) :
    v.readCov (⟨Rect.unit (s := S2x512x256) ![1, 0, 0] S1x512x256.size inb, w⟩ :: L) (Rect.unit (s := S2x512x256) ![0, 0, 0] S1x512x256.size inb').toLoadRect
      = v.readCov L (Rect.unit (s := S2x512x256) ![0, 0, 0] S1x512x256.size inb').toLoadRect :=
  View.readCov_skip v _ w L _ rfl
theorem skipSum' (v : View sig κ sp S2x512x256 e) (inb inb') (w) (L : List (View.Piece Val S2x512x256 e)) :
    v.readCov (⟨Rect.unit (s := S2x512x256) ![0, 0, 0] S1x512x256.size inb, w⟩ :: L) (Rect.unit (s := S2x512x256) ![1, 0, 0] S1x512x256.size inb').toLoadRect
      = v.readCov L (Rect.unit (s := S2x512x256) ![1, 0, 0] S1x512x256.size inb').toLoadRect :=
  View.readCov_skip v _ w L _ rfl

/-- What the newest write left is read back. -/
theorem hit {s : Shape} (v : View sig κ sp s e) (r : Rect s) (w : r.shape.Idx → Val e) (L : List (View.Piece Val s e)) :
    v.readCov (⟨r, w⟩ :: L) r.toLoadRect = w :=
  View.readCov_cons_toLoadRect v r w L
end Reads

/-- The first and the second slab of the scratches that the lists leave. -/
structure HoldsA {κ : Kind} {sp sp' sp'' : Space} {sig : RefSig} (v11 : View sig κ sp S2x512x128 .f32) (v12 : View sig κ sp' S2x512x128 .f32)
    (v13 : View sig κ sp'' S2x512x256 .f32) (L11 : List (View.Piece (Elt F) S2x512x128 .f32))
    (L12 : List (View.Piece (Elt F) S2x512x128 .f32)) (L13 : List (View.Piece (Elt F) S2x512x256 .f32)) (st : Slab F) : Prop where
  m : v11.readCov L11 (Rect.unit (s := S2x512x128) ![0, 0, 0] S1x512x128.size inb_S2x512x128_S1x512x128_0_0_0).toLoadRect = st.m
  l : v12.readCov L12 (Rect.unit (s := S2x512x128) ![0, 0, 0] S1x512x128.size inb_S2x512x128_S1x512x128_0_0_0).toLoadRect = st.l
  acc : v13.readCov L13 (Rect.unit (s := S2x512x256) ![0, 0, 0] S1x512x256.size inb_S2x512x256_S1x512x256_0_0_0).toLoadRect = st.acc
structure HoldsB {κ : Kind} {sp sp' sp'' : Space} {sig : RefSig} (v11 : View sig κ sp S2x512x128 .f32) (v12 : View sig κ sp' S2x512x128 .f32)
    (v13 : View sig κ sp'' S2x512x256 .f32) (L11 : List (View.Piece (Elt F) S2x512x128 .f32))
    (L12 : List (View.Piece (Elt F) S2x512x128 .f32)) (L13 : List (View.Piece (Elt F) S2x512x256 .f32)) (st : Slab F) : Prop where
  m : v11.readCov L11 (Rect.unit (s := S2x512x128) ![1, 0, 0] S1x512x128.size inb_S2x512x128_S1x512x128_1_0_0).toLoadRect = st.m
  l : v12.readCov L12 (Rect.unit (s := S2x512x128) ![1, 0, 0] S1x512x128.size inb_S2x512x128_S1x512x128_1_0_0).toLoadRect = st.l
  acc : v13.readCov L13 (Rect.unit (s := S2x512x256) ![1, 0, 0] S1x512x256.size inb_S2x512x256_S1x512x256_1_0_0).toLoadRect = st.acc

section Lists
variable {κ : Kind} {sp sp' sp'' : Space} {sig : RefSig} {v11 : View sig κ sp S2x512x128 .f32} {v12 : View sig κ sp' S2x512x128 .f32}
  {v13 : View sig κ sp'' S2x512x256 .f32} {L11 L12 : List (View.Piece (Elt F) S2x512x128 .f32)} {L13 : List (View.Piece (Elt F) S2x512x256 .f32)}
  {st st' : Slab F}

/-- After both slabs are filled. -/
theorem holdsA_start : HoldsA v11 v12 v13 [⟨Rect.unit (s := S2x512x128) ![0, 0, 0] S2x512x128.size inb_S2x512x128_S2x512x128_0_0_0, k0_pay95 (F := F)⟩]
    [⟨Rect.unit (s := S2x512x128) ![0, 0, 0] S2x512x128.size inb_S2x512x128_S2x512x128_0_0_0, k0_pay96⟩]
    [⟨Rect.unit (s := S2x512x256) ![0, 0, 0] S2x512x256.size inb_S2x512x256_S2x512x256_0_0_0, k0_pay97⟩] start where
  m := (View.readCov_fill v11 _ _ [] _ (by decide)).trans rfl
  l := (View.readCov_fill v12 _ _ [] _ (by decide)).trans rfl
  acc := (View.readCov_fill v13 _ _ [] _ (by decide)).trans rfl
theorem holdsB_start : HoldsB v11 v12 v13 [⟨Rect.unit (s := S2x512x128) ![0, 0, 0] S2x512x128.size inb_S2x512x128_S2x512x128_0_0_0, k0_pay95 (F := F)⟩]
    [⟨Rect.unit (s := S2x512x128) ![0, 0, 0] S2x512x128.size inb_S2x512x128_S2x512x128_0_0_0, k0_pay96⟩]
    [⟨Rect.unit (s := S2x512x256) ![0, 0, 0] S2x512x256.size inb_S2x512x256_S2x512x256_0_0_0, k0_pay97⟩] start where
  m := (View.readCov_fill v11 _ _ [] _ (by decide)).trans rfl
  l := (View.readCov_fill v12 _ _ [] _ (by decide)).trans rfl
  acc := (View.readCov_fill v13 _ _ [] _ (by decide)).trans rfl

/-- After the first slab is stored. -/
theorem holdsA_store {x y : Vec F S1x512x128 .f32} {z : Vec F S1x512x256 .f32} (hm : x = st'.m) (hl : y = st'.l) (ha : z = st'.acc) :
    HoldsA v11 v12 v13 (⟨Rect.unit (s := S2x512x128) ![0, 0, 0] S1x512x128.size inb_S2x512x128_S1x512x128_0_0_0, x⟩ :: L11)
      (⟨Rect.unit (s := S2x512x128) ![0, 0, 0] S1x512x128.size inb_S2x512x128_S1x512x128_0_0_0, y⟩ :: L12)
      (⟨Rect.unit (s := S2x512x256) ![0, 0, 0] S1x512x256.size inb_S2x512x256_S1x512x256_0_0_0, z⟩ :: L13) st' where
  m := (hit v11 (Rect.unit (s := S2x512x128) ![0, 0, 0] S1x512x128.size inb_S2x512x128_S1x512x128_0_0_0) x L11).trans hm
  l := (hit v12 (Rect.unit (s := S2x512x128) ![0, 0, 0] S1x512x128.size inb_S2x512x128_S1x512x128_0_0_0) y L12).trans hl
  acc := (hit v13 (Rect.unit (s := S2x512x256) ![0, 0, 0] S1x512x256.size inb_S2x512x256_S1x512x256_0_0_0) z L13).trans ha
theorem HoldsB.storeA (h : HoldsB v11 v12 v13 L11 L12 L13 st) (x y : Vec F S1x512x128 .f32) (z : Vec F S1x512x256 .f32) :
    HoldsB v11 v12 v13 (⟨Rect.unit (s := S2x512x128) ![0, 0, 0] S1x512x128.size inb_S2x512x128_S1x512x128_0_0_0, x⟩ :: L11)
      (⟨Rect.unit (s := S2x512x128) ![0, 0, 0] S1x512x128.size inb_S2x512x128_S1x512x128_0_0_0, y⟩ :: L12)
      (⟨Rect.unit (s := S2x512x256) ![0, 0, 0] S1x512x256.size inb_S2x512x256_S1x512x256_0_0_0, z⟩ :: L13) st where
  m := (skipLane' v11 _ _ x L11).trans h.m
  l := (skipLane' v12 _ _ y L12).trans h.l
  acc := (skipSum' v13 _ _ z L13).trans h.acc
theorem HoldsB.storeA_nil (h : HoldsB v11 v12 v13 L11 L12 L13 st)
    (G : List (View.Piece (Elt F) S2x512x128 .f32) × List (View.Piece (Elt F) S2x512x128 .f32) × List (View.Piece (Elt F) S2x512x256 .f32))
    (hG : G = ([], [], [])) (x y : Vec F S1x512x128 .f32) (z : Vec F S1x512x256 .f32) :
    HoldsB v11 v12 v13 (⟨Rect.unit (s := S2x512x128) ![0, 0, 0] S1x512x128.size inb_S2x512x128_S1x512x128_0_0_0, x⟩ :: (G.1 ++ L11))
      (⟨Rect.unit (s := S2x512x128) ![0, 0, 0] S1x512x128.size inb_S2x512x128_S1x512x128_0_0_0, y⟩ :: (G.2.1 ++ L12))
      (⟨Rect.unit (s := S2x512x256) ![0, 0, 0] S1x512x256.size inb_S2x512x256_S1x512x256_0_0_0, z⟩ :: (G.2.2 ++ L13)) st := by
  subst hG
  exact h.storeA x y z
/-- After the second slab is stored. -/
theorem holdsB_store {x y : Vec F S1x512x128 .f32} {z : Vec F S1x512x256 .f32} (hm : x = st'.m) (hl : y = st'.l) (ha : z = st'.acc) :
    HoldsB v11 v12 v13 (⟨Rect.unit (s := S2x512x128) ![1, 0, 0] S1x512x128.size inb_S2x512x128_S1x512x128_1_0_0, x⟩ :: L11)
      (⟨Rect.unit (s := S2x512x128) ![1, 0, 0] S1x512x128.size inb_S2x512x128_S1x512x128_1_0_0, y⟩ :: L12)
      (⟨Rect.unit (s := S2x512x256) ![1, 0, 0] S1x512x256.size inb_S2x512x256_S1x512x256_1_0_0, z⟩ :: L13) st' where
  m := (hit v11 (Rect.unit (s := S2x512x128) ![1, 0, 0] S1x512x128.size inb_S2x512x128_S1x512x128_1_0_0) x L11).trans hm
  l := (hit v12 (Rect.unit (s := S2x512x128) ![1, 0, 0] S1x512x128.size inb_S2x512x128_S1x512x128_1_0_0) y L12).trans hl
  acc := (hit v13 (Rect.unit (s := S2x512x256) ![1, 0, 0] S1x512x256.size inb_S2x512x256_S1x512x256_1_0_0) z L13).trans ha
theorem HoldsA.storeB (h : HoldsA v11 v12 v13 L11 L12 L13 st) (x y : Vec F S1x512x128 .f32) (z : Vec F S1x512x256 .f32) :
    HoldsA v11 v12 v13 (⟨Rect.unit (s := S2x512x128) ![1, 0, 0] S1x512x128.size inb_S2x512x128_S1x512x128_1_0_0, x⟩ :: L11)
      (⟨Rect.unit (s := S2x512x128) ![1, 0, 0] S1x512x128.size inb_S2x512x128_S1x512x128_1_0_0, y⟩ :: L12)
      (⟨Rect.unit (s := S2x512x256) ![1, 0, 0] S1x512x256.size inb_S2x512x256_S1x512x256_1_0_0, z⟩ :: L13) st where
  m := (skipLane v11 _ _ x L11).trans h.m
  l := (skipLane v12 _ _ y L12).trans h.l
  acc := (skipSum v13 _ _ z L13).trans h.acc
end Lists

/-- A load of 512 rows at a multiple of 512 is a block. -/
theorem ld_blk (X : Vec F S2048x256 .bf16) (n : ℕ) (hn : n < 4) (off : Fin 2 → ℕ) (h : off = ![512 * n, 0]) (inb) :
    View.ld X (Rect.unit (s := S2048x256) off S512x256.size inb) = blk n X := by
  subst h
  funext j
  show X _ = X _
  refine congrArg X (funext fun a => Fin.ext ?_)
  have h0 : (j 0).val < 512 := (j 0).isLt
  match a with
  | ⟨0, _⟩ =>
    show 512 * n + 1 * (j 0).val = (512 * n + (j 0).val) % 2048
    omega
  | ⟨1, _⟩ =>
    show 0 + 1 * (j 1).val = (j 1).val
    omega

end Cert.Flash
-- ==== Proof.Pairs.lean ====
module

public import proofs.«01_k».proof.Proof.Slabs

/-! The pair loop of the kernel takes two blocks of keys per trip; its trip count per grid point, and what a
run of it leaves in the two slabs. -/

@[expose] public section

set_option maxRecDepth 16384

noncomputable section

namespace Cert.Flash

open Idealize.ShloMosaic Idealize.ShloMosaic.TcCoe Idealize.ShloMosaic.Tactic
open Cert.KernelIdeal Cert.KernelIdeal.Gen

variable {F : FTy → Type} [FloatOps F]

/-- The pair loop runs `n / 2` times at grid point `n`, and its remainder loop never. -/
theorem pair_trips (i : grid0.Coords) : Scf.trips (k0_t1_loop i).lb (k0_t1_loop i).ub (k0_t1_loop i).st = (i 2).val / 2 := by
  have key : ∀ n : Fin 4, ∀ j : grid0.Coords, j 2 = n →
      Scf.trips (k0_t1_loop j).lb (k0_t1_loop j).ub (k0_t1_loop j).st = n.val / 2 := by
    intro n j hj
    have hv : (j 2).val = n.val := congrArg Fin.val hj
    simp only [k0_t1_loop, hv]
    clear hv hj j
    revert n
    decide
  exact key (i 2) i rfl
theorem rest_trips (i : grid0.Coords) : Scf.trips (k0_t2_loop i).lb (k0_t2_loop i).ub (k0_t2_loop i).st = 0 := by
  have key : ∀ n : Fin 4, ∀ j : grid0.Coords, j 2 = n →
      Scf.trips (k0_t2_loop j).lb (k0_t2_loop j).ub (k0_t2_loop j).st = 0 := by
    intro n j hj
    have hv : (j 2).val = n.val := congrArg Fin.val hj
    simp only [k0_t2_loop, hv]
    clear hv hj j
    revert n
    decide
  exact key (i 2) i rfl

theorem pair_off (i : grid0.Coords) (k : Fin (k0_t1_loop i).trips) :
    k0_off2 i k = ![512 * (2 * k.val), 0] ∧ k0_off3 i k = ![512 * (2 * k.val + 1), 0] := by
  have hk : k.val = 0 := by
    have h1 : k.val < (i 2).val / 2 := lt_of_lt_of_eq k.isLt (pair_trips i)
    have h2 : (i 2).val < 4 := (i 2).isLt
    omega
  simp only [k0_off2, k0_off3, hk]
  exact ⟨by decide, by decide⟩

variable (c : Dev nD) (i : grid0.Coords)
  (arg3 : Memref sig .tc .vmem S512x256 .f32) (harg3 : arg3.IsWhole)
  (arg4 : Memref sig .tc .vmem S2048x256 .f32) (harg4 : arg4.IsWhole)
  (arg5 : Memref sig .tc .vmem S2048x256 .f32) (harg5 : arg5.IsWhole)
  (arg6 : Memref sig .tc .vmem S16x256 .f32) (harg6 : arg6.IsWhole)
  (arg7 : Memref sig .tc .vmem S16x256 .f32) (harg7 : arg7.IsWhole)
  (arg8 : Memref sig .tc .vmem S1x4x128 .f32) (harg8 : arg8.IsWhole)
  (arg9 : Memref sig .tc .vmem S1x1x256 .f32) (harg9 : arg9.IsWhole)
  (arg10 : Memref sig .tc .vmem S512x256 .bf16) (harg10 : arg10.IsWhole)
  (arg11 : Memref sig .tc .vmem S2x512x128 .f32) (harg11 : arg11.IsWhole)
  (arg12 : Memref sig .tc .vmem S2x512x128 .f32) (harg12 : arg12.IsWhole)
  (arg13 : Memref sig .tc .vmem S2x512x256 .f32) (harg13 : arg13.IsWhole)
  (arg14 : Memref sig .tc .vmem S2048x256 .bf16) (harg14 : arg14.IsWhole)
  (arg15 : Memref sig .tc .vmem S2048x256 .bf16) (harg15 : arg15.IsWhole)
  (arg16 : Memref sig .tc .vmem S128x256 .bf16) (harg16 : arg16.IsWhole)
  (arg17 : Memref sig .tc .vmem S128x256 .bf16) (harg17 : arg17.IsWhole)

section Trip
variable (arg2 : BitVec 32) (v17 v20 : FVec F S512x128 .bf16) (v29 : Vec F S512x256 .bf16) (v156 : FVec F S512x128 .f32)
  (v161 : FVec F S512x512 .f32) (v172 : FVec F S512x256 .f32) (X_arg14 : BufTy.Contents (Elt F) arg14.view.ty)
  (X_arg15 : BufTy.Contents (Elt F) arg15.view.ty) (v206 : BitVec 32)

/-- The remainder loop leaves everything alone. -/
theorem rest_nil (G11 G12 G13) : pb_k0_t2 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v17 v20 v29 v156 v161 v172 v206 X_arg14 X_arg15 G11 G12 G13
    (Scf.trips (k0_t2_loop i).lb (k0_t2_loop i).ub (k0_t2_loop i).st) = ([], [], []) := by
  rw [rest_trips]
  rfl

variable (k : Fin (k0_t1_loop i).trips) (q : Vec F S512x256 .f32) (kb vb : Vec F S2048x256 .bf16)
  (L11 L12 : List (View.Piece (Elt F) S2x512x128 .f32)) (L13 : List (View.Piece (Elt F) S2x512x256 .f32))
  (a b : Slab F)

/-- One trip: both slabs take block `2 k` and then block `2 k + 1`. -/
theorem trip_holds (h17 : v17 = queryA q) (h20 : v20 = queryB q)
    (h14 : ∀ r : Rect S2048x256, arg14.view.readAt (Elt F) r.toLoadRect X_arg14 = View.ld kb r)
    (h15 : ∀ r : Rect S2048x256, arg15.view.readAt (Elt F) r.toLoadRect X_arg15 = View.ld vb r)
    (hA : HoldsA arg11.view arg12.view arg13.view L11 L12 L13 a)
    (hB : HoldsB arg11.view arg12.view arg13.view L11 L12 L13 b) :
    HoldsA arg11.view arg12.view arg13.view
        ((tripL_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v17 v20 v29 v156 v161 v172 X_arg14 X_arg15 k (arg11.view.writes (Elt F) arg11.view.junk L11) (arg12.view.writes (Elt F) arg12.view.junk L12) (arg13.view.writes (Elt F) arg13.view.junk L13)).1 ++ L11)
        ((tripL_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v17 v20 v29 v156 v161 v172 X_arg14 X_arg15 k (arg11.view.writes (Elt F) arg11.view.junk L11) (arg12.view.writes (Elt F) arg12.view.junk L12) (arg13.view.writes (Elt F) arg13.view.junk L13)).2.1 ++ L12)
        ((tripL_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v17 v20 v29 v156 v161 v172 X_arg14 X_arg15 k (arg11.view.writes (Elt F) arg11.view.junk L11) (arg12.view.writes (Elt F) arg12.view.junk L12) (arg13.view.writes (Elt F) arg13.view.junk L13)).2.2 ++ L13)
        (wide (scoreA q (blk (2 * k.val + 1) kb)) (blk (2 * k.val + 1) vb) (wide (scoreA q (blk (2 * k.val) kb)) (blk (2 * k.val) vb) a))
      ∧ HoldsB arg11.view arg12.view arg13.view
        ((tripL_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v17 v20 v29 v156 v161 v172 X_arg14 X_arg15 k (arg11.view.writes (Elt F) arg11.view.junk L11) (arg12.view.writes (Elt F) arg12.view.junk L12) (arg13.view.writes (Elt F) arg13.view.junk L13)).1 ++ L11)
        ((tripL_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v17 v20 v29 v156 v161 v172 X_arg14 X_arg15 k (arg11.view.writes (Elt F) arg11.view.junk L11) (arg12.view.writes (Elt F) arg12.view.junk L12) (arg13.view.writes (Elt F) arg13.view.junk L13)).2.1 ++ L12)
        ((tripL_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v17 v20 v29 v156 v161 v172 X_arg14 X_arg15 k (arg11.view.writes (Elt F) arg11.view.junk L11) (arg12.view.writes (Elt F) arg12.view.junk L12) (arg13.view.writes (Elt F) arg13.view.junk L13)).2.2 ++ L13)
        (wide (scoreB q (blk (2 * k.val + 1) kb)) (blk (2 * k.val + 1) vb) (wide (scoreB q (blk (2 * k.val) kb)) (blk (2 * k.val) vb) b)) := by
  have hk : k.val = 0 := by
    have h1 : k.val < (i 2).val / 2 := lt_of_lt_of_eq k.isLt (pair_trips i)
    have h2 : (i 2).val < 4 := (i 2).isLt
    omega
  subst h17 h20
  have o2 : ∀ inb, View.ld kb (Rect.unit (s := S2048x256) (k0_off2 i k) S512x256.size inb) = blk (2 * k.val) kb :=
    fun inb => ld_blk kb _ (by omega) _ (pair_off i k).1 inb
  have o3 : ∀ inb, View.ld kb (Rect.unit (s := S2048x256) (k0_off3 i k) S512x256.size inb) = blk (2 * k.val + 1) kb :=
    fun inb => ld_blk kb _ (by omega) _ (pair_off i k).2 inb
  have p2 : ∀ inb, View.ld vb (Rect.unit (s := S2048x256) (k0_off2 i k) S512x256.size inb) = blk (2 * k.val) vb :=
    fun inb => ld_blk vb _ (by omega) _ (pair_off i k).1 inb
  have p3 : ∀ inb, View.ld vb (Rect.unit (s := S2048x256) (k0_off3 i k) S512x256.size inb) = blk (2 * k.val + 1) vb :=
    fun inb => ld_blk vb _ (by omega) _ (pair_off i k).2 inb
  have a0m : arg11.view.readAt (Elt F) (Rect.unit (s := S2x512x128) ![0, 0, 0] S1x512x128.size inb_S2x512x128_S1x512x128_0_0_0).toLoadRect (arg11.view.writes (Elt F) arg11.view.junk L11) = a.m := hA.m
  have a0l : arg12.view.readAt (Elt F) (Rect.unit (s := S2x512x128) ![0, 0, 0] S1x512x128.size inb_S2x512x128_S1x512x128_0_0_0).toLoadRect (arg12.view.writes (Elt F) arg12.view.junk L12) = a.l := hA.l
  have a0a : arg13.view.readAt (Elt F) (Rect.unit (s := S2x512x256) ![0, 0, 0] S1x512x256.size inb_S2x512x256_S1x512x256_0_0_0).toLoadRect (arg13.view.writes (Elt F) arg13.view.junk L13) = a.acc := hA.acc
  have b0m : (trip_k0_t1.sl.v327 arg11 (arg11.view.writes (Elt F) arg11.view.junk L11)) = b.m := hB.m
  have b0l : (trip_k0_t1.sl.v338 arg12 (arg12.view.writes (Elt F) arg12.view.junk L12)) = b.l := hB.l
  have b0a : (trip_k0_t1.sl.v349 arg13 (arg13.view.writes (Elt F) arg13.view.junk L13)) = b.acc := hB.acc
  have a1 : HoldsA arg11.view arg12.view arg13.view (trip_k0_t1.sl.HW_arg11_2 i arg11 arg14 (queryA q) (queryB q) X_arg14 k (arg11.view.writes (Elt F) arg11.view.junk L11)) (trip_k0_t1.sl.HW_arg12_2 i arg11 arg12 arg14 (queryA q) (queryB q) X_arg14 k (arg11.view.writes (Elt F) arg11.view.junk L11) (arg12.view.writes (Elt F) arg12.view.junk L12)) (trip_k0_t1.sl.HW_arg13_2 i arg11 arg13 arg14 arg15 (queryA q) (queryB q) X_arg14 X_arg15 k (arg11.view.writes (Elt F) arg11.view.junk L11) (arg13.view.writes (Elt F) arg13.view.junk L13))
      (wide (scoreA q (blk (2 * k.val) kb)) (blk (2 * k.val) vb) a) := by
    refine HoldsA.storeB (holdsA_store ?_ ?_ ?_) _ _ _
    all_goals
      simp only [trip_k0_t1.sl.r, trip_k0_t1.sl.r_1, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_2, trip_k0_t1.sl.r_20, trip_k0_t1.sl.r_21, trip_k0_t1.sl.r_22, trip_k0_t1.sl.r_3, trip_k0_t1.sl.r_4, trip_k0_t1.sl.r_5, trip_k0_t1.sl.r_6, trip_k0_t1.sl.r_7, trip_k0_t1.sl.r_8, trip_k0_t1.sl.r_9, h14, h15, o2, p2, a0m, a0l, a0a]
      rfl
  have b1 : HoldsB arg11.view arg12.view arg13.view (trip_k0_t1.sl.HW_arg11_3 i arg11 arg14 (queryA q) (queryB q) X_arg14 k (arg11.view.writes (Elt F) arg11.view.junk L11)) (trip_k0_t1.sl.HW_arg12_3 i arg11 arg12 arg14 (queryA q) (queryB q) X_arg14 k (arg11.view.writes (Elt F) arg11.view.junk L11) (arg12.view.writes (Elt F) arg12.view.junk L12)) (trip_k0_t1.sl.HW_arg13_3 i arg11 arg13 arg14 arg15 (queryA q) (queryB q) X_arg14 X_arg15 k (arg11.view.writes (Elt F) arg11.view.junk L11) (arg13.view.writes (Elt F) arg13.view.junk L13))
      (wide (scoreB q (blk (2 * k.val) kb)) (blk (2 * k.val) vb) b) := by
    refine HoldsB.storeA (holdsB_store ?_ ?_ ?_) _ _ _
    all_goals
      simp only [trip_k0_t1.sl.r, trip_k0_t1.sl.r_1, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_2, trip_k0_t1.sl.r_20, trip_k0_t1.sl.r_21, trip_k0_t1.sl.r_22, trip_k0_t1.sl.r_3, trip_k0_t1.sl.r_4, trip_k0_t1.sl.r_5, trip_k0_t1.sl.r_6, trip_k0_t1.sl.r_7, trip_k0_t1.sl.r_8, trip_k0_t1.sl.r_9, h14, h15, o2, p2, b0m, b0l, b0a]
      rfl
  have a1m : (trip_k0_t1.sl.v361 i arg11 arg14 (queryA q) (queryB q) X_arg14 k (arg11.view.writes (Elt F) arg11.view.junk L11)) = (wide (scoreA q (blk (2 * k.val) kb)) (blk (2 * k.val) vb) a).m := a1.m
  have a1l : (trip_k0_t1.sl.v372 i arg11 arg12 arg14 (queryA q) (queryB q) X_arg14 k (arg11.view.writes (Elt F) arg11.view.junk L11) (arg12.view.writes (Elt F) arg12.view.junk L12)) = (wide (scoreA q (blk (2 * k.val) kb)) (blk (2 * k.val) vb) a).l := a1.l
  have a1a : (trip_k0_t1.sl.v383 i arg11 arg13 arg14 arg15 (queryA q) (queryB q) X_arg14 X_arg15 k (arg11.view.writes (Elt F) arg11.view.junk L11) (arg13.view.writes (Elt F) arg13.view.junk L13)) = (wide (scoreA q (blk (2 * k.val) kb)) (blk (2 * k.val) vb) a).acc := a1.acc
  have b1m : (trip_k0_t1.sl.v395 i arg11 arg14 (queryA q) (queryB q) X_arg14 k (arg11.view.writes (Elt F) arg11.view.junk L11)) = (wide (scoreB q (blk (2 * k.val) kb)) (blk (2 * k.val) vb) b).m := b1.m
  have b1l : (trip_k0_t1.sl.v406 i arg11 arg12 arg14 (queryA q) (queryB q) X_arg14 k (arg11.view.writes (Elt F) arg11.view.junk L11) (arg12.view.writes (Elt F) arg12.view.junk L12)) = (wide (scoreB q (blk (2 * k.val) kb)) (blk (2 * k.val) vb) b).l := b1.l
  have b1a : (trip_k0_t1.sl.v417 i arg11 arg13 arg14 arg15 (queryA q) (queryB q) X_arg14 X_arg15 k (arg11.view.writes (Elt F) arg11.view.junk L11) (arg13.view.writes (Elt F) arg13.view.junk L13)) = (wide (scoreB q (blk (2 * k.val) kb)) (blk (2 * k.val) vb) b).acc := b1.acc
  unfold tripL_k0_t1 trip_k0_t1
  dsimp only
  constructor
  · refine HoldsA.storeB (holdsA_store ?_ ?_ ?_) _ _ _
    all_goals
      simp only [trip_k0_t1.sl.r, trip_k0_t1.sl.r_1, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_2, trip_k0_t1.sl.r_20, trip_k0_t1.sl.r_21, trip_k0_t1.sl.r_22, trip_k0_t1.sl.r_3, trip_k0_t1.sl.r_4, trip_k0_t1.sl.r_5, trip_k0_t1.sl.r_6, trip_k0_t1.sl.r_7, trip_k0_t1.sl.r_8, trip_k0_t1.sl.r_9, h14, h15, o3, p3, a1m, a1l, a1a]
      rfl
  · refine holdsB_store ?_ ?_ ?_
    all_goals
      simp only [trip_k0_t1.sl.r, trip_k0_t1.sl.r_1, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_2, trip_k0_t1.sl.r_20, trip_k0_t1.sl.r_21, trip_k0_t1.sl.r_22, trip_k0_t1.sl.r_3, trip_k0_t1.sl.r_4, trip_k0_t1.sl.r_5, trip_k0_t1.sl.r_6, trip_k0_t1.sl.r_7, trip_k0_t1.sl.r_8, trip_k0_t1.sl.r_9, h14, h15, o3, p3, b1m, b1l, b1a]
      rfl

/-- The whole pair loop. -/
theorem pairs_hold (kp vp : Vec F S128x256 .bf16) (n : ℕ) (h17 : v17 = queryA q) (h20 : v20 = queryB q)
    (h14 : ∀ r : Rect S2048x256, arg14.view.readAt (Elt F) r.toLoadRect X_arg14 = View.ld kb r)
    (h15 : ∀ r : Rect S2048x256, arg15.view.readAt (Elt F) r.toLoadRect X_arg15 = View.ld vb r)
    (hA : HoldsA arg11.view arg12.view arg13.view L11 L12 L13 (pastA q kp vp kb vb n 0))
    (hB : HoldsB arg11.view arg12.view arg13.view L11 L12 L13 (pastB q kp vp kb vb n 0)) :
    ∀ j, j ≤ (k0_t1_loop i).trips →
    HoldsA arg11.view arg12.view arg13.view
        ((pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v17 v20 v29 v156 v161 v172 X_arg14 X_arg15 (arg11.view.writes (Elt F) arg11.view.junk L11) (arg12.view.writes (Elt F) arg12.view.junk L12) (arg13.view.writes (Elt F) arg13.view.junk L13) j).1 ++ L11)
        ((pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v17 v20 v29 v156 v161 v172 X_arg14 X_arg15 (arg11.view.writes (Elt F) arg11.view.junk L11) (arg12.view.writes (Elt F) arg12.view.junk L12) (arg13.view.writes (Elt F) arg13.view.junk L13) j).2.1 ++ L12)
        ((pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v17 v20 v29 v156 v161 v172 X_arg14 X_arg15 (arg11.view.writes (Elt F) arg11.view.junk L11) (arg12.view.writes (Elt F) arg12.view.junk L12) (arg13.view.writes (Elt F) arg13.view.junk L13) j).2.2 ++ L13) (pastA q kp vp kb vb n (2 * j))
      ∧ HoldsB arg11.view arg12.view arg13.view
        ((pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v17 v20 v29 v156 v161 v172 X_arg14 X_arg15 (arg11.view.writes (Elt F) arg11.view.junk L11) (arg12.view.writes (Elt F) arg12.view.junk L12) (arg13.view.writes (Elt F) arg13.view.junk L13) j).1 ++ L11)
        ((pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v17 v20 v29 v156 v161 v172 X_arg14 X_arg15 (arg11.view.writes (Elt F) arg11.view.junk L11) (arg12.view.writes (Elt F) arg12.view.junk L12) (arg13.view.writes (Elt F) arg13.view.junk L13) j).2.1 ++ L12)
        ((pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v17 v20 v29 v156 v161 v172 X_arg14 X_arg15 (arg11.view.writes (Elt F) arg11.view.junk L11) (arg12.view.writes (Elt F) arg12.view.junk L12) (arg13.view.writes (Elt F) arg13.view.junk L13) j).2.2 ++ L13) (pastB q kp vp kb vb n (2 * j)) := by
  intro j
  induction j with
  | zero => exact fun _ => ⟨hA, hB⟩
  | succ j ih =>
    intro hj
    obtain ⟨ihA, ihB⟩ := ih (Nat.le_of_succ_le hj)
    have e := pb_k0_t1_succ (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v17 v20 v29 v156 v161 v172 X_arg14 X_arg15 (arg11.view.writes (Elt F) arg11.view.junk L11) (arg12.view.writes (Elt F) arg12.view.junk L12) (arg13.view.writes (Elt F) arg13.view.junk L13) ⟨j, hj⟩
    dsimp only at e
    rw [e]
    simp only [List.append_assoc, ← View.writes_append]
    exact trip_holds c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v17 v20 v29 v156 v161 v172 X_arg14 X_arg15 ⟨j, hj⟩ q kb vb _ _ _ _ _ h17 h20 h14 h15 ihA ihB
end Trip

end Cert.Flash
-- ==== Proof.CaseA.lean ====
module

public import proofs.«01_k».proof.Proof.Pairs

/-! What a grid point of case A stores: the block `outBlock`. -/

@[expose] public section

set_option maxRecDepth 16384

noncomputable section

namespace Cert.Flash

open Idealize.ShloMosaic Idealize.ShloMosaic.TcCoe Idealize.ShloMosaic.Tactic
open Cert.KernelIdeal Cert.KernelIdeal.Gen

variable {F : FTy → Type} [FloatOps F]

theorem diag_offA (i : grid0.Coords) : k0_off1 i = ![512 * (i 2).val, 0] := by
  have key : ∀ n : Fin 4, ∀ j : grid0.Coords, j 2 = n → k0_off1 j = ![512 * n.val, 0] := by
    intro n j hj
    have hv : (j 2).val = n.val := congrArg Fin.val hj
    simp only [k0_off1, hv]
    clear hv hj j
    revert n
    decide
  exact key (i 2) i rfl

/-- Sixteen prefix rows above 112 rows of zeros. -/
def padded (x : Vec F S16x256 .f32) : Vec F S128x256 .bf16 :=
  (Rect.unit (s := S128x256) ![0, 0] S16x256.size inb_S128x256_S16x256_0_0).overlay (k0_pay4 (F := F)) (k0_pay6 x)

variable (c : Dev nD) (i : grid0.Coords)
  (arg3 : Memref sig .tc .vmem S512x256 .f32) (harg3 : arg3.IsWhole)
  (arg4 : Memref sig .tc .vmem S2048x256 .f32) (harg4 : arg4.IsWhole)
  (arg5 : Memref sig .tc .vmem S2048x256 .f32) (harg5 : arg5.IsWhole)
  (arg6 : Memref sig .tc .vmem S16x256 .f32) (harg6 : arg6.IsWhole)
  (arg7 : Memref sig .tc .vmem S16x256 .f32) (harg7 : arg7.IsWhole)
  (arg8 : Memref sig .tc .vmem S1x4x128 .f32) (harg8 : arg8.IsWhole)
  (arg9 : Memref sig .tc .vmem S1x1x256 .f32) (harg9 : arg9.IsWhole)
  (arg10 : Memref sig .tc .vmem S512x256 .bf16) (harg10 : arg10.IsWhole)
  (arg11 : Memref sig .tc .vmem S2x512x128 .f32) (harg11 : arg11.IsWhole)
  (arg12 : Memref sig .tc .vmem S2x512x128 .f32) (harg12 : arg12.IsWhole)
  (arg13 : Memref sig .tc .vmem S2x512x256 .f32) (harg13 : arg13.IsWhole)
  (arg14 : Memref sig .tc .vmem S2048x256 .bf16) (harg14 : arg14.IsWhole)
  (arg15 : Memref sig .tc .vmem S2048x256 .bf16) (harg15 : arg15.IsWhole)
  (arg16 : Memref sig .tc .vmem S128x256 .bf16) (harg16 : arg16.IsWhole)
  (arg17 : Memref sig .tc .vmem S128x256 .bf16) (harg17 : arg17.IsWhole)
variable (hc0 : cond0_0 i) (hc1 : ¬cond0_1 i)
  (x0 : Vec F S512x256 .f32) (x1 : Vec F S2048x256 .f32) (x2 : Vec F S2048x256 .f32) (x3 : Vec F S16x256 .f32)
  (x4 : Vec F S16x256 .f32) (x5 : Vec F S1x4x128 .f32) (x6 : Vec F S1x1x256 .f32)
  (xs3 xs4 : Vec F S2048x256 .bf16) (xs5 xs6 : Vec F S128x256 .bf16)

theorem runA (hpar : (i 2).val % 2 = 0) :
    (kernelRun0_A (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6).1
      = [⟨Rect.unit (s := S512x256) ![0, 0] S512x256.size inb_S512x256_S512x256_0_0, outBlock x0 (padded x3) (padded x4) (k0_pay2 x1) (k0_pay3 x2) x5 x6 (i 2).val⟩] := by
  have hlt : (i 2).val < 4 := (i 2).isLt
  have eq0 : (kernelRun0_A.sl.r (F := F) c arg3 harg3 x0) = queryA x0 := by
    unfold kernelRun0_A.sl.r queryA
    rw [View.readAt_eq_ld, harg3.read_unread]
  have eq1 : (kernelRun0_A.sl.r_1 (F := F) c arg3 harg3 x0) = queryB x0 := by
    unfold kernelRun0_A.sl.r_1 queryB
    rw [View.readAt_eq_ld, harg3.read_unread]
  have rk : ∀ r : Rect S2048x256, arg14.view.readAt (Elt F) r.toLoadRect (arg14.view.writes (Elt F) arg14.view.junk (kernelRun0_A.sl.HS3_1 (F := F) c arg4 harg4 x1)) = View.ld (k0_pay2 x1) r := by
    intro r
    refine (View.readCov_fill arg14.view _ _ [] r (by decide)).trans ?_
    rw [View.readAt_eq_ld, harg4.read_unread, View.ld_unit_lit' _ _ (by decide)]
  have rv : ∀ r : Rect S2048x256, arg15.view.readAt (Elt F) r.toLoadRect (arg15.view.writes (Elt F) arg15.view.junk (kernelRun0_A.sl.HS4_1 (F := F) c arg5 harg5 x2)) = View.ld (k0_pay3 x2) r := by
    intro r
    refine (View.readCov_fill arg15.view _ _ [] r (by decide)).trans ?_
    rw [View.readAt_eq_ld, harg5.read_unread, View.ld_unit_lit' _ _ (by decide)]
  have ekp : (kernelRun0_A.sl.v30 (F := F) c arg6 harg6 arg16 x3) = (padded x3) := by
    unfold kernelRun0_A.sl.v30 kernelRun0_A.sl.HS5_2 padded
    rw [View.readCov_eq_canon', View.canon_cons, View.canon_cons_unit_lit' _ _ _ (by decide), View.readAt_eq_ld, harg6.read_unread,
      View.ld_unit_lit' _ _ (by decide)]
    exact View.ld_unit_lit' _ _ (by decide)
  have evp : (kernelRun0_A.sl.v39 (F := F) c arg7 harg7 arg17 x4) = (padded x4) := by
    unfold kernelRun0_A.sl.v39 kernelRun0_A.sl.HS6_2 padded
    rw [View.readCov_eq_canon', View.canon_cons, View.canon_cons_unit_lit' _ _ _ (by decide), View.readAt_eq_ld, harg7.read_unread,
      View.ld_unit_lit' _ _ (by decide)]
    exact View.ld_unit_lit' _ _ (by decide)
  have ekd : (kernelRun0_A.sl.r_2 (F := F) c i arg4 harg4 arg14 x1) = blk (i 2).val (k0_pay2 x1) := by
    unfold kernelRun0_A.sl.r_2
    rw [rk]
    exact ld_blk _ _ hlt _ (diag_offA i) _
  have evd : (kernelRun0_A.sl.r_3 (F := F) c i arg5 harg5 arg15 x2) = blk (i 2).val (k0_pay3 x2) := by
    unfold kernelRun0_A.sl.r_3
    rw [rv]
    exact ld_blk _ _ hlt _ (diag_offA i) _
  have a0 : HoldsA arg11.view arg12.view arg13.view (kernelRun0_A.sl.HS0_1 (F := F) ) (kernelRun0_A.sl.HS1_1 (F := F) ) (kernelRun0_A.sl.HS2_1 (F := F) ) start := holdsA_start
  have b0 : HoldsB arg11.view arg12.view arg13.view (kernelRun0_A.sl.HS0_1 (F := F) ) (kernelRun0_A.sl.HS1_1 (F := F) ) (kernelRun0_A.sl.HS2_1 (F := F) ) start := holdsB_start
  have a0m : (kernelRun0_A.sl.v44 (F := F) c arg11) = (start (F := F)).m := a0.m
  have a0l : (kernelRun0_A.sl.v54 (F := F) c arg12) = (start (F := F)).l := a0.l
  have a0a : (kernelRun0_A.sl.v65 (F := F) c arg13) = (start (F := F)).acc := a0.acc
  have a1 : HoldsA arg11.view arg12.view arg13.view (kernelRun0_A.sl.HS0_2 (F := F) c arg3 harg3 arg6 harg6 arg11 arg16 x0 x3) (kernelRun0_A.sl.HS1_2 (F := F) c arg3 harg3 arg6 harg6 arg11 arg12 arg16 x0 x3) (kernelRun0_A.sl.HS2_2 (F := F) c arg3 harg3 arg6 harg6 arg7 harg7 arg11 arg13 arg16 arg17 x0 x3 x4) (narrow (prefixA x0 (padded x3)) prefixLive (padded x4) start) := by
    refine holdsA_store ?_ ?_ ?_
    all_goals
      simp only [kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_4, kernelRun0_A.sl.r_5, kernelRun0_A.sl.r_6, kernelRun0_A.sl.r_7, kernelRun0_A.sl.r_8, kernelRun0_A.sl.r_9, eq0, eq1, ekp, evp, ekd, evd, a0m, a0l, a0a]
      rfl
  have b1 : HoldsB arg11.view arg12.view arg13.view (kernelRun0_A.sl.HS0_2 (F := F) c arg3 harg3 arg6 harg6 arg11 arg16 x0 x3) (kernelRun0_A.sl.HS1_2 (F := F) c arg3 harg3 arg6 harg6 arg11 arg12 arg16 x0 x3) (kernelRun0_A.sl.HS2_2 (F := F) c arg3 harg3 arg6 harg6 arg7 harg7 arg11 arg13 arg16 arg17 x0 x3 x4) start := HoldsB.storeA b0 _ _ _
  have b1m : (kernelRun0_A.sl.v79 (F := F) c arg3 harg3 arg6 harg6 arg11 arg16 x0 x3) = (start (F := F)).m := b1.m
  have b1l : (kernelRun0_A.sl.v89 (F := F) c arg3 harg3 arg6 harg6 arg11 arg12 arg16 x0 x3) = (start (F := F)).l := b1.l
  have b1a : (kernelRun0_A.sl.v100 (F := F) c arg3 harg3 arg6 harg6 arg7 harg7 arg11 arg13 arg16 arg17 x0 x3 x4) = (start (F := F)).acc := b1.acc
  have b2 : HoldsB arg11.view arg12.view arg13.view (kernelRun0_A.sl.HS0_3 (F := F) c arg3 harg3 arg6 harg6 arg11 arg16 x0 x3) (kernelRun0_A.sl.HS1_3 (F := F) c arg3 harg3 arg6 harg6 arg11 arg12 arg16 x0 x3) (kernelRun0_A.sl.HS2_3 (F := F) c arg3 harg3 arg6 harg6 arg7 harg7 arg11 arg13 arg16 arg17 x0 x3 x4) (narrow (prefixB x0 (padded x3)) prefixLive (padded x4) start) := by
    refine holdsB_store ?_ ?_ ?_
    all_goals
      simp only [kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_4, kernelRun0_A.sl.r_5, kernelRun0_A.sl.r_6, kernelRun0_A.sl.r_7, kernelRun0_A.sl.r_8, kernelRun0_A.sl.r_9, eq0, eq1, ekp, evp, ekd, evd, b1m, b1l, b1a]
      rfl
  have a2 : HoldsA arg11.view arg12.view arg13.view (kernelRun0_A.sl.HS0_3 (F := F) c arg3 harg3 arg6 harg6 arg11 arg16 x0 x3) (kernelRun0_A.sl.HS1_3 (F := F) c arg3 harg3 arg6 harg6 arg11 arg12 arg16 x0 x3) (kernelRun0_A.sl.HS2_3 (F := F) c arg3 harg3 arg6 harg6 arg7 harg7 arg11 arg13 arg16 arg17 x0 x3 x4) (narrow (prefixA x0 (padded x3)) prefixLive (padded x4) start) := HoldsA.storeB a1 _ _ _
  have a2m : (kernelRun0_A.sl.v115 (F := F) c arg3 harg3 arg6 harg6 arg11 arg16 x0 x3) = (narrow (prefixA x0 (padded x3)) prefixLive (padded x4) start).m := a2.m
  have a2l : (kernelRun0_A.sl.v126 (F := F) c arg3 harg3 arg6 harg6 arg11 arg12 arg16 x0 x3) = (narrow (prefixA x0 (padded x3)) prefixLive (padded x4) start).l := a2.l
  have a2a : (kernelRun0_A.sl.v137 (F := F) c arg3 harg3 arg6 harg6 arg7 harg7 arg11 arg13 arg16 arg17 x0 x3 x4) = (narrow (prefixA x0 (padded x3)) prefixLive (padded x4) start).acc := a2.acc
  have a3 : HoldsA arg11.view arg12.view arg13.view (kernelRun0_A.sl.HS0_4 (F := F) c i arg3 harg3 arg4 harg4 arg6 harg6 arg11 arg14 arg16 x0 x1 x3) (kernelRun0_A.sl.HS1_4 (F := F) c i arg3 harg3 arg4 harg4 arg6 harg6 arg11 arg12 arg14 arg16 x0 x1 x3) (kernelRun0_A.sl.HS2_4 (F := F) c i arg3 harg3 arg4 harg4 arg5 harg5 arg6 harg6 arg7 harg7 arg11 arg13 arg14 arg15 arg16 arg17 x0 x1 x2 x3 x4) (pastA x0 (padded x3) (padded x4) (k0_pay2 x1) (k0_pay3 x2) (i 2).val 0) := by
    refine holdsA_store ?_ ?_ ?_
    all_goals
      simp only [kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_4, kernelRun0_A.sl.r_5, kernelRun0_A.sl.r_6, kernelRun0_A.sl.r_7, kernelRun0_A.sl.r_8, kernelRun0_A.sl.r_9, eq0, eq1, ekp, evp, ekd, evd, a2m, a2l, a2a]
      rfl
  have b3 : HoldsB arg11.view arg12.view arg13.view (kernelRun0_A.sl.HS0_4 (F := F) c i arg3 harg3 arg4 harg4 arg6 harg6 arg11 arg14 arg16 x0 x1 x3) (kernelRun0_A.sl.HS1_4 (F := F) c i arg3 harg3 arg4 harg4 arg6 harg6 arg11 arg12 arg14 arg16 x0 x1 x3) (kernelRun0_A.sl.HS2_4 (F := F) c i arg3 harg3 arg4 harg4 arg5 harg5 arg6 harg6 arg7 harg7 arg11 arg13 arg14 arg15 arg16 arg17 x0 x1 x2 x3 x4) (narrow (prefixB x0 (padded x3)) prefixLive (padded x4) start) := HoldsB.storeA b2 _ _ _
  have b3m : (kernelRun0_A.sl.v151 (F := F) c i arg3 harg3 arg4 harg4 arg6 harg6 arg11 arg14 arg16 x0 x1 x3) = (narrow (prefixB x0 (padded x3)) prefixLive (padded x4) start).m := b3.m
  have b3l : (kernelRun0_A.sl.v162 (F := F) c i arg3 harg3 arg4 harg4 arg6 harg6 arg11 arg12 arg14 arg16 x0 x1 x3) = (narrow (prefixB x0 (padded x3)) prefixLive (padded x4) start).l := b3.l
  have b3a : (kernelRun0_A.sl.v173 (F := F) c i arg3 harg3 arg4 harg4 arg5 harg5 arg6 harg6 arg7 harg7 arg11 arg13 arg14 arg15 arg16 arg17 x0 x1 x2 x3 x4) = (narrow (prefixB x0 (padded x3)) prefixLive (padded x4) start).acc := b3.acc
  have b4 : HoldsB arg11.view arg12.view arg13.view (kernelRun0_A.sl.HS0_5 (F := F) c i arg3 harg3 arg4 harg4 arg6 harg6 arg11 arg14 arg16 x0 x1 x3) (kernelRun0_A.sl.HS1_5 (F := F) c i arg3 harg3 arg4 harg4 arg6 harg6 arg11 arg12 arg14 arg16 x0 x1 x3) (kernelRun0_A.sl.HS2_5 (F := F) c i arg3 harg3 arg4 harg4 arg5 harg5 arg6 harg6 arg7 harg7 arg11 arg13 arg14 arg15 arg16 arg17 x0 x1 x2 x3 x4) (pastB x0 (padded x3) (padded x4) (k0_pay2 x1) (k0_pay3 x2) (i 2).val 0) := by
    refine holdsB_store ?_ ?_ ?_
    all_goals
      simp only [kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_4, kernelRun0_A.sl.r_5, kernelRun0_A.sl.r_6, kernelRun0_A.sl.r_7, kernelRun0_A.sl.r_8, kernelRun0_A.sl.r_9, eq0, eq1, ekp, evp, ekd, evd, b3m, b3l, b3a]
      rfl
  have a4 : HoldsA arg11.view arg12.view arg13.view (kernelRun0_A.sl.HS0_5 (F := F) c i arg3 harg3 arg4 harg4 arg6 harg6 arg11 arg14 arg16 x0 x1 x3) (kernelRun0_A.sl.HS1_5 (F := F) c i arg3 harg3 arg4 harg4 arg6 harg6 arg11 arg12 arg14 arg16 x0 x1 x3) (kernelRun0_A.sl.HS2_5 (F := F) c i arg3 harg3 arg4 harg4 arg5 harg5 arg6 harg6 arg7 harg7 arg11 arg13 arg14 arg15 arg16 arg17 x0 x1 x2 x3 x4) (pastA x0 (padded x3) (padded x4) (k0_pay2 x1) (k0_pay3 x2) (i 2).val 0) := HoldsA.storeB a3 _ _ _
  have hT := pairs_hold c i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2).val) (kernelRun0_A.sl.r (F := F) c arg3 harg3 x0) (kernelRun0_A.sl.r_1 (F := F) c arg3 harg3 x0) (kernelRun0_A.sl.r_3 (F := F) c i arg5 harg5 arg15 x2) (kernelRun0_A.sl.r_18 (F := F) c i arg3 harg3 arg4 harg4 arg6 harg6 arg11 arg14 arg16 x0 x1 x3) (kernelRun0_A.sl.r_19 (F := F) c i arg3 harg3 arg4 harg4 arg6 harg6 arg11 arg14 arg16 x0 x1 x3) (kernelRun0_A.sl.r_20 (F := F) c i arg3 harg3 arg4 harg4 arg6 harg6 arg11 arg14 arg16 x0 x1 x3) (arg14.view.writes (Elt F) arg14.view.junk (kernelRun0_A.sl.HS3_1 (F := F) c arg4 harg4 x1)) (arg15.view.writes (Elt F) arg15.view.junk (kernelRun0_A.sl.HS4_1 (F := F) c arg5 harg5 x2)) x0 (k0_pay2 x1) (k0_pay3 x2)
    _ _ _ (padded x3) (padded x4) (i 2).val eq0 eq1 rk rv a4 b4 (Scf.trips (k0_t1_loop i).lb (k0_t1_loop i).ub (k0_t1_loop i).st) le_rfl
  have hN := fun G11 G12 G13 => rest_nil c i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2).val) (kernelRun0_A.sl.r (F := F) c arg3 harg3 x0) (kernelRun0_A.sl.r_1 (F := F) c arg3 harg3 x0) (kernelRun0_A.sl.r_3 (F := F) c i arg5 harg5 arg15 x2) (kernelRun0_A.sl.r_18 (F := F) c i arg3 harg3 arg4 harg4 arg6 harg6 arg11 arg14 arg16 x0 x1 x3) (kernelRun0_A.sl.r_19 (F := F) c i arg3 harg3 arg4 harg4 arg6 harg6 arg11 arg14 arg16 x0 x1 x3) (kernelRun0_A.sl.r_20 (F := F) c i arg3 harg3 arg4 harg4 arg6 harg6 arg11 arg14 arg16 x0 x1 x3) (arg14.view.writes (Elt F) arg14.view.junk (kernelRun0_A.sl.HS3_1 (F := F) c arg4 harg4 x1)) (arg15.view.writes (Elt F) arg15.view.junk (kernelRun0_A.sl.HS4_1 (F := F) c arg5 harg5 x2)) (kernelRun0_A.sl.v206 i) G11 G12 G13
  have hn : 2 * Scf.trips (k0_t1_loop i).lb (k0_t1_loop i).ub (k0_t1_loop i).st = (i 2).val := by
    rw [pair_trips]
    omega
  rw [hn] at hT
  obtain ⟨aT, bT⟩ := hT
  have e237 : (kernelRun0_A.sl.v237 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4) = (pastA x0 (padded x3) (padded x4) (k0_pay2 x1) (k0_pay3 x2) (i 2).val (i 2).val).acc := by
    unfold kernelRun0_A.sl.v237
    rw [hN]
    exact aT.acc
  have e239 : (kernelRun0_A.sl.v239 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4) = (pastA x0 (padded x3) (padded x4) (k0_pay2 x1) (k0_pay3 x2) (i 2).val (i 2).val).l := by
    unfold kernelRun0_A.sl.v239
    rw [hN]
    exact aT.l
  have e243 : (kernelRun0_A.sl.v243 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4) = (pastB x0 (padded x3) (padded x4) (k0_pay2 x1) (k0_pay3 x2) (i 2).val (i 2).val).acc := by
    unfold kernelRun0_A.sl.v243
    rw [hN]
    exact bT.acc
  have e245 : (kernelRun0_A.sl.v245 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4) = (pastB x0 (padded x3) (padded x4) (k0_pay2 x1) (k0_pay3 x2) (i 2).val (i 2).val).l := by
    unfold kernelRun0_A.sl.v245
    rw [hN]
    exact bT.l
  have elam : (kernelRun0_A.sl.r_21 (F := F) c arg8 harg8 x5) = k0_pay151 x5 := by
    unfold kernelRun0_A.sl.r_21
    rw [View.readAt_eq_ld, harg8.read_unread, View.ld_unit_lit' _ _ (by decide)]
  have esub : arg9.view.readAt (Elt F) (Rect.unit (s := S1x1x256) ![0, 0, 0] ![1, 1, 256] inb_S1x1x256_S1x1x256_0_0_0).toLoadRect (harg9.unread x6) = x6 := by
    rw [View.readAt_eq_ld, harg9.read_unread]
    exact View.ld_unit_lit' _ _ (by decide)
  unfold kernelRun0_A
  dsimp only
  rw [elam, e245]
  unfold kernelRun0_A.sl.r_22 kernelRun0_A.sl.r_23
  rw [e237, e239, e243, esub]
  rfl

end Cert.Flash
-- ==== Proof.CaseB.lean ====
module

public import proofs.«01_k».proof.Proof.Pairs

/-! What a grid point of case B stores: the block `outBlock`. -/

@[expose] public section

set_option maxRecDepth 16384

noncomputable section

namespace Cert.Flash

open Idealize.ShloMosaic Idealize.ShloMosaic.TcCoe Idealize.ShloMosaic.Tactic
open Cert.KernelIdeal Cert.KernelIdeal.Gen

variable {F : FTy → Type} [FloatOps F]

theorem diag_offB (i : grid0.Coords) : k0_off1 i = ![512 * (i 2).val, 0] := by
  have key : ∀ n : Fin 4, ∀ j : grid0.Coords, j 2 = n → k0_off1 j = ![512 * n.val, 0] := by
    intro n j hj
    have hv : (j 2).val = n.val := congrArg Fin.val hj
    simp only [k0_off1, hv]
    clear hv hj j
    revert n
    decide
  exact key (i 2) i rfl

theorem odd_off (i : grid0.Coords) (h : (i 2).val % 2 = 1) : k0_off6 i = ![512 * ((i 2).val - 1), 0] := by
  have key : ∀ n : Fin 4, n.val % 2 = 1 → ∀ j : grid0.Coords, j 2 = n → k0_off6 j = ![512 * (n.val - 1), 0] := by
    intro n hn j hj
    have hv : (j 2).val = n.val := congrArg Fin.val hj
    simp only [k0_off6, hv]
    clear hv hj j
    revert n
    decide
  exact key (i 2) h i rfl

variable (c : Dev nD) (i : grid0.Coords)
  (arg3 : Memref sig .tc .vmem S512x256 .f32) (harg3 : arg3.IsWhole)
  (arg4 : Memref sig .tc .vmem S2048x256 .f32) (harg4 : arg4.IsWhole)
  (arg5 : Memref sig .tc .vmem S2048x256 .f32) (harg5 : arg5.IsWhole)
  (arg6 : Memref sig .tc .vmem S16x256 .f32) (harg6 : arg6.IsWhole)
  (arg7 : Memref sig .tc .vmem S16x256 .f32) (harg7 : arg7.IsWhole)
  (arg8 : Memref sig .tc .vmem S1x4x128 .f32) (harg8 : arg8.IsWhole)
  (arg9 : Memref sig .tc .vmem S1x1x256 .f32) (harg9 : arg9.IsWhole)
  (arg10 : Memref sig .tc .vmem S512x256 .bf16) (harg10 : arg10.IsWhole)
  (arg11 : Memref sig .tc .vmem S2x512x128 .f32) (harg11 : arg11.IsWhole)
  (arg12 : Memref sig .tc .vmem S2x512x128 .f32) (harg12 : arg12.IsWhole)
  (arg13 : Memref sig .tc .vmem S2x512x256 .f32) (harg13 : arg13.IsWhole)
  (arg14 : Memref sig .tc .vmem S2048x256 .bf16) (harg14 : arg14.IsWhole)
  (arg15 : Memref sig .tc .vmem S2048x256 .bf16) (harg15 : arg15.IsWhole)
  (arg16 : Memref sig .tc .vmem S128x256 .bf16) (harg16 : arg16.IsWhole)
  (arg17 : Memref sig .tc .vmem S128x256 .bf16) (harg17 : arg17.IsWhole)
variable (hc0 : ¬cond0_0 i) (hc1 : cond0_1 i)
  (x0 : Vec F S512x256 .f32) (x1 : Vec F S2048x256 .f32) (x2 : Vec F S2048x256 .f32) (x3 : Vec F S16x256 .f32)
  (x4 : Vec F S16x256 .f32) (x5 : Vec F S1x4x128 .f32) (x6 : Vec F S1x1x256 .f32)
  (xs3 xs4 : Vec F S2048x256 .bf16) (xs5 xs6 : Vec F S128x256 .bf16)

theorem runB (hpar : (i 2).val % 2 = 1) :
    (kernelRun0_B (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs3 xs4 xs5 xs6).1
      = [⟨Rect.unit (s := S512x256) ![0, 0] S512x256.size inb_S512x256_S512x256_0_0, outBlock x0 xs5 xs6 xs3 xs4 x5 x6 (i 2).val⟩] := by
  have hlt : (i 2).val < 4 := (i 2).isLt
  have eq0 : (kernelRun0_B.sl.r (F := F) c arg3 harg3 x0) = queryA x0 := by
    unfold kernelRun0_B.sl.r queryA
    rw [View.readAt_eq_ld, harg3.read_unread]
  have eq1 : (kernelRun0_B.sl.r_1 (F := F) c arg3 harg3 x0) = queryB x0 := by
    unfold kernelRun0_B.sl.r_1 queryB
    rw [View.readAt_eq_ld, harg3.read_unread]
  have rk : ∀ r : Rect S2048x256, arg14.view.readAt (Elt F) r.toLoadRect (harg14.unread xs3) = View.ld xs3 r := by
    intro r
    rw [View.readAt_eq_ld, harg14.read_unread]
  have rv : ∀ r : Rect S2048x256, arg15.view.readAt (Elt F) r.toLoadRect (harg15.unread xs4) = View.ld xs4 r := by
    intro r
    rw [View.readAt_eq_ld, harg15.read_unread]
  have ekp : arg16.view.readAt (Elt F) (Rect.unit (s := S128x256) ![0, 0] S128x256.size inb_S128x256_S128x256_0_0).toLoadRect (harg16.unread xs5) = xs5 := by
    rw [View.readAt_eq_ld, harg16.read_unread]
    exact View.ld_unit_lit' _ _ (by decide)
  have evp : (kernelRun0_B.sl.r_7 (F := F) c arg17 harg17 xs6) = xs6 := by
    unfold kernelRun0_B.sl.r_7
    rw [View.readAt_eq_ld, harg17.read_unread]
    exact View.ld_unit_lit' _ _ (by decide)
  have ekd : (kernelRun0_B.sl.r_2 (F := F) c i arg14 harg14 xs3) = blk (i 2).val xs3 := by
    unfold kernelRun0_B.sl.r_2
    rw [rk]
    exact ld_blk _ _ hlt _ (diag_offB i) _
  have evd : (kernelRun0_B.sl.r_3 (F := F) c i arg15 harg15 xs4) = blk (i 2).val xs4 := by
    unfold kernelRun0_B.sl.r_3
    rw [rv]
    exact ld_blk _ _ hlt _ (diag_offB i) _
  have a0 : HoldsA arg11.view arg12.view arg13.view (kernelRun0_B.sl.HS0_1 (F := F) ) (kernelRun0_B.sl.HS1_1 (F := F) ) (kernelRun0_B.sl.HS2_1 (F := F) ) start := holdsA_start
  have b0 : HoldsB arg11.view arg12.view arg13.view (kernelRun0_B.sl.HS0_1 (F := F) ) (kernelRun0_B.sl.HS1_1 (F := F) ) (kernelRun0_B.sl.HS2_1 (F := F) ) start := holdsB_start
  have a0m : (kernelRun0_B.sl.v44 (F := F) c arg11) = (start (F := F)).m := a0.m
  have a0l : (kernelRun0_B.sl.v54 (F := F) c arg12) = (start (F := F)).l := a0.l
  have a0a : (kernelRun0_B.sl.v65 (F := F) c arg13) = (start (F := F)).acc := a0.acc
  have a1 : HoldsA arg11.view arg12.view arg13.view (kernelRun0_B.sl.HS0_2 (F := F) c arg3 harg3 arg11 arg16 harg16 x0 xs5) (kernelRun0_B.sl.HS1_2 (F := F) c arg3 harg3 arg11 arg12 arg16 harg16 x0 xs5) (kernelRun0_B.sl.HS2_2 (F := F) c arg3 harg3 arg11 arg13 arg16 harg16 arg17 harg17 x0 xs5 xs6) (narrow (prefixA x0 xs5) prefixLive xs6 start) := by
    refine holdsA_store ?_ ?_ ?_
    all_goals
      simp only [kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_4, kernelRun0_B.sl.r_5, kernelRun0_B.sl.r_6, kernelRun0_B.sl.r_8, kernelRun0_B.sl.r_9, eq0, eq1, ekp, evp, ekd, evd, a0m, a0l, a0a]
      rfl
  have b1 : HoldsB arg11.view arg12.view arg13.view (kernelRun0_B.sl.HS0_2 (F := F) c arg3 harg3 arg11 arg16 harg16 x0 xs5) (kernelRun0_B.sl.HS1_2 (F := F) c arg3 harg3 arg11 arg12 arg16 harg16 x0 xs5) (kernelRun0_B.sl.HS2_2 (F := F) c arg3 harg3 arg11 arg13 arg16 harg16 arg17 harg17 x0 xs5 xs6) start := HoldsB.storeA b0 _ _ _
  have b1m : (kernelRun0_B.sl.v79 (F := F) c arg3 harg3 arg11 arg16 harg16 x0 xs5) = (start (F := F)).m := b1.m
  have b1l : (kernelRun0_B.sl.v89 (F := F) c arg3 harg3 arg11 arg12 arg16 harg16 x0 xs5) = (start (F := F)).l := b1.l
  have b1a : (kernelRun0_B.sl.v100 (F := F) c arg3 harg3 arg11 arg13 arg16 harg16 arg17 harg17 x0 xs5 xs6) = (start (F := F)).acc := b1.acc
  have b2 : HoldsB arg11.view arg12.view arg13.view (kernelRun0_B.sl.HS0_3 (F := F) c arg3 harg3 arg11 arg16 harg16 x0 xs5) (kernelRun0_B.sl.HS1_3 (F := F) c arg3 harg3 arg11 arg12 arg16 harg16 x0 xs5) (kernelRun0_B.sl.HS2_3 (F := F) c arg3 harg3 arg11 arg13 arg16 harg16 arg17 harg17 x0 xs5 xs6) (narrow (prefixB x0 xs5) prefixLive xs6 start) := by
    refine holdsB_store ?_ ?_ ?_
    all_goals
      simp only [kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_4, kernelRun0_B.sl.r_5, kernelRun0_B.sl.r_6, kernelRun0_B.sl.r_8, kernelRun0_B.sl.r_9, eq0, eq1, ekp, evp, ekd, evd, b1m, b1l, b1a]
      rfl
  have a2 : HoldsA arg11.view arg12.view arg13.view (kernelRun0_B.sl.HS0_3 (F := F) c arg3 harg3 arg11 arg16 harg16 x0 xs5) (kernelRun0_B.sl.HS1_3 (F := F) c arg3 harg3 arg11 arg12 arg16 harg16 x0 xs5) (kernelRun0_B.sl.HS2_3 (F := F) c arg3 harg3 arg11 arg13 arg16 harg16 arg17 harg17 x0 xs5 xs6) (narrow (prefixA x0 xs5) prefixLive xs6 start) := HoldsA.storeB a1 _ _ _
  have a2m : (kernelRun0_B.sl.v115 (F := F) c arg3 harg3 arg11 arg16 harg16 x0 xs5) = (narrow (prefixA x0 xs5) prefixLive xs6 start).m := a2.m
  have a2l : (kernelRun0_B.sl.v126 (F := F) c arg3 harg3 arg11 arg12 arg16 harg16 x0 xs5) = (narrow (prefixA x0 xs5) prefixLive xs6 start).l := a2.l
  have a2a : (kernelRun0_B.sl.v137 (F := F) c arg3 harg3 arg11 arg13 arg16 harg16 arg17 harg17 x0 xs5 xs6) = (narrow (prefixA x0 xs5) prefixLive xs6 start).acc := a2.acc
  have a3 : HoldsA arg11.view arg12.view arg13.view (kernelRun0_B.sl.HS0_4 (F := F) c i arg3 harg3 arg11 arg14 harg14 arg16 harg16 x0 xs3 xs5) (kernelRun0_B.sl.HS1_4 (F := F) c i arg3 harg3 arg11 arg12 arg14 harg14 arg16 harg16 x0 xs3 xs5) (kernelRun0_B.sl.HS2_4 (F := F) c i arg3 harg3 arg11 arg13 arg14 harg14 arg15 harg15 arg16 harg16 arg17 harg17 x0 xs3 xs4 xs5 xs6) (pastA x0 xs5 xs6 xs3 xs4 (i 2).val 0) := by
    refine holdsA_store ?_ ?_ ?_
    all_goals
      simp only [kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_4, kernelRun0_B.sl.r_5, kernelRun0_B.sl.r_6, kernelRun0_B.sl.r_8, kernelRun0_B.sl.r_9, eq0, eq1, ekp, evp, ekd, evd, a2m, a2l, a2a]
      rfl
  have b3 : HoldsB arg11.view arg12.view arg13.view (kernelRun0_B.sl.HS0_4 (F := F) c i arg3 harg3 arg11 arg14 harg14 arg16 harg16 x0 xs3 xs5) (kernelRun0_B.sl.HS1_4 (F := F) c i arg3 harg3 arg11 arg12 arg14 harg14 arg16 harg16 x0 xs3 xs5) (kernelRun0_B.sl.HS2_4 (F := F) c i arg3 harg3 arg11 arg13 arg14 harg14 arg15 harg15 arg16 harg16 arg17 harg17 x0 xs3 xs4 xs5 xs6) (narrow (prefixB x0 xs5) prefixLive xs6 start) := HoldsB.storeA b2 _ _ _
  have b3m : (kernelRun0_B.sl.v151 (F := F) c i arg3 harg3 arg11 arg14 harg14 arg16 harg16 x0 xs3 xs5) = (narrow (prefixB x0 xs5) prefixLive xs6 start).m := b3.m
  have b3l : (kernelRun0_B.sl.v162 (F := F) c i arg3 harg3 arg11 arg12 arg14 harg14 arg16 harg16 x0 xs3 xs5) = (narrow (prefixB x0 xs5) prefixLive xs6 start).l := b3.l
  have b3a : (kernelRun0_B.sl.v173 (F := F) c i arg3 harg3 arg11 arg13 arg14 harg14 arg15 harg15 arg16 harg16 arg17 harg17 x0 xs3 xs4 xs5 xs6) = (narrow (prefixB x0 xs5) prefixLive xs6 start).acc := b3.acc
  have b4 : HoldsB arg11.view arg12.view arg13.view (kernelRun0_B.sl.HS0_5 (F := F) c i arg3 harg3 arg11 arg14 harg14 arg16 harg16 x0 xs3 xs5) (kernelRun0_B.sl.HS1_5 (F := F) c i arg3 harg3 arg11 arg12 arg14 harg14 arg16 harg16 x0 xs3 xs5) (kernelRun0_B.sl.HS2_5 (F := F) c i arg3 harg3 arg11 arg13 arg14 harg14 arg15 harg15 arg16 harg16 arg17 harg17 x0 xs3 xs4 xs5 xs6) (pastB x0 xs5 xs6 xs3 xs4 (i 2).val 0) := by
    refine holdsB_store ?_ ?_ ?_
    all_goals
      simp only [kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_4, kernelRun0_B.sl.r_5, kernelRun0_B.sl.r_6, kernelRun0_B.sl.r_8, kernelRun0_B.sl.r_9, eq0, eq1, ekp, evp, ekd, evd, b3m, b3l, b3a]
      rfl
  have a4 : HoldsA arg11.view arg12.view arg13.view (kernelRun0_B.sl.HS0_5 (F := F) c i arg3 harg3 arg11 arg14 harg14 arg16 harg16 x0 xs3 xs5) (kernelRun0_B.sl.HS1_5 (F := F) c i arg3 harg3 arg11 arg12 arg14 harg14 arg16 harg16 x0 xs3 xs5) (kernelRun0_B.sl.HS2_5 (F := F) c i arg3 harg3 arg11 arg13 arg14 harg14 arg15 harg15 arg16 harg16 arg17 harg17 x0 xs3 xs4 xs5 xs6) (pastA x0 xs5 xs6 xs3 xs4 (i 2).val 0) := HoldsA.storeB a3 _ _ _
  have hT := pairs_hold c i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2).val) (kernelRun0_B.sl.r (F := F) c arg3 harg3 x0) (kernelRun0_B.sl.r_1 (F := F) c arg3 harg3 x0) (kernelRun0_B.sl.r_3 (F := F) c i arg15 harg15 xs4) (kernelRun0_B.sl.r_19 (F := F) c i arg3 harg3 arg11 arg14 harg14 arg16 harg16 x0 xs3 xs5) (kernelRun0_B.sl.r_20 (F := F) c i arg3 harg3 arg11 arg14 harg14 arg16 harg16 x0 xs3 xs5) (kernelRun0_B.sl.r_21 (F := F) c i arg3 harg3 arg11 arg14 harg14 arg16 harg16 x0 xs3 xs5) (harg14.unread xs3) (harg15.unread xs4) x0 xs3 xs4
    _ _ _ xs5 xs6 (i 2).val eq0 eq1 rk rv a4 b4 (Scf.trips (k0_t1_loop i).lb (k0_t1_loop i).ub (k0_t1_loop i).st) le_rfl
  have hN := fun G11 G12 G13 => rest_nil c i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2).val) (kernelRun0_B.sl.r (F := F) c arg3 harg3 x0) (kernelRun0_B.sl.r_1 (F := F) c arg3 harg3 x0) (kernelRun0_B.sl.r_3 (F := F) c i arg15 harg15 xs4) (kernelRun0_B.sl.r_19 (F := F) c i arg3 harg3 arg11 arg14 harg14 arg16 harg16 x0 xs3 xs5) (kernelRun0_B.sl.r_20 (F := F) c i arg3 harg3 arg11 arg14 harg14 arg16 harg16 x0 xs3 xs5) (kernelRun0_B.sl.r_21 (F := F) c i arg3 harg3 arg11 arg14 harg14 arg16 harg16 x0 xs3 xs5) (harg14.unread xs3) (harg15.unread xs4) (kernelRun0_B.sl.v206 i) G11 G12 G13
  have hn : 2 * Scf.trips (k0_t1_loop i).lb (k0_t1_loop i).ub (k0_t1_loop i).st = (i 2).val - 1 := by
    rw [pair_trips]
    omega
  rw [hn] at hT
  obtain ⟨aT, bT⟩ := hT
  have e281 : (kernelRun0_B.sl.v281 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 xs3 xs4 xs5 xs6) = (pastA x0 xs5 xs6 xs3 xs4 (i 2).val ((i 2).val - 1)).m := by
    unfold kernelRun0_B.sl.v281
    rw [hN]
    exact aT.m
  have e292 : (kernelRun0_B.sl.v292 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 xs3 xs4 xs5 xs6) = (pastA x0 xs5 xs6 xs3 xs4 (i 2).val ((i 2).val - 1)).l := by
    unfold kernelRun0_B.sl.v292
    rw [hN]
    exact aT.l
  have e303 : (kernelRun0_B.sl.v303 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 xs3 xs4 xs5 xs6) = (pastA x0 xs5 xs6 xs3 xs4 (i 2).val ((i 2).val - 1)).acc := by
    unfold kernelRun0_B.sl.v303
    rw [hN]
    exact aT.acc
  have eko : ∀ inb, View.ld xs3 (Rect.unit (s := S2048x256) (k0_off6 i) S512x256.size inb) = blk ((i 2).val - 1) xs3 :=
    fun inb => ld_blk xs3 _ (by omega) _ (odd_off i hpar) inb
  have evo : ∀ inb, View.ld xs4 (Rect.unit (s := S2048x256) (k0_off6 i) S512x256.size inb) = blk ((i 2).val - 1) xs4 :=
    fun inb => ld_blk xs4 _ (by omega) _ (odd_off i hpar) inb
  have a5 : HoldsA arg11.view arg12.view arg13.view (kernelRun0_B.sl.HS0_1_1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x0 xs3 xs4 xs5 xs6) (kernelRun0_B.sl.HS1_1_1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x0 xs3 xs4 xs5 xs6) (kernelRun0_B.sl.HS2_1_1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x0 xs3 xs4 xs5 xs6) (wide (scoreA x0 (blk ((i 2).val - 1) xs3)) (blk ((i 2).val - 1) xs4) (pastA x0 xs5 xs6 xs3 xs4 (i 2).val ((i 2).val - 1))) := by
    refine holdsA_store ?_ ?_ ?_
    all_goals
      simp only [kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_4, kernelRun0_B.sl.r_5, kernelRun0_B.sl.r_6, kernelRun0_B.sl.r_8, kernelRun0_B.sl.r_9, rk, rv, eq0, eq1, eko, evo, e281, e292, e303]
      rfl
  have b5 : HoldsB arg11.view arg12.view arg13.view (kernelRun0_B.sl.HS0_1_1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x0 xs3 xs4 xs5 xs6) (kernelRun0_B.sl.HS1_1_1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x0 xs3 xs4 xs5 xs6) (kernelRun0_B.sl.HS2_1_1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x0 xs3 xs4 xs5 xs6) (pastB x0 xs5 xs6 xs3 xs4 (i 2).val ((i 2).val - 1)) := by
    unfold kernelRun0_B.sl.HS0_1_1 kernelRun0_B.sl.HS1_1_1 kernelRun0_B.sl.HS2_1_1
    exact HoldsB.storeA_nil bT _ (hN _ _ _) _ _ _
  have b5m : (kernelRun0_B.sl.v315 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x0 xs3 xs4 xs5 xs6) = (pastB x0 xs5 xs6 xs3 xs4 (i 2).val ((i 2).val - 1)).m := b5.m
  have b5l : (kernelRun0_B.sl.v326 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x0 xs3 xs4 xs5 xs6) = (pastB x0 xs5 xs6 xs3 xs4 (i 2).val ((i 2).val - 1)).l := b5.l
  have b5a : (kernelRun0_B.sl.v337 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x0 xs3 xs4 xs5 xs6) = (pastB x0 xs5 xs6 xs3 xs4 (i 2).val ((i 2).val - 1)).acc := b5.acc
  have b6 : HoldsB arg11.view arg12.view arg13.view (⟨Rect.unit (s := S2x512x128) ![1, 0, 0] S1x512x128.size inb_S2x512x128_S1x512x128_1_0_0, (wide (scoreB x0 (blk ((i 2).val - 1) xs3)) (blk ((i 2).val - 1) xs4) (pastB x0 xs5 xs6 xs3 xs4 (i 2).val ((i 2).val - 1))).m⟩ :: (kernelRun0_B.sl.HS0_1_1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x0 xs3 xs4 xs5 xs6)) (kernelRun0_B.sl.HS1_2_1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x0 xs3 xs4 xs5 xs6) (kernelRun0_B.sl.HS2_2_1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x0 xs3 xs4 xs5 xs6) (wide (scoreB x0 (blk ((i 2).val - 1) xs3)) (blk ((i 2).val - 1) xs4) (pastB x0 xs5 xs6 xs3 xs4 (i 2).val ((i 2).val - 1))) := by
    refine holdsB_store rfl ?_ ?_
    all_goals
      simp only [kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_4, kernelRun0_B.sl.r_5, kernelRun0_B.sl.r_6, kernelRun0_B.sl.r_8, kernelRun0_B.sl.r_9, rk, rv, eq0, eq1, eko, evo, b5m, b5l, b5a]
      rfl
  have a6 : HoldsA arg11.view arg12.view arg13.view (⟨Rect.unit (s := S2x512x128) ![1, 0, 0] S1x512x128.size inb_S2x512x128_S1x512x128_1_0_0, (wide (scoreB x0 (blk ((i 2).val - 1) xs3)) (blk ((i 2).val - 1) xs4) (pastB x0 xs5 xs6 xs3 xs4 (i 2).val ((i 2).val - 1))).m⟩ :: (kernelRun0_B.sl.HS0_1_1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x0 xs3 xs4 xs5 xs6)) (kernelRun0_B.sl.HS1_2_1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x0 xs3 xs4 xs5 xs6) (kernelRun0_B.sl.HS2_2_1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x0 xs3 xs4 xs5 xs6) (wide (scoreA x0 (blk ((i 2).val - 1) xs3)) (blk ((i 2).val - 1) xs4) (pastA x0 xs5 xs6 xs3 xs4 (i 2).val ((i 2).val - 1))) := HoldsA.storeB a5 _ _ _
  have hwA : (pastA x0 xs5 xs6 xs3 xs4 (i 2).val (i 2).val) = wide (scoreA x0 (blk ((i 2).val - 1) xs3)) (blk ((i 2).val - 1) xs4) (pastA x0 xs5 xs6 xs3 xs4 (i 2).val ((i 2).val - 1)) := by
    generalize (i 2).val = n at hpar
    match n, hpar with
    | m + 1, _ => rfl
  have hwB : (pastB x0 xs5 xs6 xs3 xs4 (i 2).val (i 2).val) = wide (scoreB x0 (blk ((i 2).val - 1) xs3)) (blk ((i 2).val - 1) xs4) (pastB x0 xs5 xs6 xs3 xs4 (i 2).val ((i 2).val - 1)) := by
    generalize (i 2).val = n at hpar
    match n, hpar with
    | m + 1, _ => rfl
  rw [← hwA] at a6
  rw [← hwB] at b6
  have e237 : (kernelRun0_B.sl.v237 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x0 xs3 xs4 xs5 xs6) = (pastA x0 xs5 xs6 xs3 xs4 (i 2).val (i 2).val).acc := a6.acc
  have e239 : (kernelRun0_B.sl.v239 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x0 xs3 xs4 xs5 xs6) = (pastA x0 xs5 xs6 xs3 xs4 (i 2).val (i 2).val).l := a6.l
  have e243 : (kernelRun0_B.sl.v243 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x0 xs3 xs4 xs5 xs6) = (pastB x0 xs5 xs6 xs3 xs4 (i 2).val (i 2).val).acc := b6.acc
  have e245 : (kernelRun0_B.sl.v245 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc1 x0 xs3 xs4 xs5 xs6) = (pastB x0 xs5 xs6 xs3 xs4 (i 2).val (i 2).val).l := b6.l
  have elam : (kernelRun0_B.sl.r_29 (F := F) c arg8 harg8 x5) = k0_pay151 x5 := by
    unfold kernelRun0_B.sl.r_29
    rw [View.readAt_eq_ld, harg8.read_unread, View.ld_unit_lit' _ _ (by decide)]
  have esub : arg9.view.readAt (Elt F) (Rect.unit (s := S1x1x256) ![0, 0, 0] ![1, 1, 256] inb_S1x1x256_S1x1x256_0_0_0).toLoadRect (harg9.unread x6) = x6 := by
    rw [View.readAt_eq_ld, harg9.read_unread]
    exact View.ld_unit_lit' _ _ (by decide)
  unfold kernelRun0_B
  dsimp only
  rw [elam, e245]
  unfold kernelRun0_B.sl.r_30 kernelRun0_B.sl.r_31
  rw [e237, e239, e243, esub]
  rfl

end Cert.Flash
-- ==== Proof.CaseC.lean ====
module

public import proofs.«01_k».proof.Proof.Pairs

/-! What a grid point of case C stores: the block `outBlock`. -/

@[expose] public section

set_option maxRecDepth 16384

noncomputable section

namespace Cert.Flash

open Idealize.ShloMosaic Idealize.ShloMosaic.TcCoe Idealize.ShloMosaic.Tactic
open Cert.KernelIdeal Cert.KernelIdeal.Gen

variable {F : FTy → Type} [FloatOps F]

theorem diag_offC (i : grid0.Coords) : k0_off1 i = ![512 * (i 2).val, 0] := by
  have key : ∀ n : Fin 4, ∀ j : grid0.Coords, j 2 = n → k0_off1 j = ![512 * n.val, 0] := by
    intro n j hj
    have hv : (j 2).val = n.val := congrArg Fin.val hj
    simp only [k0_off1, hv]
    clear hv hj j
    revert n
    decide
  exact key (i 2) i rfl

variable (c : Dev nD) (i : grid0.Coords)
  (arg3 : Memref sig .tc .vmem S512x256 .f32) (harg3 : arg3.IsWhole)
  (arg4 : Memref sig .tc .vmem S2048x256 .f32) (harg4 : arg4.IsWhole)
  (arg5 : Memref sig .tc .vmem S2048x256 .f32) (harg5 : arg5.IsWhole)
  (arg6 : Memref sig .tc .vmem S16x256 .f32) (harg6 : arg6.IsWhole)
  (arg7 : Memref sig .tc .vmem S16x256 .f32) (harg7 : arg7.IsWhole)
  (arg8 : Memref sig .tc .vmem S1x4x128 .f32) (harg8 : arg8.IsWhole)
  (arg9 : Memref sig .tc .vmem S1x1x256 .f32) (harg9 : arg9.IsWhole)
  (arg10 : Memref sig .tc .vmem S512x256 .bf16) (harg10 : arg10.IsWhole)
  (arg11 : Memref sig .tc .vmem S2x512x128 .f32) (harg11 : arg11.IsWhole)
  (arg12 : Memref sig .tc .vmem S2x512x128 .f32) (harg12 : arg12.IsWhole)
  (arg13 : Memref sig .tc .vmem S2x512x256 .f32) (harg13 : arg13.IsWhole)
  (arg14 : Memref sig .tc .vmem S2048x256 .bf16) (harg14 : arg14.IsWhole)
  (arg15 : Memref sig .tc .vmem S2048x256 .bf16) (harg15 : arg15.IsWhole)
  (arg16 : Memref sig .tc .vmem S128x256 .bf16) (harg16 : arg16.IsWhole)
  (arg17 : Memref sig .tc .vmem S128x256 .bf16) (harg17 : arg17.IsWhole)
variable (hc0 : ¬cond0_0 i) (hc1 : ¬cond0_1 i)
  (x0 : Vec F S512x256 .f32) (x1 : Vec F S2048x256 .f32) (x2 : Vec F S2048x256 .f32) (x3 : Vec F S16x256 .f32)
  (x4 : Vec F S16x256 .f32) (x5 : Vec F S1x4x128 .f32) (x6 : Vec F S1x1x256 .f32)
  (xs3 xs4 : Vec F S2048x256 .bf16) (xs5 xs6 : Vec F S128x256 .bf16)

theorem runC (hpar : (i 2).val % 2 = 0) :
    (kernelRun0_C (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs3 xs4 xs5 xs6).1
      = [⟨Rect.unit (s := S512x256) ![0, 0] S512x256.size inb_S512x256_S512x256_0_0, outBlock x0 xs5 xs6 xs3 xs4 x5 x6 (i 2).val⟩] := by
  have hlt : (i 2).val < 4 := (i 2).isLt
  have eq0 : (kernelRun0_C.sl.r (F := F) c arg3 harg3 x0) = queryA x0 := by
    unfold kernelRun0_C.sl.r queryA
    rw [View.readAt_eq_ld, harg3.read_unread]
  have eq1 : (kernelRun0_C.sl.r_1 (F := F) c arg3 harg3 x0) = queryB x0 := by
    unfold kernelRun0_C.sl.r_1 queryB
    rw [View.readAt_eq_ld, harg3.read_unread]
  have rk : ∀ r : Rect S2048x256, arg14.view.readAt (Elt F) r.toLoadRect (harg14.unread xs3) = View.ld xs3 r := by
    intro r
    rw [View.readAt_eq_ld, harg14.read_unread]
  have rv : ∀ r : Rect S2048x256, arg15.view.readAt (Elt F) r.toLoadRect (harg15.unread xs4) = View.ld xs4 r := by
    intro r
    rw [View.readAt_eq_ld, harg15.read_unread]
  have ekp : arg16.view.readAt (Elt F) (Rect.unit (s := S128x256) ![0, 0] S128x256.size inb_S128x256_S128x256_0_0).toLoadRect (harg16.unread xs5) = xs5 := by
    rw [View.readAt_eq_ld, harg16.read_unread]
    exact View.ld_unit_lit' _ _ (by decide)
  have evp : (kernelRun0_C.sl.r_7 (F := F) c arg17 harg17 xs6) = xs6 := by
    unfold kernelRun0_C.sl.r_7
    rw [View.readAt_eq_ld, harg17.read_unread]
    exact View.ld_unit_lit' _ _ (by decide)
  have ekd : (kernelRun0_C.sl.r_2 (F := F) c i arg14 harg14 xs3) = blk (i 2).val xs3 := by
    unfold kernelRun0_C.sl.r_2
    rw [rk]
    exact ld_blk _ _ hlt _ (diag_offC i) _
  have evd : (kernelRun0_C.sl.r_3 (F := F) c i arg15 harg15 xs4) = blk (i 2).val xs4 := by
    unfold kernelRun0_C.sl.r_3
    rw [rv]
    exact ld_blk _ _ hlt _ (diag_offC i) _
  have a0 : HoldsA arg11.view arg12.view arg13.view (kernelRun0_C.sl.HS0_1 (F := F) ) (kernelRun0_C.sl.HS1_1 (F := F) ) (kernelRun0_C.sl.HS2_1 (F := F) ) start := holdsA_start
  have b0 : HoldsB arg11.view arg12.view arg13.view (kernelRun0_C.sl.HS0_1 (F := F) ) (kernelRun0_C.sl.HS1_1 (F := F) ) (kernelRun0_C.sl.HS2_1 (F := F) ) start := holdsB_start
  have a0m : (kernelRun0_C.sl.v44 (F := F) c arg11) = (start (F := F)).m := a0.m
  have a0l : (kernelRun0_C.sl.v54 (F := F) c arg12) = (start (F := F)).l := a0.l
  have a0a : (kernelRun0_C.sl.v65 (F := F) c arg13) = (start (F := F)).acc := a0.acc
  have a1 : HoldsA arg11.view arg12.view arg13.view (kernelRun0_C.sl.HS0_2 (F := F) c arg3 harg3 arg11 arg16 harg16 x0 xs5) (kernelRun0_C.sl.HS1_2 (F := F) c arg3 harg3 arg11 arg12 arg16 harg16 x0 xs5) (kernelRun0_C.sl.HS2_2 (F := F) c arg3 harg3 arg11 arg13 arg16 harg16 arg17 harg17 x0 xs5 xs6) (narrow (prefixA x0 xs5) prefixLive xs6 start) := by
    refine holdsA_store ?_ ?_ ?_
    all_goals
      simp only [kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_20, kernelRun0_C.sl.r_21, kernelRun0_C.sl.r_22, kernelRun0_C.sl.r_23, kernelRun0_C.sl.r_24, kernelRun0_C.sl.r_4, kernelRun0_C.sl.r_5, kernelRun0_C.sl.r_6, kernelRun0_C.sl.r_8, kernelRun0_C.sl.r_9, eq0, eq1, ekp, evp, ekd, evd, a0m, a0l, a0a]
      rfl
  have b1 : HoldsB arg11.view arg12.view arg13.view (kernelRun0_C.sl.HS0_2 (F := F) c arg3 harg3 arg11 arg16 harg16 x0 xs5) (kernelRun0_C.sl.HS1_2 (F := F) c arg3 harg3 arg11 arg12 arg16 harg16 x0 xs5) (kernelRun0_C.sl.HS2_2 (F := F) c arg3 harg3 arg11 arg13 arg16 harg16 arg17 harg17 x0 xs5 xs6) start := HoldsB.storeA b0 _ _ _
  have b1m : (kernelRun0_C.sl.v79 (F := F) c arg3 harg3 arg11 arg16 harg16 x0 xs5) = (start (F := F)).m := b1.m
  have b1l : (kernelRun0_C.sl.v89 (F := F) c arg3 harg3 arg11 arg12 arg16 harg16 x0 xs5) = (start (F := F)).l := b1.l
  have b1a : (kernelRun0_C.sl.v100 (F := F) c arg3 harg3 arg11 arg13 arg16 harg16 arg17 harg17 x0 xs5 xs6) = (start (F := F)).acc := b1.acc
  have b2 : HoldsB arg11.view arg12.view arg13.view (kernelRun0_C.sl.HS0_3 (F := F) c arg3 harg3 arg11 arg16 harg16 x0 xs5) (kernelRun0_C.sl.HS1_3 (F := F) c arg3 harg3 arg11 arg12 arg16 harg16 x0 xs5) (kernelRun0_C.sl.HS2_3 (F := F) c arg3 harg3 arg11 arg13 arg16 harg16 arg17 harg17 x0 xs5 xs6) (narrow (prefixB x0 xs5) prefixLive xs6 start) := by
    refine holdsB_store ?_ ?_ ?_
    all_goals
      simp only [kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_20, kernelRun0_C.sl.r_21, kernelRun0_C.sl.r_22, kernelRun0_C.sl.r_23, kernelRun0_C.sl.r_24, kernelRun0_C.sl.r_4, kernelRun0_C.sl.r_5, kernelRun0_C.sl.r_6, kernelRun0_C.sl.r_8, kernelRun0_C.sl.r_9, eq0, eq1, ekp, evp, ekd, evd, b1m, b1l, b1a]
      rfl
  have a2 : HoldsA arg11.view arg12.view arg13.view (kernelRun0_C.sl.HS0_3 (F := F) c arg3 harg3 arg11 arg16 harg16 x0 xs5) (kernelRun0_C.sl.HS1_3 (F := F) c arg3 harg3 arg11 arg12 arg16 harg16 x0 xs5) (kernelRun0_C.sl.HS2_3 (F := F) c arg3 harg3 arg11 arg13 arg16 harg16 arg17 harg17 x0 xs5 xs6) (narrow (prefixA x0 xs5) prefixLive xs6 start) := HoldsA.storeB a1 _ _ _
  have a2m : (kernelRun0_C.sl.v115 (F := F) c arg3 harg3 arg11 arg16 harg16 x0 xs5) = (narrow (prefixA x0 xs5) prefixLive xs6 start).m := a2.m
  have a2l : (kernelRun0_C.sl.v126 (F := F) c arg3 harg3 arg11 arg12 arg16 harg16 x0 xs5) = (narrow (prefixA x0 xs5) prefixLive xs6 start).l := a2.l
  have a2a : (kernelRun0_C.sl.v137 (F := F) c arg3 harg3 arg11 arg13 arg16 harg16 arg17 harg17 x0 xs5 xs6) = (narrow (prefixA x0 xs5) prefixLive xs6 start).acc := a2.acc
  have a3 : HoldsA arg11.view arg12.view arg13.view (kernelRun0_C.sl.HS0_4 (F := F) c i arg3 harg3 arg11 arg14 harg14 arg16 harg16 x0 xs3 xs5) (kernelRun0_C.sl.HS1_4 (F := F) c i arg3 harg3 arg11 arg12 arg14 harg14 arg16 harg16 x0 xs3 xs5) (kernelRun0_C.sl.HS2_4 (F := F) c i arg3 harg3 arg11 arg13 arg14 harg14 arg15 harg15 arg16 harg16 arg17 harg17 x0 xs3 xs4 xs5 xs6) (pastA x0 xs5 xs6 xs3 xs4 (i 2).val 0) := by
    refine holdsA_store ?_ ?_ ?_
    all_goals
      simp only [kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_20, kernelRun0_C.sl.r_21, kernelRun0_C.sl.r_22, kernelRun0_C.sl.r_23, kernelRun0_C.sl.r_24, kernelRun0_C.sl.r_4, kernelRun0_C.sl.r_5, kernelRun0_C.sl.r_6, kernelRun0_C.sl.r_8, kernelRun0_C.sl.r_9, eq0, eq1, ekp, evp, ekd, evd, a2m, a2l, a2a]
      rfl
  have b3 : HoldsB arg11.view arg12.view arg13.view (kernelRun0_C.sl.HS0_4 (F := F) c i arg3 harg3 arg11 arg14 harg14 arg16 harg16 x0 xs3 xs5) (kernelRun0_C.sl.HS1_4 (F := F) c i arg3 harg3 arg11 arg12 arg14 harg14 arg16 harg16 x0 xs3 xs5) (kernelRun0_C.sl.HS2_4 (F := F) c i arg3 harg3 arg11 arg13 arg14 harg14 arg15 harg15 arg16 harg16 arg17 harg17 x0 xs3 xs4 xs5 xs6) (narrow (prefixB x0 xs5) prefixLive xs6 start) := HoldsB.storeA b2 _ _ _
  have b3m : (kernelRun0_C.sl.v151 (F := F) c i arg3 harg3 arg11 arg14 harg14 arg16 harg16 x0 xs3 xs5) = (narrow (prefixB x0 xs5) prefixLive xs6 start).m := b3.m
  have b3l : (kernelRun0_C.sl.v162 (F := F) c i arg3 harg3 arg11 arg12 arg14 harg14 arg16 harg16 x0 xs3 xs5) = (narrow (prefixB x0 xs5) prefixLive xs6 start).l := b3.l
  have b3a : (kernelRun0_C.sl.v173 (F := F) c i arg3 harg3 arg11 arg13 arg14 harg14 arg15 harg15 arg16 harg16 arg17 harg17 x0 xs3 xs4 xs5 xs6) = (narrow (prefixB x0 xs5) prefixLive xs6 start).acc := b3.acc
  have b4 : HoldsB arg11.view arg12.view arg13.view (kernelRun0_C.sl.HS0_5 (F := F) c i arg3 harg3 arg11 arg14 harg14 arg16 harg16 x0 xs3 xs5) (kernelRun0_C.sl.HS1_5 (F := F) c i arg3 harg3 arg11 arg12 arg14 harg14 arg16 harg16 x0 xs3 xs5) (kernelRun0_C.sl.HS2_5 (F := F) c i arg3 harg3 arg11 arg13 arg14 harg14 arg15 harg15 arg16 harg16 arg17 harg17 x0 xs3 xs4 xs5 xs6) (pastB x0 xs5 xs6 xs3 xs4 (i 2).val 0) := by
    refine holdsB_store ?_ ?_ ?_
    all_goals
      simp only [kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_20, kernelRun0_C.sl.r_21, kernelRun0_C.sl.r_22, kernelRun0_C.sl.r_23, kernelRun0_C.sl.r_24, kernelRun0_C.sl.r_4, kernelRun0_C.sl.r_5, kernelRun0_C.sl.r_6, kernelRun0_C.sl.r_8, kernelRun0_C.sl.r_9, eq0, eq1, ekp, evp, ekd, evd, b3m, b3l, b3a]
      rfl
  have a4 : HoldsA arg11.view arg12.view arg13.view (kernelRun0_C.sl.HS0_5 (F := F) c i arg3 harg3 arg11 arg14 harg14 arg16 harg16 x0 xs3 xs5) (kernelRun0_C.sl.HS1_5 (F := F) c i arg3 harg3 arg11 arg12 arg14 harg14 arg16 harg16 x0 xs3 xs5) (kernelRun0_C.sl.HS2_5 (F := F) c i arg3 harg3 arg11 arg13 arg14 harg14 arg15 harg15 arg16 harg16 arg17 harg17 x0 xs3 xs4 xs5 xs6) (pastA x0 xs5 xs6 xs3 xs4 (i 2).val 0) := HoldsA.storeB a3 _ _ _
  have hT := pairs_hold c i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2).val) (kernelRun0_C.sl.r (F := F) c arg3 harg3 x0) (kernelRun0_C.sl.r_1 (F := F) c arg3 harg3 x0) (kernelRun0_C.sl.r_3 (F := F) c i arg15 harg15 xs4) (kernelRun0_C.sl.r_19 (F := F) c i arg3 harg3 arg11 arg14 harg14 arg16 harg16 x0 xs3 xs5) (kernelRun0_C.sl.r_20 (F := F) c i arg3 harg3 arg11 arg14 harg14 arg16 harg16 x0 xs3 xs5) (kernelRun0_C.sl.r_21 (F := F) c i arg3 harg3 arg11 arg14 harg14 arg16 harg16 x0 xs3 xs5) (harg14.unread xs3) (harg15.unread xs4) x0 xs3 xs4
    _ _ _ xs5 xs6 (i 2).val eq0 eq1 rk rv a4 b4 (Scf.trips (k0_t1_loop i).lb (k0_t1_loop i).ub (k0_t1_loop i).st) le_rfl
  have hN := fun G11 G12 G13 => rest_nil c i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2).val) (kernelRun0_C.sl.r (F := F) c arg3 harg3 x0) (kernelRun0_C.sl.r_1 (F := F) c arg3 harg3 x0) (kernelRun0_C.sl.r_3 (F := F) c i arg15 harg15 xs4) (kernelRun0_C.sl.r_19 (F := F) c i arg3 harg3 arg11 arg14 harg14 arg16 harg16 x0 xs3 xs5) (kernelRun0_C.sl.r_20 (F := F) c i arg3 harg3 arg11 arg14 harg14 arg16 harg16 x0 xs3 xs5) (kernelRun0_C.sl.r_21 (F := F) c i arg3 harg3 arg11 arg14 harg14 arg16 harg16 x0 xs3 xs5) (harg14.unread xs3) (harg15.unread xs4) (kernelRun0_C.sl.v206 i) G11 G12 G13
  have hn : 2 * Scf.trips (k0_t1_loop i).lb (k0_t1_loop i).ub (k0_t1_loop i).st = (i 2).val := by
    rw [pair_trips]
    omega
  rw [hn] at hT
  obtain ⟨aT, bT⟩ := hT
  have e237 : (kernelRun0_C.sl.v237 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 xs3 xs4 xs5 xs6) = (pastA x0 xs5 xs6 xs3 xs4 (i 2).val (i 2).val).acc := by
    unfold kernelRun0_C.sl.v237
    rw [hN]
    exact aT.acc
  have e239 : (kernelRun0_C.sl.v239 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 xs3 xs4 xs5 xs6) = (pastA x0 xs5 xs6 xs3 xs4 (i 2).val (i 2).val).l := by
    unfold kernelRun0_C.sl.v239
    rw [hN]
    exact aT.l
  have e243 : (kernelRun0_C.sl.v243 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 xs3 xs4 xs5 xs6) = (pastB x0 xs5 xs6 xs3 xs4 (i 2).val (i 2).val).acc := by
    unfold kernelRun0_C.sl.v243
    rw [hN]
    exact bT.acc
  have e245 : (kernelRun0_C.sl.v245 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 x0 xs3 xs4 xs5 xs6) = (pastB x0 xs5 xs6 xs3 xs4 (i 2).val (i 2).val).l := by
    unfold kernelRun0_C.sl.v245
    rw [hN]
    exact bT.l
  have elam : (kernelRun0_C.sl.r_22 (F := F) c arg8 harg8 x5) = k0_pay151 x5 := by
    unfold kernelRun0_C.sl.r_22
    rw [View.readAt_eq_ld, harg8.read_unread, View.ld_unit_lit' _ _ (by decide)]
  have esub : arg9.view.readAt (Elt F) (Rect.unit (s := S1x1x256) ![0, 0, 0] ![1, 1, 256] inb_S1x1x256_S1x1x256_0_0_0).toLoadRect (harg9.unread x6) = x6 := by
    rw [View.readAt_eq_ld, harg9.read_unread]
    exact View.ld_unit_lit' _ _ (by decide)
  unfold kernelRun0_C
  dsimp only
  rw [elam, e245]
  unfold kernelRun0_C.sl.r_23 kernelRun0_C.sl.r_24
  rw [e237, e239, e243, esub]
  rfl

end Cert.Flash
-- ==== Proof.Point.lean ====
module

public import proofs.«01_k».proof.Proof.CaseA
public import proofs.«01_k».proof.Proof.CaseB
public import proofs.«01_k».proof.Proof.CaseC

/-! What the grid's points leave: the output block of each, and the scratch that a head's four points share. -/

@[expose] public section

set_option maxRecDepth 16384

noncomputable section

namespace Cert.Flash

open Idealize.ShloMosaic Idealize.ShloMosaic.TcCoe Idealize.ShloMosaic.Tactic
open Idealize.ShloMosaic.Pointwise
open Cert.KernelIdeal Cert.KernelIdeal.Gen

variable {F : FTy → Type} [FloatOps F]

section Case
variable (c : Dev nD) (i : grid0.Coords)
  (arg3 : Memref sig .tc .vmem S512x256 .f32) (harg3 : arg3.IsWhole)
  (arg4 : Memref sig .tc .vmem S2048x256 .f32) (harg4 : arg4.IsWhole)
  (arg5 : Memref sig .tc .vmem S2048x256 .f32) (harg5 : arg5.IsWhole)
  (arg6 : Memref sig .tc .vmem S16x256 .f32) (harg6 : arg6.IsWhole)
  (arg7 : Memref sig .tc .vmem S16x256 .f32) (harg7 : arg7.IsWhole)
  (arg8 : Memref sig .tc .vmem S1x4x128 .f32) (harg8 : arg8.IsWhole)
  (arg9 : Memref sig .tc .vmem S1x1x256 .f32) (harg9 : arg9.IsWhole)
  (arg10 : Memref sig .tc .vmem S512x256 .bf16) (harg10 : arg10.IsWhole)
  (arg11 : Memref sig .tc .vmem S2x512x128 .f32) (harg11 : arg11.IsWhole)
  (arg12 : Memref sig .tc .vmem S2x512x128 .f32) (harg12 : arg12.IsWhole)
  (arg13 : Memref sig .tc .vmem S2x512x256 .f32) (harg13 : arg13.IsWhole)
  (arg14 : Memref sig .tc .vmem S2048x256 .bf16) (harg14 : arg14.IsWhole)
  (arg15 : Memref sig .tc .vmem S2048x256 .bf16) (harg15 : arg15.IsWhole)
  (arg16 : Memref sig .tc .vmem S128x256 .bf16) (harg16 : arg16.IsWhole)
  (arg17 : Memref sig .tc .vmem S128x256 .bf16) (harg17 : arg17.IsWhole)

variable (x0 : Vec F S512x256 .f32) (x1 : Vec F S2048x256 .f32) (x2 : Vec F S2048x256 .f32) (x3 : Vec F S16x256 .f32)
  (x4 : Vec F S16x256 .f32) (x5 : Vec F S1x4x128 .f32) (x6 : Vec F S1x1x256 .f32)

theorem soutA_3 (hc0 : cond0_0 i) (hc1 : ¬cond0_1 i) :
    sout0_A_3 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 = k0_pay2 x1 := by
  unfold sout0_A_3 kernelRun0_A
  dsimp only
  rw [View.read_writes_junk_eq_canon]
  unfold kernelRun0_A.sl.HS3_1
  rw [View.readAt_eq_ld, harg4.read_unread, View.ld_unit_lit' _ _ (by decide)]
  exact View.canon_cons_unit_lit' _ _ _ (by decide)

theorem soutA_4 (hc0 : cond0_0 i) (hc1 : ¬cond0_1 i) :
    sout0_A_4 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 = k0_pay3 x2 := by
  unfold sout0_A_4 kernelRun0_A
  dsimp only
  rw [View.read_writes_junk_eq_canon]
  unfold kernelRun0_A.sl.HS4_1
  rw [View.readAt_eq_ld, harg5.read_unread, View.ld_unit_lit' _ _ (by decide)]
  exact View.canon_cons_unit_lit' _ _ _ (by decide)

theorem soutA_5 (hc0 : cond0_0 i) (hc1 : ¬cond0_1 i) :
    sout0_A_5 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 = padded x3 := by
  unfold sout0_A_5 kernelRun0_A
  dsimp only
  rw [View.read_writes_junk_eq_canon]
  unfold kernelRun0_A.sl.HS5_2
  rw [View.readAt_eq_ld, harg6.read_unread, View.ld_unit_lit' _ _ (by decide)]
  rw [View.canon_cons, View.canon_cons_unit_lit' _ _ _ (by decide)]
  rfl

theorem soutA_6 (hc0 : cond0_0 i) (hc1 : ¬cond0_1 i) :
    sout0_A_6 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 = padded x4 := by
  unfold sout0_A_6 kernelRun0_A
  dsimp only
  rw [View.read_writes_junk_eq_canon]
  unfold kernelRun0_A.sl.HS6_2
  rw [View.readAt_eq_ld, harg7.read_unread, View.ld_unit_lit' _ _ (by decide)]
  rw [View.canon_cons, View.canon_cons_unit_lit' _ _ _ (by decide)]
  rfl

end Case

variable (m : (ℓ : Loc nD τ sig) → Buf (Elt F) ℓ)

/-- The first of a head's four points. -/
def first (n : ℕ) (h : n < cfg0.N) : Fin cfg0.N := ⟨4 * (n / 4), by omega⟩

/-- The scratch after a point holds the head's keys, values and padded prefixes. -/
theorem carried (c : Dev nD) : ∀ (n : ℕ) (h : n < cfg0.N), (outsAt0 m c n h).2 =
    (k0_pay2 (X0_1 m c (first n h)), k0_pay3 (X0_2 m c (first n h)), padded (iblk m c 3 (first n h)), padded (iblk m c 4 (first n h))) := by
  intro n
  induction n with
  | zero =>
    intro h
    rw [outsAt0_A m c ⟨0, h⟩ (Nat.zero_mod 4) (by show ¬0 % 2 = 1; decide)]
    dsimp only
    rw [soutA_3, soutA_4, soutA_5, soutA_6]
    rfl
  | succ n ih =>
    intro h
    have hN : n + 1 < 128 := lt_of_lt_of_eq h N_0
    by_cases h0 : (n + 1) % 4 = 0
    · have h1 : ¬(n + 1) % 2 = 1 := by omega
      have hf : first (n + 1) h = ⟨n + 1, h⟩ := Fin.ext (by show 4 * ((n + 1) / 4) = n + 1; omega)
      rw [outsAt0_A m c ⟨n + 1, h⟩ h0 h1, hf]
      dsimp only
      rw [soutA_3, soutA_4, soutA_5, soutA_6]
    · have hf : first (n + 1) h = first n (Nat.lt_of_succ_lt h) := Fin.ext (by show 4 * ((n + 1) / 4) = 4 * (n / 4); omega)
      rw [hf, ← ih (Nat.lt_of_succ_lt h)]
      by_cases h1 : (n + 1) % 2 = 1
      · rw [outsAt0_B m c ⟨n + 1, h⟩ h0 h1]
        rfl
      · rw [outsAt0_C m c ⟨n + 1, h⟩ h0 h1]
        rfl

theorem qi_val (t : Fin cfg0.N) : (grid0.coords t 2).val = t.val % 4 := by
  have e2 : (grid0.coords t 2).val = t.val / 1 % 4 := Pipeline.Grid.coords_val t 2 (by decide) rfl
  rw [e2, Nat.div_one]
theorem head_val (t : Fin cfg0.N) : (grid0.coords t 1).val = t.val / 4 % 8 := Pipeline.Grid.coords_val t 1 (by decide) rfl
theorem batch_val (t : Fin cfg0.N) : (grid0.coords t 0).val = t.val / 32 := by
  have ht : t.val < 128 := Nat.lt_of_lt_of_eq t.isLt N_0
  have e : (grid0.coords t 0).val = t.val / 32 % 4 := Pipeline.Grid.coords_val t 0 (by decide) rfl
  rw [e]
  omega

section
variable (c : Dev nD) (i : grid0.Coords)
  (arg3 : Memref sig .tc .vmem S512x256 .f32) (harg3 : arg3.IsWhole)
  (arg4 : Memref sig .tc .vmem S2048x256 .f32) (harg4 : arg4.IsWhole)
  (arg5 : Memref sig .tc .vmem S2048x256 .f32) (harg5 : arg5.IsWhole)
  (arg6 : Memref sig .tc .vmem S16x256 .f32) (harg6 : arg6.IsWhole)
  (arg7 : Memref sig .tc .vmem S16x256 .f32) (harg7 : arg7.IsWhole)
  (arg8 : Memref sig .tc .vmem S1x4x128 .f32) (harg8 : arg8.IsWhole)
  (arg9 : Memref sig .tc .vmem S1x1x256 .f32) (harg9 : arg9.IsWhole)
  (arg10 : Memref sig .tc .vmem S512x256 .bf16) (harg10 : arg10.IsWhole)
  (arg11 : Memref sig .tc .vmem S2x512x128 .f32) (harg11 : arg11.IsWhole)
  (arg12 : Memref sig .tc .vmem S2x512x128 .f32) (harg12 : arg12.IsWhole)
  (arg13 : Memref sig .tc .vmem S2x512x256 .f32) (harg13 : arg13.IsWhole)
  (arg14 : Memref sig .tc .vmem S2048x256 .bf16) (harg14 : arg14.IsWhole)
  (arg15 : Memref sig .tc .vmem S2048x256 .bf16) (harg15 : arg15.IsWhole)
  (arg16 : Memref sig .tc .vmem S128x256 .bf16) (harg16 : arg16.IsWhole)
  (arg17 : Memref sig .tc .vmem S128x256 .bf16) (harg17 : arg17.IsWhole)

variable (x0 : Vec F S512x256 .f32) (x1 : Vec F S2048x256 .f32) (x2 : Vec F S2048x256 .f32) (x3 : Vec F S16x256 .f32)
  (x4 : Vec F S16x256 .f32) (x5 : Vec F S1x4x128 .f32) (x6 : Vec F S1x1x256 .f32)
  (xs3 xs4 : Vec F S2048x256 .bf16) (xs5 xs6 : Vec F S128x256 .bf16)
theorem outA (hc0 : cond0_0 i) (hc1 : ¬cond0_1 i) (hpar : (i 2).val % 2 = 0) :
    out0_A_7 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6
      = outBlock x0 (padded x3) (padded x4) (k0_pay2 x1) (k0_pay3 x2) x5 x6 (i 2).val := by
  unfold out0_A_7
  rw [View.read_writes_junk_eq_canon, runA c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 hpar]
  exact View.canon_cons_unit_lit' _ _ _ (by decide)
end

section
variable (c : Dev nD) (i : grid0.Coords)
  (arg3 : Memref sig .tc .vmem S512x256 .f32) (harg3 : arg3.IsWhole)
  (arg4 : Memref sig .tc .vmem S2048x256 .f32) (harg4 : arg4.IsWhole)
  (arg5 : Memref sig .tc .vmem S2048x256 .f32) (harg5 : arg5.IsWhole)
  (arg6 : Memref sig .tc .vmem S16x256 .f32) (harg6 : arg6.IsWhole)
  (arg7 : Memref sig .tc .vmem S16x256 .f32) (harg7 : arg7.IsWhole)
  (arg8 : Memref sig .tc .vmem S1x4x128 .f32) (harg8 : arg8.IsWhole)
  (arg9 : Memref sig .tc .vmem S1x1x256 .f32) (harg9 : arg9.IsWhole)
  (arg10 : Memref sig .tc .vmem S512x256 .bf16) (harg10 : arg10.IsWhole)
  (arg11 : Memref sig .tc .vmem S2x512x128 .f32) (harg11 : arg11.IsWhole)
  (arg12 : Memref sig .tc .vmem S2x512x128 .f32) (harg12 : arg12.IsWhole)
  (arg13 : Memref sig .tc .vmem S2x512x256 .f32) (harg13 : arg13.IsWhole)
  (arg14 : Memref sig .tc .vmem S2048x256 .bf16) (harg14 : arg14.IsWhole)
  (arg15 : Memref sig .tc .vmem S2048x256 .bf16) (harg15 : arg15.IsWhole)
  (arg16 : Memref sig .tc .vmem S128x256 .bf16) (harg16 : arg16.IsWhole)
  (arg17 : Memref sig .tc .vmem S128x256 .bf16) (harg17 : arg17.IsWhole)

variable (x0 : Vec F S512x256 .f32) (x1 : Vec F S2048x256 .f32) (x2 : Vec F S2048x256 .f32) (x3 : Vec F S16x256 .f32)
  (x4 : Vec F S16x256 .f32) (x5 : Vec F S1x4x128 .f32) (x6 : Vec F S1x1x256 .f32)
  (xs3 xs4 : Vec F S2048x256 .bf16) (xs5 xs6 : Vec F S128x256 .bf16)
theorem outB (hc0 : ¬cond0_0 i) (hc1 : cond0_1 i) (hpar : (i 2).val % 2 = 1) :
    out0_B_7 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs3 xs4 xs5 xs6
      = outBlock x0 xs5 xs6 xs3 xs4 x5 x6 (i 2).val := by
  unfold out0_B_7
  rw [View.read_writes_junk_eq_canon, runB c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs3 xs4 xs5 xs6 hpar]
  exact View.canon_cons_unit_lit' _ _ _ (by decide)
end

section
variable (c : Dev nD) (i : grid0.Coords)
  (arg3 : Memref sig .tc .vmem S512x256 .f32) (harg3 : arg3.IsWhole)
  (arg4 : Memref sig .tc .vmem S2048x256 .f32) (harg4 : arg4.IsWhole)
  (arg5 : Memref sig .tc .vmem S2048x256 .f32) (harg5 : arg5.IsWhole)
  (arg6 : Memref sig .tc .vmem S16x256 .f32) (harg6 : arg6.IsWhole)
  (arg7 : Memref sig .tc .vmem S16x256 .f32) (harg7 : arg7.IsWhole)
  (arg8 : Memref sig .tc .vmem S1x4x128 .f32) (harg8 : arg8.IsWhole)
  (arg9 : Memref sig .tc .vmem S1x1x256 .f32) (harg9 : arg9.IsWhole)
  (arg10 : Memref sig .tc .vmem S512x256 .bf16) (harg10 : arg10.IsWhole)
  (arg11 : Memref sig .tc .vmem S2x512x128 .f32) (harg11 : arg11.IsWhole)
  (arg12 : Memref sig .tc .vmem S2x512x128 .f32) (harg12 : arg12.IsWhole)
  (arg13 : Memref sig .tc .vmem S2x512x256 .f32) (harg13 : arg13.IsWhole)
  (arg14 : Memref sig .tc .vmem S2048x256 .bf16) (harg14 : arg14.IsWhole)
  (arg15 : Memref sig .tc .vmem S2048x256 .bf16) (harg15 : arg15.IsWhole)
  (arg16 : Memref sig .tc .vmem S128x256 .bf16) (harg16 : arg16.IsWhole)
  (arg17 : Memref sig .tc .vmem S128x256 .bf16) (harg17 : arg17.IsWhole)

variable (x0 : Vec F S512x256 .f32) (x1 : Vec F S2048x256 .f32) (x2 : Vec F S2048x256 .f32) (x3 : Vec F S16x256 .f32)
  (x4 : Vec F S16x256 .f32) (x5 : Vec F S1x4x128 .f32) (x6 : Vec F S1x1x256 .f32)
  (xs3 xs4 : Vec F S2048x256 .bf16) (xs5 xs6 : Vec F S128x256 .bf16)
theorem outC (hc0 : ¬cond0_0 i) (hc1 : ¬cond0_1 i) (hpar : (i 2).val % 2 = 0) :
    out0_C_7 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs3 xs4 xs5 xs6
      = outBlock x0 xs5 xs6 xs3 xs4 x5 x6 (i 2).val := by
  unfold out0_C_7
  rw [View.read_writes_junk_eq_canon, runC c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs3 xs4 xs5 xs6 hpar]
  exact View.canon_cons_unit_lit' _ _ _ (by decide)
end

/-- The output block of a point. -/
theorem point (c : Dev nD) (t : Fin cfg0.N) : (outsAt0 m c t.val t.isLt).1
    = outBlock (X0_0 m c t) (padded (iblk m c 3 (first t.val t.isLt))) (padded (iblk m c 4 (first t.val t.isLt)))
        (k0_pay2 (X0_1 m c (first t.val t.isLt))) (k0_pay3 (X0_2 m c (first t.val t.isLt)))
        (iblk m c 5 t) (iblk m c 6 t) (t.val % 4) := by
  have ht : t.val < 128 := Nat.lt_of_lt_of_eq t.isLt N_0
  by_cases h0 : t.val % 4 = 0
  · have h1 : ¬t.val % 2 = 1 := by omega
    have hf : first t.val t.isLt = t := Fin.ext (by show 4 * (t.val / 4) = t.val; omega)
    rw [outsAt0_A m c t h0 h1, hf]
    dsimp only
    rw [outA (hpar := by rw [qi_val]; omega), qi_val]
  · have hf : first (t.val - 1) (Nat.lt_of_le_of_lt (Nat.sub_le _ _) t.isLt) = first t.val t.isLt := Fin.ext (by show 4 * ((t.val - 1) / 4) = 4 * (t.val / 4); omega)
    have hc := carried m c (t.val - 1) (Nat.lt_of_le_of_lt (Nat.sub_le _ _) t.isLt)
    rw [hf] at hc
    by_cases h1 : t.val % 2 = 1
    · rw [outsAt0_B m c t h0 h1]
      dsimp only
      rw [outB (hpar := by rw [qi_val]; omega), qi_val, hc]
    · rw [outsAt0_C m c t h0 h1]
      dsimp only
      rw [outC (hpar := by rw [qi_val]; omega), qi_val, hc]

end Cert.Flash
-- ==== Proof.Online.lean ====
/-
  THE ONLINE SOFTMAX, as mathematics on the extended reals: a running maximum, a running sum of exponentials and a
  running weighted sum over a set of keys, and what one more block of keys does to them. Nothing here mentions a program.
-/
module

public import Idealize.ShloMosaic.PureOps.Ideal

@[expose] public section

noncomputable section

namespace Cert.Online

open Idealize.ShloMosaic.Ideal (exp exp_coe exp_bot exp_top)

/-- Rescaling an exponential from one maximum to a larger one, on every extended real. -/
theorem exp_rescale {s m m' : EReal} (h1 : s ≤ m) (h2 : m ≤ m') : exp (m - m') * exp (s - m) = exp (s - m') := by
  induction s with
  | bot => simp [sub_eq_add_neg]
  | top =>
    have hm : m = ⊤ := top_le_iff.mp h1
    subst hm
    have hm' : m' = ⊤ := top_le_iff.mp h2
    subst hm'
    simp [sub_eq_add_neg]
  | coe s =>
    induction m with
    | bot => simp at h1
    | top =>
      have hm' : m' = ⊤ := top_le_iff.mp h2
      subst hm'
      simp [sub_eq_add_neg]
    | coe m =>
      induction m' with
      | bot => simp at h2
      | top => simp [sub_eq_add_neg]
      | coe m' =>
        rw [← EReal.coe_sub, ← EReal.coe_sub, ← EReal.coe_sub, exp_coe, exp_coe, exp_coe,
          ← EReal.coe_mul, ← Real.exp_add]
        congr 2; ring

theorem exp_nonneg (x : EReal) : 0 ≤ exp x := by
  induction x with
  | bot => simp
  | top => simp
  | coe r => rw [exp_coe]; exact EReal.coe_nonneg.mpr (Real.exp_pos r).le

/-- The rescaling factor is at most one. -/
theorem exp_sub_le_one {m m' : EReal} (h : m ≤ m') : exp (m - m') ≤ 1 := by
  induction m with
  | bot => simp [sub_eq_add_neg]
  | top => rw [top_le_iff.mp h]; simp [sub_eq_add_neg]
  | coe m =>
    induction m' with
    | bot => simp at h
    | top => simp [sub_eq_add_neg]
    | coe m' =>
      rw [← EReal.coe_sub, exp_coe, ← EReal.coe_one, EReal.coe_le_coe_iff]
      have := EReal.coe_le_coe_iff.mp h
      exact Real.exp_le_one_iff.mpr (by linarith)

/-- A factor that is neither negative nor infinite goes into a sum, whatever the summands. -/
theorem mul_sum_of_finite {κ : Type*} (c : EReal) (h0 : 0 ≤ c) (h1 : c ≠ ⊤) (K : Finset κ) (f : κ → EReal) :
    c * ∑ k ∈ K, f k = ∑ k ∈ K, c * f k := by
  classical
  induction K using Finset.induction_on with
  | empty => simp
  | insert a K ha ih =>
    rw [Finset.sum_insert ha, Finset.sum_insert ha, EReal.left_distrib_of_nonneg_of_ne_top h0 h1, ih]

section
variable {κ : Type} (s v : κ → EReal)

/-- The largest score of a set of keys. -/
def peak (K : Finset κ) : EReal := K.sup s

/-- The exponentials of a set of keys against a maximum, summed. -/
def mass (K : Finset κ) (m : EReal) : EReal := ∑ k ∈ K, exp (s k - m)

/-- The values of a set of keys weighted by those exponentials. -/
def wsum (K : Finset κ) (m : EReal) : EReal := ∑ k ∈ K, exp (s k - m) * v k

theorem mass_rescale {K : Finset κ} {m' : EReal} (h : peak s K ≤ m') :
    exp (peak s K - m') * mass s K (peak s K) = mass s K m' := by
  unfold mass
  rw [mul_sum_of_finite _ (exp_nonneg _) (ne_top_of_le_ne_top (by decide) (exp_sub_le_one h))]
  exact Finset.sum_congr rfl fun k hk => exp_rescale (Finset.le_sup hk) h

theorem wsum_rescale {K : Finset κ} {m' : EReal} (h : peak s K ≤ m') :
    exp (peak s K - m') * wsum s v K (peak s K) = wsum s v K m' := by
  unfold wsum
  rw [mul_sum_of_finite _ (exp_nonneg _) (ne_top_of_le_ne_top (by decide) (exp_sub_le_one h))]
  exact Finset.sum_congr rfl fun k hk => by
    rw [← mul_assoc, exp_rescale (show s k ≤ peak s K from Finset.le_sup hk) h]

variable [DecidableEq κ]

theorem peak_union (K B : Finset κ) : peak s (K ∪ B) = max (peak s K) (peak s B) := Finset.sup_union

theorem mass_union {K B : Finset κ} (h : Disjoint K B) (m : EReal) : mass s (K ∪ B) m = mass s K m + mass s B m :=
  Finset.sum_union h

theorem wsum_union {K B : Finset κ} (h : Disjoint K B) (m : EReal) :
    wsum s v (K ∪ B) m = wsum s v K m + wsum s v B m :=
  Finset.sum_union h

/-! ### A block: columns that are keys, some of them masked -/

variable {ι : Type} [Fintype ι] (key : ι → κ) (live : ι → Prop) [DecidablePred live]

/-- The keys of a block's live columns. -/
def keys : Finset κ := (Finset.univ.filter live).image key

variable (t : ι → EReal) (w : ι → EReal)

/-- A block's scores `t` are its keys' scores on live columns and `⊥` on the masked ones. -/
theorem peak_keys (ht : ∀ i, t i = if live i then s (key i) else ⊥) : Finset.univ.sup t = peak s (keys key live) := by
  unfold peak keys
  rw [Finset.sup_image]
  apply le_antisymm
  · refine Finset.sup_le fun i _ => ?_
    rw [ht]
    split
    · next h => exact Finset.le_sup (f := s ∘ key) (Finset.mem_filter.mpr ⟨Finset.mem_univ i, h⟩)
    · exact bot_le
  · refine Finset.sup_le fun i hi => ?_
    have h := (Finset.mem_filter.mp hi).2
    have := Finset.le_sup (f := t) (Finset.mem_univ i)
    rwa [ht i, if_pos h] at this

theorem mass_keys (hk : ∀ i j, live i → live j → key i = key j → i = j)
    (ht : ∀ i, t i = if live i then s (key i) else ⊥) (m : EReal) :
    ∑ i, exp (t i - m) = mass s (keys key live) m := by
  unfold mass keys
  rw [Finset.sum_image (fun i hi j hj h => hk i j (Finset.mem_filter.mp hi).2 (Finset.mem_filter.mp hj).2 h),
    Finset.sum_filter]
  refine Finset.sum_congr rfl fun i _ => ?_
  rw [ht i]
  split
  · rfl
  · simp [sub_eq_add_neg]

theorem wsum_keys (hk : ∀ i j, live i → live j → key i = key j → i = j)
    (ht : ∀ i, t i = if live i then s (key i) else ⊥) (hw : ∀ i, live i → w i = v (key i)) (m : EReal) :
    ∑ i, exp (t i - m) * w i = wsum s v (keys key live) m := by
  unfold wsum keys
  rw [Finset.sum_image (fun i hi j hj h => hk i j (Finset.mem_filter.mp hi).2 (Finset.mem_filter.mp hj).2 h),
    Finset.sum_filter]
  refine Finset.sum_congr rfl fun i _ => ?_
  rw [ht i]
  split
  · next h => rw [hw i h]
  · simp [sub_eq_add_neg]

end

end Cert.Online
-- ==== Proof.Steps.lean ====
module

public import proofs.«01_k».proof.Proof.Slabs
public import proofs.«01_k».proof.Proof.Online
public import Idealize.ShloMosaic.Lib.WordCmp

/-! One step of the running state, at one row: what it does to the row's maximum, mass and weighted sums, over the extended reals. -/

@[expose] public section

set_option maxRecDepth 16384

noncomputable section

namespace Cert.Flash

open Idealize.ShloMosaic Idealize.ShloMosaic.TcCoe Idealize.ShloMosaic.Tactic
open Idealize.ShloMosaic.Pointwise
open Cert.KernelIdeal Cert.KernelIdeal.Gen

/-- The constant a maximum starts from. -/
theorem lowest : Ideal.ofBits .f32 0xFF800000#32 = (⊥ : EReal) := by
  simp [Ideal.ofBits, Ideal.ieee]

/-- A row of the state: the same maximum and the same mass in every lane, and a weighted sum per value lane. -/
structure At (st : Slab Ideal) (r : Fin 512) (M L : EReal) (A : Fin 256 → EReal) : Prop where
  m : ∀ (a : Fin 1) (l : Fin 128), st.m (ix3 a r l) = M
  l : ∀ (a : Fin 1) (l : Fin 128), st.l (ix3 a r l) = L
  acc : ∀ (a : Fin 1) (e : Fin 256), st.acc (ix3 a r e) = A e

theorem start_at (r : Fin 512) : At start r ⊥ 0 fun _ => 0 where
  m _ _ := lowest
  l _ _ := by show Ideal.ofBits .f32 0x00000000#32 = _; pointwise
  acc _ _ := by show Ideal.ofBits .f32 0x00000000#32 = _; pointwise

section Wide
variable {S : FVec Ideal S512x512 .f32} {v : Vec Ideal S512x256 .bf16} {st : Slab Ideal} {r : Fin 512} {M L : EReal} {A : Fin 256 → EReal}

theorem pay22_at (h : At st r M L A) (l : Fin 128) :
    k0_pay22 S st.m (ix2 r l) = max M (Finset.univ.sup fun k : Fin 512 => S (ix2 r k)) := by
  unfold k0_pay22 k0_pay21
  pointwise
  rw [h.m, lowest]
  rfl
theorem pay23_at (h : At st r M L A) (l : Fin 128) :
    k0_pay23 S st.m (ix2 r l) = Ideal.exp (M - max M (Finset.univ.sup fun k : Fin 512 => S (ix2 r k))) := by
  unfold k0_pay23 k0_pay21
  pointwise
  rw [h.m, pay22_at h]
theorem pay24_at (h : At st r M L A) (k : Fin 512) :
    k0_pay24 S st.m (ix2 r k) = Ideal.exp (S (ix2 r k) - max M (Finset.univ.sup fun k : Fin 512 => S (ix2 r k))) := by
  unfold k0_pay24
  pointwise
  simp only [pay22_at h, dite_eq_ite, ite_self]
theorem wide_at (h : At st r M L A) :
    At (wide S v st) r (max M (Finset.univ.sup fun k : Fin 512 => S (ix2 r k)))
      (Ideal.exp (M - max M (Finset.univ.sup fun k : Fin 512 => S (ix2 r k))) * L
        + ∑ k : Fin 512, Ideal.exp (S (ix2 r k) - max M (Finset.univ.sup fun k : Fin 512 => S (ix2 r k))))
      (fun e => Ideal.exp (M - max M (Finset.univ.sup fun k : Fin 512 => S (ix2 r k))) * A e
        + ∑ k : Fin 512, Ideal.exp (S (ix2 r k) - max M (Finset.univ.sup fun k : Fin 512 => S (ix2 r k))) * v (ix2 k e)) where
  m a l := by
    show k0_pay29 (k0_pay22 S st.m) _ = _
    unfold k0_pay29
    pointwise
    exact pay22_at h l
  l a l := by
    show k0_pay27 (k0_pay25 S st.m st.l) (k0_pay26 S st.m) _ = _
    unfold k0_pay27 k0_pay25 k0_pay26
    pointwise
    simp only [pay24_at h, pay23_at h, h.l]
  acc a e := by
    show k0_pay28 v (k0_pay23 S st.m) (k0_pay24 S st.m) st.acc _ = _
    unfold k0_pay28
    pointwise
    simp only [pay24_at h, pay23_at h, h.acc, dite_eq_ite, ite_self]
end Wide

section Narrow
variable {S : FVec Ideal S512x128 .f32} {live : IVec S512x128 1} {v : Vec Ideal S128x256 .bf16} {st : Slab Ideal} {r : Fin 512} {M L : EReal} {A : Fin 256 → EReal}

theorem pay114_at (k : Fin 128) : k0_pay114 S live (ix2 r k) = if live (ix2 r k) = 1#1 then S (ix2 r k) else (⊥ : EReal) := by
  unfold k0_pay114
  pointwise
  rw [lowest]
  rfl
theorem pay116_at (h : At st r M L A) (l : Fin 128) :
    k0_pay116 S live st.m (ix2 r l) = max M (Finset.univ.sup fun k : Fin 128 => k0_pay114 S live (ix2 r k)) := by
  unfold k0_pay116 k0_pay115
  pointwise
  rw [h.m, lowest]
  rfl
theorem pay117_at (h : At st r M L A) (l : Fin 128) :
    k0_pay117 S live st.m (ix2 r l) = Ideal.exp (M - max M (Finset.univ.sup fun k : Fin 128 => k0_pay114 S live (ix2 r k))) := by
  unfold k0_pay117 k0_pay115
  pointwise
  rw [h.m, pay116_at h]
theorem pay118_at (h : At st r M L A) (k : Fin 128) :
    k0_pay118 S live st.m (ix2 r k) = Ideal.exp (k0_pay114 S live (ix2 r k) - max M (Finset.univ.sup fun k : Fin 128 => k0_pay114 S live (ix2 r k))) := by
  unfold k0_pay118
  pointwise
  rw [pay116_at h]
theorem narrow_at (h : At st r M L A) :
    At (narrow S live v st) r (max M (Finset.univ.sup fun k : Fin 128 => k0_pay114 S live (ix2 r k)))
      (Ideal.exp (M - max M (Finset.univ.sup fun k : Fin 128 => k0_pay114 S live (ix2 r k))) * L
        + ∑ k : Fin 128, Ideal.exp (k0_pay114 S live (ix2 r k) - max M (Finset.univ.sup fun k : Fin 128 => k0_pay114 S live (ix2 r k))))
      (fun e => Ideal.exp (M - max M (Finset.univ.sup fun k : Fin 128 => k0_pay114 S live (ix2 r k))) * A e
        + ∑ k : Fin 128, Ideal.exp (k0_pay114 S live (ix2 r k) - max M (Finset.univ.sup fun k : Fin 128 => k0_pay114 S live (ix2 r k))) * v (ix2 k e)) where
  m a l := by
    show k0_pay123 (k0_pay116 S live st.m) _ = _
    unfold k0_pay123
    pointwise
    exact pay116_at h l
  l a l := by
    show k0_pay119 S live st.m st.l _ = _
    unfold k0_pay119
    pointwise
    simp only [pay118_at h, pay117_at h, h.l]
  acc a e := by
    show k0_pay122 v (k0_pay118 S live st.m) (k0_pay120 S live st.m) (k0_pay121 st.acc) _ = _
    unfold k0_pay122 k0_pay120 k0_pay121
    pointwise
    simp only [pay118_at h, pay117_at h, h.acc, dite_eq_ite, ite_self]
end Narrow

/-! Over a set of keys. -/

section Keys
variable {κ : Type} [DecidableEq κ] (s : κ → EReal) (vv : Fin 256 → κ → EReal)

/-- A row of the state that has taken in the keys `K`. -/
def Has (st : Slab Ideal) (r : Fin 512) (K : Finset κ) : Prop :=
  At st r (Online.peak s K) (Online.mass s K (Online.peak s K)) fun e => Online.wsum s (vv e) K (Online.peak s K)

theorem has_start (r : Fin 512) : Has s vv start r ∅ := by
  unfold Has Online.peak Online.mass Online.wsum
  simpa using start_at r

variable {s vv}

theorem has_wide {S : FVec Ideal S512x512 .f32} {v : Vec Ideal S512x256 .bf16} {st : Slab Ideal} {r : Fin 512} {K : Finset κ}
    (h : Has s vv st r K) (key : Fin 512 → κ) (live : Fin 512 → Prop) [DecidablePred live]
    (hd : Disjoint K (Online.keys key live)) (hk : ∀ i j, live i → live j → key i = key j → i = j)
    (hs : ∀ i, S (ix2 r i) = if live i then s (key i) else ⊥) (hv : ∀ i e, live i → v (ix2 i e) = vv e (key i)) :
    Has s vv (wide S v st) r (K ∪ Online.keys key live) := by
  have hw := wide_at (S := S) (v := v) h
  rw [Online.peak_keys s key live _ hs, ← Online.peak_union] at hw
  have hle : Online.peak s K ≤ Online.peak s (K ∪ Online.keys key live) := by
    rw [Online.peak_union]; exact le_max_left _ _
  rw [Online.mass_rescale s hle, Online.mass_keys s key live _ hk hs, ← Online.mass_union s hd] at hw
  have e : (fun e => Ideal.exp (Online.peak s K - Online.peak s (K ∪ Online.keys key live)) * Online.wsum s (vv e) K (Online.peak s K)
      + ∑ k : Fin 512, Ideal.exp (S (ix2 r k) - Online.peak s (K ∪ Online.keys key live)) * v (ix2 k e))
      = fun e => Online.wsum s (vv e) (K ∪ Online.keys key live) (Online.peak s (K ∪ Online.keys key live)) := by
    funext e
    rw [Online.wsum_rescale s (vv e) hle, Online.wsum_keys s (vv e) key live _ (fun k => v (ix2 k e)) hk hs (fun i hi => hv i e hi), ← Online.wsum_union s (vv e) hd]
  rw [e] at hw
  exact hw
theorem has_narrow {S : FVec Ideal S512x128 .f32} {mask : IVec S512x128 1} {v : Vec Ideal S128x256 .bf16} {st : Slab Ideal} {r : Fin 512} {K : Finset κ}
    (h : Has s vv st r K) (key : Fin 128 → κ) (live : Fin 128 → Prop) [DecidablePred live]
    (hd : Disjoint K (Online.keys key live)) (hk : ∀ i j, live i → live j → key i = key j → i = j)
    (hs : ∀ i, k0_pay114 S mask (ix2 r i) = if live i then s (key i) else ⊥) (hv : ∀ i e, live i → v (ix2 i e) = vv e (key i)) :
    Has s vv (narrow S mask v st) r (K ∪ Online.keys key live) := by
  have hw := narrow_at (S := S) (live := mask) (v := v) h
  rw [Online.peak_keys s key live _ hs, ← Online.peak_union] at hw
  have hle : Online.peak s K ≤ Online.peak s (K ∪ Online.keys key live) := by
    rw [Online.peak_union]; exact le_max_left _ _
  rw [Online.mass_rescale s hle, Online.mass_keys s key live _ hk hs, ← Online.mass_union s hd] at hw
  have e : (fun e => Ideal.exp (Online.peak s K - Online.peak s (K ∪ Online.keys key live)) * Online.wsum s (vv e) K (Online.peak s K)
      + ∑ k : Fin 128, Ideal.exp (k0_pay114 S mask (ix2 r k) - Online.peak s (K ∪ Online.keys key live)) * v (ix2 k e))
      = fun e => Online.wsum s (vv e) (K ∪ Online.keys key live) (Online.peak s (K ∪ Online.keys key live)) := by
    funext e
    rw [Online.wsum_rescale s (vv e) hle, Online.wsum_keys s (vv e) key live _ (fun k => v (ix2 k e)) hk hs (fun i hi => hv i e hi), ← Online.wsum_union s (vv e) hd]
  rw [e] at hw
  exact hw
end Keys

/-! The scores. -/

theorem queryA_at (q : Vec Ideal S512x256 .f32) (r : Fin 512) (d : Fin 128) :
    queryA q (ix2 r d) = q (ix2 r ⟨d.val, by omega⟩) := by
  unfold queryA k0_pay98
  pointwise
theorem queryB_at (q : Vec Ideal S512x256 .f32) (r : Fin 512) (d : Fin 128) :
    queryB q (ix2 r d) = q (ix2 r ⟨128 + d.val, by omega⟩) := by
  unfold queryB k0_pay99
  pointwise
theorem scoreA_at (q : Vec Ideal S512x256 .f32) (k : Vec Ideal S512x256 .bf16) (r e : Fin 512) :
    scoreA q k (ix2 r e) = ∑ d : Fin 128, q (ix2 r ⟨d.val, by omega⟩) * k (ix2 e ⟨d.val, by omega⟩) := by
  unfold scoreA k0_pay101
  pointwise
  exact Finset.sum_congr rfl fun d _ => by rw [queryA_at]
theorem scoreB_at (q : Vec Ideal S512x256 .f32) (k : Vec Ideal S512x256 .bf16) (r e : Fin 512) :
    scoreB q k (ix2 r e) = ∑ d : Fin 128, q (ix2 r ⟨128 + d.val, by omega⟩) * k (ix2 e ⟨128 + d.val, by omega⟩) := by
  unfold scoreB k0_pay102
  pointwise
  simp only [queryB_at]
theorem prefixA_at (q : Vec Ideal S512x256 .f32) (k : Vec Ideal S128x256 .bf16) (r : Fin 512) (e : Fin 128) :
    prefixA q k (ix2 r e) = ∑ d : Fin 128, q (ix2 r ⟨d.val, by omega⟩) * k (ix2 e ⟨d.val, by omega⟩) := by
  unfold prefixA
  pointwise
  simp only [queryA_at]
theorem prefixB_at (q : Vec Ideal S512x256 .f32) (k : Vec Ideal S128x256 .bf16) (r : Fin 512) (e : Fin 128) :
    prefixB q k (ix2 r e) = ∑ d : Fin 128, q (ix2 r ⟨128 + d.val, by omega⟩) * k (ix2 e ⟨128 + d.val, by omega⟩) := by
  unfold prefixB k0_pay100
  pointwise
  simp only [queryB_at]

/-! The masks. -/

theorem prefixLive_at (r : Fin 512) (k : Fin 128) : prefixLive (ix2 r k) = 1#1 ↔ k.val < 16 := by
  unfold prefixLive k0_pay103
  pointwise
  have h : (BitVec.ofNat 32 k.val).toNat = k.val := by rw [BitVec.toNat_ofNat]; omega
  rw [WordCmp.cmpi_slt_of_lt (by rw [h]; omega) (by decide), h]
  by_cases hk : k.val < 16 <;> simp [hk]
theorem causal_at (r k : Fin 512) : causal (ix2 r k) = 1#1 ↔ k.val ≤ r.val := by
  unfold causal k0_pay124
  pointwise
  have h : (BitVec.ofNat 32 k.val).toNat = k.val := by rw [BitVec.toNat_ofNat]; omega
  have h' : (BitVec.ofNat 32 r.val).toNat = r.val := by rw [BitVec.toNat_ofNat]; omega
  rw [WordCmp.cmpi_sle_of_lt (by rw [h]; omega) (by rw [h']; omega), h, h']
  by_cases hk : k.val ≤ r.val <;> simp only [hk] <;> decide
theorem diagonal_at (S : FVec Ideal S512x512 .f32) (r k : Fin 512) :
    k0_pay134 S causal (ix2 r k) = if k.val ≤ r.val then S (ix2 r k) else (⊥ : EReal) := by
  unfold k0_pay134
  pointwise
  rw [lowest]
  exact if_congr (causal_at r k) rfl rfl
theorem prefix_at (S : FVec Ideal S512x128 .f32) (r : Fin 512) (k : Fin 128) :
    k0_pay114 S prefixLive (ix2 r k) = if k.val < 16 then S (ix2 r k) else (⊥ : EReal) :=
  (pay114_at k).trans (if_congr (prefixLive_at r k) rfl rfl)

end Cert.Flash
-- ==== Proof.Rows.lean ====
module

public import proofs.«01_k».proof.Proof.Steps

/-! The state that a grid point arrives at has taken in, at each row, exactly the keys that the row may see. -/

@[expose] public section

set_option maxRecDepth 16384

noncomputable section

namespace Cert.Flash

open Idealize.ShloMosaic Idealize.ShloMosaic.TcCoe Idealize.ShloMosaic.Tactic
open Idealize.ShloMosaic.Pointwise
open Cert.KernelIdeal Cert.KernelIdeal.Gen

/-- The keys taken in after the prefix, the diagonal block `n` up to row `r`, and the first `k` blocks. -/
def taken (n k r : ℕ) : Finset (Fin 2064) :=
  Finset.univ.filter fun y => y.val < 16 + 512 * k ∨ (16 + 512 * n ≤ y.val ∧ y.val ≤ 16 + 512 * n + r)

/-- The keys before a bound, and the keys of an interval. -/
def prefixKeys : Finset (Fin 2064) := Finset.univ.filter fun y => y.val < 16
def interval (n r : ℕ) : Finset (Fin 2064) := Finset.univ.filter fun y => 16 + 512 * n ≤ y.val ∧ y.val ≤ 16 + 512 * n + r

def prefixKey (i : Fin 128) : Fin 2064 := ⟨i.val, by omega⟩
def blockKey (n : ℕ) (i : Fin 512) : Fin 2064 := Fin.ofNat 2064 (16 + 512 * n + i.val)

theorem blockKey_val {n : ℕ} (hn : n < 4) (i : Fin 512) : (blockKey n i).val = 16 + 512 * n + i.val := by
  have := i.isLt
  show (16 + 512 * n + i.val) % 2064 = _
  omega

theorem keys_prefix : Online.keys prefixKey (fun i => i.val < 16) = prefixKeys := by
  ext y
  simp only [Online.keys, prefixKeys, Finset.mem_image, Finset.mem_filter, Finset.mem_univ, true_and]
  constructor
  · rintro ⟨i, hi, rfl⟩
    exact hi
  · intro h
    exact ⟨⟨y.val, by omega⟩, h, rfl⟩
theorem keys_block {n : ℕ} (hn : n < 4) {r : ℕ} (hr : r < 512) :
    Online.keys (blockKey n) (fun i => i.val ≤ r) = interval n r := by
  ext y
  simp only [Online.keys, interval, Finset.mem_image, Finset.mem_filter, Finset.mem_univ, true_and]
  constructor
  · rintro ⟨i, hi, rfl⟩
    rw [blockKey_val hn]
    omega
  · intro h
    refine ⟨⟨y.val - (16 + 512 * n), by omega⟩, ?_, Fin.ext ?_⟩
    · show y.val - (16 + 512 * n) ≤ r
      omega
    · rw [blockKey_val hn]
      show 16 + 512 * n + (y.val - (16 + 512 * n)) = y.val
      omega

theorem block_inj {n : ℕ} (hn : n < 4) (i j : Fin 512) (h : blockKey n i = blockKey n j) : i = j := by
  have h := congrArg Fin.val h
  rw [blockKey_val hn, blockKey_val hn] at h
  exact Fin.ext (by omega)

theorem disjoint_diag (n r : ℕ) : Disjoint prefixKeys (interval n r) :=
  Finset.disjoint_left.mpr fun y h h' => by
    have h := (Finset.mem_filter.mp h).2
    have h' := (Finset.mem_filter.mp h').2
    omega
theorem taken_zero (n r : ℕ) : prefixKeys ∪ interval n r = taken n 0 r := by
  ext y
  simp only [prefixKeys, interval, taken, Finset.mem_union, Finset.mem_filter, Finset.mem_univ, true_and, Nat.mul_zero, Nat.add_zero]
theorem disjoint_block {n k r : ℕ} (h : k < n) : Disjoint (taken n k r) (interval k 511) :=
  Finset.disjoint_left.mpr fun y h h' => by
    have h := (Finset.mem_filter.mp h).2
    have h' := (Finset.mem_filter.mp h').2
    omega
theorem taken_succ {n k r : ℕ} (h : k < n) : taken n k r ∪ interval k 511 = taken n (k + 1) r := by
  ext y
  simp only [interval, taken, Finset.mem_union, Finset.mem_filter, Finset.mem_univ, true_and]
  omega
theorem taken_self (n r : ℕ) : taken n n r = Finset.univ.filter fun y => y.val ≤ 16 + (512 * n + r) := by
  ext y
  simp only [taken, Finset.mem_filter, Finset.mem_univ, true_and]
  omega

/-- What the blocks of keys and values hold, from key `off` on. -/
structure Reads (kp vp : Vec Ideal S128x256 .bf16) (kb vb : Vec Ideal S2048x256 .bf16) (off : ℕ)
    (key : Fin 2064 → Fin 128 → EReal) (val : Fin 256 → Fin 2064 → EReal) : Prop where
  kp : ∀ (i : Fin 128) (c : Fin 256) (d : Fin 128), i.val < 16 → c.val = off + d.val → kp (ix2 i c) = key (prefixKey i) d
  vp : ∀ (i : Fin 128) (e : Fin 256), i.val < 16 → vp (ix2 i e) = val e (prefixKey i)
  kb : ∀ (i : Fin 2048) (c : Fin 256) (d : Fin 128), c.val = off + d.val → kb (ix2 i c) = key ⟨16 + i.val, by omega⟩ d
  vb : ∀ (i : Fin 2048) (e : Fin 256), vb (ix2 i e) = val e ⟨16 + i.val, by omega⟩

section Past
variable {q : Vec Ideal S512x256 .f32} {kp vp : Vec Ideal S128x256 .bf16} {kb vb : Vec Ideal S2048x256 .bf16} {off : ℕ}
  {key : Fin 2064 → Fin 128 → EReal} {val : Fin 256 → Fin 2064 → EReal}

theorem Reads.kblk (R : Reads kp vp kb vb off key val) {n : ℕ} (hn : n < 4) (i : Fin 512) (c : Fin 256) (d : Fin 128) (hc : c.val = off + d.val) :
    blk n kb (ix2 i c) = key (blockKey n i) d := by
  show kb (ix2 (Fin.ofNat 2048 (512 * n + i.val)) c) = _
  rw [R.kb _ c d hc]
  refine congrArg (fun y => key y d) (Fin.ext ?_)
  rw [blockKey_val hn]
  show 16 + (512 * n + i.val) % 2048 = _
  omega
theorem Reads.vblk (R : Reads kp vp kb vb off key val) {n : ℕ} (hn : n < 4) (i : Fin 512) (e : Fin 256) :
    blk n vb (ix2 i e) = val e (blockKey n i) := by
  show vb (ix2 (Fin.ofNat 2048 (512 * n + i.val)) e) = _
  rw [R.vb _ e]
  refine congrArg (val e) (Fin.ext ?_)
  rw [blockKey_val hn]
  show 16 + (512 * n + i.val) % 2048 = _
  omega

theorem pastA_zero (R : Reads kp vp kb vb 0 key val) {n : ℕ} (hn : n < 4) (r : Fin 512) :
    Has (fun y => ∑ d : Fin 128, q (ix2 r ⟨d.val, by omega⟩) * key y d) val (pastA q kp vp kb vb n 0) r (taken n 0 r.val) := by
  have h1 : Has (fun y => ∑ d : Fin 128, q (ix2 r ⟨d.val, by omega⟩) * key y d) val (narrow (prefixA q kp) prefixLive vp start) r prefixKeys := by
    have h := has_narrow (S := prefixA q kp) (mask := prefixLive) (v := vp) (has_start (fun y => ∑ d : Fin 128, q (ix2 r ⟨d.val, by omega⟩) * key y d) val r)
      prefixKey (fun i => i.val < 16) (Finset.disjoint_empty_left _) (fun i j _ _ h => Fin.ext (congrArg (fun y : Fin 2064 => y.val) h : (prefixKey i).val = (prefixKey j).val))
      (fun i => by
        rw [prefix_at]
        split
        · next hi =>
          rw [prefixA_at]
          exact Finset.sum_congr rfl fun d _ => by rw [R.kp i _ d hi (Nat.zero_add _).symm]
        · rfl)
      (fun i e hi => R.vp i e hi)
    rw [keys_prefix, Finset.empty_union] at h
    exact h
  have h2 := has_wide (S := k0_pay134 (scoreA q (blk n kb)) causal) (v := blk n vb) h1 (blockKey n) (fun i => i.val ≤ r.val)
    (by rw [keys_block hn r.isLt]; exact disjoint_diag n r.val) (fun i j _ _ h => block_inj hn i j h)
    (fun i => by
      rw [diagonal_at]
      split
      · rw [scoreA_at]
        exact Finset.sum_congr rfl fun d _ => by rw [R.kblk hn i _ d (Nat.zero_add _).symm]
      · rfl)
    (fun i e _ => R.vblk hn i e)
  rw [keys_block hn r.isLt, taken_zero] at h2
  exact h2

theorem pastA_has (R : Reads kp vp kb vb 0 key val) {n : ℕ} (hn : n < 4) (r : Fin 512) : ∀ k ≤ n,
    Has (fun y => ∑ d : Fin 128, q (ix2 r ⟨d.val, by omega⟩) * key y d) val (pastA q kp vp kb vb n k) r (taken n k r.val)
  | 0, _ => pastA_zero R hn r
  | k + 1, hk => by
    have h := pastA_has R hn r k (by omega)
    have h2 := has_wide (S := scoreA q (blk k kb)) (v := blk k vb) h (blockKey k) (fun i => i.val ≤ 511)
      (by rw [keys_block (by omega) (by decide)]; exact disjoint_block (by omega)) (fun i j _ _ h => block_inj (by omega) i j h)
      (fun i => by
        rw [scoreA_at, if_pos (by have := i.isLt; omega)]
        exact Finset.sum_congr rfl fun d _ => by rw [R.kblk (by omega) i _ d (Nat.zero_add _).symm])
      (fun i e _ => R.vblk (by omega) i e)
    rw [keys_block (by omega) (by decide), taken_succ (by omega)] at h2
    exact h2

theorem pastB_zero (R : Reads kp vp kb vb 128 key val) {n : ℕ} (hn : n < 4) (r : Fin 512) :
    Has (fun y => ∑ d : Fin 128, q (ix2 r ⟨128 + d.val, by omega⟩) * key y d) val (pastB q kp vp kb vb n 0) r (taken n 0 r.val) := by
  have h1 : Has (fun y => ∑ d : Fin 128, q (ix2 r ⟨128 + d.val, by omega⟩) * key y d) val (narrow (prefixB q kp) prefixLive vp start) r prefixKeys := by
    have h := has_narrow (S := prefixB q kp) (mask := prefixLive) (v := vp) (has_start (fun y => ∑ d : Fin 128, q (ix2 r ⟨128 + d.val, by omega⟩) * key y d) val r)
      prefixKey (fun i => i.val < 16) (Finset.disjoint_empty_left _) (fun i j _ _ h => Fin.ext (congrArg (fun y : Fin 2064 => y.val) h : (prefixKey i).val = (prefixKey j).val))
      (fun i => by
        rw [prefix_at]
        split
        · next hi =>
          rw [prefixB_at]
          exact Finset.sum_congr rfl fun d _ => by rw [R.kp i _ d hi rfl]
        · rfl)
      (fun i e hi => R.vp i e hi)
    rw [keys_prefix, Finset.empty_union] at h
    exact h
  have h2 := has_wide (S := k0_pay134 (scoreB q (blk n kb)) causal) (v := blk n vb) h1 (blockKey n) (fun i => i.val ≤ r.val)
    (by rw [keys_block hn r.isLt]; exact disjoint_diag n r.val) (fun i j _ _ h => block_inj hn i j h)
    (fun i => by
      rw [diagonal_at]
      split
      · rw [scoreB_at]
        exact Finset.sum_congr rfl fun d _ => by rw [R.kblk hn i _ d rfl]
      · rfl)
    (fun i e _ => R.vblk hn i e)
  rw [keys_block hn r.isLt, taken_zero] at h2
  exact h2

theorem pastB_has (R : Reads kp vp kb vb 128 key val) {n : ℕ} (hn : n < 4) (r : Fin 512) : ∀ k ≤ n,
    Has (fun y => ∑ d : Fin 128, q (ix2 r ⟨128 + d.val, by omega⟩) * key y d) val (pastB q kp vp kb vb n k) r (taken n k r.val)
  | 0, _ => pastB_zero R hn r
  | k + 1, hk => by
    have h := pastB_has R hn r k (by omega)
    have h2 := has_wide (S := scoreB q (blk k kb)) (v := blk k vb) h (blockKey k) (fun i => i.val ≤ 511)
      (by rw [keys_block (by omega) (by decide)]; exact disjoint_block (by omega)) (fun i j _ _ h => block_inj (by omega) i j h)
      (fun i => by
        rw [scoreB_at, if_pos (by have := i.isLt; omega)]
        exact Finset.sum_congr rfl fun d _ => by rw [R.kblk (by omega) i _ d rfl])
      (fun i e _ => R.vblk (by omega) i e)
    rw [keys_block (by omega) (by decide), taken_succ (by omega)] at h2
    exact h2

end Past

end Cert.Flash
-- ==== Proof.Softmax.lean ====
module

public import proofs.«01_k».proof.Proof.Online

/-! Two softmax maps over the same keys: the difference of their weighted sums, each divided once at the end, is the
weighted sum of the difference of their quotients, when scores, values and weight are finite. -/

@[expose] public section

noncomputable section

namespace Cert.Online

open Idealize.ShloMosaic

theorem coe_sum' {ι : Type*} (K : Finset ι) (f : ι → ℝ) : ((∑ k ∈ K, f k : ℝ) : EReal) = ∑ k ∈ K, (f k : EReal) := by
  classical
  induction K using Finset.induction_on with
  | empty => simp
  | insert a K ha ih => rw [Finset.sum_insert ha, Finset.sum_insert ha, EReal.coe_add, ih]

variable {κ : Type} [Fintype κ] [DecidableEq κ]

/-- The exponentials of finite scores over a set of keys that is not empty are real, and their sum is positive. -/
theorem weights (f : κ → ℝ) (K : Finset κ) (hK : K.Nonempty) :
    ∃ p : κ → ℝ, (∀ y, Ideal.exp ((if y ∈ K then (f y : EReal) else ⊥) - peak (fun y => (f y : EReal)) K) = (p y : EReal))
      ∧ 0 < ∑ y, p y ∧ ∀ y, y ∉ K → p y = 0 := by
  obtain ⟨i, hi, hp⟩ := Finset.exists_mem_eq_sup K hK (fun y => (f y : EReal))
  refine ⟨fun y => if y ∈ K then Real.exp (f y - f i) else 0, fun y => ?_, ?_, fun y h => if_neg h⟩
  · unfold peak
    rw [hp]
    by_cases h : y ∈ K
    · simp only [h, if_true]
      rw [← EReal.coe_sub, Ideal.exp_coe]
    · simp only [h, if_false]
      simp [sub_eq_add_neg]
  · refine Finset.sum_pos' (fun y _ => ?_) ⟨i, Finset.mem_univ i, ?_⟩
    · split
      · exact (Real.exp_pos _).le
      · exact le_rfl
    · simp only [hi, if_true]
      exact Real.exp_pos _

theorem sup_masked (s : κ → EReal) (K : Finset κ) : (Finset.univ.sup fun y => if y ∈ K then s y else ⊥) = peak s K := by
  have h := peak_keys s (fun y : κ => y) (fun y => y ∈ K) (fun y => if y ∈ K then s y else ⊥) (fun _ => rfl)
  rw [h]
  congr 1
  ext y
  simp [keys]

theorem mass_coe {s : κ → EReal} {K : Finset κ} {m : EReal} {p : κ → ℝ}
    (h : ∀ y, Ideal.exp ((if y ∈ K then s y else ⊥) - m) = (p y : EReal)) (h0 : ∀ y, y ∉ K → p y = 0) :
    mass s K m = ((∑ y, p y : ℝ) : EReal) := by
  rw [coe_sum', mass, ← Finset.sum_subset (Finset.subset_univ K) (fun y _ hy => by rw [h0 y hy, EReal.coe_zero])]
  exact Finset.sum_congr rfl fun y hy => by rw [← h y, if_pos hy]

theorem wsum_coe {s : κ → EReal} {K : Finset κ} {m : EReal} {p : κ → ℝ} (v : κ → ℝ)
    (h : ∀ y, Ideal.exp ((if y ∈ K then s y else ⊥) - m) = (p y : EReal)) (h0 : ∀ y, y ∉ K → p y = 0) :
    wsum s (fun y => (v y : EReal)) K m = ((∑ y, p y * v y : ℝ) : EReal) := by
  rw [coe_sum', wsum, ← Finset.sum_subset (Finset.subset_univ K) (fun y _ hy => by rw [h0 y hy, zero_mul, EReal.coe_zero])]
  exact Finset.sum_congr rfl fun y hy => by rw [EReal.coe_mul, ← h y, if_pos hy]

/-- The difference of two maps, on either side. -/
theorem difference (f g v : κ → ℝ) (l : ℝ) (K : Finset κ) (hK : K.Nonempty) :
    Ideal.div (wsum (fun y => (f y : EReal)) (fun y => (v y : EReal)) K (peak (fun y => (f y : EReal)) K)) (mass (fun y => (f y : EReal)) K (peak (fun y => (f y : EReal)) K))
      - (l : EReal) * Ideal.div (wsum (fun y => (g y : EReal)) (fun y => (v y : EReal)) K (peak (fun y => (g y : EReal)) K)) (mass (fun y => (g y : EReal)) K (peak (fun y => (g y : EReal)) K))
    = ∑ y, (v y : EReal)
        * (Ideal.div (Ideal.exp ((if y ∈ K then (f y : EReal) else ⊥) - Finset.univ.sup fun y => if y ∈ K then (f y : EReal) else ⊥))
              (∑ y, Ideal.exp ((if y ∈ K then (f y : EReal) else ⊥) - Finset.univ.sup fun y => if y ∈ K then (f y : EReal) else ⊥))
            - (l : EReal) * Ideal.div (Ideal.exp ((if y ∈ K then (g y : EReal) else ⊥) - Finset.univ.sup fun y => if y ∈ K then (g y : EReal) else ⊥))
              (∑ y, Ideal.exp ((if y ∈ K then (g y : EReal) else ⊥) - Finset.univ.sup fun y => if y ∈ K then (g y : EReal) else ⊥))) := by
  obtain ⟨p, hp, hpp, hp0⟩ := weights f K hK
  obtain ⟨r, hr, hrp, hr0⟩ := weights g K hK
  rw [sup_masked (fun y => (f y : EReal)) K, sup_masked (fun y => (g y : EReal)) K]
  simp only [hp, hr]
  rw [mass_coe hp hp0, mass_coe hr hr0, wsum_coe v hp hp0, wsum_coe v hr hr0, ← coe_sum', ← coe_sum']
  simp only [Ideal.div_coe hpp.ne', Ideal.div_coe hrp.ne', ← EReal.coe_mul, ← EReal.coe_sub]
  rw [← coe_sum', EReal.coe_eq_coe_iff]
  simp only [mul_sub, Finset.sum_sub_distrib, Finset.sum_mul, Finset.mul_sum]
  congr 1 <;> exact Finset.sum_congr rfl fun y _ => by ring

/-- The weight of the second map. -/
def weight (a : Fin 4 → Fin 128 → EReal) : EReal :=
  Ideal.exp (∑ d : Fin 128, a 0 d * a 1 d) - Ideal.exp (∑ d : Fin 128, a 2 d * a 3 d) + Ideal.ofBits .f32 0x3EF1014C#32

/-- A finite weight from finite parameters. -/
theorem weight_coe (a : Fin 4 → Fin 128 → ℝ) : ∃ l : ℝ, weight (fun i d => (a i d : EReal)) = (l : EReal) := by
  obtain ⟨c, hc⟩ : ∃ c : ℝ, Ideal.ofBits .f32 0x3EF1014C#32 = (c : EReal) := by
    simp [Ideal.ofBits, Ideal.ieee, -EReal.coe_mul]
  unfold weight
  rw [hc]
  simp only [← EReal.coe_mul, ← coe_sum', Ideal.exp_coe, ← EReal.coe_sub, ← EReal.coe_add]
  exact ⟨_, rfl⟩

/-- The norm over the value lanes. -/
def norm (o : Fin 256 → EReal) (w : EReal) (e : Fin 256) : EReal :=
  o e * Ideal.rsqrt (Ideal.div (∑ x : Fin 256, o x * o x) (Ideal.ofBits .f32 0x43800000#32) + Ideal.ofBits .f32 0x3727C5AC#32) * w
    * Ideal.ofBits .f32 0x3F077F5A#32

end Cert.Online
-- ==== Proof.Output.lean ====
module

public import proofs.«01_k».proof.Proof.Rows
public import proofs.«01_k».proof.Proof.Softmax
public import proofs.«01_k».proof.Proof.CaseA

/-! What a grid point writes, at an index, over the extended reals. -/

@[expose] public section

set_option maxRecDepth 16384

noncomputable section

namespace Cert.Flash

open Idealize.ShloMosaic Idealize.ShloMosaic.TcCoe Idealize.ShloMosaic.Tactic
open Idealize.ShloMosaic.Pointwise
open Cert.KernelIdeal Cert.KernelIdeal.Gen

theorem pay151_at (lam : Vec Ideal S1x4x128 .f32) : k0_pay151 lam (ix2 0 0) = Online.weight fun i d => lam (ix3 0 i d) := by
  unfold k0_pay151
  pointwise
  rfl
theorem finish_at (lam : Vec Ideal S1x4x128 .f32) (w : Vec Ideal S1x1x256 .f32) (a b : Slab Ideal) (r : Fin 512) (e : Fin 256)
    {M1 L1 M2 L2 : EReal} {A1 A2 : Fin 256 → EReal} (h1 : At a r M1 L1 A1) (h2 : At b r M2 L2 A2) :
    finish lam w a b (ix2 r e)
      = Online.norm (fun x => Ideal.div (A1 x) L1 - (Online.weight fun i d => lam (ix3 0 i d)) * Ideal.div (A2 x) L2) (w (ix3 0 0 e)) e := by
  unfold finish k0_pay1 k0_pay152 k0_pay153
  pointwise
  simp only [h1.l, h1.acc, h2.l, h2.acc, dite_eq_ite, ite_self, pay151_at]
  unfold Online.norm
  rw [show (∑ x : Fin 256, (Ideal.div (A1 x) L1 - (Online.weight fun i d => lam (ix3 0 i d)) * Ideal.div (A2 x) L2) * (Ideal.div (A1 x) L1 - (Online.weight fun i d => lam (ix3 0 i d)) * Ideal.div (A2 x) L2)) = _ from
    Fin.sum_univ_add (a := 128) (b := 128) _]
  rfl

theorem pay6_eq (x : Vec Ideal S16x256 .f32) : k0_pay6 x = x := by
  funext j
  unfold k0_pay6
  pointwise
theorem pay2_eq (x : Vec Ideal S2048x256 .f32) : k0_pay2 x = x := by
  funext j
  unfold k0_pay2
  pointwise
theorem pay3_eq (x : Vec Ideal S2048x256 .f32) : k0_pay3 x = x := by
  funext j
  unfold k0_pay3
  pointwise
theorem padded_at (x : Vec Ideal S16x256 .f32) (i : Fin 128) (hi : i.val < 16) (c : Fin 256) :
    padded x (ix2 i c) = x (ix2 ⟨i.val, hi⟩ c) := by
  unfold padded
  rw [pay6_eq]
  have e : ix2 i c = (Rect.unit (s := S128x256) ![0, 0] S16x256.size inb_S128x256_S16x256_0_0).emb (ix2 ⟨i.val, hi⟩ c) := by
    funext a
    refine Fin.ext ?_
    match a with
    | ⟨0, _⟩ => show i.val = 0 + 1 * i.val; omega
    | ⟨1, _⟩ => show c.val = 0 + 1 * c.val; omega
  rw [e, Rect.overlay_emb]

end Cert.Flash
-- ==== Proof.Values.lean ====
module

public import proofs.«01_k».proof.Proof.Gen.KernelIdeal.Value
public import proofs.«01_k».proof.Proof.Blocks
public import proofs.«01_k».proof.Proof.Point
public import proofs.«01_k».proof.Proof.Output

/-! The kernel's result array at an index, as a function of the arguments' entries, over the extended reals. -/

@[expose] public section

set_option maxRecDepth 16384

noncomputable section

namespace Cert.Flash

open Idealize.ShloMosaic Idealize.ShloMosaic.TcCoe Idealize.ShloMosaic.Tactic
open Idealize.ShloMosaic.Pointwise
open Cert.KernelIdeal Cert.KernelIdeal.Gen

section Any
variable {F : FTy → Type} [FloatOps F] (m : (ℓ : Loc nD τ sig) → Buf (Elt F) ℓ)

/-- The result array at an index that lies in point `t`'s block. -/
theorem result_block (c : Dev nD) (t : Fin cfg0.N) (j : S512x256.Idx) (r : Fin 8192) (k : Fin 2048)
    (hr : r.val = (4 * (t.val / 32) + t.val % 4) * 512 + (j 0).val) (hk : k.val = t.val / 4 % 8 * 256 + (j 1).val) :
    (dats m 0 c).arrAt 7 cfg0.N (ix2 r k) = (outsAt0 m c t.val t.isLt).1 j := by
  have h := congrFun ((Cert.KernelIdeal.Value.blocks7 m c t (flush0_7 t)).trans (Cert.KernelIdeal.Value.flushed7 m c t)) j
  refine Eq.trans ?_ h
  show _ = (dats m 0 c).arrAt 7 cfg0.N _
  refine congrArg _ (funext fun a => Fin.ext ?_)
  match a with
  | ⟨0, _⟩ =>
    show r.val = cc0_transform_7 (grid0.coords t) 0 * 512 + 1 * (j 0).val
    rw [index7 t, hr, Nat.one_mul]
    rfl
  | ⟨1, _⟩ =>
    show k.val = cc0_transform_7 (grid0.coords t) 1 * 256 + 1 * (j 1).val
    rw [index7 t, hk, Nat.one_mul]
    rfl
end Any

/-- The scores of one query row against every key. -/
def score (Q K : S4x2064x16x128.Idx → EReal) (b : Fin 4) (i : Fin 2048) (h : Fin 16) (y : Fin 2064) : EReal :=
  ∑ d : Fin 128, Q (ix4 b ⟨16 + i.val, by omega⟩ h d) * K (ix4 b y h d)

/-- The keys that a row sees. -/
def seen (i : Fin 2048) : Finset (Fin 2064) := Finset.univ.filter fun y => y.val ≤ 16 + i.val

/-- One map's weighted sum, divided by its mass. -/
def attend (s v : Fin 2064 → EReal) (K : Finset (Fin 2064)) : EReal :=
  Ideal.div (Online.wsum s v K (Online.peak s K)) (Online.mass s K (Online.peak s K))

variable (m : (ℓ : Loc nD τ sig) → Buf (Elt Ideal) ℓ)

abbrev argQ (c : Dev nD) : S4x2064x16x128.Idx → EReal := m ((c : Thread nD τ).loc main_arg0)
abbrev argK (c : Dev nD) : S4x2064x16x128.Idx → EReal := m ((c : Thread nD τ).loc main_arg1)
abbrev argV (c : Dev nD) : S4x2064x8x256.Idx → EReal := m ((c : Thread nD τ).loc main_arg2)
abbrev argL (c : Dev nD) : S2x4x128.Idx → EReal := m ((c : Thread nD τ).loc main_arg3)
abbrev argW (c : Dev nD) : S2x256.Idx → EReal := m ((c : Thread nD τ).loc main_arg4)

theorem readsA (c : Dev nD) (t : Fin cfg0.N) (b : Fin 4) (h : Fin 8) (g : Fin 16) (hb : b.val = t.val / 32) (hh : h.val = t.val / 4 % 8) (hg : g.val = h.val * 2) :
    Reads (padded (iblk m c 3 t)) (padded (iblk m c 4 t)) (k0_pay2 (X0_1 m c t)) (k0_pay3 (X0_2 m c t)) 0
      (fun y d => argK m c (ix4 b y g d)) (fun x y => argV m c (ix4 b y h x)) where
  kp a z d ha hz := by
    rw [padded_at _ a ha]
    exact prefixKey_at m c t _ b _ g d hb rfl (by show 128 * g.val + d.val = _ * 256 + z.val; omega)
  vp a z ha := by
    rw [padded_at _ a ha]
    exact prefixValue_at m c t _ b _ h z hb rfl hh rfl
  kb a z d hz := by
    rw [pay2_eq]
    exact key_at m c t _ b _ g d hb rfl (by show 128 * g.val + d.val = _ * 256 + z.val; omega)
  vb a z := by
    rw [pay3_eq]
    exact value_at m c t _ b _ h z hb rfl hh rfl

theorem readsB (c : Dev nD) (t : Fin cfg0.N) (b : Fin 4) (h : Fin 8) (g : Fin 16) (hb : b.val = t.val / 32) (hh : h.val = t.val / 4 % 8) (hg : g.val = h.val * 2 + 1) :
    Reads (padded (iblk m c 3 t)) (padded (iblk m c 4 t)) (k0_pay2 (X0_1 m c t)) (k0_pay3 (X0_2 m c t)) 128
      (fun y d => argK m c (ix4 b y g d)) (fun x y => argV m c (ix4 b y h x)) where
  kp a z d ha hz := by
    rw [padded_at _ a ha]
    exact prefixKey_at m c t _ b _ g d hb rfl (by show 128 * g.val + d.val = _ * 256 + z.val; omega)
  vp a z ha := by
    rw [padded_at _ a ha]
    exact prefixValue_at m c t _ b _ h z hb rfl hh rfl
  kb a z d hz := by
    rw [pay2_eq]
    exact key_at m c t _ b _ g d hb rfl (by show 128 * g.val + d.val = _ * 256 + z.val; omega)
  vb a z := by
    rw [pay3_eq]
    exact value_at m c t _ b _ h z hb rfl hh rfl

/-- The scores of a row of a block of queries. -/
theorem score_of (q : S512x256.Idx → EReal) (Q K : S4x2064x16x128.Idx → EReal) (b : Fin 4) (i : Fin 2048) (g : Fin 16) (row : Fin 512) (lane : Fin 128 → Fin 256)
    (hq : ∀ d, q (ix2 row (lane d)) = Q (ix4 b ⟨16 + i.val, by omega⟩ g d)) :
    (fun y : Fin 2064 => ∑ d : Fin 128, q (ix2 row (lane d)) * K (ix4 b y g d)) = score Q K b i g := by
  funext y
  exact Finset.sum_congr rfl fun d _ => by rw [hq]

theorem taken_seen (n : ℕ) (row : ℕ) (i : Fin 2048) (h : 512 * n + row = i.val) : taken n n row = seen i := by
  rw [taken_self, seen, h]

theorem lanes (c : Dev nD) (t : Fin cfg0.N) (b : Fin 4) (i : Fin 2048) (g : Fin 16) (row : Fin 512) (lane : Fin 128 → Fin 256)
    (hb : b.val = t.val / 32) (hi : 512 * (t.val % 4) + row.val = i.val) (hl : ∀ d, 128 * g.val + d.val = t.val / 4 % 8 * 256 + (lane d).val) (d : Fin 128) :
    X0_0 m c t (ix2 row (lane d)) = argQ m c (ix4 b ⟨16 + i.val, by omega⟩ g d) :=
  query_at m c t (ix2 row (lane d)) b ⟨16 + i.val, by omega⟩ g d hb (by show 16 + i.val = 16 + (512 * (t.val % 4) + row.val); omega) (hl d)

/-- A row of the first map, at the end of the row's point. -/
theorem mapA (c : Dev nD) (t : Fin cfg0.N) (b : Fin 4) (i : Fin 2048) (h : Fin 8) (g : Fin 16) (row : Fin 512) (hb : b.val = t.val / 32)
    (hh : h.val = t.val / 4 % 8) (hg : g.val = h.val * 2) (hi : 512 * (t.val % 4) + row.val = i.val) :
    Has (score (argQ m c) (argK m c) b i g) (fun x y => argV m c (ix4 b y h x))
      (pastA (X0_0 m c t) (padded (iblk m c 3 (first t.val t.isLt))) (padded (iblk m c 4 (first t.val t.isLt)))
        (k0_pay2 (X0_1 m c (first t.val t.isLt))) (k0_pay3 (X0_2 m c (first t.val t.isLt))) (t.val % 4) (t.val % 4)) row (seen i) := by
  have hf : (first t.val t.isLt).val = 4 * (t.val / 4) := rfl
  have HA := pastA_has (q := X0_0 m c t) (readsA m c (first t.val t.isLt) b h g (by omega) (by omega) hg) (n := t.val % 4) (by omega) row (t.val % 4) le_rfl
  rw [taken_seen _ _ i hi] at HA
  have hs := score_of (X0_0 m c t) (argQ m c) (argK m c) b i g row (fun d => ⟨d.val, by omega⟩)
    (lanes m c t b i g row (fun d => ⟨d.val, by omega⟩) hb hi fun d => by show 128 * g.val + d.val = _ * 256 + d.val; omega)
  rw [← hs]
  exact HA

/-- A row of the second map, at the end of the row's point. -/
theorem mapB (c : Dev nD) (t : Fin cfg0.N) (b : Fin 4) (i : Fin 2048) (h : Fin 8) (g : Fin 16) (row : Fin 512) (hb : b.val = t.val / 32)
    (hh : h.val = t.val / 4 % 8) (hg : g.val = h.val * 2 + 1) (hi : 512 * (t.val % 4) + row.val = i.val) :
    Has (score (argQ m c) (argK m c) b i g) (fun x y => argV m c (ix4 b y h x))
      (pastB (X0_0 m c t) (padded (iblk m c 3 (first t.val t.isLt))) (padded (iblk m c 4 (first t.val t.isLt)))
        (k0_pay2 (X0_1 m c (first t.val t.isLt))) (k0_pay3 (X0_2 m c (first t.val t.isLt))) (t.val % 4) (t.val % 4)) row (seen i) := by
  have hf : (first t.val t.isLt).val = 4 * (t.val / 4) := rfl
  have HB := pastB_has (q := X0_0 m c t) (readsB m c (first t.val t.isLt) b h g (by omega) (by omega) hg) (n := t.val % 4) (by omega) row (t.val % 4) le_rfl
  rw [taken_seen _ _ i hi] at HB
  have hs := score_of (X0_0 m c t) (argQ m c) (argK m c) b i g row (fun d => ⟨128 + d.val, by omega⟩)
    (lanes m c t b i g row (fun d => ⟨128 + d.val, by omega⟩) hb hi fun d => by show 128 * g.val + d.val = _ * 256 + (128 + d.val); omega)
  rw [← hs]
  exact HB

/-- A point's block at a row and a lane. -/
theorem block_at (q : S512x256.Idx → EReal) (kp vp : S128x256.Idx → EReal) (kb vb : S2048x256.Idx → EReal) (lp : S1x4x128.Idx → EReal)
    (w : S1x1x256.Idx → EReal) (n : ℕ) (row : Fin 512) (e : Fin 256) (s1 s2 : Fin 2064 → EReal) (v : Fin 256 → Fin 2064 → EReal) (K : Finset (Fin 2064))
    (L : S2x4x128.Idx → EReal) (W : S2x256.Idx → EReal)
    (h1 : Has s1 v (pastA (F := Ideal) q kp vp kb vb n n) row K) (h2 : Has s2 v (pastB (F := Ideal) q kp vp kb vb n n) row K)
    (hl : ∀ a d, lp (ix3 0 a d) = L (ix3 0 a d)) (hw : w (ix3 0 0 e) = W (ix2 0 e)) :
    outBlock (F := Ideal) q kp vp kb vb lp w n (ix2 row e)
      = Online.norm (fun x => attend s1 (v x) K - (Online.weight fun a d => L (ix3 0 a d)) * attend s2 (v x) K) (W (ix2 0 e)) e := by
  unfold outBlock
  rw [finish_at _ _ _ _ row e h1 h2, hw]
  simp only [hl]
  rfl

theorem result_point (c : Dev nD) (t : Fin cfg0.N) (row : Fin 512) (b : Fin 4) (i : Fin 2048) (h : Fin 8) (g1 g2 : Fin 16) (e : Fin 256)
    (hb : b.val = t.val / 32) (hh : h.val = t.val / 4 % 8) (h1 : g1.val = h.val * 2) (h2 : g2.val = h.val * 2 + 1) (hi : 512 * (t.val % 4) + row.val = i.val) :
    (outsAt0 m c t.val t.isLt).1 (ix2 row e)
      = Online.norm (fun x =>
          attend (score (argQ m c) (argK m c) b i g1) (fun y => argV m c (ix4 b y h x)) (seen i)
          - (Online.weight fun a d => argL m c (ix3 0 a d))
            * attend (score (argQ m c) (argK m c) b i g2) (fun y => argV m c (ix4 b y h x)) (seen i))
        (argW m c (ix2 0 e)) e := by
  refine (congrFun (point m c t) (ix2 row e)).trans ?_
  have HA := mapA m c t b i h g1 row hb hh h1 hi
  have HB := mapB m c t b i h g2 row hb hh h2 hi
  exact block_at _ _ _ _ _ _ _ (t.val % 4) row e _ _ _ _ _ _ HA HB (fun a d => block5 m c t 0 a d) (block6 m c t 0 0 e)

theorem result_at (c : Dev nD) (r : Fin 8192) (k : Fin 2048) (b : Fin 4) (i : Fin 2048) (h : Fin 8) (e : Fin 256)
    (hr : r.val = 2048 * b.val + i.val) (hk : k.val = 256 * h.val + e.val) :
    (dats m 0 c).arrAt 7 cfg0.N (ix2 r k)
      = Online.norm (fun x =>
          attend (score (argQ m c) (argK m c) b i ⟨h.val * 2, by omega⟩) (fun y => argV m c (ix4 b y h x)) (seen i)
          - (Online.weight fun a d => argL m c (ix3 0 a d))
            * attend (score (argQ m c) (argK m c) b i ⟨h.val * 2 + 1, by omega⟩) (fun y => argV m c (ix4 b y h x)) (seen i))
        (argW m c (ix2 0 e)) e := by
  have hb := b.isLt
  have hi := i.isLt
  have hh := h.isLt
  have he := e.isLt
  have hN : 32 * b.val + 4 * h.val + i.val / 512 < cfg0.N := Nat.lt_of_lt_of_eq (by omega : _ < 128) N_0.symm
  obtain ⟨n, hn⟩ : ∃ n, n = 32 * b.val + 4 * h.val + i.val / 512 := ⟨_, rfl⟩
  rw [← hn] at hN
  obtain ⟨row, hrow⟩ : ∃ row : Fin 512, row.val = i.val % 512 := ⟨⟨i.val % 512, by omega⟩, rfl⟩
  have a1 : r.val = (4 * (n / 32) + n % 4) * 512 + row.val := by omega
  have a2 : k.val = n / 4 % 8 * 256 + e.val := by omega
  have a3 : b.val = n / 32 := by omega
  have a4 : h.val = n / 4 % 8 := by omega
  have a5 : 512 * (n % 4) + row.val = i.val := by omega
  exact (result_block m c ⟨n, hN⟩ (ix2 row e) r k a1 a2).trans (result_point m c ⟨n, hN⟩ row b i h _ _ e a3 a4 rfl rfl a5)

end Cert.Flash
-- ==== Proof.Reference.lean ====
module

public import proofs.«01_k».proof.Proof.Gen.ReferenceIdeal.Run
public import Idealize.ShloMosaic.Lib.Pointwise
public import Idealize.ShloMosaic.Lib.WordCmp
public import Idealize.ShloMosaic.Lib.KernelVsHost
public import proofs.«01_k».proof.Proof.Softmax

/-! The reference's result, stage by stage and then at an index, over the extended reals. -/

@[expose] public section

set_option maxRecDepth 16384

noncomputable section

namespace Cert.Plain

open Idealize.ShloMosaic Idealize.ShloMosaic.TcCoe Idealize.ShloMosaic.Tactic
open Idealize.ShloMosaic.Pointwise
open Cert.ReferenceIdeal Cert.ReferenceIdeal.Gen

section Stages
variable {F : FTy → Type} [FloatOps F]

/-- The scores, with the keys that a row may not see masked. -/
def masked (q k : FVec F S4x2064x16x128 .f32) : FVec F S4x16x2048x2064 .f32 :=
  (select (broadcastInDim S4x16x2048x2064 ![0, 1, 2, 3] bcast_S1x1x2048x2064_S4x16x2048x2064_0_1_2_3 (cmpi .sle (broadcastInDim S1x1x2048x2064 ![0, 1, 2, 3] bcast_S1x1x1x2064_S1x1x2048x2064_0_1_2_3 (broadcastInDim S1x1x1x2064 ![3] bcast_S2064_S1x1x1x2064_3 (iotaInDim S2064 32 0))) (broadcastInDim S1x1x2048x2064 ![0, 1, 2, 3] bcast_S1x1x2048x1_S1x1x2048x2064_0_1_2_3 (broadcastInDim S1x1x2048x1 ![2] bcast_S2048_S1x1x2048x1_2 (addi (broadcastInDim S2048 ![] bcast_S_S2048 (constantI S_ 32 16#32)) (iotaInDim S2048 32 0)))))) (Host.dotGeneral dot_S4x2048x16x128_S4x2064x16x128_S4x16x2048x2064_3_3_1_1_02_02 none (extractStridedSlice S4x2048x16x128 ![0, 16, 0, 0] q slices_S4x2064x16x128_S4x2048x16x128_0_16_0_0) k) (broadcastInDim S4x16x2048x2064 ![] bcast_S_S4x16x2048x2064 (id (constant S_ .f32 0xFF800000#32))))

/-- Every row's maximum. -/
def rowMax (X : FVec F S4x16x2048x2064 .f32) : FVec F S4x16x2048 .f32 :=
  Host.reduce FloatOps.maximumf X (constant S_ .f32 0xFF800000#32) reducesTo_S4x16x2048x2064_S4x16x2048_d3 h_S_

/-- The same, bounded below. -/
def base (X : FVec F S4x16x2048x2064 .f32) : FVec F S4x16x2048 .f32 :=
  maximumf (broadcastInDim S4x16x2048 ![] bcast_S_S4x16x2048 (constant S_ .f32 0xFF800000#32)) (rowMax X)

/-- The exponentials against the row's maximum. -/
def expd (X : FVec F S4x16x2048x2064 .f32) : FVec F S4x16x2048x2064 .f32 :=
  (Host.exp (subf X (broadcastInDim S4x16x2048x2064 ![0, 1, 2, 3] bcast_S4x16x2048x1_S4x16x2048x2064_0_1_2_3 (broadcastInDim S4x16x2048x1 ![0, 1, 2] bcast_S4x16x2048_S4x16x2048x1_0_1_2 (base X)))))

/-- The softmax. -/
def probs (X : FVec F S4x16x2048x2064 .f32) : FVec F S4x16x2048x2064 .f32 :=
  (Host.divf (expd X) (broadcastInDim S4x16x2048x2064 ![0, 1, 2, 3] bcast_S4x16x2048x1_S4x16x2048x2064_0_1_2_3 (broadcastInDim S4x16x2048x1 ![0, 1, 2] bcast_S4x16x2048_S4x16x2048x1_0_1_2 (Host.reduceAdd (expd X) (constant S_ .f32 0x00000000#32) reducesTo_S4x16x2048x2064_S4x16x2048_d3 h_S_))))

/-- The weight of the second map. -/
def lam (lp : FVec F S2x4x128 .f32) : FVec F S_ .f32 :=
  (addf (subf (Host.exp (Host.reduceAdd (mulf (shapeCast S128 (extractStridedSlice S1x128 ![0, 0] (shapeCast S4x128 (extractStridedSlice S1x4x128 ![0, 0, 0] lp slices_S2x4x128_S1x4x128_0_0_0) shapeCasts_S1x4x128_S4x128) slices_S4x128_S1x128_0_0) shapeCasts_S1x128_S128) (shapeCast S128 (extractStridedSlice S1x128 ![1, 0] (shapeCast S4x128 (extractStridedSlice S1x4x128 ![0, 0, 0] lp slices_S2x4x128_S1x4x128_0_0_0) shapeCasts_S1x4x128_S4x128) slices_S4x128_S1x128_1_0) shapeCasts_S1x128_S128)) (constant S_ .f32 0x00000000#32) reducesTo_S128_S_d0 h_S_)) (Host.exp (Host.reduceAdd (mulf (shapeCast S128 (extractStridedSlice S1x128 ![2, 0] (shapeCast S4x128 (extractStridedSlice S1x4x128 ![0, 0, 0] lp slices_S2x4x128_S1x4x128_0_0_0) shapeCasts_S1x4x128_S4x128) slices_S4x128_S1x128_2_0) shapeCasts_S1x128_S128) (shapeCast S128 (extractStridedSlice S1x128 ![3, 0] (shapeCast S4x128 (extractStridedSlice S1x4x128 ![0, 0, 0] lp slices_S2x4x128_S1x4x128_0_0_0) shapeCasts_S1x4x128_S4x128) slices_S4x128_S1x128_3_0) shapeCasts_S1x128_S128)) (constant S_ .f32 0x00000000#32) reducesTo_S128_S_d0 h_S_))) (constant S_ .f32 0x3EF1014C#32))

/-- One map of every pair of heads. -/
def first (P : FVec F S4x16x2048x2064 .f32) : FVec F S4x8x2048x2064 .f32 :=
  (shapeCast S4x8x2048x2064 (extractStridedSlice S4x8x1x2048x2064 ![0, 0, 0, 0, 0] (shapeCast S4x8x2x2048x2064 P shapeCasts_S4x16x2048x2064_S4x8x2x2048x2064) slices_S4x8x2x2048x2064_S4x8x1x2048x2064_0_0_0_0_0) shapeCasts_S4x8x1x2048x2064_S4x8x2048x2064)
def second (P : FVec F S4x16x2048x2064 .f32) : FVec F S4x8x2048x2064 .f32 :=
  (shapeCast S4x8x2048x2064 (extractStridedSlice S4x8x1x2048x2064 ![0, 0, 1, 0, 0] (shapeCast S4x8x2x2048x2064 P shapeCasts_S4x16x2048x2064_S4x8x2x2048x2064) slices_S4x8x2x2048x2064_S4x8x1x2048x2064_0_0_1_0_0) shapeCasts_S4x8x1x2048x2064_S4x8x2048x2064)

/-- The values under the difference of the two maps. -/
def mix (v : FVec F S4x2064x8x256 .f32) (l : FVec F S_ .f32) (P : FVec F S4x16x2048x2064 .f32) : FVec F S4x2048x8x256 .f32 :=
  (transpose S4x2048x8x256 [0, 3, 1, 2] (Host.dotGeneral dot_S4x2064x8x256_S4x8x2048x2064_S4x8x256x2048_1_3_3_2_02_01 none v (subf (first P) (mulf (broadcastInDim S4x8x2048x2064 ![] bcast_S_S4x8x2048x2064 l) (second P)))) transposes_S4x8x256x2048_S4x2048x8x256_0_3_1_2)

/-- The normalised result. -/
def normed (T : FVec F S4x2048x8x256 .f32) (w : FVec F S2x256 .f32) : FVec F S8192x2048 .bf16 :=
  truncf .bf16 (shapeCast S8192x2048 (mulf (mulf (mulf T (broadcastInDim S4x2048x8x256 ![0, 1, 2, 3] bcast_S4x2048x8x1_S4x2048x8x256_0_1_2_3 (Host.rsqrt (addf (Host.divf (broadcastInDim S4x2048x8x1 ![0, 1, 2] bcast_S4x2048x8_S4x2048x8x1_0_1_2 (Host.reduceAdd (mulf T T) (constant S_ .f32 0x00000000#32) reducesTo_S4x2048x8x256_S4x2048x8_d3 h_S_)) (broadcastInDim S4x2048x8x1 ![] bcast_S_S4x2048x8x1 (constant S_ .f32 0x43800000#32))) (broadcastInDim S4x2048x8x1 ![] bcast_S_S4x2048x8x1 (constant S_ .f32 0x3727C5AC#32)))))) (broadcastInDim S4x2048x8x256 ![0, 1, 2, 3] bcast_S1x1x1x256_S4x2048x8x256_0_1_2_3 (broadcastInDim S1x1x1x256 ![3] bcast_S256_S1x1x1x256_3 (shapeCast S256 (extractStridedSlice S1x256 ![0, 0] w slices_S2x256_S1x256_0_0) shapeCasts_S1x256_S256)))) (broadcastInDim S4x2048x8x256 ![] bcast_S_S4x2048x8x256 (constant S_ .f32 0x3F077F5A#32))) shapeCasts_S4x2048x8x256_S8192x2048) bitsLt_bf16_f32

theorem result (m : (ℓ : Loc nD τ sig) → Buf (Elt F) ℓ) (c : Dev nD) :
    Cert.ReferenceIdeal.Value.res_main_v69 m c
      = normed (mix (m ((c.tc : Thread nD τ).loc main_arg2)) (lam (m ((c.tc : Thread nD τ).loc main_arg3)))
          (probs (masked (m ((c.tc : Thread nD τ).loc main_arg0)) (m ((c.tc : Thread nD τ).loc main_arg1)))))
        (m ((c.tc : Thread nD τ).loc main_arg4)) := by
  unfold Cert.ReferenceIdeal.Value.res_main_v69
  rfl
end Stages

theorem lowest' : Ideal.ofBits .f32 0xFF800000#32 = (⊥ : EReal) := by
  simp [Ideal.ofBits, Ideal.ieee]

theorem reduces3 : S4x16x2048x2064.Reduces [3] S4x16x2048 := by decide

theorem rowMax_at (X : FVec Ideal S4x16x2048x2064 .f32) (b : Fin 4) (h : Fin 16) (i : Fin 2048) :
    rowMax X (ix3 b h i) = Finset.univ.sup fun y : Fin 2064 => X (ix4 b h i y) := by
  unfold rowMax
  refine (congrFun (hostReduce_maximumf_eq_multiReduction X 0xFF800000#32 reducesTo_S4x16x2048x2064_S4x16x2048_d3 h_S_ reduces3 (.inl rfl) rfl) _).trans
    ((Ideal.multiReduction_maximumf_single X 0xFF800000#32 reduces3 (.inl rfl) rfl _).trans ?_)
  show Finset.univ.fold max (Ideal.ofBits .f32 0xFF800000#32) _ = _
  rw [lowest']
  refine congrArg (fun f => Finset.univ.fold max (⊥ : EReal) f) (funext fun y => ?_)
  refine congrArg X (funext fun a => Fin.ext ?_)
  match a with
  | ⟨0, _⟩ => rfl
  | ⟨1, _⟩ => rfl
  | ⟨2, _⟩ => rfl
  | ⟨3, _⟩ => rfl

theorem bounded_at (R : FVec Ideal S4x16x2048 .f32) (j : S4x16x2048.Idx) :
    maximumf (broadcastInDim S4x16x2048 ![] bcast_S_S4x16x2048 (constant S_ .f32 0xFF800000#32)) R j = max (Ideal.ofBits .f32 0xFF800000#32) (R j) := rfl

theorem base_at (X : FVec Ideal S4x16x2048x2064 .f32) (b : Fin 4) (h : Fin 16) (i : Fin 2048) :
    base X (ix3 b h i) = Finset.univ.sup fun y : Fin 2064 => X (ix4 b h i y) := by
  have hm : ∀ x : EReal, max ⊥ x = x := fun x => max_eq_right bot_le
  have h0 : base X (ix3 b h i) = max (Ideal.ofBits .f32 0xFF800000#32) (rowMax X (ix3 b h i)) := bounded_at (rowMax X) _
  rw [h0, lowest', hm]
  exact rowMax_at X b h i

theorem masked_at (q k : FVec Ideal S4x2064x16x128 .f32) (b : Fin 4) (h : Fin 16) (i : Fin 2048) (y : Fin 2064) :
    masked q k (ix4 b h i y) = if y.val ≤ 16 + i.val then ∑ d : Fin 128, q (ix4 b ⟨16 + i.val, by omega⟩ h d) * k (ix4 b y h d) else (⊥ : EReal) := by
  unfold masked
  pointwise
  have h1 : (BitVec.ofNat 32 y.val).toNat = y.val := by rw [BitVec.toNat_ofNat]; omega
  have h2 : (IntOp.addi 16#32 (BitVec.ofNat 32 i.val)).toNat = 16 + i.val := by
    show (16#32 + BitVec.ofNat 32 i.val).toNat = _
    rw [BitVec.toNat_add, BitVec.toNat_ofNat, BitVec.toNat_ofNat]
    omega
  rw [WordCmp.cmpi_sle_of_lt (by rw [h1]; omega) (by rw [h2]; omega), h1, h2]
  show Scalar.select _ _ (Ideal.ofBits .f32 0xFF800000#32) = _
  rw [lowest']
  by_cases hk : y.val ≤ 16 + i.val <;> simp only [hk] <;> rfl
theorem expd_at (X : FVec Ideal S4x16x2048x2064 .f32) (b : Fin 4) (h : Fin 16) (i : Fin 2048) (y : Fin 2064) :
    expd X (ix4 b h i y) = Ideal.exp (X (ix4 b h i y) - Finset.univ.sup fun y : Fin 2064 => X (ix4 b h i y)) := by
  unfold expd
  pointwise
  rw [base_at]
theorem probs_at (X : FVec Ideal S4x16x2048x2064 .f32) (b : Fin 4) (h : Fin 16) (i : Fin 2048) (y : Fin 2064) :
    probs X (ix4 b h i y) = Ideal.div (expd X (ix4 b h i y)) (∑ y : Fin 2064, expd X (ix4 b h i y)) := by
  unfold probs
  pointwise
theorem lam_at (lp : FVec Ideal S2x4x128 .f32) (j : S_.Idx) : lam lp j = Online.weight fun i d => lp (ix3 0 i d) := by
  unfold lam
  pointwise
  rfl
theorem first_at (P : FVec Ideal S4x16x2048x2064 .f32) (b : Fin 4) (h : Fin 8) (i : Fin 2048) (y : Fin 2064) :
    first P (ix4 b h i y) = P (ix4 b ⟨h.val * 2, by omega⟩ i y) := by
  unfold first
  pointwise
theorem second_at (P : FVec Ideal S4x16x2048x2064 .f32) (b : Fin 4) (h : Fin 8) (i : Fin 2048) (y : Fin 2064) :
    second P (ix4 b h i y) = P (ix4 b ⟨h.val * 2 + 1, by omega⟩ i y) := by
  unfold second
  pointwise
theorem mix_at (v : FVec Ideal S4x2064x8x256 .f32) (l : FVec Ideal S_ .f32) (P : FVec Ideal S4x16x2048x2064 .f32)
    (b : Fin 4) (i : Fin 2048) (h : Fin 8) (e : Fin 256) :
    mix v l P (ix4 b i h e)
      = ∑ y : Fin 2064, v (ix4 b y h e) * (P (ix4 b ⟨h.val * 2, by omega⟩ i y) - l ix0 * P (ix4 b ⟨h.val * 2 + 1, by omega⟩ i y)) := by
  unfold mix
  pointwise
  exact Finset.sum_congr rfl fun y _ => by rw [first_at, second_at]
theorem normed_at (T : FVec Ideal S4x2048x8x256 .f32) (w : FVec Ideal S2x256 .f32)
    (r : Fin 8192) (c : Fin 2048) (b : Fin 4) (i : Fin 2048) (h : Fin 8) (e : Fin 256)
    (hr : r.val = 2048 * b.val + i.val) (hc : c.val = 256 * h.val + e.val) :
    normed T w (ix2 r c) = Online.norm (fun x => T (ix4 b i h x)) (w (ix2 0 e)) e := by
  unfold normed
  pointwise
  have e1 : (⟨r.val / 2048, by omega⟩ : Fin 4) = b := Fin.ext (by show r.val / 2048 = b.val; omega)
  have e2 : (⟨r.val % 2048, by omega⟩ : Fin 2048) = i := Fin.ext (by show r.val % 2048 = i.val; omega)
  have e3 : (⟨c.val / 256, by omega⟩ : Fin 8) = h := Fin.ext (by show c.val / 256 = h.val; omega)
  have e4 : (⟨c.val % 256, by omega⟩ : Fin 256) = e := Fin.ext (by show c.val % 256 = e.val; omega)
  rw [e1, e2, e3, e4]
  rfl

end Cert.Plain
-- ==== Proof.Equality.lean ====
module

public import proofs.«01_k».proof.Defs
public import proofs.«01_k».proof.Proof.Gen.Pre_finite
public import proofs.«01_k».proof.Proof.Values
public import proofs.«01_k».proof.Proof.Reference
public import Idealize.ShloMosaic.Lib.Pointwise.Select

/-! The kernel's result array is the reference's, for finite arguments. -/

@[expose] public section

set_option maxRecDepth 16384

noncomputable section

namespace Cert.Flash

open Idealize.ShloMosaic Idealize.ShloMosaic.TcCoe Idealize.ShloMosaic.Tactic
open Idealize.ShloMosaic.Pointwise
open Cert.KernelIdeal Cert.KernelIdeal.Gen

/-- A number whose absolute value is less than the bits of infinity is real. -/
theorem real_of_abs_lt (x : EReal) (h : Ideal.cmp .olt (max x (-x)) (Ideal.ofBits .f32 0x7F800000#32) = 1#1) : ∃ r : ℝ, x = ↑r := by
  have hb : Ideal.ofBits .f32 0x7F800000#32 = (⊤ : EReal) := by simp [Ideal.ofBits, Ideal.ieee]
  rw [hb] at h
  have h' := (Ideal.cmp_olt_eq_one _ _).mp h
  refine ⟨x.toReal, (EReal.coe_toReal ?_ ?_).symm⟩
  · rintro rfl
    simp at h'
  · rintro rfl
    simp at h'

/-- An array of reals. -/
def Real' {S : Shape} (x : S.Idx → EReal) : Prop := ∃ f : S.Idx → ℝ, ∀ j, x j = ↑(f j)

theorem real_of {S : Shape} (x : S.Idx → EReal) (h : ∀ j, ∃ r : ℝ, x j = ↑r) : Real' x :=
  ⟨fun j => (h j).choose, fun j => (h j).choose_spec⟩

theorem finite_reals (q k : FVec Ideal Pre_finite.S4x2064x16x128 .f32) (v : FVec Ideal Pre_finite.S4x2064x8x256 .f32) (lp : FVec Ideal Pre_finite.S2x4x128 .f32)
    (w : FVec Ideal Pre_finite.S2x256 .f32)
    (h : (Pre_finite.fn q k v lp w).1 = (fun _ => 1#1) ∧ (Pre_finite.fn q k v lp w).2.1 = (fun _ => 1#1)
      ∧ (Pre_finite.fn q k v lp w).2.2.1 = (fun _ => 1#1) ∧ (Pre_finite.fn q k v lp w).2.2.2 = (fun _ => 1#1)) :
    Real' q ∧ Real' k ∧ Real' v ∧ Real' lp :=
  ⟨real_of _ fun j => real_of_abs_lt _ (congrFun h.1 j), real_of _ fun j => real_of_abs_lt _ (congrFun h.2.1 j),
    real_of _ fun j => real_of_abs_lt _ (congrFun h.2.2.1 j), real_of _ fun j => real_of_abs_lt _ (congrFun h.2.2.2 j)⟩

/-- The reference's result at an index. -/
theorem plain_at (Q K : S4x2064x16x128.Idx → EReal) (V : S4x2064x8x256.Idx → EReal) (LP : S2x4x128.Idx → EReal) (W : S2x256.Idx → EReal)
    (hQ : Real' Q) (hK : Real' K) (hV : Real' V) (hL : Real' LP)
    (r : Fin 8192) (k : Fin 2048) (b : Fin 4) (i : Fin 2048) (h : Fin 8) (e : Fin 256)
    (hr : r.val = 2048 * b.val + i.val) (hk : k.val = 256 * h.val + e.val) :
    Online.norm (fun x =>
          attend (score Q K b i ⟨h.val * 2, by omega⟩) (fun y => V (ix4 b y h x)) (seen i)
          - (Online.weight fun a d => LP (ix3 0 a d))
            * attend (score Q K b i ⟨h.val * 2 + 1, by omega⟩) (fun y => V (ix4 b y h x)) (seen i))
        (W (ix2 0 e)) e
    = Plain.normed (F := Ideal) (Plain.mix V (Plain.lam LP) (Plain.probs (Plain.masked Q K))) W (ix2 r k) := by
  rw [Plain.normed_at _ W r k b i h e hr hk]
  congr 1
  funext x
  obtain ⟨fq, hfq⟩ := hQ
  obtain ⟨fk, hfk⟩ := hK
  obtain ⟨fv, hfv⟩ := hV
  obtain ⟨fl, hfl⟩ := hL
  have hs : ∀ (g : Fin 16), score Q K b i g = fun y => ((∑ d : Fin 128, fq (ix4 b ⟨16 + i.val, by omega⟩ g d) * fk (ix4 b y g d) : ℝ) : EReal) := by
    intro g
    funext y
    rw [Online.coe_sum']
    unfold score
    refine Finset.sum_congr rfl fun d _ => ?_
    rw [hfq, hfk, EReal.coe_mul]
  have hm : ∀ (g : Fin 16) (y : Fin 2064), Plain.masked (F := Ideal) Q K (ix4 b g i y) = if y ∈ seen i then score Q K b i g y else ⊥ := by
    intro g y
    rw [Plain.masked_at]
    unfold seen score
    simp only [Finset.mem_filter, Finset.mem_univ, true_and]
  have hv : (fun y => V (ix4 b y h x)) = fun y => ((fv (ix4 b y h x) : ℝ) : EReal) := funext fun y => hfv _
  obtain ⟨l, hl⟩ := Online.weight_coe fun a d => fl (ix3 0 a d)
  have hw : (Online.weight fun a d => LP (ix3 0 a d)) = ↑l := by
    rw [← hl]
    congr 1
    funext a d
    exact hfl _
  have hne : (seen i).Nonempty := ⟨⟨0, by omega⟩, by simp [seen]⟩
  rw [Plain.mix_at, Plain.lam_at, hw, hv, hs, hs]
  unfold attend
  rw [Online.difference _ _ _ _ _ hne]
  refine Finset.sum_congr rfl fun y _ => ?_
  rw [Plain.probs_at, Plain.probs_at]
  simp only [Plain.expd_at, hm, hs]
  rw [hfv]

/-- The kernel's result array is the reference's. -/
theorem equal (m : (ℓ : Loc nD τ sig) → Buf (Elt Ideal) ℓ) (c : Dev nD)
    (h : Cert.Pre_KernelIdeal_finite m) :
    (dats m 0 c).arrAt 7 cfg0.N
      = Plain.normed (F := Ideal) (Plain.mix (m ((c : Thread nD τ).loc main_arg2)) (Plain.lam (m ((c : Thread nD τ).loc main_arg3)))
          (Plain.probs (Plain.masked (m ((c : Thread nD τ).loc main_arg0)) (m ((c : Thread nD τ).loc main_arg1))))) (m ((c : Thread nD τ).loc main_arg4)) := by
  obtain ⟨hq, hk, hv, hl⟩ := finite_reals _ _ _ _ _ (h c)
  funext (j : S8192x2048.Idx)
  obtain ⟨r, k, rfl⟩ : ∃ (r : Fin 8192) (k : Fin 2048), j = ix2 r k := ⟨j 0, j 1, eq_ix2 j⟩
  have hr := r.isLt
  have hk' := k.isLt
  have e1 : r.val = 2048 * (⟨r.val / 2048, by omega⟩ : Fin 4).val + (⟨r.val % 2048, by omega⟩ : Fin 2048).val := by
    show r.val = 2048 * (r.val / 2048) + r.val % 2048
    omega
  have e2 : k.val = 256 * (⟨k.val / 256, by omega⟩ : Fin 8).val + (⟨k.val % 256, by omega⟩ : Fin 256).val := by
    show k.val = 256 * (k.val / 256) + k.val % 256
    omega
  exact (result_at m c r k _ _ _ _ e1 e2).trans (plain_at _ _ _ _ _ hq hk hv hl r k _ _ _ _ e1 e2)

end Cert.Flash
-- ==== Proof.Layout.lean ====
module

public import Idealize.ShloMosaic.Lib.Pipeline.Value
public import Idealize.ShloMosaic.Lib.Pointwise
public import Idealize.ShloMosaic.PureOps

/-! The rows of the dense calls: every row of the laid-out array is one position of one sequence, and so an entry of the prompt's or of the samples' array. -/

@[expose] public section

set_option maxRecDepth 16384

noncomputable section

namespace Cert.Dense

open Idealize.ShloMosaic Idealize.ShloMosaic.TcCoe Idealize.ShloMosaic.Tactic
open Idealize.ShloMosaic.Pointwise

/-- The prompt's array, the samples' array, and the laid-out array, of width `n`. -/
abbrev Prompt (n : ℕ) : Shape := ⟨3, ![4, 2064, n]⟩
abbrev Sample (n : ℕ) : Shape := ⟨3, ![8, 8, n]⟩
abbrev Flat (n : ℕ) : Shape := ⟨2, ![8320, n]⟩
abbrev Tail (n : ℕ) : Shape := ⟨3, ![4, 2048, n]⟩
abbrev Meta (n : ℕ) : Shape := ⟨3, ![4, 16, n]⟩
abbrev Flat8192 (n : ℕ) : Shape := ⟨2, ![8192, n]⟩
abbrev Flat64 (n : ℕ) : Shape := ⟨2, ![64, n]⟩

section
variable {F : FTy → Type} {n : ℕ}

/-- The laid-out array: the prompt's rows of each sequence, the prefixes of each, the samples. -/
def laid (p : Vec F (Prompt n) .f32) (s : Vec F (Sample n) .f32) (h1 : (Prompt n).Slices ![0, 16, 0] (Tail n)) (h2 : (Tail n).ShapeCasts (Flat8192 n))
    (h3 : (Prompt n).Slices ![0, 0, 0] (Meta n)) (h4 : (Meta n).ShapeCasts (Flat64 n)) (h5 : (Sample n).ShapeCasts (Flat64 n))
    (h6 : Shape.Concatenates [Flat8192 n, Flat64 n, Flat64 n] (Flat n) 0) : Vec F (Flat n) .f32 :=
  concatenate (Flat n) 0 [⟨Flat8192 n, shapeCast (Flat8192 n) (extractStridedSlice (Tail n) ![0, 16, 0] p h1) h2⟩,
    ⟨Flat64 n, shapeCast (Flat64 n) (extractStridedSlice (Meta n) ![0, 0, 0] p h3) h4⟩, ⟨Flat64 n, shapeCast (Flat64 n) s h5⟩] h6

/-- A row's place: a sequence and a position of the prompt, or a sequence and a position of the samples. -/
def place (r : Fin 8320) : (Fin 4 × Fin 2064) ⊕ (Fin 8 × Fin 8) :=
  if h : r.val < 8192 then .inl (⟨r.val / 2048, by omega⟩, ⟨16 + r.val % 2048, by omega⟩)
  else if h' : r.val < 8256 then .inl (⟨(r.val - 8192) / 16, by omega⟩, ⟨(r.val - 8192) % 16, by omega⟩)
  else .inr (⟨(r.val - 8256) / 8, by omega⟩, ⟨(r.val - 8256) % 8, by omega⟩)

/-- The entry at a place. -/
def entry {α : Type} (p : (Prompt n).Idx → α) (s : (Sample n).Idx → α) (x : (Fin 4 × Fin 2064) ⊕ (Fin 8 × Fin 8)) (k : Fin n) : α :=
  x.elim (fun y => p (ix3 y.1 y.2 k)) (fun y => s (ix3 y.1 y.2 k))

theorem mid (a b c d n : ℕ) : a * (c * n) + b * n + d = (a * c + b) * n + d := by ring

theorem laid_at (p : Vec F (Prompt n) .f32) (s : Vec F (Sample n) .f32) (h1 : (Prompt n).Slices ![0, 16, 0] (Tail n)) (h2 : (Tail n).ShapeCasts (Flat8192 n))
    (h3 : (Prompt n).Slices ![0, 0, 0] (Meta n)) (h4 : (Meta n).ShapeCasts (Flat64 n)) (h5 : (Sample n).ShapeCasts (Flat64 n))
    (h6 : Shape.Concatenates [Flat8192 n, Flat64 n, Flat64 n] (Flat n) 0) (r : Fin 8320) (k : Fin n) :
    laid p s h1 h2 h3 h4 h5 h6 (ix2 r k) = entry p s (place r) k := by
  unfold laid place
  split
  · next h =>
    refine (concatenate_apply_piece (t := Flat n) 0 _ _ _ 0 (by show 0 < 3; decide) (Flat8192 n) _ rfl rfl 0 rfl (ix2 ⟨r.val, h⟩ k) ?_ ?_).trans ?_
    · intro a ha
      match a with
      | ⟨0, _⟩ => exact absurd rfl ha
      | ⟨1, _⟩ => rfl
    · show 0 + r.val = r.val
      omega
    · rw [Pointwise.shapeCast_apply]
      refine (congrArg _ (Shape.reshapeEquiv_eq_of_vals _ _ (ix3 ⟨r.val / 2048, by omega⟩ ⟨r.val % 2048, by omega⟩ k) (r.val / 2048 * (2048 * n) + r.val % 2048 * n + k.val) (r.val * n + k.val) ?_ ?_ ?_)).trans ?_
      · exact rowMajor_val3 (ix3 (⟨r.val / 2048, by omega⟩ : Fin 4) (⟨r.val % 2048, by omega⟩ : Fin 2048) k) (2048 * n) n rfl rfl
      · exact rowMajor_val2 _ n rfl
      · rw [mid, Nat.div_add_mod']
      · refine congrArg p (funext fun a => Fin.ext ?_)
        match a with
        | ⟨0, _⟩ => show 0 + r.val / 2048 = r.val / 2048; omega
        | ⟨1, _⟩ => rfl
        | ⟨2, _⟩ => show 0 + k.val = k.val; omega
  · next h =>
    split
    · next h' =>
      refine (concatenate_apply_piece (t := Flat n) 0 _ _ _ 1 (by show 1 < 3; decide) (Flat64 n) _ rfl rfl 8192 rfl (ix2 ⟨r.val - 8192, by omega⟩ k) ?_ ?_).trans ?_
      · intro a ha
        match a with
        | ⟨0, _⟩ => exact absurd rfl ha
        | ⟨1, _⟩ => rfl
      · show 8192 + (r.val - 8192) = r.val
        omega
      · rw [Pointwise.shapeCast_apply]
        refine (congrArg _ (Shape.reshapeEquiv_eq_of_vals _ _ (ix3 ⟨(r.val - 8192) / 16, by omega⟩ ⟨(r.val - 8192) % 16, by omega⟩ k) ((r.val - 8192) / 16 * (16 * n) + (r.val - 8192) % 16 * n + k.val) ((r.val - 8192) * n + k.val) ?_ ?_ ?_)).trans ?_
        · exact rowMajor_val3 (ix3 (⟨(r.val - 8192) / 16, by omega⟩ : Fin 4) (⟨(r.val - 8192) % 16, by omega⟩ : Fin 16) k) (16 * n) n rfl rfl
        · exact rowMajor_val2 _ n rfl
        · rw [mid, Nat.div_add_mod']
        · refine congrArg p (funext fun a => Fin.ext ?_)
          match a with
          | ⟨0, _⟩ => show 0 + (r.val - 8192) / 16 = (r.val - 8192) / 16; omega
          | ⟨1, _⟩ => show 0 + (r.val - 8192) % 16 = (r.val - 8192) % 16; omega
          | ⟨2, _⟩ => show 0 + k.val = k.val; omega
    · next h' =>
      refine (concatenate_apply_piece (t := Flat n) 0 _ _ _ 2 (by show 2 < 3; decide) (Flat64 n) _ rfl rfl 8256 rfl (ix2 ⟨r.val - 8256, by omega⟩ k) ?_ ?_).trans ?_
      · intro a ha
        match a with
        | ⟨0, _⟩ => exact absurd rfl ha
        | ⟨1, _⟩ => rfl
      · show 8256 + (r.val - 8256) = r.val
        omega
      · rw [Pointwise.shapeCast_apply]
        refine congrArg _ (Shape.reshapeEquiv_eq_of_vals _ _ (ix3 ⟨(r.val - 8256) / 8, by omega⟩ ⟨(r.val - 8256) % 8, by omega⟩ k) ((r.val - 8256) / 8 * (8 * n) + (r.val - 8256) % 8 * n + k.val) ((r.val - 8256) * n + k.val) ?_ ?_ ?_)
        · exact rowMajor_val3 (ix3 (⟨(r.val - 8256) / 8, by omega⟩ : Fin 8) (⟨(r.val - 8256) % 8, by omega⟩ : Fin 8) k) (8 * n) n rfl rfl
        · exact rowMajor_val2 _ n rfl
        · rw [mid, Nat.div_add_mod']
end

/-- A product's entry: the sum over the inner dimension, at a place. -/
theorem entry_sum {n d : ℕ} (p : (Prompt n).Idx → EReal) (s : (Sample n).Idx → EReal) (w : Fin n → Fin d → EReal)
    (P : (Prompt d).Idx → EReal) (S : (Sample d).Idx → EReal)
    (hP : ∀ b t e, P (ix3 b t e) = ∑ k, p (ix3 b t k) * w k e) (hS : ∀ b t e, S (ix3 b t e) = ∑ k, s (ix3 b t k) * w k e)
    (x : (Fin 4 × Fin 2064) ⊕ (Fin 8 × Fin 8)) (e : Fin d) : entry P S x e = ∑ k, entry p s x k * w k e := by
  match x with
  | .inl y => exact hP _ _ _
  | .inr y => exact hS _ _ _

end Cert.Dense
-- ==== Proof.DenseValues.lean ====
module

public import proofs.«01_k».proof.Proof.Gen.ValuesIdeal.Value
public import proofs.«01_k».proof.Proof.Gen.PlainValuesIdeal.Run
public import proofs.«01_k».proof.Proof.Layout
public import Idealize.ShloMosaic.Lib.Pipeline.ValueKit

/-! The dense call `Values`: its result array is, entry by entry, the product that the reference writes. -/

@[expose] public section

set_option maxRecDepth 16384

noncomputable section

namespace Cert.Dense.Values

open Idealize.ShloMosaic Idealize.ShloMosaic.TcCoe Idealize.ShloMosaic.Tactic
open Idealize.ShloMosaic.Pointwise
open Cert.ValuesIdeal Cert.ValuesIdeal.Gen

section Case
variable {F : FTy → Type} [FloatOps F] (c : Dev nD) (i : grid0.Coords)
  (arg2 : Memref sig .tc .vmem S1040x2048 .bf16) (harg2 : arg2.IsWhole) (arg3 : Memref sig .tc .vmem S2048x1024 .f32) (harg3 : arg3.IsWhole)
  (arg4 : Memref sig .tc .vmem S1040x1024 .f32) (harg4 : arg4.IsWhole) (arg5 : Memref sig .tc .vmem S2048x1024 .bf16) (harg5 : arg5.IsWhole)
  (x0 : Vec F S1040x2048 .bf16) (x1 : Vec F S2048x1024 .f32) (xs : Vec F S2048x1024 .bf16)

/-- The first point of a block of columns keeps the block's weights, and every point multiplies by the kept ones. -/
theorem keptA (hc0 : cond0_0 i) : sout0_A_0 c i arg2 harg2 arg3 harg3 arg4 harg4 arg5 harg5 hc0 x0 x1 = k0_pay1 x1 := by
  unfold sout0_A_0 kernelRun0_A
  dsimp only
  rw [View.read_writes_junk_eq_canon]
  unfold kernelRun0_A.sl.HS0_1
  rw [View.readAt_eq_ld, harg3.read_unread, View.ld_unit_lit' _ _ (by decide)]
  exact View.canon_cons_unit_lit' _ _ _ (by decide)
theorem outA (hc0 : cond0_0 i) : out0_A_2 c i arg2 harg2 arg3 harg3 arg4 harg4 arg5 harg5 hc0 x0 x1 = k0_pay2 x0 (k0_pay1 x1) := by
  unfold out0_A_2 kernelRun0_A
  dsimp only
  rw [View.read_writes_junk_eq_canon]
  rw [View.readAt_eq_ld, harg2.read_unread, View.ld_unit_lit' _ _ (by decide)]
  rw [View.canon_cons_unit_lit' _ _ _ (by decide)]
  unfold kernelRun0_A.sl.v5 kernelRun0_A.sl.HS0_1
  rw [View.readAt_eq_ld, harg3.read_unread, View.ld_unit_lit' _ _ (by decide), View.readCov_unit_lit' _ _ _ (by decide)]
theorem outB (hc0 : ¬cond0_0 i) : out0_B_2 c i arg2 harg2 arg3 harg3 arg4 harg4 arg5 harg5 hc0 x0 x1 xs = k0_pay2 x0 xs := by
  unfold out0_B_2 kernelRun0_B
  dsimp only
  rw [View.read_writes_junk_eq_canon]
  rw [View.readAt_eq_ld, harg2.read_unread, View.ld_unit_lit' _ _ (by decide), View.readAt_eq_ld, harg5.read_unread, View.ld_unit_lit' _ _ (by decide)]
  exact View.canon_cons_unit_lit' _ _ _ (by decide)
end Case

section Any
variable {F : FTy → Type} [FloatOps F] (m : (ℓ : Loc nD τ sig) → Buf (Elt F) ℓ)

theorem start_lt {n : ℕ} (hn : n < cfg0.N) : n / 8 * 8 < cfg0.N := Nat.lt_of_le_of_lt (Nat.div_mul_le_self n 8) hn

theorem first_start {n : ℕ} (h : n % 8 = 0) : n / 8 * 8 = n := by omega
theorem next_start {n : ℕ} (h : ¬(n + 1) % 8 = 0) : (n + 1) / 8 * 8 = n / 8 * 8 := by omega
theorem first_point {n : ℕ} (hn : n < cfg0.N) (h : n % 8 = 0) : (⟨n / 8 * 8, start_lt hn⟩ : Fin cfg0.N) = ⟨n, hn⟩ := Fin.ext (first_start h)
theorem next_point {n : ℕ} (hn : n + 1 < cfg0.N) (h : ¬(n + 1) % 8 = 0) :
    (⟨(n + 1) / 8 * 8, start_lt hn⟩ : Fin cfg0.N) = ⟨n / 8 * 8, start_lt (Nat.lt_of_succ_lt hn)⟩ := Fin.ext (next_start h)

theorem state_first (c : Dev nD) (t : Fin cfg0.N) (h : t.val % 8 = 0) :
    outsAt0 m c t.val t.isLt = (k0_pay2 (iblk m c 0 t) (k0_pay1 (iblk m c 1 t)), k0_pay1 (iblk m c 1 t)) := by
  rw [outsAt0_A m c t h, outA, keptA]
theorem state_next (c : Dev nD) (t : Fin cfg0.N) (h : ¬t.val % 8 = 0) :
    outsAt0 m c t.val t.isLt = (k0_pay2 (iblk m c 0 t) (outsAt0 m c (t.val - 1) (Nat.lt_of_le_of_lt (Nat.sub_le _ _) t.isLt)).2,
      (outsAt0 m c (t.val - 1) (Nat.lt_of_le_of_lt (Nat.sub_le _ _) t.isLt)).2) := by
  rw [outsAt0_B m c t h, outB]
  rfl

theorem state (c : Dev nD) (n : ℕ) (hn : n < cfg0.N) :
    outsAt0 m c n hn = (k0_pay2 (iblk m c 0 ⟨n, hn⟩) (k0_pay1 (iblk m c 1 ⟨n / 8 * 8, start_lt hn⟩)), k0_pay1 (iblk m c 1 ⟨n / 8 * 8, start_lt hn⟩)) := by
  induction n with
  | zero => exact state_first m c ⟨0, hn⟩ rfl
  | succ n ih =>
    by_cases h : (n + 1) % 8 = 0
    · rw [first_point hn h]
      exact state_first m c ⟨n + 1, hn⟩ h
    · rw [next_point hn h]
      have e := state_next m c ⟨n + 1, hn⟩ h
      have e' : (outsAt0 m c (n + 1 - 1) (Nat.lt_of_le_of_lt (Nat.sub_le _ _) hn)).2 = _ := congrArg Prod.snd (ih (Nat.lt_of_succ_lt hn))
      refine e.trans ?_
      rw [e']

theorem index0 : ∀ t : Fin cfg0.N, cc0_transform_0 (grid0.coords t) = ![t.val % 8, 0] :=
  (by decide +kernel : ∀ t : Fin grid0.N, cc0_transform_0 (grid0.coords t) = ![t.val % 8, 0])
theorem index1 : ∀ t : Fin cfg0.N, cc0_transform_1 (grid0.coords t) = ![0, t.val / 8] :=
  (by decide +kernel : ∀ t : Fin grid0.N, cc0_transform_1 (grid0.coords t) = ![0, t.val / 8])
theorem index2 : ∀ t : Fin cfg0.N, cc0_transform_2 (grid0.coords t) = ![t.val % 8, t.val / 8] :=
  (by decide +kernel : ∀ t : Fin grid0.N, cc0_transform_2 (grid0.coords t) = ![t.val % 8, t.val / 8])

theorem block0 (c : Dev nD) (t : Fin cfg0.N) (j : S1040x2048.Idx) (r : Fin 8320) (hr : r.val = t.val % 8 * 1040 + (j 0).val) :
    iblk m c 0 t j = V m c main_v6 (ix2 r (j 1)) := by
  show V m c main_v6 _ = _
  refine congrArg _ (funext fun a => Fin.ext ?_)
  match a with
  | ⟨0, _⟩ =>
    show cc0_transform_0 (grid0.coords t) 0 * 1040 + 1 * (j 0).val = r.val
    rw [index0 t, hr, Nat.one_mul]
    rfl
  | ⟨1, _⟩ =>
    show cc0_transform_0 (grid0.coords t) 1 * 2048 + 1 * (j 1).val = (j 1).val
    rw [index0 t, Nat.one_mul]
    exact Nat.zero_add _
theorem block1 (c : Dev nD) (t : Fin cfg0.N) (k : Fin 2048) (x : Fin 1024) (e : Fin 2048) (he : e.val = (t.val / 8) * 1024 + x.val) :
    iblk m c 1 t (ix2 k x) = m ((c : Thread nD τ).loc main_arg2) (ix2 k e) := by
  show V m c main_arg2 _ = _
  rw [V_main_arg2]
  refine congrArg _ (funext fun b => Fin.ext ?_)
  match b with
  | ⟨0, _⟩ =>
    show cc0_transform_1 (grid0.coords t) 0 * 2048 + 1 * k.val = k.val
    rw [index1 t, Nat.one_mul]
    exact Nat.zero_add _
  | ⟨1, _⟩ =>
    show cc0_transform_1 (grid0.coords t) 1 * 1024 + 1 * x.val = e.val
    rw [index1 t, he, Nat.one_mul]
    rfl

/-- The rows that the host code lays out. -/
theorem V6 (c : Dev nD) : V m c main_v6 = truncf .bf16 (laid (n := 2048) (m ((c : Thread nD τ).loc main_arg0)) (m ((c : Thread nD τ).loc main_arg1))
    slices_S4x2064x2048_S4x2048x2048_0_16_0 shapeCasts_S4x2048x2048_S8192x2048 slices_S4x2064x2048_S4x16x2048_0_0_0 shapeCasts_S4x16x2048_S64x2048
    shapeCasts_S8x8x2048_S64x2048 concatenates_S8192x2048_S64x2048_S64x2048_S8320x2048_d0) bitsLt_bf16_f32 := by
  show StableHlo.after hostOps0 _ _ = _
  rw [hostOps0]
  after_results_simp
  rfl

/-- The result array at an index of point `t`'s block. -/
theorem result_block (c : Dev nD) (t : Fin cfg0.N) (x : Fin 1040) (y : Fin 1024) (r : Fin 8320) (e : Fin 2048)
    (hr : r.val = t.val % 8 * 1040 + x.val) (he : e.val = t.val / 8 * 1024 + y.val) :
    (dats m 0 c).arrAt 2 cfg0.N (ix2 r e) = (outsAt0 m c t.val t.isLt).1 (ix2 x y) := by
  have h := congrFun ((Cert.ValuesIdeal.Value.blocks2 m c t (flush0_2 t)).trans (Cert.ValuesIdeal.Value.flushed2 m c t)) (ix2 x y)
  refine Eq.trans ?_ h
  show _ = (dats m 0 c).arrAt 2 cfg0.N _
  refine congrArg _ (funext fun a => Fin.ext ?_)
  match a with
  | ⟨0, _⟩ =>
    show r.val = cc0_transform_2 (grid0.coords t) 0 * 1040 + 1 * x.val
    rw [index2 t, hr, Nat.one_mul]
    rfl
  | ⟨1, _⟩ =>
    show e.val = cc0_transform_2 (grid0.coords t) 1 * 1024 + 1 * y.val
    rw [index2 t, he, Nat.one_mul]
    rfl
end Any

theorem product_at (x : S1040x2048.Idx → EReal) (w : S2048x1024.Idx → EReal) (r : Fin 1040) (x' : Fin 1024) :
    k0_pay2 (F := Ideal) x (k0_pay1 (F := Ideal) w) (ix2 r x') = ∑ k : Fin 2048, x (ix2 r k) * w (ix2 k x') := by
  unfold k0_pay2 k0_pay1
  pointwise

variable (m : (ℓ : Loc nD τ sig) → Buf (Elt Ideal) ℓ)

abbrev argP (c : Dev nD) : (Prompt 2048).Idx → EReal := m ((c : Thread nD τ).loc main_arg0)
abbrev argS (c : Dev nD) : (Sample 2048).Idx → EReal := m ((c : Thread nD τ).loc main_arg1)
abbrev argW (c : Dev nD) : S2048x2048.Idx → EReal := m ((c : Thread nD τ).loc main_arg2)

theorem rows_at (c : Dev nD) (r : Fin 8320) (k : Fin 2048) : V m c main_v6 (ix2 r k) = entry (argP m c) (argS m c) (place r) k := by
  rw [V6]
  exact laid_at (F := Ideal) (n := 2048) (argP m c) (argS m c) slices_S4x2064x2048_S4x2048x2048_0_16_0 shapeCasts_S4x2048x2048_S8192x2048 slices_S4x2064x2048_S4x16x2048_0_0_0 shapeCasts_S4x16x2048_S64x2048
    shapeCasts_S8x8x2048_S64x2048 concatenates_S8192x2048_S64x2048_S64x2048_S8320x2048_d0 r k

theorem result_at (c : Dev nD) (r : Fin 8320) (e : Fin 2048) :
    (dats m 0 c).arrAt 2 cfg0.N (ix2 r e) = ∑ k : Fin 2048, entry (argP m c) (argS m c) (place r) k * argW m c (ix2 k e) := by
  have ht : 8 * (e.val / 1024) + r.val / 1040 < cfg0.N := Nat.lt_of_lt_of_eq (by omega) N_0.symm
  have h1 : (8 * (e.val / 1024) + r.val / 1040) % 8 = r.val / 1040 := by omega
  have h2 : (8 * (e.val / 1024) + r.val / 1040) / 8 = e.val / 1024 := by omega
  have h3 : (8 * (e.val / 1024) + r.val / 1040) / 8 * 8 / 8 = e.val / 1024 := by omega
  rw [result_block m c ⟨8 * (e.val / 1024) + r.val / 1040, ht⟩ ⟨r.val % 1040, by omega⟩ ⟨e.val % 1024, by omega⟩ r e
    (by show r.val = (8 * (e.val / 1024) + r.val / 1040) % 8 * 1040 + r.val % 1040; omega)
    (by show e.val = (8 * (e.val / 1024) + r.val / 1040) / 8 * 1024 + e.val % 1024; omega), state]
  refine (product_at _ _ _ _).trans (Finset.sum_congr rfl fun k _ => ?_)
  have hx : iblk m c 0 ⟨8 * (e.val / 1024) + r.val / 1040, ht⟩ (ix2 (⟨r.val % 1040, by omega⟩ : Fin 1040) k) = entry (argP m c) (argS m c) (place r) k :=
    (block0 m c _ _ r (by show r.val = (8 * (e.val / 1024) + r.val / 1040) % 8 * 1040 + r.val % 1040; omega)).trans (rows_at m c r k)
  have hw : iblk m c 1 ⟨(8 * (e.val / 1024) + r.val / 1040) / 8 * 8, start_lt ht⟩ (ix2 k (⟨e.val % 1024, by omega⟩ : Fin 1024)) = argW m c (ix2 k e) :=
    block1 m c _ k (⟨e.val % 1024, by omega⟩ : Fin 1024) _ (by show e.val = (((8 * (e.val / 1024) + r.val / 1040) / 8 * 8) / 8) * 1024 + e.val % 1024; omega)
  exact congrArg₂ (fun a b : EReal => a * b) hx hw

end Cert.Dense.Values

namespace Cert.Dense.PlainValues

open Idealize.ShloMosaic Idealize.ShloMosaic.TcCoe Idealize.ShloMosaic.Tactic
open Idealize.ShloMosaic.Pointwise
open Cert.PlainValuesIdeal Cert.PlainValuesIdeal.Gen

section
variable {F : FTy → Type} [FloatOps F]
/-- The reference's matrix, its two products, and its result. -/
def matrix (w : FVec F S2048x2048 .f32) : FVec F S2048x2048 .f32 := w
def prompt (p : FVec F S4x2064x2048 .f32) (w : FVec F S2048x2048 .f32) : FVec F S4x2064x2048 .f32 :=
  Host.dotGeneral dot_S4x2064x2048_S2048x2048_S4x2064x2048_2_0_01_1_n_n none p (matrix w)
def samples (s : FVec F S8x8x2048 .f32) (w : FVec F S2048x2048 .f32) : FVec F S8x8x2048 .f32 :=
  Host.dotGeneral dot_S8x8x2048_S2048x2048_S8x8x2048_2_0_01_1_n_n none s (matrix w)
def result (p : FVec F S4x2064x2048 .f32) (s : FVec F S8x8x2048 .f32) (w : FVec F S2048x2048 .f32) : FVec F S8320x2048 .f32 :=
  laid (n := 2048) (prompt p w) (samples s w) slices_S4x2064x2048_S4x2048x2048_0_16_0 shapeCasts_S4x2048x2048_S8192x2048 slices_S4x2064x2048_S4x16x2048_0_0_0
    shapeCasts_S4x16x2048_S64x2048 shapeCasts_S8x8x2048_S64x2048 concatenates_S8192x2048_S64x2048_S64x2048_S8320x2048_d0
end

variable (p : S4x2064x2048.Idx → EReal) (s : S8x8x2048.Idx → EReal) (w : S2048x2048.Idx → EReal)

theorem prompt_at (b : Fin 4) (t : Fin 2064) (e : Fin 2048) : prompt (F := Ideal) p w (ix3 b t e) = ∑ k : Fin 2048, p (ix3 b t k) * w (ix2 k e) := by
  unfold prompt matrix
  pointwise
theorem samples_at (b : Fin 8) (t : Fin 8) (e : Fin 2048) : samples (F := Ideal) s w (ix3 b t e) = ∑ k : Fin 2048, s (ix3 b t k) * w (ix2 k e) := by
  unfold samples matrix
  pointwise

theorem result_at (r : Fin 8320) (e : Fin 2048) : result (F := Ideal) p s w (ix2 r e) = ∑ k : Fin 2048, entry p s (place r) k * w (ix2 k e) :=
  (laid_at _ _ _ _ _ _ _ _ r e).trans
    (entry_sum p s (fun k e => w (ix2 k e)) _ _ (prompt_at p w) (samples_at s w) (place r) e)

end Cert.Dense.PlainValues

namespace Cert.Dense.Values

open Idealize.ShloMosaic Idealize.ShloMosaic.TcCoe Idealize.SL.Sem
open Idealize.ShloMosaic.Pointwise
open Cert.ValuesIdeal Cert.ValuesIdeal.Gen

theorem equal (m : (ℓ : Loc nD τ sig) → Buf (Elt Ideal) ℓ) (c : Dev nD) :
    (dats m 0 c).arrAt 2 cfg0.N = PlainValues.result (F := Ideal) (argP m c) (argS m c) (argW m c) := by
  funext j
  refine (congrArg _ (eq_ix2 j)).trans (Eq.trans ?_ (congrArg _ (eq_ix2 j).symm))
  exact (result_at m c (j 0) (j 1)).trans (PlainValues.result_at (argP m c) (argS m c) (argW m c) (j 0) (j 1)).symm

/-- The reference ends as its run says. -/
theorem plain_run (m : (ℓ : Loc Cert.PlainValuesIdeal.nD Cert.PlainValuesIdeal.τ Cert.PlainValuesIdeal.sig) → Buf (Elt Ideal) ℓ) (ρ : Dev Cert.PlainValuesIdeal.nD → PrngReg) :
    θ_run Cert.PlainValuesIdeal.defs (onTc (τ := Cert.PlainValuesIdeal.τ) (Cert.PlainValuesIdeal.main (F := Ideal))) ⟨m, fun _ => 0, ρ⟩ fun r => ∀ c : Dev Cert.PlainValuesIdeal.nD,
      r.2.mem ((c.tc : Thread Cert.PlainValuesIdeal.nD Cert.PlainValuesIdeal.τ).loc Cert.PlainValuesIdeal.main_v7)
        = PlainValues.result (F := Ideal) (m ((c.tc : Thread Cert.PlainValuesIdeal.nD Cert.PlainValuesIdeal.τ).loc Cert.PlainValuesIdeal.main_arg0))
          (m ((c.tc : Thread Cert.PlainValuesIdeal.nD Cert.PlainValuesIdeal.τ).loc Cert.PlainValuesIdeal.main_arg1))
          (m ((c.tc : Thread Cert.PlainValuesIdeal.nD Cert.PlainValuesIdeal.τ).loc Cert.PlainValuesIdeal.main_arg2))
      ∧ r.2.mem ((c.tc : Thread Cert.PlainValuesIdeal.nD Cert.PlainValuesIdeal.τ).loc Cert.PlainValuesIdeal.main_arg0) = m ((c.tc : Thread Cert.PlainValuesIdeal.nD Cert.PlainValuesIdeal.τ).loc Cert.PlainValuesIdeal.main_arg0)
      ∧ r.2.mem ((c.tc : Thread Cert.PlainValuesIdeal.nD Cert.PlainValuesIdeal.τ).loc Cert.PlainValuesIdeal.main_arg1) = m ((c.tc : Thread Cert.PlainValuesIdeal.nD Cert.PlainValuesIdeal.τ).loc Cert.PlainValuesIdeal.main_arg1)
      ∧ r.2.mem ((c.tc : Thread Cert.PlainValuesIdeal.nD Cert.PlainValuesIdeal.τ).loc Cert.PlainValuesIdeal.main_arg2) = m ((c.tc : Thread Cert.PlainValuesIdeal.nD Cert.PlainValuesIdeal.τ).loc Cert.PlainValuesIdeal.main_arg2) :=
  Cert.PlainValuesIdeal.Value.run (F := Ideal) m ρ

end Cert.Dense.Values
-- ==== Proof.Rope.lean ====
module

public import proofs.«01_k».proof.Proof.Layout
public import Idealize.ShloMosaic.Lib.Pipeline.ValueKit

/-! The rotary embedding of the keys' and queries' calls: the kernel's tables and its tile, and the reference's heads, all read at an entry as one formula. -/

@[expose] public section

set_option maxRecDepth 16384

noncomputable section

namespace Cert.Dense

open Idealize.ShloMosaic Idealize.ShloMosaic.TcCoe Idealize.ShloMosaic.Tactic
open Idealize.ShloMosaic.Pointwise

abbrev Tile : Shape := ⟨2, ![1040, 1024]⟩
abbrev Lane : Shape := ⟨2, ![1040, 128]⟩
abbrev Scalar0 : Shape := ⟨0, ![]⟩
abbrev Line (n : ℕ) : Shape := ⟨1, ![n]⟩
abbrev Grid (a b : ℕ) : Shape := ⟨2, ![a, b]⟩
abbrev Cube (a b c : ℕ) : Shape := ⟨3, ![a, b, c]⟩
abbrev Four (a b c d : ℕ) : Shape := ⟨4, ![a, b, c, d]⟩

/-- Cosine and sine of the host, and a position as a number. -/
def cosE (x : EReal) : EReal := FloatOps.hostUnary (F := Ideal) (φ := .f32) .cos x
def sinE (x : EReal) : EReal := FloatOps.hostUnary (F := Ideal) (φ := .f32) .sin x
def posE (x : BitVec 32) : EReal := FloatOps.sitofp (F := Ideal) .f32 x

section
variable {F : FTy → Type} [FloatOps F]

/-- One group of 128 columns of the tile, rotated and scaled. -/
def turned (o : ℕ) (h : Tile.Slices ![0, o] Lane) (hr : Lane.Rotates 1 none) (acc : FVec F Tile .f32) (cos sin : FVec F Lane .f32) (s : F .f32) : FVec F Lane .f32 :=
  mulf (addf (mulf (extractStridedSlice Lane ![0, o] acc h) cos) (mulf (dynamicRotate 1 64#32 none (extractStridedSlice Lane ![0, o] acc h) hr) sin)) (broadcast Lane s)
/-- The frequencies. -/
def frequencies (h0 h1 : Scalar0.BroadcastsInDim (Line 64) (![] : Fin 0 → Fin 1)) : FVec F (Line 64) .f32 :=
  Host.powf (broadcastInDim (Line 64) ![] h0 (constant Scalar0 .f32 0x461C4000#32))
    (Host.divf (Host.negf (sitofp .f32 (iotaInDim (Line 64) 32 0))) (broadcastInDim (Line 64) ![] h1 (constant Scalar0 .f32 0x42800000#32)))
/-- The angles of some positions. -/
def angles {n : ℕ} (pos : IVec (Line n) 32) (f : FVec F (Line 64) .f32) (h1 : (Line n).BroadcastsInDim (Grid n 1) (![0] : Fin 1 → Fin 2))
    (h2 : (Line 64).BroadcastsInDim (Grid 1 64) (![1] : Fin 1 → Fin 2)) (h3 : (Grid n 1).BroadcastsInDim (Grid n 64) (![0, 1] : Fin 2 → Fin 2))
    (h4 : (Grid 1 64).BroadcastsInDim (Grid n 64) (![0, 1] : Fin 2 → Fin 2)) : FVec F (Grid n 64) .f32 :=
  mulf (broadcastInDim (Grid n 64) ![0, 1] h3 (broadcastInDim (Grid n 1) ![0] h1 (sitofp .f32 pos)))
    (broadcastInDim (Grid n 64) ![0, 1] h4 (broadcastInDim (Grid 1 64) ![1] h2 f))
/-- Two tables of 64 columns side by side. -/
def beside {n : ℕ} (a b : FVec F (Grid n 64) .f32) (h : Shape.Concatenates [Grid n 64, Grid n 64] (Grid n 128) 1) : FVec F (Grid n 128) .f32 :=
  concatenate (Grid n 128) 1 [⟨Grid n 64, a⟩, ⟨Grid n 64, b⟩] h
/-- The positions of the laid-out rows. -/
def positions (h1 : Scalar0.BroadcastsInDim (Line 2048) (![] : Fin 0 → Fin 1)) (h2 : (Line 2048).ShapeCasts (Grid 1 2048))
    (h3 : (Grid 1 2048).BroadcastsInDim (Grid 4 2048) (![0, 1] : Fin 2 → Fin 2)) (h4 : (Grid 4 2048).ShapeCasts (Line 8192))
    (h5 : (Line 16).ShapeCasts (Grid 1 16)) (h6 : (Grid 1 16).BroadcastsInDim (Grid 4 16) (![0, 1] : Fin 2 → Fin 2)) (h7 : (Grid 4 16).ShapeCasts (Line 64))
    (h8 : Scalar0.BroadcastsInDim (Line 8) (![] : Fin 0 → Fin 1)) (h9 : (Line 8).ShapeCasts (Grid 1 8))
    (h10 : (Grid 1 8).BroadcastsInDim (Grid 8 8) (![0, 1] : Fin 2 → Fin 2)) (h11 : (Grid 8 8).ShapeCasts (Line 64))
    (h12 : Shape.Concatenates [Line 8192, Line 64, Line 64] (Line 8320) 0) : IVec (Line 8320) 32 :=
  concatenate (Line 8320) 0
    [⟨Line 8192, shapeCast (Line 8192) (broadcastInDim (Grid 4 2048) ![0, 1] h3 (shapeCast (Grid 1 2048)
        (addi (broadcastInDim (Line 2048) ![] h1 (constantI Scalar0 32 16#32)) (iotaInDim (Line 2048) 32 0)) h2)) h4⟩,
      ⟨Line 64, shapeCast (Line 64) (broadcastInDim (Grid 4 16) ![0, 1] h6 (shapeCast (Grid 1 16) (iotaInDim (Line 16) 32 0) h5)) h7⟩,
      ⟨Line 64, shapeCast (Line 64) (broadcastInDim (Grid 8 8) ![0, 1] h10 (shapeCast (Grid 1 8)
        (addi (broadcastInDim (Line 8) ![] h8 (constantI Scalar0 32 16384#32)) (iotaInDim (Line 8) 32 0)) h9)) h11⟩] h12
/-- The reference's rotated heads of `a` sequences of `b` positions. -/
def heads {a b : ℕ} (x : FVec F (Cube a b 2048) .f32) (ang : FVec F (Grid b 64) .f32) (h1 : (Cube a b 2048).ShapeCasts (Four a b 16 128))
    (h2 : (Four a b 16 128).Slices ![0, 0, 0, 0] (Four a b 16 64)) (h3 : (Four a b 16 128).Slices ![0, 0, 0, 64] (Four a b 16 64))
    (h4 : (Grid b 64).BroadcastsInDim (Four 1 b 1 64) (![1, 3] : Fin 2 → Fin 4))
    (h5 : (Four 1 b 1 64).BroadcastsInDim (Four a b 16 64) (![0, 1, 2, 3] : Fin 4 → Fin 4))
    (h6 : Shape.Concatenates [Four a b 16 64, Four a b 16 64] (Four a b 16 128) 3) : FVec F (Four a b 16 128) .f32 :=
  concatenate (Four a b 16 128) 3
    [⟨Four a b 16 64, subf (mulf (extractStridedSlice (Four a b 16 64) ![0, 0, 0, 0] (shapeCast (Four a b 16 128) x h1) h2)
          (broadcastInDim (Four a b 16 64) ![0, 1, 2, 3] h5 (broadcastInDim (Four 1 b 1 64) ![1, 3] h4 (Host.cos ang))))
        (mulf (extractStridedSlice (Four a b 16 64) ![0, 0, 0, 64] (shapeCast (Four a b 16 128) x h1) h3)
          (broadcastInDim (Four a b 16 64) ![0, 1, 2, 3] h5 (broadcastInDim (Four 1 b 1 64) ![1, 3] h4 (Host.sin ang))))⟩,
      ⟨Four a b 16 64, addf (mulf (extractStridedSlice (Four a b 16 64) ![0, 0, 0, 64] (shapeCast (Four a b 16 128) x h1) h3)
          (broadcastInDim (Four a b 16 64) ![0, 1, 2, 3] h5 (broadcastInDim (Four 1 b 1 64) ![1, 3] h4 (Host.cos ang))))
        (mulf (extractStridedSlice (Four a b 16 64) ![0, 0, 0, 0] (shapeCast (Four a b 16 128) x h1) h2)
          (broadcastInDim (Four a b 16 64) ![0, 1, 2, 3] h5 (broadcastInDim (Four 1 b 1 64) ![1, 3] h4 (Host.sin ang))))⟩] h6
end

/-- The column that a column is turned with. -/
def partner (e : Fin 2048) : Fin 2048 := ⟨e.val / 128 * 128 + (e.val % 128 + 64) % 128, by omega⟩
/-- A column's frequency. -/
def wave (e : Fin 2048) : Fin 64 := ⟨e.val % 64, by omega⟩

/-- One entry turned: `x` the entry, `y` its partner, `θ` the angle. -/
def turn (e : Fin 2048) (x y θ : EReal) : EReal := x * cosE θ + y * (if e.val % 128 < 64 then - sinE θ else sinE θ)

theorem turned_at (o : ℕ) (ho : o + 128 ≤ 1024) (h : Tile.Slices ![0, o] Lane) (hr : Lane.Rotates 1 none) (acc : Tile.Idx → EReal) (cos sin : Lane.Idx → EReal) (s : EReal)
    (r : Fin 1040) (l : Fin 128) : turned (F := Ideal) o h hr acc cos sin s (ix2 r l)
      = (acc (ix2 r ⟨o + l.val, by omega⟩) * cos (ix2 r l) + acc (ix2 r ⟨o + (l.val + 64) % 128, by omega⟩) * sin (ix2 r l)) * s := by
  have e : (⟨o + (l.val + 128 - 64) % 128, by omega⟩ : Fin 1024) = ⟨o + (l.val + 64) % 128, by omega⟩ := Fin.ext (by show o + (l.val + 128 - 64) % 128 = o + (l.val + 64) % 128; omega)
  unfold turned
  pointwise
  rw [e]

theorem angles8320_at (pos : IVec (Line 8320) 32) (f : (Line 64).Idx → EReal) (h1 : (Line 8320).BroadcastsInDim (Grid 8320 1) (![0] : Fin 1 → Fin 2))
    (h2 : (Line 64).BroadcastsInDim (Grid 1 64) (![1] : Fin 1 → Fin 2)) (h3 : (Grid 8320 1).BroadcastsInDim (Grid 8320 64) (![0, 1] : Fin 2 → Fin 2))
    (h4 : (Grid 1 64).BroadcastsInDim (Grid 8320 64) (![0, 1] : Fin 2 → Fin 2)) (r : Fin 8320) (k : Fin 64) :
    angles (F := Ideal) pos f h1 h2 h3 h4 (ix2 r k) = posE (pos (ix1 r)) * f (ix1 k) := by
  unfold angles posE
  pointwise

theorem angles2064_at (pos : IVec (Line 2064) 32) (f : (Line 64).Idx → EReal) (h1 : (Line 2064).BroadcastsInDim (Grid 2064 1) (![0] : Fin 1 → Fin 2))
    (h2 : (Line 64).BroadcastsInDim (Grid 1 64) (![1] : Fin 1 → Fin 2)) (h3 : (Grid 2064 1).BroadcastsInDim (Grid 2064 64) (![0, 1] : Fin 2 → Fin 2))
    (h4 : (Grid 1 64).BroadcastsInDim (Grid 2064 64) (![0, 1] : Fin 2 → Fin 2)) (r : Fin 2064) (k : Fin 64) :
    angles (F := Ideal) pos f h1 h2 h3 h4 (ix2 r k) = posE (pos (ix1 r)) * f (ix1 k) := by
  unfold angles posE
  pointwise

theorem angles8_at (pos : IVec (Line 8) 32) (f : (Line 64).Idx → EReal) (h1 : (Line 8).BroadcastsInDim (Grid 8 1) (![0] : Fin 1 → Fin 2))
    (h2 : (Line 64).BroadcastsInDim (Grid 1 64) (![1] : Fin 1 → Fin 2)) (h3 : (Grid 8 1).BroadcastsInDim (Grid 8 64) (![0, 1] : Fin 2 → Fin 2))
    (h4 : (Grid 1 64).BroadcastsInDim (Grid 8 64) (![0, 1] : Fin 2 → Fin 2)) (r : Fin 8) (k : Fin 64) :
    angles (F := Ideal) pos f h1 h2 h3 h4 (ix2 r k) = posE (pos (ix1 r)) * f (ix1 k) := by
  unfold angles posE
  pointwise

theorem beside_left {n : ℕ} (a b : (Grid n 64).Idx → EReal) (h : Shape.Concatenates [Grid n 64, Grid n 64] (Grid n 128) 1) (r : Fin n) (l : Fin 128) (hl : l.val < 64) :
    beside (F := Ideal) a b h (ix2 r l) = a (ix2 r ⟨l.val, hl⟩) := by
  unfold beside
  refine (concatenate_apply_piece (t := Grid n 128) 1 _ _ _ 0 (by show 0 < 2; decide) (Grid n 64) _ rfl rfl 0 rfl (ix2 r ⟨l.val, hl⟩) ?_ ?_)
  · intro a ha
    match a with
    | ⟨0, _⟩ => rfl
    | ⟨1, _⟩ => exact absurd rfl ha
  · show 0 + l.val = l.val
    omega

theorem beside_right {n : ℕ} (a b : (Grid n 64).Idx → EReal) (h : Shape.Concatenates [Grid n 64, Grid n 64] (Grid n 128) 1) (r : Fin n) (l : Fin 128) (hl : ¬l.val < 64) :
    beside (F := Ideal) a b h (ix2 r l) = b (ix2 r ⟨l.val - 64, by omega⟩) := by
  unfold beside
  refine (concatenate_apply_piece (t := Grid n 128) 1 _ _ _ 1 (by show 1 < 2; decide) (Grid n 64) _ rfl rfl 64 rfl (ix2 r ⟨l.val - 64, by omega⟩) ?_ ?_)
  · intro a ha
    match a with
    | ⟨0, _⟩ => rfl
    | ⟨1, _⟩ => exact absurd rfl ha
  · show 64 + (l.val - 64) = l.val
    omega

/-- The position of a place. -/
def stand (x : (Fin 4 × Fin 2064) ⊕ (Fin 8 × Fin 8)) : BitVec 32 := x.elim (fun y => BitVec.ofNat 32 y.2.val) (fun y => 16384#32 + BitVec.ofNat 32 y.2.val)

/-- The positions of the prefixes' rows, and of the samples' rows. -/
theorem prefixes_at (h5 : (Line 16).ShapeCasts (Grid 1 16)) (h6 : (Grid 1 16).BroadcastsInDim (Grid 4 16) (![0, 1] : Fin 2 → Fin 2)) (h7 : (Grid 4 16).ShapeCasts (Line 64))
    (q : Fin 64) : shapeCast (Line 64) (broadcastInDim (Grid 4 16) ![0, 1] h6 (shapeCast (Grid 1 16) (iotaInDim (Line 16) 32 0) h5)) h7 (ix1 q)
      = BitVec.ofNat 32 (q.val % 16) := by
  pointwise
theorem samples_at (h8 : Scalar0.BroadcastsInDim (Line 8) (![] : Fin 0 → Fin 1)) (h9 : (Line 8).ShapeCasts (Grid 1 8))
    (h10 : (Grid 1 8).BroadcastsInDim (Grid 8 8) (![0, 1] : Fin 2 → Fin 2)) (h11 : (Grid 8 8).ShapeCasts (Line 64))
    (q : Fin 64) : shapeCast (Line 64) (broadcastInDim (Grid 8 8) ![0, 1] h10 (shapeCast (Grid 1 8)
        (addi (broadcastInDim (Line 8) ![] h8 (constantI Scalar0 32 16384#32)) (iotaInDim (Line 8) 32 0)) h9)) h11 (ix1 q)
      = 16384#32 + BitVec.ofNat 32 (q.val % 8) := by
  pointwise
  rfl

theorem positions_at (h1 : Scalar0.BroadcastsInDim (Line 2048) (![] : Fin 0 → Fin 1)) (h2 : (Line 2048).ShapeCasts (Grid 1 2048))
    (h3 : (Grid 1 2048).BroadcastsInDim (Grid 4 2048) (![0, 1] : Fin 2 → Fin 2)) (h4 : (Grid 4 2048).ShapeCasts (Line 8192))
    (h5 : (Line 16).ShapeCasts (Grid 1 16)) (h6 : (Grid 1 16).BroadcastsInDim (Grid 4 16) (![0, 1] : Fin 2 → Fin 2)) (h7 : (Grid 4 16).ShapeCasts (Line 64))
    (h8 : Scalar0.BroadcastsInDim (Line 8) (![] : Fin 0 → Fin 1)) (h9 : (Line 8).ShapeCasts (Grid 1 8))
    (h10 : (Grid 1 8).BroadcastsInDim (Grid 8 8) (![0, 1] : Fin 2 → Fin 2)) (h11 : (Grid 8 8).ShapeCasts (Line 64))
    (h12 : Shape.Concatenates [Line 8192, Line 64, Line 64] (Line 8320) 0) (r : Fin 8320) :
    positions h1 h2 h3 h4 h5 h6 h7 h8 h9 h10 h11 h12 (ix1 r) = stand (place r) := by
  unfold positions place
  split
  · next h =>
    refine (concatenate_apply_piece (t := Line 8320) 0 _ _ _ 0 (by show 0 < 3; decide) (Line 8192) _ rfl rfl 0 rfl (ix1 ⟨r.val, h⟩) ?_ ?_).trans ?_
    · intro a ha
      match a with
      | ⟨0, _⟩ => exact absurd rfl ha
    · show 0 + r.val = r.val
      omega
    · pointwise
      exact (BitVec.ofNat_add _ _).symm
  · next h =>
    split
    · next h' =>
      refine (concatenate_apply_piece (t := Line 8320) 0 _ _ _ 1 (by show 1 < 3; decide) (Line 64) _ rfl rfl 8192 rfl (ix1 ⟨r.val - 8192, by omega⟩) ?_ ?_).trans ?_
      · intro a ha
        match a with
        | ⟨0, _⟩ => exact absurd rfl ha
      · show 8192 + (r.val - 8192) = r.val
        omega
      · exact prefixes_at _ _ _ _
    · next h' =>
      refine (concatenate_apply_piece (t := Line 8320) 0 _ _ _ 2 (by show 2 < 3; decide) (Line 64) _ rfl rfl 8256 rfl (ix1 ⟨r.val - 8256, by omega⟩) ?_ ?_).trans ?_
      · intro a ha
        match a with
        | ⟨0, _⟩ => exact absurd rfl ha
      · show 8256 + (r.val - 8256) = r.val
        omega
      · exact samples_at _ _ _ _ _

/-- The reference's heads at an entry, for the prompt's sequences and for the samples. -/
theorem prompt_heads_at (x : (Cube 4 2064 2048).Idx → EReal) (ang : (Grid 2064 64).Idx → EReal) (h1 : (Cube 4 2064 2048).ShapeCasts (Four 4 2064 16 128))
    (h2 : (Four 4 2064 16 128).Slices ![0, 0, 0, 0] (Four 4 2064 16 64)) (h3 : (Four 4 2064 16 128).Slices ![0, 0, 0, 64] (Four 4 2064 16 64))
    (h4 : (Grid 2064 64).BroadcastsInDim (Four 1 2064 1 64) (![1, 3] : Fin 2 → Fin 4))
    (h5 : (Four 1 2064 1 64).BroadcastsInDim (Four 4 2064 16 64) (![0, 1, 2, 3] : Fin 4 → Fin 4))
    (h6 : Shape.Concatenates [Four 4 2064 16 64, Four 4 2064 16 64] (Four 4 2064 16 128) 3) (i : Fin 4) (t : Fin 2064) (h : Fin 16) (d : Fin 128) (e : Fin 2048)
    (he : e.val = h.val * 128 + d.val) :
    heads (F := Ideal) x ang h1 h2 h3 h4 h5 h6 (ix4 i t h d) = turn e (x (ix3 i t e)) (x (ix3 i t (partner e))) (ang (ix2 t (wave e))) := by
  unfold heads turn
  by_cases hd : d.val < 64
  · rw [if_pos (show e.val % 128 < 64 by omega)]
    refine (concatenate_apply_piece (t := Four 4 2064 16 128) 3 _ _ _ 0 (by show 0 < 2; decide) (Four 4 2064 16 64) _ rfl rfl 0 rfl (ix4 i t h ⟨d.val, hd⟩) ?_ ?_).trans ?_
    · intro a ha
      match a with
      | ⟨0, _⟩ => rfl
      | ⟨1, _⟩ => rfl
      | ⟨2, _⟩ => rfl
      | ⟨3, _⟩ => exact absurd rfl ha
    · show 0 + d.val = d.val
      omega
    · pointwise
      have e1 : (⟨h.val * 128 + d.val, by omega⟩ : Fin 2048) = e := Fin.ext he.symm
      have e2 : (⟨h.val * 128 + (64 + d.val), by omega⟩ : Fin 2048) = partner e := Fin.ext (by show h.val * 128 + (64 + d.val) = e.val / 128 * 128 + (e.val % 128 + 64) % 128; omega)
      have e3 : (⟨d.val, hd⟩ : Fin 64) = wave e := Fin.ext (by show d.val = e.val % 64; omega)
      rw [e1, e2, e3, sub_eq_add_neg, ← mul_neg]
      rfl
  · rw [if_neg (show ¬e.val % 128 < 64 by omega)]
    refine (concatenate_apply_piece (t := Four 4 2064 16 128) 3 _ _ _ 1 (by show 1 < 2; decide) (Four 4 2064 16 64) _ rfl rfl 64 rfl (ix4 i t h ⟨d.val - 64, by omega⟩) ?_ ?_).trans ?_
    · intro a ha
      match a with
      | ⟨0, _⟩ => rfl
      | ⟨1, _⟩ => rfl
      | ⟨2, _⟩ => rfl
      | ⟨3, _⟩ => exact absurd rfl ha
    · show 64 + (d.val - 64) = d.val
      omega
    · pointwise
      have e1 : (⟨h.val * 128 + (64 + (d.val - 64)), by omega⟩ : Fin 2048) = e := Fin.ext (by show h.val * 128 + (64 + (d.val - 64)) = e.val; omega)
      have e2 : (⟨h.val * 128 + (d.val - 64), by omega⟩ : Fin 2048) = partner e := Fin.ext (by show h.val * 128 + (d.val - 64) = e.val / 128 * 128 + (e.val % 128 + 64) % 128; omega)
      have e3 : (⟨d.val - 64, by omega⟩ : Fin 64) = wave e := Fin.ext (by show d.val - 64 = e.val % 64; omega)
      rw [e1, e2, e3]
      rfl

theorem sample_heads_at (x : (Cube 8 8 2048).Idx → EReal) (ang : (Grid 8 64).Idx → EReal) (h1 : (Cube 8 8 2048).ShapeCasts (Four 8 8 16 128))
    (h2 : (Four 8 8 16 128).Slices ![0, 0, 0, 0] (Four 8 8 16 64)) (h3 : (Four 8 8 16 128).Slices ![0, 0, 0, 64] (Four 8 8 16 64))
    (h4 : (Grid 8 64).BroadcastsInDim (Four 1 8 1 64) (![1, 3] : Fin 2 → Fin 4))
    (h5 : (Four 1 8 1 64).BroadcastsInDim (Four 8 8 16 64) (![0, 1, 2, 3] : Fin 4 → Fin 4))
    (h6 : Shape.Concatenates [Four 8 8 16 64, Four 8 8 16 64] (Four 8 8 16 128) 3) (i : Fin 8) (t : Fin 8) (h : Fin 16) (d : Fin 128) (e : Fin 2048)
    (he : e.val = h.val * 128 + d.val) :
    heads (F := Ideal) x ang h1 h2 h3 h4 h5 h6 (ix4 i t h d) = turn e (x (ix3 i t e)) (x (ix3 i t (partner e))) (ang (ix2 t (wave e))) := by
  unfold heads turn
  by_cases hd : d.val < 64
  · rw [if_pos (show e.val % 128 < 64 by omega)]
    refine (concatenate_apply_piece (t := Four 8 8 16 128) 3 _ _ _ 0 (by show 0 < 2; decide) (Four 8 8 16 64) _ rfl rfl 0 rfl (ix4 i t h ⟨d.val, hd⟩) ?_ ?_).trans ?_
    · intro a ha
      match a with
      | ⟨0, _⟩ => rfl
      | ⟨1, _⟩ => rfl
      | ⟨2, _⟩ => rfl
      | ⟨3, _⟩ => exact absurd rfl ha
    · show 0 + d.val = d.val
      omega
    · pointwise
      have e1 : (⟨h.val * 128 + d.val, by omega⟩ : Fin 2048) = e := Fin.ext he.symm
      have e2 : (⟨h.val * 128 + (64 + d.val), by omega⟩ : Fin 2048) = partner e := Fin.ext (by show h.val * 128 + (64 + d.val) = e.val / 128 * 128 + (e.val % 128 + 64) % 128; omega)
      have e3 : (⟨d.val, hd⟩ : Fin 64) = wave e := Fin.ext (by show d.val = e.val % 64; omega)
      rw [e1, e2, e3, sub_eq_add_neg, ← mul_neg]
      rfl
  · rw [if_neg (show ¬e.val % 128 < 64 by omega)]
    refine (concatenate_apply_piece (t := Four 8 8 16 128) 3 _ _ _ 1 (by show 1 < 2; decide) (Four 8 8 16 64) _ rfl rfl 64 rfl (ix4 i t h ⟨d.val - 64, by omega⟩) ?_ ?_).trans ?_
    · intro a ha
      match a with
      | ⟨0, _⟩ => rfl
      | ⟨1, _⟩ => rfl
      | ⟨2, _⟩ => rfl
      | ⟨3, _⟩ => exact absurd rfl ha
    · show 64 + (d.val - 64) = d.val
      omega
    · pointwise
      have e1 : (⟨h.val * 128 + (64 + (d.val - 64)), by omega⟩ : Fin 2048) = e := Fin.ext (by show h.val * 128 + (64 + (d.val - 64)) = e.val; omega)
      have e2 : (⟨h.val * 128 + (d.val - 64), by omega⟩ : Fin 2048) = partner e := Fin.ext (by show h.val * 128 + (d.val - 64) = e.val / 128 * 128 + (e.val % 128 + 64) % 128; omega)
      have e3 : (⟨d.val - 64, by omega⟩ : Fin 64) = wave e := Fin.ext (by show d.val - 64 = e.val % 64; omega)
      rw [e1, e2, e3]
      rfl

theorem prompt_joined_at (x : (Four 4 2064 16 128).Idx → EReal) (h : (Four 4 2064 16 128).ShapeCasts (Cube 4 2064 2048)) (i : Fin 4) (t : Fin 2064) (e : Fin 2048) :
    shapeCast (Cube 4 2064 2048) x h (ix3 i t e) = x (ix4 i t ⟨e.val / 128, by omega⟩ ⟨e.val % 128, by omega⟩) := by
  pointwise
theorem sample_joined_at (x : (Four 8 8 16 128).Idx → EReal) (h : (Four 8 8 16 128).ShapeCasts (Cube 8 8 2048)) (i : Fin 8) (t : Fin 8) (e : Fin 2048) :
    shapeCast (Cube 8 8 2048) x h (ix3 i t e) = x (ix4 i t ⟨e.val / 128, by omega⟩ ⟨e.val % 128, by omega⟩) := by
  pointwise

/-- The tile of a point at an entry: the product `acc` turned with the point's rows of the tables. -/
def tileAt (acc : Tile.Idx → EReal) (cos sin : Lane.Idx → EReal) (s : EReal) (y : Tile.Idx) : EReal :=
  (acc y * cos (ix2 (y 0) ⟨(y 1).val % 128, Nat.mod_lt _ (by decide)⟩)
    + acc (ix2 (y 0) ⟨(y 1).val / 128 * 128 + ((y 1).val % 128 + 64) % 128, by have h : (y 1).val < 1024 := (y 1).isLt; omega⟩)
      * sin (ix2 (y 0) ⟨(y 1).val % 128, Nat.mod_lt _ (by decide)⟩)) * s

theorem turned_tile (o : ℕ) (ho : o + 128 ≤ 1024) (h128 : o % 128 = 0) (h : Tile.Slices ![0, o] Lane) (hr : Lane.Rotates 1 none) (acc : Tile.Idx → EReal) (cos sin : Lane.Idx → EReal)
    (s : EReal) (y : Tile.Idx) : View.TileAt (Val := Elt Ideal) (e := .f32) y ![0, o] ![1040, 128] (turned (F := Ideal) o h hr acc cos sin s) (tileAt acc cos sin s y) := by
  obtain ⟨p, q, rfl⟩ : ∃ (p : Fin 1040) (q : Fin 1024), y = ix2 p q := ⟨y 0, y 1, eq_ix2 y⟩
  intro x hx
  obtain ⟨a, b, rfl⟩ : ∃ (a : Fin 1040) (b : Fin 128), x = ix2 a b := ⟨x 0, x 1, eq_ix2 x⟩
  have e0 : p.val = 0 + a.val := hx 0
  have e1 : q.val = o + b.val := hx 1
  refine (turned_at o ho h hr acc cos sin s a b).trans ?_
  show _ = (acc (ix2 p q) * cos (ix2 p ⟨q.val % 128, Nat.mod_lt _ (by decide)⟩) + acc (ix2 p ⟨q.val / 128 * 128 + (q.val % 128 + 64) % 128, by omega⟩)
      * sin (ix2 p ⟨q.val % 128, Nat.mod_lt _ (by decide)⟩)) * s
  have f0 : a = p := Fin.ext (by omega)
  have f1 : (⟨q.val % 128, Nat.mod_lt _ (by decide)⟩ : Fin 128) = b := Fin.ext (by show q.val % 128 = b.val; omega)
  have f2 : (⟨o + b.val, by omega⟩ : Fin 1024) = q := Fin.ext e1.symm
  have f3 : (⟨o + (b.val + 64) % 128, by omega⟩ : Fin 1024) = ⟨q.val / 128 * 128 + (q.val % 128 + 64) % 128, by omega⟩ :=
    Fin.ext (by show o + (b.val + 64) % 128 = q.val / 128 * 128 + (q.val % 128 + 64) % 128; omega)
  rw [f1, f2, f3, f0]

section Tables
variable (pos : IVec (Line 8320) 32) (f : (Line 64).Idx → EReal) (h1 : (Line 8320).BroadcastsInDim (Grid 8320 1) (![0] : Fin 1 → Fin 2))
    (h2 : (Line 64).BroadcastsInDim (Grid 1 64) (![1] : Fin 1 → Fin 2)) (h3 : (Grid 8320 1).BroadcastsInDim (Grid 8320 64) (![0, 1] : Fin 2 → Fin 2))
    (h4 : (Grid 1 64).BroadcastsInDim (Grid 8320 64) (![0, 1] : Fin 2 → Fin 2)) (h5 : Shape.Concatenates [Grid 8320 64, Grid 8320 64] (Grid 8320 128) 1)
    (r : Fin 8320) (l : Fin 128) (k : Fin 64) (hk : k.val = l.val % 64)

include hk in
/-- The kernel's tables at an entry. -/
theorem cosTable_at : beside (F := Ideal) (Host.cos (angles (F := Ideal) pos f h1 h2 h3 h4)) (Host.cos (angles (F := Ideal) pos f h1 h2 h3 h4)) h5 (ix2 r l)
    = cosE (posE (pos (ix1 r)) * f (ix1 k)) := by
  by_cases hl : l.val < 64
  · rw [beside_left _ _ _ _ _ hl, show (⟨l.val, hl⟩ : Fin 64) = k from Fin.ext (by show l.val = k.val; omega)]
    exact congrArg cosE (angles8320_at pos f h1 h2 h3 h4 r k)
  · rw [beside_right _ _ _ _ _ hl, show (⟨l.val - 64, by omega⟩ : Fin 64) = k from Fin.ext (by show l.val - 64 = k.val; omega)]
    exact congrArg cosE (angles8320_at pos f h1 h2 h3 h4 r k)
include hk in
theorem sinTable_at : beside (F := Ideal) (Host.negf (Host.sin (angles (F := Ideal) pos f h1 h2 h3 h4))) (Host.sin (angles (F := Ideal) pos f h1 h2 h3 h4)) h5 (ix2 r l)
    = if l.val < 64 then - sinE (posE (pos (ix1 r)) * f (ix1 k)) else sinE (posE (pos (ix1 r)) * f (ix1 k)) := by
  by_cases hl : l.val < 64
  · rw [beside_left _ _ _ _ _ hl, if_pos hl, show (⟨l.val, hl⟩ : Fin 64) = k from Fin.ext (by show l.val = k.val; omega)]
    exact congrArg (fun z => - sinE z) (angles8320_at pos f h1 h2 h3 h4 r k)
  · rw [beside_right _ _ _ _ _ hl, if_neg hl, show (⟨l.val - 64, by omega⟩ : Fin 64) = k from Fin.ext (by show l.val - 64 = k.val; omega)]
    exact congrArg sinE (angles8320_at pos f h1 h2 h3 h4 r k)
end Tables

/-- A tile's entry as a turned entry of the whole product's row `P`. -/
theorem tile_turn (acc : Tile.Idx → EReal) (cos sin : Lane.Idx → EReal) (s θ : EReal) (P : Fin 2048 → EReal) (x : Fin 1040) (q : Fin 1024) (e : Fin 2048)
    (hq : q.val = e.val % 1024) (hacc : ∀ (q' : Fin 1024) (e' : Fin 2048), e'.val = e.val / 1024 * 1024 + q'.val → acc (ix2 x q') = P e')
    (hcos : ∀ l : Fin 128, l.val = e.val % 128 → cos (ix2 x l) = cosE θ)
    (hsin : ∀ l : Fin 128, l.val = e.val % 128 → sin (ix2 x l) = if e.val % 128 < 64 then - sinE θ else sinE θ) :
    tileAt acc cos sin s (ix2 x q) = turn e (P e) (P (partner e)) θ * s := by
  show (acc (ix2 x q) * cos (ix2 x ⟨q.val % 128, Nat.mod_lt _ (by decide)⟩) + acc (ix2 x ⟨q.val / 128 * 128 + (q.val % 128 + 64) % 128, by omega⟩)
      * sin (ix2 x ⟨q.val % 128, Nat.mod_lt _ (by decide)⟩)) * s = _
  rw [hacc q e (by omega), hacc _ (partner e) (by
      show e.val / 128 * 128 + (e.val % 128 + 64) % 128 = e.val / 1024 * 1024 + (q.val / 128 * 128 + (q.val % 128 + 64) % 128); omega),
    hcos _ (by show q.val % 128 = e.val % 128; omega), hsin _ (by show q.val % 128 = e.val % 128; omega)]
  unfold turn
  rfl

/-- The reference's turned products at a place. -/
theorem entry_turn (p : (Prompt 2048).Idx → EReal) (s : (Sample 2048).Idx → EReal) (w : Fin 2048 → Fin 2048 → EReal) (f : (Line 64).Idx → EReal) (c : EReal)
    (P : (Prompt 2048).Idx → EReal) (S : (Sample 2048).Idx → EReal)
    (hP : ∀ b t e, P (ix3 b t e) = turn e (∑ k, p (ix3 b t k) * w k e) (∑ k, p (ix3 b t k) * w k (partner e)) (posE (BitVec.ofNat 32 t.val) * f (ix1 (wave e))) * c)
    (hS : ∀ b t e, S (ix3 b t e) = turn e (∑ k, s (ix3 b t k) * w k e) (∑ k, s (ix3 b t k) * w k (partner e)) (posE (16384#32 + BitVec.ofNat 32 t.val) * f (ix1 (wave e))) * c)
    (x : (Fin 4 × Fin 2064) ⊕ (Fin 8 × Fin 8)) (e : Fin 2048) :
    entry P S x e = turn e (∑ k, entry p s x k * w k e) (∑ k, entry p s x k * w k (partner e)) (posE (stand x) * f (ix1 (wave e))) * c := by
  match x with
  | .inl y => exact hP _ _ _
  | .inr y => exact hS _ _ _

end Cert.Dense
-- ==== Proof.DenseKeys.lean ====
module

public import proofs.«01_k».proof.Proof.Gen.KeysIdeal.Value
public import proofs.«01_k».proof.Proof.Gen.PlainKeysIdeal.Run
public import proofs.«01_k».proof.Proof.Rope
public import Idealize.ShloMosaic.Lib.Pipeline.ValueKit

/-! The dense call `Keys`: its result array is, entry by entry, the turned product that the reference writes. -/

@[expose] public section

set_option maxRecDepth 16384

noncomputable section

namespace Cert.Dense.Keys

open Idealize.ShloMosaic Idealize.ShloMosaic.TcCoe Idealize.ShloMosaic.Tactic
open Idealize.ShloMosaic.Pointwise
open Cert.KeysIdeal Cert.KeysIdeal.Gen

/-- The factor of every entry. -/
def factor : EReal := Ideal.ofBits .f32 0x3F800000#32

section Case
variable (c : Dev nD) (i : grid0.Coords)
  (arg2 : Memref sig .tc .vmem S1040x2048 .bf16) (harg2 : arg2.IsWhole) (arg3 : Memref sig .tc .vmem S2048x1024 .f32) (harg3 : arg3.IsWhole)
  (arg4 : Memref sig .tc .vmem S1040x128 .f32) (harg4 : arg4.IsWhole) (arg5 : Memref sig .tc .vmem S1040x128 .f32) (harg5 : arg5.IsWhole)
  (arg6 : Memref sig .tc .vmem S1040x1024 .f32) (harg6 : arg6.IsWhole) (arg7 : Memref sig .tc .vmem S2048x1024 .bf16) (harg7 : arg7.IsWhole)
  (x0 : Vec Ideal S1040x2048 .bf16) (x1 : Vec Ideal S2048x1024 .f32) (x2 : Vec Ideal S1040x128 .f32) (x3 : Vec Ideal S1040x128 .f32) (xs : Vec Ideal S2048x1024 .bf16)

/-- A point's tile, from its rows, the kept weights and its rows of the tables. -/
def tile : Tile.Idx → EReal := tileAt (k0_pay3 x0 xs) (k0_pay4 x2) (k0_pay5 x3) factor

/-- The eight groups of columns of a point's tile. -/
theorem tiles (y : Tile.Idx) : View.AllAt (Val := Elt Ideal) (S := Tile) (e := .f32)
    [⟨Rect.unit ![0, 896] ![1040, 128] inb_S1040x1024_S1040x128_0_896, k0_pay1 (k0_pay5 x3) (k0_pay14 (k0_pay3 x0 xs) (k0_pay4 x2)) (k0_pay15 (k0_pay3 x0 xs))⟩,
      ⟨Rect.unit ![0, 768] ![1040, 128] inb_S1040x1024_S1040x128_0_768, k0_pay12 (k0_pay3 x0 xs) (k0_pay4 x2) (k0_pay5 x3)⟩,
      ⟨Rect.unit ![0, 640] ![1040, 128] inb_S1040x1024_S1040x128_0_640, k0_pay11 (k0_pay3 x0 xs) (k0_pay4 x2) (k0_pay5 x3)⟩,
      ⟨Rect.unit ![0, 512] ![1040, 128] inb_S1040x1024_S1040x128_0_512, k0_pay10 (k0_pay3 x0 xs) (k0_pay4 x2) (k0_pay5 x3)⟩,
      ⟨Rect.unit ![0, 384] ![1040, 128] inb_S1040x1024_S1040x128_0_384, k0_pay9 (k0_pay3 x0 xs) (k0_pay4 x2) (k0_pay5 x3)⟩,
      ⟨Rect.unit ![0, 256] ![1040, 128] inb_S1040x1024_S1040x128_0_256, k0_pay8 x0 xs x2 x3⟩,
      ⟨Rect.unit ![0, 128] ![1040, 128] inb_S1040x1024_S1040x128_0_128, k0_pay7 x0 xs x2 x3⟩,
      ⟨Rect.unit ![0, 0] ![1040, 128] inb_S1040x1024_S1040x128_0_0, k0_pay6 x0 xs x2 x3⟩] y (tile x0 x2 x3 xs y) := by
  unfold tile
  have turned_all (o : ℕ) (ho : o + 128 ≤ 1024) (h128 : o % 128 = 0) (h : Tile.Slices ![0, o] Lane) :=
    turned_tile o ho h128 h rotates_S1040x128_d1 (k0_pay3 x0 xs) (k0_pay4 x2) (k0_pay5 x3) factor y
  refine View.allAt_cons_unit _ _ _ _ _ (turned_all 896 (by decide) (by decide) slices_S1040x1024_o0_896_S1040x128) ?_
  refine View.allAt_cons_unit _ _ _ _ _ (turned_all 768 (by decide) (by decide) slices_S1040x1024_o0_768_S1040x128) ?_
  refine View.allAt_cons_unit _ _ _ _ _ (turned_all 640 (by decide) (by decide) slices_S1040x1024_o0_640_S1040x128) ?_
  refine View.allAt_cons_unit _ _ _ _ _ (turned_all 512 (by decide) (by decide) slices_S1040x1024_o0_512_S1040x128) ?_
  refine View.allAt_cons_unit _ _ _ _ _ (turned_all 384 (by decide) (by decide) slices_S1040x1024_o0_384_S1040x128) ?_
  refine View.allAt_cons_unit _ _ _ _ _ (turned_all 256 (by decide) (by decide) slices_S1040x1024_o0_256_S1040x128) ?_
  refine View.allAt_cons_unit _ _ _ _ _ (turned_all 128 (by decide) (by decide) slices_S1040x1024_o0_128_S1040x128) ?_
  exact View.allAt_cons_unit _ _ _ _ _ (turned_all 0 (by decide) (by decide) slices_S1040x1024_o0_0_S1040x128) (View.allAt_nil _ _)

/-- The first point of a block of columns keeps the block's weights, and every point multiplies by the kept ones. -/
theorem keptA (hc0 : cond0_0 i) : sout0_A_0 (F := Ideal) c i arg2 harg2 arg3 harg3 arg4 harg4 arg5 harg5 arg6 harg6 arg7 harg7 hc0 x0 x1 x2 x3 = k0_pay2 x1 := by
  unfold sout0_A_0 kernelRun0_A
  dsimp only
  rw [View.read_writes_junk_eq_canon]
  unfold kernelRun0_A.sl.HS0_1
  rw [View.readAt_eq_ld, harg3.read_unread, View.ld_unit_lit' _ _ (by decide)]
  exact View.canon_cons_unit_lit' _ _ _ (by decide)
theorem outA (hc0 : cond0_0 i) : out0_A_4 (F := Ideal) c i arg2 harg2 arg3 harg3 arg4 harg4 arg5 harg5 arg6 harg6 arg7 harg7 hc0 x0 x1 x2 x3 = tile x0 x2 x3 (k0_pay2 x1) := by
  unfold out0_A_4
  rw [View.read_writes_junk_eq_canon]
  funext y
  refine View.canon_eq_of_allAt _ y _ (cover0_A_4 c i arg2 harg2 arg3 harg3 arg4 harg4 arg5 harg5 arg6 harg6 arg7 harg7 hc0 x0 x1 x2 x3 y) ?_
  unfold kernelRun0_A
  dsimp only
  have h0 : View.readAt (Elt Ideal) arg2.view (Rect.unit ![0, 0] ![1040, 2048] inb_S1040x2048_S1040x2048_0_0).toLoadRect (harg2.unread x0) = x0 := by
    rw [View.readAt_eq_ld, harg2.read_unread, View.ld_unit_lit' _ _ (by decide)]
  have h2 : View.readAt (Elt Ideal) arg4.view (Rect.unit ![0, 0] ![1040, 128] inb_S1040x128_S1040x128_0_0).toLoadRect (harg4.unread x2) = x2 := by
    rw [View.readAt_eq_ld, harg4.read_unread, View.ld_unit_lit' _ _ (by decide)]
  have h3 : View.readAt (Elt Ideal) arg5.view (Rect.unit ![0, 0] ![1040, 128] inb_S1040x128_S1040x128_0_0).toLoadRect (harg5.unread x3) = x3 := by
    rw [View.readAt_eq_ld, harg5.read_unread, View.ld_unit_lit' _ _ (by decide)]
  have hv : kernelRun0_A.sl.v5 c arg3 harg3 arg7 x1 = k0_pay2 x1 := by
    unfold kernelRun0_A.sl.v5 kernelRun0_A.sl.HS0_1
    rw [View.readAt_eq_ld, harg3.read_unread, View.ld_unit_lit' _ _ (by decide), View.readCov_unit_lit' _ _ _ (by decide)]
  unfold kernelRun0_A.sl.r_5 kernelRun0_A.sl.r_4 kernelRun0_A.sl.r_3 kernelRun0_A.sl.r_2 kernelRun0_A.sl.r_1 kernelRun0_A.sl.r
  rw [h0, h2, h3, hv]
  exact tiles x0 x2 x3 (k0_pay2 x1) y
theorem outB (hc0 : ¬cond0_0 i) : out0_B_4 (F := Ideal) c i arg2 harg2 arg3 harg3 arg4 harg4 arg5 harg5 arg6 harg6 arg7 harg7 hc0 x0 x1 x2 x3 xs = tile x0 x2 x3 xs := by
  unfold out0_B_4
  rw [View.read_writes_junk_eq_canon]
  funext y
  refine View.canon_eq_of_allAt _ y _ (cover0_B_4 c i arg2 harg2 arg3 harg3 arg4 harg4 arg5 harg5 arg6 harg6 arg7 harg7 hc0 x0 x1 x2 x3 xs y) ?_
  unfold kernelRun0_B
  dsimp only
  have h0 : View.readAt (Elt Ideal) arg2.view (Rect.unit ![0, 0] ![1040, 2048] inb_S1040x2048_S1040x2048_0_0).toLoadRect (harg2.unread x0) = x0 := by
    rw [View.readAt_eq_ld, harg2.read_unread, View.ld_unit_lit' _ _ (by decide)]
  have h2 : View.readAt (Elt Ideal) arg4.view (Rect.unit ![0, 0] ![1040, 128] inb_S1040x128_S1040x128_0_0).toLoadRect (harg4.unread x2) = x2 := by
    rw [View.readAt_eq_ld, harg4.read_unread, View.ld_unit_lit' _ _ (by decide)]
  have h3 : View.readAt (Elt Ideal) arg5.view (Rect.unit ![0, 0] ![1040, 128] inb_S1040x128_S1040x128_0_0).toLoadRect (harg5.unread x3) = x3 := by
    rw [View.readAt_eq_ld, harg5.read_unread, View.ld_unit_lit' _ _ (by decide)]
  have hv : View.readAt (Elt Ideal) arg7.view (Rect.unit ![0, 0] ![2048, 1024] inb_S2048x1024_S2048x1024_0_0).toLoadRect (harg7.unread xs) = xs := by
    rw [View.readAt_eq_ld, harg7.read_unread, View.ld_unit_lit' _ _ (by decide)]
  unfold kernelRun0_B.sl.r_5 kernelRun0_B.sl.r_4 kernelRun0_B.sl.r_3 kernelRun0_B.sl.r_2 kernelRun0_B.sl.r_1 kernelRun0_B.sl.r
  rw [h0, h2, h3, hv]
  exact tiles x0 x2 x3 xs y
end Case

section Any
variable (m : (ℓ : Loc nD τ sig) → Buf (Elt Ideal) ℓ)

theorem start_lt {n : ℕ} (hn : n < cfg0.N) : n / 8 * 8 < cfg0.N := Nat.lt_of_le_of_lt (Nat.div_mul_le_self n 8) hn

theorem first_start {n : ℕ} (h : n % 8 = 0) : n / 8 * 8 = n := by omega
theorem next_start {n : ℕ} (h : ¬(n + 1) % 8 = 0) : (n + 1) / 8 * 8 = n / 8 * 8 := by omega
theorem first_point {n : ℕ} (hn : n < cfg0.N) (h : n % 8 = 0) : (⟨n / 8 * 8, start_lt hn⟩ : Fin cfg0.N) = ⟨n, hn⟩ := Fin.ext (first_start h)
theorem next_point {n : ℕ} (hn : n + 1 < cfg0.N) (h : ¬(n + 1) % 8 = 0) :
    (⟨(n + 1) / 8 * 8, start_lt hn⟩ : Fin cfg0.N) = ⟨n / 8 * 8, start_lt (Nat.lt_of_succ_lt hn)⟩ := Fin.ext (next_start h)

theorem state_first (c : Dev nD) (t : Fin cfg0.N) (h : t.val % 8 = 0) :
    outsAt0 m c t.val t.isLt = (tile (iblk m c 0 t) (iblk m c 2 t) (iblk m c 3 t) (k0_pay2 (iblk m c 1 t)), k0_pay2 (iblk m c 1 t)) := by
  rw [outsAt0_A m c t h, outA, keptA]
theorem state_next (c : Dev nD) (t : Fin cfg0.N) (h : ¬t.val % 8 = 0) :
    outsAt0 m c t.val t.isLt = (tile (iblk m c 0 t) (iblk m c 2 t) (iblk m c 3 t) (outsAt0 m c (t.val - 1) (Nat.lt_of_le_of_lt (Nat.sub_le _ _) t.isLt)).2,
      (outsAt0 m c (t.val - 1) (Nat.lt_of_le_of_lt (Nat.sub_le _ _) t.isLt)).2) := by
  rw [outsAt0_B m c t h, outB]
  rfl

theorem state (c : Dev nD) (n : ℕ) (hn : n < cfg0.N) :
    outsAt0 m c n hn = (tile (iblk m c 0 ⟨n, hn⟩) (iblk m c 2 ⟨n, hn⟩) (iblk m c 3 ⟨n, hn⟩) (k0_pay2 (iblk m c 1 ⟨n / 8 * 8, start_lt hn⟩)), k0_pay2 (iblk m c 1 ⟨n / 8 * 8, start_lt hn⟩)) := by
  induction n with
  | zero => exact state_first m c ⟨0, hn⟩ rfl
  | succ n ih =>
    by_cases h : (n + 1) % 8 = 0
    · rw [first_point hn h]
      exact state_first m c ⟨n + 1, hn⟩ h
    · rw [next_point hn h]
      have e := state_next m c ⟨n + 1, hn⟩ h
      have e' : (outsAt0 m c (n + 1 - 1) (Nat.lt_of_le_of_lt (Nat.sub_le _ _) hn)).2 = _ := congrArg Prod.snd (ih (Nat.lt_of_succ_lt hn))
      refine e.trans ?_
      rw [e']

theorem index0 : ∀ t : Fin cfg0.N, cc0_transform_0 (grid0.coords t) = ![t.val % 8, 0] :=
  (by decide +kernel : ∀ t : Fin grid0.N, cc0_transform_0 (grid0.coords t) = ![t.val % 8, 0])
theorem index1 : ∀ t : Fin cfg0.N, cc0_transform_1 (grid0.coords t) = ![0, t.val / 8] :=
  (by decide +kernel : ∀ t : Fin grid0.N, cc0_transform_1 (grid0.coords t) = ![0, t.val / 8])
theorem index2 : ∀ t : Fin cfg0.N, cc0_transform_2 (grid0.coords t) = ![t.val % 8, 0] :=
  (by decide +kernel : ∀ t : Fin grid0.N, cc0_transform_2 (grid0.coords t) = ![t.val % 8, 0])
theorem index3 : ∀ t : Fin cfg0.N, cc0_transform_3 (grid0.coords t) = ![t.val % 8, 0] :=
  (by decide +kernel : ∀ t : Fin grid0.N, cc0_transform_3 (grid0.coords t) = ![t.val % 8, 0])
theorem index4 : ∀ t : Fin cfg0.N, cc0_transform_4 (grid0.coords t) = ![t.val % 8, t.val / 8] :=
  (by decide +kernel : ∀ t : Fin grid0.N, cc0_transform_4 (grid0.coords t) = ![t.val % 8, t.val / 8])

theorem block0 (c : Dev nD) (t : Fin cfg0.N) (j : S1040x2048.Idx) (r : Fin 8320) (hr : r.val = t.val % 8 * 1040 + (j 0).val) :
    iblk m c 0 t j = V m c main_v6 (ix2 r (j 1)) := by
  show V m c main_v6 _ = _
  refine congrArg _ (funext fun a => Fin.ext ?_)
  match a with
  | ⟨0, _⟩ =>
    show cc0_transform_0 (grid0.coords t) 0 * 1040 + 1 * (j 0).val = r.val
    rw [index0 t, hr, Nat.one_mul]
    rfl
  | ⟨1, _⟩ =>
    show cc0_transform_0 (grid0.coords t) 1 * 2048 + 1 * (j 1).val = (j 1).val
    rw [index0 t, Nat.one_mul]
    exact Nat.zero_add _
theorem block1 (c : Dev nD) (t : Fin cfg0.N) (k : Fin 2048) (x : Fin 1024) (e : Fin 2048) (he : e.val = (t.val / 8) * 1024 + x.val) :
    iblk m c 1 t (ix2 k x) = m ((c : Thread nD τ).loc main_arg2) (ix2 k e) := by
  show V m c main_arg2 _ = _
  rw [V_main_arg2]
  refine congrArg _ (funext fun b => Fin.ext ?_)
  match b with
  | ⟨0, _⟩ =>
    show cc0_transform_1 (grid0.coords t) 0 * 2048 + 1 * k.val = k.val
    rw [index1 t, Nat.one_mul]
    exact Nat.zero_add _
  | ⟨1, _⟩ =>
    show cc0_transform_1 (grid0.coords t) 1 * 1024 + 1 * x.val = e.val
    rw [index1 t, he, Nat.one_mul]
    rfl

theorem block2 (c : Dev nD) (t : Fin cfg0.N) (x : Fin 1040) (l : Fin 128) (r : Fin 8320) (hr : r.val = t.val % 8 * 1040 + x.val) :
    iblk m c 2 t (ix2 x l) = V m c main_v38 (ix2 r l) := by
  show V m c main_v38 _ = _
  refine congrArg _ (funext fun a => Fin.ext ?_)
  match a with
  | ⟨0, _⟩ =>
    show cc0_transform_2 (grid0.coords t) 0 * 1040 + 1 * x.val = r.val
    rw [index2 t, hr, Nat.one_mul]
    rfl
  | ⟨1, _⟩ =>
    show cc0_transform_2 (grid0.coords t) 1 * 128 + 1 * l.val = l.val
    rw [index2 t, Nat.one_mul]
    exact Nat.zero_add _
theorem block3 (c : Dev nD) (t : Fin cfg0.N) (x : Fin 1040) (l : Fin 128) (r : Fin 8320) (hr : r.val = t.val % 8 * 1040 + x.val) :
    iblk m c 3 t (ix2 x l) = V m c main_v40 (ix2 r l) := by
  show V m c main_v40 _ = _
  refine congrArg _ (funext fun a => Fin.ext ?_)
  match a with
  | ⟨0, _⟩ =>
    show cc0_transform_3 (grid0.coords t) 0 * 1040 + 1 * x.val = r.val
    rw [index3 t, hr, Nat.one_mul]
    rfl
  | ⟨1, _⟩ =>
    show cc0_transform_3 (grid0.coords t) 1 * 128 + 1 * l.val = l.val
    rw [index3 t, Nat.one_mul]
    exact Nat.zero_add _

/-- The positions, the frequencies and the angles that the host code writes. -/
def places : IVec (Line 8320) 32 := positions bcast_S_S2048 shapeCasts_S2048_S1x2048 bcast_S1x2048_S4x2048_0_1 shapeCasts_S4x2048_S8192 shapeCasts_S16_S1x16 bcast_S1x16_S4x16_0_1 shapeCasts_S4x16_S64 bcast_S_S8 shapeCasts_S8_S1x8 bcast_S1x8_S8x8_0_1 shapeCasts_S8x8_S64 concatenates_S8192_S64_S64_S8320_d0
def waves : (Line 64).Idx → EReal := frequencies (F := Ideal) bcast_S_S64 bcast_S_S64
def turns : FVec Ideal (Grid 8320 64) .f32 := angles (F := Ideal) places waves bcast_S8320_S8320x1_0 bcast_S64_S1x64_1 bcast_S8320x1_S8320x64_0_1 bcast_S1x64_S8320x64_0_1

theorem places_at (r : Fin 8320) : places (ix1 r) = stand (place r) := positions_at _ _ _ _ _ _ _ _ _ _ _ _ r

/-- The tables that the host code lays out. -/
theorem V38 (c : Dev nD) : V m c main_v38 = beside (F := Ideal) (Host.cos turns) (Host.cos turns) concatenates_S8320x64_S8320x64_S8320x128_d1 := by
  show StableHlo.after hostOps0 _ _ = _
  rw [hostOps0]
  after_results_simp
  rfl
theorem V40 (c : Dev nD) : V m c main_v40 = beside (F := Ideal) (Host.negf (Host.sin turns)) (Host.sin turns) concatenates_S8320x64_S8320x64_S8320x128_d1 := by
  show StableHlo.after hostOps0 _ _ = _
  rw [hostOps0]
  after_results_simp
  rfl
theorem cos_at (c : Dev nD) (r : Fin 8320) (l : Fin 128) (k : Fin 64) (hk : k.val = l.val % 64) : V m c main_v38 (ix2 r l) = cosE (posE (stand (place r)) * waves (ix1 k)) := by
  rw [V38, ← places_at]
  exact cosTable_at _ _ _ _ _ _ _ r l k hk
theorem sin_at (c : Dev nD) (r : Fin 8320) (l : Fin 128) (k : Fin 64) (hk : k.val = l.val % 64) :
    V m c main_v40 (ix2 r l) = if l.val < 64 then - sinE (posE (stand (place r)) * waves (ix1 k)) else sinE (posE (stand (place r)) * waves (ix1 k)) := by
  rw [V40, ← places_at]
  exact sinTable_at _ _ _ _ _ _ _ r l k hk

/-- The rows that the host code lays out. -/
theorem V6 (c : Dev nD) : V m c main_v6 = truncf .bf16 (laid (n := 2048) (m ((c : Thread nD τ).loc main_arg0)) (m ((c : Thread nD τ).loc main_arg1))
    slices_S4x2064x2048_S4x2048x2048_0_16_0 shapeCasts_S4x2048x2048_S8192x2048 slices_S4x2064x2048_S4x16x2048_0_0_0 shapeCasts_S4x16x2048_S64x2048
    shapeCasts_S8x8x2048_S64x2048 concatenates_S8192x2048_S64x2048_S64x2048_S8320x2048_d0) bitsLt_bf16_f32 := by
  show StableHlo.after hostOps0 _ _ = _
  rw [hostOps0]
  after_results_simp
  rfl

/-- The result array at an index of point `t`'s block. -/
theorem result_block (c : Dev nD) (t : Fin cfg0.N) (x : Fin 1040) (y : Fin 1024) (r : Fin 8320) (e : Fin 2048)
    (hr : r.val = t.val % 8 * 1040 + x.val) (he : e.val = t.val / 8 * 1024 + y.val) :
    (dats m 0 c).arrAt 4 cfg0.N (ix2 r e) = (outsAt0 m c t.val t.isLt).1 (ix2 x y) := by
  have h := congrFun ((Cert.KeysIdeal.Value.blocks4 m c t (flush0_4 t)).trans (Cert.KeysIdeal.Value.flushed4 m c t)) (ix2 x y)
  refine Eq.trans ?_ h
  show _ = (dats m 0 c).arrAt 4 cfg0.N _
  refine congrArg _ (funext fun a => Fin.ext ?_)
  match a with
  | ⟨0, _⟩ =>
    show r.val = cc0_transform_4 (grid0.coords t) 0 * 1040 + 1 * x.val
    rw [index4 t, hr, Nat.one_mul]
    rfl
  | ⟨1, _⟩ =>
    show e.val = cc0_transform_4 (grid0.coords t) 1 * 1024 + 1 * y.val
    rw [index4 t, he, Nat.one_mul]
    rfl
end Any

theorem product_at (x : S1040x2048.Idx → EReal) (w : S2048x1024.Idx → EReal) (r : Fin 1040) (x' : Fin 1024) :
    k0_pay3 (F := Ideal) x (k0_pay2 (F := Ideal) w) (ix2 r x') = ∑ k : Fin 2048, x (ix2 r k) * w (ix2 k x') := by
  unfold k0_pay3 k0_pay2
  pointwise

theorem same4 (x : S1040x128.Idx → EReal) (r : Fin 1040) (l : Fin 128) : k0_pay4 (F := Ideal) x (ix2 r l) = x (ix2 r l) := by
  unfold k0_pay4
  pointwise
theorem same5 (x : S1040x128.Idx → EReal) (r : Fin 1040) (l : Fin 128) : k0_pay5 (F := Ideal) x (ix2 r l) = x (ix2 r l) := by
  unfold k0_pay5
  pointwise

variable (m : (ℓ : Loc nD τ sig) → Buf (Elt Ideal) ℓ)

abbrev argP (c : Dev nD) : (Prompt 2048).Idx → EReal := m ((c : Thread nD τ).loc main_arg0)
abbrev argS (c : Dev nD) : (Sample 2048).Idx → EReal := m ((c : Thread nD τ).loc main_arg1)
abbrev argW (c : Dev nD) : S2048x2048.Idx → EReal := m ((c : Thread nD τ).loc main_arg2)

theorem rows_at (c : Dev nD) (r : Fin 8320) (k : Fin 2048) : V m c main_v6 (ix2 r k) = entry (argP m c) (argS m c) (place r) k := by
  rw [V6]
  exact laid_at (F := Ideal) (n := 2048) (argP m c) (argS m c) slices_S4x2064x2048_S4x2048x2048_0_16_0 shapeCasts_S4x2048x2048_S8192x2048 slices_S4x2064x2048_S4x16x2048_0_0_0 shapeCasts_S4x16x2048_S64x2048
    shapeCasts_S8x8x2048_S64x2048 concatenates_S8192x2048_S64x2048_S64x2048_S8320x2048_d0 r k

theorem result_at (c : Dev nD) (r : Fin 8320) (e : Fin 2048) :
    (dats m 0 c).arrAt 4 cfg0.N (ix2 r e) = turn e (∑ k : Fin 2048, entry (argP m c) (argS m c) (place r) k * argW m c (ix2 k e))
      (∑ k : Fin 2048, entry (argP m c) (argS m c) (place r) k * argW m c (ix2 k (partner e))) (posE (stand (place r)) * waves (ix1 (wave e))) * factor := by
  have ht : 8 * (e.val / 1024) + r.val / 1040 < cfg0.N := Nat.lt_of_lt_of_eq (by omega) N_0.symm
  have hr : r.val = (8 * (e.val / 1024) + r.val / 1040) % 8 * 1040 + r.val % 1040 := by omega
  rw [result_block m c ⟨8 * (e.val / 1024) + r.val / 1040, ht⟩ ⟨r.val % 1040, by omega⟩ ⟨e.val % 1024, by omega⟩ r e hr
    (by show e.val = (8 * (e.val / 1024) + r.val / 1040) / 8 * 1024 + e.val % 1024; omega), state]
  refine tile_turn _ _ _ _ _ (fun e' => ∑ k : Fin 2048, entry (argP m c) (argS m c) (place r) k * argW m c (ix2 k e')) (⟨r.val % 1040, by omega⟩ : Fin 1040) _ e rfl ?_ ?_ ?_
  · intro q e' he
    refine (product_at _ _ _ _).trans (Finset.sum_congr rfl fun k _ => ?_)
    have hx : iblk m c 0 ⟨8 * (e.val / 1024) + r.val / 1040, ht⟩ (ix2 (⟨r.val % 1040, by omega⟩ : Fin 1040) k) = entry (argP m c) (argS m c) (place r) k :=
      (block0 m c _ _ r (by show r.val = (8 * (e.val / 1024) + r.val / 1040) % 8 * 1040 + r.val % 1040; exact hr)).trans (rows_at m c r k)
    have hw : iblk m c 1 ⟨(8 * (e.val / 1024) + r.val / 1040) / 8 * 8, start_lt ht⟩ (ix2 k q) = argW m c (ix2 k e') :=
      block1 m c _ k q _ (by show e'.val = (((8 * (e.val / 1024) + r.val / 1040) / 8 * 8) / 8) * 1024 + q.val; omega)
    exact congrArg₂ (fun a b : EReal => a * b) hx hw
  · intro l hl
    refine (same4 _ _ _).trans (((block2 m c ⟨8 * (e.val / 1024) + r.val / 1040, ht⟩ (⟨r.val % 1040, by omega⟩ : Fin 1040) l r (by show r.val = (8 * (e.val / 1024) + r.val / 1040) % 8 * 1040 + r.val % 1040; exact hr))).trans (cos_at m c r l (wave e) ?_))
    show e.val % 64 = l.val % 64
    omega
  · intro l hl
    rw [← hl]
    refine (same5 _ _ _).trans (((block3 m c ⟨8 * (e.val / 1024) + r.val / 1040, ht⟩ (⟨r.val % 1040, by omega⟩ : Fin 1040) l r (by show r.val = (8 * (e.val / 1024) + r.val / 1040) % 8 * 1040 + r.val % 1040; exact hr))).trans (sin_at m c r l (wave e) ?_))
    show e.val % 64 = l.val % 64
    omega

end Cert.Dense.Keys

namespace Cert.Dense.PlainKeys

open Idealize.ShloMosaic Idealize.ShloMosaic.TcCoe Idealize.ShloMosaic.Tactic
open Idealize.ShloMosaic.Pointwise
open Cert.PlainKeysIdeal Cert.PlainKeysIdeal.Gen

section
variable {F : FTy → Type} [FloatOps F]
/-- The reference's matrix, its two products, and its result. -/
def matrix (w : FVec F S2048x2048 .f32) : FVec F S2048x2048 .f32 := w
def promptProduct (p : FVec F S4x2064x2048 .f32) (w : FVec F S2048x2048 .f32) : FVec F S4x2064x2048 .f32 :=
  Host.dotGeneral dot_S4x2064x2048_S2048x2048_S4x2064x2048_2_0_01_1_n_n none p (matrix w)
def promptAngles : FVec F (Grid 2064 64) .f32 :=
  angles (iotaInDim S2064 32 0) (frequencies bcast_S_S64 bcast_S_S64) bcast_S2064_S2064x1_0 bcast_S64_S1x64_1 bcast_S2064x1_S2064x64_0_1 bcast_S1x64_S2064x64_0_1
def promptHeads (p : FVec F S4x2064x2048 .f32) (w : FVec F S2048x2048 .f32) : FVec F S4x2064x16x128 .f32 :=
  heads (promptProduct p w) promptAngles shapeCasts_S4x2064x2048_S4x2064x16x128 slices_S4x2064x16x128_S4x2064x16x64_0_0_0_0 slices_S4x2064x16x128_S4x2064x16x64_0_0_0_64
    bcast_S2064x64_S1x2064x1x64_1_3 bcast_S1x2064x1x64_S4x2064x16x64_0_1_2_3 concatenates_S4x2064x16x64_S4x2064x16x64_S4x2064x16x128_d3
def prompt (p : FVec F S4x2064x2048 .f32) (w : FVec F S2048x2048 .f32) : FVec F S4x2064x2048 .f32 :=
  shapeCast S4x2064x2048 (promptHeads p w) shapeCasts_S4x2064x16x128_S4x2064x2048
def samplesProduct (s : FVec F S8x8x2048 .f32) (w : FVec F S2048x2048 .f32) : FVec F S8x8x2048 .f32 :=
  Host.dotGeneral dot_S8x8x2048_S2048x2048_S8x8x2048_2_0_01_1_n_n none s (matrix w)
def samplesAngles : FVec F (Grid 8 64) .f32 :=
  angles (addi (broadcastInDim S8 ![] bcast_S_S8 (constantI S_ 32 16384#32)) (iotaInDim S8 32 0)) (frequencies bcast_S_S64 bcast_S_S64) bcast_S8_S8x1_0 bcast_S64_S1x64_1 bcast_S8x1_S8x64_0_1 bcast_S1x64_S8x64_0_1
def samplesHeads (s : FVec F S8x8x2048 .f32) (w : FVec F S2048x2048 .f32) : FVec F S8x8x16x128 .f32 :=
  heads (samplesProduct s w) samplesAngles shapeCasts_S8x8x2048_S8x8x16x128 slices_S8x8x16x128_S8x8x16x64_0_0_0_0 slices_S8x8x16x128_S8x8x16x64_0_0_0_64
    bcast_S8x64_S1x8x1x64_1_3 bcast_S1x8x1x64_S8x8x16x64_0_1_2_3 concatenates_S8x8x16x64_S8x8x16x64_S8x8x16x128_d3
def samples (s : FVec F S8x8x2048 .f32) (w : FVec F S2048x2048 .f32) : FVec F S8x8x2048 .f32 :=
  shapeCast S8x8x2048 (samplesHeads s w) shapeCasts_S8x8x16x128_S8x8x2048
def result (p : FVec F S4x2064x2048 .f32) (s : FVec F S8x8x2048 .f32) (w : FVec F S2048x2048 .f32) : FVec F S8320x2048 .f32 :=
  laid (n := 2048) (prompt p w) (samples s w) slices_S4x2064x2048_S4x2048x2048_0_16_0 shapeCasts_S4x2048x2048_S8192x2048 slices_S4x2064x2048_S4x16x2048_0_0_0
    shapeCasts_S4x16x2048_S64x2048 shapeCasts_S8x8x2048_S64x2048 concatenates_S8192x2048_S64x2048_S64x2048_S8320x2048_d0
end

variable (p : S4x2064x2048.Idx → EReal) (s : S8x8x2048.Idx → EReal) (w : S2048x2048.Idx → EReal)

/-- The frequencies. -/
def waves : (Line 64).Idx → EReal := frequencies (F := Ideal) bcast_S_S64 bcast_S_S64

theorem promptProduct_at (b : Fin 4) (t : Fin 2064) (e : Fin 2048) : promptProduct (F := Ideal) p w (ix3 b t e) = ∑ k : Fin 2048, p (ix3 b t k) * w (ix2 k e) := by
  unfold promptProduct matrix
  pointwise
theorem promptAngles_at (t : Fin 2064) (k : Fin 64) : promptAngles (F := Ideal) (ix2 t k) = posE (BitVec.ofNat 32 t.val) * waves (ix1 k) :=
  angles2064_at _ _ _ _ _ _ t k
theorem promptHeads_at (b : Fin 4) (t : Fin 2064) (e : Fin 2048) : promptHeads (F := Ideal) p w (ix4 b t ⟨e.val / 128, by omega⟩ ⟨e.val % 128, by omega⟩)
    = turn e (∑ k : Fin 2048, p (ix3 b t k) * w (ix2 k e)) (∑ k : Fin 2048, p (ix3 b t k) * w (ix2 k (partner e))) (posE (BitVec.ofNat 32 t.val) * waves (ix1 (wave e))) := by
  unfold promptHeads
  rw [prompt_heads_at _ _ _ _ _ _ _ _ b t _ _ e (by show e.val = e.val / 128 * 128 + e.val % 128; omega), promptProduct_at, promptProduct_at, promptAngles_at]
theorem prompt_at (b : Fin 4) (t : Fin 2064) (e : Fin 2048) : prompt (F := Ideal) p w (ix3 b t e)
    = turn e (∑ k : Fin 2048, p (ix3 b t k) * w (ix2 k e)) (∑ k : Fin 2048, p (ix3 b t k) * w (ix2 k (partner e))) (posE (BitVec.ofNat 32 t.val) * waves (ix1 (wave e))) * Keys.factor := by
  unfold prompt
  refine (prompt_joined_at _ _ b t e).trans ?_
  rw [promptHeads_at, show Keys.factor = 1 from Ideal.ofBits_one_f32, mul_one]
theorem samplesProduct_at (b : Fin 8) (t : Fin 8) (e : Fin 2048) : samplesProduct (F := Ideal) s w (ix3 b t e) = ∑ k : Fin 2048, s (ix3 b t k) * w (ix2 k e) := by
  unfold samplesProduct matrix
  pointwise
theorem samplesAngles_at (t : Fin 8) (k : Fin 64) : samplesAngles (F := Ideal) (ix2 t k) = posE (16384#32 + BitVec.ofNat 32 t.val) * waves (ix1 k) :=
  angles8_at _ _ _ _ _ _ t k
theorem samplesHeads_at (b : Fin 8) (t : Fin 8) (e : Fin 2048) : samplesHeads (F := Ideal) s w (ix4 b t ⟨e.val / 128, by omega⟩ ⟨e.val % 128, by omega⟩)
    = turn e (∑ k : Fin 2048, s (ix3 b t k) * w (ix2 k e)) (∑ k : Fin 2048, s (ix3 b t k) * w (ix2 k (partner e))) (posE (16384#32 + BitVec.ofNat 32 t.val) * waves (ix1 (wave e))) := by
  unfold samplesHeads
  rw [sample_heads_at _ _ _ _ _ _ _ _ b t _ _ e (by show e.val = e.val / 128 * 128 + e.val % 128; omega), samplesProduct_at, samplesProduct_at, samplesAngles_at]
theorem samples_at (b : Fin 8) (t : Fin 8) (e : Fin 2048) : samples (F := Ideal) s w (ix3 b t e)
    = turn e (∑ k : Fin 2048, s (ix3 b t k) * w (ix2 k e)) (∑ k : Fin 2048, s (ix3 b t k) * w (ix2 k (partner e))) (posE (16384#32 + BitVec.ofNat 32 t.val) * waves (ix1 (wave e))) * Keys.factor := by
  unfold samples
  refine (sample_joined_at _ _ b t e).trans ?_
  rw [samplesHeads_at, show Keys.factor = 1 from Ideal.ofBits_one_f32, mul_one]

theorem result_at (r : Fin 8320) (e : Fin 2048) : result (F := Ideal) p s w (ix2 r e)
    = turn e (∑ k : Fin 2048, entry p s (place r) k * w (ix2 k e)) (∑ k : Fin 2048, entry p s (place r) k * w (ix2 k (partner e))) (posE (stand (place r)) * waves (ix1 (wave e))) * Keys.factor :=
  (laid_at _ _ _ _ _ _ _ _ r e).trans
    (entry_turn p s (fun k e => w (ix2 k e)) waves Keys.factor _ _ (prompt_at p w) (samples_at s w) (place r) e)

end Cert.Dense.PlainKeys

namespace Cert.Dense.Keys

open Idealize.ShloMosaic Idealize.ShloMosaic.TcCoe Idealize.SL.Sem
open Idealize.ShloMosaic.Pointwise
open Cert.KeysIdeal Cert.KeysIdeal.Gen

theorem equal (m : (ℓ : Loc nD τ sig) → Buf (Elt Ideal) ℓ) (c : Dev nD) :
    (dats m 0 c).arrAt 4 cfg0.N = PlainKeys.result (F := Ideal) (argP m c) (argS m c) (argW m c) := by
  funext j
  refine (congrArg _ (eq_ix2 j)).trans (Eq.trans ?_ (congrArg _ (eq_ix2 j).symm))
  exact (result_at m c (j 0) (j 1)).trans (PlainKeys.result_at (argP m c) (argS m c) (argW m c) (j 0) (j 1)).symm

/-- The reference ends as its run says. -/
theorem plain_run (m : (ℓ : Loc Cert.PlainKeysIdeal.nD Cert.PlainKeysIdeal.τ Cert.PlainKeysIdeal.sig) → Buf (Elt Ideal) ℓ) (ρ : Dev Cert.PlainKeysIdeal.nD → PrngReg) :
    θ_run Cert.PlainKeysIdeal.defs (onTc (τ := Cert.PlainKeysIdeal.τ) (Cert.PlainKeysIdeal.main (F := Ideal))) ⟨m, fun _ => 0, ρ⟩ fun r => ∀ c : Dev Cert.PlainKeysIdeal.nD,
      r.2.mem ((c.tc : Thread Cert.PlainKeysIdeal.nD Cert.PlainKeysIdeal.τ).loc Cert.PlainKeysIdeal.main_v73)
        = PlainKeys.result (F := Ideal) (m ((c.tc : Thread Cert.PlainKeysIdeal.nD Cert.PlainKeysIdeal.τ).loc Cert.PlainKeysIdeal.main_arg0))
          (m ((c.tc : Thread Cert.PlainKeysIdeal.nD Cert.PlainKeysIdeal.τ).loc Cert.PlainKeysIdeal.main_arg1))
          (m ((c.tc : Thread Cert.PlainKeysIdeal.nD Cert.PlainKeysIdeal.τ).loc Cert.PlainKeysIdeal.main_arg2))
      ∧ r.2.mem ((c.tc : Thread Cert.PlainKeysIdeal.nD Cert.PlainKeysIdeal.τ).loc Cert.PlainKeysIdeal.main_arg0) = m ((c.tc : Thread Cert.PlainKeysIdeal.nD Cert.PlainKeysIdeal.τ).loc Cert.PlainKeysIdeal.main_arg0)
      ∧ r.2.mem ((c.tc : Thread Cert.PlainKeysIdeal.nD Cert.PlainKeysIdeal.τ).loc Cert.PlainKeysIdeal.main_arg1) = m ((c.tc : Thread Cert.PlainKeysIdeal.nD Cert.PlainKeysIdeal.τ).loc Cert.PlainKeysIdeal.main_arg1)
      ∧ r.2.mem ((c.tc : Thread Cert.PlainKeysIdeal.nD Cert.PlainKeysIdeal.τ).loc Cert.PlainKeysIdeal.main_arg2) = m ((c.tc : Thread Cert.PlainKeysIdeal.nD Cert.PlainKeysIdeal.τ).loc Cert.PlainKeysIdeal.main_arg2) :=
  Cert.PlainKeysIdeal.Value.run (F := Ideal) m ρ

end Cert.Dense.Keys
-- ==== Proof.DenseQueriesA.lean ====
module

public import proofs.«01_k».proof.Proof.Gen.QueriesAIdeal.Value
public import proofs.«01_k».proof.Proof.Gen.PlainQueriesAIdeal.Run
public import proofs.«01_k».proof.Proof.Rope
public import Idealize.ShloMosaic.Lib.Pipeline.ValueKit

/-! The dense call `QueriesA`: its result array is, entry by entry, the turned product that the reference writes. -/

@[expose] public section

set_option maxRecDepth 16384

noncomputable section

namespace Cert.Dense.QueriesA

open Idealize.ShloMosaic Idealize.ShloMosaic.TcCoe Idealize.ShloMosaic.Tactic
open Idealize.ShloMosaic.Pointwise
open Cert.QueriesAIdeal Cert.QueriesAIdeal.Gen

/-- The factor of every entry. -/
def factor : EReal := Ideal.ofBits .f32 0x3DB504F3#32

section Case
variable (c : Dev nD) (i : grid0.Coords)
  (arg2 : Memref sig .tc .vmem S1040x2048 .bf16) (harg2 : arg2.IsWhole) (arg3 : Memref sig .tc .vmem S1x2048x1024 .f32) (harg3 : arg3.IsWhole)
  (arg4 : Memref sig .tc .vmem S1040x128 .f32) (harg4 : arg4.IsWhole) (arg5 : Memref sig .tc .vmem S1040x128 .f32) (harg5 : arg5.IsWhole)
  (arg6 : Memref sig .tc .vmem S1040x1024 .f32) (harg6 : arg6.IsWhole) (arg7 : Memref sig .tc .vmem S2048x1024 .bf16) (harg7 : arg7.IsWhole)
  (x0 : Vec Ideal S1040x2048 .bf16) (x1 : Vec Ideal S1x2048x1024 .f32) (x2 : Vec Ideal S1040x128 .f32) (x3 : Vec Ideal S1040x128 .f32) (xs : Vec Ideal S2048x1024 .bf16)

/-- A point's tile, from its rows, the kept weights and its rows of the tables. -/
def tile : Tile.Idx → EReal := tileAt (k0_pay3 x0 xs) (k0_pay4 x2) (k0_pay5 x3) factor

/-- The eight groups of columns of a point's tile. -/
theorem tiles (y : Tile.Idx) : View.AllAt (Val := Elt Ideal) (S := Tile) (e := .f32)
    [⟨Rect.unit ![0, 896] ![1040, 128] inb_S1040x1024_S1040x128_0_896, k0_pay1 (k0_pay5 x3) (k0_pay14 (k0_pay3 x0 xs) (k0_pay4 x2)) (k0_pay15 (k0_pay3 x0 xs))⟩,
      ⟨Rect.unit ![0, 768] ![1040, 128] inb_S1040x1024_S1040x128_0_768, k0_pay12 (k0_pay3 x0 xs) (k0_pay4 x2) (k0_pay5 x3)⟩,
      ⟨Rect.unit ![0, 640] ![1040, 128] inb_S1040x1024_S1040x128_0_640, k0_pay11 (k0_pay3 x0 xs) (k0_pay4 x2) (k0_pay5 x3)⟩,
      ⟨Rect.unit ![0, 512] ![1040, 128] inb_S1040x1024_S1040x128_0_512, k0_pay10 (k0_pay3 x0 xs) (k0_pay4 x2) (k0_pay5 x3)⟩,
      ⟨Rect.unit ![0, 384] ![1040, 128] inb_S1040x1024_S1040x128_0_384, k0_pay9 (k0_pay3 x0 xs) (k0_pay4 x2) (k0_pay5 x3)⟩,
      ⟨Rect.unit ![0, 256] ![1040, 128] inb_S1040x1024_S1040x128_0_256, k0_pay8 x0 xs x2 x3⟩,
      ⟨Rect.unit ![0, 128] ![1040, 128] inb_S1040x1024_S1040x128_0_128, k0_pay7 x0 xs x2 x3⟩,
      ⟨Rect.unit ![0, 0] ![1040, 128] inb_S1040x1024_S1040x128_0_0, k0_pay6 x0 xs x2 x3⟩] y (tile x0 x2 x3 xs y) := by
  unfold tile
  have turned_all (o : ℕ) (ho : o + 128 ≤ 1024) (h128 : o % 128 = 0) (h : Tile.Slices ![0, o] Lane) :=
    turned_tile o ho h128 h rotates_S1040x128_d1 (k0_pay3 x0 xs) (k0_pay4 x2) (k0_pay5 x3) factor y
  refine View.allAt_cons_unit _ _ _ _ _ (turned_all 896 (by decide) (by decide) slices_S1040x1024_o0_896_S1040x128) ?_
  refine View.allAt_cons_unit _ _ _ _ _ (turned_all 768 (by decide) (by decide) slices_S1040x1024_o0_768_S1040x128) ?_
  refine View.allAt_cons_unit _ _ _ _ _ (turned_all 640 (by decide) (by decide) slices_S1040x1024_o0_640_S1040x128) ?_
  refine View.allAt_cons_unit _ _ _ _ _ (turned_all 512 (by decide) (by decide) slices_S1040x1024_o0_512_S1040x128) ?_
  refine View.allAt_cons_unit _ _ _ _ _ (turned_all 384 (by decide) (by decide) slices_S1040x1024_o0_384_S1040x128) ?_
  refine View.allAt_cons_unit _ _ _ _ _ (turned_all 256 (by decide) (by decide) slices_S1040x1024_o0_256_S1040x128) ?_
  refine View.allAt_cons_unit _ _ _ _ _ (turned_all 128 (by decide) (by decide) slices_S1040x1024_o0_128_S1040x128) ?_
  exact View.allAt_cons_unit _ _ _ _ _ (turned_all 0 (by decide) (by decide) slices_S1040x1024_o0_0_S1040x128) (View.allAt_nil _ _)

/-- The first point of a block of columns keeps the block's weights, and every point multiplies by the kept ones. -/
theorem keptA (hc0 : cond0_0 i) : sout0_A_0 (F := Ideal) c i arg2 harg2 arg3 harg3 arg4 harg4 arg5 harg5 arg6 harg6 arg7 harg7 hc0 x0 x1 x2 x3 = k0_pay2 x1 := by
  unfold sout0_A_0 kernelRun0_A
  dsimp only
  rw [View.read_writes_junk_eq_canon]
  unfold kernelRun0_A.sl.HS0_1
  rw [View.readAt_eq_ld, harg3.read_unread, View.ld_unit_lit' _ _ (by decide)]
  exact View.canon_cons_unit_lit' _ _ _ (by decide)
theorem outA (hc0 : cond0_0 i) : out0_A_4 (F := Ideal) c i arg2 harg2 arg3 harg3 arg4 harg4 arg5 harg5 arg6 harg6 arg7 harg7 hc0 x0 x1 x2 x3 = tile x0 x2 x3 (k0_pay2 x1) := by
  unfold out0_A_4
  rw [View.read_writes_junk_eq_canon]
  funext y
  refine View.canon_eq_of_allAt _ y _ (cover0_A_4 c i arg2 harg2 arg3 harg3 arg4 harg4 arg5 harg5 arg6 harg6 arg7 harg7 hc0 x0 x1 x2 x3 y) ?_
  unfold kernelRun0_A
  dsimp only
  have h0 : View.readAt (Elt Ideal) arg2.view (Rect.unit ![0, 0] ![1040, 2048] inb_S1040x2048_S1040x2048_0_0).toLoadRect (harg2.unread x0) = x0 := by
    rw [View.readAt_eq_ld, harg2.read_unread, View.ld_unit_lit' _ _ (by decide)]
  have h2 : View.readAt (Elt Ideal) arg4.view (Rect.unit ![0, 0] ![1040, 128] inb_S1040x128_S1040x128_0_0).toLoadRect (harg4.unread x2) = x2 := by
    rw [View.readAt_eq_ld, harg4.read_unread, View.ld_unit_lit' _ _ (by decide)]
  have h3 : View.readAt (Elt Ideal) arg5.view (Rect.unit ![0, 0] ![1040, 128] inb_S1040x128_S1040x128_0_0).toLoadRect (harg5.unread x3) = x3 := by
    rw [View.readAt_eq_ld, harg5.read_unread, View.ld_unit_lit' _ _ (by decide)]
  have hv : kernelRun0_A.sl.v5 c arg3 harg3 arg7 x1 = k0_pay2 x1 := by
    unfold kernelRun0_A.sl.v5 kernelRun0_A.sl.HS0_1
    rw [View.readAt_eq_ld, harg3.read_unread, View.ld_unit_lit' _ _ (by decide), View.readCov_unit_lit' _ _ _ (by decide)]
  unfold kernelRun0_A.sl.r_5 kernelRun0_A.sl.r_4 kernelRun0_A.sl.r_3 kernelRun0_A.sl.r_2 kernelRun0_A.sl.r_1 kernelRun0_A.sl.r
  rw [h0, h2, h3, hv]
  exact tiles x0 x2 x3 (k0_pay2 x1) y
theorem outB (hc0 : ¬cond0_0 i) : out0_B_4 (F := Ideal) c i arg2 harg2 arg3 harg3 arg4 harg4 arg5 harg5 arg6 harg6 arg7 harg7 hc0 x0 x1 x2 x3 xs = tile x0 x2 x3 xs := by
  unfold out0_B_4
  rw [View.read_writes_junk_eq_canon]
  funext y
  refine View.canon_eq_of_allAt _ y _ (cover0_B_4 c i arg2 harg2 arg3 harg3 arg4 harg4 arg5 harg5 arg6 harg6 arg7 harg7 hc0 x0 x1 x2 x3 xs y) ?_
  unfold kernelRun0_B
  dsimp only
  have h0 : View.readAt (Elt Ideal) arg2.view (Rect.unit ![0, 0] ![1040, 2048] inb_S1040x2048_S1040x2048_0_0).toLoadRect (harg2.unread x0) = x0 := by
    rw [View.readAt_eq_ld, harg2.read_unread, View.ld_unit_lit' _ _ (by decide)]
  have h2 : View.readAt (Elt Ideal) arg4.view (Rect.unit ![0, 0] ![1040, 128] inb_S1040x128_S1040x128_0_0).toLoadRect (harg4.unread x2) = x2 := by
    rw [View.readAt_eq_ld, harg4.read_unread, View.ld_unit_lit' _ _ (by decide)]
  have h3 : View.readAt (Elt Ideal) arg5.view (Rect.unit ![0, 0] ![1040, 128] inb_S1040x128_S1040x128_0_0).toLoadRect (harg5.unread x3) = x3 := by
    rw [View.readAt_eq_ld, harg5.read_unread, View.ld_unit_lit' _ _ (by decide)]
  have hv : View.readAt (Elt Ideal) arg7.view (Rect.unit ![0, 0] ![2048, 1024] inb_S2048x1024_S2048x1024_0_0).toLoadRect (harg7.unread xs) = xs := by
    rw [View.readAt_eq_ld, harg7.read_unread, View.ld_unit_lit' _ _ (by decide)]
  unfold kernelRun0_B.sl.r_5 kernelRun0_B.sl.r_4 kernelRun0_B.sl.r_3 kernelRun0_B.sl.r_2 kernelRun0_B.sl.r_1 kernelRun0_B.sl.r
  rw [h0, h2, h3, hv]
  exact tiles x0 x2 x3 xs y
end Case

section Any
variable (m : (ℓ : Loc nD τ sig) → Buf (Elt Ideal) ℓ)

theorem start_lt {n : ℕ} (hn : n < cfg0.N) : n / 8 * 8 < cfg0.N := Nat.lt_of_le_of_lt (Nat.div_mul_le_self n 8) hn

theorem first_start {n : ℕ} (h : n % 8 = 0) : n / 8 * 8 = n := by omega
theorem next_start {n : ℕ} (h : ¬(n + 1) % 8 = 0) : (n + 1) / 8 * 8 = n / 8 * 8 := by omega
theorem first_point {n : ℕ} (hn : n < cfg0.N) (h : n % 8 = 0) : (⟨n / 8 * 8, start_lt hn⟩ : Fin cfg0.N) = ⟨n, hn⟩ := Fin.ext (first_start h)
theorem next_point {n : ℕ} (hn : n + 1 < cfg0.N) (h : ¬(n + 1) % 8 = 0) :
    (⟨(n + 1) / 8 * 8, start_lt hn⟩ : Fin cfg0.N) = ⟨n / 8 * 8, start_lt (Nat.lt_of_succ_lt hn)⟩ := Fin.ext (next_start h)

theorem state_first (c : Dev nD) (t : Fin cfg0.N) (h : t.val % 8 = 0) :
    outsAt0 m c t.val t.isLt = (tile (iblk m c 0 t) (iblk m c 2 t) (iblk m c 3 t) (k0_pay2 (iblk m c 1 t)), k0_pay2 (iblk m c 1 t)) := by
  rw [outsAt0_A m c t h, outA, keptA]
theorem state_next (c : Dev nD) (t : Fin cfg0.N) (h : ¬t.val % 8 = 0) :
    outsAt0 m c t.val t.isLt = (tile (iblk m c 0 t) (iblk m c 2 t) (iblk m c 3 t) (outsAt0 m c (t.val - 1) (Nat.lt_of_le_of_lt (Nat.sub_le _ _) t.isLt)).2,
      (outsAt0 m c (t.val - 1) (Nat.lt_of_le_of_lt (Nat.sub_le _ _) t.isLt)).2) := by
  rw [outsAt0_B m c t h, outB]
  rfl

theorem state (c : Dev nD) (n : ℕ) (hn : n < cfg0.N) :
    outsAt0 m c n hn = (tile (iblk m c 0 ⟨n, hn⟩) (iblk m c 2 ⟨n, hn⟩) (iblk m c 3 ⟨n, hn⟩) (k0_pay2 (iblk m c 1 ⟨n / 8 * 8, start_lt hn⟩)), k0_pay2 (iblk m c 1 ⟨n / 8 * 8, start_lt hn⟩)) := by
  induction n with
  | zero => exact state_first m c ⟨0, hn⟩ rfl
  | succ n ih =>
    by_cases h : (n + 1) % 8 = 0
    · rw [first_point hn h]
      exact state_first m c ⟨n + 1, hn⟩ h
    · rw [next_point hn h]
      have e := state_next m c ⟨n + 1, hn⟩ h
      have e' : (outsAt0 m c (n + 1 - 1) (Nat.lt_of_le_of_lt (Nat.sub_le _ _) hn)).2 = _ := congrArg Prod.snd (ih (Nat.lt_of_succ_lt hn))
      refine e.trans ?_
      rw [e']

theorem index0 : ∀ t : Fin cfg0.N, cc0_transform_0 (grid0.coords t) = ![t.val % 8, 0] :=
  (by decide +kernel : ∀ t : Fin grid0.N, cc0_transform_0 (grid0.coords t) = ![t.val % 8, 0])
theorem index1 : ∀ t : Fin cfg0.N, cc0_transform_1 (grid0.coords t) = ![0, 0, t.val / 8] :=
  (by decide +kernel : ∀ t : Fin grid0.N, cc0_transform_1 (grid0.coords t) = ![0, 0, t.val / 8])
theorem index2 : ∀ t : Fin cfg0.N, cc0_transform_2 (grid0.coords t) = ![t.val % 8, 0] :=
  (by decide +kernel : ∀ t : Fin grid0.N, cc0_transform_2 (grid0.coords t) = ![t.val % 8, 0])
theorem index3 : ∀ t : Fin cfg0.N, cc0_transform_3 (grid0.coords t) = ![t.val % 8, 0] :=
  (by decide +kernel : ∀ t : Fin grid0.N, cc0_transform_3 (grid0.coords t) = ![t.val % 8, 0])
theorem index4 : ∀ t : Fin cfg0.N, cc0_transform_4 (grid0.coords t) = ![t.val % 8, t.val / 8] :=
  (by decide +kernel : ∀ t : Fin grid0.N, cc0_transform_4 (grid0.coords t) = ![t.val % 8, t.val / 8])

theorem block0 (c : Dev nD) (t : Fin cfg0.N) (j : S1040x2048.Idx) (r : Fin 8320) (hr : r.val = t.val % 8 * 1040 + (j 0).val) :
    iblk m c 0 t j = V m c main_v6 (ix2 r (j 1)) := by
  show V m c main_v6 _ = _
  refine congrArg _ (funext fun a => Fin.ext ?_)
  match a with
  | ⟨0, _⟩ =>
    show cc0_transform_0 (grid0.coords t) 0 * 1040 + 1 * (j 0).val = r.val
    rw [index0 t, hr, Nat.one_mul]
    rfl
  | ⟨1, _⟩ =>
    show cc0_transform_0 (grid0.coords t) 1 * 2048 + 1 * (j 1).val = (j 1).val
    rw [index0 t, Nat.one_mul]
    exact Nat.zero_add _
theorem block1 (c : Dev nD) (t : Fin cfg0.N) (a : Fin 1) (k : Fin 2048) (x : Fin 1024) (e : Fin 2048) (he : e.val = (t.val / 8) * 1024 + x.val) :
    iblk m c 1 t (ix3 a k x) = m ((c : Thread nD τ).loc main_arg2) (ix3 (⟨0, by decide⟩ : Fin 2) k e) := by
  show V m c main_arg2 _ = _
  rw [V_main_arg2]
  refine congrArg _ (funext fun b => Fin.ext ?_)
  match b with
  | ⟨0, _⟩ =>
    show cc0_transform_1 (grid0.coords t) 0 * 1 + 1 * a.val = 0
    rw [index1 t]
    show 0 * 1 + 1 * a.val = 0
    omega
  | ⟨1, _⟩ =>
    show cc0_transform_1 (grid0.coords t) 1 * 2048 + 1 * k.val = k.val
    rw [index1 t, Nat.one_mul]
    exact Nat.zero_add _
  | ⟨2, _⟩ =>
    show cc0_transform_1 (grid0.coords t) 2 * 1024 + 1 * x.val = e.val
    rw [index1 t, he, Nat.one_mul]
    rfl

theorem block2 (c : Dev nD) (t : Fin cfg0.N) (x : Fin 1040) (l : Fin 128) (r : Fin 8320) (hr : r.val = t.val % 8 * 1040 + x.val) :
    iblk m c 2 t (ix2 x l) = V m c main_v38 (ix2 r l) := by
  show V m c main_v38 _ = _
  refine congrArg _ (funext fun a => Fin.ext ?_)
  match a with
  | ⟨0, _⟩ =>
    show cc0_transform_2 (grid0.coords t) 0 * 1040 + 1 * x.val = r.val
    rw [index2 t, hr, Nat.one_mul]
    rfl
  | ⟨1, _⟩ =>
    show cc0_transform_2 (grid0.coords t) 1 * 128 + 1 * l.val = l.val
    rw [index2 t, Nat.one_mul]
    exact Nat.zero_add _
theorem block3 (c : Dev nD) (t : Fin cfg0.N) (x : Fin 1040) (l : Fin 128) (r : Fin 8320) (hr : r.val = t.val % 8 * 1040 + x.val) :
    iblk m c 3 t (ix2 x l) = V m c main_v40 (ix2 r l) := by
  show V m c main_v40 _ = _
  refine congrArg _ (funext fun a => Fin.ext ?_)
  match a with
  | ⟨0, _⟩ =>
    show cc0_transform_3 (grid0.coords t) 0 * 1040 + 1 * x.val = r.val
    rw [index3 t, hr, Nat.one_mul]
    rfl
  | ⟨1, _⟩ =>
    show cc0_transform_3 (grid0.coords t) 1 * 128 + 1 * l.val = l.val
    rw [index3 t, Nat.one_mul]
    exact Nat.zero_add _

/-- The positions, the frequencies and the angles that the host code writes. -/
def places : IVec (Line 8320) 32 := positions bcast_S_S2048 shapeCasts_S2048_S1x2048 bcast_S1x2048_S4x2048_0_1 shapeCasts_S4x2048_S8192 shapeCasts_S16_S1x16 bcast_S1x16_S4x16_0_1 shapeCasts_S4x16_S64 bcast_S_S8 shapeCasts_S8_S1x8 bcast_S1x8_S8x8_0_1 shapeCasts_S8x8_S64 concatenates_S8192_S64_S64_S8320_d0
def waves : (Line 64).Idx → EReal := frequencies (F := Ideal) bcast_S_S64 bcast_S_S64
def turns : FVec Ideal (Grid 8320 64) .f32 := angles (F := Ideal) places waves bcast_S8320_S8320x1_0 bcast_S64_S1x64_1 bcast_S8320x1_S8320x64_0_1 bcast_S1x64_S8320x64_0_1

theorem places_at (r : Fin 8320) : places (ix1 r) = stand (place r) := positions_at _ _ _ _ _ _ _ _ _ _ _ _ r

/-- The tables that the host code lays out. -/
theorem V38 (c : Dev nD) : V m c main_v38 = beside (F := Ideal) (Host.cos turns) (Host.cos turns) concatenates_S8320x64_S8320x64_S8320x128_d1 := by
  show StableHlo.after hostOps0 _ _ = _
  rw [hostOps0]
  after_results_simp
  rfl
theorem V40 (c : Dev nD) : V m c main_v40 = beside (F := Ideal) (Host.negf (Host.sin turns)) (Host.sin turns) concatenates_S8320x64_S8320x64_S8320x128_d1 := by
  show StableHlo.after hostOps0 _ _ = _
  rw [hostOps0]
  after_results_simp
  rfl
theorem cos_at (c : Dev nD) (r : Fin 8320) (l : Fin 128) (k : Fin 64) (hk : k.val = l.val % 64) : V m c main_v38 (ix2 r l) = cosE (posE (stand (place r)) * waves (ix1 k)) := by
  rw [V38, ← places_at]
  exact cosTable_at _ _ _ _ _ _ _ r l k hk
theorem sin_at (c : Dev nD) (r : Fin 8320) (l : Fin 128) (k : Fin 64) (hk : k.val = l.val % 64) :
    V m c main_v40 (ix2 r l) = if l.val < 64 then - sinE (posE (stand (place r)) * waves (ix1 k)) else sinE (posE (stand (place r)) * waves (ix1 k)) := by
  rw [V40, ← places_at]
  exact sinTable_at _ _ _ _ _ _ _ r l k hk

/-- The rows that the host code lays out. -/
theorem V6 (c : Dev nD) : V m c main_v6 = truncf .bf16 (laid (n := 2048) (m ((c : Thread nD τ).loc main_arg0)) (m ((c : Thread nD τ).loc main_arg1))
    slices_S4x2064x2048_S4x2048x2048_0_16_0 shapeCasts_S4x2048x2048_S8192x2048 slices_S4x2064x2048_S4x16x2048_0_0_0 shapeCasts_S4x16x2048_S64x2048
    shapeCasts_S8x8x2048_S64x2048 concatenates_S8192x2048_S64x2048_S64x2048_S8320x2048_d0) bitsLt_bf16_f32 := by
  show StableHlo.after hostOps0 _ _ = _
  rw [hostOps0]
  after_results_simp
  rfl

/-- The result array at an index of point `t`'s block. -/
theorem result_block (c : Dev nD) (t : Fin cfg0.N) (x : Fin 1040) (y : Fin 1024) (r : Fin 8320) (e : Fin 2048)
    (hr : r.val = t.val % 8 * 1040 + x.val) (he : e.val = t.val / 8 * 1024 + y.val) :
    (dats m 0 c).arrAt 4 cfg0.N (ix2 r e) = (outsAt0 m c t.val t.isLt).1 (ix2 x y) := by
  have h := congrFun ((Cert.QueriesAIdeal.Value.blocks4 m c t (flush0_4 t)).trans (Cert.QueriesAIdeal.Value.flushed4 m c t)) (ix2 x y)
  refine Eq.trans ?_ h
  show _ = (dats m 0 c).arrAt 4 cfg0.N _
  refine congrArg _ (funext fun a => Fin.ext ?_)
  match a with
  | ⟨0, _⟩ =>
    show r.val = cc0_transform_4 (grid0.coords t) 0 * 1040 + 1 * x.val
    rw [index4 t, hr, Nat.one_mul]
    rfl
  | ⟨1, _⟩ =>
    show e.val = cc0_transform_4 (grid0.coords t) 1 * 1024 + 1 * y.val
    rw [index4 t, he, Nat.one_mul]
    rfl
end Any

theorem product_at (x : S1040x2048.Idx → EReal) (w : S1x2048x1024.Idx → EReal) (r : Fin 1040) (x' : Fin 1024) :
    k0_pay3 (F := Ideal) x (k0_pay2 (F := Ideal) w) (ix2 r x') = ∑ k : Fin 2048, x (ix2 r k) * w (ix3 (0 : Fin 1) k x') := by
  unfold k0_pay3 k0_pay2
  pointwise

theorem same4 (x : S1040x128.Idx → EReal) (r : Fin 1040) (l : Fin 128) : k0_pay4 (F := Ideal) x (ix2 r l) = x (ix2 r l) := by
  unfold k0_pay4
  pointwise
theorem same5 (x : S1040x128.Idx → EReal) (r : Fin 1040) (l : Fin 128) : k0_pay5 (F := Ideal) x (ix2 r l) = x (ix2 r l) := by
  unfold k0_pay5
  pointwise

variable (m : (ℓ : Loc nD τ sig) → Buf (Elt Ideal) ℓ)

abbrev argP (c : Dev nD) : (Prompt 2048).Idx → EReal := m ((c : Thread nD τ).loc main_arg0)
abbrev argS (c : Dev nD) : (Sample 2048).Idx → EReal := m ((c : Thread nD τ).loc main_arg1)
abbrev argW (c : Dev nD) : S2x2048x2048.Idx → EReal := m ((c : Thread nD τ).loc main_arg2)

theorem rows_at (c : Dev nD) (r : Fin 8320) (k : Fin 2048) : V m c main_v6 (ix2 r k) = entry (argP m c) (argS m c) (place r) k := by
  rw [V6]
  exact laid_at (F := Ideal) (n := 2048) (argP m c) (argS m c) slices_S4x2064x2048_S4x2048x2048_0_16_0 shapeCasts_S4x2048x2048_S8192x2048 slices_S4x2064x2048_S4x16x2048_0_0_0 shapeCasts_S4x16x2048_S64x2048
    shapeCasts_S8x8x2048_S64x2048 concatenates_S8192x2048_S64x2048_S64x2048_S8320x2048_d0 r k

theorem result_at (c : Dev nD) (r : Fin 8320) (e : Fin 2048) :
    (dats m 0 c).arrAt 4 cfg0.N (ix2 r e) = turn e (∑ k : Fin 2048, entry (argP m c) (argS m c) (place r) k * argW m c (ix3 (⟨0, by decide⟩ : Fin 2) k e))
      (∑ k : Fin 2048, entry (argP m c) (argS m c) (place r) k * argW m c (ix3 (⟨0, by decide⟩ : Fin 2) k (partner e))) (posE (stand (place r)) * waves (ix1 (wave e))) * factor := by
  have ht : 8 * (e.val / 1024) + r.val / 1040 < cfg0.N := Nat.lt_of_lt_of_eq (by omega) N_0.symm
  have hr : r.val = (8 * (e.val / 1024) + r.val / 1040) % 8 * 1040 + r.val % 1040 := by omega
  rw [result_block m c ⟨8 * (e.val / 1024) + r.val / 1040, ht⟩ ⟨r.val % 1040, by omega⟩ ⟨e.val % 1024, by omega⟩ r e hr
    (by show e.val = (8 * (e.val / 1024) + r.val / 1040) / 8 * 1024 + e.val % 1024; omega), state]
  refine tile_turn _ _ _ _ _ (fun e' => ∑ k : Fin 2048, entry (argP m c) (argS m c) (place r) k * argW m c (ix3 (⟨0, by decide⟩ : Fin 2) k e')) (⟨r.val % 1040, by omega⟩ : Fin 1040) _ e rfl ?_ ?_ ?_
  · intro q e' he
    refine (product_at _ _ _ _).trans (Finset.sum_congr rfl fun k _ => ?_)
    have hx : iblk m c 0 ⟨8 * (e.val / 1024) + r.val / 1040, ht⟩ (ix2 (⟨r.val % 1040, by omega⟩ : Fin 1040) k) = entry (argP m c) (argS m c) (place r) k :=
      (block0 m c _ _ r (by show r.val = (8 * (e.val / 1024) + r.val / 1040) % 8 * 1040 + r.val % 1040; exact hr)).trans (rows_at m c r k)
    have hw : iblk m c 1 ⟨(8 * (e.val / 1024) + r.val / 1040) / 8 * 8, start_lt ht⟩ (ix3 (0 : Fin 1) k q) = argW m c (ix3 (⟨0, by decide⟩ : Fin 2) k e') :=
      block1 m c _ 0 k q _ (by show e'.val = (((8 * (e.val / 1024) + r.val / 1040) / 8 * 8) / 8) * 1024 + q.val; omega)
    exact congrArg₂ (fun a b : EReal => a * b) hx hw
  · intro l hl
    refine (same4 _ _ _).trans (((block2 m c ⟨8 * (e.val / 1024) + r.val / 1040, ht⟩ (⟨r.val % 1040, by omega⟩ : Fin 1040) l r (by show r.val = (8 * (e.val / 1024) + r.val / 1040) % 8 * 1040 + r.val % 1040; exact hr))).trans (cos_at m c r l (wave e) ?_))
    show e.val % 64 = l.val % 64
    omega
  · intro l hl
    rw [← hl]
    refine (same5 _ _ _).trans (((block3 m c ⟨8 * (e.val / 1024) + r.val / 1040, ht⟩ (⟨r.val % 1040, by omega⟩ : Fin 1040) l r (by show r.val = (8 * (e.val / 1024) + r.val / 1040) % 8 * 1040 + r.val % 1040; exact hr))).trans (sin_at m c r l (wave e) ?_))
    show e.val % 64 = l.val % 64
    omega

end Cert.Dense.QueriesA

namespace Cert.Dense.PlainQueriesA

open Idealize.ShloMosaic Idealize.ShloMosaic.TcCoe Idealize.ShloMosaic.Tactic
open Idealize.ShloMosaic.Pointwise
open Cert.PlainQueriesAIdeal Cert.PlainQueriesAIdeal.Gen

section
variable {F : FTy → Type} [FloatOps F]
/-- The reference's matrix, its two products, and its result. -/
def matrix (w : FVec F S2x2048x2048 .f32) : FVec F S2048x2048 .f32 := shapeCast S2048x2048 (extractStridedSlice S1x2048x2048 ![0, 0, 0] w slices_S2x2048x2048_S1x2048x2048_0_0_0) shapeCasts_S1x2048x2048_S2048x2048
def promptProduct (p : FVec F S4x2064x2048 .f32) (w : FVec F S2x2048x2048 .f32) : FVec F S4x2064x2048 .f32 :=
  Host.dotGeneral dot_S4x2064x2048_S2048x2048_S4x2064x2048_2_0_01_1_n_n none p (matrix w)
def promptAngles : FVec F (Grid 2064 64) .f32 :=
  angles (iotaInDim S2064 32 0) (frequencies bcast_S_S64 bcast_S_S64) bcast_S2064_S2064x1_0 bcast_S64_S1x64_1 bcast_S2064x1_S2064x64_0_1 bcast_S1x64_S2064x64_0_1
def promptHeads (p : FVec F S4x2064x2048 .f32) (w : FVec F S2x2048x2048 .f32) : FVec F S4x2064x16x128 .f32 :=
  heads (promptProduct p w) promptAngles shapeCasts_S4x2064x2048_S4x2064x16x128 slices_S4x2064x16x128_S4x2064x16x64_0_0_0_0 slices_S4x2064x16x128_S4x2064x16x64_0_0_0_64
    bcast_S2064x64_S1x2064x1x64_1_3 bcast_S1x2064x1x64_S4x2064x16x64_0_1_2_3 concatenates_S4x2064x16x64_S4x2064x16x64_S4x2064x16x128_d3
def prompt (p : FVec F S4x2064x2048 .f32) (w : FVec F S2x2048x2048 .f32) : FVec F S4x2064x2048 .f32 :=
  shapeCast S4x2064x2048 (mulf (promptHeads p w) (broadcastInDim S4x2064x16x128 ![] bcast_S_S4x2064x16x128 (constant S_ .f32 0x3DB504F3#32))) shapeCasts_S4x2064x16x128_S4x2064x2048
def samplesProduct (s : FVec F S8x8x2048 .f32) (w : FVec F S2x2048x2048 .f32) : FVec F S8x8x2048 .f32 :=
  Host.dotGeneral dot_S8x8x2048_S2048x2048_S8x8x2048_2_0_01_1_n_n none s (matrix w)
def samplesAngles : FVec F (Grid 8 64) .f32 :=
  angles (addi (broadcastInDim S8 ![] bcast_S_S8 (constantI S_ 32 16384#32)) (iotaInDim S8 32 0)) (frequencies bcast_S_S64 bcast_S_S64) bcast_S8_S8x1_0 bcast_S64_S1x64_1 bcast_S8x1_S8x64_0_1 bcast_S1x64_S8x64_0_1
def samplesHeads (s : FVec F S8x8x2048 .f32) (w : FVec F S2x2048x2048 .f32) : FVec F S8x8x16x128 .f32 :=
  heads (samplesProduct s w) samplesAngles shapeCasts_S8x8x2048_S8x8x16x128 slices_S8x8x16x128_S8x8x16x64_0_0_0_0 slices_S8x8x16x128_S8x8x16x64_0_0_0_64
    bcast_S8x64_S1x8x1x64_1_3 bcast_S1x8x1x64_S8x8x16x64_0_1_2_3 concatenates_S8x8x16x64_S8x8x16x64_S8x8x16x128_d3
def samples (s : FVec F S8x8x2048 .f32) (w : FVec F S2x2048x2048 .f32) : FVec F S8x8x2048 .f32 :=
  shapeCast S8x8x2048 (mulf (samplesHeads s w) (broadcastInDim S8x8x16x128 ![] bcast_S_S8x8x16x128 (constant S_ .f32 0x3DB504F3#32))) shapeCasts_S8x8x16x128_S8x8x2048
def result (p : FVec F S4x2064x2048 .f32) (s : FVec F S8x8x2048 .f32) (w : FVec F S2x2048x2048 .f32) : FVec F S8320x2048 .f32 :=
  laid (n := 2048) (prompt p w) (samples s w) slices_S4x2064x2048_S4x2048x2048_0_16_0 shapeCasts_S4x2048x2048_S8192x2048 slices_S4x2064x2048_S4x16x2048_0_0_0
    shapeCasts_S4x16x2048_S64x2048 shapeCasts_S8x8x2048_S64x2048 concatenates_S8192x2048_S64x2048_S64x2048_S8320x2048_d0
end

variable (p : S4x2064x2048.Idx → EReal) (s : S8x8x2048.Idx → EReal) (w : S2x2048x2048.Idx → EReal)

/-- The frequencies. -/
def waves : (Line 64).Idx → EReal := frequencies (F := Ideal) bcast_S_S64 bcast_S_S64

theorem promptProduct_at (b : Fin 4) (t : Fin 2064) (e : Fin 2048) : promptProduct (F := Ideal) p w (ix3 b t e) = ∑ k : Fin 2048, p (ix3 b t k) * w (ix3 (⟨0, by decide⟩ : Fin 2) k e) := by
  unfold promptProduct matrix
  pointwise
theorem promptAngles_at (t : Fin 2064) (k : Fin 64) : promptAngles (F := Ideal) (ix2 t k) = posE (BitVec.ofNat 32 t.val) * waves (ix1 k) :=
  angles2064_at _ _ _ _ _ _ t k
theorem promptHeads_at (b : Fin 4) (t : Fin 2064) (e : Fin 2048) : promptHeads (F := Ideal) p w (ix4 b t ⟨e.val / 128, by omega⟩ ⟨e.val % 128, by omega⟩)
    = turn e (∑ k : Fin 2048, p (ix3 b t k) * w (ix3 (⟨0, by decide⟩ : Fin 2) k e)) (∑ k : Fin 2048, p (ix3 b t k) * w (ix3 (⟨0, by decide⟩ : Fin 2) k (partner e))) (posE (BitVec.ofNat 32 t.val) * waves (ix1 (wave e))) := by
  unfold promptHeads
  rw [prompt_heads_at _ _ _ _ _ _ _ _ b t _ _ e (by show e.val = e.val / 128 * 128 + e.val % 128; omega), promptProduct_at, promptProduct_at, promptAngles_at]
theorem prompt_at (b : Fin 4) (t : Fin 2064) (e : Fin 2048) : prompt (F := Ideal) p w (ix3 b t e)
    = turn e (∑ k : Fin 2048, p (ix3 b t k) * w (ix3 (⟨0, by decide⟩ : Fin 2) k e)) (∑ k : Fin 2048, p (ix3 b t k) * w (ix3 (⟨0, by decide⟩ : Fin 2) k (partner e))) (posE (BitVec.ofNat 32 t.val) * waves (ix1 (wave e))) * QueriesA.factor := by
  unfold prompt
  refine (prompt_joined_at _ _ b t e).trans ?_
  exact congrArg (fun z : EReal => z * QueriesA.factor) (promptHeads_at p w b t e)
theorem samplesProduct_at (b : Fin 8) (t : Fin 8) (e : Fin 2048) : samplesProduct (F := Ideal) s w (ix3 b t e) = ∑ k : Fin 2048, s (ix3 b t k) * w (ix3 (⟨0, by decide⟩ : Fin 2) k e) := by
  unfold samplesProduct matrix
  pointwise
theorem samplesAngles_at (t : Fin 8) (k : Fin 64) : samplesAngles (F := Ideal) (ix2 t k) = posE (16384#32 + BitVec.ofNat 32 t.val) * waves (ix1 k) :=
  angles8_at _ _ _ _ _ _ t k
theorem samplesHeads_at (b : Fin 8) (t : Fin 8) (e : Fin 2048) : samplesHeads (F := Ideal) s w (ix4 b t ⟨e.val / 128, by omega⟩ ⟨e.val % 128, by omega⟩)
    = turn e (∑ k : Fin 2048, s (ix3 b t k) * w (ix3 (⟨0, by decide⟩ : Fin 2) k e)) (∑ k : Fin 2048, s (ix3 b t k) * w (ix3 (⟨0, by decide⟩ : Fin 2) k (partner e))) (posE (16384#32 + BitVec.ofNat 32 t.val) * waves (ix1 (wave e))) := by
  unfold samplesHeads
  rw [sample_heads_at _ _ _ _ _ _ _ _ b t _ _ e (by show e.val = e.val / 128 * 128 + e.val % 128; omega), samplesProduct_at, samplesProduct_at, samplesAngles_at]
theorem samples_at (b : Fin 8) (t : Fin 8) (e : Fin 2048) : samples (F := Ideal) s w (ix3 b t e)
    = turn e (∑ k : Fin 2048, s (ix3 b t k) * w (ix3 (⟨0, by decide⟩ : Fin 2) k e)) (∑ k : Fin 2048, s (ix3 b t k) * w (ix3 (⟨0, by decide⟩ : Fin 2) k (partner e))) (posE (16384#32 + BitVec.ofNat 32 t.val) * waves (ix1 (wave e))) * QueriesA.factor := by
  unfold samples
  refine (sample_joined_at _ _ b t e).trans ?_
  exact congrArg (fun z : EReal => z * QueriesA.factor) (samplesHeads_at s w b t e)

theorem result_at (r : Fin 8320) (e : Fin 2048) : result (F := Ideal) p s w (ix2 r e)
    = turn e (∑ k : Fin 2048, entry p s (place r) k * w (ix3 (⟨0, by decide⟩ : Fin 2) k e)) (∑ k : Fin 2048, entry p s (place r) k * w (ix3 (⟨0, by decide⟩ : Fin 2) k (partner e))) (posE (stand (place r)) * waves (ix1 (wave e))) * QueriesA.factor :=
  (laid_at _ _ _ _ _ _ _ _ r e).trans
    (entry_turn p s (fun k e => w (ix3 (⟨0, by decide⟩ : Fin 2) k e)) waves QueriesA.factor _ _ (prompt_at p w) (samples_at s w) (place r) e)

end Cert.Dense.PlainQueriesA

namespace Cert.Dense.QueriesA

open Idealize.ShloMosaic Idealize.ShloMosaic.TcCoe Idealize.SL.Sem
open Idealize.ShloMosaic.Pointwise
open Cert.QueriesAIdeal Cert.QueriesAIdeal.Gen

theorem equal (m : (ℓ : Loc nD τ sig) → Buf (Elt Ideal) ℓ) (c : Dev nD) :
    (dats m 0 c).arrAt 4 cfg0.N = PlainQueriesA.result (F := Ideal) (argP m c) (argS m c) (argW m c) := by
  funext j
  refine (congrArg _ (eq_ix2 j)).trans (Eq.trans ?_ (congrArg _ (eq_ix2 j).symm))
  exact (result_at m c (j 0) (j 1)).trans (PlainQueriesA.result_at (argP m c) (argS m c) (argW m c) (j 0) (j 1)).symm

/-- The reference ends as its run says. -/
theorem plain_run (m : (ℓ : Loc Cert.PlainQueriesAIdeal.nD Cert.PlainQueriesAIdeal.τ Cert.PlainQueriesAIdeal.sig) → Buf (Elt Ideal) ℓ) (ρ : Dev Cert.PlainQueriesAIdeal.nD → PrngReg) :
    θ_run Cert.PlainQueriesAIdeal.defs (onTc (τ := Cert.PlainQueriesAIdeal.τ) (Cert.PlainQueriesAIdeal.main (F := Ideal))) ⟨m, fun _ => 0, ρ⟩ fun r => ∀ c : Dev Cert.PlainQueriesAIdeal.nD,
      r.2.mem ((c.tc : Thread Cert.PlainQueriesAIdeal.nD Cert.PlainQueriesAIdeal.τ).loc Cert.PlainQueriesAIdeal.main_v81)
        = PlainQueriesA.result (F := Ideal) (m ((c.tc : Thread Cert.PlainQueriesAIdeal.nD Cert.PlainQueriesAIdeal.τ).loc Cert.PlainQueriesAIdeal.main_arg0))
          (m ((c.tc : Thread Cert.PlainQueriesAIdeal.nD Cert.PlainQueriesAIdeal.τ).loc Cert.PlainQueriesAIdeal.main_arg1))
          (m ((c.tc : Thread Cert.PlainQueriesAIdeal.nD Cert.PlainQueriesAIdeal.τ).loc Cert.PlainQueriesAIdeal.main_arg2))
      ∧ r.2.mem ((c.tc : Thread Cert.PlainQueriesAIdeal.nD Cert.PlainQueriesAIdeal.τ).loc Cert.PlainQueriesAIdeal.main_arg0) = m ((c.tc : Thread Cert.PlainQueriesAIdeal.nD Cert.PlainQueriesAIdeal.τ).loc Cert.PlainQueriesAIdeal.main_arg0)
      ∧ r.2.mem ((c.tc : Thread Cert.PlainQueriesAIdeal.nD Cert.PlainQueriesAIdeal.τ).loc Cert.PlainQueriesAIdeal.main_arg1) = m ((c.tc : Thread Cert.PlainQueriesAIdeal.nD Cert.PlainQueriesAIdeal.τ).loc Cert.PlainQueriesAIdeal.main_arg1)
      ∧ r.2.mem ((c.tc : Thread Cert.PlainQueriesAIdeal.nD Cert.PlainQueriesAIdeal.τ).loc Cert.PlainQueriesAIdeal.main_arg2) = m ((c.tc : Thread Cert.PlainQueriesAIdeal.nD Cert.PlainQueriesAIdeal.τ).loc Cert.PlainQueriesAIdeal.main_arg2) :=
  Cert.PlainQueriesAIdeal.Value.run (F := Ideal) m ρ

end Cert.Dense.QueriesA
-- ==== Proof.DenseOutsA.lean ====
module

public import proofs.«01_k».proof.Proof.Gen.OutsAIdeal.Value
public import proofs.«01_k».proof.Proof.Gen.PlainOutsAIdeal.Run
public import proofs.«01_k».proof.Proof.Layout
public import Idealize.ShloMosaic.Lib.Pipeline.ValueKit

/-! The dense call `OutsA`: its result array is, entry by entry, the product that the reference writes. -/

@[expose] public section

set_option maxRecDepth 16384

noncomputable section

namespace Cert.Dense.OutsA

open Idealize.ShloMosaic Idealize.ShloMosaic.TcCoe Idealize.ShloMosaic.Tactic
open Idealize.ShloMosaic.Pointwise
open Cert.OutsAIdeal Cert.OutsAIdeal.Gen

section Case
variable {F : FTy → Type} [FloatOps F] (c : Dev nD) (i : grid0.Coords)
  (arg2 : Memref sig .tc .vmem S1040x2048 .bf16) (harg2 : arg2.IsWhole) (arg3 : Memref sig .tc .vmem S1x2048x1024 .f32) (harg3 : arg3.IsWhole)
  (arg4 : Memref sig .tc .vmem S1040x1024 .f32) (harg4 : arg4.IsWhole) (arg5 : Memref sig .tc .vmem S2048x1024 .bf16) (harg5 : arg5.IsWhole)
  (x0 : Vec F S1040x2048 .bf16) (x1 : Vec F S1x2048x1024 .f32) (xs : Vec F S2048x1024 .bf16)

/-- The first point of a block of columns keeps the block's weights, and every point multiplies by the kept ones. -/
theorem keptA (hc0 : cond0_0 i) : sout0_A_0 c i arg2 harg2 arg3 harg3 arg4 harg4 arg5 harg5 hc0 x0 x1 = k0_pay1 x1 := by
  unfold sout0_A_0 kernelRun0_A
  dsimp only
  rw [View.read_writes_junk_eq_canon]
  unfold kernelRun0_A.sl.HS0_1
  rw [View.readAt_eq_ld, harg3.read_unread, View.ld_unit_lit' _ _ (by decide)]
  exact View.canon_cons_unit_lit' _ _ _ (by decide)
theorem outA (hc0 : cond0_0 i) : out0_A_2 c i arg2 harg2 arg3 harg3 arg4 harg4 arg5 harg5 hc0 x0 x1 = k0_pay2 x0 (k0_pay1 x1) := by
  unfold out0_A_2 kernelRun0_A
  dsimp only
  rw [View.read_writes_junk_eq_canon]
  rw [View.readAt_eq_ld, harg2.read_unread, View.ld_unit_lit' _ _ (by decide)]
  rw [View.canon_cons_unit_lit' _ _ _ (by decide)]
  unfold kernelRun0_A.sl.v5 kernelRun0_A.sl.HS0_1
  rw [View.readAt_eq_ld, harg3.read_unread, View.ld_unit_lit' _ _ (by decide), View.readCov_unit_lit' _ _ _ (by decide)]
theorem outB (hc0 : ¬cond0_0 i) : out0_B_2 c i arg2 harg2 arg3 harg3 arg4 harg4 arg5 harg5 hc0 x0 x1 xs = k0_pay2 x0 xs := by
  unfold out0_B_2 kernelRun0_B
  dsimp only
  rw [View.read_writes_junk_eq_canon]
  rw [View.readAt_eq_ld, harg2.read_unread, View.ld_unit_lit' _ _ (by decide), View.readAt_eq_ld, harg5.read_unread, View.ld_unit_lit' _ _ (by decide)]
  exact View.canon_cons_unit_lit' _ _ _ (by decide)
end Case

section Any
variable {F : FTy → Type} [FloatOps F] (m : (ℓ : Loc nD τ sig) → Buf (Elt F) ℓ)

theorem start_lt {n : ℕ} (hn : n < cfg0.N) : n / 8 * 8 < cfg0.N := Nat.lt_of_le_of_lt (Nat.div_mul_le_self n 8) hn

theorem first_start {n : ℕ} (h : n % 8 = 0) : n / 8 * 8 = n := by omega
theorem next_start {n : ℕ} (h : ¬(n + 1) % 8 = 0) : (n + 1) / 8 * 8 = n / 8 * 8 := by omega
theorem first_point {n : ℕ} (hn : n < cfg0.N) (h : n % 8 = 0) : (⟨n / 8 * 8, start_lt hn⟩ : Fin cfg0.N) = ⟨n, hn⟩ := Fin.ext (first_start h)
theorem next_point {n : ℕ} (hn : n + 1 < cfg0.N) (h : ¬(n + 1) % 8 = 0) :
    (⟨(n + 1) / 8 * 8, start_lt hn⟩ : Fin cfg0.N) = ⟨n / 8 * 8, start_lt (Nat.lt_of_succ_lt hn)⟩ := Fin.ext (next_start h)

theorem state_first (c : Dev nD) (t : Fin cfg0.N) (h : t.val % 8 = 0) :
    outsAt0 m c t.val t.isLt = (k0_pay2 (iblk m c 0 t) (k0_pay1 (iblk m c 1 t)), k0_pay1 (iblk m c 1 t)) := by
  rw [outsAt0_A m c t h, outA, keptA]
theorem state_next (c : Dev nD) (t : Fin cfg0.N) (h : ¬t.val % 8 = 0) :
    outsAt0 m c t.val t.isLt = (k0_pay2 (iblk m c 0 t) (outsAt0 m c (t.val - 1) (Nat.lt_of_le_of_lt (Nat.sub_le _ _) t.isLt)).2,
      (outsAt0 m c (t.val - 1) (Nat.lt_of_le_of_lt (Nat.sub_le _ _) t.isLt)).2) := by
  rw [outsAt0_B m c t h, outB]
  rfl

theorem state (c : Dev nD) (n : ℕ) (hn : n < cfg0.N) :
    outsAt0 m c n hn = (k0_pay2 (iblk m c 0 ⟨n, hn⟩) (k0_pay1 (iblk m c 1 ⟨n / 8 * 8, start_lt hn⟩)), k0_pay1 (iblk m c 1 ⟨n / 8 * 8, start_lt hn⟩)) := by
  induction n with
  | zero => exact state_first m c ⟨0, hn⟩ rfl
  | succ n ih =>
    by_cases h : (n + 1) % 8 = 0
    · rw [first_point hn h]
      exact state_first m c ⟨n + 1, hn⟩ h
    · rw [next_point hn h]
      have e := state_next m c ⟨n + 1, hn⟩ h
      have e' : (outsAt0 m c (n + 1 - 1) (Nat.lt_of_le_of_lt (Nat.sub_le _ _) hn)).2 = _ := congrArg Prod.snd (ih (Nat.lt_of_succ_lt hn))
      refine e.trans ?_
      rw [e']

theorem index0 : ∀ t : Fin cfg0.N, cc0_transform_0 (grid0.coords t) = ![t.val % 8, 0] :=
  (by decide +kernel : ∀ t : Fin grid0.N, cc0_transform_0 (grid0.coords t) = ![t.val % 8, 0])
theorem index1 : ∀ t : Fin cfg0.N, cc0_transform_1 (grid0.coords t) = ![0, 0, t.val / 8] :=
  (by decide +kernel : ∀ t : Fin grid0.N, cc0_transform_1 (grid0.coords t) = ![0, 0, t.val / 8])
theorem index2 : ∀ t : Fin cfg0.N, cc0_transform_2 (grid0.coords t) = ![t.val % 8, t.val / 8] :=
  (by decide +kernel : ∀ t : Fin grid0.N, cc0_transform_2 (grid0.coords t) = ![t.val % 8, t.val / 8])

theorem block0 (c : Dev nD) (t : Fin cfg0.N) (j : S1040x2048.Idx) (r : Fin 8320) (hr : r.val = t.val % 8 * 1040 + (j 0).val) :
    iblk m c 0 t j = V m c main_v6 (ix2 r (j 1)) := by
  show V m c main_v6 _ = _
  refine congrArg _ (funext fun a => Fin.ext ?_)
  match a with
  | ⟨0, _⟩ =>
    show cc0_transform_0 (grid0.coords t) 0 * 1040 + 1 * (j 0).val = r.val
    rw [index0 t, hr, Nat.one_mul]
    rfl
  | ⟨1, _⟩ =>
    show cc0_transform_0 (grid0.coords t) 1 * 2048 + 1 * (j 1).val = (j 1).val
    rw [index0 t, Nat.one_mul]
    exact Nat.zero_add _
theorem block1 (c : Dev nD) (t : Fin cfg0.N) (a : Fin 1) (k : Fin 2048) (x : Fin 1024) (e : Fin 2048) (he : e.val = (t.val / 8) * 1024 + x.val) :
    iblk m c 1 t (ix3 a k x) = m ((c : Thread nD τ).loc main_arg2) (ix3 (⟨0, by decide⟩ : Fin 2) k e) := by
  show V m c main_arg2 _ = _
  rw [V_main_arg2]
  refine congrArg _ (funext fun b => Fin.ext ?_)
  match b with
  | ⟨0, _⟩ =>
    show cc0_transform_1 (grid0.coords t) 0 * 1 + 1 * a.val = 0
    rw [index1 t]
    show 0 * 1 + 1 * a.val = 0
    omega
  | ⟨1, _⟩ =>
    show cc0_transform_1 (grid0.coords t) 1 * 2048 + 1 * k.val = k.val
    rw [index1 t, Nat.one_mul]
    exact Nat.zero_add _
  | ⟨2, _⟩ =>
    show cc0_transform_1 (grid0.coords t) 2 * 1024 + 1 * x.val = e.val
    rw [index1 t, he, Nat.one_mul]
    rfl

/-- The rows that the host code lays out. -/
theorem V6 (c : Dev nD) : V m c main_v6 = truncf .bf16 (laid (n := 2048) (m ((c : Thread nD τ).loc main_arg0)) (m ((c : Thread nD τ).loc main_arg1))
    slices_S4x2064x2048_S4x2048x2048_0_16_0 shapeCasts_S4x2048x2048_S8192x2048 slices_S4x2064x2048_S4x16x2048_0_0_0 shapeCasts_S4x16x2048_S64x2048
    shapeCasts_S8x8x2048_S64x2048 concatenates_S8192x2048_S64x2048_S64x2048_S8320x2048_d0) bitsLt_bf16_f32 := by
  show StableHlo.after hostOps0 _ _ = _
  rw [hostOps0]
  after_results_simp
  rfl

/-- The result array at an index of point `t`'s block. -/
theorem result_block (c : Dev nD) (t : Fin cfg0.N) (x : Fin 1040) (y : Fin 1024) (r : Fin 8320) (e : Fin 2048)
    (hr : r.val = t.val % 8 * 1040 + x.val) (he : e.val = t.val / 8 * 1024 + y.val) :
    (dats m 0 c).arrAt 2 cfg0.N (ix2 r e) = (outsAt0 m c t.val t.isLt).1 (ix2 x y) := by
  have h := congrFun ((Cert.OutsAIdeal.Value.blocks2 m c t (flush0_2 t)).trans (Cert.OutsAIdeal.Value.flushed2 m c t)) (ix2 x y)
  refine Eq.trans ?_ h
  show _ = (dats m 0 c).arrAt 2 cfg0.N _
  refine congrArg _ (funext fun a => Fin.ext ?_)
  match a with
  | ⟨0, _⟩ =>
    show r.val = cc0_transform_2 (grid0.coords t) 0 * 1040 + 1 * x.val
    rw [index2 t, hr, Nat.one_mul]
    rfl
  | ⟨1, _⟩ =>
    show e.val = cc0_transform_2 (grid0.coords t) 1 * 1024 + 1 * y.val
    rw [index2 t, he, Nat.one_mul]
    rfl
end Any

theorem product_at (x : S1040x2048.Idx → EReal) (w : S1x2048x1024.Idx → EReal) (r : Fin 1040) (x' : Fin 1024) :
    k0_pay2 (F := Ideal) x (k0_pay1 (F := Ideal) w) (ix2 r x') = ∑ k : Fin 2048, x (ix2 r k) * w (ix3 (0 : Fin 1) k x') := by
  unfold k0_pay2 k0_pay1
  pointwise

variable (m : (ℓ : Loc nD τ sig) → Buf (Elt Ideal) ℓ)

abbrev argP (c : Dev nD) : (Prompt 2048).Idx → EReal := m ((c : Thread nD τ).loc main_arg0)
abbrev argS (c : Dev nD) : (Sample 2048).Idx → EReal := m ((c : Thread nD τ).loc main_arg1)
abbrev argW (c : Dev nD) : S2x2048x2048.Idx → EReal := m ((c : Thread nD τ).loc main_arg2)

theorem rows_at (c : Dev nD) (r : Fin 8320) (k : Fin 2048) : V m c main_v6 (ix2 r k) = entry (argP m c) (argS m c) (place r) k := by
  rw [V6]
  exact laid_at (F := Ideal) (n := 2048) (argP m c) (argS m c) slices_S4x2064x2048_S4x2048x2048_0_16_0 shapeCasts_S4x2048x2048_S8192x2048 slices_S4x2064x2048_S4x16x2048_0_0_0 shapeCasts_S4x16x2048_S64x2048
    shapeCasts_S8x8x2048_S64x2048 concatenates_S8192x2048_S64x2048_S64x2048_S8320x2048_d0 r k

theorem result_at (c : Dev nD) (r : Fin 8320) (e : Fin 2048) :
    (dats m 0 c).arrAt 2 cfg0.N (ix2 r e) = ∑ k : Fin 2048, entry (argP m c) (argS m c) (place r) k * argW m c (ix3 (⟨0, by decide⟩ : Fin 2) k e) := by
  have ht : 8 * (e.val / 1024) + r.val / 1040 < cfg0.N := Nat.lt_of_lt_of_eq (by omega) N_0.symm
  have h1 : (8 * (e.val / 1024) + r.val / 1040) % 8 = r.val / 1040 := by omega
  have h2 : (8 * (e.val / 1024) + r.val / 1040) / 8 = e.val / 1024 := by omega
  have h3 : (8 * (e.val / 1024) + r.val / 1040) / 8 * 8 / 8 = e.val / 1024 := by omega
  rw [result_block m c ⟨8 * (e.val / 1024) + r.val / 1040, ht⟩ ⟨r.val % 1040, by omega⟩ ⟨e.val % 1024, by omega⟩ r e
    (by show r.val = (8 * (e.val / 1024) + r.val / 1040) % 8 * 1040 + r.val % 1040; omega)
    (by show e.val = (8 * (e.val / 1024) + r.val / 1040) / 8 * 1024 + e.val % 1024; omega), state]
  refine (product_at _ _ _ _).trans (Finset.sum_congr rfl fun k _ => ?_)
  have hx : iblk m c 0 ⟨8 * (e.val / 1024) + r.val / 1040, ht⟩ (ix2 (⟨r.val % 1040, by omega⟩ : Fin 1040) k) = entry (argP m c) (argS m c) (place r) k :=
    (block0 m c _ _ r (by show r.val = (8 * (e.val / 1024) + r.val / 1040) % 8 * 1040 + r.val % 1040; omega)).trans (rows_at m c r k)
  have hw : iblk m c 1 ⟨(8 * (e.val / 1024) + r.val / 1040) / 8 * 8, start_lt ht⟩ (ix3 (0 : Fin 1) k (⟨e.val % 1024, by omega⟩ : Fin 1024)) = argW m c (ix3 (⟨0, by decide⟩ : Fin 2) k e) :=
    block1 m c _ 0 k (⟨e.val % 1024, by omega⟩ : Fin 1024) _ (by show e.val = (((8 * (e.val / 1024) + r.val / 1040) / 8 * 8) / 8) * 1024 + e.val % 1024; omega)
  exact congrArg₂ (fun a b : EReal => a * b) hx hw

end Cert.Dense.OutsA

namespace Cert.Dense.PlainOutsA

open Idealize.ShloMosaic Idealize.ShloMosaic.TcCoe Idealize.ShloMosaic.Tactic
open Idealize.ShloMosaic.Pointwise
open Cert.PlainOutsAIdeal Cert.PlainOutsAIdeal.Gen

section
variable {F : FTy → Type} [FloatOps F]
/-- The reference's matrix, its two products, and its result. -/
def matrix (w : FVec F S2x2048x2048 .f32) : FVec F S2048x2048 .f32 := shapeCast S2048x2048 (extractStridedSlice S1x2048x2048 ![0, 0, 0] w slices_S2x2048x2048_S1x2048x2048_0_0_0) shapeCasts_S1x2048x2048_S2048x2048
def prompt (p : FVec F S4x2064x2048 .f32) (w : FVec F S2x2048x2048 .f32) : FVec F S4x2064x2048 .f32 :=
  Host.dotGeneral dot_S4x2064x2048_S2048x2048_S4x2064x2048_2_0_01_1_n_n none p (matrix w)
def samples (s : FVec F S8x8x2048 .f32) (w : FVec F S2x2048x2048 .f32) : FVec F S8x8x2048 .f32 :=
  Host.dotGeneral dot_S8x8x2048_S2048x2048_S8x8x2048_2_0_01_1_n_n none s (matrix w)
def result (p : FVec F S4x2064x2048 .f32) (s : FVec F S8x8x2048 .f32) (w : FVec F S2x2048x2048 .f32) : FVec F S8320x2048 .f32 :=
  laid (n := 2048) (prompt p w) (samples s w) slices_S4x2064x2048_S4x2048x2048_0_16_0 shapeCasts_S4x2048x2048_S8192x2048 slices_S4x2064x2048_S4x16x2048_0_0_0
    shapeCasts_S4x16x2048_S64x2048 shapeCasts_S8x8x2048_S64x2048 concatenates_S8192x2048_S64x2048_S64x2048_S8320x2048_d0
end

variable (p : S4x2064x2048.Idx → EReal) (s : S8x8x2048.Idx → EReal) (w : S2x2048x2048.Idx → EReal)

theorem prompt_at (b : Fin 4) (t : Fin 2064) (e : Fin 2048) : prompt (F := Ideal) p w (ix3 b t e) = ∑ k : Fin 2048, p (ix3 b t k) * w (ix3 (⟨0, by decide⟩ : Fin 2) k e) := by
  unfold prompt matrix
  pointwise
theorem samples_at (b : Fin 8) (t : Fin 8) (e : Fin 2048) : samples (F := Ideal) s w (ix3 b t e) = ∑ k : Fin 2048, s (ix3 b t k) * w (ix3 (⟨0, by decide⟩ : Fin 2) k e) := by
  unfold samples matrix
  pointwise

theorem result_at (r : Fin 8320) (e : Fin 2048) : result (F := Ideal) p s w (ix2 r e) = ∑ k : Fin 2048, entry p s (place r) k * w (ix3 (⟨0, by decide⟩ : Fin 2) k e) :=
  (laid_at _ _ _ _ _ _ _ _ r e).trans
    (entry_sum p s (fun k e => w (ix3 (⟨0, by decide⟩ : Fin 2) k e)) _ _ (prompt_at p w) (samples_at s w) (place r) e)

end Cert.Dense.PlainOutsA

namespace Cert.Dense.OutsA

open Idealize.ShloMosaic Idealize.ShloMosaic.TcCoe Idealize.SL.Sem
open Idealize.ShloMosaic.Pointwise
open Cert.OutsAIdeal Cert.OutsAIdeal.Gen

theorem equal (m : (ℓ : Loc nD τ sig) → Buf (Elt Ideal) ℓ) (c : Dev nD) :
    (dats m 0 c).arrAt 2 cfg0.N = PlainOutsA.result (F := Ideal) (argP m c) (argS m c) (argW m c) := by
  funext j
  refine (congrArg _ (eq_ix2 j)).trans (Eq.trans ?_ (congrArg _ (eq_ix2 j).symm))
  exact (result_at m c (j 0) (j 1)).trans (PlainOutsA.result_at (argP m c) (argS m c) (argW m c) (j 0) (j 1)).symm

/-- The reference ends as its run says. -/
theorem plain_run (m : (ℓ : Loc Cert.PlainOutsAIdeal.nD Cert.PlainOutsAIdeal.τ Cert.PlainOutsAIdeal.sig) → Buf (Elt Ideal) ℓ) (ρ : Dev Cert.PlainOutsAIdeal.nD → PrngReg) :
    θ_run Cert.PlainOutsAIdeal.defs (onTc (τ := Cert.PlainOutsAIdeal.τ) (Cert.PlainOutsAIdeal.main (F := Ideal))) ⟨m, fun _ => 0, ρ⟩ fun r => ∀ c : Dev Cert.PlainOutsAIdeal.nD,
      r.2.mem ((c.tc : Thread Cert.PlainOutsAIdeal.nD Cert.PlainOutsAIdeal.τ).loc Cert.PlainOutsAIdeal.main_v11)
        = PlainOutsA.result (F := Ideal) (m ((c.tc : Thread Cert.PlainOutsAIdeal.nD Cert.PlainOutsAIdeal.τ).loc Cert.PlainOutsAIdeal.main_arg0))
          (m ((c.tc : Thread Cert.PlainOutsAIdeal.nD Cert.PlainOutsAIdeal.τ).loc Cert.PlainOutsAIdeal.main_arg1))
          (m ((c.tc : Thread Cert.PlainOutsAIdeal.nD Cert.PlainOutsAIdeal.τ).loc Cert.PlainOutsAIdeal.main_arg2))
      ∧ r.2.mem ((c.tc : Thread Cert.PlainOutsAIdeal.nD Cert.PlainOutsAIdeal.τ).loc Cert.PlainOutsAIdeal.main_arg0) = m ((c.tc : Thread Cert.PlainOutsAIdeal.nD Cert.PlainOutsAIdeal.τ).loc Cert.PlainOutsAIdeal.main_arg0)
      ∧ r.2.mem ((c.tc : Thread Cert.PlainOutsAIdeal.nD Cert.PlainOutsAIdeal.τ).loc Cert.PlainOutsAIdeal.main_arg1) = m ((c.tc : Thread Cert.PlainOutsAIdeal.nD Cert.PlainOutsAIdeal.τ).loc Cert.PlainOutsAIdeal.main_arg1)
      ∧ r.2.mem ((c.tc : Thread Cert.PlainOutsAIdeal.nD Cert.PlainOutsAIdeal.τ).loc Cert.PlainOutsAIdeal.main_arg2) = m ((c.tc : Thread Cert.PlainOutsAIdeal.nD Cert.PlainOutsAIdeal.τ).loc Cert.PlainOutsAIdeal.main_arg2) :=
  Cert.PlainOutsAIdeal.Value.run (F := Ideal) m ρ

end Cert.Dense.OutsA
-- ==== Proof.DenseGatesA.lean ====
module

public import proofs.«01_k».proof.Proof.Gen.GatesAIdeal.Value
public import proofs.«01_k».proof.Proof.Gen.PlainGatesAIdeal.Run
public import proofs.«01_k».proof.Proof.Layout
public import Idealize.ShloMosaic.Lib.Pipeline.ValueKit

/-! The dense call `GatesA`: its result array is, entry by entry, the product that the reference writes. -/

@[expose] public section

set_option maxRecDepth 16384

noncomputable section

namespace Cert.Dense.GatesA

open Idealize.ShloMosaic Idealize.ShloMosaic.TcCoe Idealize.ShloMosaic.Tactic
open Idealize.ShloMosaic.Pointwise
open Cert.GatesAIdeal Cert.GatesAIdeal.Gen

section Case
variable {F : FTy → Type} [FloatOps F] (c : Dev nD) (i : grid0.Coords)
  (arg2 : Memref sig .tc .vmem S1040x2048 .bf16) (harg2 : arg2.IsWhole) (arg3 : Memref sig .tc .vmem S1x2048x1024 .f32) (harg3 : arg3.IsWhole)
  (arg4 : Memref sig .tc .vmem S1040x1024 .f32) (harg4 : arg4.IsWhole) (arg5 : Memref sig .tc .vmem S2048x1024 .bf16) (harg5 : arg5.IsWhole)
  (x0 : Vec F S1040x2048 .bf16) (x1 : Vec F S1x2048x1024 .f32) (xs : Vec F S2048x1024 .bf16)

/-- The first point of a block of columns keeps the block's weights, and every point multiplies by the kept ones. -/
theorem keptA (hc0 : cond0_0 i) : sout0_A_0 c i arg2 harg2 arg3 harg3 arg4 harg4 arg5 harg5 hc0 x0 x1 = k0_pay1 x1 := by
  unfold sout0_A_0 kernelRun0_A
  dsimp only
  rw [View.read_writes_junk_eq_canon]
  unfold kernelRun0_A.sl.HS0_1
  rw [View.readAt_eq_ld, harg3.read_unread, View.ld_unit_lit' _ _ (by decide)]
  exact View.canon_cons_unit_lit' _ _ _ (by decide)
theorem outA (hc0 : cond0_0 i) : out0_A_2 c i arg2 harg2 arg3 harg3 arg4 harg4 arg5 harg5 hc0 x0 x1 = k0_pay2 x0 (k0_pay1 x1) := by
  unfold out0_A_2 kernelRun0_A
  dsimp only
  rw [View.read_writes_junk_eq_canon]
  rw [View.readAt_eq_ld, harg2.read_unread, View.ld_unit_lit' _ _ (by decide)]
  rw [View.canon_cons_unit_lit' _ _ _ (by decide)]
  unfold kernelRun0_A.sl.v5 kernelRun0_A.sl.HS0_1
  rw [View.readAt_eq_ld, harg3.read_unread, View.ld_unit_lit' _ _ (by decide), View.readCov_unit_lit' _ _ _ (by decide)]
theorem outB (hc0 : ¬cond0_0 i) : out0_B_2 c i arg2 harg2 arg3 harg3 arg4 harg4 arg5 harg5 hc0 x0 x1 xs = k0_pay2 x0 xs := by
  unfold out0_B_2 kernelRun0_B
  dsimp only
  rw [View.read_writes_junk_eq_canon]
  rw [View.readAt_eq_ld, harg2.read_unread, View.ld_unit_lit' _ _ (by decide), View.readAt_eq_ld, harg5.read_unread, View.ld_unit_lit' _ _ (by decide)]
  exact View.canon_cons_unit_lit' _ _ _ (by decide)
end Case

section Any
variable {F : FTy → Type} [FloatOps F] (m : (ℓ : Loc nD τ sig) → Buf (Elt F) ℓ)

theorem start_lt {n : ℕ} (hn : n < cfg0.N) : n / 8 * 8 < cfg0.N := Nat.lt_of_le_of_lt (Nat.div_mul_le_self n 8) hn

theorem first_start {n : ℕ} (h : n % 8 = 0) : n / 8 * 8 = n := by omega
theorem next_start {n : ℕ} (h : ¬(n + 1) % 8 = 0) : (n + 1) / 8 * 8 = n / 8 * 8 := by omega
theorem first_point {n : ℕ} (hn : n < cfg0.N) (h : n % 8 = 0) : (⟨n / 8 * 8, start_lt hn⟩ : Fin cfg0.N) = ⟨n, hn⟩ := Fin.ext (first_start h)
theorem next_point {n : ℕ} (hn : n + 1 < cfg0.N) (h : ¬(n + 1) % 8 = 0) :
    (⟨(n + 1) / 8 * 8, start_lt hn⟩ : Fin cfg0.N) = ⟨n / 8 * 8, start_lt (Nat.lt_of_succ_lt hn)⟩ := Fin.ext (next_start h)

theorem state_first (c : Dev nD) (t : Fin cfg0.N) (h : t.val % 8 = 0) :
    outsAt0 m c t.val t.isLt = (k0_pay2 (iblk m c 0 t) (k0_pay1 (X0_1 m c t)), k0_pay1 (X0_1 m c t)) := by
  rw [outsAt0_A m c t h, outA, keptA]
theorem state_next (c : Dev nD) (t : Fin cfg0.N) (h : ¬t.val % 8 = 0) :
    outsAt0 m c t.val t.isLt = (k0_pay2 (iblk m c 0 t) (outsAt0 m c (t.val - 1) (Nat.lt_of_le_of_lt (Nat.sub_le _ _) t.isLt)).2,
      (outsAt0 m c (t.val - 1) (Nat.lt_of_le_of_lt (Nat.sub_le _ _) t.isLt)).2) := by
  rw [outsAt0_B m c t h, outB]
  rfl

theorem state (c : Dev nD) (n : ℕ) (hn : n < cfg0.N) :
    outsAt0 m c n hn = (k0_pay2 (iblk m c 0 ⟨n, hn⟩) (k0_pay1 (X0_1 m c ⟨n / 8 * 8, start_lt hn⟩)), k0_pay1 (X0_1 m c ⟨n / 8 * 8, start_lt hn⟩)) := by
  induction n with
  | zero => exact state_first m c ⟨0, hn⟩ rfl
  | succ n ih =>
    by_cases h : (n + 1) % 8 = 0
    · rw [first_point hn h]
      exact state_first m c ⟨n + 1, hn⟩ h
    · rw [next_point hn h]
      have e := state_next m c ⟨n + 1, hn⟩ h
      have e' : (outsAt0 m c (n + 1 - 1) (Nat.lt_of_le_of_lt (Nat.sub_le _ _) hn)).2 = _ := congrArg Prod.snd (ih (Nat.lt_of_succ_lt hn))
      refine e.trans ?_
      rw [e']

theorem index0 : ∀ t : Fin cfg0.N, cc0_transform_0 (grid0.coords t) = ![t.val % 8, 0] :=
  (by decide +kernel : ∀ t : Fin grid0.N, cc0_transform_0 (grid0.coords t) = ![t.val % 8, 0])
theorem index1 : ∀ t : Fin cfg0.N, cc0_transform_1 (grid0.coords t) = ![0, 0, t.val / 8] :=
  (by decide +kernel : ∀ t : Fin grid0.N, cc0_transform_1 (grid0.coords t) = ![0, 0, t.val / 8])
theorem index2 : ∀ t : Fin cfg0.N, cc0_transform_2 (grid0.coords t) = ![t.val % 8, t.val / 8] :=
  (by decide +kernel : ∀ t : Fin grid0.N, cc0_transform_2 (grid0.coords t) = ![t.val % 8, t.val / 8])

theorem block0 (c : Dev nD) (t : Fin cfg0.N) (j : S1040x2048.Idx) (r : Fin 8320) (hr : r.val = t.val % 8 * 1040 + (j 0).val) :
    iblk m c 0 t j = V m c main_v6 (ix2 r (j 1)) := by
  show V m c main_v6 _ = _
  refine congrArg _ (funext fun a => Fin.ext ?_)
  match a with
  | ⟨0, _⟩ =>
    show cc0_transform_0 (grid0.coords t) 0 * 1040 + 1 * (j 0).val = r.val
    rw [index0 t, hr, Nat.one_mul]
    rfl
  | ⟨1, _⟩ =>
    show cc0_transform_0 (grid0.coords t) 1 * 2048 + 1 * (j 1).val = (j 1).val
    rw [index0 t, Nat.one_mul]
    exact Nat.zero_add _
theorem block1 (c : Dev nD) (t : Fin cfg0.N) (a : Fin 1) (k : Fin 2048) (x : Fin 1024) (e : Fin 10304) (he : e.val = (t.val / 8) * 1024 + x.val) :
    X0_1 m c t (ix3 a k x) = m ((c : Thread nD τ).loc main_arg2) (ix3 (⟨0, by decide⟩ : Fin 2) k e) := by
  unfold X0_1 Pipeline.Window.fill
  rw [dif_pos (moved0_1 t _)]
  show V m c main_arg2 _ = _
  rw [V_main_arg2]
  refine congrArg _ (funext fun b => Fin.ext ?_)
  match b with
  | ⟨0, _⟩ =>
    show cc0_transform_1 (grid0.coords t) 0 * 1 + 1 * a.val = 0
    rw [index1 t]
    show 0 * 1 + 1 * a.val = 0
    omega
  | ⟨1, _⟩ =>
    show cc0_transform_1 (grid0.coords t) 1 * 2048 + 1 * k.val = k.val
    rw [index1 t, Nat.one_mul]
    exact Nat.zero_add _
  | ⟨2, _⟩ =>
    show cc0_transform_1 (grid0.coords t) 2 * 1024 + 1 * x.val = e.val
    rw [index1 t, he, Nat.one_mul]
    rfl

/-- The rows that the host code lays out. -/
theorem V6 (c : Dev nD) : V m c main_v6 = truncf .bf16 (laid (n := 2048) (m ((c : Thread nD τ).loc main_arg0)) (m ((c : Thread nD τ).loc main_arg1))
    slices_S4x2064x2048_S4x2048x2048_0_16_0 shapeCasts_S4x2048x2048_S8192x2048 slices_S4x2064x2048_S4x16x2048_0_0_0 shapeCasts_S4x16x2048_S64x2048
    shapeCasts_S8x8x2048_S64x2048 concatenates_S8192x2048_S64x2048_S64x2048_S8320x2048_d0) bitsLt_bf16_f32 := by
  show StableHlo.after hostOps0 _ _ = _
  rw [hostOps0]
  after_results_simp
  rfl

/-- The result array at an index of point `t`'s block. -/
theorem result_block (c : Dev nD) (t : Fin cfg0.N) (x : Fin 1040) (y : Fin 1024) (r : Fin 8320) (e : Fin 4096)
    (hr : r.val = t.val % 8 * 1040 + x.val) (he : e.val = t.val / 8 * 1024 + y.val) :
    (dats m 0 c).arrAt 2 cfg0.N (ix2 r e) = (outsAt0 m c t.val t.isLt).1 (ix2 x y) := by
  have h := congrFun ((Cert.GatesAIdeal.Value.blocks2 m c t (flush0_2 t)).trans (Cert.GatesAIdeal.Value.flushed2 m c t)) (ix2 x y)
  refine Eq.trans ?_ h
  show _ = (dats m 0 c).arrAt 2 cfg0.N _
  refine congrArg _ (funext fun a => Fin.ext ?_)
  match a with
  | ⟨0, _⟩ =>
    show r.val = cc0_transform_2 (grid0.coords t) 0 * 1040 + 1 * x.val
    rw [index2 t, hr, Nat.one_mul]
    rfl
  | ⟨1, _⟩ =>
    show e.val = cc0_transform_2 (grid0.coords t) 1 * 1024 + 1 * y.val
    rw [index2 t, he, Nat.one_mul]
    rfl
end Any

theorem product_at (x : S1040x2048.Idx → EReal) (w : S1x2048x1024.Idx → EReal) (r : Fin 1040) (x' : Fin 1024) :
    k0_pay2 (F := Ideal) x (k0_pay1 (F := Ideal) w) (ix2 r x') = ∑ k : Fin 2048, x (ix2 r k) * w (ix3 (0 : Fin 1) k x') := by
  unfold k0_pay2 k0_pay1
  pointwise

variable (m : (ℓ : Loc nD τ sig) → Buf (Elt Ideal) ℓ)

abbrev argP (c : Dev nD) : (Prompt 2048).Idx → EReal := m ((c : Thread nD τ).loc main_arg0)
abbrev argS (c : Dev nD) : (Sample 2048).Idx → EReal := m ((c : Thread nD τ).loc main_arg1)
abbrev argW (c : Dev nD) : S2x2048x10304.Idx → EReal := m ((c : Thread nD τ).loc main_arg2)

theorem rows_at (c : Dev nD) (r : Fin 8320) (k : Fin 2048) : V m c main_v6 (ix2 r k) = entry (argP m c) (argS m c) (place r) k := by
  rw [V6]
  exact laid_at (F := Ideal) (n := 2048) (argP m c) (argS m c) slices_S4x2064x2048_S4x2048x2048_0_16_0 shapeCasts_S4x2048x2048_S8192x2048 slices_S4x2064x2048_S4x16x2048_0_0_0 shapeCasts_S4x16x2048_S64x2048
    shapeCasts_S8x8x2048_S64x2048 concatenates_S8192x2048_S64x2048_S64x2048_S8320x2048_d0 r k

theorem result_at (c : Dev nD) (r : Fin 8320) (e : Fin 4096) :
    (dats m 0 c).arrAt 2 cfg0.N (ix2 r e) = ∑ k : Fin 2048, entry (argP m c) (argS m c) (place r) k * argW m c (ix3 (⟨0, by decide⟩ : Fin 2) k ⟨e.val, by omega⟩) := by
  have ht : 8 * (e.val / 1024) + r.val / 1040 < cfg0.N := Nat.lt_of_lt_of_eq (by omega) N_0.symm
  have h1 : (8 * (e.val / 1024) + r.val / 1040) % 8 = r.val / 1040 := by omega
  have h2 : (8 * (e.val / 1024) + r.val / 1040) / 8 = e.val / 1024 := by omega
  have h3 : (8 * (e.val / 1024) + r.val / 1040) / 8 * 8 / 8 = e.val / 1024 := by omega
  rw [result_block m c ⟨8 * (e.val / 1024) + r.val / 1040, ht⟩ ⟨r.val % 1040, by omega⟩ ⟨e.val % 1024, by omega⟩ r e
    (by show r.val = (8 * (e.val / 1024) + r.val / 1040) % 8 * 1040 + r.val % 1040; omega)
    (by show e.val = (8 * (e.val / 1024) + r.val / 1040) / 8 * 1024 + e.val % 1024; omega), state]
  refine (product_at _ _ _ _).trans (Finset.sum_congr rfl fun k _ => ?_)
  have hx : iblk m c 0 ⟨8 * (e.val / 1024) + r.val / 1040, ht⟩ (ix2 (⟨r.val % 1040, by omega⟩ : Fin 1040) k) = entry (argP m c) (argS m c) (place r) k :=
    (block0 m c _ _ r (by show r.val = (8 * (e.val / 1024) + r.val / 1040) % 8 * 1040 + r.val % 1040; omega)).trans (rows_at m c r k)
  have hw : X0_1 m c ⟨(8 * (e.val / 1024) + r.val / 1040) / 8 * 8, start_lt ht⟩ (ix3 (0 : Fin 1) k (⟨e.val % 1024, by omega⟩ : Fin 1024)) = argW m c (ix3 (⟨0, by decide⟩ : Fin 2) k ⟨e.val, by omega⟩) :=
    block1 m c _ 0 k (⟨e.val % 1024, by omega⟩ : Fin 1024) _ (by show e.val = (((8 * (e.val / 1024) + r.val / 1040) / 8 * 8) / 8) * 1024 + e.val % 1024; omega)
  exact congrArg₂ (fun a b : EReal => a * b) hx hw

end Cert.Dense.GatesA

namespace Cert.Dense.PlainGatesA

open Idealize.ShloMosaic Idealize.ShloMosaic.TcCoe Idealize.ShloMosaic.Tactic
open Idealize.ShloMosaic.Pointwise
open Cert.PlainGatesAIdeal Cert.PlainGatesAIdeal.Gen

section
variable {F : FTy → Type} [FloatOps F]
/-- The reference's matrix, its two products, and its result. -/
def matrix (w : FVec F S2x2048x10304 .f32) : FVec F S2048x10304 .f32 := shapeCast S2048x10304 (extractStridedSlice S1x2048x10304 ![0, 0, 0] w slices_S2x2048x10304_S1x2048x10304_0_0_0) shapeCasts_S1x2048x10304_S2048x10304
def prompt (p : FVec F S4x2064x2048 .f32) (w : FVec F S2x2048x10304 .f32) : FVec F S4x2064x4096 .f32 :=
  extractStridedSlice S4x2064x4096 ![0, 0, 0] (Host.dotGeneral dot_S4x2064x2048_S2048x10304_S4x2064x10304_2_0_01_1_n_n none p (matrix w)) slices_S4x2064x10304_S4x2064x4096_0_0_0
def samples (s : FVec F S8x8x2048 .f32) (w : FVec F S2x2048x10304 .f32) : FVec F S8x8x4096 .f32 :=
  extractStridedSlice S8x8x4096 ![0, 0, 0] (Host.dotGeneral dot_S8x8x2048_S2048x10304_S8x8x10304_2_0_01_1_n_n none s (matrix w)) slices_S8x8x10304_S8x8x4096_0_0_0
def result (p : FVec F S4x2064x2048 .f32) (s : FVec F S8x8x2048 .f32) (w : FVec F S2x2048x10304 .f32) : FVec F S8320x4096 .f32 :=
  laid (n := 4096) (prompt p w) (samples s w) slices_S4x2064x4096_S4x2048x4096_0_16_0 shapeCasts_S4x2048x4096_S8192x4096 slices_S4x2064x4096_S4x16x4096_0_0_0
    shapeCasts_S4x16x4096_S64x4096 shapeCasts_S8x8x4096_S64x4096 concatenates_S8192x4096_S64x4096_S64x4096_S8320x4096_d0
end

variable (p : S4x2064x2048.Idx → EReal) (s : S8x8x2048.Idx → EReal) (w : S2x2048x10304.Idx → EReal)

theorem prompt_at (b : Fin 4) (t : Fin 2064) (e : Fin 4096) : prompt (F := Ideal) p w (ix3 b t e) = ∑ k : Fin 2048, p (ix3 b t k) * w (ix3 (⟨0, by decide⟩ : Fin 2) k ⟨e.val, by omega⟩) := by
  unfold prompt matrix
  pointwise
theorem samples_at (b : Fin 8) (t : Fin 8) (e : Fin 4096) : samples (F := Ideal) s w (ix3 b t e) = ∑ k : Fin 2048, s (ix3 b t k) * w (ix3 (⟨0, by decide⟩ : Fin 2) k ⟨e.val, by omega⟩) := by
  unfold samples matrix
  pointwise

theorem result_at (r : Fin 8320) (e : Fin 4096) : result (F := Ideal) p s w (ix2 r e) = ∑ k : Fin 2048, entry p s (place r) k * w (ix3 (⟨0, by decide⟩ : Fin 2) k ⟨e.val, by omega⟩) :=
  (laid_at _ _ _ _ _ _ _ _ r e).trans
    (entry_sum p s (fun k e => w (ix3 (⟨0, by decide⟩ : Fin 2) k ⟨e.val, by omega⟩)) _ _ (prompt_at p w) (samples_at s w) (place r) e)

end Cert.Dense.PlainGatesA

namespace Cert.Dense.GatesA

open Idealize.ShloMosaic Idealize.ShloMosaic.TcCoe Idealize.SL.Sem
open Idealize.ShloMosaic.Pointwise
open Cert.GatesAIdeal Cert.GatesAIdeal.Gen

theorem equal (m : (ℓ : Loc nD τ sig) → Buf (Elt Ideal) ℓ) (c : Dev nD) :
    (dats m 0 c).arrAt 2 cfg0.N = PlainGatesA.result (F := Ideal) (argP m c) (argS m c) (argW m c) := by
  funext j
  refine (congrArg _ (eq_ix2 j)).trans (Eq.trans ?_ (congrArg _ (eq_ix2 j).symm))
  exact (result_at m c (j 0) (j 1)).trans (PlainGatesA.result_at (argP m c) (argS m c) (argW m c) (j 0) (j 1)).symm

/-- The reference ends as its run says. -/
theorem plain_run (m : (ℓ : Loc Cert.PlainGatesAIdeal.nD Cert.PlainGatesAIdeal.τ Cert.PlainGatesAIdeal.sig) → Buf (Elt Ideal) ℓ) (ρ : Dev Cert.PlainGatesAIdeal.nD → PrngReg) :
    θ_run Cert.PlainGatesAIdeal.defs (onTc (τ := Cert.PlainGatesAIdeal.τ) (Cert.PlainGatesAIdeal.main (F := Ideal))) ⟨m, fun _ => 0, ρ⟩ fun r => ∀ c : Dev Cert.PlainGatesAIdeal.nD,
      r.2.mem ((c.tc : Thread Cert.PlainGatesAIdeal.nD Cert.PlainGatesAIdeal.τ).loc Cert.PlainGatesAIdeal.main_v13)
        = PlainGatesA.result (F := Ideal) (m ((c.tc : Thread Cert.PlainGatesAIdeal.nD Cert.PlainGatesAIdeal.τ).loc Cert.PlainGatesAIdeal.main_arg0))
          (m ((c.tc : Thread Cert.PlainGatesAIdeal.nD Cert.PlainGatesAIdeal.τ).loc Cert.PlainGatesAIdeal.main_arg1))
          (m ((c.tc : Thread Cert.PlainGatesAIdeal.nD Cert.PlainGatesAIdeal.τ).loc Cert.PlainGatesAIdeal.main_arg2))
      ∧ r.2.mem ((c.tc : Thread Cert.PlainGatesAIdeal.nD Cert.PlainGatesAIdeal.τ).loc Cert.PlainGatesAIdeal.main_arg0) = m ((c.tc : Thread Cert.PlainGatesAIdeal.nD Cert.PlainGatesAIdeal.τ).loc Cert.PlainGatesAIdeal.main_arg0)
      ∧ r.2.mem ((c.tc : Thread Cert.PlainGatesAIdeal.nD Cert.PlainGatesAIdeal.τ).loc Cert.PlainGatesAIdeal.main_arg1) = m ((c.tc : Thread Cert.PlainGatesAIdeal.nD Cert.PlainGatesAIdeal.τ).loc Cert.PlainGatesAIdeal.main_arg1)
      ∧ r.2.mem ((c.tc : Thread Cert.PlainGatesAIdeal.nD Cert.PlainGatesAIdeal.τ).loc Cert.PlainGatesAIdeal.main_arg2) = m ((c.tc : Thread Cert.PlainGatesAIdeal.nD Cert.PlainGatesAIdeal.τ).loc Cert.PlainGatesAIdeal.main_arg2) :=
  Cert.PlainGatesAIdeal.Value.run (F := Ideal) m ρ

end Cert.Dense.GatesA
-- ==== Proof.DenseStreamsA.lean ====
module

public import proofs.«01_k».proof.Proof.Gen.StreamsAIdeal.Value
public import proofs.«01_k».proof.Proof.Gen.PlainStreamsAIdeal.Run
public import proofs.«01_k».proof.Proof.Layout
public import Idealize.ShloMosaic.Lib.Pipeline.ValueKit

/-! The dense call `StreamsA`: its result array is, entry by entry, the product that the reference writes. -/

@[expose] public section

set_option maxRecDepth 16384

noncomputable section

namespace Cert.Dense.StreamsA

open Idealize.ShloMosaic Idealize.ShloMosaic.TcCoe Idealize.ShloMosaic.Tactic
open Idealize.ShloMosaic.Pointwise
open Cert.StreamsAIdeal Cert.StreamsAIdeal.Gen

section Case
variable {F : FTy → Type} [FloatOps F] (c : Dev nD) (i : grid0.Coords)
  (arg2 : Memref sig .tc .vmem S1040x2048 .bf16) (harg2 : arg2.IsWhole) (arg3 : Memref sig .tc .vmem S1x2048x1024 .f32) (harg3 : arg3.IsWhole)
  (arg4 : Memref sig .tc .vmem S1040x1024 .f32) (harg4 : arg4.IsWhole) (arg5 : Memref sig .tc .vmem S2048x1024 .bf16) (harg5 : arg5.IsWhole)
  (x0 : Vec F S1040x2048 .bf16) (x1 : Vec F S1x2048x1024 .f32) (xs : Vec F S2048x1024 .bf16)

/-- The first point of a block of columns keeps the block's weights, and every point multiplies by the kept ones. -/
theorem keptA (hc0 : cond0_0 i) : sout0_A_0 c i arg2 harg2 arg3 harg3 arg4 harg4 arg5 harg5 hc0 x0 x1 = k0_pay1 x1 := by
  unfold sout0_A_0 kernelRun0_A
  dsimp only
  rw [View.read_writes_junk_eq_canon]
  unfold kernelRun0_A.sl.HS0_1
  rw [View.readAt_eq_ld, harg3.read_unread, View.ld_unit_lit' _ _ (by decide)]
  exact View.canon_cons_unit_lit' _ _ _ (by decide)
theorem outA (hc0 : cond0_0 i) : out0_A_2 c i arg2 harg2 arg3 harg3 arg4 harg4 arg5 harg5 hc0 x0 x1 = k0_pay2 x0 (k0_pay1 x1) := by
  unfold out0_A_2 kernelRun0_A
  dsimp only
  rw [View.read_writes_junk_eq_canon]
  rw [View.readAt_eq_ld, harg2.read_unread, View.ld_unit_lit' _ _ (by decide)]
  rw [View.canon_cons_unit_lit' _ _ _ (by decide)]
  unfold kernelRun0_A.sl.v5 kernelRun0_A.sl.HS0_1
  rw [View.readAt_eq_ld, harg3.read_unread, View.ld_unit_lit' _ _ (by decide), View.readCov_unit_lit' _ _ _ (by decide)]
theorem outB (hc0 : ¬cond0_0 i) : out0_B_2 c i arg2 harg2 arg3 harg3 arg4 harg4 arg5 harg5 hc0 x0 x1 xs = k0_pay2 x0 xs := by
  unfold out0_B_2 kernelRun0_B
  dsimp only
  rw [View.read_writes_junk_eq_canon]
  rw [View.readAt_eq_ld, harg2.read_unread, View.ld_unit_lit' _ _ (by decide), View.readAt_eq_ld, harg5.read_unread, View.ld_unit_lit' _ _ (by decide)]
  exact View.canon_cons_unit_lit' _ _ _ (by decide)
end Case

section Any
variable {F : FTy → Type} [FloatOps F] (m : (ℓ : Loc nD τ sig) → Buf (Elt F) ℓ)

theorem start_lt {n : ℕ} (hn : n < cfg0.N) : n / 8 * 8 < cfg0.N := Nat.lt_of_le_of_lt (Nat.div_mul_le_self n 8) hn

theorem first_start {n : ℕ} (h : n % 8 = 0) : n / 8 * 8 = n := by omega
theorem next_start {n : ℕ} (h : ¬(n + 1) % 8 = 0) : (n + 1) / 8 * 8 = n / 8 * 8 := by omega
theorem first_point {n : ℕ} (hn : n < cfg0.N) (h : n % 8 = 0) : (⟨n / 8 * 8, start_lt hn⟩ : Fin cfg0.N) = ⟨n, hn⟩ := Fin.ext (first_start h)
theorem next_point {n : ℕ} (hn : n + 1 < cfg0.N) (h : ¬(n + 1) % 8 = 0) :
    (⟨(n + 1) / 8 * 8, start_lt hn⟩ : Fin cfg0.N) = ⟨n / 8 * 8, start_lt (Nat.lt_of_succ_lt hn)⟩ := Fin.ext (next_start h)

theorem state_first (c : Dev nD) (t : Fin cfg0.N) (h : t.val % 8 = 0) :
    outsAt0 m c t.val t.isLt = (k0_pay2 (iblk m c 0 t) (k0_pay1 (X0_1 m c t)), k0_pay1 (X0_1 m c t)) := by
  rw [outsAt0_A m c t h, outA, keptA]
theorem state_next (c : Dev nD) (t : Fin cfg0.N) (h : ¬t.val % 8 = 0) :
    outsAt0 m c t.val t.isLt = (k0_pay2 (iblk m c 0 t) (outsAt0 m c (t.val - 1) (Nat.lt_of_le_of_lt (Nat.sub_le _ _) t.isLt)).2,
      (outsAt0 m c (t.val - 1) (Nat.lt_of_le_of_lt (Nat.sub_le _ _) t.isLt)).2) := by
  rw [outsAt0_B m c t h, outB]
  rfl

theorem state (c : Dev nD) (n : ℕ) (hn : n < cfg0.N) :
    outsAt0 m c n hn = (k0_pay2 (iblk m c 0 ⟨n, hn⟩) (k0_pay1 (X0_1 m c ⟨n / 8 * 8, start_lt hn⟩)), k0_pay1 (X0_1 m c ⟨n / 8 * 8, start_lt hn⟩)) := by
  induction n with
  | zero => exact state_first m c ⟨0, hn⟩ rfl
  | succ n ih =>
    by_cases h : (n + 1) % 8 = 0
    · rw [first_point hn h]
      exact state_first m c ⟨n + 1, hn⟩ h
    · rw [next_point hn h]
      have e := state_next m c ⟨n + 1, hn⟩ h
      have e' : (outsAt0 m c (n + 1 - 1) (Nat.lt_of_le_of_lt (Nat.sub_le _ _) hn)).2 = _ := congrArg Prod.snd (ih (Nat.lt_of_succ_lt hn))
      refine e.trans ?_
      rw [e']

theorem index0 : ∀ t : Fin cfg0.N, cc0_transform_0 (grid0.coords t) = ![t.val % 8, 0] :=
  (by decide +kernel : ∀ t : Fin grid0.N, cc0_transform_0 (grid0.coords t) = ![t.val % 8, 0])
theorem index1 : ∀ t : Fin cfg0.N, cc0_transform_1 (grid0.coords t) = ![0, 0, t.val / 8 + 4] :=
  (by decide +kernel : ∀ t : Fin grid0.N, cc0_transform_1 (grid0.coords t) = ![0, 0, t.val / 8 + 4])
theorem index2 : ∀ t : Fin cfg0.N, cc0_transform_2 (grid0.coords t) = ![t.val % 8, t.val / 8] :=
  (by decide +kernel : ∀ t : Fin grid0.N, cc0_transform_2 (grid0.coords t) = ![t.val % 8, t.val / 8])

theorem block0 (c : Dev nD) (t : Fin cfg0.N) (j : S1040x2048.Idx) (r : Fin 8320) (hr : r.val = t.val % 8 * 1040 + (j 0).val) :
    iblk m c 0 t j = V m c main_v6 (ix2 r (j 1)) := by
  show V m c main_v6 _ = _
  refine congrArg _ (funext fun a => Fin.ext ?_)
  match a with
  | ⟨0, _⟩ =>
    show cc0_transform_0 (grid0.coords t) 0 * 1040 + 1 * (j 0).val = r.val
    rw [index0 t, hr, Nat.one_mul]
    rfl
  | ⟨1, _⟩ =>
    show cc0_transform_0 (grid0.coords t) 1 * 2048 + 1 * (j 1).val = (j 1).val
    rw [index0 t, Nat.one_mul]
    exact Nat.zero_add _
theorem block1 (c : Dev nD) (t : Fin cfg0.N) (a : Fin 1) (k : Fin 2048) (x : Fin 1024) (e : Fin 10304) (he : e.val = (t.val / 8 + 4) * 1024 + x.val) :
    X0_1 m c t (ix3 a k x) = m ((c : Thread nD τ).loc main_arg2) (ix3 (⟨0, by decide⟩ : Fin 2) k e) := by
  unfold X0_1 Pipeline.Window.fill
  rw [dif_pos (moved0_1 t _)]
  show V m c main_arg2 _ = _
  rw [V_main_arg2]
  refine congrArg _ (funext fun b => Fin.ext ?_)
  match b with
  | ⟨0, _⟩ =>
    show cc0_transform_1 (grid0.coords t) 0 * 1 + 1 * a.val = 0
    rw [index1 t]
    show 0 * 1 + 1 * a.val = 0
    omega
  | ⟨1, _⟩ =>
    show cc0_transform_1 (grid0.coords t) 1 * 2048 + 1 * k.val = k.val
    rw [index1 t, Nat.one_mul]
    exact Nat.zero_add _
  | ⟨2, _⟩ =>
    show cc0_transform_1 (grid0.coords t) 2 * 1024 + 1 * x.val = e.val
    rw [index1 t, he, Nat.one_mul]
    rfl

/-- The rows that the host code lays out. -/
theorem V6 (c : Dev nD) : V m c main_v6 = truncf .bf16 (laid (n := 2048) (m ((c : Thread nD τ).loc main_arg0)) (m ((c : Thread nD τ).loc main_arg1))
    slices_S4x2064x2048_S4x2048x2048_0_16_0 shapeCasts_S4x2048x2048_S8192x2048 slices_S4x2064x2048_S4x16x2048_0_0_0 shapeCasts_S4x16x2048_S64x2048
    shapeCasts_S8x8x2048_S64x2048 concatenates_S8192x2048_S64x2048_S64x2048_S8320x2048_d0) bitsLt_bf16_f32 := by
  show StableHlo.after hostOps0 _ _ = _
  rw [hostOps0]
  after_results_simp
  rfl

/-- The result array at an index of point `t`'s block. -/
theorem result_block (c : Dev nD) (t : Fin cfg0.N) (x : Fin 1040) (y : Fin 1024) (r : Fin 8320) (e : Fin 6144)
    (hr : r.val = t.val % 8 * 1040 + x.val) (he : e.val = t.val / 8 * 1024 + y.val) :
    (dats m 0 c).arrAt 2 cfg0.N (ix2 r e) = (outsAt0 m c t.val t.isLt).1 (ix2 x y) := by
  have h := congrFun ((Cert.StreamsAIdeal.Value.blocks2 m c t (flush0_2 t)).trans (Cert.StreamsAIdeal.Value.flushed2 m c t)) (ix2 x y)
  refine Eq.trans ?_ h
  show _ = (dats m 0 c).arrAt 2 cfg0.N _
  refine congrArg _ (funext fun a => Fin.ext ?_)
  match a with
  | ⟨0, _⟩ =>
    show r.val = cc0_transform_2 (grid0.coords t) 0 * 1040 + 1 * x.val
    rw [index2 t, hr, Nat.one_mul]
    rfl
  | ⟨1, _⟩ =>
    show e.val = cc0_transform_2 (grid0.coords t) 1 * 1024 + 1 * y.val
    rw [index2 t, he, Nat.one_mul]
    rfl
end Any

theorem product_at (x : S1040x2048.Idx → EReal) (w : S1x2048x1024.Idx → EReal) (r : Fin 1040) (x' : Fin 1024) :
    k0_pay2 (F := Ideal) x (k0_pay1 (F := Ideal) w) (ix2 r x') = ∑ k : Fin 2048, x (ix2 r k) * w (ix3 (0 : Fin 1) k x') := by
  unfold k0_pay2 k0_pay1
  pointwise

variable (m : (ℓ : Loc nD τ sig) → Buf (Elt Ideal) ℓ)

abbrev argP (c : Dev nD) : (Prompt 2048).Idx → EReal := m ((c : Thread nD τ).loc main_arg0)
abbrev argS (c : Dev nD) : (Sample 2048).Idx → EReal := m ((c : Thread nD τ).loc main_arg1)
abbrev argW (c : Dev nD) : S2x2048x10304.Idx → EReal := m ((c : Thread nD τ).loc main_arg2)

theorem rows_at (c : Dev nD) (r : Fin 8320) (k : Fin 2048) : V m c main_v6 (ix2 r k) = entry (argP m c) (argS m c) (place r) k := by
  rw [V6]
  exact laid_at (F := Ideal) (n := 2048) (argP m c) (argS m c) slices_S4x2064x2048_S4x2048x2048_0_16_0 shapeCasts_S4x2048x2048_S8192x2048 slices_S4x2064x2048_S4x16x2048_0_0_0 shapeCasts_S4x16x2048_S64x2048
    shapeCasts_S8x8x2048_S64x2048 concatenates_S8192x2048_S64x2048_S64x2048_S8320x2048_d0 r k

theorem result_at (c : Dev nD) (r : Fin 8320) (e : Fin 6144) :
    (dats m 0 c).arrAt 2 cfg0.N (ix2 r e) = ∑ k : Fin 2048, entry (argP m c) (argS m c) (place r) k * argW m c (ix3 (⟨0, by decide⟩ : Fin 2) k ⟨4096 + e.val, by omega⟩) := by
  have ht : 8 * (e.val / 1024) + r.val / 1040 < cfg0.N := Nat.lt_of_lt_of_eq (by omega) N_0.symm
  have h1 : (8 * (e.val / 1024) + r.val / 1040) % 8 = r.val / 1040 := by omega
  have h2 : (8 * (e.val / 1024) + r.val / 1040) / 8 = e.val / 1024 := by omega
  have h3 : (8 * (e.val / 1024) + r.val / 1040) / 8 * 8 / 8 = e.val / 1024 := by omega
  rw [result_block m c ⟨8 * (e.val / 1024) + r.val / 1040, ht⟩ ⟨r.val % 1040, by omega⟩ ⟨e.val % 1024, by omega⟩ r e
    (by show r.val = (8 * (e.val / 1024) + r.val / 1040) % 8 * 1040 + r.val % 1040; omega)
    (by show e.val = (8 * (e.val / 1024) + r.val / 1040) / 8 * 1024 + e.val % 1024; omega), state]
  refine (product_at _ _ _ _).trans (Finset.sum_congr rfl fun k _ => ?_)
  have hx : iblk m c 0 ⟨8 * (e.val / 1024) + r.val / 1040, ht⟩ (ix2 (⟨r.val % 1040, by omega⟩ : Fin 1040) k) = entry (argP m c) (argS m c) (place r) k :=
    (block0 m c _ _ r (by show r.val = (8 * (e.val / 1024) + r.val / 1040) % 8 * 1040 + r.val % 1040; omega)).trans (rows_at m c r k)
  have hw : X0_1 m c ⟨(8 * (e.val / 1024) + r.val / 1040) / 8 * 8, start_lt ht⟩ (ix3 (0 : Fin 1) k (⟨e.val % 1024, by omega⟩ : Fin 1024)) = argW m c (ix3 (⟨0, by decide⟩ : Fin 2) k ⟨4096 + e.val, by omega⟩) :=
    block1 m c _ 0 k (⟨e.val % 1024, by omega⟩ : Fin 1024) _ (by show 4096 + e.val = (((8 * (e.val / 1024) + r.val / 1040) / 8 * 8) / 8 + 4) * 1024 + e.val % 1024; omega)
  exact congrArg₂ (fun a b : EReal => a * b) hx hw

end Cert.Dense.StreamsA

namespace Cert.Dense.PlainStreamsA

open Idealize.ShloMosaic Idealize.ShloMosaic.TcCoe Idealize.ShloMosaic.Tactic
open Idealize.ShloMosaic.Pointwise
open Cert.PlainStreamsAIdeal Cert.PlainStreamsAIdeal.Gen

section
variable {F : FTy → Type} [FloatOps F]
/-- The reference's matrix, its two products, and its result. -/
def matrix (w : FVec F S2x2048x10304 .f32) : FVec F S2048x10304 .f32 := shapeCast S2048x10304 (extractStridedSlice S1x2048x10304 ![0, 0, 0] w slices_S2x2048x10304_S1x2048x10304_0_0_0) shapeCasts_S1x2048x10304_S2048x10304
def prompt (p : FVec F S4x2064x2048 .f32) (w : FVec F S2x2048x10304 .f32) : FVec F S4x2064x6144 .f32 :=
  extractStridedSlice S4x2064x6144 ![0, 0, 4096] (Host.dotGeneral dot_S4x2064x2048_S2048x10304_S4x2064x10304_2_0_01_1_n_n none p (matrix w)) slices_S4x2064x10304_S4x2064x6144_0_0_4096
def samples (s : FVec F S8x8x2048 .f32) (w : FVec F S2x2048x10304 .f32) : FVec F S8x8x6144 .f32 :=
  extractStridedSlice S8x8x6144 ![0, 0, 4096] (Host.dotGeneral dot_S8x8x2048_S2048x10304_S8x8x10304_2_0_01_1_n_n none s (matrix w)) slices_S8x8x10304_S8x8x6144_0_0_4096
def result (p : FVec F S4x2064x2048 .f32) (s : FVec F S8x8x2048 .f32) (w : FVec F S2x2048x10304 .f32) : FVec F S8320x6144 .f32 :=
  laid (n := 6144) (prompt p w) (samples s w) slices_S4x2064x6144_S4x2048x6144_0_16_0 shapeCasts_S4x2048x6144_S8192x6144 slices_S4x2064x6144_S4x16x6144_0_0_0
    shapeCasts_S4x16x6144_S64x6144 shapeCasts_S8x8x6144_S64x6144 concatenates_S8192x6144_S64x6144_S64x6144_S8320x6144_d0
end

variable (p : S4x2064x2048.Idx → EReal) (s : S8x8x2048.Idx → EReal) (w : S2x2048x10304.Idx → EReal)

theorem prompt_at (b : Fin 4) (t : Fin 2064) (e : Fin 6144) : prompt (F := Ideal) p w (ix3 b t e) = ∑ k : Fin 2048, p (ix3 b t k) * w (ix3 (⟨0, by decide⟩ : Fin 2) k ⟨4096 + e.val, by omega⟩) := by
  unfold prompt matrix
  pointwise
theorem samples_at (b : Fin 8) (t : Fin 8) (e : Fin 6144) : samples (F := Ideal) s w (ix3 b t e) = ∑ k : Fin 2048, s (ix3 b t k) * w (ix3 (⟨0, by decide⟩ : Fin 2) k ⟨4096 + e.val, by omega⟩) := by
  unfold samples matrix
  pointwise

theorem result_at (r : Fin 8320) (e : Fin 6144) : result (F := Ideal) p s w (ix2 r e) = ∑ k : Fin 2048, entry p s (place r) k * w (ix3 (⟨0, by decide⟩ : Fin 2) k ⟨4096 + e.val, by omega⟩) :=
  (laid_at _ _ _ _ _ _ _ _ r e).trans
    (entry_sum p s (fun k e => w (ix3 (⟨0, by decide⟩ : Fin 2) k ⟨4096 + e.val, by omega⟩)) _ _ (prompt_at p w) (samples_at s w) (place r) e)

end Cert.Dense.PlainStreamsA

namespace Cert.Dense.StreamsA

open Idealize.ShloMosaic Idealize.ShloMosaic.TcCoe Idealize.SL.Sem
open Idealize.ShloMosaic.Pointwise
open Cert.StreamsAIdeal Cert.StreamsAIdeal.Gen

theorem equal (m : (ℓ : Loc nD τ sig) → Buf (Elt Ideal) ℓ) (c : Dev nD) :
    (dats m 0 c).arrAt 2 cfg0.N = PlainStreamsA.result (F := Ideal) (argP m c) (argS m c) (argW m c) := by
  funext j
  refine (congrArg _ (eq_ix2 j)).trans (Eq.trans ?_ (congrArg _ (eq_ix2 j).symm))
  exact (result_at m c (j 0) (j 1)).trans (PlainStreamsA.result_at (argP m c) (argS m c) (argW m c) (j 0) (j 1)).symm

/-- The reference ends as its run says. -/
theorem plain_run (m : (ℓ : Loc Cert.PlainStreamsAIdeal.nD Cert.PlainStreamsAIdeal.τ Cert.PlainStreamsAIdeal.sig) → Buf (Elt Ideal) ℓ) (ρ : Dev Cert.PlainStreamsAIdeal.nD → PrngReg) :
    θ_run Cert.PlainStreamsAIdeal.defs (onTc (τ := Cert.PlainStreamsAIdeal.τ) (Cert.PlainStreamsAIdeal.main (F := Ideal))) ⟨m, fun _ => 0, ρ⟩ fun r => ∀ c : Dev Cert.PlainStreamsAIdeal.nD,
      r.2.mem ((c.tc : Thread Cert.PlainStreamsAIdeal.nD Cert.PlainStreamsAIdeal.τ).loc Cert.PlainStreamsAIdeal.main_v13)
        = PlainStreamsA.result (F := Ideal) (m ((c.tc : Thread Cert.PlainStreamsAIdeal.nD Cert.PlainStreamsAIdeal.τ).loc Cert.PlainStreamsAIdeal.main_arg0))
          (m ((c.tc : Thread Cert.PlainStreamsAIdeal.nD Cert.PlainStreamsAIdeal.τ).loc Cert.PlainStreamsAIdeal.main_arg1))
          (m ((c.tc : Thread Cert.PlainStreamsAIdeal.nD Cert.PlainStreamsAIdeal.τ).loc Cert.PlainStreamsAIdeal.main_arg2))
      ∧ r.2.mem ((c.tc : Thread Cert.PlainStreamsAIdeal.nD Cert.PlainStreamsAIdeal.τ).loc Cert.PlainStreamsAIdeal.main_arg0) = m ((c.tc : Thread Cert.PlainStreamsAIdeal.nD Cert.PlainStreamsAIdeal.τ).loc Cert.PlainStreamsAIdeal.main_arg0)
      ∧ r.2.mem ((c.tc : Thread Cert.PlainStreamsAIdeal.nD Cert.PlainStreamsAIdeal.τ).loc Cert.PlainStreamsAIdeal.main_arg1) = m ((c.tc : Thread Cert.PlainStreamsAIdeal.nD Cert.PlainStreamsAIdeal.τ).loc Cert.PlainStreamsAIdeal.main_arg1)
      ∧ r.2.mem ((c.tc : Thread Cert.PlainStreamsAIdeal.nD Cert.PlainStreamsAIdeal.τ).loc Cert.PlainStreamsAIdeal.main_arg2) = m ((c.tc : Thread Cert.PlainStreamsAIdeal.nD Cert.PlainStreamsAIdeal.τ).loc Cert.PlainStreamsAIdeal.main_arg2) :=
  Cert.PlainStreamsAIdeal.Value.run (F := Ideal) m ρ

end Cert.Dense.StreamsA
-- ==== Proof.DenseMixesA.lean ====
module

public import proofs.«01_k».proof.Proof.Gen.MixesAIdeal.Value
public import proofs.«01_k».proof.Proof.Gen.PlainMixesAIdeal.Run
public import proofs.«01_k».proof.Proof.Layout
public import Idealize.ShloMosaic.Lib.Pipeline.ValueKit

/-! The dense call `MixesA`: its result array is, entry by entry, the product that the reference writes. -/

@[expose] public section

set_option maxRecDepth 16384

noncomputable section

namespace Cert.Dense.MixesA

open Idealize.ShloMosaic Idealize.ShloMosaic.TcCoe Idealize.ShloMosaic.Tactic
open Idealize.ShloMosaic.Pointwise
open Cert.MixesAIdeal Cert.MixesAIdeal.Gen

section Case
variable {F : FTy → Type} [FloatOps F] (c : Dev nD) (i : grid0.Coords)
  (arg2 : Memref sig .tc .vmem S1040x4096 .bf16) (harg2 : arg2.IsWhole) (arg3 : Memref sig .tc .vmem S1x4096x512 .f32) (harg3 : arg3.IsWhole)
  (arg4 : Memref sig .tc .vmem S1040x512 .f32) (harg4 : arg4.IsWhole) (arg5 : Memref sig .tc .vmem S4096x512 .bf16) (harg5 : arg5.IsWhole)
  (x0 : Vec F S1040x4096 .bf16) (x1 : Vec F S1x4096x512 .f32) (xs : Vec F S4096x512 .bf16)

/-- The first point of a block of columns keeps the block's weights, and every point multiplies by the kept ones. -/
theorem keptA (hc0 : cond0_0 i) : sout0_A_0 c i arg2 harg2 arg3 harg3 arg4 harg4 arg5 harg5 hc0 x0 x1 = k0_pay1 x1 := by
  unfold sout0_A_0 kernelRun0_A
  dsimp only
  rw [View.read_writes_junk_eq_canon]
  unfold kernelRun0_A.sl.HS0_1
  rw [View.readAt_eq_ld, harg3.read_unread, View.ld_unit_lit' _ _ (by decide)]
  exact View.canon_cons_unit_lit' _ _ _ (by decide)
theorem outA (hc0 : cond0_0 i) : out0_A_2 c i arg2 harg2 arg3 harg3 arg4 harg4 arg5 harg5 hc0 x0 x1 = k0_pay2 x0 (k0_pay1 x1) := by
  unfold out0_A_2 kernelRun0_A
  dsimp only
  rw [View.read_writes_junk_eq_canon]
  rw [View.readAt_eq_ld, harg2.read_unread, View.ld_unit_lit' _ _ (by decide)]
  rw [View.canon_cons_unit_lit' _ _ _ (by decide)]
  unfold kernelRun0_A.sl.v5 kernelRun0_A.sl.HS0_1
  rw [View.readAt_eq_ld, harg3.read_unread, View.ld_unit_lit' _ _ (by decide), View.readCov_unit_lit' _ _ _ (by decide)]
theorem outB (hc0 : ¬cond0_0 i) : out0_B_2 c i arg2 harg2 arg3 harg3 arg4 harg4 arg5 harg5 hc0 x0 x1 xs = k0_pay2 x0 xs := by
  unfold out0_B_2 kernelRun0_B
  dsimp only
  rw [View.read_writes_junk_eq_canon]
  rw [View.readAt_eq_ld, harg2.read_unread, View.ld_unit_lit' _ _ (by decide), View.readAt_eq_ld, harg5.read_unread, View.ld_unit_lit' _ _ (by decide)]
  exact View.canon_cons_unit_lit' _ _ _ (by decide)
end Case

section Any
variable {F : FTy → Type} [FloatOps F] (m : (ℓ : Loc nD τ sig) → Buf (Elt F) ℓ)

theorem start_lt {n : ℕ} (hn : n < cfg0.N) : n / 8 * 8 < cfg0.N := Nat.lt_of_le_of_lt (Nat.div_mul_le_self n 8) hn

theorem first_start {n : ℕ} (h : n % 8 = 0) : n / 8 * 8 = n := by omega
theorem next_start {n : ℕ} (h : ¬(n + 1) % 8 = 0) : (n + 1) / 8 * 8 = n / 8 * 8 := by omega
theorem first_point {n : ℕ} (hn : n < cfg0.N) (h : n % 8 = 0) : (⟨n / 8 * 8, start_lt hn⟩ : Fin cfg0.N) = ⟨n, hn⟩ := Fin.ext (first_start h)
theorem next_point {n : ℕ} (hn : n + 1 < cfg0.N) (h : ¬(n + 1) % 8 = 0) :
    (⟨(n + 1) / 8 * 8, start_lt hn⟩ : Fin cfg0.N) = ⟨n / 8 * 8, start_lt (Nat.lt_of_succ_lt hn)⟩ := Fin.ext (next_start h)

theorem state_first (c : Dev nD) (t : Fin cfg0.N) (h : t.val % 8 = 0) :
    outsAt0 m c t.val t.isLt = (k0_pay2 (iblk m c 0 t) (k0_pay1 (iblk m c 1 t)), k0_pay1 (iblk m c 1 t)) := by
  rw [outsAt0_A m c t h, outA, keptA]
theorem state_next (c : Dev nD) (t : Fin cfg0.N) (h : ¬t.val % 8 = 0) :
    outsAt0 m c t.val t.isLt = (k0_pay2 (iblk m c 0 t) (outsAt0 m c (t.val - 1) (Nat.lt_of_le_of_lt (Nat.sub_le _ _) t.isLt)).2,
      (outsAt0 m c (t.val - 1) (Nat.lt_of_le_of_lt (Nat.sub_le _ _) t.isLt)).2) := by
  rw [outsAt0_B m c t h, outB]
  rfl

theorem state (c : Dev nD) (n : ℕ) (hn : n < cfg0.N) :
    outsAt0 m c n hn = (k0_pay2 (iblk m c 0 ⟨n, hn⟩) (k0_pay1 (iblk m c 1 ⟨n / 8 * 8, start_lt hn⟩)), k0_pay1 (iblk m c 1 ⟨n / 8 * 8, start_lt hn⟩)) := by
  induction n with
  | zero => exact state_first m c ⟨0, hn⟩ rfl
  | succ n ih =>
    by_cases h : (n + 1) % 8 = 0
    · rw [first_point hn h]
      exact state_first m c ⟨n + 1, hn⟩ h
    · rw [next_point hn h]
      have e := state_next m c ⟨n + 1, hn⟩ h
      have e' : (outsAt0 m c (n + 1 - 1) (Nat.lt_of_le_of_lt (Nat.sub_le _ _) hn)).2 = _ := congrArg Prod.snd (ih (Nat.lt_of_succ_lt hn))
      refine e.trans ?_
      rw [e']

theorem index0 : ∀ t : Fin cfg0.N, cc0_transform_0 (grid0.coords t) = ![t.val % 8, 0] :=
  (by decide +kernel : ∀ t : Fin grid0.N, cc0_transform_0 (grid0.coords t) = ![t.val % 8, 0])
theorem index1 : ∀ t : Fin cfg0.N, cc0_transform_1 (grid0.coords t) = ![0, 0, t.val / 8] :=
  (by decide +kernel : ∀ t : Fin grid0.N, cc0_transform_1 (grid0.coords t) = ![0, 0, t.val / 8])
theorem index2 : ∀ t : Fin cfg0.N, cc0_transform_2 (grid0.coords t) = ![t.val % 8, t.val / 8] :=
  (by decide +kernel : ∀ t : Fin grid0.N, cc0_transform_2 (grid0.coords t) = ![t.val % 8, t.val / 8])

theorem block0 (c : Dev nD) (t : Fin cfg0.N) (j : S1040x4096.Idx) (r : Fin 8320) (hr : r.val = t.val % 8 * 1040 + (j 0).val) :
    iblk m c 0 t j = V m c main_v6 (ix2 r (j 1)) := by
  show V m c main_v6 _ = _
  refine congrArg _ (funext fun a => Fin.ext ?_)
  match a with
  | ⟨0, _⟩ =>
    show cc0_transform_0 (grid0.coords t) 0 * 1040 + 1 * (j 0).val = r.val
    rw [index0 t, hr, Nat.one_mul]
    rfl
  | ⟨1, _⟩ =>
    show cc0_transform_0 (grid0.coords t) 1 * 4096 + 1 * (j 1).val = (j 1).val
    rw [index0 t, Nat.one_mul]
    exact Nat.zero_add _
theorem block1 (c : Dev nD) (t : Fin cfg0.N) (a : Fin 1) (k : Fin 4096) (x : Fin 512) (e : Fin 2048) (he : e.val = (t.val / 8) * 512 + x.val) :
    iblk m c 1 t (ix3 a k x) = m ((c : Thread nD τ).loc main_arg2) (ix3 (⟨0, by decide⟩ : Fin 2) k e) := by
  show V m c main_arg2 _ = _
  rw [V_main_arg2]
  refine congrArg _ (funext fun b => Fin.ext ?_)
  match b with
  | ⟨0, _⟩ =>
    show cc0_transform_1 (grid0.coords t) 0 * 1 + 1 * a.val = 0
    rw [index1 t]
    show 0 * 1 + 1 * a.val = 0
    omega
  | ⟨1, _⟩ =>
    show cc0_transform_1 (grid0.coords t) 1 * 4096 + 1 * k.val = k.val
    rw [index1 t, Nat.one_mul]
    exact Nat.zero_add _
  | ⟨2, _⟩ =>
    show cc0_transform_1 (grid0.coords t) 2 * 512 + 1 * x.val = e.val
    rw [index1 t, he, Nat.one_mul]
    rfl

/-- The rows that the host code lays out. -/
theorem V6 (c : Dev nD) : V m c main_v6 = truncf .bf16 (laid (n := 4096) (m ((c : Thread nD τ).loc main_arg0)) (m ((c : Thread nD τ).loc main_arg1))
    slices_S4x2064x4096_S4x2048x4096_0_16_0 shapeCasts_S4x2048x4096_S8192x4096 slices_S4x2064x4096_S4x16x4096_0_0_0 shapeCasts_S4x16x4096_S64x4096
    shapeCasts_S8x8x4096_S64x4096 concatenates_S8192x4096_S64x4096_S64x4096_S8320x4096_d0) bitsLt_bf16_f32 := by
  show StableHlo.after hostOps0 _ _ = _
  rw [hostOps0]
  after_results_simp
  rfl

/-- The result array at an index of point `t`'s block. -/
theorem result_block (c : Dev nD) (t : Fin cfg0.N) (x : Fin 1040) (y : Fin 512) (r : Fin 8320) (e : Fin 2048)
    (hr : r.val = t.val % 8 * 1040 + x.val) (he : e.val = t.val / 8 * 512 + y.val) :
    (dats m 0 c).arrAt 2 cfg0.N (ix2 r e) = (outsAt0 m c t.val t.isLt).1 (ix2 x y) := by
  have h := congrFun ((Cert.MixesAIdeal.Value.blocks2 m c t (flush0_2 t)).trans (Cert.MixesAIdeal.Value.flushed2 m c t)) (ix2 x y)
  refine Eq.trans ?_ h
  show _ = (dats m 0 c).arrAt 2 cfg0.N _
  refine congrArg _ (funext fun a => Fin.ext ?_)
  match a with
  | ⟨0, _⟩ =>
    show r.val = cc0_transform_2 (grid0.coords t) 0 * 1040 + 1 * x.val
    rw [index2 t, hr, Nat.one_mul]
    rfl
  | ⟨1, _⟩ =>
    show e.val = cc0_transform_2 (grid0.coords t) 1 * 512 + 1 * y.val
    rw [index2 t, he, Nat.one_mul]
    rfl
end Any

theorem product_at (x : S1040x4096.Idx → EReal) (w : S1x4096x512.Idx → EReal) (r : Fin 1040) (x' : Fin 512) :
    k0_pay2 (F := Ideal) x (k0_pay1 (F := Ideal) w) (ix2 r x') = ∑ k : Fin 4096, x (ix2 r k) * w (ix3 (0 : Fin 1) k x') := by
  unfold k0_pay2 k0_pay1
  pointwise

variable (m : (ℓ : Loc nD τ sig) → Buf (Elt Ideal) ℓ)

abbrev argP (c : Dev nD) : (Prompt 4096).Idx → EReal := m ((c : Thread nD τ).loc main_arg0)
abbrev argS (c : Dev nD) : (Sample 4096).Idx → EReal := m ((c : Thread nD τ).loc main_arg1)
abbrev argW (c : Dev nD) : S2x4096x2048.Idx → EReal := m ((c : Thread nD τ).loc main_arg2)

theorem rows_at (c : Dev nD) (r : Fin 8320) (k : Fin 4096) : V m c main_v6 (ix2 r k) = entry (argP m c) (argS m c) (place r) k := by
  rw [V6]
  exact laid_at (F := Ideal) (n := 4096) (argP m c) (argS m c) slices_S4x2064x4096_S4x2048x4096_0_16_0 shapeCasts_S4x2048x4096_S8192x4096 slices_S4x2064x4096_S4x16x4096_0_0_0 shapeCasts_S4x16x4096_S64x4096
    shapeCasts_S8x8x4096_S64x4096 concatenates_S8192x4096_S64x4096_S64x4096_S8320x4096_d0 r k

theorem result_at (c : Dev nD) (r : Fin 8320) (e : Fin 2048) :
    (dats m 0 c).arrAt 2 cfg0.N (ix2 r e) = ∑ k : Fin 4096, entry (argP m c) (argS m c) (place r) k * argW m c (ix3 (⟨0, by decide⟩ : Fin 2) k e) := by
  have ht : 8 * (e.val / 512) + r.val / 1040 < cfg0.N := Nat.lt_of_lt_of_eq (by omega) N_0.symm
  have h1 : (8 * (e.val / 512) + r.val / 1040) % 8 = r.val / 1040 := by omega
  have h2 : (8 * (e.val / 512) + r.val / 1040) / 8 = e.val / 512 := by omega
  have h3 : (8 * (e.val / 512) + r.val / 1040) / 8 * 8 / 8 = e.val / 512 := by omega
  rw [result_block m c ⟨8 * (e.val / 512) + r.val / 1040, ht⟩ ⟨r.val % 1040, by omega⟩ ⟨e.val % 512, by omega⟩ r e
    (by show r.val = (8 * (e.val / 512) + r.val / 1040) % 8 * 1040 + r.val % 1040; omega)
    (by show e.val = (8 * (e.val / 512) + r.val / 1040) / 8 * 512 + e.val % 512; omega), state]
  refine (product_at _ _ _ _).trans (Finset.sum_congr rfl fun k _ => ?_)
  have hx : iblk m c 0 ⟨8 * (e.val / 512) + r.val / 1040, ht⟩ (ix2 (⟨r.val % 1040, by omega⟩ : Fin 1040) k) = entry (argP m c) (argS m c) (place r) k :=
    (block0 m c _ _ r (by show r.val = (8 * (e.val / 512) + r.val / 1040) % 8 * 1040 + r.val % 1040; omega)).trans (rows_at m c r k)
  have hw : iblk m c 1 ⟨(8 * (e.val / 512) + r.val / 1040) / 8 * 8, start_lt ht⟩ (ix3 (0 : Fin 1) k (⟨e.val % 512, by omega⟩ : Fin 512)) = argW m c (ix3 (⟨0, by decide⟩ : Fin 2) k e) :=
    block1 m c _ 0 k (⟨e.val % 512, by omega⟩ : Fin 512) _ (by show e.val = (((8 * (e.val / 512) + r.val / 1040) / 8 * 8) / 8) * 512 + e.val % 512; omega)
  exact congrArg₂ (fun a b : EReal => a * b) hx hw

end Cert.Dense.MixesA

namespace Cert.Dense.PlainMixesA

open Idealize.ShloMosaic Idealize.ShloMosaic.TcCoe Idealize.ShloMosaic.Tactic
open Idealize.ShloMosaic.Pointwise
open Cert.PlainMixesAIdeal Cert.PlainMixesAIdeal.Gen

section
variable {F : FTy → Type} [FloatOps F]
/-- The reference's matrix, its two products, and its result. -/
def matrix (w : FVec F S2x4096x2048 .f32) : FVec F S4096x2048 .f32 := shapeCast S4096x2048 (extractStridedSlice S1x4096x2048 ![0, 0, 0] w slices_S2x4096x2048_S1x4096x2048_0_0_0) shapeCasts_S1x4096x2048_S4096x2048
def prompt (p : FVec F S4x2064x4096 .f32) (w : FVec F S2x4096x2048 .f32) : FVec F S4x2064x2048 .f32 :=
  Host.dotGeneral dot_S4x2064x4096_S4096x2048_S4x2064x2048_2_0_01_1_n_n none p (matrix w)
def samples (s : FVec F S8x8x4096 .f32) (w : FVec F S2x4096x2048 .f32) : FVec F S8x8x2048 .f32 :=
  Host.dotGeneral dot_S8x8x4096_S4096x2048_S8x8x2048_2_0_01_1_n_n none s (matrix w)
def result (p : FVec F S4x2064x4096 .f32) (s : FVec F S8x8x4096 .f32) (w : FVec F S2x4096x2048 .f32) : FVec F S8320x2048 .f32 :=
  laid (n := 2048) (prompt p w) (samples s w) slices_S4x2064x2048_S4x2048x2048_0_16_0 shapeCasts_S4x2048x2048_S8192x2048 slices_S4x2064x2048_S4x16x2048_0_0_0
    shapeCasts_S4x16x2048_S64x2048 shapeCasts_S8x8x2048_S64x2048 concatenates_S8192x2048_S64x2048_S64x2048_S8320x2048_d0
end

variable (p : S4x2064x4096.Idx → EReal) (s : S8x8x4096.Idx → EReal) (w : S2x4096x2048.Idx → EReal)

theorem prompt_at (b : Fin 4) (t : Fin 2064) (e : Fin 2048) : prompt (F := Ideal) p w (ix3 b t e) = ∑ k : Fin 4096, p (ix3 b t k) * w (ix3 (⟨0, by decide⟩ : Fin 2) k e) := by
  unfold prompt matrix
  pointwise
theorem samples_at (b : Fin 8) (t : Fin 8) (e : Fin 2048) : samples (F := Ideal) s w (ix3 b t e) = ∑ k : Fin 4096, s (ix3 b t k) * w (ix3 (⟨0, by decide⟩ : Fin 2) k e) := by
  unfold samples matrix
  pointwise

theorem result_at (r : Fin 8320) (e : Fin 2048) : result (F := Ideal) p s w (ix2 r e) = ∑ k : Fin 4096, entry p s (place r) k * w (ix3 (⟨0, by decide⟩ : Fin 2) k e) :=
  (laid_at _ _ _ _ _ _ _ _ r e).trans
    (entry_sum p s (fun k e => w (ix3 (⟨0, by decide⟩ : Fin 2) k e)) _ _ (prompt_at p w) (samples_at s w) (place r) e)

end Cert.Dense.PlainMixesA

namespace Cert.Dense.MixesA

open Idealize.ShloMosaic Idealize.ShloMosaic.TcCoe Idealize.SL.Sem
open Idealize.ShloMosaic.Pointwise
open Cert.MixesAIdeal Cert.MixesAIdeal.Gen

theorem equal (m : (ℓ : Loc nD τ sig) → Buf (Elt Ideal) ℓ) (c : Dev nD) :
    (dats m 0 c).arrAt 2 cfg0.N = PlainMixesA.result (F := Ideal) (argP m c) (argS m c) (argW m c) := by
  funext j
  refine (congrArg _ (eq_ix2 j)).trans (Eq.trans ?_ (congrArg _ (eq_ix2 j).symm))
  exact (result_at m c (j 0) (j 1)).trans (PlainMixesA.result_at (argP m c) (argS m c) (argW m c) (j 0) (j 1)).symm

/-- The reference ends as its run says. -/
theorem plain_run (m : (ℓ : Loc Cert.PlainMixesAIdeal.nD Cert.PlainMixesAIdeal.τ Cert.PlainMixesAIdeal.sig) → Buf (Elt Ideal) ℓ) (ρ : Dev Cert.PlainMixesAIdeal.nD → PrngReg) :
    θ_run Cert.PlainMixesAIdeal.defs (onTc (τ := Cert.PlainMixesAIdeal.τ) (Cert.PlainMixesAIdeal.main (F := Ideal))) ⟨m, fun _ => 0, ρ⟩ fun r => ∀ c : Dev Cert.PlainMixesAIdeal.nD,
      r.2.mem ((c.tc : Thread Cert.PlainMixesAIdeal.nD Cert.PlainMixesAIdeal.τ).loc Cert.PlainMixesAIdeal.main_v11)
        = PlainMixesA.result (F := Ideal) (m ((c.tc : Thread Cert.PlainMixesAIdeal.nD Cert.PlainMixesAIdeal.τ).loc Cert.PlainMixesAIdeal.main_arg0))
          (m ((c.tc : Thread Cert.PlainMixesAIdeal.nD Cert.PlainMixesAIdeal.τ).loc Cert.PlainMixesAIdeal.main_arg1))
          (m ((c.tc : Thread Cert.PlainMixesAIdeal.nD Cert.PlainMixesAIdeal.τ).loc Cert.PlainMixesAIdeal.main_arg2))
      ∧ r.2.mem ((c.tc : Thread Cert.PlainMixesAIdeal.nD Cert.PlainMixesAIdeal.τ).loc Cert.PlainMixesAIdeal.main_arg0) = m ((c.tc : Thread Cert.PlainMixesAIdeal.nD Cert.PlainMixesAIdeal.τ).loc Cert.PlainMixesAIdeal.main_arg0)
      ∧ r.2.mem ((c.tc : Thread Cert.PlainMixesAIdeal.nD Cert.PlainMixesAIdeal.τ).loc Cert.PlainMixesAIdeal.main_arg1) = m ((c.tc : Thread Cert.PlainMixesAIdeal.nD Cert.PlainMixesAIdeal.τ).loc Cert.PlainMixesAIdeal.main_arg1)
      ∧ r.2.mem ((c.tc : Thread Cert.PlainMixesAIdeal.nD Cert.PlainMixesAIdeal.τ).loc Cert.PlainMixesAIdeal.main_arg2) = m ((c.tc : Thread Cert.PlainMixesAIdeal.nD Cert.PlainMixesAIdeal.τ).loc Cert.PlainMixesAIdeal.main_arg2) :=
  Cert.PlainMixesAIdeal.Value.run (F := Ideal) m ρ

end Cert.Dense.MixesA
-- ==== Proof.DenseQueriesB.lean ====
module

public import proofs.«01_k».proof.Proof.Gen.QueriesBIdeal.Value
public import proofs.«01_k».proof.Proof.Gen.PlainQueriesBIdeal.Run
public import proofs.«01_k».proof.Proof.Rope
public import Idealize.ShloMosaic.Lib.Pipeline.ValueKit

/-! The dense call `QueriesB`: its result array is, entry by entry, the turned product that the reference writes. -/

@[expose] public section

set_option maxRecDepth 16384

noncomputable section

namespace Cert.Dense.QueriesB

open Idealize.ShloMosaic Idealize.ShloMosaic.TcCoe Idealize.ShloMosaic.Tactic
open Idealize.ShloMosaic.Pointwise
open Cert.QueriesBIdeal Cert.QueriesBIdeal.Gen

/-- The factor of every entry. -/
def factor : EReal := Ideal.ofBits .f32 0x3DB504F3#32

section Case
variable (c : Dev nD) (i : grid0.Coords)
  (arg2 : Memref sig .tc .vmem S1040x2048 .bf16) (harg2 : arg2.IsWhole) (arg3 : Memref sig .tc .vmem S1x2048x1024 .f32) (harg3 : arg3.IsWhole)
  (arg4 : Memref sig .tc .vmem S1040x128 .f32) (harg4 : arg4.IsWhole) (arg5 : Memref sig .tc .vmem S1040x128 .f32) (harg5 : arg5.IsWhole)
  (arg6 : Memref sig .tc .vmem S1040x1024 .f32) (harg6 : arg6.IsWhole) (arg7 : Memref sig .tc .vmem S2048x1024 .bf16) (harg7 : arg7.IsWhole)
  (x0 : Vec Ideal S1040x2048 .bf16) (x1 : Vec Ideal S1x2048x1024 .f32) (x2 : Vec Ideal S1040x128 .f32) (x3 : Vec Ideal S1040x128 .f32) (xs : Vec Ideal S2048x1024 .bf16)

/-- A point's tile, from its rows, the kept weights and its rows of the tables. -/
def tile : Tile.Idx → EReal := tileAt (k0_pay3 x0 xs) (k0_pay4 x2) (k0_pay5 x3) factor

/-- The eight groups of columns of a point's tile. -/
theorem tiles (y : Tile.Idx) : View.AllAt (Val := Elt Ideal) (S := Tile) (e := .f32)
    [⟨Rect.unit ![0, 896] ![1040, 128] inb_S1040x1024_S1040x128_0_896, k0_pay1 (k0_pay5 x3) (k0_pay14 (k0_pay3 x0 xs) (k0_pay4 x2)) (k0_pay15 (k0_pay3 x0 xs))⟩,
      ⟨Rect.unit ![0, 768] ![1040, 128] inb_S1040x1024_S1040x128_0_768, k0_pay12 (k0_pay3 x0 xs) (k0_pay4 x2) (k0_pay5 x3)⟩,
      ⟨Rect.unit ![0, 640] ![1040, 128] inb_S1040x1024_S1040x128_0_640, k0_pay11 (k0_pay3 x0 xs) (k0_pay4 x2) (k0_pay5 x3)⟩,
      ⟨Rect.unit ![0, 512] ![1040, 128] inb_S1040x1024_S1040x128_0_512, k0_pay10 (k0_pay3 x0 xs) (k0_pay4 x2) (k0_pay5 x3)⟩,
      ⟨Rect.unit ![0, 384] ![1040, 128] inb_S1040x1024_S1040x128_0_384, k0_pay9 (k0_pay3 x0 xs) (k0_pay4 x2) (k0_pay5 x3)⟩,
      ⟨Rect.unit ![0, 256] ![1040, 128] inb_S1040x1024_S1040x128_0_256, k0_pay8 x0 xs x2 x3⟩,
      ⟨Rect.unit ![0, 128] ![1040, 128] inb_S1040x1024_S1040x128_0_128, k0_pay7 x0 xs x2 x3⟩,
      ⟨Rect.unit ![0, 0] ![1040, 128] inb_S1040x1024_S1040x128_0_0, k0_pay6 x0 xs x2 x3⟩] y (tile x0 x2 x3 xs y) := by
  unfold tile
  have turned_all (o : ℕ) (ho : o + 128 ≤ 1024) (h128 : o % 128 = 0) (h : Tile.Slices ![0, o] Lane) :=
    turned_tile o ho h128 h rotates_S1040x128_d1 (k0_pay3 x0 xs) (k0_pay4 x2) (k0_pay5 x3) factor y
  refine View.allAt_cons_unit _ _ _ _ _ (turned_all 896 (by decide) (by decide) slices_S1040x1024_o0_896_S1040x128) ?_
  refine View.allAt_cons_unit _ _ _ _ _ (turned_all 768 (by decide) (by decide) slices_S1040x1024_o0_768_S1040x128) ?_
  refine View.allAt_cons_unit _ _ _ _ _ (turned_all 640 (by decide) (by decide) slices_S1040x1024_o0_640_S1040x128) ?_
  refine View.allAt_cons_unit _ _ _ _ _ (turned_all 512 (by decide) (by decide) slices_S1040x1024_o0_512_S1040x128) ?_
  refine View.allAt_cons_unit _ _ _ _ _ (turned_all 384 (by decide) (by decide) slices_S1040x1024_o0_384_S1040x128) ?_
  refine View.allAt_cons_unit _ _ _ _ _ (turned_all 256 (by decide) (by decide) slices_S1040x1024_o0_256_S1040x128) ?_
  refine View.allAt_cons_unit _ _ _ _ _ (turned_all 128 (by decide) (by decide) slices_S1040x1024_o0_128_S1040x128) ?_
  exact View.allAt_cons_unit _ _ _ _ _ (turned_all 0 (by decide) (by decide) slices_S1040x1024_o0_0_S1040x128) (View.allAt_nil _ _)

/-- The first point of a block of columns keeps the block's weights, and every point multiplies by the kept ones. -/
theorem keptA (hc0 : cond0_0 i) : sout0_A_0 (F := Ideal) c i arg2 harg2 arg3 harg3 arg4 harg4 arg5 harg5 arg6 harg6 arg7 harg7 hc0 x0 x1 x2 x3 = k0_pay2 x1 := by
  unfold sout0_A_0 kernelRun0_A
  dsimp only
  rw [View.read_writes_junk_eq_canon]
  unfold kernelRun0_A.sl.HS0_1
  rw [View.readAt_eq_ld, harg3.read_unread, View.ld_unit_lit' _ _ (by decide)]
  exact View.canon_cons_unit_lit' _ _ _ (by decide)
theorem outA (hc0 : cond0_0 i) : out0_A_4 (F := Ideal) c i arg2 harg2 arg3 harg3 arg4 harg4 arg5 harg5 arg6 harg6 arg7 harg7 hc0 x0 x1 x2 x3 = tile x0 x2 x3 (k0_pay2 x1) := by
  unfold out0_A_4
  rw [View.read_writes_junk_eq_canon]
  funext y
  refine View.canon_eq_of_allAt _ y _ (cover0_A_4 c i arg2 harg2 arg3 harg3 arg4 harg4 arg5 harg5 arg6 harg6 arg7 harg7 hc0 x0 x1 x2 x3 y) ?_
  unfold kernelRun0_A
  dsimp only
  have h0 : View.readAt (Elt Ideal) arg2.view (Rect.unit ![0, 0] ![1040, 2048] inb_S1040x2048_S1040x2048_0_0).toLoadRect (harg2.unread x0) = x0 := by
    rw [View.readAt_eq_ld, harg2.read_unread, View.ld_unit_lit' _ _ (by decide)]
  have h2 : View.readAt (Elt Ideal) arg4.view (Rect.unit ![0, 0] ![1040, 128] inb_S1040x128_S1040x128_0_0).toLoadRect (harg4.unread x2) = x2 := by
    rw [View.readAt_eq_ld, harg4.read_unread, View.ld_unit_lit' _ _ (by decide)]
  have h3 : View.readAt (Elt Ideal) arg5.view (Rect.unit ![0, 0] ![1040, 128] inb_S1040x128_S1040x128_0_0).toLoadRect (harg5.unread x3) = x3 := by
    rw [View.readAt_eq_ld, harg5.read_unread, View.ld_unit_lit' _ _ (by decide)]
  have hv : kernelRun0_A.sl.v5 c arg3 harg3 arg7 x1 = k0_pay2 x1 := by
    unfold kernelRun0_A.sl.v5 kernelRun0_A.sl.HS0_1
    rw [View.readAt_eq_ld, harg3.read_unread, View.ld_unit_lit' _ _ (by decide), View.readCov_unit_lit' _ _ _ (by decide)]
  unfold kernelRun0_A.sl.r_5 kernelRun0_A.sl.r_4 kernelRun0_A.sl.r_3 kernelRun0_A.sl.r_2 kernelRun0_A.sl.r_1 kernelRun0_A.sl.r
  rw [h0, h2, h3, hv]
  exact tiles x0 x2 x3 (k0_pay2 x1) y
theorem outB (hc0 : ¬cond0_0 i) : out0_B_4 (F := Ideal) c i arg2 harg2 arg3 harg3 arg4 harg4 arg5 harg5 arg6 harg6 arg7 harg7 hc0 x0 x1 x2 x3 xs = tile x0 x2 x3 xs := by
  unfold out0_B_4
  rw [View.read_writes_junk_eq_canon]
  funext y
  refine View.canon_eq_of_allAt _ y _ (cover0_B_4 c i arg2 harg2 arg3 harg3 arg4 harg4 arg5 harg5 arg6 harg6 arg7 harg7 hc0 x0 x1 x2 x3 xs y) ?_
  unfold kernelRun0_B
  dsimp only
  have h0 : View.readAt (Elt Ideal) arg2.view (Rect.unit ![0, 0] ![1040, 2048] inb_S1040x2048_S1040x2048_0_0).toLoadRect (harg2.unread x0) = x0 := by
    rw [View.readAt_eq_ld, harg2.read_unread, View.ld_unit_lit' _ _ (by decide)]
  have h2 : View.readAt (Elt Ideal) arg4.view (Rect.unit ![0, 0] ![1040, 128] inb_S1040x128_S1040x128_0_0).toLoadRect (harg4.unread x2) = x2 := by
    rw [View.readAt_eq_ld, harg4.read_unread, View.ld_unit_lit' _ _ (by decide)]
  have h3 : View.readAt (Elt Ideal) arg5.view (Rect.unit ![0, 0] ![1040, 128] inb_S1040x128_S1040x128_0_0).toLoadRect (harg5.unread x3) = x3 := by
    rw [View.readAt_eq_ld, harg5.read_unread, View.ld_unit_lit' _ _ (by decide)]
  have hv : View.readAt (Elt Ideal) arg7.view (Rect.unit ![0, 0] ![2048, 1024] inb_S2048x1024_S2048x1024_0_0).toLoadRect (harg7.unread xs) = xs := by
    rw [View.readAt_eq_ld, harg7.read_unread, View.ld_unit_lit' _ _ (by decide)]
  unfold kernelRun0_B.sl.r_5 kernelRun0_B.sl.r_4 kernelRun0_B.sl.r_3 kernelRun0_B.sl.r_2 kernelRun0_B.sl.r_1 kernelRun0_B.sl.r
  rw [h0, h2, h3, hv]
  exact tiles x0 x2 x3 xs y
end Case

section Any
variable (m : (ℓ : Loc nD τ sig) → Buf (Elt Ideal) ℓ)

theorem start_lt {n : ℕ} (hn : n < cfg0.N) : n / 8 * 8 < cfg0.N := Nat.lt_of_le_of_lt (Nat.div_mul_le_self n 8) hn

theorem first_start {n : ℕ} (h : n % 8 = 0) : n / 8 * 8 = n := by omega
theorem next_start {n : ℕ} (h : ¬(n + 1) % 8 = 0) : (n + 1) / 8 * 8 = n / 8 * 8 := by omega
theorem first_point {n : ℕ} (hn : n < cfg0.N) (h : n % 8 = 0) : (⟨n / 8 * 8, start_lt hn⟩ : Fin cfg0.N) = ⟨n, hn⟩ := Fin.ext (first_start h)
theorem next_point {n : ℕ} (hn : n + 1 < cfg0.N) (h : ¬(n + 1) % 8 = 0) :
    (⟨(n + 1) / 8 * 8, start_lt hn⟩ : Fin cfg0.N) = ⟨n / 8 * 8, start_lt (Nat.lt_of_succ_lt hn)⟩ := Fin.ext (next_start h)

theorem state_first (c : Dev nD) (t : Fin cfg0.N) (h : t.val % 8 = 0) :
    outsAt0 m c t.val t.isLt = (tile (iblk m c 0 t) (iblk m c 2 t) (iblk m c 3 t) (k0_pay2 (iblk m c 1 t)), k0_pay2 (iblk m c 1 t)) := by
  rw [outsAt0_A m c t h, outA, keptA]
theorem state_next (c : Dev nD) (t : Fin cfg0.N) (h : ¬t.val % 8 = 0) :
    outsAt0 m c t.val t.isLt = (tile (iblk m c 0 t) (iblk m c 2 t) (iblk m c 3 t) (outsAt0 m c (t.val - 1) (Nat.lt_of_le_of_lt (Nat.sub_le _ _) t.isLt)).2,
      (outsAt0 m c (t.val - 1) (Nat.lt_of_le_of_lt (Nat.sub_le _ _) t.isLt)).2) := by
  rw [outsAt0_B m c t h, outB]
  rfl

theorem state (c : Dev nD) (n : ℕ) (hn : n < cfg0.N) :
    outsAt0 m c n hn = (tile (iblk m c 0 ⟨n, hn⟩) (iblk m c 2 ⟨n, hn⟩) (iblk m c 3 ⟨n, hn⟩) (k0_pay2 (iblk m c 1 ⟨n / 8 * 8, start_lt hn⟩)), k0_pay2 (iblk m c 1 ⟨n / 8 * 8, start_lt hn⟩)) := by
  induction n with
  | zero => exact state_first m c ⟨0, hn⟩ rfl
  | succ n ih =>
    by_cases h : (n + 1) % 8 = 0
    · rw [first_point hn h]
      exact state_first m c ⟨n + 1, hn⟩ h
    · rw [next_point hn h]
      have e := state_next m c ⟨n + 1, hn⟩ h
      have e' : (outsAt0 m c (n + 1 - 1) (Nat.lt_of_le_of_lt (Nat.sub_le _ _) hn)).2 = _ := congrArg Prod.snd (ih (Nat.lt_of_succ_lt hn))
      refine e.trans ?_
      rw [e']

theorem index0 : ∀ t : Fin cfg0.N, cc0_transform_0 (grid0.coords t) = ![t.val % 8, 0] :=
  (by decide +kernel : ∀ t : Fin grid0.N, cc0_transform_0 (grid0.coords t) = ![t.val % 8, 0])
theorem index1 : ∀ t : Fin cfg0.N, cc0_transform_1 (grid0.coords t) = ![1, 0, t.val / 8] :=
  (by decide +kernel : ∀ t : Fin grid0.N, cc0_transform_1 (grid0.coords t) = ![1, 0, t.val / 8])
theorem index2 : ∀ t : Fin cfg0.N, cc0_transform_2 (grid0.coords t) = ![t.val % 8, 0] :=
  (by decide +kernel : ∀ t : Fin grid0.N, cc0_transform_2 (grid0.coords t) = ![t.val % 8, 0])
theorem index3 : ∀ t : Fin cfg0.N, cc0_transform_3 (grid0.coords t) = ![t.val % 8, 0] :=
  (by decide +kernel : ∀ t : Fin grid0.N, cc0_transform_3 (grid0.coords t) = ![t.val % 8, 0])
theorem index4 : ∀ t : Fin cfg0.N, cc0_transform_4 (grid0.coords t) = ![t.val % 8, t.val / 8] :=
  (by decide +kernel : ∀ t : Fin grid0.N, cc0_transform_4 (grid0.coords t) = ![t.val % 8, t.val / 8])

theorem block0 (c : Dev nD) (t : Fin cfg0.N) (j : S1040x2048.Idx) (r : Fin 8320) (hr : r.val = t.val % 8 * 1040 + (j 0).val) :
    iblk m c 0 t j = V m c main_v6 (ix2 r (j 1)) := by
  show V m c main_v6 _ = _
  refine congrArg _ (funext fun a => Fin.ext ?_)
  match a with
  | ⟨0, _⟩ =>
    show cc0_transform_0 (grid0.coords t) 0 * 1040 + 1 * (j 0).val = r.val
    rw [index0 t, hr, Nat.one_mul]
    rfl
  | ⟨1, _⟩ =>
    show cc0_transform_0 (grid0.coords t) 1 * 2048 + 1 * (j 1).val = (j 1).val
    rw [index0 t, Nat.one_mul]
    exact Nat.zero_add _
theorem block1 (c : Dev nD) (t : Fin cfg0.N) (a : Fin 1) (k : Fin 2048) (x : Fin 1024) (e : Fin 2048) (he : e.val = (t.val / 8) * 1024 + x.val) :
    iblk m c 1 t (ix3 a k x) = m ((c : Thread nD τ).loc main_arg2) (ix3 (⟨1, by decide⟩ : Fin 2) k e) := by
  show V m c main_arg2 _ = _
  rw [V_main_arg2]
  refine congrArg _ (funext fun b => Fin.ext ?_)
  match b with
  | ⟨0, _⟩ =>
    show cc0_transform_1 (grid0.coords t) 0 * 1 + 1 * a.val = 1
    rw [index1 t]
    show 1 * 1 + 1 * a.val = 1
    omega
  | ⟨1, _⟩ =>
    show cc0_transform_1 (grid0.coords t) 1 * 2048 + 1 * k.val = k.val
    rw [index1 t, Nat.one_mul]
    exact Nat.zero_add _
  | ⟨2, _⟩ =>
    show cc0_transform_1 (grid0.coords t) 2 * 1024 + 1 * x.val = e.val
    rw [index1 t, he, Nat.one_mul]
    rfl

theorem block2 (c : Dev nD) (t : Fin cfg0.N) (x : Fin 1040) (l : Fin 128) (r : Fin 8320) (hr : r.val = t.val % 8 * 1040 + x.val) :
    iblk m c 2 t (ix2 x l) = V m c main_v38 (ix2 r l) := by
  show V m c main_v38 _ = _
  refine congrArg _ (funext fun a => Fin.ext ?_)
  match a with
  | ⟨0, _⟩ =>
    show cc0_transform_2 (grid0.coords t) 0 * 1040 + 1 * x.val = r.val
    rw [index2 t, hr, Nat.one_mul]
    rfl
  | ⟨1, _⟩ =>
    show cc0_transform_2 (grid0.coords t) 1 * 128 + 1 * l.val = l.val
    rw [index2 t, Nat.one_mul]
    exact Nat.zero_add _
theorem block3 (c : Dev nD) (t : Fin cfg0.N) (x : Fin 1040) (l : Fin 128) (r : Fin 8320) (hr : r.val = t.val % 8 * 1040 + x.val) :
    iblk m c 3 t (ix2 x l) = V m c main_v40 (ix2 r l) := by
  show V m c main_v40 _ = _
  refine congrArg _ (funext fun a => Fin.ext ?_)
  match a with
  | ⟨0, _⟩ =>
    show cc0_transform_3 (grid0.coords t) 0 * 1040 + 1 * x.val = r.val
    rw [index3 t, hr, Nat.one_mul]
    rfl
  | ⟨1, _⟩ =>
    show cc0_transform_3 (grid0.coords t) 1 * 128 + 1 * l.val = l.val
    rw [index3 t, Nat.one_mul]
    exact Nat.zero_add _

/-- The positions, the frequencies and the angles that the host code writes. -/
def places : IVec (Line 8320) 32 := positions bcast_S_S2048 shapeCasts_S2048_S1x2048 bcast_S1x2048_S4x2048_0_1 shapeCasts_S4x2048_S8192 shapeCasts_S16_S1x16 bcast_S1x16_S4x16_0_1 shapeCasts_S4x16_S64 bcast_S_S8 shapeCasts_S8_S1x8 bcast_S1x8_S8x8_0_1 shapeCasts_S8x8_S64 concatenates_S8192_S64_S64_S8320_d0
def waves : (Line 64).Idx → EReal := frequencies (F := Ideal) bcast_S_S64 bcast_S_S64
def turns : FVec Ideal (Grid 8320 64) .f32 := angles (F := Ideal) places waves bcast_S8320_S8320x1_0 bcast_S64_S1x64_1 bcast_S8320x1_S8320x64_0_1 bcast_S1x64_S8320x64_0_1

theorem places_at (r : Fin 8320) : places (ix1 r) = stand (place r) := positions_at _ _ _ _ _ _ _ _ _ _ _ _ r

/-- The tables that the host code lays out. -/
theorem V38 (c : Dev nD) : V m c main_v38 = beside (F := Ideal) (Host.cos turns) (Host.cos turns) concatenates_S8320x64_S8320x64_S8320x128_d1 := by
  show StableHlo.after hostOps0 _ _ = _
  rw [hostOps0]
  after_results_simp
  rfl
theorem V40 (c : Dev nD) : V m c main_v40 = beside (F := Ideal) (Host.negf (Host.sin turns)) (Host.sin turns) concatenates_S8320x64_S8320x64_S8320x128_d1 := by
  show StableHlo.after hostOps0 _ _ = _
  rw [hostOps0]
  after_results_simp
  rfl
theorem cos_at (c : Dev nD) (r : Fin 8320) (l : Fin 128) (k : Fin 64) (hk : k.val = l.val % 64) : V m c main_v38 (ix2 r l) = cosE (posE (stand (place r)) * waves (ix1 k)) := by
  rw [V38, ← places_at]
  exact cosTable_at _ _ _ _ _ _ _ r l k hk
theorem sin_at (c : Dev nD) (r : Fin 8320) (l : Fin 128) (k : Fin 64) (hk : k.val = l.val % 64) :
    V m c main_v40 (ix2 r l) = if l.val < 64 then - sinE (posE (stand (place r)) * waves (ix1 k)) else sinE (posE (stand (place r)) * waves (ix1 k)) := by
  rw [V40, ← places_at]
  exact sinTable_at _ _ _ _ _ _ _ r l k hk

/-- The rows that the host code lays out. -/
theorem V6 (c : Dev nD) : V m c main_v6 = truncf .bf16 (laid (n := 2048) (m ((c : Thread nD τ).loc main_arg0)) (m ((c : Thread nD τ).loc main_arg1))
    slices_S4x2064x2048_S4x2048x2048_0_16_0 shapeCasts_S4x2048x2048_S8192x2048 slices_S4x2064x2048_S4x16x2048_0_0_0 shapeCasts_S4x16x2048_S64x2048
    shapeCasts_S8x8x2048_S64x2048 concatenates_S8192x2048_S64x2048_S64x2048_S8320x2048_d0) bitsLt_bf16_f32 := by
  show StableHlo.after hostOps0 _ _ = _
  rw [hostOps0]
  after_results_simp
  rfl

/-- The result array at an index of point `t`'s block. -/
theorem result_block (c : Dev nD) (t : Fin cfg0.N) (x : Fin 1040) (y : Fin 1024) (r : Fin 8320) (e : Fin 2048)
    (hr : r.val = t.val % 8 * 1040 + x.val) (he : e.val = t.val / 8 * 1024 + y.val) :
    (dats m 0 c).arrAt 4 cfg0.N (ix2 r e) = (outsAt0 m c t.val t.isLt).1 (ix2 x y) := by
  have h := congrFun ((Cert.QueriesBIdeal.Value.blocks4 m c t (flush0_4 t)).trans (Cert.QueriesBIdeal.Value.flushed4 m c t)) (ix2 x y)
  refine Eq.trans ?_ h
  show _ = (dats m 0 c).arrAt 4 cfg0.N _
  refine congrArg _ (funext fun a => Fin.ext ?_)
  match a with
  | ⟨0, _⟩ =>
    show r.val = cc0_transform_4 (grid0.coords t) 0 * 1040 + 1 * x.val
    rw [index4 t, hr, Nat.one_mul]
    rfl
  | ⟨1, _⟩ =>
    show e.val = cc0_transform_4 (grid0.coords t) 1 * 1024 + 1 * y.val
    rw [index4 t, he, Nat.one_mul]
    rfl
end Any

theorem product_at (x : S1040x2048.Idx → EReal) (w : S1x2048x1024.Idx → EReal) (r : Fin 1040) (x' : Fin 1024) :
    k0_pay3 (F := Ideal) x (k0_pay2 (F := Ideal) w) (ix2 r x') = ∑ k : Fin 2048, x (ix2 r k) * w (ix3 (0 : Fin 1) k x') := by
  unfold k0_pay3 k0_pay2
  pointwise

theorem same4 (x : S1040x128.Idx → EReal) (r : Fin 1040) (l : Fin 128) : k0_pay4 (F := Ideal) x (ix2 r l) = x (ix2 r l) := by
  unfold k0_pay4
  pointwise
theorem same5 (x : S1040x128.Idx → EReal) (r : Fin 1040) (l : Fin 128) : k0_pay5 (F := Ideal) x (ix2 r l) = x (ix2 r l) := by
  unfold k0_pay5
  pointwise

variable (m : (ℓ : Loc nD τ sig) → Buf (Elt Ideal) ℓ)

abbrev argP (c : Dev nD) : (Prompt 2048).Idx → EReal := m ((c : Thread nD τ).loc main_arg0)
abbrev argS (c : Dev nD) : (Sample 2048).Idx → EReal := m ((c : Thread nD τ).loc main_arg1)
abbrev argW (c : Dev nD) : S2x2048x2048.Idx → EReal := m ((c : Thread nD τ).loc main_arg2)

theorem rows_at (c : Dev nD) (r : Fin 8320) (k : Fin 2048) : V m c main_v6 (ix2 r k) = entry (argP m c) (argS m c) (place r) k := by
  rw [V6]
  exact laid_at (F := Ideal) (n := 2048) (argP m c) (argS m c) slices_S4x2064x2048_S4x2048x2048_0_16_0 shapeCasts_S4x2048x2048_S8192x2048 slices_S4x2064x2048_S4x16x2048_0_0_0 shapeCasts_S4x16x2048_S64x2048
    shapeCasts_S8x8x2048_S64x2048 concatenates_S8192x2048_S64x2048_S64x2048_S8320x2048_d0 r k

theorem result_at (c : Dev nD) (r : Fin 8320) (e : Fin 2048) :
    (dats m 0 c).arrAt 4 cfg0.N (ix2 r e) = turn e (∑ k : Fin 2048, entry (argP m c) (argS m c) (place r) k * argW m c (ix3 (⟨1, by decide⟩ : Fin 2) k e))
      (∑ k : Fin 2048, entry (argP m c) (argS m c) (place r) k * argW m c (ix3 (⟨1, by decide⟩ : Fin 2) k (partner e))) (posE (stand (place r)) * waves (ix1 (wave e))) * factor := by
  have ht : 8 * (e.val / 1024) + r.val / 1040 < cfg0.N := Nat.lt_of_lt_of_eq (by omega) N_0.symm
  have hr : r.val = (8 * (e.val / 1024) + r.val / 1040) % 8 * 1040 + r.val % 1040 := by omega
  rw [result_block m c ⟨8 * (e.val / 1024) + r.val / 1040, ht⟩ ⟨r.val % 1040, by omega⟩ ⟨e.val % 1024, by omega⟩ r e hr
    (by show e.val = (8 * (e.val / 1024) + r.val / 1040) / 8 * 1024 + e.val % 1024; omega), state]
  refine tile_turn _ _ _ _ _ (fun e' => ∑ k : Fin 2048, entry (argP m c) (argS m c) (place r) k * argW m c (ix3 (⟨1, by decide⟩ : Fin 2) k e')) (⟨r.val % 1040, by omega⟩ : Fin 1040) _ e rfl ?_ ?_ ?_
  · intro q e' he
    refine (product_at _ _ _ _).trans (Finset.sum_congr rfl fun k _ => ?_)
    have hx : iblk m c 0 ⟨8 * (e.val / 1024) + r.val / 1040, ht⟩ (ix2 (⟨r.val % 1040, by omega⟩ : Fin 1040) k) = entry (argP m c) (argS m c) (place r) k :=
      (block0 m c _ _ r (by show r.val = (8 * (e.val / 1024) + r.val / 1040) % 8 * 1040 + r.val % 1040; exact hr)).trans (rows_at m c r k)
    have hw : iblk m c 1 ⟨(8 * (e.val / 1024) + r.val / 1040) / 8 * 8, start_lt ht⟩ (ix3 (0 : Fin 1) k q) = argW m c (ix3 (⟨1, by decide⟩ : Fin 2) k e') :=
      block1 m c _ 0 k q _ (by show e'.val = (((8 * (e.val / 1024) + r.val / 1040) / 8 * 8) / 8) * 1024 + q.val; omega)
    exact congrArg₂ (fun a b : EReal => a * b) hx hw
  · intro l hl
    refine (same4 _ _ _).trans (((block2 m c ⟨8 * (e.val / 1024) + r.val / 1040, ht⟩ (⟨r.val % 1040, by omega⟩ : Fin 1040) l r (by show r.val = (8 * (e.val / 1024) + r.val / 1040) % 8 * 1040 + r.val % 1040; exact hr))).trans (cos_at m c r l (wave e) ?_))
    show e.val % 64 = l.val % 64
    omega
  · intro l hl
    rw [← hl]
    refine (same5 _ _ _).trans (((block3 m c ⟨8 * (e.val / 1024) + r.val / 1040, ht⟩ (⟨r.val % 1040, by omega⟩ : Fin 1040) l r (by show r.val = (8 * (e.val / 1024) + r.val / 1040) % 8 * 1040 + r.val % 1040; exact hr))).trans (sin_at m c r l (wave e) ?_))
    show e.val % 64 = l.val % 64
    omega

end Cert.Dense.QueriesB

namespace Cert.Dense.PlainQueriesB

open Idealize.ShloMosaic Idealize.ShloMosaic.TcCoe Idealize.ShloMosaic.Tactic
open Idealize.ShloMosaic.Pointwise
open Cert.PlainQueriesBIdeal Cert.PlainQueriesBIdeal.Gen

section
variable {F : FTy → Type} [FloatOps F]
/-- The reference's matrix, its two products, and its result. -/
def matrix (w : FVec F S2x2048x2048 .f32) : FVec F S2048x2048 .f32 := shapeCast S2048x2048 (extractStridedSlice S1x2048x2048 ![1, 0, 0] w slices_S2x2048x2048_S1x2048x2048_1_0_0) shapeCasts_S1x2048x2048_S2048x2048
def promptProduct (p : FVec F S4x2064x2048 .f32) (w : FVec F S2x2048x2048 .f32) : FVec F S4x2064x2048 .f32 :=
  Host.dotGeneral dot_S4x2064x2048_S2048x2048_S4x2064x2048_2_0_01_1_n_n none p (matrix w)
def promptAngles : FVec F (Grid 2064 64) .f32 :=
  angles (iotaInDim S2064 32 0) (frequencies bcast_S_S64 bcast_S_S64) bcast_S2064_S2064x1_0 bcast_S64_S1x64_1 bcast_S2064x1_S2064x64_0_1 bcast_S1x64_S2064x64_0_1
def promptHeads (p : FVec F S4x2064x2048 .f32) (w : FVec F S2x2048x2048 .f32) : FVec F S4x2064x16x128 .f32 :=
  heads (promptProduct p w) promptAngles shapeCasts_S4x2064x2048_S4x2064x16x128 slices_S4x2064x16x128_S4x2064x16x64_0_0_0_0 slices_S4x2064x16x128_S4x2064x16x64_0_0_0_64
    bcast_S2064x64_S1x2064x1x64_1_3 bcast_S1x2064x1x64_S4x2064x16x64_0_1_2_3 concatenates_S4x2064x16x64_S4x2064x16x64_S4x2064x16x128_d3
def prompt (p : FVec F S4x2064x2048 .f32) (w : FVec F S2x2048x2048 .f32) : FVec F S4x2064x2048 .f32 :=
  shapeCast S4x2064x2048 (mulf (promptHeads p w) (broadcastInDim S4x2064x16x128 ![] bcast_S_S4x2064x16x128 (constant S_ .f32 0x3DB504F3#32))) shapeCasts_S4x2064x16x128_S4x2064x2048
def samplesProduct (s : FVec F S8x8x2048 .f32) (w : FVec F S2x2048x2048 .f32) : FVec F S8x8x2048 .f32 :=
  Host.dotGeneral dot_S8x8x2048_S2048x2048_S8x8x2048_2_0_01_1_n_n none s (matrix w)
def samplesAngles : FVec F (Grid 8 64) .f32 :=
  angles (addi (broadcastInDim S8 ![] bcast_S_S8 (constantI S_ 32 16384#32)) (iotaInDim S8 32 0)) (frequencies bcast_S_S64 bcast_S_S64) bcast_S8_S8x1_0 bcast_S64_S1x64_1 bcast_S8x1_S8x64_0_1 bcast_S1x64_S8x64_0_1
def samplesHeads (s : FVec F S8x8x2048 .f32) (w : FVec F S2x2048x2048 .f32) : FVec F S8x8x16x128 .f32 :=
  heads (samplesProduct s w) samplesAngles shapeCasts_S8x8x2048_S8x8x16x128 slices_S8x8x16x128_S8x8x16x64_0_0_0_0 slices_S8x8x16x128_S8x8x16x64_0_0_0_64
    bcast_S8x64_S1x8x1x64_1_3 bcast_S1x8x1x64_S8x8x16x64_0_1_2_3 concatenates_S8x8x16x64_S8x8x16x64_S8x8x16x128_d3
def samples (s : FVec F S8x8x2048 .f32) (w : FVec F S2x2048x2048 .f32) : FVec F S8x8x2048 .f32 :=
  shapeCast S8x8x2048 (mulf (samplesHeads s w) (broadcastInDim S8x8x16x128 ![] bcast_S_S8x8x16x128 (constant S_ .f32 0x3DB504F3#32))) shapeCasts_S8x8x16x128_S8x8x2048
def result (p : FVec F S4x2064x2048 .f32) (s : FVec F S8x8x2048 .f32) (w : FVec F S2x2048x2048 .f32) : FVec F S8320x2048 .f32 :=
  laid (n := 2048) (prompt p w) (samples s w) slices_S4x2064x2048_S4x2048x2048_0_16_0 shapeCasts_S4x2048x2048_S8192x2048 slices_S4x2064x2048_S4x16x2048_0_0_0
    shapeCasts_S4x16x2048_S64x2048 shapeCasts_S8x8x2048_S64x2048 concatenates_S8192x2048_S64x2048_S64x2048_S8320x2048_d0
end

variable (p : S4x2064x2048.Idx → EReal) (s : S8x8x2048.Idx → EReal) (w : S2x2048x2048.Idx → EReal)

/-- The frequencies. -/
def waves : (Line 64).Idx → EReal := frequencies (F := Ideal) bcast_S_S64 bcast_S_S64

theorem promptProduct_at (b : Fin 4) (t : Fin 2064) (e : Fin 2048) : promptProduct (F := Ideal) p w (ix3 b t e) = ∑ k : Fin 2048, p (ix3 b t k) * w (ix3 (⟨1, by decide⟩ : Fin 2) k e) := by
  unfold promptProduct matrix
  pointwise
theorem promptAngles_at (t : Fin 2064) (k : Fin 64) : promptAngles (F := Ideal) (ix2 t k) = posE (BitVec.ofNat 32 t.val) * waves (ix1 k) :=
  angles2064_at _ _ _ _ _ _ t k
theorem promptHeads_at (b : Fin 4) (t : Fin 2064) (e : Fin 2048) : promptHeads (F := Ideal) p w (ix4 b t ⟨e.val / 128, by omega⟩ ⟨e.val % 128, by omega⟩)
    = turn e (∑ k : Fin 2048, p (ix3 b t k) * w (ix3 (⟨1, by decide⟩ : Fin 2) k e)) (∑ k : Fin 2048, p (ix3 b t k) * w (ix3 (⟨1, by decide⟩ : Fin 2) k (partner e))) (posE (BitVec.ofNat 32 t.val) * waves (ix1 (wave e))) := by
  unfold promptHeads
  rw [prompt_heads_at _ _ _ _ _ _ _ _ b t _ _ e (by show e.val = e.val / 128 * 128 + e.val % 128; omega), promptProduct_at, promptProduct_at, promptAngles_at]
theorem prompt_at (b : Fin 4) (t : Fin 2064) (e : Fin 2048) : prompt (F := Ideal) p w (ix3 b t e)
    = turn e (∑ k : Fin 2048, p (ix3 b t k) * w (ix3 (⟨1, by decide⟩ : Fin 2) k e)) (∑ k : Fin 2048, p (ix3 b t k) * w (ix3 (⟨1, by decide⟩ : Fin 2) k (partner e))) (posE (BitVec.ofNat 32 t.val) * waves (ix1 (wave e))) * QueriesB.factor := by
  unfold prompt
  refine (prompt_joined_at _ _ b t e).trans ?_
  exact congrArg (fun z : EReal => z * QueriesB.factor) (promptHeads_at p w b t e)
theorem samplesProduct_at (b : Fin 8) (t : Fin 8) (e : Fin 2048) : samplesProduct (F := Ideal) s w (ix3 b t e) = ∑ k : Fin 2048, s (ix3 b t k) * w (ix3 (⟨1, by decide⟩ : Fin 2) k e) := by
  unfold samplesProduct matrix
  pointwise
theorem samplesAngles_at (t : Fin 8) (k : Fin 64) : samplesAngles (F := Ideal) (ix2 t k) = posE (16384#32 + BitVec.ofNat 32 t.val) * waves (ix1 k) :=
  angles8_at _ _ _ _ _ _ t k
theorem samplesHeads_at (b : Fin 8) (t : Fin 8) (e : Fin 2048) : samplesHeads (F := Ideal) s w (ix4 b t ⟨e.val / 128, by omega⟩ ⟨e.val % 128, by omega⟩)
    = turn e (∑ k : Fin 2048, s (ix3 b t k) * w (ix3 (⟨1, by decide⟩ : Fin 2) k e)) (∑ k : Fin 2048, s (ix3 b t k) * w (ix3 (⟨1, by decide⟩ : Fin 2) k (partner e))) (posE (16384#32 + BitVec.ofNat 32 t.val) * waves (ix1 (wave e))) := by
  unfold samplesHeads
  rw [sample_heads_at _ _ _ _ _ _ _ _ b t _ _ e (by show e.val = e.val / 128 * 128 + e.val % 128; omega), samplesProduct_at, samplesProduct_at, samplesAngles_at]
theorem samples_at (b : Fin 8) (t : Fin 8) (e : Fin 2048) : samples (F := Ideal) s w (ix3 b t e)
    = turn e (∑ k : Fin 2048, s (ix3 b t k) * w (ix3 (⟨1, by decide⟩ : Fin 2) k e)) (∑ k : Fin 2048, s (ix3 b t k) * w (ix3 (⟨1, by decide⟩ : Fin 2) k (partner e))) (posE (16384#32 + BitVec.ofNat 32 t.val) * waves (ix1 (wave e))) * QueriesB.factor := by
  unfold samples
  refine (sample_joined_at _ _ b t e).trans ?_
  exact congrArg (fun z : EReal => z * QueriesB.factor) (samplesHeads_at s w b t e)

theorem result_at (r : Fin 8320) (e : Fin 2048) : result (F := Ideal) p s w (ix2 r e)
    = turn e (∑ k : Fin 2048, entry p s (place r) k * w (ix3 (⟨1, by decide⟩ : Fin 2) k e)) (∑ k : Fin 2048, entry p s (place r) k * w (ix3 (⟨1, by decide⟩ : Fin 2) k (partner e))) (posE (stand (place r)) * waves (ix1 (wave e))) * QueriesB.factor :=
  (laid_at _ _ _ _ _ _ _ _ r e).trans
    (entry_turn p s (fun k e => w (ix3 (⟨1, by decide⟩ : Fin 2) k e)) waves QueriesB.factor _ _ (prompt_at p w) (samples_at s w) (place r) e)

end Cert.Dense.PlainQueriesB

namespace Cert.Dense.QueriesB

open Idealize.ShloMosaic Idealize.ShloMosaic.TcCoe Idealize.SL.Sem
open Idealize.ShloMosaic.Pointwise
open Cert.QueriesBIdeal Cert.QueriesBIdeal.Gen

theorem equal (m : (ℓ : Loc nD τ sig) → Buf (Elt Ideal) ℓ) (c : Dev nD) :
    (dats m 0 c).arrAt 4 cfg0.N = PlainQueriesB.result (F := Ideal) (argP m c) (argS m c) (argW m c) := by
  funext j
  refine (congrArg _ (eq_ix2 j)).trans (Eq.trans ?_ (congrArg _ (eq_ix2 j).symm))
  exact (result_at m c (j 0) (j 1)).trans (PlainQueriesB.result_at (argP m c) (argS m c) (argW m c) (j 0) (j 1)).symm

/-- The reference ends as its run says. -/
theorem plain_run (m : (ℓ : Loc Cert.PlainQueriesBIdeal.nD Cert.PlainQueriesBIdeal.τ Cert.PlainQueriesBIdeal.sig) → Buf (Elt Ideal) ℓ) (ρ : Dev Cert.PlainQueriesBIdeal.nD → PrngReg) :
    θ_run Cert.PlainQueriesBIdeal.defs (onTc (τ := Cert.PlainQueriesBIdeal.τ) (Cert.PlainQueriesBIdeal.main (F := Ideal))) ⟨m, fun _ => 0, ρ⟩ fun r => ∀ c : Dev Cert.PlainQueriesBIdeal.nD,
      r.2.mem ((c.tc : Thread Cert.PlainQueriesBIdeal.nD Cert.PlainQueriesBIdeal.τ).loc Cert.PlainQueriesBIdeal.main_v81)
        = PlainQueriesB.result (F := Ideal) (m ((c.tc : Thread Cert.PlainQueriesBIdeal.nD Cert.PlainQueriesBIdeal.τ).loc Cert.PlainQueriesBIdeal.main_arg0))
          (m ((c.tc : Thread Cert.PlainQueriesBIdeal.nD Cert.PlainQueriesBIdeal.τ).loc Cert.PlainQueriesBIdeal.main_arg1))
          (m ((c.tc : Thread Cert.PlainQueriesBIdeal.nD Cert.PlainQueriesBIdeal.τ).loc Cert.PlainQueriesBIdeal.main_arg2))
      ∧ r.2.mem ((c.tc : Thread Cert.PlainQueriesBIdeal.nD Cert.PlainQueriesBIdeal.τ).loc Cert.PlainQueriesBIdeal.main_arg0) = m ((c.tc : Thread Cert.PlainQueriesBIdeal.nD Cert.PlainQueriesBIdeal.τ).loc Cert.PlainQueriesBIdeal.main_arg0)
      ∧ r.2.mem ((c.tc : Thread Cert.PlainQueriesBIdeal.nD Cert.PlainQueriesBIdeal.τ).loc Cert.PlainQueriesBIdeal.main_arg1) = m ((c.tc : Thread Cert.PlainQueriesBIdeal.nD Cert.PlainQueriesBIdeal.τ).loc Cert.PlainQueriesBIdeal.main_arg1)
      ∧ r.2.mem ((c.tc : Thread Cert.PlainQueriesBIdeal.nD Cert.PlainQueriesBIdeal.τ).loc Cert.PlainQueriesBIdeal.main_arg2) = m ((c.tc : Thread Cert.PlainQueriesBIdeal.nD Cert.PlainQueriesBIdeal.τ).loc Cert.PlainQueriesBIdeal.main_arg2) :=
  Cert.PlainQueriesBIdeal.Value.run (F := Ideal) m ρ

end Cert.Dense.QueriesB
-- ==== Proof.DenseOutsB.lean ====
module

public import proofs.«01_k».proof.Proof.Gen.OutsBIdeal.Value
public import proofs.«01_k».proof.Proof.Gen.PlainOutsBIdeal.Run
public import proofs.«01_k».proof.Proof.Layout
public import Idealize.ShloMosaic.Lib.Pipeline.ValueKit

/-! The dense call `OutsB`: its result array is, entry by entry, the product that the reference writes. -/

@[expose] public section

set_option maxRecDepth 16384

noncomputable section

namespace Cert.Dense.OutsB

open Idealize.ShloMosaic Idealize.ShloMosaic.TcCoe Idealize.ShloMosaic.Tactic
open Idealize.ShloMosaic.Pointwise
open Cert.OutsBIdeal Cert.OutsBIdeal.Gen

section Case
variable {F : FTy → Type} [FloatOps F] (c : Dev nD) (i : grid0.Coords)
  (arg2 : Memref sig .tc .vmem S1040x2048 .bf16) (harg2 : arg2.IsWhole) (arg3 : Memref sig .tc .vmem S1x2048x1024 .f32) (harg3 : arg3.IsWhole)
  (arg4 : Memref sig .tc .vmem S1040x1024 .f32) (harg4 : arg4.IsWhole) (arg5 : Memref sig .tc .vmem S2048x1024 .bf16) (harg5 : arg5.IsWhole)
  (x0 : Vec F S1040x2048 .bf16) (x1 : Vec F S1x2048x1024 .f32) (xs : Vec F S2048x1024 .bf16)

/-- The first point of a block of columns keeps the block's weights, and every point multiplies by the kept ones. -/
theorem keptA (hc0 : cond0_0 i) : sout0_A_0 c i arg2 harg2 arg3 harg3 arg4 harg4 arg5 harg5 hc0 x0 x1 = k0_pay1 x1 := by
  unfold sout0_A_0 kernelRun0_A
  dsimp only
  rw [View.read_writes_junk_eq_canon]
  unfold kernelRun0_A.sl.HS0_1
  rw [View.readAt_eq_ld, harg3.read_unread, View.ld_unit_lit' _ _ (by decide)]
  exact View.canon_cons_unit_lit' _ _ _ (by decide)
theorem outA (hc0 : cond0_0 i) : out0_A_2 c i arg2 harg2 arg3 harg3 arg4 harg4 arg5 harg5 hc0 x0 x1 = k0_pay2 x0 (k0_pay1 x1) := by
  unfold out0_A_2 kernelRun0_A
  dsimp only
  rw [View.read_writes_junk_eq_canon]
  rw [View.readAt_eq_ld, harg2.read_unread, View.ld_unit_lit' _ _ (by decide)]
  rw [View.canon_cons_unit_lit' _ _ _ (by decide)]
  unfold kernelRun0_A.sl.v5 kernelRun0_A.sl.HS0_1
  rw [View.readAt_eq_ld, harg3.read_unread, View.ld_unit_lit' _ _ (by decide), View.readCov_unit_lit' _ _ _ (by decide)]
theorem outB (hc0 : ¬cond0_0 i) : out0_B_2 c i arg2 harg2 arg3 harg3 arg4 harg4 arg5 harg5 hc0 x0 x1 xs = k0_pay2 x0 xs := by
  unfold out0_B_2 kernelRun0_B
  dsimp only
  rw [View.read_writes_junk_eq_canon]
  rw [View.readAt_eq_ld, harg2.read_unread, View.ld_unit_lit' _ _ (by decide), View.readAt_eq_ld, harg5.read_unread, View.ld_unit_lit' _ _ (by decide)]
  exact View.canon_cons_unit_lit' _ _ _ (by decide)
end Case

section Any
variable {F : FTy → Type} [FloatOps F] (m : (ℓ : Loc nD τ sig) → Buf (Elt F) ℓ)

theorem start_lt {n : ℕ} (hn : n < cfg0.N) : n / 8 * 8 < cfg0.N := Nat.lt_of_le_of_lt (Nat.div_mul_le_self n 8) hn

theorem first_start {n : ℕ} (h : n % 8 = 0) : n / 8 * 8 = n := by omega
theorem next_start {n : ℕ} (h : ¬(n + 1) % 8 = 0) : (n + 1) / 8 * 8 = n / 8 * 8 := by omega
theorem first_point {n : ℕ} (hn : n < cfg0.N) (h : n % 8 = 0) : (⟨n / 8 * 8, start_lt hn⟩ : Fin cfg0.N) = ⟨n, hn⟩ := Fin.ext (first_start h)
theorem next_point {n : ℕ} (hn : n + 1 < cfg0.N) (h : ¬(n + 1) % 8 = 0) :
    (⟨(n + 1) / 8 * 8, start_lt hn⟩ : Fin cfg0.N) = ⟨n / 8 * 8, start_lt (Nat.lt_of_succ_lt hn)⟩ := Fin.ext (next_start h)

theorem state_first (c : Dev nD) (t : Fin cfg0.N) (h : t.val % 8 = 0) :
    outsAt0 m c t.val t.isLt = (k0_pay2 (iblk m c 0 t) (k0_pay1 (iblk m c 1 t)), k0_pay1 (iblk m c 1 t)) := by
  rw [outsAt0_A m c t h, outA, keptA]
theorem state_next (c : Dev nD) (t : Fin cfg0.N) (h : ¬t.val % 8 = 0) :
    outsAt0 m c t.val t.isLt = (k0_pay2 (iblk m c 0 t) (outsAt0 m c (t.val - 1) (Nat.lt_of_le_of_lt (Nat.sub_le _ _) t.isLt)).2,
      (outsAt0 m c (t.val - 1) (Nat.lt_of_le_of_lt (Nat.sub_le _ _) t.isLt)).2) := by
  rw [outsAt0_B m c t h, outB]
  rfl

theorem state (c : Dev nD) (n : ℕ) (hn : n < cfg0.N) :
    outsAt0 m c n hn = (k0_pay2 (iblk m c 0 ⟨n, hn⟩) (k0_pay1 (iblk m c 1 ⟨n / 8 * 8, start_lt hn⟩)), k0_pay1 (iblk m c 1 ⟨n / 8 * 8, start_lt hn⟩)) := by
  induction n with
  | zero => exact state_first m c ⟨0, hn⟩ rfl
  | succ n ih =>
    by_cases h : (n + 1) % 8 = 0
    · rw [first_point hn h]
      exact state_first m c ⟨n + 1, hn⟩ h
    · rw [next_point hn h]
      have e := state_next m c ⟨n + 1, hn⟩ h
      have e' : (outsAt0 m c (n + 1 - 1) (Nat.lt_of_le_of_lt (Nat.sub_le _ _) hn)).2 = _ := congrArg Prod.snd (ih (Nat.lt_of_succ_lt hn))
      refine e.trans ?_
      rw [e']

theorem index0 : ∀ t : Fin cfg0.N, cc0_transform_0 (grid0.coords t) = ![t.val % 8, 0] :=
  (by decide +kernel : ∀ t : Fin grid0.N, cc0_transform_0 (grid0.coords t) = ![t.val % 8, 0])
theorem index1 : ∀ t : Fin cfg0.N, cc0_transform_1 (grid0.coords t) = ![1, 0, t.val / 8] :=
  (by decide +kernel : ∀ t : Fin grid0.N, cc0_transform_1 (grid0.coords t) = ![1, 0, t.val / 8])
theorem index2 : ∀ t : Fin cfg0.N, cc0_transform_2 (grid0.coords t) = ![t.val % 8, t.val / 8] :=
  (by decide +kernel : ∀ t : Fin grid0.N, cc0_transform_2 (grid0.coords t) = ![t.val % 8, t.val / 8])

theorem block0 (c : Dev nD) (t : Fin cfg0.N) (j : S1040x2048.Idx) (r : Fin 8320) (hr : r.val = t.val % 8 * 1040 + (j 0).val) :
    iblk m c 0 t j = V m c main_v6 (ix2 r (j 1)) := by
  show V m c main_v6 _ = _
  refine congrArg _ (funext fun a => Fin.ext ?_)
  match a with
  | ⟨0, _⟩ =>
    show cc0_transform_0 (grid0.coords t) 0 * 1040 + 1 * (j 0).val = r.val
    rw [index0 t, hr, Nat.one_mul]
    rfl
  | ⟨1, _⟩ =>
    show cc0_transform_0 (grid0.coords t) 1 * 2048 + 1 * (j 1).val = (j 1).val
    rw [index0 t, Nat.one_mul]
    exact Nat.zero_add _
theorem block1 (c : Dev nD) (t : Fin cfg0.N) (a : Fin 1) (k : Fin 2048) (x : Fin 1024) (e : Fin 2048) (he : e.val = (t.val / 8) * 1024 + x.val) :
    iblk m c 1 t (ix3 a k x) = m ((c : Thread nD τ).loc main_arg2) (ix3 (⟨1, by decide⟩ : Fin 2) k e) := by
  show V m c main_arg2 _ = _
  rw [V_main_arg2]
  refine congrArg _ (funext fun b => Fin.ext ?_)
  match b with
  | ⟨0, _⟩ =>
    show cc0_transform_1 (grid0.coords t) 0 * 1 + 1 * a.val = 1
    rw [index1 t]
    show 1 * 1 + 1 * a.val = 1
    omega
  | ⟨1, _⟩ =>
    show cc0_transform_1 (grid0.coords t) 1 * 2048 + 1 * k.val = k.val
    rw [index1 t, Nat.one_mul]
    exact Nat.zero_add _
  | ⟨2, _⟩ =>
    show cc0_transform_1 (grid0.coords t) 2 * 1024 + 1 * x.val = e.val
    rw [index1 t, he, Nat.one_mul]
    rfl

/-- The rows that the host code lays out. -/
theorem V6 (c : Dev nD) : V m c main_v6 = truncf .bf16 (laid (n := 2048) (m ((c : Thread nD τ).loc main_arg0)) (m ((c : Thread nD τ).loc main_arg1))
    slices_S4x2064x2048_S4x2048x2048_0_16_0 shapeCasts_S4x2048x2048_S8192x2048 slices_S4x2064x2048_S4x16x2048_0_0_0 shapeCasts_S4x16x2048_S64x2048
    shapeCasts_S8x8x2048_S64x2048 concatenates_S8192x2048_S64x2048_S64x2048_S8320x2048_d0) bitsLt_bf16_f32 := by
  show StableHlo.after hostOps0 _ _ = _
  rw [hostOps0]
  after_results_simp
  rfl

/-- The result array at an index of point `t`'s block. -/
theorem result_block (c : Dev nD) (t : Fin cfg0.N) (x : Fin 1040) (y : Fin 1024) (r : Fin 8320) (e : Fin 2048)
    (hr : r.val = t.val % 8 * 1040 + x.val) (he : e.val = t.val / 8 * 1024 + y.val) :
    (dats m 0 c).arrAt 2 cfg0.N (ix2 r e) = (outsAt0 m c t.val t.isLt).1 (ix2 x y) := by
  have h := congrFun ((Cert.OutsBIdeal.Value.blocks2 m c t (flush0_2 t)).trans (Cert.OutsBIdeal.Value.flushed2 m c t)) (ix2 x y)
  refine Eq.trans ?_ h
  show _ = (dats m 0 c).arrAt 2 cfg0.N _
  refine congrArg _ (funext fun a => Fin.ext ?_)
  match a with
  | ⟨0, _⟩ =>
    show r.val = cc0_transform_2 (grid0.coords t) 0 * 1040 + 1 * x.val
    rw [index2 t, hr, Nat.one_mul]
    rfl
  | ⟨1, _⟩ =>
    show e.val = cc0_transform_2 (grid0.coords t) 1 * 1024 + 1 * y.val
    rw [index2 t, he, Nat.one_mul]
    rfl
end Any

theorem product_at (x : S1040x2048.Idx → EReal) (w : S1x2048x1024.Idx → EReal) (r : Fin 1040) (x' : Fin 1024) :
    k0_pay2 (F := Ideal) x (k0_pay1 (F := Ideal) w) (ix2 r x') = ∑ k : Fin 2048, x (ix2 r k) * w (ix3 (0 : Fin 1) k x') := by
  unfold k0_pay2 k0_pay1
  pointwise

variable (m : (ℓ : Loc nD τ sig) → Buf (Elt Ideal) ℓ)

abbrev argP (c : Dev nD) : (Prompt 2048).Idx → EReal := m ((c : Thread nD τ).loc main_arg0)
abbrev argS (c : Dev nD) : (Sample 2048).Idx → EReal := m ((c : Thread nD τ).loc main_arg1)
abbrev argW (c : Dev nD) : S2x2048x2048.Idx → EReal := m ((c : Thread nD τ).loc main_arg2)

theorem rows_at (c : Dev nD) (r : Fin 8320) (k : Fin 2048) : V m c main_v6 (ix2 r k) = entry (argP m c) (argS m c) (place r) k := by
  rw [V6]
  exact laid_at (F := Ideal) (n := 2048) (argP m c) (argS m c) slices_S4x2064x2048_S4x2048x2048_0_16_0 shapeCasts_S4x2048x2048_S8192x2048 slices_S4x2064x2048_S4x16x2048_0_0_0 shapeCasts_S4x16x2048_S64x2048
    shapeCasts_S8x8x2048_S64x2048 concatenates_S8192x2048_S64x2048_S64x2048_S8320x2048_d0 r k

theorem result_at (c : Dev nD) (r : Fin 8320) (e : Fin 2048) :
    (dats m 0 c).arrAt 2 cfg0.N (ix2 r e) = ∑ k : Fin 2048, entry (argP m c) (argS m c) (place r) k * argW m c (ix3 (⟨1, by decide⟩ : Fin 2) k e) := by
  have ht : 8 * (e.val / 1024) + r.val / 1040 < cfg0.N := Nat.lt_of_lt_of_eq (by omega) N_0.symm
  have h1 : (8 * (e.val / 1024) + r.val / 1040) % 8 = r.val / 1040 := by omega
  have h2 : (8 * (e.val / 1024) + r.val / 1040) / 8 = e.val / 1024 := by omega
  have h3 : (8 * (e.val / 1024) + r.val / 1040) / 8 * 8 / 8 = e.val / 1024 := by omega
  rw [result_block m c ⟨8 * (e.val / 1024) + r.val / 1040, ht⟩ ⟨r.val % 1040, by omega⟩ ⟨e.val % 1024, by omega⟩ r e
    (by show r.val = (8 * (e.val / 1024) + r.val / 1040) % 8 * 1040 + r.val % 1040; omega)
    (by show e.val = (8 * (e.val / 1024) + r.val / 1040) / 8 * 1024 + e.val % 1024; omega), state]
  refine (product_at _ _ _ _).trans (Finset.sum_congr rfl fun k _ => ?_)
  have hx : iblk m c 0 ⟨8 * (e.val / 1024) + r.val / 1040, ht⟩ (ix2 (⟨r.val % 1040, by omega⟩ : Fin 1040) k) = entry (argP m c) (argS m c) (place r) k :=
    (block0 m c _ _ r (by show r.val = (8 * (e.val / 1024) + r.val / 1040) % 8 * 1040 + r.val % 1040; omega)).trans (rows_at m c r k)
  have hw : iblk m c 1 ⟨(8 * (e.val / 1024) + r.val / 1040) / 8 * 8, start_lt ht⟩ (ix3 (0 : Fin 1) k (⟨e.val % 1024, by omega⟩ : Fin 1024)) = argW m c (ix3 (⟨1, by decide⟩ : Fin 2) k e) :=
    block1 m c _ 0 k (⟨e.val % 1024, by omega⟩ : Fin 1024) _ (by show e.val = (((8 * (e.val / 1024) + r.val / 1040) / 8 * 8) / 8) * 1024 + e.val % 1024; omega)
  exact congrArg₂ (fun a b : EReal => a * b) hx hw

end Cert.Dense.OutsB

namespace Cert.Dense.PlainOutsB

open Idealize.ShloMosaic Idealize.ShloMosaic.TcCoe Idealize.ShloMosaic.Tactic
open Idealize.ShloMosaic.Pointwise
open Cert.PlainOutsBIdeal Cert.PlainOutsBIdeal.Gen

section
variable {F : FTy → Type} [FloatOps F]
/-- The reference's matrix, its two products, and its result. -/
def matrix (w : FVec F S2x2048x2048 .f32) : FVec F S2048x2048 .f32 := shapeCast S2048x2048 (extractStridedSlice S1x2048x2048 ![1, 0, 0] w slices_S2x2048x2048_S1x2048x2048_1_0_0) shapeCasts_S1x2048x2048_S2048x2048
def prompt (p : FVec F S4x2064x2048 .f32) (w : FVec F S2x2048x2048 .f32) : FVec F S4x2064x2048 .f32 :=
  Host.dotGeneral dot_S4x2064x2048_S2048x2048_S4x2064x2048_2_0_01_1_n_n none p (matrix w)
def samples (s : FVec F S8x8x2048 .f32) (w : FVec F S2x2048x2048 .f32) : FVec F S8x8x2048 .f32 :=
  Host.dotGeneral dot_S8x8x2048_S2048x2048_S8x8x2048_2_0_01_1_n_n none s (matrix w)
def result (p : FVec F S4x2064x2048 .f32) (s : FVec F S8x8x2048 .f32) (w : FVec F S2x2048x2048 .f32) : FVec F S8320x2048 .f32 :=
  laid (n := 2048) (prompt p w) (samples s w) slices_S4x2064x2048_S4x2048x2048_0_16_0 shapeCasts_S4x2048x2048_S8192x2048 slices_S4x2064x2048_S4x16x2048_0_0_0
    shapeCasts_S4x16x2048_S64x2048 shapeCasts_S8x8x2048_S64x2048 concatenates_S8192x2048_S64x2048_S64x2048_S8320x2048_d0
end

variable (p : S4x2064x2048.Idx → EReal) (s : S8x8x2048.Idx → EReal) (w : S2x2048x2048.Idx → EReal)

theorem prompt_at (b : Fin 4) (t : Fin 2064) (e : Fin 2048) : prompt (F := Ideal) p w (ix3 b t e) = ∑ k : Fin 2048, p (ix3 b t k) * w (ix3 (⟨1, by decide⟩ : Fin 2) k e) := by
  unfold prompt matrix
  pointwise
theorem samples_at (b : Fin 8) (t : Fin 8) (e : Fin 2048) : samples (F := Ideal) s w (ix3 b t e) = ∑ k : Fin 2048, s (ix3 b t k) * w (ix3 (⟨1, by decide⟩ : Fin 2) k e) := by
  unfold samples matrix
  pointwise

theorem result_at (r : Fin 8320) (e : Fin 2048) : result (F := Ideal) p s w (ix2 r e) = ∑ k : Fin 2048, entry p s (place r) k * w (ix3 (⟨1, by decide⟩ : Fin 2) k e) :=
  (laid_at _ _ _ _ _ _ _ _ r e).trans
    (entry_sum p s (fun k e => w (ix3 (⟨1, by decide⟩ : Fin 2) k e)) _ _ (prompt_at p w) (samples_at s w) (place r) e)

end Cert.Dense.PlainOutsB

namespace Cert.Dense.OutsB

open Idealize.ShloMosaic Idealize.ShloMosaic.TcCoe Idealize.SL.Sem
open Idealize.ShloMosaic.Pointwise
open Cert.OutsBIdeal Cert.OutsBIdeal.Gen

theorem equal (m : (ℓ : Loc nD τ sig) → Buf (Elt Ideal) ℓ) (c : Dev nD) :
    (dats m 0 c).arrAt 2 cfg0.N = PlainOutsB.result (F := Ideal) (argP m c) (argS m c) (argW m c) := by
  funext j
  refine (congrArg _ (eq_ix2 j)).trans (Eq.trans ?_ (congrArg _ (eq_ix2 j).symm))
  exact (result_at m c (j 0) (j 1)).trans (PlainOutsB.result_at (argP m c) (argS m c) (argW m c) (j 0) (j 1)).symm

/-- The reference ends as its run says. -/
theorem plain_run (m : (ℓ : Loc Cert.PlainOutsBIdeal.nD Cert.PlainOutsBIdeal.τ Cert.PlainOutsBIdeal.sig) → Buf (Elt Ideal) ℓ) (ρ : Dev Cert.PlainOutsBIdeal.nD → PrngReg) :
    θ_run Cert.PlainOutsBIdeal.defs (onTc (τ := Cert.PlainOutsBIdeal.τ) (Cert.PlainOutsBIdeal.main (F := Ideal))) ⟨m, fun _ => 0, ρ⟩ fun r => ∀ c : Dev Cert.PlainOutsBIdeal.nD,
      r.2.mem ((c.tc : Thread Cert.PlainOutsBIdeal.nD Cert.PlainOutsBIdeal.τ).loc Cert.PlainOutsBIdeal.main_v11)
        = PlainOutsB.result (F := Ideal) (m ((c.tc : Thread Cert.PlainOutsBIdeal.nD Cert.PlainOutsBIdeal.τ).loc Cert.PlainOutsBIdeal.main_arg0))
          (m ((c.tc : Thread Cert.PlainOutsBIdeal.nD Cert.PlainOutsBIdeal.τ).loc Cert.PlainOutsBIdeal.main_arg1))
          (m ((c.tc : Thread Cert.PlainOutsBIdeal.nD Cert.PlainOutsBIdeal.τ).loc Cert.PlainOutsBIdeal.main_arg2))
      ∧ r.2.mem ((c.tc : Thread Cert.PlainOutsBIdeal.nD Cert.PlainOutsBIdeal.τ).loc Cert.PlainOutsBIdeal.main_arg0) = m ((c.tc : Thread Cert.PlainOutsBIdeal.nD Cert.PlainOutsBIdeal.τ).loc Cert.PlainOutsBIdeal.main_arg0)
      ∧ r.2.mem ((c.tc : Thread Cert.PlainOutsBIdeal.nD Cert.PlainOutsBIdeal.τ).loc Cert.PlainOutsBIdeal.main_arg1) = m ((c.tc : Thread Cert.PlainOutsBIdeal.nD Cert.PlainOutsBIdeal.τ).loc Cert.PlainOutsBIdeal.main_arg1)
      ∧ r.2.mem ((c.tc : Thread Cert.PlainOutsBIdeal.nD Cert.PlainOutsBIdeal.τ).loc Cert.PlainOutsBIdeal.main_arg2) = m ((c.tc : Thread Cert.PlainOutsBIdeal.nD Cert.PlainOutsBIdeal.τ).loc Cert.PlainOutsBIdeal.main_arg2) :=
  Cert.PlainOutsBIdeal.Value.run (F := Ideal) m ρ

end Cert.Dense.OutsB
-- ==== Proof.DenseGatesB.lean ====
module

public import proofs.«01_k».proof.Proof.Gen.GatesBIdeal.Value
public import proofs.«01_k».proof.Proof.Gen.PlainGatesBIdeal.Run
public import proofs.«01_k».proof.Proof.Layout
public import Idealize.ShloMosaic.Lib.Pipeline.ValueKit

/-! The dense call `GatesB`: its result array is, entry by entry, the product that the reference writes. -/

@[expose] public section

set_option maxRecDepth 16384

noncomputable section

namespace Cert.Dense.GatesB

open Idealize.ShloMosaic Idealize.ShloMosaic.TcCoe Idealize.ShloMosaic.Tactic
open Idealize.ShloMosaic.Pointwise
open Cert.GatesBIdeal Cert.GatesBIdeal.Gen

section Case
variable {F : FTy → Type} [FloatOps F] (c : Dev nD) (i : grid0.Coords)
  (arg2 : Memref sig .tc .vmem S1040x2048 .bf16) (harg2 : arg2.IsWhole) (arg3 : Memref sig .tc .vmem S1x2048x1024 .f32) (harg3 : arg3.IsWhole)
  (arg4 : Memref sig .tc .vmem S1040x1024 .f32) (harg4 : arg4.IsWhole) (arg5 : Memref sig .tc .vmem S2048x1024 .bf16) (harg5 : arg5.IsWhole)
  (x0 : Vec F S1040x2048 .bf16) (x1 : Vec F S1x2048x1024 .f32) (xs : Vec F S2048x1024 .bf16)

/-- The first point of a block of columns keeps the block's weights, and every point multiplies by the kept ones. -/
theorem keptA (hc0 : cond0_0 i) : sout0_A_0 c i arg2 harg2 arg3 harg3 arg4 harg4 arg5 harg5 hc0 x0 x1 = k0_pay1 x1 := by
  unfold sout0_A_0 kernelRun0_A
  dsimp only
  rw [View.read_writes_junk_eq_canon]
  unfold kernelRun0_A.sl.HS0_1
  rw [View.readAt_eq_ld, harg3.read_unread, View.ld_unit_lit' _ _ (by decide)]
  exact View.canon_cons_unit_lit' _ _ _ (by decide)
theorem outA (hc0 : cond0_0 i) : out0_A_2 c i arg2 harg2 arg3 harg3 arg4 harg4 arg5 harg5 hc0 x0 x1 = k0_pay2 x0 (k0_pay1 x1) := by
  unfold out0_A_2 kernelRun0_A
  dsimp only
  rw [View.read_writes_junk_eq_canon]
  rw [View.readAt_eq_ld, harg2.read_unread, View.ld_unit_lit' _ _ (by decide)]
  rw [View.canon_cons_unit_lit' _ _ _ (by decide)]
  unfold kernelRun0_A.sl.v5 kernelRun0_A.sl.HS0_1
  rw [View.readAt_eq_ld, harg3.read_unread, View.ld_unit_lit' _ _ (by decide), View.readCov_unit_lit' _ _ _ (by decide)]
theorem outB (hc0 : ¬cond0_0 i) : out0_B_2 c i arg2 harg2 arg3 harg3 arg4 harg4 arg5 harg5 hc0 x0 x1 xs = k0_pay2 x0 xs := by
  unfold out0_B_2 kernelRun0_B
  dsimp only
  rw [View.read_writes_junk_eq_canon]
  rw [View.readAt_eq_ld, harg2.read_unread, View.ld_unit_lit' _ _ (by decide), View.readAt_eq_ld, harg5.read_unread, View.ld_unit_lit' _ _ (by decide)]
  exact View.canon_cons_unit_lit' _ _ _ (by decide)
end Case

section Any
variable {F : FTy → Type} [FloatOps F] (m : (ℓ : Loc nD τ sig) → Buf (Elt F) ℓ)

theorem start_lt {n : ℕ} (hn : n < cfg0.N) : n / 8 * 8 < cfg0.N := Nat.lt_of_le_of_lt (Nat.div_mul_le_self n 8) hn

theorem first_start {n : ℕ} (h : n % 8 = 0) : n / 8 * 8 = n := by omega
theorem next_start {n : ℕ} (h : ¬(n + 1) % 8 = 0) : (n + 1) / 8 * 8 = n / 8 * 8 := by omega
theorem first_point {n : ℕ} (hn : n < cfg0.N) (h : n % 8 = 0) : (⟨n / 8 * 8, start_lt hn⟩ : Fin cfg0.N) = ⟨n, hn⟩ := Fin.ext (first_start h)
theorem next_point {n : ℕ} (hn : n + 1 < cfg0.N) (h : ¬(n + 1) % 8 = 0) :
    (⟨(n + 1) / 8 * 8, start_lt hn⟩ : Fin cfg0.N) = ⟨n / 8 * 8, start_lt (Nat.lt_of_succ_lt hn)⟩ := Fin.ext (next_start h)

theorem state_first (c : Dev nD) (t : Fin cfg0.N) (h : t.val % 8 = 0) :
    outsAt0 m c t.val t.isLt = (k0_pay2 (iblk m c 0 t) (k0_pay1 (X0_1 m c t)), k0_pay1 (X0_1 m c t)) := by
  rw [outsAt0_A m c t h, outA, keptA]
theorem state_next (c : Dev nD) (t : Fin cfg0.N) (h : ¬t.val % 8 = 0) :
    outsAt0 m c t.val t.isLt = (k0_pay2 (iblk m c 0 t) (outsAt0 m c (t.val - 1) (Nat.lt_of_le_of_lt (Nat.sub_le _ _) t.isLt)).2,
      (outsAt0 m c (t.val - 1) (Nat.lt_of_le_of_lt (Nat.sub_le _ _) t.isLt)).2) := by
  rw [outsAt0_B m c t h, outB]
  rfl

theorem state (c : Dev nD) (n : ℕ) (hn : n < cfg0.N) :
    outsAt0 m c n hn = (k0_pay2 (iblk m c 0 ⟨n, hn⟩) (k0_pay1 (X0_1 m c ⟨n / 8 * 8, start_lt hn⟩)), k0_pay1 (X0_1 m c ⟨n / 8 * 8, start_lt hn⟩)) := by
  induction n with
  | zero => exact state_first m c ⟨0, hn⟩ rfl
  | succ n ih =>
    by_cases h : (n + 1) % 8 = 0
    · rw [first_point hn h]
      exact state_first m c ⟨n + 1, hn⟩ h
    · rw [next_point hn h]
      have e := state_next m c ⟨n + 1, hn⟩ h
      have e' : (outsAt0 m c (n + 1 - 1) (Nat.lt_of_le_of_lt (Nat.sub_le _ _) hn)).2 = _ := congrArg Prod.snd (ih (Nat.lt_of_succ_lt hn))
      refine e.trans ?_
      rw [e']

theorem index0 : ∀ t : Fin cfg0.N, cc0_transform_0 (grid0.coords t) = ![t.val % 8, 0] :=
  (by decide +kernel : ∀ t : Fin grid0.N, cc0_transform_0 (grid0.coords t) = ![t.val % 8, 0])
theorem index1 : ∀ t : Fin cfg0.N, cc0_transform_1 (grid0.coords t) = ![1, 0, t.val / 8] :=
  (by decide +kernel : ∀ t : Fin grid0.N, cc0_transform_1 (grid0.coords t) = ![1, 0, t.val / 8])
theorem index2 : ∀ t : Fin cfg0.N, cc0_transform_2 (grid0.coords t) = ![t.val % 8, t.val / 8] :=
  (by decide +kernel : ∀ t : Fin grid0.N, cc0_transform_2 (grid0.coords t) = ![t.val % 8, t.val / 8])

theorem block0 (c : Dev nD) (t : Fin cfg0.N) (j : S1040x2048.Idx) (r : Fin 8320) (hr : r.val = t.val % 8 * 1040 + (j 0).val) :
    iblk m c 0 t j = V m c main_v6 (ix2 r (j 1)) := by
  show V m c main_v6 _ = _
  refine congrArg _ (funext fun a => Fin.ext ?_)
  match a with
  | ⟨0, _⟩ =>
    show cc0_transform_0 (grid0.coords t) 0 * 1040 + 1 * (j 0).val = r.val
    rw [index0 t, hr, Nat.one_mul]
    rfl
  | ⟨1, _⟩ =>
    show cc0_transform_0 (grid0.coords t) 1 * 2048 + 1 * (j 1).val = (j 1).val
    rw [index0 t, Nat.one_mul]
    exact Nat.zero_add _
theorem block1 (c : Dev nD) (t : Fin cfg0.N) (a : Fin 1) (k : Fin 2048) (x : Fin 1024) (e : Fin 10304) (he : e.val = (t.val / 8) * 1024 + x.val) :
    X0_1 m c t (ix3 a k x) = m ((c : Thread nD τ).loc main_arg2) (ix3 (⟨1, by decide⟩ : Fin 2) k e) := by
  unfold X0_1 Pipeline.Window.fill
  rw [dif_pos (moved0_1 t _)]
  show V m c main_arg2 _ = _
  rw [V_main_arg2]
  refine congrArg _ (funext fun b => Fin.ext ?_)
  match b with
  | ⟨0, _⟩ =>
    show cc0_transform_1 (grid0.coords t) 0 * 1 + 1 * a.val = 1
    rw [index1 t]
    show 1 * 1 + 1 * a.val = 1
    omega
  | ⟨1, _⟩ =>
    show cc0_transform_1 (grid0.coords t) 1 * 2048 + 1 * k.val = k.val
    rw [index1 t, Nat.one_mul]
    exact Nat.zero_add _
  | ⟨2, _⟩ =>
    show cc0_transform_1 (grid0.coords t) 2 * 1024 + 1 * x.val = e.val
    rw [index1 t, he, Nat.one_mul]
    rfl

/-- The rows that the host code lays out. -/
theorem V6 (c : Dev nD) : V m c main_v6 = truncf .bf16 (laid (n := 2048) (m ((c : Thread nD τ).loc main_arg0)) (m ((c : Thread nD τ).loc main_arg1))
    slices_S4x2064x2048_S4x2048x2048_0_16_0 shapeCasts_S4x2048x2048_S8192x2048 slices_S4x2064x2048_S4x16x2048_0_0_0 shapeCasts_S4x16x2048_S64x2048
    shapeCasts_S8x8x2048_S64x2048 concatenates_S8192x2048_S64x2048_S64x2048_S8320x2048_d0) bitsLt_bf16_f32 := by
  show StableHlo.after hostOps0 _ _ = _
  rw [hostOps0]
  after_results_simp
  rfl

/-- The result array at an index of point `t`'s block. -/
theorem result_block (c : Dev nD) (t : Fin cfg0.N) (x : Fin 1040) (y : Fin 1024) (r : Fin 8320) (e : Fin 4096)
    (hr : r.val = t.val % 8 * 1040 + x.val) (he : e.val = t.val / 8 * 1024 + y.val) :
    (dats m 0 c).arrAt 2 cfg0.N (ix2 r e) = (outsAt0 m c t.val t.isLt).1 (ix2 x y) := by
  have h := congrFun ((Cert.GatesBIdeal.Value.blocks2 m c t (flush0_2 t)).trans (Cert.GatesBIdeal.Value.flushed2 m c t)) (ix2 x y)
  refine Eq.trans ?_ h
  show _ = (dats m 0 c).arrAt 2 cfg0.N _
  refine congrArg _ (funext fun a => Fin.ext ?_)
  match a with
  | ⟨0, _⟩ =>
    show r.val = cc0_transform_2 (grid0.coords t) 0 * 1040 + 1 * x.val
    rw [index2 t, hr, Nat.one_mul]
    rfl
  | ⟨1, _⟩ =>
    show e.val = cc0_transform_2 (grid0.coords t) 1 * 1024 + 1 * y.val
    rw [index2 t, he, Nat.one_mul]
    rfl
end Any

theorem product_at (x : S1040x2048.Idx → EReal) (w : S1x2048x1024.Idx → EReal) (r : Fin 1040) (x' : Fin 1024) :
    k0_pay2 (F := Ideal) x (k0_pay1 (F := Ideal) w) (ix2 r x') = ∑ k : Fin 2048, x (ix2 r k) * w (ix3 (0 : Fin 1) k x') := by
  unfold k0_pay2 k0_pay1
  pointwise

variable (m : (ℓ : Loc nD τ sig) → Buf (Elt Ideal) ℓ)

abbrev argP (c : Dev nD) : (Prompt 2048).Idx → EReal := m ((c : Thread nD τ).loc main_arg0)
abbrev argS (c : Dev nD) : (Sample 2048).Idx → EReal := m ((c : Thread nD τ).loc main_arg1)
abbrev argW (c : Dev nD) : S2x2048x10304.Idx → EReal := m ((c : Thread nD τ).loc main_arg2)

theorem rows_at (c : Dev nD) (r : Fin 8320) (k : Fin 2048) : V m c main_v6 (ix2 r k) = entry (argP m c) (argS m c) (place r) k := by
  rw [V6]
  exact laid_at (F := Ideal) (n := 2048) (argP m c) (argS m c) slices_S4x2064x2048_S4x2048x2048_0_16_0 shapeCasts_S4x2048x2048_S8192x2048 slices_S4x2064x2048_S4x16x2048_0_0_0 shapeCasts_S4x16x2048_S64x2048
    shapeCasts_S8x8x2048_S64x2048 concatenates_S8192x2048_S64x2048_S64x2048_S8320x2048_d0 r k

theorem result_at (c : Dev nD) (r : Fin 8320) (e : Fin 4096) :
    (dats m 0 c).arrAt 2 cfg0.N (ix2 r e) = ∑ k : Fin 2048, entry (argP m c) (argS m c) (place r) k * argW m c (ix3 (⟨1, by decide⟩ : Fin 2) k ⟨e.val, by omega⟩) := by
  have ht : 8 * (e.val / 1024) + r.val / 1040 < cfg0.N := Nat.lt_of_lt_of_eq (by omega) N_0.symm
  have h1 : (8 * (e.val / 1024) + r.val / 1040) % 8 = r.val / 1040 := by omega
  have h2 : (8 * (e.val / 1024) + r.val / 1040) / 8 = e.val / 1024 := by omega
  have h3 : (8 * (e.val / 1024) + r.val / 1040) / 8 * 8 / 8 = e.val / 1024 := by omega
  rw [result_block m c ⟨8 * (e.val / 1024) + r.val / 1040, ht⟩ ⟨r.val % 1040, by omega⟩ ⟨e.val % 1024, by omega⟩ r e
    (by show r.val = (8 * (e.val / 1024) + r.val / 1040) % 8 * 1040 + r.val % 1040; omega)
    (by show e.val = (8 * (e.val / 1024) + r.val / 1040) / 8 * 1024 + e.val % 1024; omega), state]
  refine (product_at _ _ _ _).trans (Finset.sum_congr rfl fun k _ => ?_)
  have hx : iblk m c 0 ⟨8 * (e.val / 1024) + r.val / 1040, ht⟩ (ix2 (⟨r.val % 1040, by omega⟩ : Fin 1040) k) = entry (argP m c) (argS m c) (place r) k :=
    (block0 m c _ _ r (by show r.val = (8 * (e.val / 1024) + r.val / 1040) % 8 * 1040 + r.val % 1040; omega)).trans (rows_at m c r k)
  have hw : X0_1 m c ⟨(8 * (e.val / 1024) + r.val / 1040) / 8 * 8, start_lt ht⟩ (ix3 (0 : Fin 1) k (⟨e.val % 1024, by omega⟩ : Fin 1024)) = argW m c (ix3 (⟨1, by decide⟩ : Fin 2) k ⟨e.val, by omega⟩) :=
    block1 m c _ 0 k (⟨e.val % 1024, by omega⟩ : Fin 1024) _ (by show e.val = (((8 * (e.val / 1024) + r.val / 1040) / 8 * 8) / 8) * 1024 + e.val % 1024; omega)
  exact congrArg₂ (fun a b : EReal => a * b) hx hw

end Cert.Dense.GatesB

namespace Cert.Dense.PlainGatesB

open Idealize.ShloMosaic Idealize.ShloMosaic.TcCoe Idealize.ShloMosaic.Tactic
open Idealize.ShloMosaic.Pointwise
open Cert.PlainGatesBIdeal Cert.PlainGatesBIdeal.Gen

section
variable {F : FTy → Type} [FloatOps F]
/-- The reference's matrix, its two products, and its result. -/
def matrix (w : FVec F S2x2048x10304 .f32) : FVec F S2048x10304 .f32 := shapeCast S2048x10304 (extractStridedSlice S1x2048x10304 ![1, 0, 0] w slices_S2x2048x10304_S1x2048x10304_1_0_0) shapeCasts_S1x2048x10304_S2048x10304
def prompt (p : FVec F S4x2064x2048 .f32) (w : FVec F S2x2048x10304 .f32) : FVec F S4x2064x4096 .f32 :=
  extractStridedSlice S4x2064x4096 ![0, 0, 0] (Host.dotGeneral dot_S4x2064x2048_S2048x10304_S4x2064x10304_2_0_01_1_n_n none p (matrix w)) slices_S4x2064x10304_S4x2064x4096_0_0_0
def samples (s : FVec F S8x8x2048 .f32) (w : FVec F S2x2048x10304 .f32) : FVec F S8x8x4096 .f32 :=
  extractStridedSlice S8x8x4096 ![0, 0, 0] (Host.dotGeneral dot_S8x8x2048_S2048x10304_S8x8x10304_2_0_01_1_n_n none s (matrix w)) slices_S8x8x10304_S8x8x4096_0_0_0
def result (p : FVec F S4x2064x2048 .f32) (s : FVec F S8x8x2048 .f32) (w : FVec F S2x2048x10304 .f32) : FVec F S8320x4096 .f32 :=
  laid (n := 4096) (prompt p w) (samples s w) slices_S4x2064x4096_S4x2048x4096_0_16_0 shapeCasts_S4x2048x4096_S8192x4096 slices_S4x2064x4096_S4x16x4096_0_0_0
    shapeCasts_S4x16x4096_S64x4096 shapeCasts_S8x8x4096_S64x4096 concatenates_S8192x4096_S64x4096_S64x4096_S8320x4096_d0
end

variable (p : S4x2064x2048.Idx → EReal) (s : S8x8x2048.Idx → EReal) (w : S2x2048x10304.Idx → EReal)

theorem prompt_at (b : Fin 4) (t : Fin 2064) (e : Fin 4096) : prompt (F := Ideal) p w (ix3 b t e) = ∑ k : Fin 2048, p (ix3 b t k) * w (ix3 (⟨1, by decide⟩ : Fin 2) k ⟨e.val, by omega⟩) := by
  unfold prompt matrix
  pointwise
theorem samples_at (b : Fin 8) (t : Fin 8) (e : Fin 4096) : samples (F := Ideal) s w (ix3 b t e) = ∑ k : Fin 2048, s (ix3 b t k) * w (ix3 (⟨1, by decide⟩ : Fin 2) k ⟨e.val, by omega⟩) := by
  unfold samples matrix
  pointwise

theorem result_at (r : Fin 8320) (e : Fin 4096) : result (F := Ideal) p s w (ix2 r e) = ∑ k : Fin 2048, entry p s (place r) k * w (ix3 (⟨1, by decide⟩ : Fin 2) k ⟨e.val, by omega⟩) :=
  (laid_at _ _ _ _ _ _ _ _ r e).trans
    (entry_sum p s (fun k e => w (ix3 (⟨1, by decide⟩ : Fin 2) k ⟨e.val, by omega⟩)) _ _ (prompt_at p w) (samples_at s w) (place r) e)

end Cert.Dense.PlainGatesB

namespace Cert.Dense.GatesB

open Idealize.ShloMosaic Idealize.ShloMosaic.TcCoe Idealize.SL.Sem
open Idealize.ShloMosaic.Pointwise
open Cert.GatesBIdeal Cert.GatesBIdeal.Gen

theorem equal (m : (ℓ : Loc nD τ sig) → Buf (Elt Ideal) ℓ) (c : Dev nD) :
    (dats m 0 c).arrAt 2 cfg0.N = PlainGatesB.result (F := Ideal) (argP m c) (argS m c) (argW m c) := by
  funext j
  refine (congrArg _ (eq_ix2 j)).trans (Eq.trans ?_ (congrArg _ (eq_ix2 j).symm))
  exact (result_at m c (j 0) (j 1)).trans (PlainGatesB.result_at (argP m c) (argS m c) (argW m c) (j 0) (j 1)).symm

/-- The reference ends as its run says. -/
theorem plain_run (m : (ℓ : Loc Cert.PlainGatesBIdeal.nD Cert.PlainGatesBIdeal.τ Cert.PlainGatesBIdeal.sig) → Buf (Elt Ideal) ℓ) (ρ : Dev Cert.PlainGatesBIdeal.nD → PrngReg) :
    θ_run Cert.PlainGatesBIdeal.defs (onTc (τ := Cert.PlainGatesBIdeal.τ) (Cert.PlainGatesBIdeal.main (F := Ideal))) ⟨m, fun _ => 0, ρ⟩ fun r => ∀ c : Dev Cert.PlainGatesBIdeal.nD,
      r.2.mem ((c.tc : Thread Cert.PlainGatesBIdeal.nD Cert.PlainGatesBIdeal.τ).loc Cert.PlainGatesBIdeal.main_v13)
        = PlainGatesB.result (F := Ideal) (m ((c.tc : Thread Cert.PlainGatesBIdeal.nD Cert.PlainGatesBIdeal.τ).loc Cert.PlainGatesBIdeal.main_arg0))
          (m ((c.tc : Thread Cert.PlainGatesBIdeal.nD Cert.PlainGatesBIdeal.τ).loc Cert.PlainGatesBIdeal.main_arg1))
          (m ((c.tc : Thread Cert.PlainGatesBIdeal.nD Cert.PlainGatesBIdeal.τ).loc Cert.PlainGatesBIdeal.main_arg2))
      ∧ r.2.mem ((c.tc : Thread Cert.PlainGatesBIdeal.nD Cert.PlainGatesBIdeal.τ).loc Cert.PlainGatesBIdeal.main_arg0) = m ((c.tc : Thread Cert.PlainGatesBIdeal.nD Cert.PlainGatesBIdeal.τ).loc Cert.PlainGatesBIdeal.main_arg0)
      ∧ r.2.mem ((c.tc : Thread Cert.PlainGatesBIdeal.nD Cert.PlainGatesBIdeal.τ).loc Cert.PlainGatesBIdeal.main_arg1) = m ((c.tc : Thread Cert.PlainGatesBIdeal.nD Cert.PlainGatesBIdeal.τ).loc Cert.PlainGatesBIdeal.main_arg1)
      ∧ r.2.mem ((c.tc : Thread Cert.PlainGatesBIdeal.nD Cert.PlainGatesBIdeal.τ).loc Cert.PlainGatesBIdeal.main_arg2) = m ((c.tc : Thread Cert.PlainGatesBIdeal.nD Cert.PlainGatesBIdeal.τ).loc Cert.PlainGatesBIdeal.main_arg2) :=
  Cert.PlainGatesBIdeal.Value.run (F := Ideal) m ρ

end Cert.Dense.GatesB
-- ==== Proof.DenseStreamsB.lean ====
module

public import proofs.«01_k».proof.Proof.Gen.StreamsBIdeal.Value
public import proofs.«01_k».proof.Proof.Gen.PlainStreamsBIdeal.Run
public import proofs.«01_k».proof.Proof.Layout
public import Idealize.ShloMosaic.Lib.Pipeline.ValueKit

/-! The dense call `StreamsB`: its result array is, entry by entry, the product that the reference writes. -/

@[expose] public section

set_option maxRecDepth 16384

noncomputable section

namespace Cert.Dense.StreamsB

open Idealize.ShloMosaic Idealize.ShloMosaic.TcCoe Idealize.ShloMosaic.Tactic
open Idealize.ShloMosaic.Pointwise
open Cert.StreamsBIdeal Cert.StreamsBIdeal.Gen

section Case
variable {F : FTy → Type} [FloatOps F] (c : Dev nD) (i : grid0.Coords)
  (arg2 : Memref sig .tc .vmem S1040x2048 .bf16) (harg2 : arg2.IsWhole) (arg3 : Memref sig .tc .vmem S1x2048x1024 .f32) (harg3 : arg3.IsWhole)
  (arg4 : Memref sig .tc .vmem S1040x1024 .f32) (harg4 : arg4.IsWhole) (arg5 : Memref sig .tc .vmem S2048x1024 .bf16) (harg5 : arg5.IsWhole)
  (x0 : Vec F S1040x2048 .bf16) (x1 : Vec F S1x2048x1024 .f32) (xs : Vec F S2048x1024 .bf16)

/-- The first point of a block of columns keeps the block's weights, and every point multiplies by the kept ones. -/
theorem keptA (hc0 : cond0_0 i) : sout0_A_0 c i arg2 harg2 arg3 harg3 arg4 harg4 arg5 harg5 hc0 x0 x1 = k0_pay1 x1 := by
  unfold sout0_A_0 kernelRun0_A
  dsimp only
  rw [View.read_writes_junk_eq_canon]
  unfold kernelRun0_A.sl.HS0_1
  rw [View.readAt_eq_ld, harg3.read_unread, View.ld_unit_lit' _ _ (by decide)]
  exact View.canon_cons_unit_lit' _ _ _ (by decide)
theorem outA (hc0 : cond0_0 i) : out0_A_2 c i arg2 harg2 arg3 harg3 arg4 harg4 arg5 harg5 hc0 x0 x1 = k0_pay2 x0 (k0_pay1 x1) := by
  unfold out0_A_2 kernelRun0_A
  dsimp only
  rw [View.read_writes_junk_eq_canon]
  rw [View.readAt_eq_ld, harg2.read_unread, View.ld_unit_lit' _ _ (by decide)]
  rw [View.canon_cons_unit_lit' _ _ _ (by decide)]
  unfold kernelRun0_A.sl.v5 kernelRun0_A.sl.HS0_1
  rw [View.readAt_eq_ld, harg3.read_unread, View.ld_unit_lit' _ _ (by decide), View.readCov_unit_lit' _ _ _ (by decide)]
theorem outB (hc0 : ¬cond0_0 i) : out0_B_2 c i arg2 harg2 arg3 harg3 arg4 harg4 arg5 harg5 hc0 x0 x1 xs = k0_pay2 x0 xs := by
  unfold out0_B_2 kernelRun0_B
  dsimp only
  rw [View.read_writes_junk_eq_canon]
  rw [View.readAt_eq_ld, harg2.read_unread, View.ld_unit_lit' _ _ (by decide), View.readAt_eq_ld, harg5.read_unread, View.ld_unit_lit' _ _ (by decide)]
  exact View.canon_cons_unit_lit' _ _ _ (by decide)
end Case

section Any
variable {F : FTy → Type} [FloatOps F] (m : (ℓ : Loc nD τ sig) → Buf (Elt F) ℓ)

theorem start_lt {n : ℕ} (hn : n < cfg0.N) : n / 8 * 8 < cfg0.N := Nat.lt_of_le_of_lt (Nat.div_mul_le_self n 8) hn

theorem first_start {n : ℕ} (h : n % 8 = 0) : n / 8 * 8 = n := by omega
theorem next_start {n : ℕ} (h : ¬(n + 1) % 8 = 0) : (n + 1) / 8 * 8 = n / 8 * 8 := by omega
theorem first_point {n : ℕ} (hn : n < cfg0.N) (h : n % 8 = 0) : (⟨n / 8 * 8, start_lt hn⟩ : Fin cfg0.N) = ⟨n, hn⟩ := Fin.ext (first_start h)
theorem next_point {n : ℕ} (hn : n + 1 < cfg0.N) (h : ¬(n + 1) % 8 = 0) :
    (⟨(n + 1) / 8 * 8, start_lt hn⟩ : Fin cfg0.N) = ⟨n / 8 * 8, start_lt (Nat.lt_of_succ_lt hn)⟩ := Fin.ext (next_start h)

theorem state_first (c : Dev nD) (t : Fin cfg0.N) (h : t.val % 8 = 0) :
    outsAt0 m c t.val t.isLt = (k0_pay2 (iblk m c 0 t) (k0_pay1 (X0_1 m c t)), k0_pay1 (X0_1 m c t)) := by
  rw [outsAt0_A m c t h, outA, keptA]
theorem state_next (c : Dev nD) (t : Fin cfg0.N) (h : ¬t.val % 8 = 0) :
    outsAt0 m c t.val t.isLt = (k0_pay2 (iblk m c 0 t) (outsAt0 m c (t.val - 1) (Nat.lt_of_le_of_lt (Nat.sub_le _ _) t.isLt)).2,
      (outsAt0 m c (t.val - 1) (Nat.lt_of_le_of_lt (Nat.sub_le _ _) t.isLt)).2) := by
  rw [outsAt0_B m c t h, outB]
  rfl

theorem state (c : Dev nD) (n : ℕ) (hn : n < cfg0.N) :
    outsAt0 m c n hn = (k0_pay2 (iblk m c 0 ⟨n, hn⟩) (k0_pay1 (X0_1 m c ⟨n / 8 * 8, start_lt hn⟩)), k0_pay1 (X0_1 m c ⟨n / 8 * 8, start_lt hn⟩)) := by
  induction n with
  | zero => exact state_first m c ⟨0, hn⟩ rfl
  | succ n ih =>
    by_cases h : (n + 1) % 8 = 0
    · rw [first_point hn h]
      exact state_first m c ⟨n + 1, hn⟩ h
    · rw [next_point hn h]
      have e := state_next m c ⟨n + 1, hn⟩ h
      have e' : (outsAt0 m c (n + 1 - 1) (Nat.lt_of_le_of_lt (Nat.sub_le _ _) hn)).2 = _ := congrArg Prod.snd (ih (Nat.lt_of_succ_lt hn))
      refine e.trans ?_
      rw [e']

theorem index0 : ∀ t : Fin cfg0.N, cc0_transform_0 (grid0.coords t) = ![t.val % 8, 0] :=
  (by decide +kernel : ∀ t : Fin grid0.N, cc0_transform_0 (grid0.coords t) = ![t.val % 8, 0])
theorem index1 : ∀ t : Fin cfg0.N, cc0_transform_1 (grid0.coords t) = ![1, 0, t.val / 8 + 4] :=
  (by decide +kernel : ∀ t : Fin grid0.N, cc0_transform_1 (grid0.coords t) = ![1, 0, t.val / 8 + 4])
theorem index2 : ∀ t : Fin cfg0.N, cc0_transform_2 (grid0.coords t) = ![t.val % 8, t.val / 8] :=
  (by decide +kernel : ∀ t : Fin grid0.N, cc0_transform_2 (grid0.coords t) = ![t.val % 8, t.val / 8])

theorem block0 (c : Dev nD) (t : Fin cfg0.N) (j : S1040x2048.Idx) (r : Fin 8320) (hr : r.val = t.val % 8 * 1040 + (j 0).val) :
    iblk m c 0 t j = V m c main_v6 (ix2 r (j 1)) := by
  show V m c main_v6 _ = _
  refine congrArg _ (funext fun a => Fin.ext ?_)
  match a with
  | ⟨0, _⟩ =>
    show cc0_transform_0 (grid0.coords t) 0 * 1040 + 1 * (j 0).val = r.val
    rw [index0 t, hr, Nat.one_mul]
    rfl
  | ⟨1, _⟩ =>
    show cc0_transform_0 (grid0.coords t) 1 * 2048 + 1 * (j 1).val = (j 1).val
    rw [index0 t, Nat.one_mul]
    exact Nat.zero_add _
theorem block1 (c : Dev nD) (t : Fin cfg0.N) (a : Fin 1) (k : Fin 2048) (x : Fin 1024) (e : Fin 10304) (he : e.val = (t.val / 8 + 4) * 1024 + x.val) :
    X0_1 m c t (ix3 a k x) = m ((c : Thread nD τ).loc main_arg2) (ix3 (⟨1, by decide⟩ : Fin 2) k e) := by
  unfold X0_1 Pipeline.Window.fill
  rw [dif_pos (moved0_1 t _)]
  show V m c main_arg2 _ = _
  rw [V_main_arg2]
  refine congrArg _ (funext fun b => Fin.ext ?_)
  match b with
  | ⟨0, _⟩ =>
    show cc0_transform_1 (grid0.coords t) 0 * 1 + 1 * a.val = 1
    rw [index1 t]
    show 1 * 1 + 1 * a.val = 1
    omega
  | ⟨1, _⟩ =>
    show cc0_transform_1 (grid0.coords t) 1 * 2048 + 1 * k.val = k.val
    rw [index1 t, Nat.one_mul]
    exact Nat.zero_add _
  | ⟨2, _⟩ =>
    show cc0_transform_1 (grid0.coords t) 2 * 1024 + 1 * x.val = e.val
    rw [index1 t, he, Nat.one_mul]
    rfl

/-- The rows that the host code lays out. -/
theorem V6 (c : Dev nD) : V m c main_v6 = truncf .bf16 (laid (n := 2048) (m ((c : Thread nD τ).loc main_arg0)) (m ((c : Thread nD τ).loc main_arg1))
    slices_S4x2064x2048_S4x2048x2048_0_16_0 shapeCasts_S4x2048x2048_S8192x2048 slices_S4x2064x2048_S4x16x2048_0_0_0 shapeCasts_S4x16x2048_S64x2048
    shapeCasts_S8x8x2048_S64x2048 concatenates_S8192x2048_S64x2048_S64x2048_S8320x2048_d0) bitsLt_bf16_f32 := by
  show StableHlo.after hostOps0 _ _ = _
  rw [hostOps0]
  after_results_simp
  rfl

/-- The result array at an index of point `t`'s block. -/
theorem result_block (c : Dev nD) (t : Fin cfg0.N) (x : Fin 1040) (y : Fin 1024) (r : Fin 8320) (e : Fin 6144)
    (hr : r.val = t.val % 8 * 1040 + x.val) (he : e.val = t.val / 8 * 1024 + y.val) :
    (dats m 0 c).arrAt 2 cfg0.N (ix2 r e) = (outsAt0 m c t.val t.isLt).1 (ix2 x y) := by
  have h := congrFun ((Cert.StreamsBIdeal.Value.blocks2 m c t (flush0_2 t)).trans (Cert.StreamsBIdeal.Value.flushed2 m c t)) (ix2 x y)
  refine Eq.trans ?_ h
  show _ = (dats m 0 c).arrAt 2 cfg0.N _
  refine congrArg _ (funext fun a => Fin.ext ?_)
  match a with
  | ⟨0, _⟩ =>
    show r.val = cc0_transform_2 (grid0.coords t) 0 * 1040 + 1 * x.val
    rw [index2 t, hr, Nat.one_mul]
    rfl
  | ⟨1, _⟩ =>
    show e.val = cc0_transform_2 (grid0.coords t) 1 * 1024 + 1 * y.val
    rw [index2 t, he, Nat.one_mul]
    rfl
end Any

theorem product_at (x : S1040x2048.Idx → EReal) (w : S1x2048x1024.Idx → EReal) (r : Fin 1040) (x' : Fin 1024) :
    k0_pay2 (F := Ideal) x (k0_pay1 (F := Ideal) w) (ix2 r x') = ∑ k : Fin 2048, x (ix2 r k) * w (ix3 (0 : Fin 1) k x') := by
  unfold k0_pay2 k0_pay1
  pointwise

variable (m : (ℓ : Loc nD τ sig) → Buf (Elt Ideal) ℓ)

abbrev argP (c : Dev nD) : (Prompt 2048).Idx → EReal := m ((c : Thread nD τ).loc main_arg0)
abbrev argS (c : Dev nD) : (Sample 2048).Idx → EReal := m ((c : Thread nD τ).loc main_arg1)
abbrev argW (c : Dev nD) : S2x2048x10304.Idx → EReal := m ((c : Thread nD τ).loc main_arg2)

theorem rows_at (c : Dev nD) (r : Fin 8320) (k : Fin 2048) : V m c main_v6 (ix2 r k) = entry (argP m c) (argS m c) (place r) k := by
  rw [V6]
  exact laid_at (F := Ideal) (n := 2048) (argP m c) (argS m c) slices_S4x2064x2048_S4x2048x2048_0_16_0 shapeCasts_S4x2048x2048_S8192x2048 slices_S4x2064x2048_S4x16x2048_0_0_0 shapeCasts_S4x16x2048_S64x2048
    shapeCasts_S8x8x2048_S64x2048 concatenates_S8192x2048_S64x2048_S64x2048_S8320x2048_d0 r k

theorem result_at (c : Dev nD) (r : Fin 8320) (e : Fin 6144) :
    (dats m 0 c).arrAt 2 cfg0.N (ix2 r e) = ∑ k : Fin 2048, entry (argP m c) (argS m c) (place r) k * argW m c (ix3 (⟨1, by decide⟩ : Fin 2) k ⟨4096 + e.val, by omega⟩) := by
  have ht : 8 * (e.val / 1024) + r.val / 1040 < cfg0.N := Nat.lt_of_lt_of_eq (by omega) N_0.symm
  have h1 : (8 * (e.val / 1024) + r.val / 1040) % 8 = r.val / 1040 := by omega
  have h2 : (8 * (e.val / 1024) + r.val / 1040) / 8 = e.val / 1024 := by omega
  have h3 : (8 * (e.val / 1024) + r.val / 1040) / 8 * 8 / 8 = e.val / 1024 := by omega
  rw [result_block m c ⟨8 * (e.val / 1024) + r.val / 1040, ht⟩ ⟨r.val % 1040, by omega⟩ ⟨e.val % 1024, by omega⟩ r e
    (by show r.val = (8 * (e.val / 1024) + r.val / 1040) % 8 * 1040 + r.val % 1040; omega)
    (by show e.val = (8 * (e.val / 1024) + r.val / 1040) / 8 * 1024 + e.val % 1024; omega), state]
  refine (product_at _ _ _ _).trans (Finset.sum_congr rfl fun k _ => ?_)
  have hx : iblk m c 0 ⟨8 * (e.val / 1024) + r.val / 1040, ht⟩ (ix2 (⟨r.val % 1040, by omega⟩ : Fin 1040) k) = entry (argP m c) (argS m c) (place r) k :=
    (block0 m c _ _ r (by show r.val = (8 * (e.val / 1024) + r.val / 1040) % 8 * 1040 + r.val % 1040; omega)).trans (rows_at m c r k)
  have hw : X0_1 m c ⟨(8 * (e.val / 1024) + r.val / 1040) / 8 * 8, start_lt ht⟩ (ix3 (0 : Fin 1) k (⟨e.val % 1024, by omega⟩ : Fin 1024)) = argW m c (ix3 (⟨1, by decide⟩ : Fin 2) k ⟨4096 + e.val, by omega⟩) :=
    block1 m c _ 0 k (⟨e.val % 1024, by omega⟩ : Fin 1024) _ (by show 4096 + e.val = (((8 * (e.val / 1024) + r.val / 1040) / 8 * 8) / 8 + 4) * 1024 + e.val % 1024; omega)
  exact congrArg₂ (fun a b : EReal => a * b) hx hw

end Cert.Dense.StreamsB

namespace Cert.Dense.PlainStreamsB

open Idealize.ShloMosaic Idealize.ShloMosaic.TcCoe Idealize.ShloMosaic.Tactic
open Idealize.ShloMosaic.Pointwise
open Cert.PlainStreamsBIdeal Cert.PlainStreamsBIdeal.Gen

section
variable {F : FTy → Type} [FloatOps F]
/-- The reference's matrix, its two products, and its result. -/
def matrix (w : FVec F S2x2048x10304 .f32) : FVec F S2048x10304 .f32 := shapeCast S2048x10304 (extractStridedSlice S1x2048x10304 ![1, 0, 0] w slices_S2x2048x10304_S1x2048x10304_1_0_0) shapeCasts_S1x2048x10304_S2048x10304
def prompt (p : FVec F S4x2064x2048 .f32) (w : FVec F S2x2048x10304 .f32) : FVec F S4x2064x6144 .f32 :=
  extractStridedSlice S4x2064x6144 ![0, 0, 4096] (Host.dotGeneral dot_S4x2064x2048_S2048x10304_S4x2064x10304_2_0_01_1_n_n none p (matrix w)) slices_S4x2064x10304_S4x2064x6144_0_0_4096
def samples (s : FVec F S8x8x2048 .f32) (w : FVec F S2x2048x10304 .f32) : FVec F S8x8x6144 .f32 :=
  extractStridedSlice S8x8x6144 ![0, 0, 4096] (Host.dotGeneral dot_S8x8x2048_S2048x10304_S8x8x10304_2_0_01_1_n_n none s (matrix w)) slices_S8x8x10304_S8x8x6144_0_0_4096
def result (p : FVec F S4x2064x2048 .f32) (s : FVec F S8x8x2048 .f32) (w : FVec F S2x2048x10304 .f32) : FVec F S8320x6144 .f32 :=
  laid (n := 6144) (prompt p w) (samples s w) slices_S4x2064x6144_S4x2048x6144_0_16_0 shapeCasts_S4x2048x6144_S8192x6144 slices_S4x2064x6144_S4x16x6144_0_0_0
    shapeCasts_S4x16x6144_S64x6144 shapeCasts_S8x8x6144_S64x6144 concatenates_S8192x6144_S64x6144_S64x6144_S8320x6144_d0
end

variable (p : S4x2064x2048.Idx → EReal) (s : S8x8x2048.Idx → EReal) (w : S2x2048x10304.Idx → EReal)

theorem prompt_at (b : Fin 4) (t : Fin 2064) (e : Fin 6144) : prompt (F := Ideal) p w (ix3 b t e) = ∑ k : Fin 2048, p (ix3 b t k) * w (ix3 (⟨1, by decide⟩ : Fin 2) k ⟨4096 + e.val, by omega⟩) := by
  unfold prompt matrix
  pointwise
theorem samples_at (b : Fin 8) (t : Fin 8) (e : Fin 6144) : samples (F := Ideal) s w (ix3 b t e) = ∑ k : Fin 2048, s (ix3 b t k) * w (ix3 (⟨1, by decide⟩ : Fin 2) k ⟨4096 + e.val, by omega⟩) := by
  unfold samples matrix
  pointwise

theorem result_at (r : Fin 8320) (e : Fin 6144) : result (F := Ideal) p s w (ix2 r e) = ∑ k : Fin 2048, entry p s (place r) k * w (ix3 (⟨1, by decide⟩ : Fin 2) k ⟨4096 + e.val, by omega⟩) :=
  (laid_at _ _ _ _ _ _ _ _ r e).trans
    (entry_sum p s (fun k e => w (ix3 (⟨1, by decide⟩ : Fin 2) k ⟨4096 + e.val, by omega⟩)) _ _ (prompt_at p w) (samples_at s w) (place r) e)

end Cert.Dense.PlainStreamsB

namespace Cert.Dense.StreamsB

open Idealize.ShloMosaic Idealize.ShloMosaic.TcCoe Idealize.SL.Sem
open Idealize.ShloMosaic.Pointwise
open Cert.StreamsBIdeal Cert.StreamsBIdeal.Gen

theorem equal (m : (ℓ : Loc nD τ sig) → Buf (Elt Ideal) ℓ) (c : Dev nD) :
    (dats m 0 c).arrAt 2 cfg0.N = PlainStreamsB.result (F := Ideal) (argP m c) (argS m c) (argW m c) := by
  funext j
  refine (congrArg _ (eq_ix2 j)).trans (Eq.trans ?_ (congrArg _ (eq_ix2 j).symm))
  exact (result_at m c (j 0) (j 1)).trans (PlainStreamsB.result_at (argP m c) (argS m c) (argW m c) (j 0) (j 1)).symm

/-- The reference ends as its run says. -/
theorem plain_run (m : (ℓ : Loc Cert.PlainStreamsBIdeal.nD Cert.PlainStreamsBIdeal.τ Cert.PlainStreamsBIdeal.sig) → Buf (Elt Ideal) ℓ) (ρ : Dev Cert.PlainStreamsBIdeal.nD → PrngReg) :
    θ_run Cert.PlainStreamsBIdeal.defs (onTc (τ := Cert.PlainStreamsBIdeal.τ) (Cert.PlainStreamsBIdeal.main (F := Ideal))) ⟨m, fun _ => 0, ρ⟩ fun r => ∀ c : Dev Cert.PlainStreamsBIdeal.nD,
      r.2.mem ((c.tc : Thread Cert.PlainStreamsBIdeal.nD Cert.PlainStreamsBIdeal.τ).loc Cert.PlainStreamsBIdeal.main_v13)
        = PlainStreamsB.result (F := Ideal) (m ((c.tc : Thread Cert.PlainStreamsBIdeal.nD Cert.PlainStreamsBIdeal.τ).loc Cert.PlainStreamsBIdeal.main_arg0))
          (m ((c.tc : Thread Cert.PlainStreamsBIdeal.nD Cert.PlainStreamsBIdeal.τ).loc Cert.PlainStreamsBIdeal.main_arg1))
          (m ((c.tc : Thread Cert.PlainStreamsBIdeal.nD Cert.PlainStreamsBIdeal.τ).loc Cert.PlainStreamsBIdeal.main_arg2))
      ∧ r.2.mem ((c.tc : Thread Cert.PlainStreamsBIdeal.nD Cert.PlainStreamsBIdeal.τ).loc Cert.PlainStreamsBIdeal.main_arg0) = m ((c.tc : Thread Cert.PlainStreamsBIdeal.nD Cert.PlainStreamsBIdeal.τ).loc Cert.PlainStreamsBIdeal.main_arg0)
      ∧ r.2.mem ((c.tc : Thread Cert.PlainStreamsBIdeal.nD Cert.PlainStreamsBIdeal.τ).loc Cert.PlainStreamsBIdeal.main_arg1) = m ((c.tc : Thread Cert.PlainStreamsBIdeal.nD Cert.PlainStreamsBIdeal.τ).loc Cert.PlainStreamsBIdeal.main_arg1)
      ∧ r.2.mem ((c.tc : Thread Cert.PlainStreamsBIdeal.nD Cert.PlainStreamsBIdeal.τ).loc Cert.PlainStreamsBIdeal.main_arg2) = m ((c.tc : Thread Cert.PlainStreamsBIdeal.nD Cert.PlainStreamsBIdeal.τ).loc Cert.PlainStreamsBIdeal.main_arg2) :=
  Cert.PlainStreamsBIdeal.Value.run (F := Ideal) m ρ

end Cert.Dense.StreamsB
-- ==== Proof.DenseMixesB.lean ====
module

public import proofs.«01_k».proof.Proof.Gen.MixesBIdeal.Value
public import proofs.«01_k».proof.Proof.Gen.PlainMixesBIdeal.Run
public import proofs.«01_k».proof.Proof.Layout
public import Idealize.ShloMosaic.Lib.Pipeline.ValueKit

/-! The dense call `MixesB`: its result array is, entry by entry, the product that the reference writes. -/

@[expose] public section

set_option maxRecDepth 16384

noncomputable section

namespace Cert.Dense.MixesB

open Idealize.ShloMosaic Idealize.ShloMosaic.TcCoe Idealize.ShloMosaic.Tactic
open Idealize.ShloMosaic.Pointwise
open Cert.MixesBIdeal Cert.MixesBIdeal.Gen

section Case
variable {F : FTy → Type} [FloatOps F] (c : Dev nD) (i : grid0.Coords)
  (arg2 : Memref sig .tc .vmem S1040x4096 .bf16) (harg2 : arg2.IsWhole) (arg3 : Memref sig .tc .vmem S1x4096x512 .f32) (harg3 : arg3.IsWhole)
  (arg4 : Memref sig .tc .vmem S1040x512 .f32) (harg4 : arg4.IsWhole) (arg5 : Memref sig .tc .vmem S4096x512 .bf16) (harg5 : arg5.IsWhole)
  (x0 : Vec F S1040x4096 .bf16) (x1 : Vec F S1x4096x512 .f32) (xs : Vec F S4096x512 .bf16)

/-- The first point of a block of columns keeps the block's weights, and every point multiplies by the kept ones. -/
theorem keptA (hc0 : cond0_0 i) : sout0_A_0 c i arg2 harg2 arg3 harg3 arg4 harg4 arg5 harg5 hc0 x0 x1 = k0_pay1 x1 := by
  unfold sout0_A_0 kernelRun0_A
  dsimp only
  rw [View.read_writes_junk_eq_canon]
  unfold kernelRun0_A.sl.HS0_1
  rw [View.readAt_eq_ld, harg3.read_unread, View.ld_unit_lit' _ _ (by decide)]
  exact View.canon_cons_unit_lit' _ _ _ (by decide)
theorem outA (hc0 : cond0_0 i) : out0_A_2 c i arg2 harg2 arg3 harg3 arg4 harg4 arg5 harg5 hc0 x0 x1 = k0_pay2 x0 (k0_pay1 x1) := by
  unfold out0_A_2 kernelRun0_A
  dsimp only
  rw [View.read_writes_junk_eq_canon]
  rw [View.readAt_eq_ld, harg2.read_unread, View.ld_unit_lit' _ _ (by decide)]
  rw [View.canon_cons_unit_lit' _ _ _ (by decide)]
  unfold kernelRun0_A.sl.v5 kernelRun0_A.sl.HS0_1
  rw [View.readAt_eq_ld, harg3.read_unread, View.ld_unit_lit' _ _ (by decide), View.readCov_unit_lit' _ _ _ (by decide)]
theorem outB (hc0 : ¬cond0_0 i) : out0_B_2 c i arg2 harg2 arg3 harg3 arg4 harg4 arg5 harg5 hc0 x0 x1 xs = k0_pay2 x0 xs := by
  unfold out0_B_2 kernelRun0_B
  dsimp only
  rw [View.read_writes_junk_eq_canon]
  rw [View.readAt_eq_ld, harg2.read_unread, View.ld_unit_lit' _ _ (by decide), View.readAt_eq_ld, harg5.read_unread, View.ld_unit_lit' _ _ (by decide)]
  exact View.canon_cons_unit_lit' _ _ _ (by decide)
end Case

section Any
variable {F : FTy → Type} [FloatOps F] (m : (ℓ : Loc nD τ sig) → Buf (Elt F) ℓ)

theorem start_lt {n : ℕ} (hn : n < cfg0.N) : n / 8 * 8 < cfg0.N := Nat.lt_of_le_of_lt (Nat.div_mul_le_self n 8) hn

theorem first_start {n : ℕ} (h : n % 8 = 0) : n / 8 * 8 = n := by omega
theorem next_start {n : ℕ} (h : ¬(n + 1) % 8 = 0) : (n + 1) / 8 * 8 = n / 8 * 8 := by omega
theorem first_point {n : ℕ} (hn : n < cfg0.N) (h : n % 8 = 0) : (⟨n / 8 * 8, start_lt hn⟩ : Fin cfg0.N) = ⟨n, hn⟩ := Fin.ext (first_start h)
theorem next_point {n : ℕ} (hn : n + 1 < cfg0.N) (h : ¬(n + 1) % 8 = 0) :
    (⟨(n + 1) / 8 * 8, start_lt hn⟩ : Fin cfg0.N) = ⟨n / 8 * 8, start_lt (Nat.lt_of_succ_lt hn)⟩ := Fin.ext (next_start h)

theorem state_first (c : Dev nD) (t : Fin cfg0.N) (h : t.val % 8 = 0) :
    outsAt0 m c t.val t.isLt = (k0_pay2 (iblk m c 0 t) (k0_pay1 (iblk m c 1 t)), k0_pay1 (iblk m c 1 t)) := by
  rw [outsAt0_A m c t h, outA, keptA]
theorem state_next (c : Dev nD) (t : Fin cfg0.N) (h : ¬t.val % 8 = 0) :
    outsAt0 m c t.val t.isLt = (k0_pay2 (iblk m c 0 t) (outsAt0 m c (t.val - 1) (Nat.lt_of_le_of_lt (Nat.sub_le _ _) t.isLt)).2,
      (outsAt0 m c (t.val - 1) (Nat.lt_of_le_of_lt (Nat.sub_le _ _) t.isLt)).2) := by
  rw [outsAt0_B m c t h, outB]
  rfl

theorem state (c : Dev nD) (n : ℕ) (hn : n < cfg0.N) :
    outsAt0 m c n hn = (k0_pay2 (iblk m c 0 ⟨n, hn⟩) (k0_pay1 (iblk m c 1 ⟨n / 8 * 8, start_lt hn⟩)), k0_pay1 (iblk m c 1 ⟨n / 8 * 8, start_lt hn⟩)) := by
  induction n with
  | zero => exact state_first m c ⟨0, hn⟩ rfl
  | succ n ih =>
    by_cases h : (n + 1) % 8 = 0
    · rw [first_point hn h]
      exact state_first m c ⟨n + 1, hn⟩ h
    · rw [next_point hn h]
      have e := state_next m c ⟨n + 1, hn⟩ h
      have e' : (outsAt0 m c (n + 1 - 1) (Nat.lt_of_le_of_lt (Nat.sub_le _ _) hn)).2 = _ := congrArg Prod.snd (ih (Nat.lt_of_succ_lt hn))
      refine e.trans ?_
      rw [e']

theorem index0 : ∀ t : Fin cfg0.N, cc0_transform_0 (grid0.coords t) = ![t.val % 8, 0] :=
  (by decide +kernel : ∀ t : Fin grid0.N, cc0_transform_0 (grid0.coords t) = ![t.val % 8, 0])
theorem index1 : ∀ t : Fin cfg0.N, cc0_transform_1 (grid0.coords t) = ![1, 0, t.val / 8] :=
  (by decide +kernel : ∀ t : Fin grid0.N, cc0_transform_1 (grid0.coords t) = ![1, 0, t.val / 8])
theorem index2 : ∀ t : Fin cfg0.N, cc0_transform_2 (grid0.coords t) = ![t.val % 8, t.val / 8] :=
  (by decide +kernel : ∀ t : Fin grid0.N, cc0_transform_2 (grid0.coords t) = ![t.val % 8, t.val / 8])

theorem block0 (c : Dev nD) (t : Fin cfg0.N) (j : S1040x4096.Idx) (r : Fin 8320) (hr : r.val = t.val % 8 * 1040 + (j 0).val) :
    iblk m c 0 t j = V m c main_v6 (ix2 r (j 1)) := by
  show V m c main_v6 _ = _
  refine congrArg _ (funext fun a => Fin.ext ?_)
  match a with
  | ⟨0, _⟩ =>
    show cc0_transform_0 (grid0.coords t) 0 * 1040 + 1 * (j 0).val = r.val
    rw [index0 t, hr, Nat.one_mul]
    rfl
  | ⟨1, _⟩ =>
    show cc0_transform_0 (grid0.coords t) 1 * 4096 + 1 * (j 1).val = (j 1).val
    rw [index0 t, Nat.one_mul]
    exact Nat.zero_add _
theorem block1 (c : Dev nD) (t : Fin cfg0.N) (a : Fin 1) (k : Fin 4096) (x : Fin 512) (e : Fin 2048) (he : e.val = (t.val / 8) * 512 + x.val) :
    iblk m c 1 t (ix3 a k x) = m ((c : Thread nD τ).loc main_arg2) (ix3 (⟨1, by decide⟩ : Fin 2) k e) := by
  show V m c main_arg2 _ = _
  rw [V_main_arg2]
  refine congrArg _ (funext fun b => Fin.ext ?_)
  match b with
  | ⟨0, _⟩ =>
    show cc0_transform_1 (grid0.coords t) 0 * 1 + 1 * a.val = 1
    rw [index1 t]
    show 1 * 1 + 1 * a.val = 1
    omega
  | ⟨1, _⟩ =>
    show cc0_transform_1 (grid0.coords t) 1 * 4096 + 1 * k.val = k.val
    rw [index1 t, Nat.one_mul]
    exact Nat.zero_add _
  | ⟨2, _⟩ =>
    show cc0_transform_1 (grid0.coords t) 2 * 512 + 1 * x.val = e.val
    rw [index1 t, he, Nat.one_mul]
    rfl

/-- The rows that the host code lays out. -/
theorem V6 (c : Dev nD) : V m c main_v6 = truncf .bf16 (laid (n := 4096) (m ((c : Thread nD τ).loc main_arg0)) (m ((c : Thread nD τ).loc main_arg1))
    slices_S4x2064x4096_S4x2048x4096_0_16_0 shapeCasts_S4x2048x4096_S8192x4096 slices_S4x2064x4096_S4x16x4096_0_0_0 shapeCasts_S4x16x4096_S64x4096
    shapeCasts_S8x8x4096_S64x4096 concatenates_S8192x4096_S64x4096_S64x4096_S8320x4096_d0) bitsLt_bf16_f32 := by
  show StableHlo.after hostOps0 _ _ = _
  rw [hostOps0]
  after_results_simp
  rfl

/-- The result array at an index of point `t`'s block. -/
theorem result_block (c : Dev nD) (t : Fin cfg0.N) (x : Fin 1040) (y : Fin 512) (r : Fin 8320) (e : Fin 2048)
    (hr : r.val = t.val % 8 * 1040 + x.val) (he : e.val = t.val / 8 * 512 + y.val) :
    (dats m 0 c).arrAt 2 cfg0.N (ix2 r e) = (outsAt0 m c t.val t.isLt).1 (ix2 x y) := by
  have h := congrFun ((Cert.MixesBIdeal.Value.blocks2 m c t (flush0_2 t)).trans (Cert.MixesBIdeal.Value.flushed2 m c t)) (ix2 x y)
  refine Eq.trans ?_ h
  show _ = (dats m 0 c).arrAt 2 cfg0.N _
  refine congrArg _ (funext fun a => Fin.ext ?_)
  match a with
  | ⟨0, _⟩ =>
    show r.val = cc0_transform_2 (grid0.coords t) 0 * 1040 + 1 * x.val
    rw [index2 t, hr, Nat.one_mul]
    rfl
  | ⟨1, _⟩ =>
    show e.val = cc0_transform_2 (grid0.coords t) 1 * 512 + 1 * y.val
    rw [index2 t, he, Nat.one_mul]
    rfl
end Any

theorem product_at (x : S1040x4096.Idx → EReal) (w : S1x4096x512.Idx → EReal) (r : Fin 1040) (x' : Fin 512) :
    k0_pay2 (F := Ideal) x (k0_pay1 (F := Ideal) w) (ix2 r x') = ∑ k : Fin 4096, x (ix2 r k) * w (ix3 (0 : Fin 1) k x') := by
  unfold k0_pay2 k0_pay1
  pointwise

variable (m : (ℓ : Loc nD τ sig) → Buf (Elt Ideal) ℓ)

abbrev argP (c : Dev nD) : (Prompt 4096).Idx → EReal := m ((c : Thread nD τ).loc main_arg0)
abbrev argS (c : Dev nD) : (Sample 4096).Idx → EReal := m ((c : Thread nD τ).loc main_arg1)
abbrev argW (c : Dev nD) : S2x4096x2048.Idx → EReal := m ((c : Thread nD τ).loc main_arg2)

theorem rows_at (c : Dev nD) (r : Fin 8320) (k : Fin 4096) : V m c main_v6 (ix2 r k) = entry (argP m c) (argS m c) (place r) k := by
  rw [V6]
  exact laid_at (F := Ideal) (n := 4096) (argP m c) (argS m c) slices_S4x2064x4096_S4x2048x4096_0_16_0 shapeCasts_S4x2048x4096_S8192x4096 slices_S4x2064x4096_S4x16x4096_0_0_0 shapeCasts_S4x16x4096_S64x4096
    shapeCasts_S8x8x4096_S64x4096 concatenates_S8192x4096_S64x4096_S64x4096_S8320x4096_d0 r k

theorem result_at (c : Dev nD) (r : Fin 8320) (e : Fin 2048) :
    (dats m 0 c).arrAt 2 cfg0.N (ix2 r e) = ∑ k : Fin 4096, entry (argP m c) (argS m c) (place r) k * argW m c (ix3 (⟨1, by decide⟩ : Fin 2) k e) := by
  have ht : 8 * (e.val / 512) + r.val / 1040 < cfg0.N := Nat.lt_of_lt_of_eq (by omega) N_0.symm
  have h1 : (8 * (e.val / 512) + r.val / 1040) % 8 = r.val / 1040 := by omega
  have h2 : (8 * (e.val / 512) + r.val / 1040) / 8 = e.val / 512 := by omega
  have h3 : (8 * (e.val / 512) + r.val / 1040) / 8 * 8 / 8 = e.val / 512 := by omega
  rw [result_block m c ⟨8 * (e.val / 512) + r.val / 1040, ht⟩ ⟨r.val % 1040, by omega⟩ ⟨e.val % 512, by omega⟩ r e
    (by show r.val = (8 * (e.val / 512) + r.val / 1040) % 8 * 1040 + r.val % 1040; omega)
    (by show e.val = (8 * (e.val / 512) + r.val / 1040) / 8 * 512 + e.val % 512; omega), state]
  refine (product_at _ _ _ _).trans (Finset.sum_congr rfl fun k _ => ?_)
  have hx : iblk m c 0 ⟨8 * (e.val / 512) + r.val / 1040, ht⟩ (ix2 (⟨r.val % 1040, by omega⟩ : Fin 1040) k) = entry (argP m c) (argS m c) (place r) k :=
    (block0 m c _ _ r (by show r.val = (8 * (e.val / 512) + r.val / 1040) % 8 * 1040 + r.val % 1040; omega)).trans (rows_at m c r k)
  have hw : iblk m c 1 ⟨(8 * (e.val / 512) + r.val / 1040) / 8 * 8, start_lt ht⟩ (ix3 (0 : Fin 1) k (⟨e.val % 512, by omega⟩ : Fin 512)) = argW m c (ix3 (⟨1, by decide⟩ : Fin 2) k e) :=
    block1 m c _ 0 k (⟨e.val % 512, by omega⟩ : Fin 512) _ (by show e.val = (((8 * (e.val / 512) + r.val / 1040) / 8 * 8) / 8) * 512 + e.val % 512; omega)
  exact congrArg₂ (fun a b : EReal => a * b) hx hw

end Cert.Dense.MixesB

namespace Cert.Dense.PlainMixesB

open Idealize.ShloMosaic Idealize.ShloMosaic.TcCoe Idealize.ShloMosaic.Tactic
open Idealize.ShloMosaic.Pointwise
open Cert.PlainMixesBIdeal Cert.PlainMixesBIdeal.Gen

section
variable {F : FTy → Type} [FloatOps F]
/-- The reference's matrix, its two products, and its result. -/
def matrix (w : FVec F S2x4096x2048 .f32) : FVec F S4096x2048 .f32 := shapeCast S4096x2048 (extractStridedSlice S1x4096x2048 ![1, 0, 0] w slices_S2x4096x2048_S1x4096x2048_1_0_0) shapeCasts_S1x4096x2048_S4096x2048
def prompt (p : FVec F S4x2064x4096 .f32) (w : FVec F S2x4096x2048 .f32) : FVec F S4x2064x2048 .f32 :=
  Host.dotGeneral dot_S4x2064x4096_S4096x2048_S4x2064x2048_2_0_01_1_n_n none p (matrix w)
def samples (s : FVec F S8x8x4096 .f32) (w : FVec F S2x4096x2048 .f32) : FVec F S8x8x2048 .f32 :=
  Host.dotGeneral dot_S8x8x4096_S4096x2048_S8x8x2048_2_0_01_1_n_n none s (matrix w)
def result (p : FVec F S4x2064x4096 .f32) (s : FVec F S8x8x4096 .f32) (w : FVec F S2x4096x2048 .f32) : FVec F S8320x2048 .f32 :=
  laid (n := 2048) (prompt p w) (samples s w) slices_S4x2064x2048_S4x2048x2048_0_16_0 shapeCasts_S4x2048x2048_S8192x2048 slices_S4x2064x2048_S4x16x2048_0_0_0
    shapeCasts_S4x16x2048_S64x2048 shapeCasts_S8x8x2048_S64x2048 concatenates_S8192x2048_S64x2048_S64x2048_S8320x2048_d0
end

variable (p : S4x2064x4096.Idx → EReal) (s : S8x8x4096.Idx → EReal) (w : S2x4096x2048.Idx → EReal)

theorem prompt_at (b : Fin 4) (t : Fin 2064) (e : Fin 2048) : prompt (F := Ideal) p w (ix3 b t e) = ∑ k : Fin 4096, p (ix3 b t k) * w (ix3 (⟨1, by decide⟩ : Fin 2) k e) := by
  unfold prompt matrix
  pointwise
theorem samples_at (b : Fin 8) (t : Fin 8) (e : Fin 2048) : samples (F := Ideal) s w (ix3 b t e) = ∑ k : Fin 4096, s (ix3 b t k) * w (ix3 (⟨1, by decide⟩ : Fin 2) k e) := by
  unfold samples matrix
  pointwise

theorem result_at (r : Fin 8320) (e : Fin 2048) : result (F := Ideal) p s w (ix2 r e) = ∑ k : Fin 4096, entry p s (place r) k * w (ix3 (⟨1, by decide⟩ : Fin 2) k e) :=
  (laid_at _ _ _ _ _ _ _ _ r e).trans
    (entry_sum p s (fun k e => w (ix3 (⟨1, by decide⟩ : Fin 2) k e)) _ _ (prompt_at p w) (samples_at s w) (place r) e)

end Cert.Dense.PlainMixesB

namespace Cert.Dense.MixesB

open Idealize.ShloMosaic Idealize.ShloMosaic.TcCoe Idealize.SL.Sem
open Idealize.ShloMosaic.Pointwise
open Cert.MixesBIdeal Cert.MixesBIdeal.Gen

theorem equal (m : (ℓ : Loc nD τ sig) → Buf (Elt Ideal) ℓ) (c : Dev nD) :
    (dats m 0 c).arrAt 2 cfg0.N = PlainMixesB.result (F := Ideal) (argP m c) (argS m c) (argW m c) := by
  funext j
  refine (congrArg _ (eq_ix2 j)).trans (Eq.trans ?_ (congrArg _ (eq_ix2 j).symm))
  exact (result_at m c (j 0) (j 1)).trans (PlainMixesB.result_at (argP m c) (argS m c) (argW m c) (j 0) (j 1)).symm

/-- The reference ends as its run says. -/
theorem plain_run (m : (ℓ : Loc Cert.PlainMixesBIdeal.nD Cert.PlainMixesBIdeal.τ Cert.PlainMixesBIdeal.sig) → Buf (Elt Ideal) ℓ) (ρ : Dev Cert.PlainMixesBIdeal.nD → PrngReg) :
    θ_run Cert.PlainMixesBIdeal.defs (onTc (τ := Cert.PlainMixesBIdeal.τ) (Cert.PlainMixesBIdeal.main (F := Ideal))) ⟨m, fun _ => 0, ρ⟩ fun r => ∀ c : Dev Cert.PlainMixesBIdeal.nD,
      r.2.mem ((c.tc : Thread Cert.PlainMixesBIdeal.nD Cert.PlainMixesBIdeal.τ).loc Cert.PlainMixesBIdeal.main_v11)
        = PlainMixesB.result (F := Ideal) (m ((c.tc : Thread Cert.PlainMixesBIdeal.nD Cert.PlainMixesBIdeal.τ).loc Cert.PlainMixesBIdeal.main_arg0))
          (m ((c.tc : Thread Cert.PlainMixesBIdeal.nD Cert.PlainMixesBIdeal.τ).loc Cert.PlainMixesBIdeal.main_arg1))
          (m ((c.tc : Thread Cert.PlainMixesBIdeal.nD Cert.PlainMixesBIdeal.τ).loc Cert.PlainMixesBIdeal.main_arg2))
      ∧ r.2.mem ((c.tc : Thread Cert.PlainMixesBIdeal.nD Cert.PlainMixesBIdeal.τ).loc Cert.PlainMixesBIdeal.main_arg0) = m ((c.tc : Thread Cert.PlainMixesBIdeal.nD Cert.PlainMixesBIdeal.τ).loc Cert.PlainMixesBIdeal.main_arg0)
      ∧ r.2.mem ((c.tc : Thread Cert.PlainMixesBIdeal.nD Cert.PlainMixesBIdeal.τ).loc Cert.PlainMixesBIdeal.main_arg1) = m ((c.tc : Thread Cert.PlainMixesBIdeal.nD Cert.PlainMixesBIdeal.τ).loc Cert.PlainMixesBIdeal.main_arg1)
      ∧ r.2.mem ((c.tc : Thread Cert.PlainMixesBIdeal.nD Cert.PlainMixesBIdeal.τ).loc Cert.PlainMixesBIdeal.main_arg2) = m ((c.tc : Thread Cert.PlainMixesBIdeal.nD Cert.PlainMixesBIdeal.τ).loc Cert.PlainMixesBIdeal.main_arg2) :=
  Cert.PlainMixesBIdeal.Value.run (F := Ideal) m ρ

end Cert.Dense.MixesB
-- ==== Proof.lean ====
/- The claims: every program of the prompt attention and of the dense products ends with its arguments unchanged, the ideal pass rewrote
   nothing, and over the extended reals each kernel's result is its reference's (the attention's for finite arguments). -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.Values
public import proofs.«01_k».proof.Proof.Gen.Values.Skeleton
public import proofs.«01_k».proof.Proof.Gen.Values.Launch
public import proofs.«01_k».proof.Proof.Gen.Values.Points
public import proofs.«01_k».proof.Proof.Gen.Values.Frame
public import proofs.«01_k».proof.Proof.Gen.ValuesIdeal
public import proofs.«01_k».proof.Proof.Gen.ValuesIdeal.Skeleton
public import proofs.«01_k».proof.Proof.Gen.ValuesIdeal.Launch
public import proofs.«01_k».proof.Proof.Gen.ValuesIdeal.Points
public import proofs.«01_k».proof.Proof.Gen.ValuesIdeal.Frame
public import proofs.«01_k».proof.Proof.Gen.ValuesIdeal.Value
public import proofs.«01_k».proof.Proof.Gen.PlainValuesIdeal
public import proofs.«01_k».proof.Proof.Gen.PlainValuesIdeal.Run
public import proofs.«01_k».proof.Proof.Gen.Keys
public import proofs.«01_k».proof.Proof.Gen.Keys.Skeleton
public import proofs.«01_k».proof.Proof.Gen.Keys.Launch
public import proofs.«01_k».proof.Proof.Gen.Keys.Points
public import proofs.«01_k».proof.Proof.Gen.Keys.Frame
public import proofs.«01_k».proof.Proof.Gen.KeysIdeal
public import proofs.«01_k».proof.Proof.Gen.KeysIdeal.Skeleton
public import proofs.«01_k».proof.Proof.Gen.KeysIdeal.Launch
public import proofs.«01_k».proof.Proof.Gen.KeysIdeal.Points
public import proofs.«01_k».proof.Proof.Gen.KeysIdeal.Frame
public import proofs.«01_k».proof.Proof.Gen.KeysIdeal.Value
public import proofs.«01_k».proof.Proof.Gen.PlainKeysIdeal
public import proofs.«01_k».proof.Proof.Gen.PlainKeysIdeal.Run
public import proofs.«01_k».proof.Proof.Gen.QueriesA
public import proofs.«01_k».proof.Proof.Gen.QueriesA.Skeleton
public import proofs.«01_k».proof.Proof.Gen.QueriesA.Launch
public import proofs.«01_k».proof.Proof.Gen.QueriesA.Points
public import proofs.«01_k».proof.Proof.Gen.QueriesA.Frame
public import proofs.«01_k».proof.Proof.Gen.QueriesAIdeal
public import proofs.«01_k».proof.Proof.Gen.QueriesAIdeal.Skeleton
public import proofs.«01_k».proof.Proof.Gen.QueriesAIdeal.Launch
public import proofs.«01_k».proof.Proof.Gen.QueriesAIdeal.Points
public import proofs.«01_k».proof.Proof.Gen.QueriesAIdeal.Frame
public import proofs.«01_k».proof.Proof.Gen.QueriesAIdeal.Value
public import proofs.«01_k».proof.Proof.Gen.PlainQueriesAIdeal
public import proofs.«01_k».proof.Proof.Gen.PlainQueriesAIdeal.Run
public import proofs.«01_k».proof.Proof.Gen.OutsA
public import proofs.«01_k».proof.Proof.Gen.OutsA.Skeleton
public import proofs.«01_k».proof.Proof.Gen.OutsA.Launch
public import proofs.«01_k».proof.Proof.Gen.OutsA.Points
public import proofs.«01_k».proof.Proof.Gen.OutsA.Frame
public import proofs.«01_k».proof.Proof.Gen.OutsAIdeal
public import proofs.«01_k».proof.Proof.Gen.OutsAIdeal.Skeleton
public import proofs.«01_k».proof.Proof.Gen.OutsAIdeal.Launch
public import proofs.«01_k».proof.Proof.Gen.OutsAIdeal.Points
public import proofs.«01_k».proof.Proof.Gen.OutsAIdeal.Frame
public import proofs.«01_k».proof.Proof.Gen.OutsAIdeal.Value
public import proofs.«01_k».proof.Proof.Gen.PlainOutsAIdeal
public import proofs.«01_k».proof.Proof.Gen.PlainOutsAIdeal.Run
public import proofs.«01_k».proof.Proof.Gen.GatesA
public import proofs.«01_k».proof.Proof.Gen.GatesA.Skeleton
public import proofs.«01_k».proof.Proof.Gen.GatesA.Launch
public import proofs.«01_k».proof.Proof.Gen.GatesA.Points
public import proofs.«01_k».proof.Proof.Gen.GatesA.Frame
public import proofs.«01_k».proof.Proof.Gen.GatesAIdeal
public import proofs.«01_k».proof.Proof.Gen.GatesAIdeal.Skeleton
public import proofs.«01_k».proof.Proof.Gen.GatesAIdeal.Launch
public import proofs.«01_k».proof.Proof.Gen.GatesAIdeal.Points
public import proofs.«01_k».proof.Proof.Gen.GatesAIdeal.Frame
public import proofs.«01_k».proof.Proof.Gen.GatesAIdeal.Value
public import proofs.«01_k».proof.Proof.Gen.PlainGatesAIdeal
public import proofs.«01_k».proof.Proof.Gen.PlainGatesAIdeal.Run
public import proofs.«01_k».proof.Proof.Gen.StreamsA
public import proofs.«01_k».proof.Proof.Gen.StreamsA.Skeleton
public import proofs.«01_k».proof.Proof.Gen.StreamsA.Launch
public import proofs.«01_k».proof.Proof.Gen.StreamsA.Points
public import proofs.«01_k».proof.Proof.Gen.StreamsA.Frame
public import proofs.«01_k».proof.Proof.Gen.StreamsAIdeal
public import proofs.«01_k».proof.Proof.Gen.StreamsAIdeal.Skeleton
public import proofs.«01_k».proof.Proof.Gen.StreamsAIdeal.Launch
public import proofs.«01_k».proof.Proof.Gen.StreamsAIdeal.Points
public import proofs.«01_k».proof.Proof.Gen.StreamsAIdeal.Frame
public import proofs.«01_k».proof.Proof.Gen.StreamsAIdeal.Value
public import proofs.«01_k».proof.Proof.Gen.PlainStreamsAIdeal
public import proofs.«01_k».proof.Proof.Gen.PlainStreamsAIdeal.Run
public import proofs.«01_k».proof.Proof.Gen.MixesA
public import proofs.«01_k».proof.Proof.Gen.MixesA.Skeleton
public import proofs.«01_k».proof.Proof.Gen.MixesA.Launch
public import proofs.«01_k».proof.Proof.Gen.MixesA.Points
public import proofs.«01_k».proof.Proof.Gen.MixesA.Frame
public import proofs.«01_k».proof.Proof.Gen.MixesAIdeal
public import proofs.«01_k».proof.Proof.Gen.MixesAIdeal.Skeleton
public import proofs.«01_k».proof.Proof.Gen.MixesAIdeal.Launch
public import proofs.«01_k».proof.Proof.Gen.MixesAIdeal.Points
public import proofs.«01_k».proof.Proof.Gen.MixesAIdeal.Frame
public import proofs.«01_k».proof.Proof.Gen.MixesAIdeal.Value
public import proofs.«01_k».proof.Proof.Gen.PlainMixesAIdeal
public import proofs.«01_k».proof.Proof.Gen.PlainMixesAIdeal.Run
public import proofs.«01_k».proof.Proof.Gen.QueriesB
public import proofs.«01_k».proof.Proof.Gen.QueriesB.Skeleton
public import proofs.«01_k».proof.Proof.Gen.QueriesB.Launch
public import proofs.«01_k».proof.Proof.Gen.QueriesB.Points
public import proofs.«01_k».proof.Proof.Gen.QueriesB.Frame
public import proofs.«01_k».proof.Proof.Gen.QueriesBIdeal
public import proofs.«01_k».proof.Proof.Gen.QueriesBIdeal.Skeleton
public import proofs.«01_k».proof.Proof.Gen.QueriesBIdeal.Launch
public import proofs.«01_k».proof.Proof.Gen.QueriesBIdeal.Points
public import proofs.«01_k».proof.Proof.Gen.QueriesBIdeal.Frame
public import proofs.«01_k».proof.Proof.Gen.QueriesBIdeal.Value
public import proofs.«01_k».proof.Proof.Gen.PlainQueriesBIdeal
public import proofs.«01_k».proof.Proof.Gen.PlainQueriesBIdeal.Run
public import proofs.«01_k».proof.Proof.Gen.OutsB
public import proofs.«01_k».proof.Proof.Gen.OutsB.Skeleton
public import proofs.«01_k».proof.Proof.Gen.OutsB.Launch
public import proofs.«01_k».proof.Proof.Gen.OutsB.Points
public import proofs.«01_k».proof.Proof.Gen.OutsB.Frame
public import proofs.«01_k».proof.Proof.Gen.OutsBIdeal
public import proofs.«01_k».proof.Proof.Gen.OutsBIdeal.Skeleton
public import proofs.«01_k».proof.Proof.Gen.OutsBIdeal.Launch
public import proofs.«01_k».proof.Proof.Gen.OutsBIdeal.Points
public import proofs.«01_k».proof.Proof.Gen.OutsBIdeal.Frame
public import proofs.«01_k».proof.Proof.Gen.OutsBIdeal.Value
public import proofs.«01_k».proof.Proof.Gen.PlainOutsBIdeal
public import proofs.«01_k».proof.Proof.Gen.PlainOutsBIdeal.Run
public import proofs.«01_k».proof.Proof.Gen.GatesB
public import proofs.«01_k».proof.Proof.Gen.GatesB.Skeleton
public import proofs.«01_k».proof.Proof.Gen.GatesB.Launch
public import proofs.«01_k».proof.Proof.Gen.GatesB.Points
public import proofs.«01_k».proof.Proof.Gen.GatesB.Frame
public import proofs.«01_k».proof.Proof.Gen.GatesBIdeal
public import proofs.«01_k».proof.Proof.Gen.GatesBIdeal.Skeleton
public import proofs.«01_k».proof.Proof.Gen.GatesBIdeal.Launch
public import proofs.«01_k».proof.Proof.Gen.GatesBIdeal.Points
public import proofs.«01_k».proof.Proof.Gen.GatesBIdeal.Frame
public import proofs.«01_k».proof.Proof.Gen.GatesBIdeal.Value
public import proofs.«01_k».proof.Proof.Gen.PlainGatesBIdeal
public import proofs.«01_k».proof.Proof.Gen.PlainGatesBIdeal.Run
public import proofs.«01_k».proof.Proof.Gen.StreamsB
public import proofs.«01_k».proof.Proof.Gen.StreamsB.Skeleton
public import proofs.«01_k».proof.Proof.Gen.StreamsB.Launch
public import proofs.«01_k».proof.Proof.Gen.StreamsB.Points
public import proofs.«01_k».proof.Proof.Gen.StreamsB.Frame
public import proofs.«01_k».proof.Proof.Gen.StreamsBIdeal
public import proofs.«01_k».proof.Proof.Gen.StreamsBIdeal.Skeleton
public import proofs.«01_k».proof.Proof.Gen.StreamsBIdeal.Launch
public import proofs.«01_k».proof.Proof.Gen.StreamsBIdeal.Points
public import proofs.«01_k».proof.Proof.Gen.StreamsBIdeal.Frame
public import proofs.«01_k».proof.Proof.Gen.StreamsBIdeal.Value
public import proofs.«01_k».proof.Proof.Gen.PlainStreamsBIdeal
public import proofs.«01_k».proof.Proof.Gen.PlainStreamsBIdeal.Run
public import proofs.«01_k».proof.Proof.Gen.MixesB
public import proofs.«01_k».proof.Proof.Gen.MixesB.Skeleton
public import proofs.«01_k».proof.Proof.Gen.MixesB.Launch
public import proofs.«01_k».proof.Proof.Gen.MixesB.Points
public import proofs.«01_k».proof.Proof.Gen.MixesB.Frame
public import proofs.«01_k».proof.Proof.Gen.MixesBIdeal
public import proofs.«01_k».proof.Proof.Gen.MixesBIdeal.Skeleton
public import proofs.«01_k».proof.Proof.Gen.MixesBIdeal.Launch
public import proofs.«01_k».proof.Proof.Gen.MixesBIdeal.Points
public import proofs.«01_k».proof.Proof.Gen.MixesBIdeal.Frame
public import proofs.«01_k».proof.Proof.Gen.MixesBIdeal.Value
public import proofs.«01_k».proof.Proof.Gen.PlainMixesBIdeal
public import proofs.«01_k».proof.Proof.Gen.PlainMixesBIdeal.Run
public import proofs.«01_k».proof.Proof.Gen.Pre_finite
public import proofs.«01_k».proof.Proof.Equality
public import proofs.«01_k».proof.Proof.DenseValues
public import proofs.«01_k».proof.Proof.DenseKeys
public import proofs.«01_k».proof.Proof.DenseQueriesA
public import proofs.«01_k».proof.Proof.DenseOutsA
public import proofs.«01_k».proof.Proof.DenseGatesA
public import proofs.«01_k».proof.Proof.DenseStreamsA
public import proofs.«01_k».proof.Proof.DenseMixesA
public import proofs.«01_k».proof.Proof.DenseQueriesB
public import proofs.«01_k».proof.Proof.DenseOutsB
public import proofs.«01_k».proof.Proof.DenseGatesB
public import proofs.«01_k».proof.Proof.DenseStreamsB
public import proofs.«01_k».proof.Proof.DenseMixesB
public import Idealize.ShloMosaic.Adequacy
public import Idealize.ShloMosaic.Init

@[expose] public section

noncomputable section

-- The claims also say of every program that every semaphore counter ends at zero.

namespace Cert.Proof

open Idealize.ShloMosaic Idealize.SL.Sem Cert.Kernel

/-- The attention's reference ends with its arguments unchanged; it declares no semaphore. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Over the extended reals the attention's result is its reference's, for finite arguments. -/
theorem algebraic : Cert.algebraic_KernelIdeal_ReferenceIdeal_pre_finite := by
  intro m ρ m' ρ' hpre hagree
  have e (c : Dev Cert.KernelIdeal.nD) : Cert.ReferenceIdeal.Value.res_main_v69 m' c = (Cert.KernelIdeal.Gen.dats m 0 c).arrAt 7 Cert.KernelIdeal.cfg0.N := by
    obtain ⟨h0, h1, h2, h3, h4⟩ := hagree c
    rw [Cert.Flash.equal m c hpre, Cert.Plain.result, h0, h1, h2, h3, h4]
  refine ⟨fun c => (Cert.KernelIdeal.Gen.dats m 0 c).arrAt 7 Cert.KernelIdeal.cfg0.N, Cert.KernelIdeal.Value.run_blocks (F := Ideal) m ρ, ?_⟩
  exact (θ_run Cert.ReferenceIdeal.defs _ _).mono (fun r h c => ⟨(h c).1.trans (e c), (h c).2⟩) (Cert.ReferenceIdeal.Value.run (F := Ideal) m' ρ')

/-- The reference of the call `Values` ends with its arguments unchanged; it declares no semaphore. -/
theorem frame_Values : Cert.quiescent_PlainValuesIdeal := fun m ρ _ =>
  (θ_run Cert.PlainValuesIdeal.defs _ _).mono (fun r h => ⟨fun c => (h c).2,
      Idealize.ShloMosaic.sem_eq_zero_of_no_sems (by decide) r.2⟩)
    (Cert.PlainValuesIdeal.Value.run (F := Ideal) m ρ)

/-- Over the extended reals the call `Values` leaves its reference's result. -/
theorem algebraic_Values : Cert.algebraic_ValuesIdeal_PlainValuesIdeal := by
  intro m ρ m' ρ' _ hagree
  refine ⟨fun c => (Cert.ValuesIdeal.Gen.dats m 0 c).arrAt 2 Cert.ValuesIdeal.cfg0.N, Cert.ValuesIdeal.Value.run_blocks (F := Ideal) m ρ, ?_⟩
  refine (θ_run Cert.PlainValuesIdeal.defs _ _).mono (fun r h c => ⟨(h c).1.trans ?_, (h c).2⟩) (Cert.Dense.Values.plain_run m' ρ')
  obtain ⟨h0, h1, h2⟩ := hagree c
  rw [h0, h1, h2]
  exact (Cert.Dense.Values.equal m c).symm

/-- The reference of the call `Keys` ends with its arguments unchanged; it declares no semaphore. -/
theorem frame_Keys : Cert.quiescent_PlainKeysIdeal := fun m ρ _ =>
  (θ_run Cert.PlainKeysIdeal.defs _ _).mono (fun r h => ⟨fun c => (h c).2,
      Idealize.ShloMosaic.sem_eq_zero_of_no_sems (by decide) r.2⟩)
    (Cert.PlainKeysIdeal.Value.run (F := Ideal) m ρ)

/-- Over the extended reals the call `Keys` leaves its reference's result. -/
theorem algebraic_Keys : Cert.algebraic_KeysIdeal_PlainKeysIdeal := by
  intro m ρ m' ρ' _ hagree
  refine ⟨fun c => (Cert.KeysIdeal.Gen.dats m 0 c).arrAt 4 Cert.KeysIdeal.cfg0.N, Cert.KeysIdeal.Value.run_blocks (F := Ideal) m ρ, ?_⟩
  refine (θ_run Cert.PlainKeysIdeal.defs _ _).mono (fun r h c => ⟨(h c).1.trans ?_, (h c).2⟩) (Cert.Dense.Keys.plain_run m' ρ')
  obtain ⟨h0, h1, h2⟩ := hagree c
  rw [h0, h1, h2]
  exact (Cert.Dense.Keys.equal m c).symm

/-- The reference of the call `QueriesA` ends with its arguments unchanged; it declares no semaphore. -/
theorem frame_QueriesA : Cert.quiescent_PlainQueriesAIdeal := fun m ρ _ =>
  (θ_run Cert.PlainQueriesAIdeal.defs _ _).mono (fun r h => ⟨fun c => (h c).2,
      Idealize.ShloMosaic.sem_eq_zero_of_no_sems (by decide) r.2⟩)
    (Cert.PlainQueriesAIdeal.Value.run (F := Ideal) m ρ)

/-- Over the extended reals the call `QueriesA` leaves its reference's result. -/
theorem algebraic_QueriesA : Cert.algebraic_QueriesAIdeal_PlainQueriesAIdeal := by
  intro m ρ m' ρ' _ hagree
  refine ⟨fun c => (Cert.QueriesAIdeal.Gen.dats m 0 c).arrAt 4 Cert.QueriesAIdeal.cfg0.N, Cert.QueriesAIdeal.Value.run_blocks (F := Ideal) m ρ, ?_⟩
  refine (θ_run Cert.PlainQueriesAIdeal.defs _ _).mono (fun r h c => ⟨(h c).1.trans ?_, (h c).2⟩) (Cert.Dense.QueriesA.plain_run m' ρ')
  obtain ⟨h0, h1, h2⟩ := hagree c
  rw [h0, h1, h2]
  exact (Cert.Dense.QueriesA.equal m c).symm

/-- The reference of the call `OutsA` ends with its arguments unchanged; it declares no semaphore. -/
theorem frame_OutsA : Cert.quiescent_PlainOutsAIdeal := fun m ρ _ =>
  (θ_run Cert.PlainOutsAIdeal.defs _ _).mono (fun r h => ⟨fun c => (h c).2,
      Idealize.ShloMosaic.sem_eq_zero_of_no_sems (by decide) r.2⟩)
    (Cert.PlainOutsAIdeal.Value.run (F := Ideal) m ρ)

/-- Over the extended reals the call `OutsA` leaves its reference's result. -/
theorem algebraic_OutsA : Cert.algebraic_OutsAIdeal_PlainOutsAIdeal := by
  intro m ρ m' ρ' _ hagree
  refine ⟨fun c => (Cert.OutsAIdeal.Gen.dats m 0 c).arrAt 2 Cert.OutsAIdeal.cfg0.N, Cert.OutsAIdeal.Value.run_blocks (F := Ideal) m ρ, ?_⟩
  refine (θ_run Cert.PlainOutsAIdeal.defs _ _).mono (fun r h c => ⟨(h c).1.trans ?_, (h c).2⟩) (Cert.Dense.OutsA.plain_run m' ρ')
  obtain ⟨h0, h1, h2⟩ := hagree c
  rw [h0, h1, h2]
  exact (Cert.Dense.OutsA.equal m c).symm

/-- The reference of the call `GatesA` ends with its arguments unchanged; it declares no semaphore. -/
theorem frame_GatesA : Cert.quiescent_PlainGatesAIdeal := fun m ρ _ =>
  (θ_run Cert.PlainGatesAIdeal.defs _ _).mono (fun r h => ⟨fun c => (h c).2,
      Idealize.ShloMosaic.sem_eq_zero_of_no_sems (by decide) r.2⟩)
    (Cert.PlainGatesAIdeal.Value.run (F := Ideal) m ρ)

/-- Over the extended reals the call `GatesA` leaves its reference's result. -/
theorem algebraic_GatesA : Cert.algebraic_GatesAIdeal_PlainGatesAIdeal := by
  intro m ρ m' ρ' _ hagree
  refine ⟨fun c => (Cert.GatesAIdeal.Gen.dats m 0 c).arrAt 2 Cert.GatesAIdeal.cfg0.N, Cert.GatesAIdeal.Value.run_blocks (F := Ideal) m ρ, ?_⟩
  refine (θ_run Cert.PlainGatesAIdeal.defs _ _).mono (fun r h c => ⟨(h c).1.trans ?_, (h c).2⟩) (Cert.Dense.GatesA.plain_run m' ρ')
  obtain ⟨h0, h1, h2⟩ := hagree c
  rw [h0, h1, h2]
  exact (Cert.Dense.GatesA.equal m c).symm

/-- The reference of the call `StreamsA` ends with its arguments unchanged; it declares no semaphore. -/
theorem frame_StreamsA : Cert.quiescent_PlainStreamsAIdeal := fun m ρ _ =>
  (θ_run Cert.PlainStreamsAIdeal.defs _ _).mono (fun r h => ⟨fun c => (h c).2,
      Idealize.ShloMosaic.sem_eq_zero_of_no_sems (by decide) r.2⟩)
    (Cert.PlainStreamsAIdeal.Value.run (F := Ideal) m ρ)

/-- Over the extended reals the call `StreamsA` leaves its reference's result. -/
theorem algebraic_StreamsA : Cert.algebraic_StreamsAIdeal_PlainStreamsAIdeal := by
  intro m ρ m' ρ' _ hagree
  refine ⟨fun c => (Cert.StreamsAIdeal.Gen.dats m 0 c).arrAt 2 Cert.StreamsAIdeal.cfg0.N, Cert.StreamsAIdeal.Value.run_blocks (F := Ideal) m ρ, ?_⟩
  refine (θ_run Cert.PlainStreamsAIdeal.defs _ _).mono (fun r h c => ⟨(h c).1.trans ?_, (h c).2⟩) (Cert.Dense.StreamsA.plain_run m' ρ')
  obtain ⟨h0, h1, h2⟩ := hagree c
  rw [h0, h1, h2]
  exact (Cert.Dense.StreamsA.equal m c).symm

/-- The reference of the call `MixesA` ends with its arguments unchanged; it declares no semaphore. -/
theorem frame_MixesA : Cert.quiescent_PlainMixesAIdeal := fun m ρ _ =>
  (θ_run Cert.PlainMixesAIdeal.defs _ _).mono (fun r h => ⟨fun c => (h c).2,
      Idealize.ShloMosaic.sem_eq_zero_of_no_sems (by decide) r.2⟩)
    (Cert.PlainMixesAIdeal.Value.run (F := Ideal) m ρ)

/-- Over the extended reals the call `MixesA` leaves its reference's result. -/
theorem algebraic_MixesA : Cert.algebraic_MixesAIdeal_PlainMixesAIdeal := by
  intro m ρ m' ρ' _ hagree
  refine ⟨fun c => (Cert.MixesAIdeal.Gen.dats m 0 c).arrAt 2 Cert.MixesAIdeal.cfg0.N, Cert.MixesAIdeal.Value.run_blocks (F := Ideal) m ρ, ?_⟩
  refine (θ_run Cert.PlainMixesAIdeal.defs _ _).mono (fun r h c => ⟨(h c).1.trans ?_, (h c).2⟩) (Cert.Dense.MixesA.plain_run m' ρ')
  obtain ⟨h0, h1, h2⟩ := hagree c
  rw [h0, h1, h2]
  exact (Cert.Dense.MixesA.equal m c).symm

/-- The reference of the call `QueriesB` ends with its arguments unchanged; it declares no semaphore. -/
theorem frame_QueriesB : Cert.quiescent_PlainQueriesBIdeal := fun m ρ _ =>
  (θ_run Cert.PlainQueriesBIdeal.defs _ _).mono (fun r h => ⟨fun c => (h c).2,
      Idealize.ShloMosaic.sem_eq_zero_of_no_sems (by decide) r.2⟩)
    (Cert.PlainQueriesBIdeal.Value.run (F := Ideal) m ρ)

/-- Over the extended reals the call `QueriesB` leaves its reference's result. -/
theorem algebraic_QueriesB : Cert.algebraic_QueriesBIdeal_PlainQueriesBIdeal := by
  intro m ρ m' ρ' _ hagree
  refine ⟨fun c => (Cert.QueriesBIdeal.Gen.dats m 0 c).arrAt 4 Cert.QueriesBIdeal.cfg0.N, Cert.QueriesBIdeal.Value.run_blocks (F := Ideal) m ρ, ?_⟩
  refine (θ_run Cert.PlainQueriesBIdeal.defs _ _).mono (fun r h c => ⟨(h c).1.trans ?_, (h c).2⟩) (Cert.Dense.QueriesB.plain_run m' ρ')
  obtain ⟨h0, h1, h2⟩ := hagree c
  rw [h0, h1, h2]
  exact (Cert.Dense.QueriesB.equal m c).symm

/-- The reference of the call `OutsB` ends with its arguments unchanged; it declares no semaphore. -/
theorem frame_OutsB : Cert.quiescent_PlainOutsBIdeal := fun m ρ _ =>
  (θ_run Cert.PlainOutsBIdeal.defs _ _).mono (fun r h => ⟨fun c => (h c).2,
      Idealize.ShloMosaic.sem_eq_zero_of_no_sems (by decide) r.2⟩)
    (Cert.PlainOutsBIdeal.Value.run (F := Ideal) m ρ)

/-- Over the extended reals the call `OutsB` leaves its reference's result. -/
theorem algebraic_OutsB : Cert.algebraic_OutsBIdeal_PlainOutsBIdeal := by
  intro m ρ m' ρ' _ hagree
  refine ⟨fun c => (Cert.OutsBIdeal.Gen.dats m 0 c).arrAt 2 Cert.OutsBIdeal.cfg0.N, Cert.OutsBIdeal.Value.run_blocks (F := Ideal) m ρ, ?_⟩
  refine (θ_run Cert.PlainOutsBIdeal.defs _ _).mono (fun r h c => ⟨(h c).1.trans ?_, (h c).2⟩) (Cert.Dense.OutsB.plain_run m' ρ')
  obtain ⟨h0, h1, h2⟩ := hagree c
  rw [h0, h1, h2]
  exact (Cert.Dense.OutsB.equal m c).symm

/-- The reference of the call `GatesB` ends with its arguments unchanged; it declares no semaphore. -/
theorem frame_GatesB : Cert.quiescent_PlainGatesBIdeal := fun m ρ _ =>
  (θ_run Cert.PlainGatesBIdeal.defs _ _).mono (fun r h => ⟨fun c => (h c).2,
      Idealize.ShloMosaic.sem_eq_zero_of_no_sems (by decide) r.2⟩)
    (Cert.PlainGatesBIdeal.Value.run (F := Ideal) m ρ)

/-- Over the extended reals the call `GatesB` leaves its reference's result. -/
theorem algebraic_GatesB : Cert.algebraic_GatesBIdeal_PlainGatesBIdeal := by
  intro m ρ m' ρ' _ hagree
  refine ⟨fun c => (Cert.GatesBIdeal.Gen.dats m 0 c).arrAt 2 Cert.GatesBIdeal.cfg0.N, Cert.GatesBIdeal.Value.run_blocks (F := Ideal) m ρ, ?_⟩
  refine (θ_run Cert.PlainGatesBIdeal.defs _ _).mono (fun r h c => ⟨(h c).1.trans ?_, (h c).2⟩) (Cert.Dense.GatesB.plain_run m' ρ')
  obtain ⟨h0, h1, h2⟩ := hagree c
  rw [h0, h1, h2]
  exact (Cert.Dense.GatesB.equal m c).symm

/-- The reference of the call `StreamsB` ends with its arguments unchanged; it declares no semaphore. -/
theorem frame_StreamsB : Cert.quiescent_PlainStreamsBIdeal := fun m ρ _ =>
  (θ_run Cert.PlainStreamsBIdeal.defs _ _).mono (fun r h => ⟨fun c => (h c).2,
      Idealize.ShloMosaic.sem_eq_zero_of_no_sems (by decide) r.2⟩)
    (Cert.PlainStreamsBIdeal.Value.run (F := Ideal) m ρ)

/-- Over the extended reals the call `StreamsB` leaves its reference's result. -/
theorem algebraic_StreamsB : Cert.algebraic_StreamsBIdeal_PlainStreamsBIdeal := by
  intro m ρ m' ρ' _ hagree
  refine ⟨fun c => (Cert.StreamsBIdeal.Gen.dats m 0 c).arrAt 2 Cert.StreamsBIdeal.cfg0.N, Cert.StreamsBIdeal.Value.run_blocks (F := Ideal) m ρ, ?_⟩
  refine (θ_run Cert.PlainStreamsBIdeal.defs _ _).mono (fun r h c => ⟨(h c).1.trans ?_, (h c).2⟩) (Cert.Dense.StreamsB.plain_run m' ρ')
  obtain ⟨h0, h1, h2⟩ := hagree c
  rw [h0, h1, h2]
  exact (Cert.Dense.StreamsB.equal m c).symm

/-- The reference of the call `MixesB` ends with its arguments unchanged; it declares no semaphore. -/
theorem frame_MixesB : Cert.quiescent_PlainMixesBIdeal := fun m ρ _ =>
  (θ_run Cert.PlainMixesBIdeal.defs _ _).mono (fun r h => ⟨fun c => (h c).2,
      Idealize.ShloMosaic.sem_eq_zero_of_no_sems (by decide) r.2⟩)
    (Cert.PlainMixesBIdeal.Value.run (F := Ideal) m ρ)

/-- Over the extended reals the call `MixesB` leaves its reference's result. -/
theorem algebraic_MixesB : Cert.algebraic_MixesBIdeal_PlainMixesBIdeal := by
  intro m ρ m' ρ' _ hagree
  refine ⟨fun c => (Cert.MixesBIdeal.Gen.dats m 0 c).arrAt 2 Cert.MixesBIdeal.cfg0.N, Cert.MixesBIdeal.Value.run_blocks (F := Ideal) m ρ, ?_⟩
  refine (θ_run Cert.PlainMixesBIdeal.defs _ _).mono (fun r h c => ⟨(h c).1.trans ?_, (h c).2⟩) (Cert.Dense.MixesB.plain_run m' ρ')
  obtain ⟨h0, h1, h2⟩ := hagree c
  rw [h0, h1, h2]
  exact (Cert.Dense.MixesB.equal m c).symm

/-- All the claims. -/
theorem claim : Cert.Claim := ⟨Cert.Kernel.Gen.facts, Cert.KernelIdeal.Gen.facts, Cert.ReferenceIdeal.Gen.facts, Cert.Values.Gen.facts, Cert.ValuesIdeal.Gen.facts, Cert.PlainValuesIdeal.Gen.facts, Cert.Keys.Gen.facts, Cert.KeysIdeal.Gen.facts, Cert.PlainKeysIdeal.Gen.facts, Cert.QueriesA.Gen.facts, Cert.QueriesAIdeal.Gen.facts, Cert.PlainQueriesAIdeal.Gen.facts, Cert.OutsA.Gen.facts, Cert.OutsAIdeal.Gen.facts, Cert.PlainOutsAIdeal.Gen.facts, Cert.GatesA.Gen.facts, Cert.GatesAIdeal.Gen.facts, Cert.PlainGatesAIdeal.Gen.facts, Cert.StreamsA.Gen.facts, Cert.StreamsAIdeal.Gen.facts, Cert.PlainStreamsAIdeal.Gen.facts, Cert.MixesA.Gen.facts, Cert.MixesAIdeal.Gen.facts, Cert.PlainMixesAIdeal.Gen.facts, Cert.QueriesB.Gen.facts, Cert.QueriesBIdeal.Gen.facts, Cert.PlainQueriesBIdeal.Gen.facts, Cert.OutsB.Gen.facts, Cert.OutsBIdeal.Gen.facts, Cert.PlainOutsBIdeal.Gen.facts, Cert.GatesB.Gen.facts, Cert.GatesBIdeal.Gen.facts, Cert.PlainGatesBIdeal.Gen.facts, Cert.StreamsB.Gen.facts, Cert.StreamsBIdeal.Gen.facts, Cert.PlainStreamsBIdeal.Gen.facts, Cert.MixesB.Gen.facts, Cert.MixesBIdeal.Gen.facts, Cert.PlainMixesBIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Values.Gen.frame m ρ, fun m ρ _ => Cert.ValuesIdeal.Gen.frame m ρ, frame_Values,
  fun m ρ _ => Cert.Keys.Gen.frame m ρ, fun m ρ _ => Cert.KeysIdeal.Gen.frame m ρ, frame_Keys,
  fun m ρ _ => Cert.QueriesA.Gen.frame m ρ, fun m ρ _ => Cert.QueriesAIdeal.Gen.frame m ρ, frame_QueriesA,
  fun m ρ _ => Cert.OutsA.Gen.frame m ρ, fun m ρ _ => Cert.OutsAIdeal.Gen.frame m ρ, frame_OutsA,
  fun m ρ _ => Cert.GatesA.Gen.frame m ρ, fun m ρ _ => Cert.GatesAIdeal.Gen.frame m ρ, frame_GatesA,
  fun m ρ _ => Cert.StreamsA.Gen.frame m ρ, fun m ρ _ => Cert.StreamsAIdeal.Gen.frame m ρ, frame_StreamsA,
  fun m ρ _ => Cert.MixesA.Gen.frame m ρ, fun m ρ _ => Cert.MixesAIdeal.Gen.frame m ρ, frame_MixesA,
  fun m ρ _ => Cert.QueriesB.Gen.frame m ρ, fun m ρ _ => Cert.QueriesBIdeal.Gen.frame m ρ, frame_QueriesB,
  fun m ρ _ => Cert.OutsB.Gen.frame m ρ, fun m ρ _ => Cert.OutsBIdeal.Gen.frame m ρ, frame_OutsB,
  fun m ρ _ => Cert.GatesB.Gen.frame m ρ, fun m ρ _ => Cert.GatesBIdeal.Gen.frame m ρ, frame_GatesB,
  fun m ρ _ => Cert.StreamsB.Gen.frame m ρ, fun m ρ _ => Cert.StreamsBIdeal.Gen.frame m ρ, frame_StreamsB,
  fun m ρ _ => Cert.MixesB.Gen.frame m ρ, fun m ρ _ => Cert.MixesBIdeal.Gen.frame m ρ, frame_MixesB,
  trivial, algebraic,
  trivial, algebraic_Values,
  trivial, algebraic_Keys,
  trivial, algebraic_QueriesA,
  trivial, algebraic_OutsA,
  trivial, algebraic_GatesA,
  trivial, algebraic_StreamsA,
  trivial, algebraic_MixesA,
  trivial, algebraic_QueriesB,
  trivial, algebraic_OutsB,
  trivial, algebraic_GatesB,
  trivial, algebraic_StreamsB,
  trivial, algebraic_MixesB⟩

end Cert.Proof

end
